-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_v49) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)) (v2 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_v8) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v0) = v0 c
          ∧ r.2.mem ((c.tc : Thread Cert.Reference2Ideal.nD Cert.Reference2Ideal.τ).loc Cert.Reference2Ideal.main_v10) = v1 c
          ∧ r.2.mem ((c.tc : Thread Cert.Reference2Ideal.nD Cert.Reference2Ideal.τ).loc Cert.Reference2Ideal.main_v14) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_v8) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v17)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v17) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v15_0)) (v1 : (c : Dev Cert.Kernel5Ideal.nD) → Buf (Elt Ideal) ((c.tc : Thread Cert.Kernel5Ideal.nD Cert.Kernel5Ideal.τ).loc Cert.Kernel5Ideal.main_v15_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v15_0) = v0 c
          ∧ r.2.mem ((c.tc : Thread Cert.Kernel5Ideal.nD Cert.Kernel5Ideal.τ).loc Cert.Kernel5Ideal.main_v15_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_v17) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v19)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v19) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v16)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v16) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v6)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v17)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v17) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)) (v1 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_v4) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_v1) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v2)) (v1 : (c : Dev Cert.Kernel12Ideal.nD) → Buf (Elt Ideal) ((c.tc : Thread Cert.Kernel12Ideal.nD Cert.Kernel12Ideal.τ).loc Cert.Kernel12Ideal.main_v4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_v4) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_v1) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v8)) (v1 : (c : Dev Cert.Kernel14Ideal.nD) → Buf (Elt Ideal) ((c.tc : Thread Cert.Kernel14Ideal.nD Cert.Kernel14Ideal.τ).loc Cert.Kernel14Ideal.main_v13)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v8) = v0 c
          ∧ r.2.mem ((c.tc : Thread Cert.Kernel14Ideal.nD Cert.Kernel14Ideal.τ).loc Cert.Kernel14Ideal.main_v13) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_v1) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v8)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v8) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v13)) (v1 : (c : Dev Cert.Kernel16Ideal.nD) → Buf (Elt Ideal) ((c.tc : Thread Cert.Kernel16Ideal.nD Cert.Kernel16Ideal.τ).loc Cert.Kernel16Ideal.main_v10)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v13) = v0 c
          ∧ r.2.mem ((c.tc : Thread Cert.Kernel16Ideal.nD Cert.Kernel16Ideal.τ).loc Cert.Kernel16Ideal.main_v10) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_v1) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v8)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v8) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v2)) (v1 : (c : Dev Cert.Kernel18Ideal.nD) → Buf (Elt Ideal) ((c.tc : Thread Cert.Kernel18Ideal.nD Cert.Kernel18Ideal.τ).loc Cert.Kernel18Ideal.main_v3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_v3) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_v2) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v31) = v0 c
          ∧ r.2.mem ((c.tc : Thread Cert.Reference20Ideal.nD Cert.Reference20Ideal.τ).loc Cert.Reference20Ideal.main_v32) = v1 c
          ∧ r.2.mem ((c.tc : Thread Cert.Reference20Ideal.nD Cert.Reference20Ideal.τ).loc Cert.Reference20Ideal.main_v30) = v2 c
          ∧ r.2.mem ((c.tc : Thread Cert.Reference20Ideal.nD Cert.Reference20Ideal.τ).loc Cert.Reference20Ideal.main_v27) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v17) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v7) = v0 c
          ∧ r.2.mem ((c.tc : Thread Cert.Reference22Ideal.nD Cert.Reference22Ideal.τ).loc Cert.Reference22Ideal.main_v6) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v2) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v23) = v0 c
          ∧ r.2.mem ((c.tc : Thread Cert.Reference25Ideal.nD Cert.Reference25Ideal.τ).loc Cert.Reference25Ideal.main_v4) = v1 c
          ∧ r.2.mem ((c.tc : Thread Cert.Reference25Ideal.nD Cert.Reference25Ideal.τ).loc Cert.Reference25Ideal.main_v10) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v23) = v0 c
          ∧ r.2.mem ((c.tc : Thread Cert.Reference26Ideal.nD Cert.Reference26Ideal.τ).loc Cert.Reference26Ideal.main_v4) = v1 c
          ∧ r.2.mem ((c.tc : Thread Cert.Reference26Ideal.nD Cert.Reference26Ideal.τ).loc Cert.Reference26Ideal.main_v10) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v23) = v0 c
          ∧ r.2.mem ((c.tc : Thread Cert.Reference27Ideal.nD Cert.Reference27Ideal.τ).loc Cert.Reference27Ideal.main_v4) = v1 c
          ∧ r.2.mem ((c.tc : Thread Cert.Reference27Ideal.nD Cert.Reference27Ideal.τ).loc Cert.Reference27Ideal.main_v10) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v23) = v0 c
          ∧ r.2.mem ((c.tc : Thread Cert.Reference28Ideal.nD Cert.Reference28Ideal.τ).loc Cert.Reference28Ideal.main_v4) = v1 c
          ∧ r.2.mem ((c.tc : Thread Cert.Reference28Ideal.nD Cert.Reference28Ideal.τ).loc Cert.Reference28Ideal.main_v10) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v23) = v0 c
          ∧ r.2.mem ((c.tc : Thread Cert.Reference29Ideal.nD Cert.Reference29Ideal.τ).loc Cert.Reference29Ideal.main_v4) = v1 c
          ∧ r.2.mem ((c.tc : Thread Cert.Reference29Ideal.nD Cert.Reference29Ideal.τ).loc Cert.Reference29Ideal.main_v10) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v23) = v0 c
          ∧ r.2.mem ((c.tc : Thread Cert.Reference30Ideal.nD Cert.Reference30Ideal.τ).loc Cert.Reference30Ideal.main_v4) = v1 c
          ∧ r.2.mem ((c.tc : Thread Cert.Reference30Ideal.nD Cert.Reference30Ideal.τ).loc Cert.Reference30Ideal.main_v10) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v23) = v0 c
          ∧ r.2.mem ((c.tc : Thread Cert.Reference31Ideal.nD Cert.Reference31Ideal.τ).loc Cert.Reference31Ideal.main_v4) = v1 c
          ∧ r.2.mem ((c.tc : Thread Cert.Reference31Ideal.nD Cert.Reference31Ideal.τ).loc Cert.Reference31Ideal.main_v10) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v23) = v0 c
          ∧ r.2.mem ((c.tc : Thread Cert.Reference32Ideal.nD Cert.Reference32Ideal.τ).loc Cert.Reference32Ideal.main_v4) = v1 c
          ∧ r.2.mem ((c.tc : Thread Cert.Reference32Ideal.nD Cert.Reference32Ideal.τ).loc Cert.Reference32Ideal.main_v10) = v2 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v23) = v0 c
          ∧ r.2.mem ((c.tc : Thread Cert.Reference33Ideal.nD Cert.Reference33Ideal.τ).loc Cert.Reference33Ideal.main_v4) = v1 c
          ∧ r.2.mem ((c.tc : Thread Cert.Reference33Ideal.nD Cert.Reference33Ideal.τ).loc Cert.Reference33Ideal.main_v10) = v2 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v23) = v0 c
          ∧ r.2.mem ((c.tc : Thread Cert.Reference34Ideal.nD Cert.Reference34Ideal.τ).loc Cert.Reference34Ideal.main_v4) = v1 c
          ∧ r.2.mem ((c.tc : Thread Cert.Reference34Ideal.nD Cert.Reference34Ideal.τ).loc Cert.Reference34Ideal.main_v10) = v2 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)) (v2 : (c : Dev Cert.Kernel35Ideal.nD) → Buf (Elt Ideal) ((c.tc : Thread Cert.Kernel35Ideal.nD Cert.Kernel35Ideal.τ).loc Cert.Kernel35Ideal.main_v0_2)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_v0_2) = v2 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v23) = v0 c
          ∧ r.2.mem ((c.tc : Thread Cert.Reference35Ideal.nD Cert.Reference35Ideal.τ).loc Cert.Reference35Ideal.main_v4) = v1 c
          ∧ r.2.mem ((c.tc : Thread Cert.Reference35Ideal.nD Cert.Reference35Ideal.τ).loc Cert.Reference35Ideal.main_v10) = v2 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v0)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v18) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)) →
    ∃ (v0 : (c : Dev Cert.Kernel37Ideal.nD) → Buf (Elt Ideal) ((c.tc : Thread Cert.Kernel37Ideal.nD Cert.Kernel37Ideal.τ).loc Cert.Kernel37Ideal.main_v0)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0) = v0 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v13) = v0 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)) →
    ∃ (v0 : (c : Dev Cert.Kernel38Ideal.nD) → Buf (Elt Ideal) ((c.tc : Thread Cert.Kernel38Ideal.nD Cert.Kernel38Ideal.τ).loc Cert.Kernel38Ideal.main_v0)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0) = v0 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v13) = v0 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)) →
    ∃ (v0 : (c : Dev Cert.Kernel39Ideal.nD) → Buf (Elt Ideal) ((c.tc : Thread Cert.Kernel39Ideal.nD Cert.Kernel39Ideal.τ).loc Cert.Kernel39Ideal.main_v0)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0) = v0 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v0) = v0 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
-- ==== Pre_finite.lean ====
abbrev S2048x4352 : Shape := ⟨2, ![2048, 4352]⟩
abbrev S2048x512 : Shape := ⟨2, ![2048, 512]⟩
abbrev S2048x1536 : Shape := ⟨2, ![2048, 1536]⟩
abbrev S_ : Shape := ⟨0, ![]⟩

class Facts : Prop where
  slices_S2048x4352_S2048x1536_0_2048 : S2048x4352.Slices ![0, 2048] S2048x1536
  bcast_S_S2048x1536 : S_.BroadcastsInDim S2048x1536 (![] : Fin 0 → Fin S2048x1536.rank)
  reducesTo_S2048x1536_S_d0_1 : S2048x1536.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_

variable [Facts]

def fn {F : FTy → Type} [FloatOps F] (main_arg0 : FVec F S2048x4352 .f32) (main_arg1 : FVec F S2048x512 .f32) : IVec S_ 1 :=
  let main_v0 : FVec F S2048x1536 .f32 := (extractStridedSlice S2048x1536 ![0, 2048] · slices_S2048x4352_S2048x1536_0_2048) main_arg0
  let main_v1 : FVec F S2048x1536 .f32 := Host.absf main_v0
  let main_cst : FVec F S_ .f32 := constant S_ .f32 0x7F800000#32
  let main_v2 : FVec F S2048x1536 .f32 := broadcastInDim S2048x1536 ![] bcast_S_S2048x1536 main_cst
  let main_v3 : IVec S2048x1536 1 := cmpf .olt main_v1 main_v2
  let main_c : IVec S_ 1 := constantI S_ 1 1#1
  let main_v4 : IVec S_ 1 := (fun x v => Host.reduce IntOp.andi x v reducesTo_S2048x1536_S_d0_1 h_S_) main_v3 main_c
  let main_v5 : FVec F S2048x512 .f32 := Host.absf main_arg1
  let main_cst_0 : FVec F S_ .f32 := constant S_ .f32 0x7F800000#32
  let main_v6 : FVec F S2048x512 .f32 := broadcastInDim S2048x512 ![] bcast_S_S2048x512 main_cst_0
  let main_v7 : IVec S2048x512 1 := cmpf .olt main_v5 main_v6
  let main_c_1 : IVec S_ 1 := constantI S_ 1 1#1
  let main_v8 : IVec S_ 1 := (fun x v => Host.reduce IntOp.andi x v reducesTo_S2048x512_S_d0_1 h_S_) main_v7 main_c_1
  let main_v9 : IVec S_ 1 := andi main_v4 main_v8
  main_v9
-- ==== Kernel.lean ====
abbrev S2048x4352 : Shape := ⟨2, ![2048, 4352]⟩
abbrev S2048x512 : Shape := ⟨2, ![2048, 512]⟩
abbrev S8x2048x128 : Shape := ⟨3, ![8, 2048, 128]⟩
abbrev S512x128 : Shape := ⟨2, ![512, 128]⟩
abbrev S2048x128 : Shape := ⟨2, ![2048, 128]⟩
abbrev S2x512x128 : Shape := ⟨3, ![2, 512, 128]⟩
abbrev S512x512 : Shape := ⟨2, ![512, 512]⟩
abbrev S256x256 : Shape := ⟨2, ![256, 256]⟩
abbrev S512x1 : Shape := ⟨2, ![512, 1]⟩
abbrev S512x256 : Shape := ⟨2, ![512, 256]⟩
abbrev S512 : Shape := ⟨1, ![512]⟩
abbrev S1x512x128 : Shape := ⟨3, ![1, 512, 128]⟩

abbrev nBuf : Space → Nat
  | .hbm => 7
  | .vmem => 28
  | .smem => 0
  | _ => 0

abbrev bufTy : (tb : Table) → Fin (tcTables nBuf tb) → BufTy
  | .hbm, ⟨0, _⟩ => ⟨S2048x4352, .f32⟩
  | .hbm, ⟨1, _⟩ => ⟨S2048x512, .f32⟩
  | .hbm, ⟨2, _⟩ => ⟨S2048x512, .bf16⟩
  | .hbm, ⟨3, _⟩ => ⟨S8x2048x128, .f32⟩
  | .hbm, ⟨4, _⟩ => ⟨S2048x512, .f32⟩
  | .hbm, ⟨5, _⟩ => ⟨S2048x512, .f32⟩
  | .hbm, ⟨6, _⟩ => ⟨S2048x512, .f32⟩
  | .local _ .vmem, ⟨0, _⟩ => ⟨S512x128, .f32⟩
  | .local _ .vmem, ⟨1, _⟩ => ⟨S512x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S512x128, .bf16⟩
  | .local _ .vmem, ⟨7, _⟩ => ⟨S512x128, .bf16⟩
  | .local _ .vmem, ⟨8, _⟩ => ⟨S2x512x128, .f32⟩
  | .local _ .vmem, ⟨9, _⟩ => ⟨S2x512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S512x128, .f32⟩
  | .local _ .vmem, ⟨18, _⟩ => ⟨S512x128, .f32⟩
  | .local _ .vmem, ⟨19, _⟩ => ⟨S2x512x128, .f32⟩
  | .local _ .vmem, ⟨20, _⟩ => ⟨S2x512x128, .f32⟩
  | .local _ .vmem, ⟨21, _⟩ => ⟨S512x128, .f32⟩
  | .local _ .vmem, ⟨22, _⟩ => ⟨S512x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | .local _ .vmem, ⟨26, _⟩ => ⟨S2048x128, .f32⟩
  | .local _ .vmem, ⟨27, _⟩ => ⟨S512x128, .f32⟩
  | _, _ => ⟨S2048x4352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc1_stg7_0 : Ref sig .tc := ⟨.vmem, 25, rfl⟩
abbrev cc1_stg7_1 : Ref sig .tc := ⟨.vmem, 26, rfl⟩
abbrev cc1_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c512_i32 : BitVec 32 := 512#32
  let v37 : BitVec 32 := Scalar.muli arg1 c512_i32
  v37
def k0_off1 (i : grid0.Coords) : Fin 2 → Nat :=
  let arg1 : BitVec 32 := BitVec.ofNat 32 (i 1).val
  let c512_i32 : BitVec 32 := 512#32
  let v37 : BitVec 32 := Scalar.muli arg1 c512_i32
  let v38 : BitVec 32 := v37
  let v39 : Index := Scalar.indexCast v38
  let c0_14 : Index := 0#32
  ![v39.toNat, 0]
@[reducible] def k0_t1_loop (i : grid0.Coords) : Scf.Loop 32 :=
  let c0_i32_63 : BitVec 32 := 0#32
  let arg1 : BitVec 32 := BitVec.ofNat 32 (i 1).val
  let v178 : BitVec 32 := Scalar.subi arg1 c0_i32_63
  let c1_i32 : BitVec 32 := 1#32
  let v180 : BitVec 32 := Scalar.divsi v178 c1_i32
  let v181 : BitVec 32 := Scalar.muli v180 c1_i32
  let v182 : BitVec 32 := Scalar.addi c0_i32_63 v181
  let c1_i32_64 : BitVec 32 := 1#32
  ⟨c0_i32_63, v182, c1_i32_64⟩
def k0_mult2 (i : grid0.Coords) (k0_t1 : Fin (k0_t1_loop i).trips) : BitVec 32 :=
  let arg1 : BitVec 32 := BitVec.ofNat 32 (i 1).val
  let c1_i32_70 : BitVec 32 := 1#32
  let v188 : BitVec 32 := Scalar.subi arg1 c1_i32_70
  let c0_i32_63 : BitVec 32 := 0#32
  let c1_i32_64 : BitVec 32 := 1#32
  let arg8 : BitVec 32 := Scf.iv c0_i32_63 c1_i32_64 k0_t1
  let v189 : BitVec 32 := Scalar.subi v188 arg8
  let c512_i32_71 : BitVec 32 := 512#32
  let v190 : BitVec 32 := Scalar.muli v189 c512_i32_71
  v190
def k0_off2 (i : grid0.Coords) (k0_t1 : Fin (k0_t1_loop i).trips) : Fin 2 → Nat :=
  let arg1 : BitVec 32 := BitVec.ofNat 32 (i 1).val
  let c1_i32_70 : BitVec 32 := 1#32
  let v188 : BitVec 32 := Scalar.subi arg1 c1_i32_70
  let c0_i32_63 : BitVec 32 := 0#32
  let c1_i32_64 : BitVec 32 := 1#32
  let arg8 : BitVec 32 := Scf.iv c0_i32_63 c1_i32_64 k0_t1
  let v189 : BitVec 32 := Scalar.subi v188 arg8
  let c512_i32_71 : BitVec 32 := 512#32
  let v190 : BitVec 32 := Scalar.muli v189 c512_i32_71
  let v191 : BitVec 32 := v190
  let v192 : Index := Scalar.indexCast v191
  let c0_72 : Index := 0#32
  ![v192.toNat, 0]
@[reducible] def k0_t2_loop (i : grid0.Coords) : Scf.Loop 32 :=
  let c0_i32_63 : BitVec 32 := 0#32
  let arg1 : BitVec 32 := BitVec.ofNat 32 (i 1).val
  let v178 : BitVec 32 := Scalar.subi arg1 c0_i32_63
  let c1_i32 : BitVec 32 := 1#32
  let v180 : BitVec 32 := Scalar.divsi v178 c1_i32
  let v181 : BitVec 32 := Scalar.muli v180 c1_i32
  let v182 : BitVec 32 := Scalar.addi c0_i32_63 v181
  let v179 : BitVec 32 := Scalar.addi c0_i32_63 v178
  let c1_i32_65 : BitVec 32 := 1#32
  ⟨v182, v179, c1_i32_65⟩
def k0_mult3 (i : grid0.Coords) (k0_t2 : Fin (k0_t2_loop i).trips) : BitVec 32 :=
  let arg1 : BitVec 32 := BitVec.ofNat 32 (i 1).val
  let c1_i32_70 : BitVec 32 := 1#32
  let v188 : BitVec 32 := Scalar.subi arg1 c1_i32_70
  let c0_i32_63 : BitVec 32 := 0#32
  let v178 : BitVec 32 := Scalar.subi arg1 c0_i32_63
  let c1_i32 : BitVec 32 := 1#32
  let v180 : BitVec 32 := Scalar.divsi v178 c1_i32
  let v181 : BitVec 32 := Scalar.muli v180 c1_i32
  let v182 : BitVec 32 := Scalar.addi c0_i32_63 v181
  let c1_i32_65 : BitVec 32 := 1#32
  let arg8 : BitVec 32 := Scf.iv v182 c1_i32_65 k0_t2
  let v189 : BitVec 32 := Scalar.subi v188 arg8
  let c512_i32_71 : BitVec 32 := 512#32
  let v190 : BitVec 32 := Scalar.muli v189 c512_i32_71
  v190
def k0_off3 (i : grid0.Coords) (k0_t2 : Fin (k0_t2_loop i).trips) : Fin 2 → Nat :=
  let arg1 : BitVec 32 := BitVec.ofNat 32 (i 1).val
  let c1_i32_70 : BitVec 32 := 1#32
  let v188 : BitVec 32 := Scalar.subi arg1 c1_i32_70
  let c0_i32_63 : BitVec 32 := 0#32
  let v178 : BitVec 32 := Scalar.subi arg1 c0_i32_63
  let c1_i32 : BitVec 32 := 1#32
  let v180 : BitVec 32 := Scalar.divsi v178 c1_i32
  let v181 : BitVec 32 := Scalar.muli v180 c1_i32
  let v182 : BitVec 32 := Scalar.addi c0_i32_63 v181
  let c1_i32_65 : BitVec 32 := 1#32
  let arg8 : BitVec 32 := Scf.iv v182 c1_i32_65 k0_t2
  let v189 : BitVec 32 := Scalar.subi v188 arg8
  let c512_i32_71 : BitVec 32 := 512#32
  let v190 : BitVec 32 := Scalar.muli v189 c512_i32_71
  let v191 : BitVec 32 := v190
  let v192 : Index := Scalar.indexCast v191
  let c0_72 : Index := 0#32
  ![v192.toNat, 0]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 4], ![false, false]⟩

@[reducible] def k1_t1_loop (i : grid1.Coords) : Scf.Loop 32 :=
  let c0_i32_18 : BitVec 32 := 0#32
  let arg1 : BitVec 32 := BitVec.ofNat 32 (i 1).val
  let v50 : BitVec 32 := Scalar.subi arg1 c0_i32_18
  let c1_i32 : BitVec 32 := 1#32
  let v52 : BitVec 32 := Scalar.divsi v50 c1_i32
  let v53 : BitVec 32 := Scalar.muli v52 c1_i32
  let v54 : BitVec 32 := Scalar.addi c0_i32_18 v53
  let c1_i32_19 : BitVec 32 := 1#32
  ⟨c0_i32_18, v54, c1_i32_19⟩
def k1_mult1 (i : grid1.Coords) (k1_t1 : Fin (k1_t1_loop i).trips) : BitVec 32 :=
  let c0_i32_18 : BitVec 32 := 0#32
  let c1_i32_19 : BitVec 32 := 1#32
  let arg11 : BitVec 32 := Scf.iv c0_i32_18 c1_i32_19 k1_t1
  let c512_i32_95 : BitVec 32 := 512#32
  let v277 : BitVec 32 := Scalar.muli arg11 c512_i32_95
  v277
def k1_off1 (i : grid1.Coords) (k1_t1 : Fin (k1_t1_loop i).trips) : Fin 2 → Nat :=
  let c0_i32_18 : BitVec 32 := 0#32
  let c1_i32_19 : BitVec 32 := 1#32
  let arg11 : BitVec 32 := Scf.iv c0_i32_18 c1_i32_19 k1_t1
  let c512_i32_95 : BitVec 32 := 512#32
  let v277 : BitVec 32 := Scalar.muli arg11 c512_i32_95
  let v278 : BitVec 32 := v277
  let v279 : Index := Scalar.indexCast v278
  let c0_96 : Index := 0#32
  ![v279.toNat, 0]
@[reducible] def k1_t2_loop (i : grid1.Coords) : Scf.Loop 32 :=
  let c0_i32_18 : BitVec 32 := 0#32
  let arg1 : BitVec 32 := BitVec.ofNat 32 (i 1).val
  let v50 : BitVec 32 := Scalar.subi arg1 c0_i32_18
  let c1_i32 : BitVec 32 := 1#32
  let v52 : BitVec 32 := Scalar.divsi v50 c1_i32
  let v53 : BitVec 32 := Scalar.muli v52 c1_i32
  let v54 : BitVec 32 := Scalar.addi c0_i32_18 v53
  let v51 : BitVec 32 := Scalar.addi c0_i32_18 v50
  let c1_i32_20 : BitVec 32 := 1#32
  ⟨v54, v51, c1_i32_20⟩
def k1_mult2 (i : grid1.Coords) (k1_t2 : Fin (k1_t2_loop i).trips) : BitVec 32 :=
  let c0_i32_18 : BitVec 32 := 0#32
  let arg1 : BitVec 32 := BitVec.ofNat 32 (i 1).val
  let v50 : BitVec 32 := Scalar.subi arg1 c0_i32_18
  let c1_i32 : BitVec 32 := 1#32
  let v52 : BitVec 32 := Scalar.divsi v50 c1_i32
  let v53 : BitVec 32 := Scalar.muli v52 c1_i32
  let v54 : BitVec 32 := Scalar.addi c0_i32_18 v53
  let c1_i32_20 : BitVec 32 := 1#32
  let arg11 : BitVec 32 := Scf.iv v54 c1_i32_20 k1_t2
  let c512_i32_95 : BitVec 32 := 512#32
  let v277 : BitVec 32 := Scalar.muli arg11 c512_i32_95
  v277
def k1_off2 (i : grid1.Coords) (k1_t2 : Fin (k1_t2_loop i).trips) : Fin 2 → Nat :=
  let c0_i32_18 : BitVec 32 := 0#32
  let arg1 : BitVec 32 := BitVec.ofNat 32 (i 1).val
  let v50 : BitVec 32 := Scalar.subi arg1 c0_i32_18
  let c1_i32 : BitVec 32 := 1#32
  let v52 : BitVec 32 := Scalar.divsi v50 c1_i32
  let v53 : BitVec 32 := Scalar.muli v52 c1_i32
  let v54 : BitVec 32 := Scalar.addi c0_i32_18 v53
  let c1_i32_20 : BitVec 32 := 1#32
  let arg11 : BitVec 32 := Scf.iv v54 c1_i32_20 k1_t2
  let c512_i32_95 : BitVec 32 := 512#32
  let v277 : BitVec 32 := Scalar.muli arg11 c512_i32_95
  let v278 : BitVec 32 := v277
  let v279 : Index := Scalar.indexCast v278
  let c0_96 : Index := 0#32
  ![v279.toNat, 0]
def k1_mult3 (i : grid1.Coords) : BitVec 32 :=
  let arg1 : BitVec 32 := BitVec.ofNat 32 (i 1).val
  let c512_i32 : BitVec 32 := 512#32
  let v57 : BitVec 32 := Scalar.muli arg1 c512_i32
  v57
def k1_off3 (i : grid1.Coords) : Fin 2 → Nat :=
  let arg1 : BitVec 32 := BitVec.ofNat 32 (i 1).val
  let c512_i32 : BitVec 32 := 512#32
  let v57 : BitVec 32 := Scalar.muli arg1 c512_i32
  let v58 : BitVec 32 := v57
  let v59 : Index := Scalar.indexCast v58
  let c0_21 : Index := 0#32
  ![v59.toNat, 0]
def cc1_transform_0 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc1_transform_1 (i : grid1.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S2x512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S2048x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S2048x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]
-- ==== ReferenceIdeal.lean ====
abbrev S2048x4352 : Shape := ⟨2, ![2048, 4352]⟩
abbrev S2048x512 : Shape := ⟨2, ![2048, 512]⟩
abbrev S2048x8x64 : Shape := ⟨3, ![2048, 8, 64]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x64x2048 : Shape := ⟨3, ![8, 64, 2048]⟩
abbrev S8x2048x64 : Shape := ⟨3, ![8, 2048, 64]⟩

abbrev nBuf : Space → Nat
  | .hbm => 175
  | .vmem => 0
  | .smem => 0
  | _ => 0

abbrev hbmTy0_0 (i : Nat) : BufTy := match i % 128 with
  | 0 => ⟨S2048x4352, .f32⟩
  | 1 => ⟨S2048x512, .f32⟩
  | 2 => ⟨S2048x512, .f32⟩
  | 3 => ⟨S2048x512, .f32⟩
  | 4 => ⟨S2048x512, .f32⟩
  | 5 => ⟨S2048x8x64, .f32⟩
  | 6 => ⟨S2048x8x64, .f32⟩
  | 7 => ⟨S2048x8x64, .f32⟩
  | 8 => ⟨S8x2048x2048, .f32⟩
  | 9 => ⟨S_, .f32⟩
  | 10 => ⟨S8x2048x2048, .f32⟩
  | 11 => ⟨S8x2048x2048, .f32⟩
  | 12 => ⟨S2048, .i32⟩
  | 13 => ⟨S1x2048, .i32⟩
  | 14 => ⟨S2048, .i32⟩
  | 15 => ⟨S2048x1, .i32⟩
  | 16 => ⟨S2048x2048, .i32⟩
  | 17 => ⟨S2048x2048, .i32⟩
  | 18 => ⟨S2048x2048, .i1⟩
  | 19 => ⟨S8x2048x2048, .f32⟩
  | 20 => ⟨S8x2048x2048, .f32⟩
  | 21 => ⟨S_, .f32⟩
  | 22 => ⟨S8x2048x2048, .f32⟩
  | 23 => ⟨S8x2048x2048, .f32⟩
  | 24 => ⟨S8x2048x2048, .f32⟩
  | 25 => ⟨S8x2048x2048, .f32⟩
  | 26 => ⟨S8x2048x2048, .i1⟩
  | 27 => ⟨S8x2048x2048, .f32⟩
  | 28 => ⟨S8x2048x2048, .f32⟩
  | 29 => ⟨S8x2048x2048, .f32⟩
  | 30 => ⟨S8x2048x2048, .f32⟩
  | 31 => ⟨S8x2048x2048, .f32⟩
  | 32 => ⟨S8x2048x2048, .f32⟩
  | 33 => ⟨S8x2048x2048, .f32⟩
  | 34 => ⟨S8x2048x2048, .f32⟩
  | 35 => ⟨S_, .f32⟩
  | 36 => ⟨S8x2048x2048, .f32⟩
  | 37 => ⟨S8x2048x2048, .i1⟩
  | 38 => ⟨S_, .f32⟩
  | 39 => ⟨S8x2048x2048, .f32⟩
  | 40 => ⟨S8x2048x2048, .f32⟩
  | 41 => ⟨S_, .f32⟩
  | 42 => ⟨S8x2048x2048, .f32⟩
  | 43 => ⟨S8x2048x2048, .i1⟩
  | 44 => ⟨S_, .f32⟩
  | 45 => ⟨S8x2048x2048, .f32⟩
  | 46 => ⟨S8x2048x2048, .f32⟩
  | 47 => ⟨S8x2048x2048, .f32⟩
  | 48 => ⟨S8x2048x2048, .f32⟩
  | 49 => ⟨S_, .f32⟩
  | 50 => ⟨S_, .f32⟩
  | 51 => ⟨S_, .i1⟩
  | 52 => ⟨S_, .f32⟩
  | 53 => ⟨S_, .f32⟩
  | 54 => ⟨S_, .f32⟩
  | 55 => ⟨S_, .f32⟩
  | 56 => ⟨S8x2048x2048, .f32⟩
  | 57 => ⟨S8x2048x2048, .i1⟩
  | 58 => ⟨S_, .f32⟩
  | 59 => ⟨S8x2048x2048, .f32⟩
  | 60 => ⟨S8x2048x2048, .f32⟩
  | 61 => ⟨S8x2048x2048, .f32⟩
  | 62 => ⟨S8x2048x2048, .f32⟩
  | 63 => ⟨S8x2048x2048, .f32⟩
  | 64 => ⟨S_, .f32⟩
  | 65 => ⟨S8x2048x2048, .f32⟩
  | 66 => ⟨S8x2048x2048, .f32⟩
  | 67 => ⟨S8x2048x2048, .f32⟩
  | 68 => ⟨S_, .f32⟩
  | 69 => ⟨S_, .f32⟩
  | 70 => ⟨S8x2048x2048, .i1⟩
  | 71 => ⟨S8x2048x2048, .f32⟩
  | 72 => ⟨S8x2048x2048, .f32⟩
  | 73 => ⟨S_, .f32⟩
  | 74 => ⟨S8x2048x2048, .f32⟩
  | 75 => ⟨S_, .f32⟩
  | 76 => ⟨S_, .f32⟩
  | 77 => ⟨S8x2048x2048, .f32⟩
  | 78 => ⟨S8x2048x2048, .f32⟩
  | 79 => ⟨S8x2048x2048, .f32⟩
  | 80 => ⟨S_, .f32⟩
  | 81 => ⟨S8x2048x2048, .f32⟩
  | 82 => ⟨S8x2048x2048, .f32⟩
  | 83 => ⟨S8x2048x2048, .f32⟩
  | 84 => ⟨S8x2048x2048, .f32⟩
  | 85 => ⟨S8x2048x2048, .i1⟩
  | 86 => ⟨S8x2048x2048, .f32⟩
  | 87 => ⟨S8x2048x2048, .f32⟩
  | 88 => ⟨S8x2048x2048, .f32⟩
  | 89 => ⟨S8x2048x2048, .f32⟩
  | 90 => ⟨S8x2048x2048, .f32⟩
  | 91 => ⟨S8x2048x2048, .f32⟩
  | 92 => ⟨S8x2048x2048, .f32⟩
  | 93 => ⟨S8x2048x2048, .f32⟩
  | 94 => ⟨S_, .f32⟩
  | 95 => ⟨S8x2048x2048, .f32⟩
  | 96 => ⟨S8x2048x2048, .i1⟩
  | 97 => ⟨S_, .f32⟩
  | 98 => ⟨S8x2048x2048, .f32⟩
  | 99 => ⟨S8x2048x2048, .f32⟩
  | 100 => ⟨S_, .f32⟩
  | 101 => ⟨S8x2048x2048, .f32⟩
  | 102 => ⟨S8x2048x2048, .i1⟩
  | 103 => ⟨S_, .f32⟩
  | 104 => ⟨S8x2048x2048, .f32⟩
  | 105 => ⟨S8x2048x2048, .f32⟩
  | 106 => ⟨S8x2048x2048, .f32⟩
  | 107 => ⟨S8x2048x2048, .f32⟩
  | 108 => ⟨S_, .f32⟩
  | 109 => ⟨S_, .f32⟩
  | 110 => ⟨S_, .i1⟩
  | 111 => ⟨S_, .f32⟩
  | 112 => ⟨S_, .f32⟩
  | 113 => ⟨S_, .f32⟩
  | 114 => ⟨S_, .f32⟩
  | 115 => ⟨S8x2048x2048, .f32⟩
  | 116 => ⟨S8x2048x2048, .i1⟩
  | 117 => ⟨S_, .f32⟩
  | 118 => ⟨S8x2048x2048, .f32⟩
  | 119 => ⟨S8x2048x2048, .f32⟩
  | 120 => ⟨S8x2048x2048, .f32⟩
  | 121 => ⟨S8x2048x2048, .f32⟩
  | 122 => ⟨S8x2048x2048, .f32⟩
  | 123 => ⟨S_, .f32⟩
  | 124 => ⟨S8x2048x2048, .f32⟩
  | 125 => ⟨S8x2048x2048, .f32⟩
  | 126 => ⟨S8x2048x2048, .f32⟩
  | 127 => ⟨S8x2048x2048, .f32⟩
  | _ => ⟨S2048x4352, .f32⟩

abbrev hbmTy0_1 (i : Nat) : BufTy := match i % 128 with
  | 0 => ⟨S8x2048x2048, .f32⟩
  | 1 => ⟨S_, .f32⟩
  | 2 => ⟨S_, .f32⟩
  | 3 => ⟨S8x2048x2048, .i1⟩
  | 4 => ⟨S8x2048x2048, .f32⟩
  | 5 => ⟨S8x2048x2048, .f32⟩
  | 6 => ⟨S_, .f32⟩
  | 7 => ⟨S8x2048x2048, .f32⟩
  | 8 => ⟨S8x64x2048, .f32⟩
  | 9 => ⟨S2048x8x64, .f32⟩
  | 10 => ⟨S2048x512, .f32⟩
  | 11 => ⟨S2048x8x64, .f32⟩
  | 12 => ⟨S8x64x2048, .f32⟩
  | 13 => ⟨S8x2048x2048, .f32⟩
  | 14 => ⟨S8x64x2048, .f32⟩
  | 15 => ⟨S2048x8x64, .f32⟩
  | 16 => ⟨S_, .f32⟩
  | 17 => ⟨S8x2048x2048, .f32⟩
  | 18 => ⟨S8x2048x2048, .f32⟩
  | 19 => ⟨S8x2048x2048, .f32⟩
  | 20 => ⟨S8x2048x2048, .f32⟩
  | 21 => ⟨S8x2048x2048, .f32⟩
  | 22 => ⟨S8x2048x2048, .f32⟩
  | 23 => ⟨S8x2048x2048, .f32⟩
  | 24 => ⟨S_, .f32⟩
  | 25 => ⟨S_, .f32⟩
  | 26 => ⟨S8x2048x2048, .f32⟩
  | 27 => ⟨S8x2048x2048, .f32⟩
  | 28 => ⟨S_, .f32⟩
  | 29 => ⟨S8x2048x2048, .f32⟩
  | 30 => ⟨S8x2048x2048, .f32⟩
  | 31 => ⟨S8x2048x2048, .f32⟩
  | 32 => ⟨S8x2048x2048, .f32⟩
  | 33 => ⟨S8x2048x2048, .f32⟩
  | 34 => ⟨S8x2048x2048, .f32⟩
  | 35 => ⟨S8x2048x2048, .f32⟩
  | 36 => ⟨S_, .f32⟩
  | 37 => ⟨S8x2048x2048, .f32⟩
  | 38 => ⟨S8x2048x2048, .f32⟩
  | 39 => ⟨S8x2048x64, .f32⟩
  | 40 => ⟨S2048x8x64, .f32⟩
  | 41 => ⟨S8x2048x64, .f32⟩
  | 42 => ⟨S2048x8x64, .f32⟩
  | 43 => ⟨S2048x512, .f32⟩
  | 44 => ⟨S2048x512, .f32⟩
  | 45 => ⟨S2048x512, .f32⟩
  | 46 => ⟨S2048x512, .bf16⟩
  | _ => ⟨S2048x4352, .f32⟩

abbrev hbmTy (i : Nat) : BufTy := match i / 128 with
  | 0 => hbmTy0_0 i
  | 1 => hbmTy0_1 i
  | _ => ⟨S2048x4352, .f32⟩

abbrev bufTy : (tb : Table) → Fin (tcTables nBuf tb) → BufTy
  | .hbm, ⟨i, _⟩ => hbmTy i
  | _, _ => ⟨S2048x4352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1_0 : Ref sig .tc := ⟨.hbm, 34, rfl⟩
abbrev main_call0_call0_cst_0 : Ref sig .tc := ⟨.hbm, 35, rfl⟩
abbrev main_call0_call0_v13 : Ref sig .tc := ⟨.hbm, 36, rfl⟩
abbrev main_call0_call0_v14 : Ref sig .tc := ⟨.hbm, 37, rfl⟩
abbrev main_call0_call0_cst_1 : Ref sig .tc := ⟨.hbm, 38, rfl⟩
abbrev main_call0_call0_v15 : Ref sig .tc := ⟨.hbm, 39, rfl⟩
abbrev main_call0_call0_v16 : Ref sig .tc := ⟨.hbm, 40, rfl⟩
abbrev main_call0_call0_cst_2 : Ref sig .tc := ⟨.hbm, 41, rfl⟩
abbrev main_call0_call0_v17 : Ref sig .tc := ⟨.hbm, 42, rfl⟩
abbrev main_call0_call0_v18 : Ref sig .tc := ⟨.hbm, 43, rfl⟩
abbrev main_call0_call0_cst_3 : Ref sig .tc := ⟨.hbm, 44, rfl⟩
abbrev main_call0_call0_v19 : Ref sig .tc := ⟨.hbm, 45, rfl⟩
abbrev main_call0_call0_v20 : Ref sig .tc := ⟨.hbm, 46, rfl⟩
abbrev main_call0_call0_v21 : Ref sig .tc := ⟨.hbm, 47, rfl⟩
abbrev main_v17_1 : Ref sig .tc := ⟨.hbm, 48, rfl⟩
abbrev main_call0_call0_cst_4 : Ref sig .tc := ⟨.hbm, 49, rfl⟩
abbrev main_call0_call0_cst_5 : Ref sig .tc := ⟨.hbm, 50, rfl⟩
abbrev main_call0_call0_v23 : Ref sig .tc := ⟨.hbm, 51, rfl⟩
abbrev main_call0_call0_cst_6 : Ref sig .tc := ⟨.hbm, 52, rfl⟩
abbrev main_call0_call0_cst_7 : Ref sig .tc := ⟨.hbm, 53, rfl⟩
abbrev main_call0_call0_v24 : Ref sig .tc := ⟨.hbm, 54, rfl⟩
abbrev main_call0_call0_cst_8 : Ref sig .tc := ⟨.hbm, 55, rfl⟩
abbrev main_call0_call0_v25 : Ref sig .tc := ⟨.hbm, 56, rfl⟩
abbrev main_call0_call0_v26 : Ref sig .tc := ⟨.hbm, 57, rfl⟩
abbrev main_call0_call0_cst_9 : Ref sig .tc := ⟨.hbm, 58, rfl⟩
abbrev main_call0_call0_v27 : Ref sig .tc := ⟨.hbm, 59, rfl⟩
abbrev main_call0_call0_v28 : Ref sig .tc := ⟨.hbm, 60, rfl⟩
abbrev main_call0_call0_v29 : Ref sig .tc := ⟨.hbm, 61, rfl⟩
abbrev main_call0_call0_v30 : Ref sig .tc := ⟨.hbm, 62, rfl⟩
abbrev main_call0_call0_v31 : Ref sig .tc := ⟨.hbm, 63, rfl⟩
abbrev main_call0_call0_cst_10 : Ref sig .tc := ⟨.hbm, 64, rfl⟩
abbrev main_call0_call0_v32 : Ref sig .tc := ⟨.hbm, 65, rfl⟩
abbrev main_v17_2 : Ref sig .tc := ⟨.hbm, 66, rfl⟩
abbrev main_v17_0 : Ref sig .tc := ⟨.hbm, 67, rfl⟩
abbrev main_cst_0 : Ref sig .tc := ⟨.hbm, 68, rfl⟩
abbrev main_call1_v0 : Ref sig .tc := ⟨.hbm, 69, rfl⟩
abbrev main_v18_1 : Ref sig .tc := ⟨.hbm, 70, rfl⟩
abbrev main_call1_v2 : Ref sig .tc := ⟨.hbm, 71, rfl⟩
abbrev main_v18_0 : Ref sig .tc := ⟨.hbm, 72, rfl⟩
abbrev main_call1_cst : Ref sig .tc := ⟨.hbm, 73, rfl⟩
abbrev main_v18_2 : Ref sig .tc := ⟨.hbm, 74, rfl⟩
abbrev main_call2_cst : Ref sig .tc := ⟨.hbm, 75, rfl⟩
abbrev main_call2_v0 : Ref sig .tc := ⟨.hbm, 76, rfl⟩
abbrev main_v19 : Ref sig .tc := ⟨.hbm, 77, rfl⟩
abbrev main_v20 : Ref sig .tc := ⟨.hbm, 78, rfl⟩
abbrev main_call3_v0 : Ref sig .tc := ⟨.hbm, 79, rfl⟩
abbrev main_call3_call0_cst : Ref sig .tc := ⟨.hbm, 80, rfl⟩
abbrev main_call3_call0_v0 : Ref sig .tc := ⟨.hbm, 81, rfl⟩
abbrev main_call3_call0_v1 : Ref sig .tc := ⟨.hbm, 82, rfl⟩
abbrev main_call3_call0_v2 : Ref sig .tc := ⟨.hbm, 83, rfl⟩
abbrev main_call3_call0_v3 : Ref sig .tc := ⟨.hbm, 84, rfl⟩
abbrev main_call3_call0_v4 : Ref sig .tc := ⟨.hbm, 85, rfl⟩
abbrev main_call3_call0_v5 : Ref sig .tc := ⟨.hbm, 86, rfl⟩
abbrev main_call3_call0_v6 : Ref sig .tc := ⟨.hbm, 87, rfl⟩
abbrev main_call3_call0_v7 : Ref sig .tc := ⟨.hbm, 88, rfl⟩
abbrev main_call3_call0_v8 : Ref sig .tc := ⟨.hbm, 89, rfl⟩
abbrev main_call3_call0_v9 : Ref sig .tc := ⟨.hbm, 90, rfl⟩
abbrev main_call3_call0_v10 : Ref sig .tc := ⟨.hbm, 91, rfl⟩
abbrev main_call3_call0_v11 : Ref sig .tc := ⟨.hbm, 92, rfl⟩
abbrev main_call3_v1_0 : Ref sig .tc := ⟨.hbm, 93, rfl⟩
abbrev main_call3_call0_cst_0 : Ref sig .tc := ⟨.hbm, 94, rfl⟩
abbrev main_call3_call0_v13 : Ref sig .tc := ⟨.hbm, 95, rfl⟩
abbrev main_call3_call0_v14 : Ref sig .tc := ⟨.hbm, 96, rfl⟩
abbrev main_call3_call0_cst_1 : Ref sig .tc := ⟨.hbm, 97, rfl⟩
abbrev main_call3_call0_v15 : Ref sig .tc := ⟨.hbm, 98, rfl⟩
abbrev main_call3_call0_v16 : Ref sig .tc := ⟨.hbm, 99, rfl⟩
abbrev main_call3_call0_cst_2 : Ref sig .tc := ⟨.hbm, 100, rfl⟩
abbrev main_call3_call0_v17 : Ref sig .tc := ⟨.hbm, 101, rfl⟩
abbrev main_call3_call0_v18 : Ref sig .tc := ⟨.hbm, 102, rfl⟩
abbrev main_call3_call0_cst_3 : Ref sig .tc := ⟨.hbm, 103, rfl⟩
abbrev main_call3_call0_v19 : Ref sig .tc := ⟨.hbm, 104, rfl⟩
abbrev main_call3_call0_v20 : Ref sig .tc := ⟨.hbm, 105, rfl⟩
abbrev main_call3_call0_v21 : Ref sig .tc := ⟨.hbm, 106, rfl⟩
abbrev main_v21_1 : Ref sig .tc := ⟨.hbm, 107, rfl⟩
abbrev main_call3_call0_cst_4 : Ref sig .tc := ⟨.hbm, 108, rfl⟩
abbrev main_call3_call0_cst_5 : Ref sig .tc := ⟨.hbm, 109, rfl⟩
abbrev main_call3_call0_v23 : Ref sig .tc := ⟨.hbm, 110, rfl⟩
abbrev main_call3_call0_cst_6 : Ref sig .tc := ⟨.hbm, 111, rfl⟩
abbrev main_call3_call0_cst_7 : Ref sig .tc := ⟨.hbm, 112, rfl⟩
abbrev main_call3_call0_v24 : Ref sig .tc := ⟨.hbm, 113, rfl⟩
abbrev main_call3_call0_cst_8 : Ref sig .tc := ⟨.hbm, 114, rfl⟩
abbrev main_call3_call0_v25 : Ref sig .tc := ⟨.hbm, 115, rfl⟩
abbrev main_call3_call0_v26 : Ref sig .tc := ⟨.hbm, 116, rfl⟩
abbrev main_call3_call0_cst_9 : Ref sig .tc := ⟨.hbm, 117, rfl⟩
abbrev main_call3_call0_v27 : Ref sig .tc := ⟨.hbm, 118, rfl⟩
abbrev main_call3_call0_v28 : Ref sig .tc := ⟨.hbm, 119, rfl⟩
abbrev main_call3_call0_v29 : Ref sig .tc := ⟨.hbm, 120, rfl⟩
abbrev main_call3_call0_v30 : Ref sig .tc := ⟨.hbm, 121, rfl⟩
abbrev main_call3_call0_v31 : Ref sig .tc := ⟨.hbm, 122, rfl⟩
abbrev main_call3_call0_cst_10 : Ref sig .tc := ⟨.hbm, 123, rfl⟩
abbrev main_call3_call0_v32 : Ref sig .tc := ⟨.hbm, 124, rfl⟩
abbrev main_v21_2 : Ref sig .tc := ⟨.hbm, 125, rfl⟩
abbrev main_v21_0 : Ref sig .tc := ⟨.hbm, 126, rfl⟩
abbrev main_v22 : Ref sig .tc := ⟨.hbm, 127, rfl⟩
abbrev main_v23 : Ref sig .tc := ⟨.hbm, 128, rfl⟩
abbrev main_cst_1 : Ref sig .tc := ⟨.hbm, 129, rfl⟩
abbrev main_call4_v0 : Ref sig .tc := ⟨.hbm, 130, rfl⟩
abbrev main_v24_1 : Ref sig .tc := ⟨.hbm, 131, rfl⟩
abbrev main_call4_v2 : Ref sig .tc := ⟨.hbm, 132, rfl⟩
abbrev main_v24_0 : Ref sig .tc := ⟨.hbm, 133, rfl⟩
abbrev main_call4_cst : Ref sig .tc := ⟨.hbm, 134, rfl⟩
abbrev main_v24_2 : Ref sig .tc := ⟨.hbm, 135, rfl⟩
abbrev main_v25 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_call5_cst : Ref sig .tc := ⟨.hbm, 144, rfl⟩
abbrev main_call5_v0 : Ref sig .tc := ⟨.hbm, 145, rfl⟩
abbrev main_v33 : Ref sig .tc := ⟨.hbm, 146, rfl⟩
abbrev main_v34 : Ref sig .tc := ⟨.hbm, 147, rfl⟩
abbrev main_call6_v0 : Ref sig .tc := ⟨.hbm, 148, rfl⟩
abbrev main_call6_v1 : Ref sig .tc := ⟨.hbm, 149, rfl⟩
abbrev main_v35 : Ref sig .tc := ⟨.hbm, 150, rfl⟩
abbrev main_v36 : Ref sig .tc := ⟨.hbm, 151, rfl⟩
abbrev main_call7_cst : Ref sig .tc := ⟨.hbm, 152, rfl⟩
abbrev main_call7_v0 : Ref sig .tc := ⟨.hbm, 153, rfl⟩
abbrev main_v37 : Ref sig .tc := ⟨.hbm, 154, rfl⟩
abbrev main_v38 : Ref sig .tc := ⟨.hbm, 155, rfl⟩
abbrev main_call8_cst : Ref sig .tc := ⟨.hbm, 156, rfl⟩
abbrev main_call8_v0 : Ref sig .tc := ⟨.hbm, 157, rfl⟩
abbrev main_v39 : Ref sig .tc := ⟨.hbm, 158, rfl⟩
abbrev main_call9_v0 : Ref sig .tc := ⟨.hbm, 159, rfl⟩
abbrev main_call9_v1 : Ref sig .tc := ⟨.hbm, 160, rfl⟩
abbrev main_v40 : Ref sig .tc := ⟨.hbm, 161, rfl⟩
abbrev main_v41 : Ref sig .tc := ⟨.hbm, 162, rfl⟩
abbrev main_v42 : Ref sig .tc := ⟨.hbm, 163, rfl⟩
abbrev main_cst_2 : Ref sig .tc := ⟨.hbm, 164, rfl⟩
abbrev main_v43 : Ref sig .tc := ⟨.hbm, 165, rfl⟩
abbrev main_v44 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩

abbrev nD : Nat := 1
abbrev τ : Topo := Topo.v7x

variable {F : FTy → Type} [FloatOps F]
-- ==== Kernel2.lean ====
abbrev S2048x1024 : Shape := ⟨2, ![2048, 1024]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩
abbrev S2048x4096 : Shape := ⟨2, ![2048, 4096]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 14
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4096x1024, .f32⟩
  | .hbm, ⟨3, _⟩ => ⟨S2048x1024, .f32⟩
  | .hbm, ⟨4, _⟩ => ⟨S2048x1024, .bf16⟩
  | .hbm, ⟨5, _⟩ => ⟨S1024x4096, .bf16⟩
  | .hbm, ⟨6, _⟩ => ⟨S1024x4x1024, .bf16⟩
  | .hbm, ⟨7, _⟩ => ⟨S4x1024x1024, .bf16⟩
  | .hbm, ⟨8, _⟩ => ⟨S2048x4096, .f32⟩
  | .hbm, ⟨9, _⟩ => ⟨S2048x4096, .bf16⟩
  | .hbm, ⟨10, _⟩ => ⟨S2048x1024, .bf16⟩
  | .hbm, ⟨11, _⟩ => ⟨S4096x1024, .bf16⟩
  | .hbm, ⟨12, _⟩ => ⟨S4x1024x1024, .bf16⟩
  | .hbm, ⟨13, _⟩ => ⟨S2048x4096, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]
-- ==== Reference2Ideal.lean ====
abbrev S2048x1024 : Shape := ⟨2, ![2048, 1024]⟩
abbrev S1024x4096 : Shape := ⟨2, ![1024, 4096]⟩
abbrev S4096x1024 : Shape := ⟨2, ![4096, 1024]⟩
abbrev S2048x4096 : Shape := ⟨2, ![2048, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4096x1024, .f32⟩
  | .hbm, ⟨3, _⟩ => ⟨S2048x1024, .f32⟩
  | .hbm, ⟨4, _⟩ => ⟨S2048x4096, .f32⟩
  | .hbm, ⟨5, _⟩ => ⟨S_, .f32⟩
  | .hbm, ⟨6, _⟩ => ⟨S2048x4096, .f32⟩
  | .hbm, ⟨7, _⟩ => ⟨S2048x4096, .f32⟩
  | .hbm, ⟨8, _⟩ => ⟨S_, .f32⟩
  | .hbm, ⟨9, _⟩ => ⟨S2048x4096, .f32⟩
  | .hbm, ⟨10, _⟩ => ⟨S2048x4096, .i1⟩
  | .hbm, ⟨11, _⟩ => ⟨S_, .f32⟩
  | .hbm, ⟨12, _⟩ => ⟨S2048x4096, .f32⟩
  | .hbm, ⟨13, _⟩ => ⟨S2048x4096, .f32⟩
  | .hbm, ⟨14, _⟩ => ⟨S_, .f32⟩
  | .hbm, ⟨15, _⟩ => ⟨S2048x4096, .f32⟩
  | .hbm, ⟨16, _⟩ => ⟨S2048x4096, .f32⟩
  | .hbm, ⟨17, _⟩ => ⟨S2048x1024, .f32⟩
  | .hbm, ⟨18, _⟩ => ⟨S2048x4096, .f32⟩
  | .hbm, ⟨19, _⟩ => ⟨S2048x4096, .bf16⟩
  | .hbm, ⟨20, _⟩ => ⟨S2048x4096, .f32⟩
  | .hbm, ⟨21, _⟩ => ⟨S_, .f32⟩
  | .hbm, ⟨22, _⟩ => ⟨S2048x4096, .f32⟩
  | .hbm, ⟨23, _⟩ => ⟨S2048x4096, .f32⟩
  | .hbm, ⟨24, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== Kernel3.lean ====
abbrev S2048x1024 : Shape := ⟨2, ![2048, 1024]⟩
abbrev S1024x4096 : Shape := ⟨2, ![1024, 4096]⟩
abbrev S2048x4096 : Shape := ⟨2, ![2048, 4096]⟩
abbrev S_ : Shape := ⟨0, ![]⟩
abbrev S4x1024x1024 : Shape := ⟨3, ![4, 1024, 1024]⟩
abbrev S1024x512 : Shape := ⟨2, ![1024, 512]⟩
abbrev S1024x1024 : Shape := ⟨2, ![1024, 1024]⟩
abbrev S1x512x1024 : Shape := ⟨3, ![1, 512, 1024]⟩
abbrev S512x1024 : Shape := ⟨2, ![512, 1024]⟩

abbrev nBuf : Space → Nat
  | .hbm => 12
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x1024, .f32⟩
  | .hbm, ⟨3, _⟩ => ⟨S2048x4096, .f32⟩
  | .hbm, ⟨4, _⟩ => ⟨S_, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S2048x4096, .bf16⟩
  | .hbm, ⟨9, _⟩ => ⟨S2048x1024, .bf16⟩
  | .hbm, ⟨10, _⟩ => ⟨S4x1024x1024, .f32⟩
  | .hbm, ⟨11, _⟩ => ⟨S4x1024x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S1x512x1024, .f32⟩
  | .local _ .vmem, ⟨5, _⟩ => ⟨S1x512x1024, .f32⟩
  | .local _ .vmem, ⟨6, _⟩ => ⟨S1x512x1024, .bf16⟩
  | .local _ .vmem, ⟨7, _⟩ => ⟨S1x512x1024, .bf16⟩
  | .local _ .vmem, ⟨8, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S2048x1024 : Shape := ⟨2, ![2048, 1024]⟩
abbrev S1024x4096 : Shape := ⟨2, ![1024, 4096]⟩
abbrev S_ : Shape := ⟨0, ![]⟩
abbrev S4096x1024 : Shape := ⟨2, ![4096, 1024]⟩
abbrev S2048x4096 : Shape := ⟨2, ![2048, 4096]⟩
abbrev S4x1024x1024 : Shape := ⟨3, ![4, 1024, 1024]⟩

abbrev nBuf : Space → Nat
  | .hbm => 15
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x1024, .f32⟩
  | .hbm, ⟨3, _⟩ => ⟨S_, .f32⟩
  | .hbm, ⟨4, _⟩ => ⟨S4096x1024, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .f32⟩
  | .hbm, ⟨9, _⟩ => ⟨S2048x4096, .f32⟩
  | .hbm, ⟨10, _⟩ => ⟨S2048x1024, .f32⟩
  | .hbm, ⟨11, _⟩ => ⟨S1024x4096, .f32⟩
  | .hbm, ⟨12, _⟩ => ⟨S4096x1024, .f32⟩
  | .hbm, ⟨13, _⟩ => ⟨S4x1024x1024, .f32⟩
  | .hbm, ⟨14, _⟩ => ⟨S4x1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Kernel4.lean ====
abbrev S2048x1024 : Shape := ⟨2, ![2048, 1024]⟩
abbrev S1024x4096 : Shape := ⟨2, ![1024, 4096]⟩
abbrev S4096x1024 : Shape := ⟨2, ![4096, 1024]⟩
abbrev S2048x4096 : Shape := ⟨2, ![2048, 4096]⟩
abbrev S_ : Shape := ⟨0, ![]⟩
abbrev S1024x4x1024 : Shape := ⟨3, ![1024, 4, 1024]⟩
abbrev S4x1024x1024 : Shape := ⟨3, ![4, 1024, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 28
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4096x1024, .f32⟩
  | .hbm, ⟨3, _⟩ => ⟨S2048x1024, .f32⟩
  | .hbm, ⟨4, _⟩ => ⟨S2048x4096, .f32⟩
  | .hbm, ⟨5, _⟩ => ⟨S_, .f32⟩
  | .hbm, ⟨6, _⟩ => ⟨S2048x4096, .f32⟩
  | .hbm, ⟨7, _⟩ => ⟨S2048x4096, .f32⟩
  | .hbm, ⟨8, _⟩ => ⟨S_, .f32⟩
  | .hbm, ⟨9, _⟩ => ⟨S2048x4096, .f32⟩
  | .hbm, ⟨10, _⟩ => ⟨S2048x4096, .i1⟩
  | .hbm, ⟨11, _⟩ => ⟨S_, .f32⟩
  | .hbm, ⟨12, _⟩ => ⟨S2048x4096, .f32⟩
  | .hbm, ⟨13, _⟩ => ⟨S2048x4096, .f32⟩
  | .hbm, ⟨14, _⟩ => ⟨S_, .f32⟩
  | .hbm, ⟨15, _⟩ => ⟨S2048x4096, .f32⟩
  | .hbm, ⟨16, _⟩ => ⟨S2048x4096, .f32⟩
  | .hbm, ⟨17, _⟩ => ⟨S2048x1024, .f32⟩
  | .hbm, ⟨18, _⟩ => ⟨S2048x4096, .f32⟩
  | .hbm, ⟨19, _⟩ => ⟨S2048x4096, .f32⟩
  | .hbm, ⟨20, _⟩ => ⟨S_, .f32⟩
  | .hbm, ⟨21, _⟩ => ⟨S2048x4096, .f32⟩
  | .hbm, ⟨22, _⟩ => ⟨S2048x4096, .f32⟩
  | .hbm, ⟨23, _⟩ => ⟨S2048x4096, .bf16⟩
  | .hbm, ⟨24, _⟩ => ⟨S1024x4096, .bf16⟩
  | .hbm, ⟨25, _⟩ => ⟨S1024x4x1024, .bf16⟩
  | .hbm, ⟨26, _⟩ => ⟨S4x1024x1024, .bf16⟩
  | .hbm, ⟨27, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x1024 : Shape := ⟨2, ![2048, 1024]⟩
abbrev S1024x4096 : Shape := ⟨2, ![1024, 4096]⟩
abbrev S4096x1024 : Shape := ⟨2, ![4096, 1024]⟩
abbrev S2048x4096 : Shape := ⟨2, ![2048, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4096x1024, .f32⟩
  | .hbm, ⟨3, _⟩ => ⟨S2048x1024, .f32⟩
  | .hbm, ⟨4, _⟩ => ⟨S2048x4096, .f32⟩
  | .hbm, ⟨5, _⟩ => ⟨S_, .f32⟩
  | .hbm, ⟨6, _⟩ => ⟨S2048x4096, .f32⟩
  | .hbm, ⟨7, _⟩ => ⟨S2048x4096, .f32⟩
  | .hbm, ⟨8, _⟩ => ⟨S_, .f32⟩
  | .hbm, ⟨9, _⟩ => ⟨S2048x4096, .f32⟩
  | .hbm, ⟨10, _⟩ => ⟨S2048x4096, .i1⟩
  | .hbm, ⟨11, _⟩ => ⟨S_, .f32⟩
  | .hbm, ⟨12, _⟩ => ⟨S2048x4096, .f32⟩
  | .hbm, ⟨13, _⟩ => ⟨S2048x4096, .f32⟩
  | .hbm, ⟨14, _⟩ => ⟨S_, .f32⟩
  | .hbm, ⟨15, _⟩ => ⟨S2048x4096, .f32⟩
  | .hbm, ⟨16, _⟩ => ⟨S2048x4096, .f32⟩
  | .hbm, ⟨17, _⟩ => ⟨S2048x1024, .f32⟩
  | .hbm, ⟨18, _⟩ => ⟨S2048x4096, .f32⟩
  | .hbm, ⟨19, _⟩ => ⟨S2048x4096, .f32⟩
  | .hbm, ⟨20, _⟩ => ⟨S_, .f32⟩
  | .hbm, ⟨21, _⟩ => ⟨S2048x4096, .f32⟩
  | .hbm, ⟨22, _⟩ => ⟨S2048x4096, .f32⟩
  | .hbm, ⟨23, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== Kernel5.lean ====
abbrev S2048x1024 : Shape := ⟨2, ![2048, 1024]⟩
abbrev S1024x4096 : Shape := ⟨2, ![1024, 4096]⟩
abbrev S4096x1024 : Shape := ⟨2, ![4096, 1024]⟩
abbrev S2048x4096 : Shape := ⟨2, ![2048, 4096]⟩
abbrev S_ : Shape := ⟨0, ![]⟩
abbrev S4x1024x1024 : Shape := ⟨3, ![4, 1024, 1024]⟩
abbrev S1024x512 : Shape := ⟨2, ![1024, 512]⟩
abbrev S1024x1024 : Shape := ⟨2, ![1024, 1024]⟩
abbrev S1x512x1024 : Shape := ⟨3, ![1, 512, 1024]⟩
abbrev S512x1024 : Shape := ⟨2, ![512, 1024]⟩

abbrev nBuf : Space → Nat
  | .hbm => 27
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4096x1024, .f32⟩
  | .hbm, ⟨3, _⟩ => ⟨S2048x1024, .f32⟩
  | .hbm, ⟨4, _⟩ => ⟨S2048x4096, .f32⟩
  | .hbm, ⟨5, _⟩ => ⟨S_, .f32⟩
  | .hbm, ⟨6, _⟩ => ⟨S2048x4096, .f32⟩
  | .hbm, ⟨7, _⟩ => ⟨S2048x4096, .f32⟩
  | .hbm, ⟨8, _⟩ => ⟨S_, .f32⟩
  | .hbm, ⟨9, _⟩ => ⟨S2048x4096, .f32⟩
  | .hbm, ⟨10, _⟩ => ⟨S2048x4096, .i1⟩
  | .hbm, ⟨11, _⟩ => ⟨S_, .f32⟩
  | .hbm, ⟨12, _⟩ => ⟨S2048x4096, .f32⟩
  | .hbm, ⟨13, _⟩ => ⟨S2048x4096, .f32⟩
  | .hbm, ⟨14, _⟩ => ⟨S_, .f32⟩
  | .hbm, ⟨15, _⟩ => ⟨S2048x4096, .f32⟩
  | .hbm, ⟨16, _⟩ => ⟨S2048x4096, .f32⟩
  | .hbm, ⟨17, _⟩ => ⟨S2048x1024, .f32⟩
  | .hbm, ⟨18, _⟩ => ⟨S2048x4096, .f32⟩
  | .hbm, ⟨19, _⟩ => ⟨S2048x4096, .f32⟩
  | .hbm, ⟨20, _⟩ => ⟨S_, .f32⟩
  | .hbm, ⟨21, _⟩ => ⟨S2048x4096, .f32⟩
  | .hbm, ⟨22, _⟩ => ⟨S2048x4096, .f32⟩
  | .hbm, ⟨23, _⟩ => ⟨S2048x4096, .bf16⟩
  | .hbm, ⟨24, _⟩ => ⟨S2048x1024, .bf16⟩
  | .hbm, ⟨25, _⟩ => ⟨S4x1024x1024, .f32⟩
  | .hbm, ⟨26, _⟩ => ⟨S4x1024x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S1x512x1024, .f32⟩
  | .local _ .vmem, ⟨5, _⟩ => ⟨S1x512x1024, .f32⟩
  | .local _ .vmem, ⟨6, _⟩ => ⟨S1x512x1024, .bf16⟩
  | .local _ .vmem, ⟨7, _⟩ => ⟨S1x512x1024, .bf16⟩
  | .local _ .vmem, ⟨8, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S2048x1024 : Shape := ⟨2, ![2048, 1024]⟩
abbrev S1024x4096 : Shape := ⟨2, ![1024, 4096]⟩
abbrev S4096x1024 : Shape := ⟨2, ![4096, 1024]⟩
abbrev S2048x4096 : Shape := ⟨2, ![2048, 4096]⟩
abbrev S_ : Shape := ⟨0, ![]⟩
abbrev S1024x4x1024 : Shape := ⟨3, ![1024, 4, 1024]⟩
abbrev S4x1024x1024 : Shape := ⟨3, ![4, 1024, 1024]⟩

abbrev nBuf : Space → Nat
  | .hbm => 28
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4096x1024, .f32⟩
  | .hbm, ⟨3, _⟩ => ⟨S2048x1024, .f32⟩
  | .hbm, ⟨4, _⟩ => ⟨S2048x4096, .f32⟩
  | .hbm, ⟨5, _⟩ => ⟨S_, .f32⟩
  | .hbm, ⟨6, _⟩ => ⟨S2048x4096, .f32⟩
  | .hbm, ⟨7, _⟩ => ⟨S2048x4096, .f32⟩
  | .hbm, ⟨8, _⟩ => ⟨S_, .f32⟩
  | .hbm, ⟨9, _⟩ => ⟨S2048x4096, .f32⟩
  | .hbm, ⟨10, _⟩ => ⟨S2048x4096, .i1⟩
  | .hbm, ⟨11, _⟩ => ⟨S_, .f32⟩
  | .hbm, ⟨12, _⟩ => ⟨S2048x4096, .f32⟩
  | .hbm, ⟨13, _⟩ => ⟨S2048x4096, .f32⟩
  | .hbm, ⟨14, _⟩ => ⟨S_, .f32⟩
  | .hbm, ⟨15, _⟩ => ⟨S2048x4096, .f32⟩
  | .hbm, ⟨16, _⟩ => ⟨S2048x4096, .f32⟩
  | .hbm, ⟨17, _⟩ => ⟨S2048x1024, .f32⟩
  | .hbm, ⟨18, _⟩ => ⟨S2048x4096, .f32⟩
  | .hbm, ⟨19, _⟩ => ⟨S2048x4096, .f32⟩
  | .hbm, ⟨20, _⟩ => ⟨S_, .f32⟩
  | .hbm, ⟨21, _⟩ => ⟨S2048x4096, .f32⟩
  | .hbm, ⟨22, _⟩ => ⟨S2048x4096, .f32⟩
  | .hbm, ⟨23, _⟩ => ⟨S4096x1024, .f32⟩
  | .hbm, ⟨24, _⟩ => ⟨S1024x4096, .f32⟩
  | .hbm, ⟨25, _⟩ => ⟨S1024x4x1024, .f32⟩
  | .hbm, ⟨26, _⟩ => ⟨S4x1024x1024, .f32⟩
  | .hbm, ⟨27, _⟩ => ⟨S4x1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Kernel6.lean ====
abbrev S1024x4256 : Shape := ⟨2, ![1024, 4256]⟩
abbrev S2048x4256 : Shape := ⟨2, ![2048, 4256]⟩
abbrev S2048x1024 : Shape := ⟨2, ![2048, 1024]⟩
abbrev S2048x1536 : Shape := ⟨2, ![2048, 1536]⟩
abbrev S2048x256 : Shape := ⟨2, ![2048, 256]⟩
abbrev S2048x384 : Shape := ⟨2, ![2048, 384]⟩
abbrev S_ : Shape := ⟨0, ![]⟩
abbrev S2048x64 : Shape := ⟨2, ![2048, 64]⟩
abbrev S2048x32 : Shape := ⟨2, ![2048, 32]⟩
abbrev S2048x4352 : Shape := ⟨2, ![2048, 4352]⟩
abbrev S1024x1024 : Shape := ⟨2, ![1024, 1024]⟩
abbrev S1024x1536 : Shape := ⟨2, ![1024, 1536]⟩
abbrev S1024x256 : Shape := ⟨2, ![1024, 256]⟩
abbrev S1024x384 : Shape := ⟨2, ![1024, 384]⟩
abbrev S1024x64 : Shape := ⟨2, ![1024, 64]⟩
abbrev S1024x32 : Shape := ⟨2, ![1024, 32]⟩
abbrev S1024x4352 : Shape := ⟨2, ![1024, 4352]⟩
abbrev S512x2176 : Shape := ⟨2, ![512, 2176]⟩
abbrev S1024x2176 : Shape := ⟨2, ![1024, 2176]⟩
abbrev S512x1024 : Shape := ⟨2, ![512, 1024]⟩

abbrev nBuf : Space → Nat
  | .hbm => 26
  | .vmem => 7
  | .smem => 0
  | _ => 0

abbrev bufTy : (tb : Table) → Fin (tcTables nBuf tb) → BufTy
  | .hbm, ⟨0, _⟩ => ⟨S1024x4256, .f32⟩
  | .hbm, ⟨1, _⟩ => ⟨S2048x4256, .f32⟩
  | .hbm, ⟨2, _⟩ => ⟨S2048x1024, .f32⟩
  | .hbm, ⟨3, _⟩ => ⟨S2048x1024, .f32⟩
  | .hbm, ⟨4, _⟩ => ⟨S2048x1536, .f32⟩
  | .hbm, ⟨5, _⟩ => ⟨S2048x256, .f32⟩
  | .hbm, ⟨6, _⟩ => ⟨S2048x384, .f32⟩
  | .hbm, ⟨7, _⟩ => ⟨S_, .f32⟩
  | .hbm, ⟨8, _⟩ => ⟨S2048x64, .f32⟩
  | .hbm, ⟨9, _⟩ => ⟨S2048x32, .f32⟩
  | .hbm, ⟨10, _⟩ => ⟨S_, .f32⟩
  | .hbm, ⟨11, _⟩ => ⟨S2048x32, .f32⟩
  | .hbm, ⟨12, _⟩ => ⟨S2048x4352, .f32⟩
  | .hbm, ⟨13, _⟩ => ⟨S1024x4256, .bf16⟩
  | .hbm, ⟨14, _⟩ => ⟨S1024x1024, .bf16⟩
  | .hbm, ⟨15, _⟩ => ⟨S1024x1024, .bf16⟩
  | .hbm, ⟨16, _⟩ => ⟨S1024x1536, .bf16⟩
  | .hbm, ⟨17, _⟩ => ⟨S1024x256, .bf16⟩
  | .hbm, ⟨18, _⟩ => ⟨S1024x384, .bf16⟩
  | .hbm, ⟨19, _⟩ => ⟨S_, .bf16⟩
  | .hbm, ⟨20, _⟩ => ⟨S1024x64, .bf16⟩
  | .hbm, ⟨21, _⟩ => ⟨S1024x32, .bf16⟩
  | .hbm, ⟨22, _⟩ => ⟨S_, .bf16⟩
  | .hbm, ⟨23, _⟩ => ⟨S1024x32, .bf16⟩
  | .hbm, ⟨24, _⟩ => ⟨S1024x4352, .bf16⟩
  | .hbm, ⟨25, _⟩ => ⟨S2048x1024, .f32⟩
  | .local _ .vmem, ⟨0, _⟩ => ⟨S512x2176, .f32⟩
  | .local _ .vmem, ⟨1, _⟩ => ⟨S512x2176, .f32⟩
  | .local _ .vmem, ⟨2, _⟩ => ⟨S1024x2176, .bf16⟩
  | .local _ .vmem, ⟨3, _⟩ => ⟨S1024x2176, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S1024x4256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2176 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S1024x4256 : Shape := ⟨2, ![1024, 4256]⟩
abbrev S2048x4256 : Shape := ⟨2, ![2048, 4256]⟩
abbrev S_ : Shape := ⟨0, ![]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x4256, .f32⟩
  | .hbm, ⟨1, _⟩ => ⟨S2048x4256, .f32⟩
  | .hbm, ⟨2, _⟩ => ⟨S_, .f32⟩
  | .hbm, ⟨3, _⟩ => ⟨S2048x1024, .f32⟩
  | .hbm, ⟨4, _⟩ => ⟨S2048x4256, .f32⟩
  | .hbm, ⟨5, _⟩ => ⟨S2048x1024, .f32⟩
  | _, _ => ⟨S1024x4256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S2048x1024 : Shape := ⟨2, ![2048, 1024]⟩
abbrev S2048x4256 : Shape := ⟨2, ![2048, 4256]⟩
abbrev S2048x1536 : Shape := ⟨2, ![2048, 1536]⟩
abbrev S2048x256 : Shape := ⟨2, ![2048, 256]⟩
abbrev S2048x384 : Shape := ⟨2, ![2048, 384]⟩
abbrev S_ : Shape := ⟨0, ![]⟩
abbrev S2048x64 : Shape := ⟨2, ![2048, 64]⟩
abbrev S2048x32 : Shape := ⟨2, ![2048, 32]⟩
abbrev S2048x4352 : Shape := ⟨2, ![2048, 4352]⟩
abbrev S1024x4352 : Shape := ⟨2, ![1024, 4352]⟩
abbrev S1024x512 : Shape := ⟨2, ![1024, 512]⟩
abbrev S1024x2176 : Shape := ⟨2, ![1024, 2176]⟩
abbrev S512x2176 : Shape := ⟨2, ![512, 2176]⟩
abbrev S1024x1536 : Shape := ⟨2, ![1024, 1536]⟩
abbrev S1024x384 : Shape := ⟨2, ![1024, 384]⟩
abbrev S1024x256 : Shape := ⟨2, ![1024, 256]⟩
abbrev S1024x32 : Shape := ⟨2, ![1024, 32]⟩
abbrev S1024x2048 : Shape := ⟨2, ![1024, 2048]⟩
abbrev S1024x4256 : Shape := ⟨2, ![1024, 4256]⟩

abbrev nBuf : Space → Nat
  | .hbm => 21
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x4256, .f32⟩
  | .hbm, ⟨2, _⟩ => ⟨S2048x1024, .bf16⟩
  | .hbm, ⟨3, _⟩ => ⟨S2048x1024, .f32⟩
  | .hbm, ⟨4, _⟩ => ⟨S2048x1024, .f32⟩
  | .hbm, ⟨5, _⟩ => ⟨S2048x1536, .f32⟩
  | .hbm, ⟨6, _⟩ => ⟨S2048x256, .f32⟩
  | .hbm, ⟨7, _⟩ => ⟨S2048x384, .f32⟩
  | .hbm, ⟨8, _⟩ => ⟨S_, .f32⟩
  | .hbm, ⟨9, _⟩ => ⟨S2048x64, .f32⟩
  | .hbm, ⟨10, _⟩ => ⟨S2048x32, .f32⟩
  | .hbm, ⟨11, _⟩ => ⟨S_, .f32⟩
  | .hbm, ⟨12, _⟩ => ⟨S2048x32, .f32⟩
  | .hbm, ⟨13, _⟩ => ⟨S2048x4352, .f32⟩
  | .hbm, ⟨14, _⟩ => ⟨S1024x4352, .f32⟩
  | .hbm, ⟨15, _⟩ => ⟨S1024x1536, .f32⟩
  | .hbm, ⟨16, _⟩ => ⟨S1024x384, .f32⟩
  | .hbm, ⟨17, _⟩ => ⟨S1024x256, .f32⟩
  | .hbm, ⟨18, _⟩ => ⟨S1024x32, .f32⟩
  | .hbm, ⟨19, _⟩ => ⟨S1024x2048, .f32⟩
  | .hbm, ⟨20, _⟩ => ⟨S1024x4256, .f32⟩
  | .local _ .vmem, ⟨0, _⟩ => ⟨S1024x512, .bf16⟩
  | .local _ .vmem, ⟨1, _⟩ => ⟨S1024x512, .bf16⟩
  | .local _ .vmem, ⟨2, _⟩ => ⟨S1024x2176, .f32⟩
  | .local _ .vmem, ⟨3, _⟩ => ⟨S1024x2176, .f32⟩
  | .local _ .vmem, ⟨4, _⟩ => ⟨S512x2176, .f32⟩
  | .local _ .vmem, ⟨5, _⟩ => ⟨S512x2176, .f32⟩
  | .local _ .vmem, ⟨6, _⟩ => ⟨S512x2176, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2176 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x1024 : Shape := ⟨2, ![2048, 1024]⟩
abbrev S2048x4256 : Shape := ⟨2, ![2048, 4256]⟩
abbrev S_ : Shape := ⟨0, ![]⟩
abbrev S1024x4256 : Shape := ⟨2, ![1024, 4256]⟩
abbrev S4256x1024 : Shape := ⟨2, ![4256, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4256, .f32⟩
  | .hbm, ⟨2, _⟩ => ⟨S_, .f32⟩
  | .hbm, ⟨3, _⟩ => ⟨S1024x4256, .f32⟩
  | .hbm, ⟨4, _⟩ => ⟨S2048x4256, .f32⟩
  | .hbm, ⟨5, _⟩ => ⟨S4256x1024, .f32⟩
  | .hbm, ⟨6, _⟩ => ⟨S1024x4256, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S2048x1024 : Shape := ⟨2, ![2048, 1024]⟩
abbrev S1024x4096 : Shape := ⟨2, ![1024, 4096]⟩
abbrev S4096x1024 : Shape := ⟨2, ![4096, 1024]⟩
abbrev S2048x4096 : Shape := ⟨2, ![2048, 4096]⟩
abbrev S_ : Shape := ⟨0, ![]⟩
abbrev S4x1024x1024 : Shape := ⟨3, ![4, 1024, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 12
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4096x1024, .f32⟩
  | .hbm, ⟨3, _⟩ => ⟨S2048x4096, .f32⟩
  | .hbm, ⟨4, _⟩ => ⟨S_, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S2048x4096, .bf16⟩
  | .hbm, ⟨9, _⟩ => ⟨S4096x1024, .bf16⟩
  | .hbm, ⟨10, _⟩ => ⟨S4x1024x1024, .bf16⟩
  | .hbm, ⟨11, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x1024 : Shape := ⟨2, ![2048, 1024]⟩
abbrev S1024x4096 : Shape := ⟨2, ![1024, 4096]⟩
abbrev S4096x1024 : Shape := ⟨2, ![4096, 1024]⟩
abbrev S2048x4096 : Shape := ⟨2, ![2048, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4096x1024, .f32⟩
  | .hbm, ⟨3, _⟩ => ⟨S2048x4096, .f32⟩
  | .hbm, ⟨4, _⟩ => ⟨S_, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== Kernel9.lean ====
abbrev S2048x1024 : Shape := ⟨2, ![2048, 1024]⟩
abbrev S1024x4256 : Shape := ⟨2, ![1024, 4256]⟩
abbrev S1024x1024 : Shape := ⟨2, ![1024, 1024]⟩
abbrev S1024x1536 : Shape := ⟨2, ![1024, 1536]⟩
abbrev S1024x256 : Shape := ⟨2, ![1024, 256]⟩
abbrev S1024x384 : Shape := ⟨2, ![1024, 384]⟩
abbrev S_ : Shape := ⟨0, ![]⟩
abbrev S1024x64 : Shape := ⟨2, ![1024, 64]⟩
abbrev S1024x32 : Shape := ⟨2, ![1024, 32]⟩
abbrev S1024x4352 : Shape := ⟨2, ![1024, 4352]⟩
abbrev S2048x4352 : Shape := ⟨2, ![2048, 4352]⟩
abbrev S512x1024 : Shape := ⟨2, ![512, 1024]⟩
abbrev S1024x2176 : Shape := ⟨2, ![1024, 2176]⟩
abbrev S512x2176 : Shape := ⟨2, ![512, 2176]⟩
abbrev S2048x1536 : Shape := ⟨2, ![2048, 1536]⟩
abbrev S2048x384 : Shape := ⟨2, ![2048, 384]⟩
abbrev S2048x256 : Shape := ⟨2, ![2048, 256]⟩
abbrev S2048x32 : Shape := ⟨2, ![2048, 32]⟩
abbrev S2048x2048 : Shape := ⟨2, ![2048, 2048]⟩
abbrev S2048x4256 : Shape := ⟨2, ![2048, 4256]⟩

abbrev nBuf : Space → Nat
  | .hbm => 22
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x4256, .f32⟩
  | .hbm, ⟨2, _⟩ => ⟨S2048x1024, .bf16⟩
  | .hbm, ⟨3, _⟩ => ⟨S1024x4256, .bf16⟩
  | .hbm, ⟨4, _⟩ => ⟨S1024x1024, .bf16⟩
  | .hbm, ⟨5, _⟩ => ⟨S1024x1024, .bf16⟩
  | .hbm, ⟨6, _⟩ => ⟨S1024x1536, .bf16⟩
  | .hbm, ⟨7, _⟩ => ⟨S1024x256, .bf16⟩
  | .hbm, ⟨8, _⟩ => ⟨S1024x384, .bf16⟩
  | .hbm, ⟨9, _⟩ => ⟨S_, .bf16⟩
  | .hbm, ⟨10, _⟩ => ⟨S1024x64, .bf16⟩
  | .hbm, ⟨11, _⟩ => ⟨S1024x32, .bf16⟩
  | .hbm, ⟨12, _⟩ => ⟨S_, .bf16⟩
  | .hbm, ⟨13, _⟩ => ⟨S1024x32, .bf16⟩
  | .hbm, ⟨14, _⟩ => ⟨S1024x4352, .bf16⟩
  | .hbm, ⟨15, _⟩ => ⟨S2048x4352, .f32⟩
  | .hbm, ⟨16, _⟩ => ⟨S2048x1536, .f32⟩
  | .hbm, ⟨17, _⟩ => ⟨S2048x384, .f32⟩
  | .hbm, ⟨18, _⟩ => ⟨S2048x256, .f32⟩
  | .hbm, ⟨19, _⟩ => ⟨S2048x32, .f32⟩
  | .hbm, ⟨20, _⟩ => ⟨S2048x2048, .f32⟩
  | .hbm, ⟨21, _⟩ => ⟨S2048x4256, .f32⟩
  | .local _ .vmem, ⟨0, _⟩ => ⟨S512x1024, .bf16⟩
  | .local _ .vmem, ⟨1, _⟩ => ⟨S512x1024, .bf16⟩
  | .local _ .vmem, ⟨2, _⟩ => ⟨S1024x2176, .bf16⟩
  | .local _ .vmem, ⟨3, _⟩ => ⟨S1024x2176, .bf16⟩
  | .local _ .vmem, ⟨4, _⟩ => ⟨S512x2176, .f32⟩
  | .local _ .vmem, ⟨5, _⟩ => ⟨S512x2176, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x1024 : Shape := ⟨2, ![2048, 1024]⟩
abbrev S1024x4256 : Shape := ⟨2, ![1024, 4256]⟩
abbrev S2048x4256 : Shape := ⟨2, ![2048, 4256]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4256, .f32⟩
  | .hbm, ⟨2, _⟩ => ⟨S2048x4256, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel10.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 8
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S1024x1024, .bf16⟩
  | .hbm, ⟨4, _⟩ => ⟨S2048x1024, .bf16⟩
  | .hbm, ⟨5, _⟩ => ⟨S2048x1024, .f32⟩
  | .hbm, ⟨6, _⟩ => ⟨S2048x1024, .bf16⟩
  | .hbm, ⟨7, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== Reference10Ideal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .f32⟩
  | .hbm, ⟨4, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel11.lean ====
abbrev S2048x1024 : Shape := ⟨2, ![2048, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S2048x1024, .bf16⟩
  | .hbm, ⟨4, _⟩ => ⟨S1024x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S1024x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S2048x512 : Shape := ⟨2, ![2048, 512]⟩
abbrev S512x1024 : Shape := ⟨2, ![512, 1024]⟩
abbrev S2048x1024 : Shape := ⟨2, ![2048, 1024]⟩
abbrev S512x512 : Shape := ⟨2, ![512, 512]⟩

abbrev nBuf : Space → Nat
  | .hbm => 8
  | .vmem => 10
  | .smem => 0
  | _ => 0

abbrev bufTy : (tb : Table) → Fin (tcTables nBuf tb) → BufTy
  | .hbm, ⟨0, _⟩ => ⟨S2048x512, .f32⟩
  | .hbm, ⟨1, _⟩ => ⟨S512x1024, .f32⟩
  | .hbm, ⟨2, _⟩ => ⟨S2048x1024, .f32⟩
  | .hbm, ⟨3, _⟩ => ⟨S512x1024, .bf16⟩
  | .hbm, ⟨4, _⟩ => ⟨S2048x512, .bf16⟩
  | .hbm, ⟨5, _⟩ => ⟨S2048x1024, .f32⟩
  | .hbm, ⟨6, _⟩ => ⟨S2048x1024, .bf16⟩
  | .hbm, ⟨7, _⟩ => ⟨S2048x512, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x512, .f32⟩
  | .local _ .vmem, ⟨9, _⟩ => ⟨S512x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S512x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== Reference12Ideal.lean ====
abbrev S2048x512 : Shape := ⟨2, ![2048, 512]⟩
abbrev S512x1024 : Shape := ⟨2, ![512, 1024]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x1024, .f32⟩
  | .hbm, ⟨2, _⟩ => ⟨S2048x1024, .f32⟩
  | .hbm, ⟨3, _⟩ => ⟨S2048x1024, .f32⟩
  | .hbm, ⟨4, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel13.lean ====
abbrev S2048x512 : Shape := ⟨2, ![2048, 512]⟩
abbrev S2048x1024 : Shape := ⟨2, ![2048, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x512, .f32⟩
  | .hbm, ⟨1, _⟩ => ⟨S2048x1024, .f32⟩
  | .hbm, ⟨2, _⟩ => ⟨S2048x512, .bf16⟩
  | .hbm, ⟨3, _⟩ => ⟨S2048x1024, .bf16⟩
  | .hbm, ⟨4, _⟩ => ⟨S512x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S2048x512 : Shape := ⟨2, ![2048, 512]⟩
abbrev S2048x1024 : Shape := ⟨2, ![2048, 1024]⟩
abbrev S_ : Shape := ⟨0, ![]⟩
abbrev S512x1024 : Shape := ⟨2, ![512, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x1024, .f32⟩
  | .hbm, ⟨2, _⟩ => ⟨S_, .f32⟩
  | .hbm, ⟨3, _⟩ => ⟨S512x1024, .f32⟩
  | .hbm, ⟨4, _⟩ => ⟨S2048x1024, .f32⟩
  | .hbm, ⟨5, _⟩ => ⟨S1024x512, .f32⟩
  | .hbm, ⟨6, _⟩ => ⟨S512x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S2048x512 : Shape := ⟨2, ![2048, 512]⟩
abbrev S512x1024 : Shape := ⟨2, ![512, 1024]⟩
abbrev S2048x1024 : Shape := ⟨2, ![2048, 1024]⟩
abbrev S8x64x1024 : Shape := ⟨3, ![8, 64, 1024]⟩
abbrev S_ : Shape := ⟨0, ![]⟩
abbrev S8x128x1024 : Shape := ⟨3, ![8, 128, 1024]⟩
abbrev S1024x1024 : Shape := ⟨2, ![1024, 1024]⟩
abbrev S2048x8x64 : Shape := ⟨3, ![2048, 8, 64]⟩
abbrev S2048x8x128 : Shape := ⟨3, ![2048, 8, 128]⟩

abbrev nBuf : Space → Nat
  | .hbm => 21
  | .vmem => 10
  | .smem => 0
  | _ => 0

abbrev bufTy : (tb : Table) → Fin (tcTables nBuf tb) → BufTy
  | .hbm, ⟨0, _⟩ => ⟨S2048x512, .f32⟩
  | .hbm, ⟨1, _⟩ => ⟨S512x1024, .f32⟩
  | .hbm, ⟨2, _⟩ => ⟨S2048x1024, .f32⟩
  | .hbm, ⟨3, _⟩ => ⟨S512x1024, .bf16⟩
  | .hbm, ⟨4, _⟩ => ⟨S8x64x1024, .bf16⟩
  | .hbm, ⟨5, _⟩ => ⟨S_, .i32⟩
  | .hbm, ⟨6, _⟩ => ⟨S_, .bf16⟩
  | .hbm, ⟨7, _⟩ => ⟨S8x128x1024, .bf16⟩
  | .hbm, ⟨8, _⟩ => ⟨S1024x1024, .bf16⟩
  | .hbm, ⟨9, _⟩ => ⟨S2048x512, .bf16⟩
  | .hbm, ⟨10, _⟩ => ⟨S2048x8x64, .bf16⟩
  | .hbm, ⟨11, _⟩ => ⟨S_, .i32⟩
  | .hbm, ⟨12, _⟩ => ⟨S_, .bf16⟩
  | .hbm, ⟨13, _⟩ => ⟨S2048x8x128, .bf16⟩
  | .hbm, ⟨14, _⟩ => ⟨S2048x1024, .bf16⟩
  | .hbm, ⟨15, _⟩ => ⟨S2048x1024, .f32⟩
  | .hbm, ⟨16, _⟩ => ⟨S2048x1024, .bf16⟩
  | .hbm, ⟨17, _⟩ => ⟨S2048x1024, .f32⟩
  | .hbm, ⟨18, _⟩ => ⟨S2048x8x128, .f32⟩
  | .hbm, ⟨19, _⟩ => ⟨S2048x8x64, .f32⟩
  | .hbm, ⟨20, _⟩ => ⟨S2048x512, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== Reference14Ideal.lean ====
abbrev S2048x512 : Shape := ⟨2, ![2048, 512]⟩
abbrev S512x1024 : Shape := ⟨2, ![512, 1024]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x1024, .f32⟩
  | .hbm, ⟨2, _⟩ => ⟨S2048x1024, .f32⟩
  | .hbm, ⟨3, _⟩ => ⟨S2048x1024, .f32⟩
  | .hbm, ⟨4, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel15.lean ====
abbrev S2048x512 : Shape := ⟨2, ![2048, 512]⟩
abbrev S2048x1024 : Shape := ⟨2, ![2048, 1024]⟩
abbrev S2048x8x64 : Shape := ⟨3, ![2048, 8, 64]⟩
abbrev S_ : Shape := ⟨0, ![]⟩
abbrev S2048x8x128 : Shape := ⟨3, ![2048, 8, 128]⟩
abbrev S1024x1024 : Shape := ⟨2, ![1024, 1024]⟩
abbrev S1024x512 : Shape := ⟨2, ![1024, 512]⟩
abbrev S512x1024 : Shape := ⟨2, ![512, 1024]⟩
abbrev S8x128x1024 : Shape := ⟨3, ![8, 128, 1024]⟩
abbrev S8x64x1024 : Shape := ⟨3, ![8, 64, 1024]⟩

abbrev nBuf : Space → Nat
  | .hbm => 13
  | .vmem => 7
  | .smem => 0
  | _ => 0

abbrev bufTy : (tb : Table) → Fin (tcTables nBuf tb) → BufTy
  | .hbm, ⟨0, _⟩ => ⟨S2048x512, .f32⟩
  | .hbm, ⟨1, _⟩ => ⟨S2048x1024, .f32⟩
  | .hbm, ⟨2, _⟩ => ⟨S2048x512, .bf16⟩
  | .hbm, ⟨3, _⟩ => ⟨S2048x8x64, .bf16⟩
  | .hbm, ⟨4, _⟩ => ⟨S_, .i32⟩
  | .hbm, ⟨5, _⟩ => ⟨S_, .bf16⟩
  | .hbm, ⟨6, _⟩ => ⟨S2048x8x128, .bf16⟩
  | .hbm, ⟨7, _⟩ => ⟨S2048x1024, .bf16⟩
  | .hbm, ⟨8, _⟩ => ⟨S2048x1024, .bf16⟩
  | .hbm, ⟨9, _⟩ => ⟨S1024x1024, .f32⟩
  | .hbm, ⟨10, _⟩ => ⟨S8x128x1024, .f32⟩
  | .hbm, ⟨11, _⟩ => ⟨S8x64x1024, .f32⟩
  | .hbm, ⟨12, _⟩ => ⟨S512x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S2048x512 : Shape := ⟨2, ![2048, 512]⟩
abbrev S2048x1024 : Shape := ⟨2, ![2048, 1024]⟩
abbrev S_ : Shape := ⟨0, ![]⟩
abbrev S512x1024 : Shape := ⟨2, ![512, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x1024, .f32⟩
  | .hbm, ⟨2, _⟩ => ⟨S_, .f32⟩
  | .hbm, ⟨3, _⟩ => ⟨S512x1024, .f32⟩
  | .hbm, ⟨4, _⟩ => ⟨S2048x1024, .f32⟩
  | .hbm, ⟨5, _⟩ => ⟨S1024x512, .f32⟩
  | .hbm, ⟨6, _⟩ => ⟨S512x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel16.lean ====
abbrev S2048x384 : Shape := ⟨2, ![2048, 384]⟩
abbrev S384x768 : Shape := ⟨2, ![384, 768]⟩
abbrev S2048x768 : Shape := ⟨2, ![2048, 768]⟩
abbrev S384x8x96 : Shape := ⟨3, ![384, 8, 96]⟩
abbrev S_ : Shape := ⟨0, ![]⟩
abbrev S384x8x128 : Shape := ⟨3, ![384, 8, 128]⟩
abbrev S384x1024 : Shape := ⟨2, ![384, 1024]⟩
abbrev S2048x1024 : Shape := ⟨2, ![2048, 1024]⟩
abbrev S512x384 : Shape := ⟨2, ![512, 384]⟩
abbrev S512x1024 : Shape := ⟨2, ![512, 1024]⟩
abbrev S2048x8x96 : Shape := ⟨3, ![2048, 8, 96]⟩
abbrev S2048x8x128 : Shape := ⟨3, ![2048, 8, 128]⟩

abbrev nBuf : Space → Nat
  | .hbm => 21
  | .vmem => 10
  | .smem => 0
  | _ => 0

abbrev bufTy : (tb : Table) → Fin (tcTables nBuf tb) → BufTy
  | .hbm, ⟨0, _⟩ => ⟨S2048x384, .f32⟩
  | .hbm, ⟨1, _⟩ => ⟨S384x768, .f32⟩
  | .hbm, ⟨2, _⟩ => ⟨S2048x768, .f32⟩
  | .hbm, ⟨3, _⟩ => ⟨S384x768, .bf16⟩
  | .hbm, ⟨4, _⟩ => ⟨S384x8x96, .bf16⟩
  | .hbm, ⟨5, _⟩ => ⟨S_, .i32⟩
  | .hbm, ⟨6, _⟩ => ⟨S_, .bf16⟩
  | .hbm, ⟨7, _⟩ => ⟨S384x8x128, .bf16⟩
  | .hbm, ⟨8, _⟩ => ⟨S384x1024, .bf16⟩
  | .hbm, ⟨9, _⟩ => ⟨S2048x384, .bf16⟩
  | .hbm, ⟨10, _⟩ => ⟨S2048x1024, .f32⟩
  | .hbm, ⟨11, _⟩ => ⟨S2048x768, .bf16⟩
  | .hbm, ⟨12, _⟩ => ⟨S2048x8x96, .bf16⟩
  | .hbm, ⟨13, _⟩ => ⟨S_, .i32⟩
  | .hbm, ⟨14, _⟩ => ⟨S_, .bf16⟩
  | .hbm, ⟨15, _⟩ => ⟨S2048x8x128, .bf16⟩
  | .hbm, ⟨16, _⟩ => ⟨S2048x1024, .bf16⟩
  | .hbm, ⟨17, _⟩ => ⟨S2048x384, .f32⟩
  | .hbm, ⟨18, _⟩ => ⟨S2048x8x128, .f32⟩
  | .hbm, ⟨19, _⟩ => ⟨S2048x8x96, .f32⟩
  | .hbm, ⟨20, _⟩ => ⟨S2048x768, .f32⟩
  | .local _ .vmem, ⟨0, _⟩ => ⟨S512x384, .bf16⟩
  | .local _ .vmem, ⟨1, _⟩ => ⟨S512x384, .bf16⟩
  | .local _ .vmem, ⟨2, _⟩ => ⟨S384x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S384x1024, .bf16⟩
  | .local _ .vmem, ⟨8, _⟩ => ⟨S512x384, .f32⟩
  | .local _ .vmem, ⟨9, _⟩ => ⟨S512x384, .f32⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_call1_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S384x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S512x384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== Reference16Ideal.lean ====
abbrev S2048x384 : Shape := ⟨2, ![2048, 384]⟩
abbrev S384x768 : Shape := ⟨2, ![384, 768]⟩
abbrev S2048x768 : Shape := ⟨2, ![2048, 768]⟩

abbrev nBuf : Space → Nat
  | .hbm => 5
  | .vmem => 0
  | .smem => 0
  | _ => 0

abbrev bufTy : (tb : Table) → Fin (tcTables nBuf tb) → BufTy
  | .hbm, ⟨0, _⟩ => ⟨S2048x384, .f32⟩
  | .hbm, ⟨1, _⟩ => ⟨S384x768, .f32⟩
  | .hbm, ⟨2, _⟩ => ⟨S2048x768, .f32⟩
  | .hbm, ⟨3, _⟩ => ⟨S2048x768, .f32⟩
  | .hbm, ⟨4, _⟩ => ⟨S2048x384, .f32⟩
  | _, _ => ⟨S2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel17.lean ====
abbrev S2048x384 : Shape := ⟨2, ![2048, 384]⟩
abbrev S2048x768 : Shape := ⟨2, ![2048, 768]⟩
abbrev S2048x8x96 : Shape := ⟨3, ![2048, 8, 96]⟩
abbrev S_ : Shape := ⟨0, ![]⟩
abbrev S2048x8x128 : Shape := ⟨3, ![2048, 8, 128]⟩
abbrev S2048x1024 : Shape := ⟨2, ![2048, 1024]⟩
abbrev S384x1024 : Shape := ⟨2, ![384, 1024]⟩
abbrev S1024x384 : Shape := ⟨2, ![1024, 384]⟩
abbrev S1024x1024 : Shape := ⟨2, ![1024, 1024]⟩
abbrev S384x8x128 : Shape := ⟨3, ![384, 8, 128]⟩
abbrev S384x8x96 : Shape := ⟨3, ![384, 8, 96]⟩
abbrev S384x768 : Shape := ⟨2, ![384, 768]⟩

abbrev nBuf : Space → Nat
  | .hbm => 13
  | .vmem => 6
  | .smem => 0
  | _ => 0

abbrev bufTy : (tb : Table) → Fin (tcTables nBuf tb) → BufTy
  | .hbm, ⟨0, _⟩ => ⟨S2048x384, .f32⟩
  | .hbm, ⟨1, _⟩ => ⟨S2048x768, .f32⟩
  | .hbm, ⟨2, _⟩ => ⟨S2048x384, .bf16⟩
  | .hbm, ⟨3, _⟩ => ⟨S2048x768, .bf16⟩
  | .hbm, ⟨4, _⟩ => ⟨S2048x8x96, .bf16⟩
  | .hbm, ⟨5, _⟩ => ⟨S_, .i32⟩
  | .hbm, ⟨6, _⟩ => ⟨S_, .bf16⟩
  | .hbm, ⟨7, _⟩ => ⟨S2048x8x128, .bf16⟩
  | .hbm, ⟨8, _⟩ => ⟨S2048x1024, .bf16⟩
  | .hbm, ⟨9, _⟩ => ⟨S384x1024, .f32⟩
  | .hbm, ⟨10, _⟩ => ⟨S384x8x128, .f32⟩
  | .hbm, ⟨11, _⟩ => ⟨S384x8x96, .f32⟩
  | .hbm, ⟨12, _⟩ => ⟨S384x768, .f32⟩
  | .local _ .vmem, ⟨0, _⟩ => ⟨S1024x384, .bf16⟩
  | .local _ .vmem, ⟨1, _⟩ => ⟨S1024x384, .bf16⟩
  | .local _ .vmem, ⟨2, _⟩ => ⟨S1024x1024, .bf16⟩
  | .local _ .vmem, ⟨3, _⟩ => ⟨S1024x1024, .bf16⟩
  | .local _ .vmem, ⟨4, _⟩ => ⟨S384x1024, .f32⟩
  | .local _ .vmem, ⟨5, _⟩ => ⟨S384x1024, .f32⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S384x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference17Ideal.lean ====
abbrev S2048x384 : Shape := ⟨2, ![2048, 384]⟩
abbrev S2048x768 : Shape := ⟨2, ![2048, 768]⟩
abbrev S_ : Shape := ⟨0, ![]⟩
abbrev S384x768 : Shape := ⟨2, ![384, 768]⟩
abbrev S768x384 : Shape := ⟨2, ![768, 384]⟩

abbrev nBuf : Space → Nat
  | .hbm => 7
  | .vmem => 0
  | .smem => 0
  | _ => 0

abbrev bufTy : (tb : Table) → Fin (tcTables nBuf tb) → BufTy
  | .hbm, ⟨0, _⟩ => ⟨S2048x384, .f32⟩
  | .hbm, ⟨1, _⟩ => ⟨S2048x768, .f32⟩
  | .hbm, ⟨2, _⟩ => ⟨S_, .f32⟩
  | .hbm, ⟨3, _⟩ => ⟨S384x768, .f32⟩
  | .hbm, ⟨4, _⟩ => ⟨S2048x768, .f32⟩
  | .hbm, ⟨5, _⟩ => ⟨S768x384, .f32⟩
  | .hbm, ⟨6, _⟩ => ⟨S384x768, .f32⟩
  | _, _ => ⟨S2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel18.lean ====
abbrev S2048x256 : Shape := ⟨2, ![2048, 256]⟩
abbrev S256x1024 : Shape := ⟨2, ![256, 1024]⟩
abbrev S2048x1024 : Shape := ⟨2, ![2048, 1024]⟩
abbrev S512x256 : Shape := ⟨2, ![512, 256]⟩
abbrev S512x1024 : Shape := ⟨2, ![512, 1024]⟩

abbrev nBuf : Space → Nat
  | .hbm => 7
  | .vmem => 10
  | .smem => 0
  | _ => 0

abbrev bufTy : (tb : Table) → Fin (tcTables nBuf tb) → BufTy
  | .hbm, ⟨0, _⟩ => ⟨S2048x256, .f32⟩
  | .hbm, ⟨1, _⟩ => ⟨S256x1024, .f32⟩
  | .hbm, ⟨2, _⟩ => ⟨S2048x1024, .f32⟩
  | .hbm, ⟨3, _⟩ => ⟨S256x1024, .bf16⟩
  | .hbm, ⟨4, _⟩ => ⟨S2048x256, .bf16⟩
  | .hbm, ⟨5, _⟩ => ⟨S2048x1024, .bf16⟩
  | .hbm, ⟨6, _⟩ => ⟨S2048x256, .f32⟩
  | .local _ .vmem, ⟨0, _⟩ => ⟨S512x256, .bf16⟩
  | .local _ .vmem, ⟨1, _⟩ => ⟨S512x256, .bf16⟩
  | .local _ .vmem, ⟨2, _⟩ => ⟨S256x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | .local _ .vmem, ⟨6, _⟩ => ⟨S512x1024, .f32⟩
  | .local _ .vmem, ⟨7, _⟩ => ⟨S256x1024, .bf16⟩
  | .local _ .vmem, ⟨8, _⟩ => ⟨S512x256, .f32⟩
  | .local _ .vmem, ⟨9, _⟩ => ⟨S512x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S256x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== Reference18Ideal.lean ====
abbrev S2048x256 : Shape := ⟨2, ![2048, 256]⟩
abbrev S256x1024 : Shape := ⟨2, ![256, 1024]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x1024, .f32⟩
  | .hbm, ⟨2, _⟩ => ⟨S2048x1024, .f32⟩
  | .hbm, ⟨3, _⟩ => ⟨S2048x1024, .f32⟩
  | .hbm, ⟨4, _⟩ => ⟨S2048x1024, .bf16⟩
  | .hbm, ⟨5, _⟩ => ⟨S2048x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel19.lean ====
abbrev S2048x256 : Shape := ⟨2, ![2048, 256]⟩
abbrev S2048x1024 : Shape := ⟨2, ![2048, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x256, .f32⟩
  | .hbm, ⟨1, _⟩ => ⟨S2048x1024, .f32⟩
  | .hbm, ⟨2, _⟩ => ⟨S2048x256, .bf16⟩
  | .hbm, ⟨3, _⟩ => ⟨S256x1024, .f32⟩
  | .local _ .vmem, ⟨0, _⟩ => ⟨S1024x256, .bf16⟩
  | .local _ .vmem, ⟨1, _⟩ => ⟨S1024x256, .bf16⟩
  | .local _ .vmem, ⟨2, _⟩ => ⟨S1024x1024, .f32⟩
  | .local _ .vmem, ⟨3, _⟩ => ⟨S1024x1024, .f32⟩
  | .local _ .vmem, ⟨4, _⟩ => ⟨S256x1024, .f32⟩
  | .local _ .vmem, ⟨5, _⟩ => ⟨S256x1024, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference19Ideal.lean ====
abbrev S2048x256 : Shape := ⟨2, ![2048, 256]⟩
abbrev S2048x1024 : Shape := ⟨2, ![2048, 1024]⟩
abbrev S_ : Shape := ⟨0, ![]⟩
abbrev S256x1024 : Shape := ⟨2, ![256, 1024]⟩
abbrev S1024x256 : Shape := ⟨2, ![1024, 256]⟩

abbrev nBuf : Space → Nat
  | .hbm => 7
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x1024, .f32⟩
  | .hbm, ⟨2, _⟩ => ⟨S_, .f32⟩
  | .hbm, ⟨3, _⟩ => ⟨S256x1024, .f32⟩
  | .hbm, ⟨4, _⟩ => ⟨S2048x1024, .f32⟩
  | .hbm, ⟨5, _⟩ => ⟨S1024x256, .f32⟩
  | .hbm, ⟨6, _⟩ => ⟨S256x1024, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel20.lean ====
abbrev S2048x4352 : Shape := ⟨2, ![2048, 4352]⟩
abbrev S2048x1024 : Shape := ⟨2, ![2048, 1024]⟩
abbrev S512x1024 : Shape := ⟨2, ![512, 1024]⟩

abbrev nBuf : Space → Nat
  | .hbm => 8
  | .vmem => 18
  | .smem => 0
  | _ => 0

abbrev bufTy : (tb : Table) → Fin (tcTables nBuf tb) → BufTy
  | .hbm, ⟨0, _⟩ => ⟨S2048x4352, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .bf16⟩
  | .hbm, ⟨5, _⟩ => ⟨S2048x1024, .bf16⟩
  | .hbm, ⟨6, _⟩ => ⟨S2048x1024, .f32⟩
  | .hbm, ⟨7, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | _, _ => ⟨S2048x4352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference20Ideal.lean ====
abbrev S2048x4352 : Shape := ⟨2, ![2048, 4352]⟩
abbrev S2048x1024 : Shape := ⟨2, ![2048, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S2048x4352, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .bf16⟩
  | .hbm, ⟨42, _⟩ => ⟨S2048x1024, .bf16⟩
  | _, _ => ⟨S2048x4352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Kernel21.lean ====
abbrev S2048x4352 : Shape := ⟨2, ![2048, 4352]⟩
abbrev S2048x1024 : Shape := ⟨2, ![2048, 1024]⟩
abbrev S512x1024 : Shape := ⟨2, ![512, 1024]⟩

abbrev nBuf : Space → Nat
  | .hbm => 4
  | .vmem => 10
  | .smem => 0
  | _ => 0

abbrev bufTy : (tb : Table) → Fin (tcTables nBuf tb) → BufTy
  | .hbm, ⟨0, _⟩ => ⟨S2048x4352, .f32⟩
  | .hbm, ⟨1, _⟩ => ⟨S2048x1024, .f32⟩
  | .hbm, ⟨2, _⟩ => ⟨S2048x1024, .f32⟩
  | .hbm, ⟨3, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S2048x4352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference21Ideal.lean ====
abbrev S2048x4352 : Shape := ⟨2, ![2048, 4352]⟩
abbrev S2048x1024 : Shape := ⟨2, ![2048, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S2048x4352, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .bf16⟩
  | _, _ => ⟨S2048x4352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel22.lean ====
abbrev S2048x1024 : Shape := ⟨2, ![2048, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .bf16⟩
  | .hbm, ⟨4, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference22Ideal.lean ====
abbrev S2048x1024 : Shape := ⟨2, ![2048, 1024]⟩
abbrev S1x1024 : Shape := ⟨2, ![1, 1024]⟩
abbrev S_ : Shape := ⟨0, ![]⟩
abbrev S1024 : Shape := ⟨1, ![1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel23.lean ====
abbrev S2048x1024 : Shape := ⟨2, ![2048, 1024]⟩
abbrev S1x1024 : Shape := ⟨2, ![1, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference23Ideal.lean ====
abbrev S2048x1024 : Shape := ⟨2, ![2048, 1024]⟩
abbrev S1x1024 : Shape := ⟨2, ![1, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel24.lean ====
abbrev S4096x1024 : Shape := ⟨2, ![4096, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference24Ideal.lean ====
abbrev S4096x1024 : Shape := ⟨2, ![4096, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S4096x1536 : Shape := ⟨2, ![4096, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference25Ideal.lean ====
abbrev S4096x1536 : Shape := ⟨2, ![4096, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S_, .f32⟩
  | .hbm, ⟨5, _⟩ => ⟨S4096x1536, .f32⟩
  | .hbm, ⟨6, _⟩ => ⟨S4096x1536, .f32⟩
  | .hbm, ⟨7, _⟩ => ⟨S_, .f32⟩
  | .hbm, ⟨8, _⟩ => ⟨S4096x1536, .f32⟩
  | .hbm, ⟨9, _⟩ => ⟨S4096x1536, .f32⟩
  | .hbm, ⟨10, _⟩ => ⟨S4096x1536, .f32⟩
  | .hbm, ⟨11, _⟩ => ⟨S_, .f32⟩
  | .hbm, ⟨12, _⟩ => ⟨S4096x1536, .f32⟩
  | .hbm, ⟨13, _⟩ => ⟨S4096x1536, .f32⟩
  | .hbm, ⟨14, _⟩ => ⟨S4096x1536, .f32⟩
  | .hbm, ⟨15, _⟩ => ⟨S_, .f32⟩
  | .hbm, ⟨16, _⟩ => ⟨S4096x1536, .f32⟩
  | .hbm, ⟨17, _⟩ => ⟨S4096x1536, .f32⟩
  | .hbm, ⟨18, _⟩ => ⟨S4096x1536, .f32⟩
  | .hbm, ⟨19, _⟩ => ⟨S_, .f32⟩
  | .hbm, ⟨20, _⟩ => ⟨S4096x1536, .f32⟩
  | .hbm, ⟨21, _⟩ => ⟨S4096x1536, .f32⟩
  | .hbm, ⟨22, _⟩ => ⟨S_, .f32⟩
  | .hbm, ⟨23, _⟩ => ⟨S4096x1536, .f32⟩
  | .hbm, ⟨24, _⟩ => ⟨S4096x1536, .f32⟩
  | .hbm, ⟨25, _⟩ => ⟨S4096x1536, .f32⟩
  | .hbm, ⟨26, _⟩ => ⟨S_, .f32⟩
  | .hbm, ⟨27, _⟩ => ⟨S4096x1536, .f32⟩
  | .hbm, ⟨28, _⟩ => ⟨S4096x1536, .f32⟩
  | .hbm, ⟨29, _⟩ => ⟨S4096x1536, .f32⟩
  | .hbm, ⟨30, _⟩ => ⟨S_, .f32⟩
  | .hbm, ⟨31, _⟩ => ⟨S4096x1536, .f32⟩
  | .hbm, ⟨32, _⟩ => ⟨S4096x1536, .f32⟩
  | .hbm, ⟨33, _⟩ => ⟨S4096x1536, .f32⟩
  | .hbm, ⟨34, _⟩ => ⟨S_, .f32⟩
  | .hbm, ⟨35, _⟩ => ⟨S4096x1536, .f32⟩
  | .hbm, ⟨36, _⟩ => ⟨S4096x1536, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S4x6144 : Shape := ⟨2, ![4, 6144]⟩

abbrev nBuf : Space → Nat
  | .hbm => 7
  | .vmem => 7
  | .smem => 0
  | _ => 0

abbrev bufTy : (tb : Table) → Fin (tcTables nBuf tb) → BufTy
  | .hbm, ⟨0, _⟩ => ⟨S4x6144, .f32⟩
  | .hbm, ⟨1, _⟩ => ⟨S4x6144, .f32⟩
  | .hbm, ⟨2, _⟩ => ⟨S4x6144, .f32⟩
  | .hbm, ⟨3, _⟩ => ⟨S4x6144, .f32⟩
  | .hbm, ⟨4, _⟩ => ⟨S4x6144, .f32⟩
  | .hbm, ⟨5, _⟩ => ⟨S4x6144, .f32⟩
  | .hbm, ⟨6, _⟩ => ⟨S4x6144, .f32⟩
  | .local _ .vmem, ⟨0, _⟩ => ⟨S4x6144, .f32⟩
  | .local _ .vmem, ⟨1, _⟩ => ⟨S4x6144, .f32⟩
  | .local _ .vmem, ⟨2, _⟩ => ⟨S4x6144, .f32⟩
  | .local _ .vmem, ⟨3, _⟩ => ⟨S4x6144, .f32⟩
  | .local _ .vmem, ⟨4, _⟩ => ⟨S4x6144, .f32⟩
  | .local _ .vmem, ⟨5, _⟩ => ⟨S4x6144, .f32⟩
  | .local _ .vmem, ⟨6, _⟩ => ⟨S4x6144, .f32⟩
  | _, _ => ⟨S4x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference26Ideal.lean ====
abbrev S4x6144 : Shape := ⟨2, ![4, 6144]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x6144, .f32⟩
  | .hbm, ⟨1, _⟩ => ⟨S4x6144, .f32⟩
  | .hbm, ⟨2, _⟩ => ⟨S4x6144, .f32⟩
  | .hbm, ⟨3, _⟩ => ⟨S4x6144, .f32⟩
  | .hbm, ⟨4, _⟩ => ⟨S_, .f32⟩
  | .hbm, ⟨5, _⟩ => ⟨S4x6144, .f32⟩
  | .hbm, ⟨6, _⟩ => ⟨S4x6144, .f32⟩
  | .hbm, ⟨7, _⟩ => ⟨S_, .f32⟩
  | .hbm, ⟨8, _⟩ => ⟨S4x6144, .f32⟩
  | .hbm, ⟨9, _⟩ => ⟨S4x6144, .f32⟩
  | .hbm, ⟨10, _⟩ => ⟨S4x6144, .f32⟩
  | .hbm, ⟨11, _⟩ => ⟨S_, .f32⟩
  | .hbm, ⟨12, _⟩ => ⟨S4x6144, .f32⟩
  | .hbm, ⟨13, _⟩ => ⟨S4x6144, .f32⟩
  | .hbm, ⟨14, _⟩ => ⟨S4x6144, .f32⟩
  | .hbm, ⟨15, _⟩ => ⟨S_, .f32⟩
  | .hbm, ⟨16, _⟩ => ⟨S4x6144, .f32⟩
  | .hbm, ⟨17, _⟩ => ⟨S4x6144, .f32⟩
  | .hbm, ⟨18, _⟩ => ⟨S4x6144, .f32⟩
  | .hbm, ⟨19, _⟩ => ⟨S_, .f32⟩
  | .hbm, ⟨20, _⟩ => ⟨S4x6144, .f32⟩
  | .hbm, ⟨21, _⟩ => ⟨S4x6144, .f32⟩
  | .hbm, ⟨22, _⟩ => ⟨S_, .f32⟩
  | .hbm, ⟨23, _⟩ => ⟨S4x6144, .f32⟩
  | .hbm, ⟨24, _⟩ => ⟨S4x6144, .f32⟩
  | .hbm, ⟨25, _⟩ => ⟨S4x6144, .f32⟩
  | .hbm, ⟨26, _⟩ => ⟨S_, .f32⟩
  | .hbm, ⟨27, _⟩ => ⟨S4x6144, .f32⟩
  | .hbm, ⟨28, _⟩ => ⟨S4x6144, .f32⟩
  | .hbm, ⟨29, _⟩ => ⟨S4x6144, .f32⟩
  | .hbm, ⟨30, _⟩ => ⟨S_, .f32⟩
  | .hbm, ⟨31, _⟩ => ⟨S4x6144, .f32⟩
  | .hbm, ⟨32, _⟩ => ⟨S4x6144, .f32⟩
  | .hbm, ⟨33, _⟩ => ⟨S4x6144, .f32⟩
  | .hbm, ⟨34, _⟩ => ⟨S_, .f32⟩
  | .hbm, ⟨35, _⟩ => ⟨S4x6144, .f32⟩
  | .hbm, ⟨36, _⟩ => ⟨S4x6144, .f32⟩
  | _, _ => ⟨S4x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel27.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference27Ideal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel28.lean ====
abbrev S4096x1064 : Shape := ⟨2, ![4096, 1064]⟩
abbrev S256x1064 : Shape := ⟨2, ![256, 1064]⟩

abbrev nBuf : Space → Nat
  | .hbm => 7
  | .vmem => 14
  | .smem => 0
  | _ => 0

abbrev bufTy : (tb : Table) → Fin (tcTables nBuf tb) → BufTy
  | .hbm, ⟨0, _⟩ => ⟨S4096x1064, .f32⟩
  | .hbm, ⟨1, _⟩ => ⟨S4096x1064, .f32⟩
  | .hbm, ⟨2, _⟩ => ⟨S4096x1064, .f32⟩
  | .hbm, ⟨3, _⟩ => ⟨S4096x1064, .f32⟩
  | .hbm, ⟨4, _⟩ => ⟨S4096x1064, .f32⟩
  | .hbm, ⟨5, _⟩ => ⟨S4096x1064, .f32⟩
  | .hbm, ⟨6, _⟩ => ⟨S4096x1064, .f32⟩
  | .local _ .vmem, ⟨0, _⟩ => ⟨S256x1064, .f32⟩
  | .local _ .vmem, ⟨1, _⟩ => ⟨S256x1064, .f32⟩
  | .local _ .vmem, ⟨2, _⟩ => ⟨S256x1064, .f32⟩
  | .local _ .vmem, ⟨3, _⟩ => ⟨S256x1064, .f32⟩
  | .local _ .vmem, ⟨4, _⟩ => ⟨S256x1064, .f32⟩
  | .local _ .vmem, ⟨5, _⟩ => ⟨S256x1064, .f32⟩
  | .local _ .vmem, ⟨6, _⟩ => ⟨S256x1064, .f32⟩
  | .local _ .vmem, ⟨7, _⟩ => ⟨S256x1064, .f32⟩
  | .local _ .vmem, ⟨8, _⟩ => ⟨S256x1064, .f32⟩
  | .local _ .vmem, ⟨9, _⟩ => ⟨S256x1064, .f32⟩
  | .local _ .vmem, ⟨10, _⟩ => ⟨S256x1064, .f32⟩
  | .local _ .vmem, ⟨11, _⟩ => ⟨S256x1064, .f32⟩
  | .local _ .vmem, ⟨12, _⟩ => ⟨S256x1064, .f32⟩
  | .local _ .vmem, ⟨13, _⟩ => ⟨S256x1064, .f32⟩
  | _, _ => ⟨S4096x1064, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1064 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1064 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1064 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1064 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1064 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1064 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1064 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference28Ideal.lean ====
abbrev S4096x1064 : Shape := ⟨2, ![4096, 1064]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1064, .f32⟩
  | .hbm, ⟨1, _⟩ => ⟨S4096x1064, .f32⟩
  | .hbm, ⟨2, _⟩ => ⟨S4096x1064, .f32⟩
  | .hbm, ⟨3, _⟩ => ⟨S4096x1064, .f32⟩
  | .hbm, ⟨4, _⟩ => ⟨S_, .f32⟩
  | .hbm, ⟨5, _⟩ => ⟨S4096x1064, .f32⟩
  | .hbm, ⟨6, _⟩ => ⟨S4096x1064, .f32⟩
  | .hbm, ⟨7, _⟩ => ⟨S_, .f32⟩
  | .hbm, ⟨8, _⟩ => ⟨S4096x1064, .f32⟩
  | .hbm, ⟨9, _⟩ => ⟨S4096x1064, .f32⟩
  | .hbm, ⟨10, _⟩ => ⟨S4096x1064, .f32⟩
  | .hbm, ⟨11, _⟩ => ⟨S_, .f32⟩
  | .hbm, ⟨12, _⟩ => ⟨S4096x1064, .f32⟩
  | .hbm, ⟨13, _⟩ => ⟨S4096x1064, .f32⟩
  | .hbm, ⟨14, _⟩ => ⟨S4096x1064, .f32⟩
  | .hbm, ⟨15, _⟩ => ⟨S_, .f32⟩
  | .hbm, ⟨16, _⟩ => ⟨S4096x1064, .f32⟩
  | .hbm, ⟨17, _⟩ => ⟨S4096x1064, .f32⟩
  | .hbm, ⟨18, _⟩ => ⟨S4096x1064, .f32⟩
  | .hbm, ⟨19, _⟩ => ⟨S_, .f32⟩
  | .hbm, ⟨20, _⟩ => ⟨S4096x1064, .f32⟩
  | .hbm, ⟨21, _⟩ => ⟨S4096x1064, .f32⟩
  | .hbm, ⟨22, _⟩ => ⟨S_, .f32⟩
  | .hbm, ⟨23, _⟩ => ⟨S4096x1064, .f32⟩
  | .hbm, ⟨24, _⟩ => ⟨S4096x1064, .f32⟩
  | .hbm, ⟨25, _⟩ => ⟨S4096x1064, .f32⟩
  | .hbm, ⟨26, _⟩ => ⟨S_, .f32⟩
  | .hbm, ⟨27, _⟩ => ⟨S4096x1064, .f32⟩
  | .hbm, ⟨28, _⟩ => ⟨S4096x1064, .f32⟩
  | .hbm, ⟨29, _⟩ => ⟨S4096x1064, .f32⟩
  | .hbm, ⟨30, _⟩ => ⟨S_, .f32⟩
  | .hbm, ⟨31, _⟩ => ⟨S4096x1064, .f32⟩
  | .hbm, ⟨32, _⟩ => ⟨S4096x1064, .f32⟩
  | .hbm, ⟨33, _⟩ => ⟨S4096x1064, .f32⟩
  | .hbm, ⟨34, _⟩ => ⟨S_, .f32⟩
  | .hbm, ⟨35, _⟩ => ⟨S4096x1064, .f32⟩
  | .hbm, ⟨36, _⟩ => ⟨S4096x1064, .f32⟩
  | _, _ => ⟨S4096x1064, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel29.lean ====
abbrev S4x384 : Shape := ⟨2, ![4, 384]⟩

abbrev nBuf : Space → Nat
  | .hbm => 7
  | .vmem => 7
  | .smem => 0
  | _ => 0

abbrev bufTy : (tb : Table) → Fin (tcTables nBuf tb) → BufTy
  | .hbm, ⟨0, _⟩ => ⟨S4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S4x384, .f32⟩
  | .hbm, ⟨5, _⟩ => ⟨S4x384, .f32⟩
  | .hbm, ⟨6, _⟩ => ⟨S4x384, .f32⟩
  | .local _ .vmem, ⟨0, _⟩ => ⟨S4x384, .f32⟩
  | .local _ .vmem, ⟨1, _⟩ => ⟨S4x384, .f32⟩
  | .local _ .vmem, ⟨2, _⟩ => ⟨S4x384, .f32⟩
  | .local _ .vmem, ⟨3, _⟩ => ⟨S4x384, .f32⟩
  | .local _ .vmem, ⟨4, _⟩ => ⟨S4x384, .f32⟩
  | .local _ .vmem, ⟨5, _⟩ => ⟨S4x384, .f32⟩
  | .local _ .vmem, ⟨6, _⟩ => ⟨S4x384, .f32⟩
  | _, _ => ⟨S4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference29Ideal.lean ====
abbrev S4x384 : Shape := ⟨2, ![4, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S_, .f32⟩
  | .hbm, ⟨5, _⟩ => ⟨S4x384, .f32⟩
  | .hbm, ⟨6, _⟩ => ⟨S4x384, .f32⟩
  | .hbm, ⟨7, _⟩ => ⟨S_, .f32⟩
  | .hbm, ⟨8, _⟩ => ⟨S4x384, .f32⟩
  | .hbm, ⟨9, _⟩ => ⟨S4x384, .f32⟩
  | .hbm, ⟨10, _⟩ => ⟨S4x384, .f32⟩
  | .hbm, ⟨11, _⟩ => ⟨S_, .f32⟩
  | .hbm, ⟨12, _⟩ => ⟨S4x384, .f32⟩
  | .hbm, ⟨13, _⟩ => ⟨S4x384, .f32⟩
  | .hbm, ⟨14, _⟩ => ⟨S4x384, .f32⟩
  | .hbm, ⟨15, _⟩ => ⟨S_, .f32⟩
  | .hbm, ⟨16, _⟩ => ⟨S4x384, .f32⟩
  | .hbm, ⟨17, _⟩ => ⟨S4x384, .f32⟩
  | .hbm, ⟨18, _⟩ => ⟨S4x384, .f32⟩
  | .hbm, ⟨19, _⟩ => ⟨S_, .f32⟩
  | .hbm, ⟨20, _⟩ => ⟨S4x384, .f32⟩
  | .hbm, ⟨21, _⟩ => ⟨S4x384, .f32⟩
  | .hbm, ⟨22, _⟩ => ⟨S_, .f32⟩
  | .hbm, ⟨23, _⟩ => ⟨S4x384, .f32⟩
  | .hbm, ⟨24, _⟩ => ⟨S4x384, .f32⟩
  | .hbm, ⟨25, _⟩ => ⟨S4x384, .f32⟩
  | .hbm, ⟨26, _⟩ => ⟨S_, .f32⟩
  | .hbm, ⟨27, _⟩ => ⟨S4x384, .f32⟩
  | .hbm, ⟨28, _⟩ => ⟨S4x384, .f32⟩
  | .hbm, ⟨29, _⟩ => ⟨S4x384, .f32⟩
  | .hbm, ⟨30, _⟩ => ⟨S_, .f32⟩
  | .hbm, ⟨31, _⟩ => ⟨S4x384, .f32⟩
  | .hbm, ⟨32, _⟩ => ⟨S4x384, .f32⟩
  | .hbm, ⟨33, _⟩ => ⟨S4x384, .f32⟩
  | .hbm, ⟨34, _⟩ => ⟨S_, .f32⟩
  | .hbm, ⟨35, _⟩ => ⟨S4x384, .f32⟩
  | .hbm, ⟨36, _⟩ => ⟨S4x384, .f32⟩
  | _, _ => ⟨S4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel30.lean ====
abbrev S1536x192 : Shape := ⟨2, ![1536, 192]⟩
abbrev S256x192 : Shape := ⟨2, ![256, 192]⟩

abbrev nBuf : Space → Nat
  | .hbm => 7
  | .vmem => 14
  | .smem => 0
  | _ => 0

abbrev bufTy : (tb : Table) → Fin (tcTables nBuf tb) → BufTy
  | .hbm, ⟨0, _⟩ => ⟨S1536x192, .f32⟩
  | .hbm, ⟨1, _⟩ => ⟨S1536x192, .f32⟩
  | .hbm, ⟨2, _⟩ => ⟨S1536x192, .f32⟩
  | .hbm, ⟨3, _⟩ => ⟨S1536x192, .f32⟩
  | .hbm, ⟨4, _⟩ => ⟨S1536x192, .f32⟩
  | .hbm, ⟨5, _⟩ => ⟨S1536x192, .f32⟩
  | .hbm, ⟨6, _⟩ => ⟨S1536x192, .f32⟩
  | .local _ .vmem, ⟨0, _⟩ => ⟨S256x192, .f32⟩
  | .local _ .vmem, ⟨1, _⟩ => ⟨S256x192, .f32⟩
  | .local _ .vmem, ⟨2, _⟩ => ⟨S256x192, .f32⟩
  | .local _ .vmem, ⟨3, _⟩ => ⟨S256x192, .f32⟩
  | .local _ .vmem, ⟨4, _⟩ => ⟨S256x192, .f32⟩
  | .local _ .vmem, ⟨5, _⟩ => ⟨S256x192, .f32⟩
  | .local _ .vmem, ⟨6, _⟩ => ⟨S256x192, .f32⟩
  | .local _ .vmem, ⟨7, _⟩ => ⟨S256x192, .f32⟩
  | .local _ .vmem, ⟨8, _⟩ => ⟨S256x192, .f32⟩
  | .local _ .vmem, ⟨9, _⟩ => ⟨S256x192, .f32⟩
  | .local _ .vmem, ⟨10, _⟩ => ⟨S256x192, .f32⟩
  | .local _ .vmem, ⟨11, _⟩ => ⟨S256x192, .f32⟩
  | .local _ .vmem, ⟨12, _⟩ => ⟨S256x192, .f32⟩
  | .local _ .vmem, ⟨13, _⟩ => ⟨S256x192, .f32⟩
  | _, _ => ⟨S1536x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference30Ideal.lean ====
abbrev S1536x192 : Shape := ⟨2, ![1536, 192]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1536x192, .f32⟩
  | .hbm, ⟨1, _⟩ => ⟨S1536x192, .f32⟩
  | .hbm, ⟨2, _⟩ => ⟨S1536x192, .f32⟩
  | .hbm, ⟨3, _⟩ => ⟨S1536x192, .f32⟩
  | .hbm, ⟨4, _⟩ => ⟨S_, .f32⟩
  | .hbm, ⟨5, _⟩ => ⟨S1536x192, .f32⟩
  | .hbm, ⟨6, _⟩ => ⟨S1536x192, .f32⟩
  | .hbm, ⟨7, _⟩ => ⟨S_, .f32⟩
  | .hbm, ⟨8, _⟩ => ⟨S1536x192, .f32⟩
  | .hbm, ⟨9, _⟩ => ⟨S1536x192, .f32⟩
  | .hbm, ⟨10, _⟩ => ⟨S1536x192, .f32⟩
  | .hbm, ⟨11, _⟩ => ⟨S_, .f32⟩
  | .hbm, ⟨12, _⟩ => ⟨S1536x192, .f32⟩
  | .hbm, ⟨13, _⟩ => ⟨S1536x192, .f32⟩
  | .hbm, ⟨14, _⟩ => ⟨S1536x192, .f32⟩
  | .hbm, ⟨15, _⟩ => ⟨S_, .f32⟩
  | .hbm, ⟨16, _⟩ => ⟨S1536x192, .f32⟩
  | .hbm, ⟨17, _⟩ => ⟨S1536x192, .f32⟩
  | .hbm, ⟨18, _⟩ => ⟨S1536x192, .f32⟩
  | .hbm, ⟨19, _⟩ => ⟨S_, .f32⟩
  | .hbm, ⟨20, _⟩ => ⟨S1536x192, .f32⟩
  | .hbm, ⟨21, _⟩ => ⟨S1536x192, .f32⟩
  | .hbm, ⟨22, _⟩ => ⟨S_, .f32⟩
  | .hbm, ⟨23, _⟩ => ⟨S1536x192, .f32⟩
  | .hbm, ⟨24, _⟩ => ⟨S1536x192, .f32⟩
  | .hbm, ⟨25, _⟩ => ⟨S1536x192, .f32⟩
  | .hbm, ⟨26, _⟩ => ⟨S_, .f32⟩
  | .hbm, ⟨27, _⟩ => ⟨S1536x192, .f32⟩
  | .hbm, ⟨28, _⟩ => ⟨S1536x192, .f32⟩
  | .hbm, ⟨29, _⟩ => ⟨S1536x192, .f32⟩
  | .hbm, ⟨30, _⟩ => ⟨S_, .f32⟩
  | .hbm, ⟨31, _⟩ => ⟨S1536x192, .f32⟩
  | .hbm, ⟨32, _⟩ => ⟨S1536x192, .f32⟩
  | .hbm, ⟨33, _⟩ => ⟨S1536x192, .f32⟩
  | .hbm, ⟨34, _⟩ => ⟨S_, .f32⟩
  | .hbm, ⟨35, _⟩ => ⟨S1536x192, .f32⟩
  | .hbm, ⟨36, _⟩ => ⟨S1536x192, .f32⟩
  | _, _ => ⟨S1536x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel31.lean ====
abbrev S4x256 : Shape := ⟨2, ![4, 256]⟩

abbrev nBuf : Space → Nat
  | .hbm => 7
  | .vmem => 7
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S4x256, .f32⟩
  | .hbm, ⟨5, _⟩ => ⟨S4x256, .f32⟩
  | .hbm, ⟨6, _⟩ => ⟨S4x256, .f32⟩
  | .local _ .vmem, ⟨0, _⟩ => ⟨S4x256, .f32⟩
  | .local _ .vmem, ⟨1, _⟩ => ⟨S4x256, .f32⟩
  | .local _ .vmem, ⟨2, _⟩ => ⟨S4x256, .f32⟩
  | .local _ .vmem, ⟨3, _⟩ => ⟨S4x256, .f32⟩
  | .local _ .vmem, ⟨4, _⟩ => ⟨S4x256, .f32⟩
  | .local _ .vmem, ⟨5, _⟩ => ⟨S4x256, .f32⟩
  | .local _ .vmem, ⟨6, _⟩ => ⟨S4x256, .f32⟩
  | _, _ => ⟨S4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference31Ideal.lean ====
abbrev S4x256 : Shape := ⟨2, ![4, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S_, .f32⟩
  | .hbm, ⟨5, _⟩ => ⟨S4x256, .f32⟩
  | .hbm, ⟨6, _⟩ => ⟨S4x256, .f32⟩
  | .hbm, ⟨7, _⟩ => ⟨S_, .f32⟩
  | .hbm, ⟨8, _⟩ => ⟨S4x256, .f32⟩
  | .hbm, ⟨9, _⟩ => ⟨S4x256, .f32⟩
  | .hbm, ⟨10, _⟩ => ⟨S4x256, .f32⟩
  | .hbm, ⟨11, _⟩ => ⟨S_, .f32⟩
  | .hbm, ⟨12, _⟩ => ⟨S4x256, .f32⟩
  | .hbm, ⟨13, _⟩ => ⟨S4x256, .f32⟩
  | .hbm, ⟨14, _⟩ => ⟨S4x256, .f32⟩
  | .hbm, ⟨15, _⟩ => ⟨S_, .f32⟩
  | .hbm, ⟨16, _⟩ => ⟨S4x256, .f32⟩
  | .hbm, ⟨17, _⟩ => ⟨S4x256, .f32⟩
  | .hbm, ⟨18, _⟩ => ⟨S4x256, .f32⟩
  | .hbm, ⟨19, _⟩ => ⟨S_, .f32⟩
  | .hbm, ⟨20, _⟩ => ⟨S4x256, .f32⟩
  | .hbm, ⟨21, _⟩ => ⟨S4x256, .f32⟩
  | .hbm, ⟨22, _⟩ => ⟨S_, .f32⟩
  | .hbm, ⟨23, _⟩ => ⟨S4x256, .f32⟩
  | .hbm, ⟨24, _⟩ => ⟨S4x256, .f32⟩
  | .hbm, ⟨25, _⟩ => ⟨S4x256, .f32⟩
  | .hbm, ⟨26, _⟩ => ⟨S_, .f32⟩
  | .hbm, ⟨27, _⟩ => ⟨S4x256, .f32⟩
  | .hbm, ⟨28, _⟩ => ⟨S4x256, .f32⟩
  | .hbm, ⟨29, _⟩ => ⟨S4x256, .f32⟩
  | .hbm, ⟨30, _⟩ => ⟨S_, .f32⟩
  | .hbm, ⟨31, _⟩ => ⟨S4x256, .f32⟩
  | .hbm, ⟨32, _⟩ => ⟨S4x256, .f32⟩
  | .hbm, ⟨33, _⟩ => ⟨S4x256, .f32⟩
  | .hbm, ⟨34, _⟩ => ⟨S_, .f32⟩
  | .hbm, ⟨35, _⟩ => ⟨S4x256, .f32⟩
  | .hbm, ⟨36, _⟩ => ⟨S4x256, .f32⟩
  | _, _ => ⟨S4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel32.lean ====
abbrev S1024x256 : Shape := ⟨2, ![1024, 256]⟩
abbrev S256x256 : Shape := ⟨2, ![256, 256]⟩

abbrev nBuf : Space → Nat
  | .hbm => 7
  | .vmem => 14
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference32Ideal.lean ====
abbrev S1024x256 : Shape := ⟨2, ![1024, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S_, .f32⟩
  | .hbm, ⟨5, _⟩ => ⟨S1024x256, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S_, .f32⟩
  | .hbm, ⟨12, _⟩ => ⟨S1024x256, .f32⟩
  | .hbm, ⟨13, _⟩ => ⟨S1024x256, .f32⟩
  | .hbm, ⟨14, _⟩ => ⟨S1024x256, .f32⟩
  | .hbm, ⟨15, _⟩ => ⟨S_, .f32⟩
  | .hbm, ⟨16, _⟩ => ⟨S1024x256, .f32⟩
  | .hbm, ⟨17, _⟩ => ⟨S1024x256, .f32⟩
  | .hbm, ⟨18, _⟩ => ⟨S1024x256, .f32⟩
  | .hbm, ⟨19, _⟩ => ⟨S_, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S1024x256, .f32⟩
  | .hbm, ⟨26, _⟩ => ⟨S_, .f32⟩
  | .hbm, ⟨27, _⟩ => ⟨S1024x256, .f32⟩
  | .hbm, ⟨28, _⟩ => ⟨S1024x256, .f32⟩
  | .hbm, ⟨29, _⟩ => ⟨S1024x256, .f32⟩
  | .hbm, ⟨30, _⟩ => ⟨S_, .f32⟩
  | .hbm, ⟨31, _⟩ => ⟨S1024x256, .f32⟩
  | .hbm, ⟨32, _⟩ => ⟨S1024x256, .f32⟩
  | .hbm, ⟨33, _⟩ => ⟨S1024x256, .f32⟩
  | .hbm, ⟨34, _⟩ => ⟨S_, .f32⟩
  | .hbm, ⟨35, _⟩ => ⟨S1024x256, .f32⟩
  | .hbm, ⟨36, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel33.lean ====
abbrev S2048x256 : Shape := ⟨2, ![2048, 256]⟩
abbrev S256x256 : Shape := ⟨2, ![256, 256]⟩

abbrev nBuf : Space → Nat
  | .hbm => 7
  | .vmem => 14
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S2048x256, .f32⟩
  | .hbm, ⟨4, _⟩ => ⟨S2048x256, .f32⟩
  | .hbm, ⟨5, _⟩ => ⟨S2048x256, .f32⟩
  | .hbm, ⟨6, _⟩ => ⟨S2048x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference33Ideal.lean ====
abbrev S2048x256 : Shape := ⟨2, ![2048, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S2048x256, .f32⟩
  | .hbm, ⟨4, _⟩ => ⟨S_, .f32⟩
  | .hbm, ⟨5, _⟩ => ⟨S2048x256, .f32⟩
  | .hbm, ⟨6, _⟩ => ⟨S2048x256, .f32⟩
  | .hbm, ⟨7, _⟩ => ⟨S_, .f32⟩
  | .hbm, ⟨8, _⟩ => ⟨S2048x256, .f32⟩
  | .hbm, ⟨9, _⟩ => ⟨S2048x256, .f32⟩
  | .hbm, ⟨10, _⟩ => ⟨S2048x256, .f32⟩
  | .hbm, ⟨11, _⟩ => ⟨S_, .f32⟩
  | .hbm, ⟨12, _⟩ => ⟨S2048x256, .f32⟩
  | .hbm, ⟨13, _⟩ => ⟨S2048x256, .f32⟩
  | .hbm, ⟨14, _⟩ => ⟨S2048x256, .f32⟩
  | .hbm, ⟨15, _⟩ => ⟨S_, .f32⟩
  | .hbm, ⟨16, _⟩ => ⟨S2048x256, .f32⟩
  | .hbm, ⟨17, _⟩ => ⟨S2048x256, .f32⟩
  | .hbm, ⟨18, _⟩ => ⟨S2048x256, .f32⟩
  | .hbm, ⟨19, _⟩ => ⟨S_, .f32⟩
  | .hbm, ⟨20, _⟩ => ⟨S2048x256, .f32⟩
  | .hbm, ⟨21, _⟩ => ⟨S2048x256, .f32⟩
  | .hbm, ⟨22, _⟩ => ⟨S_, .f32⟩
  | .hbm, ⟨23, _⟩ => ⟨S2048x256, .f32⟩
  | .hbm, ⟨24, _⟩ => ⟨S2048x256, .f32⟩
  | .hbm, ⟨25, _⟩ => ⟨S2048x256, .f32⟩
  | .hbm, ⟨26, _⟩ => ⟨S_, .f32⟩
  | .hbm, ⟨27, _⟩ => ⟨S2048x256, .f32⟩
  | .hbm, ⟨28, _⟩ => ⟨S2048x256, .f32⟩
  | .hbm, ⟨29, _⟩ => ⟨S2048x256, .f32⟩
  | .hbm, ⟨30, _⟩ => ⟨S_, .f32⟩
  | .hbm, ⟨31, _⟩ => ⟨S2048x256, .f32⟩
  | .hbm, ⟨32, _⟩ => ⟨S2048x256, .f32⟩
  | .hbm, ⟨33, _⟩ => ⟨S2048x256, .f32⟩
  | .hbm, ⟨34, _⟩ => ⟨S_, .f32⟩
  | .hbm, ⟨35, _⟩ => ⟨S2048x256, .f32⟩
  | .hbm, ⟨36, _⟩ => ⟨S2048x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel34.lean ====
abbrev S1024x1024 : Shape := ⟨2, ![1024, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference34Ideal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel35.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference35Ideal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel36.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference36Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel37.lean ====
abbrev S2048x4352 : Shape := ⟨2, ![2048, 4352]⟩
abbrev S1x384 : Shape := ⟨2, ![1, 384]⟩
abbrev S2048x384 : Shape := ⟨2, ![2048, 384]⟩
abbrev S512x384 : Shape := ⟨2, ![512, 384]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x4352, .f32⟩
  | .hbm, ⟨1, _⟩ => ⟨S1x384, .f32⟩
  | .hbm, ⟨2, _⟩ => ⟨S2048x384, .bf16⟩
  | .local _ .vmem, ⟨0, _⟩ => ⟨S512x384, .f32⟩
  | .local _ .vmem, ⟨1, _⟩ => ⟨S512x384, .f32⟩
  | .local _ .vmem, ⟨2, _⟩ => ⟨S1x384, .f32⟩
  | .local _ .vmem, ⟨3, _⟩ => ⟨S512x384, .bf16⟩
  | .local _ .vmem, ⟨4, _⟩ => ⟨S512x384, .bf16⟩
  | _, _ => ⟨S2048x4352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference37Ideal.lean ====
abbrev S2048x4352 : Shape := ⟨2, ![2048, 4352]⟩
abbrev S1x384 : Shape := ⟨2, ![1, 384]⟩
abbrev S2048x384 : Shape := ⟨2, ![2048, 384]⟩
abbrev S_ : Shape := ⟨0, ![]⟩
abbrev S2048 : Shape := ⟨1, ![2048]⟩
abbrev S2048x1 : Shape := ⟨2, ![2048, 1]⟩

abbrev nBuf : Space → Nat
  | .hbm => 19
  | .vmem => 0
  | .smem => 0
  | _ => 0

abbrev bufTy : (tb : Table) → Fin (tcTables nBuf tb) → BufTy
  | .hbm, ⟨0, _⟩ => ⟨S2048x4352, .f32⟩
  | .hbm, ⟨1, _⟩ => ⟨S1x384, .f32⟩
  | .hbm, ⟨2, _⟩ => ⟨S2048x384, .f32⟩
  | .hbm, ⟨3, _⟩ => ⟨S2048x384, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x384, .f32⟩
  | .hbm, ⟨15, _⟩ => ⟨S2048x384, .f32⟩
  | .hbm, ⟨16, _⟩ => ⟨S2048x384, .f32⟩
  | .hbm, ⟨17, _⟩ => ⟨S2048x384, .f32⟩
  | .hbm, ⟨18, _⟩ => ⟨S2048x384, .bf16⟩
  | _, _ => ⟨S2048x4352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel38.lean ====
abbrev S2048x4352 : Shape := ⟨2, ![2048, 4352]⟩
abbrev S1x256 : Shape := ⟨2, ![1, 256]⟩
abbrev S2048x256 : Shape := ⟨2, ![2048, 256]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x4352, .f32⟩
  | .hbm, ⟨1, _⟩ => ⟨S1x256, .f32⟩
  | .hbm, ⟨2, _⟩ => ⟨S2048x256, .bf16⟩
  | .local _ .vmem, ⟨0, _⟩ => ⟨S512x256, .f32⟩
  | .local _ .vmem, ⟨1, _⟩ => ⟨S512x256, .f32⟩
  | .local _ .vmem, ⟨2, _⟩ => ⟨S1x256, .f32⟩
  | .local _ .vmem, ⟨3, _⟩ => ⟨S512x256, .bf16⟩
  | .local _ .vmem, ⟨4, _⟩ => ⟨S512x256, .bf16⟩
  | _, _ => ⟨S2048x4352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference38Ideal.lean ====
abbrev S2048x4352 : Shape := ⟨2, ![2048, 4352]⟩
abbrev S1x256 : Shape := ⟨2, ![1, 256]⟩
abbrev S2048x256 : Shape := ⟨2, ![2048, 256]⟩
abbrev S_ : Shape := ⟨0, ![]⟩
abbrev S2048 : Shape := ⟨1, ![2048]⟩
abbrev S2048x1 : Shape := ⟨2, ![2048, 1]⟩

abbrev nBuf : Space → Nat
  | .hbm => 19
  | .vmem => 0
  | .smem => 0
  | _ => 0

abbrev bufTy : (tb : Table) → Fin (tcTables nBuf tb) → BufTy
  | .hbm, ⟨0, _⟩ => ⟨S2048x4352, .f32⟩
  | .hbm, ⟨1, _⟩ => ⟨S1x256, .f32⟩
  | .hbm, ⟨2, _⟩ => ⟨S2048x256, .f32⟩
  | .hbm, ⟨3, _⟩ => ⟨S2048x256, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x256, .f32⟩
  | .hbm, ⟨15, _⟩ => ⟨S2048x256, .f32⟩
  | .hbm, ⟨16, _⟩ => ⟨S2048x256, .f32⟩
  | .hbm, ⟨17, _⟩ => ⟨S2048x256, .f32⟩
  | .hbm, ⟨18, _⟩ => ⟨S2048x256, .bf16⟩
  | _, _ => ⟨S2048x4352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel39.lean ====
abbrev S8x48x1024 : Shape := ⟨3, ![8, 48, 1024]⟩
abbrev S48x1024 : Shape := ⟨2, ![48, 1024]⟩
abbrev S1x48x1024 : Shape := ⟨3, ![1, 48, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x48x1024, .f32⟩
  | .hbm, ⟨1, _⟩ => ⟨S48x1024, .f32⟩
  | .local _ .vmem, ⟨0, _⟩ => ⟨S8x48x1024, .f32⟩
  | .local _ .vmem, ⟨1, _⟩ => ⟨S48x1024, .f32⟩
  | _, _ => ⟨S8x48x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x48x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference39Ideal.lean ====
abbrev S8x48x1024 : Shape := ⟨3, ![8, 48, 1024]⟩
abbrev S_ : Shape := ⟨0, ![]⟩
abbrev S48x1024 : Shape := ⟨2, ![48, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x48x1024, .f32⟩
  | .hbm, ⟨1, _⟩ => ⟨S_, .f32⟩
  | .hbm, ⟨2, _⟩ => ⟨S48x1024, .f32⟩
  | _, _ => ⟨S8x48x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Real.lean ====
/- Blocks of the kernel's arrays read as tables of real numbers: an array whose entries are all finite is the
   coercion of a real table indexed by natural numbers, and each operation of the kernel acts on those tables. -/
module

public import proofs.«01_k».proof.KernelIdeal
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.ValueIdxCoords
public import Idealize.ShloMosaic.Lib.IdealHost
public import Mathlib.Analysis.SpecialFunctions.Log.Basic
public import Mathlib.Algebra.BigOperators.Intervals

@[expose] public section

noncomputable section

namespace Cert.Sb

open Idealize.ShloMosaic Idealize.ShloMosaic.ValueIdx
open scoped BigOperators

/-- The matrix `x` holds the real table `f`: entry `(r, c)` is the real number `f r c`. -/
def Rd {n m : ℕ} {φ : FTy} (x : FVec Ideal ⟨2, ![n, m]⟩ φ) (f : ℕ → ℕ → ℝ) : Prop :=
  ∀ (r : Fin n) (c : Fin m), (x (ix2 r c) : EReal) = ((f r.val c.val : ℝ) : EReal)

/-- The mask `b` holds the relation `p`: its bit at `(r, c)` is set exactly where `p r c`. -/
def Md {n m : ℕ} (b : IVec ⟨2, ![n, m]⟩ 1) (p : ℕ → ℕ → Prop) : Prop :=
  ∀ (r : Fin n) (c : Fin m), b (ix2 r c) = 1#1 ↔ p r.val c.val

variable {n m k : ℕ} {φ ψ : FTy}

/-- A table may be replaced by one that agrees with it inside the matrix. -/
theorem Rd.congr {x : FVec Ideal ⟨2, ![n, m]⟩ φ} {f g : ℕ → ℕ → ℝ} (h : Rd x f)
    (e : ∀ r c, r < n → c < m → f r c = g r c) : Rd x g :=
  fun r c => by rw [h r c, e r.val c.val r.isLt c.isLt]

/-- Two matrices holding tables that agree are equal. -/
theorem Rd.eq {x y : FVec Ideal ⟨2, ![n, m]⟩ φ} {f : ℕ → ℕ → ℝ} (h : Rd x f) (h' : Rd y f) : x = y := by
  funext j
  rw [eq_ix2 j]
  exact (h _ _).trans (h' _ _).symm

/-- A finite sum of real numbers, coerced. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A sum over `Fin n` of coerced reals is the coerced sum over the range. -/
theorem sum_fin_coe (f : ℕ → ℝ) : ∑ i : Fin n, ((f i.val : ℝ) : EReal) = ((∑ i ∈ Finset.range n, f i : ℝ) : EReal) := by
  rw [Finset.sum_range, coe_sum]

theorem Rd.addf {x y : FVec Ideal ⟨2, ![n, m]⟩ φ} {f g : ℕ → ℕ → ℝ} (hx : Rd x f) (hy : Rd y g) :
    Rd (addf x y) (fun r c => f r c + g r c) := fun r c => by
  rw [addf_apply, hx r c, hy r c, ← EReal.coe_add]

theorem Rd.subf {x y : FVec Ideal ⟨2, ![n, m]⟩ φ} {f g : ℕ → ℕ → ℝ} (hx : Rd x f) (hy : Rd y g) :
    Rd (subf x y) (fun r c => f r c - g r c) := fun r c => by
  rw [subf_apply, hx r c, hy r c, ← EReal.coe_sub]

theorem Rd.mulf {x y : FVec Ideal ⟨2, ![n, m]⟩ φ} {f g : ℕ → ℕ → ℝ} (hx : Rd x f) (hy : Rd y g) :
    Rd (mulf x y) (fun r c => f r c * g r c) := fun r c => by
  rw [mulf_apply, hx r c, hy r c, ← EReal.coe_mul]

theorem coe_max' (a b : ℝ) : ((max a b : ℝ) : EReal) = max (a : EReal) (b : EReal) :=
  Monotone.map_max EReal.coe_strictMono.monotone

theorem coe_min' (a b : ℝ) : ((min a b : ℝ) : EReal) = min (a : EReal) (b : EReal) :=
  Monotone.map_min EReal.coe_strictMono.monotone

theorem Rd.maximumf {x y : FVec Ideal ⟨2, ![n, m]⟩ φ} {f g : ℕ → ℕ → ℝ} (hx : Rd x f) (hy : Rd y g) :
    Rd (maximumf x y) (fun r c => max (f r c) (g r c)) := fun r c => by
  rw [maximumf_apply, hx r c, hy r c, coe_max']

theorem Rd.minimumf {x y : FVec Ideal ⟨2, ![n, m]⟩ φ} {f g : ℕ → ℕ → ℝ} (hx : Rd x f) (hy : Rd y g) :
    Rd (minimumf x y) (fun r c => min (f r c) (g r c)) := fun r c => by
  rw [minimumf_apply, hx r c, hy r c, coe_min']

theorem Rd.absf {x : FVec Ideal ⟨2, ![n, m]⟩ φ} {f : ℕ → ℕ → ℝ} (hx : Rd x f) :
    Rd (absf x) (fun r c => |f r c|) := fun r c => by
  show max (x (ix2 r c) : EReal) (-(x (ix2 r c) : EReal)) = _
  rw [hx r c, ← EReal.coe_neg, ← coe_max']
  rfl

theorem Rd.exp {x : FVec Ideal ⟨2, ![n, m]⟩ φ} {f : ℕ → ℕ → ℝ} (hx : Rd x f) :
    Rd (exp x) (fun r c => Real.exp (f r c)) := fun r c => by
  show Ideal.exp (x (ix2 r c) : EReal) = _
  rw [hx r c, Ideal.exp_coe]

theorem Rd.log {x : FVec Ideal ⟨2, ![n, m]⟩ φ} {f : ℕ → ℕ → ℝ} (hx : Rd x f) (hp : ∀ r c, 0 < f r c) :
    Rd (log x) (fun r c => Real.log (f r c)) := fun r c => by
  show Ideal.log (x (ix2 r c) : EReal) = _
  rw [hx r c, Ideal.log_coe, if_neg (not_le.2 (hp _ _))]

theorem Rd.truncf {x : FVec Ideal ⟨2, ![n, m]⟩ φ} {f : ℕ → ℕ → ℝ} (hx : Rd x f) (h : ψ.bits < φ.bits) :
    Rd (truncf ψ x h : FVec Ideal _ ψ) f := hx

theorem Rd.extf {x : FVec Ideal ⟨2, ![n, m]⟩ φ} {f : ℕ → ℕ → ℝ} (hx : Rd x f) (h : φ.bits < ψ.bits) :
    Rd (extf ψ x h : FVec Ideal _ ψ) f := hx

/-- The splat of the zero pattern. -/
theorem Rd.zero : Rd (broadcast ⟨2, ![n, m]⟩ (Scalar.ofBits .f32 0x00000000#32 : Ideal .f32)) (fun _ _ => 0) := fun r c => by
  show Ideal.ofBits .f32 0x00000000#32 = _
  rw [Ideal.ofBits_zero_f32]; rfl

/-- The zero constant. -/
theorem Rd.czero : Rd (constant (F := Ideal) ⟨2, ![n, m]⟩ .f32 0x00000000#32) (fun _ _ => 0) := fun r c => by
  show Ideal.ofBits .f32 0x00000000#32 = _
  rw [Ideal.ofBits_zero_f32]; rfl

/-- The splat of the pattern of one. -/
theorem Rd.one : Rd (broadcast ⟨2, ![n, m]⟩ (Scalar.ofBits .f32 0x3F800000#32 : Ideal .f32)) (fun _ _ => 1) := fun r c => by
  show Ideal.ofBits .f32 0x3F800000#32 = _
  rw [Ideal.ofBits_one_f32]; rfl

/-- The pattern of one eighth. -/
theorem ofBits_eighth : Ideal.ofBits .f32 0x3E000000#32 = (((1 : ℝ) / 8 : ℝ) : EReal) := by
  simp [Ideal.ofBits, Ideal.ieee]
  norm_num [← EReal.coe_mul]

/-- The splat of the pattern of one eighth. -/
theorem Rd.eighth : Rd (broadcast ⟨2, ![n, m]⟩ (Scalar.ofBits .f32 0x3E000000#32 : Ideal .f32)) (fun _ _ => 1 / 8) := fun r c => by
  show Ideal.ofBits .f32 0x3E000000#32 = _
  rw [ofBits_eighth]

theorem Rd.select {b : IVec ⟨2, ![n, m]⟩ 1} {p : ℕ → ℕ → Prop} [∀ r c, Decidable (p r c)]
    {x y : FVec Ideal ⟨2, ![n, m]⟩ φ} {f g : ℕ → ℕ → ℝ} (hb : Md b p) (hx : Rd x f) (hy : Rd y g) :
    Rd (φ := φ) (select b x y) (fun r c => if p r c then f r c else g r c) := fun r c => by
  rw [select_apply]
  beta_reduce
  by_cases h : p r.val c.val
  · rw [(hb r c).2 h, select_one, hx r c, if_pos h]
  · rw [eq_zero_of_ne_one (fun e => h ((hb r c).1 e)), select_zero, hy r c, if_neg h]

/-- A column spread over the columns of a wider matrix. -/
theorem Rd.bcol {x : FVec Ideal ⟨2, ![n, 1]⟩ φ} {f : ℕ → ℕ → ℝ} (hx : Rd x f)
    (h : (⟨2, ![n, 1]⟩ : Shape).Broadcasts ⟨2, ![n, m]⟩) (hn : n ≠ 1) :
    Rd (φ := φ) (broadcastTo ⟨2, ![n, m]⟩ x h) (fun r _ => f r 0) := fun r c => by
  refine Eq.trans ?_ (hx r 0)
  refine broadcastTo_apply x h (ix2 r c) (ix2 r 0) fun a => ?_
  match a with
  | ⟨0, _⟩ => exact (if_neg hn).symm
  | ⟨1, _⟩ => rfl

/-- Columns `o … o + k` of a matrix. -/
theorem Rd.cols {x : FVec Ideal ⟨2, ![n, m]⟩ φ} {f : ℕ → ℕ → ℝ} (hx : Rd x f) (o : ℕ)
    (h : (⟨2, ![n, m]⟩ : Shape).Slices ![0, o] ⟨2, ![n, k]⟩) :
    Rd (φ := φ) (extractStridedSlice ⟨2, ![n, k]⟩ ![0, o] x h) (fun r c => f r (o + c)) := fun r c => by
  rw [slice2_axis1_eq o x h r c, hx]

/-- The row sums of a matrix, as a column. -/
theorem Rd.rowSum {x : FVec Ideal ⟨2, ![n, m]⟩ .f32} {f : ℕ → ℕ → ℝ} (hx : Rd x f)
    (h : (⟨2, ![n, m]⟩ : Shape).Reduces [1] ⟨1, ![n]⟩) (hφ : FKind.Formats .f32)
    (hacc : 0x00000000#32 = FKind.add.neutral .f32 hφ) (h' : (⟨1, ![n]⟩ : Shape).ShapeCasts ⟨2, ![n, 1]⟩) :
    Rd (shapeCast ⟨2, ![n, 1]⟩ (multiReduction .add [1] ⟨1, ![n]⟩ x 0x00000000#32 h hφ hacc) h')
      (fun r _ => ∑ u ∈ Finset.range m, f r u) := fun r c => by
  have hc : c = 0 := Subsingleton.elim _ _
  subst hc
  rw [shapeCast_apply _ h' (ix2 r 0) (ix1 r) (by
    rw [Shape.rowMajor_val_one, Shape.rowMajor_val_two]
    show r.val = r.val * 1 + 0
    omega)]
  rw [Ideal.multiReduction_add_single, ← sum_fin_coe (n := m) (fun u => f r.val u)]
  refine Finset.sum_congr rfl fun u _ => ?_
  have e : h.lift (ix1 r) u = ix2 r u := by
    funext a
    apply Fin.ext
    match a with
    | ⟨0, _⟩ => rfl
    | ⟨1, _⟩ => rfl
  rw [e]
  exact hx r u

/-- Two matrices side by side. -/
theorem Rd.concat {x : FVec Ideal ⟨2, ![n, k]⟩ φ} {y : FVec Ideal ⟨2, ![n, m]⟩ φ} {f g : ℕ → ℕ → ℝ} (hx : Rd x f) (hy : Rd y g)
    {l : ℕ} (h : Shape.Concatenates [⟨2, ![n, k]⟩, ⟨2, ![n, m]⟩] ⟨2, ![n, l]⟩ 1) :
    Rd (φ := φ) (concatenate ⟨2, ![n, l]⟩ 1 [⟨⟨2, ![n, k]⟩, x⟩, ⟨⟨2, ![n, m]⟩, y⟩] h)
      (fun r c => if c < k then f r c else g r (c - k)) := fun r c => by
  have hl : k + m = l := by simpa using h.2.2
  beta_reduce
  by_cases hc : c.val < k
  · rw [if_pos hc, concatenate_pair_apply_left 1 x y h (ix2 r c) rfl (ix2 r ⟨c.val, hc⟩)
      (fun b => by match b with | ⟨0, _⟩ => rfl | ⟨1, _⟩ => rfl)]
    exact hx r ⟨c.val, hc⟩
  · have hc' : c.val - k < m := by have := c.isLt; omega
    rw [if_neg hc, concatenate_pair_apply_right 1 x y h (ix2 r c) rfl rfl (ix2 r ⟨c.val - k, hc'⟩)
      (fun b hb => by match b with | ⟨0, _⟩ => rfl | ⟨1, _⟩ => exact absurd rfl hb)
      (by show c.val - k + k = c.val; omega)]
    exact hy r ⟨c.val - k, hc'⟩

/-- A product of two matrices into the zero matrix. -/
theorem Rd.dotNN {x : FVec Ideal ⟨2, ![n, k]⟩ φ} {y : FVec Ideal ⟨2, ![k, m]⟩ ψ} {f g : ℕ → ℕ → ℝ} (hx : Rd x f) (hy : Rd y g) :
    Rd (matmul (F := Ideal) (DotDims.plain n k m) none x y (constant ⟨2, ![n, m]⟩ .f32 0x00000000#32))
      (fun r c => ∑ d ∈ Finset.range k, f r d * g d c) := fun r c => by
  show FloatOps.matmul (DotDims.plain n k m) none x y (constant ⟨2, ![n, m]⟩ .f32 0x00000000#32) (ix2 r c) = _
  rw [Ideal.matmul_plain_apply, Rd.czero r c, EReal.coe_zero, zero_add, ← sum_fin_coe (n := k) (fun d => f r.val d * g d c.val)]
  exact Finset.sum_congr rfl fun d _ => by rw [hx r d, hy d c, ← EReal.coe_mul]

/-- A product with the second matrix transposed. -/
theorem Rd.dotNT {x : FVec Ideal ⟨2, ![n, k]⟩ φ} {y : FVec Ideal ⟨2, ![m, k]⟩ ψ} {f g : ℕ → ℕ → ℝ} (hx : Rd x f) (hy : Rd y g) :
    Rd (matmul (F := Ideal) (DotDims.transposedRhs n k m) none x y (constant ⟨2, ![n, m]⟩ .f32 0x00000000#32))
      (fun r c => ∑ d ∈ Finset.range k, f r d * g c d) := fun r c => by
  show FloatOps.matmul (DotDims.transposedRhs n k m) none x y (constant ⟨2, ![n, m]⟩ .f32 0x00000000#32) (ix2 r c) = _
  rw [Ideal.matmul_transposedRhs_apply, Rd.czero r c, EReal.coe_zero, zero_add, ← sum_fin_coe (n := k) (fun d => f r.val d * g c.val d)]
  exact Finset.sum_congr rfl fun d _ => by rw [hx r d, hy c d, ← EReal.coe_mul]

/-- The product with the first matrix transposed: its one contracted axis is the first of both. -/
def dimsTN (k n m : ℕ) (wf : DotDims.WF ⟨2, ![k, n]⟩ ⟨2, ![k, m]⟩ ⟨2, ![n, m]⟩ [0] [0] [1] [1] [] []) :
    DotDims ⟨2, ![k, n]⟩ ⟨2, ![k, m]⟩ ⟨2, ![n, m]⟩ where
  lhsContracting := [0]
  rhsContracting := [0]
  lhsNonContracting := [1]
  rhsNonContracting := [1]
  lhsBatch := []
  rhsBatch := []
  wf := wf

/-- A product with the first matrix transposed, into the zero matrix. -/
theorem Rd.dotTN {x : FVec Ideal ⟨2, ![k, n]⟩ φ} {y : FVec Ideal ⟨2, ![k, m]⟩ ψ} {f g : ℕ → ℕ → ℝ} (hx : Rd x f) (hy : Rd y g)
    (wf : DotDims.WF ⟨2, ![k, n]⟩ ⟨2, ![k, m]⟩ ⟨2, ![n, m]⟩ [0] [0] [1] [1] [] []) :
    Rd (matmul (F := Ideal) (dimsTN k n m wf) none x y (constant ⟨2, ![n, m]⟩ .f32 0x00000000#32))
      (fun r c => ∑ d ∈ Finset.range k, f d r * g d c) := fun r c => by
  show FloatOps.matmul (dimsTN k n m wf) none x y (constant ⟨2, ![n, m]⟩ .f32 0x00000000#32) (ix2 r c) = _
  have h1 : (dimsTN k n m wf).contr.rank = 1 := rfl
  have h2 : (dimsTN k n m wf).contr.size ⟨0, by rw [h1]; exact Nat.one_pos⟩ = k := rfl
  rw [Ideal.matmul_apply, Rd.czero r c, EReal.coe_zero, zero_add, ← Equiv.sum_comp (contrEquiv1 _ k h1 h2).symm,
    ← sum_fin_coe (n := k) (fun d => f d r.val * g d c.val)]
  refine Finset.sum_congr rfl fun d _ => ?_
  have hd := contrEquiv1_symm_val _ k h1 h2 d
  have el : (dimsTN k n m wf).lhsIdx (ix2 r c) ((contrEquiv1 _ k h1 h2).symm d) = ix2 d r := by
    funext a; apply Fin.ext
    match a with
    | ⟨0, _⟩ => exact hd
    | ⟨1, _⟩ => rfl
  have er : (dimsTN k n m wf).rhsIdx (ix2 r c) ((contrEquiv1 _ k h1 h2).symm d) = ix2 d c := by
    funext a; apply Fin.ext
    match a with
    | ⟨0, _⟩ => exact hd
    | ⟨1, _⟩ => rfl
  rw [el, er, hx d r, hy d c, ← EReal.coe_mul]

end Cert.Sb

end
-- ==== Proof.Blocks.lean ====
/- The blocks one head and one pair of tiles go through, in the forward and in the backward kernel, named once, and
   what each holds as a table of real numbers. -/
module

public import proofs.«01_k».proof.Proof.Real
public import proofs.«01_k».proof.Proof.Gen.KernelIdeal.Skeleton

@[expose] public section

noncomputable section

namespace Cert.Sb

open Idealize.ShloMosaic Idealize.ShloMosaic.ValueIdx Cert.KernelIdeal Cert.KernelIdeal.Gen
open scoped BigOperators

/-! ## The blocks -/

/-- Scores: the product of two tiles along their lanes. -/
def bNT (a b : FVec Ideal S512x128 .bf16) : FVec Ideal S512x512 .f32 :=
  matmul dot_S512x128_S512x128_S512x512_1_1_0_0_n_n none a b (constant S512x512 .f32 0x00000000#32)
/-- A square block times a tile. -/
def bNN (a : FVec Ideal S512x512 .bf16) (b : FVec Ideal S512x128 .bf16) : FVec Ideal S512x128 .f32 :=
  matmul dot_S512x512_S512x128_S512x128_1_0_0_1_n_n none a b (constant S512x128 .f32 0x00000000#32)
/-- The transpose of a square block times a tile. -/
def bTN (a : FVec Ideal S512x512 .bf16) (b : FVec Ideal S512x128 .bf16) : FVec Ideal S512x128 .f32 :=
  matmul dot_S512x512_S512x128_S512x128_0_0_1_1_n_n none a b (constant S512x128 .f32 0x00000000#32)
/-- A square block of the pattern of one, and of the pattern of zero. -/
def b1 : FVec Ideal S512x512 .f32 := broadcast S512x512 (Scalar.ofBits .f32 0x3F800000#32)
/-- A square block of zeros. -/
def b0 : FVec Ideal S512x512 .f32 := broadcast S512x512 (Scalar.ofBits .f32 0x00000000#32)
/-- A tile of zeros. -/
def t0 : FVec Ideal S512x128 .f32 := broadcast S512x128 (Scalar.ofBits .f32 0x00000000#32)
/-- The logarithm of one plus the exponential of minus the absolute score. -/
def bSp (z : FVec Ideal S512x512 .f32) : FVec Ideal S512x512 .f32 := log (addf b1 (exp (subf b0 (absf z))))
/-- The logarithm of the sigmoid of the score. -/
def bLs (z : FVec Ideal S512x512 .f32) : FVec Ideal S512x512 .f32 := subf (minimumf z b0) (bSp z)
/-- The logarithm of one minus the sigmoid of the score. -/
def bLf (z : FVec Ideal S512x512 .f32) : FVec Ideal S512x512 .f32 := subf (subf b0 (maximumf z b0)) (bSp z)
/-- The left half of a square block's columns. -/
def bL (x : FVec Ideal S512x512 .f32) : FVec Ideal S512x256 .f32 :=
  extractStridedSlice S512x256 ![0, 0] x slices_S512x512_o0_0_S512x256
/-- The right half of a square block's columns. -/
def bR (x : FVec Ideal S512x512 .f32) : FVec Ideal S512x256 .f32 :=
  extractStridedSlice S512x256 ![0, 256] x slices_S512x512_o0_256_S512x256
/-- Row sums of half a block. -/
def bSum (x : FVec Ideal S512x256 .f32) : FVec Ideal S512x1 .f32 :=
  shapeCast S512x1 (multiReduction .add [1] S512 x 0x00000000#32 reduces_S512x256_S512 (.inl rfl) rfl) shapeCasts_S512_S512x1
/-- Half a block times a triangle, in two parts: the rounded block and what the rounding left. -/
def bTri (tri : FVec Ideal S256x256 .bf16) (x : FVec Ideal S512x256 .f32) : FVec Ideal S512x256 .f32 :=
  addf (matmul dot_S512x256_S256x256_S512x256_1_0_0_1_n_n none (truncf .bf16 x bitsLt_bf16_f32) tri (constant S512x256 .f32 0x00000000#32))
    (matmul dot_S512x256_S256x256_S512x256_1_0_0_1_n_n none
      (truncf .bf16 (subf x (extf .f32 (truncf .bf16 x bitsLt_bf16_f32) bitsLt_bf16_f32)) bitsLt_bf16_f32) tri (constant S512x256 .f32 0x00000000#32))
/-- Sums over the later columns of the block. -/
def bSfx (tri : FVec Ideal S256x256 .bf16) (x : FVec Ideal S512x512 .f32) : FVec Ideal S512x512 .f32 :=
  concatenate S512x512 1 [⟨S512x256, addf (bTri tri (bL x)) (broadcastTo S512x256 (bSum (bR x)) broadcasts_S512x1_S512x256)⟩,
    ⟨S512x256, bTri tri (bR x)⟩] concatenates_S512x256_S512x256_S512x512_d1
/-- Sums over the earlier columns of the block. -/
def bPfx (tri : FVec Ideal S256x256 .bf16) (x : FVec Ideal S512x512 .f32) : FVec Ideal S512x512 .f32 :=
  concatenate S512x512 1 [⟨S512x256, bTri tri (bL x)⟩,
    ⟨S512x256, addf (bTri tri (bR x)) (broadcastTo S512x256 (bSum (bL x)) broadcasts_S512x1_S512x256)⟩] concatenates_S512x256_S512x256_S512x512_d1
/-- Row sums of the whole block. -/
def bTot (x : FVec Ideal S512x512 .f32) : FVec Ideal S512x1 .f32 := addf (bSum (bL x)) (bSum (bR x))
/-- A column spread over a square block. -/
def bCol (x : FVec Ideal S512x1 .f32) : FVec Ideal S512x512 .f32 := broadcastTo S512x512 x broadcasts_S512x1_S512x512
/-- The weights: the exponential of the log-sigmoid, the later log-failures of the block and the carry. -/
def bA (ls sf : FVec Ideal S512x512 .f32) (cb : FVec Ideal S512x1 .f32) : FVec Ideal S512x512 .f32 := exp (addf (addf ls sf) (bCol cb))
/-- The scores' gradient from the log-weights' gradient, its earlier sums and the carry. -/
def bDz (dl ls pf : FVec Ideal S512x512 .f32) (fs : FVec Ideal S512x1 .f32) : FVec Ideal S512x512 .f32 :=
  subf (mulf dl (subf b1 (exp ls))) (mulf (exp ls) (addf pf (bCol fs)))
/-- The carry of one key tile, read out of the lanes of the carries' block. -/
def bPick (lane : IVec S512x128 32) (j : BitVec 32) (x : FVec Ideal S1x512x128 .f32) : FVec Ideal S512x1 .f32 :=
  shapeCast S512x1 (multiReduction .add [1] S512 (select (cmpi .eq lane (broadcast S512x128 j))
    (shapeCast S512x128 x shapeCasts_S1x512x128_S512x128) t0) 0x00000000#32 reduces_S512x128_S512 (.inl rfl) rfl) shapeCasts_S512_S512x1

/-! ## The real tables -/

/-- log (1 + exp (−|z|)). -/
def spF (z : ℝ) : ℝ := Real.log (1 + Real.exp (0 - |z|))
/-- The logarithm of the sigmoid. -/
def lsF (z : ℝ) : ℝ := min z 0 - spF z
/-- The logarithm of one minus the sigmoid. -/
def lfF (z : ℝ) : ℝ := (0 - max z 0) - spF z

/-- The table is the strict lower triangle's indicator. -/
def Lower (t : FVec Ideal S256x256 .bf16) : Prop := Rd t (fun r c => if c < r then 1 else 0)
/-- The table is the strict upper triangle's indicator. -/
def Upper (t : FVec Ideal S256x256 .bf16) : Prop := Rd t (fun r c => if r < c then 1 else 0)

variable {f g : ℕ → ℕ → ℝ}

theorem rd_b0 : Rd b0 (fun _ _ => 0) := Rd.zero
theorem rd_b1 : Rd b1 (fun _ _ => 1) := Rd.one
theorem rd_t0 : Rd t0 (fun _ _ => 0) := Rd.zero

theorem rd_bNT {a b : FVec Ideal S512x128 .bf16} (ha : Rd a f) (hb : Rd b g) :
    Rd (bNT a b) (fun r c => ∑ d ∈ Finset.range 128, f r d * g c d) := Rd.dotNT ha hb

theorem rd_bNN {a : FVec Ideal S512x512 .bf16} {b : FVec Ideal S512x128 .bf16} (ha : Rd a f) (hb : Rd b g) :
    Rd (bNN a b) (fun r c => ∑ d ∈ Finset.range 512, f r d * g d c) := Rd.dotNN ha hb

theorem rd_bTN {a : FVec Ideal S512x512 .bf16} {b : FVec Ideal S512x128 .bf16} (ha : Rd a f) (hb : Rd b g) :
    Rd (bTN a b) (fun r c => ∑ d ∈ Finset.range 512, f d r * g d c) := Rd.dotTN ha hb _

theorem rd_bSp {z : FVec Ideal S512x512 .f32} (hz : Rd z f) : Rd (bSp z) (fun r c => spF (f r c)) :=
  (rd_b1.addf ((rd_b0.subf hz.absf).exp)).log fun r c => by positivity

theorem rd_bLs {z : FVec Ideal S512x512 .f32} (hz : Rd z f) : Rd (bLs z) (fun r c => lsF (f r c)) :=
  (hz.minimumf rd_b0).subf (rd_bSp hz)

theorem rd_bLf {z : FVec Ideal S512x512 .f32} (hz : Rd z f) : Rd (bLf z) (fun r c => lfF (f r c)) :=
  (rd_b0.subf (hz.maximumf rd_b0)).subf (rd_bSp hz)

theorem rd_bL {x : FVec Ideal S512x512 .f32} (hx : Rd x f) : Rd (bL x) (fun r c => f r (0 + c)) := hx.cols 0 _
theorem rd_bR {x : FVec Ideal S512x512 .f32} (hx : Rd x f) : Rd (bR x) (fun r c => f r (256 + c)) := hx.cols 256 _

theorem rd_bSum {x : FVec Ideal S512x256 .f32} (hx : Rd x f) : Rd (bSum x) (fun r _ => ∑ u ∈ Finset.range 256, f r u) :=
  hx.rowSum _ _ _ _

theorem rd_bTri {t : FVec Ideal S256x256 .bf16} {x : FVec Ideal S512x256 .f32} (ht : Rd t g) (hx : Rd x f) :
    Rd (bTri t x) (fun r c => ∑ u ∈ Finset.range 256, f r u * g u c) := by
  have h : Rd (bTri t x) (fun r c => (∑ u ∈ Finset.range 256, f r u * g u c) + ∑ u ∈ Finset.range 256, (f r u - f r u) * g u c) :=
    (Rd.dotNN (hx.truncf _) ht).addf (Rd.dotNN ((hx.subf ((hx.truncf _).extf _)).truncf _) ht)
  exact h.congr fun r c _ _ => by simp

theorem rd_bCol {x : FVec Ideal S512x1 .f32} (hx : Rd x f) : Rd (bCol x) (fun r _ => f r 0) := hx.bcol _ (by decide)

/-- Sums against the indicator of the later positions. -/
theorem sum_lower (f : ℕ → ℝ) (n c : ℕ) (hc : c < n) :
    ∑ u ∈ Finset.range n, f u * (if c < u then (1 : ℝ) else 0) = ∑ u ∈ Finset.Ico (c + 1) n, f u := by
  simp only [mul_ite, mul_one, mul_zero]
  rw [← Finset.sum_filter]
  refine Finset.sum_congr ?_ fun _ _ => rfl
  ext u
  simp only [Finset.mem_filter, Finset.mem_range, Finset.mem_Ico]
  omega

/-- Sums against the indicator of the earlier positions. -/
theorem sum_upper (f : ℕ → ℝ) (n c : ℕ) (hc : c < n) :
    ∑ u ∈ Finset.range n, f u * (if u < c then (1 : ℝ) else 0) = ∑ u ∈ Finset.range c, f u := by
  simp only [mul_ite, mul_one, mul_zero]
  rw [← Finset.sum_filter]
  refine Finset.sum_congr ?_ fun _ _ => rfl
  ext u
  simp only [Finset.mem_filter, Finset.mem_range]
  omega

/-- A sum over the second half of the columns, as an interval. -/
theorem sum_shift (f : ℕ → ℝ) (o a b : ℕ) : ∑ u ∈ Finset.Ico a b, f (o + u) = ∑ u ∈ Finset.Ico (o + a) (o + b), f u := by
  rw [Finset.sum_Ico_add, Nat.add_comm a, Nat.add_comm b]

theorem rd_bSfx {t : FVec Ideal S256x256 .bf16} {x : FVec Ideal S512x512 .f32} (ht : Lower t) (hx : Rd x f) :
    Rd (bSfx t x) (fun r c => ∑ u ∈ Finset.Ico (c + 1) 512, f r u) := by
  have h := ((rd_bTri ht (rd_bL hx)).addf ((rd_bSum (rd_bR hx)).bcol broadcasts_S512x1_S512x256 (by decide))).concat
    (rd_bTri ht (rd_bR hx)) concatenates_S512x256_S512x256_S512x512_d1
  refine Rd.congr (x := bSfx t x) h fun r c hr hc => ?_
  beta_reduce
  split
  · rename_i hc'
    rw [sum_lower (fun u => f r (0 + u)) 256 c hc', ← Finset.sum_Ico_consecutive (f r) (show c + 1 ≤ 256 by omega) (show 256 ≤ 512 by omega),
      Finset.range_eq_Ico, sum_shift (f r) 256 0 256]
    simp
  · rename_i hc'
    rw [sum_lower (fun u => f r (256 + u)) 256 (c - 256) (by omega), sum_shift (f r) 256]
    congr 2
    omega

theorem rd_bPfx {t : FVec Ideal S256x256 .bf16} {x : FVec Ideal S512x512 .f32} (ht : Upper t) (hx : Rd x f) :
    Rd (bPfx t x) (fun r c => ∑ u ∈ Finset.range c, f r u) := by
  have h := (rd_bTri ht (rd_bL hx)).concat
    ((rd_bTri ht (rd_bR hx)).addf ((rd_bSum (rd_bL hx)).bcol broadcasts_S512x1_S512x256 (by decide))) concatenates_S512x256_S512x256_S512x512_d1
  refine Rd.congr (x := bPfx t x) h fun r c hr hc => ?_
  beta_reduce
  split
  · rename_i hc'
    rw [sum_upper (fun u => f r (0 + u)) 256 c hc']
    simp
  · rename_i hc'
    rw [sum_upper (fun u => f r (256 + u)) 256 (c - 256) (by omega), Finset.range_eq_Ico, Finset.range_eq_Ico, Finset.range_eq_Ico,
      ← Finset.sum_Ico_consecutive (f r) (show 0 ≤ 256 by omega) (show 256 ≤ c by omega), sum_shift (f r) 256, add_comm]
    have e : 256 + (c - 256) = c := by omega
    simp [e]

theorem rd_bTot {x : FVec Ideal S512x512 .f32} (hx : Rd x f) : Rd (bTot x) (fun r _ => ∑ u ∈ Finset.range 512, f r u) := by
  refine Rd.congr (x := bTot x) ((rd_bSum (rd_bL hx)).addf (rd_bSum (rd_bR hx))) fun r c _ _ => ?_
  beta_reduce
  rw [Finset.range_eq_Ico, Finset.range_eq_Ico, ← Finset.sum_Ico_consecutive (f r) (show 0 ≤ 256 by omega) (show 256 ≤ 512 by omega),
    sum_shift (f r) 256]
  simp

theorem rd_bA {ls sf : FVec Ideal S512x512 .f32} {cb : FVec Ideal S512x1 .f32} {h : ℕ → ℕ → ℝ} (h1 : Rd ls f) (h2 : Rd sf g) (h3 : Rd cb h) :
    Rd (bA ls sf cb) (fun r c => Real.exp (f r c + g r c + h r 0)) := ((h1.addf h2).addf (rd_bCol h3)).exp

theorem rd_bDz {dl ls pf : FVec Ideal S512x512 .f32} {fs : FVec Ideal S512x1 .f32} {d h : ℕ → ℕ → ℝ} (h0 : Rd dl d) (h1 : Rd ls f) (h2 : Rd pf g)
    (h3 : Rd fs h) :
    Rd (bDz dl ls pf fs) (fun r c => d r c * (1 - Real.exp (f r c)) - Real.exp (f r c) * (g r c + h r 0)) :=
  (h0.mulf (rd_b1.subf h1.exp)).subf (h1.exp.mulf (h2.addf (rd_bCol h3)))

/-- Picking lane `j` of a carries' block whose lane `j` holds `g`. -/
theorem rd_bPick {lane : IVec S512x128 32} (hl : ∀ (r : Fin 512) (c : Fin 128), lane (ix2 r c) = BitVec.ofNat 32 c.val)
    {x : FVec Ideal S1x512x128 .f32} {g : ℕ → ℝ} (j : ℕ) (hj : j < 128)
    (hx : ∀ r : Fin 512, (x (ix3 (0 : Fin 1) r ⟨j, hj⟩) : EReal) = ((g r.val : ℝ) : EReal)) :
    Rd (bPick lane (BitVec.ofNat 32 j) x) (fun r _ => g r) := by
  have h : Rd (φ := .f32) (select (cmpi .eq lane (broadcast S512x128 (BitVec.ofNat 32 j))) (shapeCast S512x128 x shapeCasts_S1x512x128_S512x128) t0)
      (fun r c => if c = j then g r else 0) := fun r u => by
    rw [select_apply]
    have hm : cmpi .eq lane (broadcast S512x128 (BitVec.ofNat 32 j)) (ix2 r u) = BitVec.ofBool (decide (u.val = j)) := by
      show BitVec.ofBool (lane (ix2 r u) == BitVec.ofNat 32 j) = _
      rw [hl r u]
      congr 1
      have := u.isLt
      rw [Bool.eq_iff_iff]
      simp only [beq_iff_eq, decide_eq_true_eq]
      constructor
      · intro h
        have := congrArg BitVec.toNat h
        simp only [BitVec.toNat_ofNat] at this
        omega
      · intro h; rw [h]
    rw [hm]
    beta_reduce
    by_cases hu : u.val = j
    · have hu' : u = ⟨j, hj⟩ := Fin.ext hu
      rw [if_pos hu, decide_eq_true hu]
      show shapeCast S512x128 x _ (ix2 r u) = _
      rw [shapeCast_1ab_ab_apply, hu', hx]
    · rw [if_neg hu, decide_eq_false hu]
      exact rd_t0 r u
  refine Rd.congr (x := bPick lane (BitVec.ofNat 32 j) x) (h.rowSum _ _ _ _) fun r c _ _ => ?_
  rw [Finset.sum_ite_eq' (Finset.range 128) j, if_pos (Finset.mem_range.2 hj)]

end Cert.Sb

end
-- ==== Proof.Tile.lean ====
/- One head's work on one tile of queries against one tile of keys, in the backward kernel: the weights, the gradients
   of the log-weights and of the scores, as blocks and as tables of real numbers. -/
module

public import proofs.«01_k».proof.Proof.Blocks

@[expose] public section

noncomputable section

namespace Cert.Sb

open Idealize.ShloMosaic Idealize.ShloMosaic.ValueIdx Cert.KernelIdeal Cert.KernelIdeal.Gen
open scoped BigOperators

/-! ## The tables -/

/-- The score of row `r` against column `c`. -/
def zT (Q K : ℕ → ℕ → ℝ) (r c : ℕ) : ℝ := ∑ d ∈ Finset.range 128, Q r d * K c d
/-- The log-failure of a pair that the mask keeps. -/
def lfT (M : ℕ → ℕ → Bool) (Q K : ℕ → ℕ → ℝ) (r c : ℕ) : ℝ := if M r c then lfF (zT Q K r c) else 0
/-- The weight of a pair that the mask keeps. -/
def aT (M : ℕ → ℕ → Bool) (Q K : ℕ → ℕ → ℝ) (C : ℕ → ℝ) (r c : ℕ) : ℝ :=
  if M r c then Real.exp (lsF (zT Q K r c) + (∑ u ∈ Finset.Ico (c + 1) 512, lfT M Q K r u) + C r) else 0
/-- The gradient of the log-weight. -/
def dlT (M : ℕ → ℕ → Bool) (Q K G V : ℕ → ℕ → ℝ) (C : ℕ → ℝ) (r c : ℕ) : ℝ := zT G V r c * aT M Q K C r c
/-- The gradient of the score. -/
def dzT (M : ℕ → ℕ → Bool) (Q K G V : ℕ → ℕ → ℝ) (C F : ℕ → ℝ) (r c : ℕ) : ℝ :=
  if M r c then dlT M Q K G V C r c * (1 - Real.exp (lsF (zT Q K r c)))
    - Real.exp (lsF (zT Q K r c)) * ((∑ u ∈ Finset.range c, dlT M Q K G V C r u) + F r) else 0

/-! ## The blocks -/

/-- A tile's lanes of one head, rounded. -/
def qM (m : IVec S512x128 1) (x : FVec Ideal S512x128 .f32) : FVec Ideal S512x128 .bf16 := truncf .bf16 (select m x t0) bitsLt_bf16_f32
/-- A tile, rounded. -/
def tr (x : FVec Ideal S512x128 .f32) : FVec Ideal S512x128 .bf16 := truncf .bf16 x bitsLt_bf16_f32
/-- The weights of one head. -/
def hA (lo : FVec Ideal S256x256 .bf16) (q k : FVec Ideal S512x128 .bf16) (cb : FVec Ideal S512x1 .f32) : FVec Ideal S512x512 .f32 :=
  bA (bLs (bNT q k)) (bSfx lo (bLf (bNT q k))) cb
/-- The log-weights' gradient of one head. -/
def hDl (lo : FVec Ideal S256x256 .bf16) (q k g v : FVec Ideal S512x128 .bf16) (cb : FVec Ideal S512x1 .f32) : FVec Ideal S512x512 .f32 :=
  mulf (bNT g v) (hA lo q k cb)
/-- The scores' gradient of one head, rounded. -/
def hDz (lo up : FVec Ideal S256x256 .bf16) (q k g v : FVec Ideal S512x128 .bf16) (cb fs : FVec Ideal S512x1 .f32) :
    FVec Ideal S512x512 .bf16 :=
  truncf .bf16 (bDz (hDl lo q k g v cb) (bLs (bNT q k)) (bPfx up (hDl lo q k g v cb)) fs) bitsLt_bf16_f32
/-- The weights of one head on the diagonal. -/
def mA (mk : IVec S512x512 1) (lo : FVec Ideal S256x256 .bf16) (q k : FVec Ideal S512x128 .bf16) (cb : FVec Ideal S512x1 .f32) :
    FVec Ideal S512x512 .f32 :=
  select mk (bA (bLs (bNT q k)) (bSfx lo (select mk (bLf (bNT q k)) b0)) cb) b0
/-- The log-weights' gradient of one head on the diagonal. -/
def mDl (mk : IVec S512x512 1) (lo : FVec Ideal S256x256 .bf16) (q k g v : FVec Ideal S512x128 .bf16) (cb : FVec Ideal S512x1 .f32) :
    FVec Ideal S512x512 .f32 :=
  mulf (bNT g v) (mA mk lo q k cb)
/-- The scores' gradient of one head on the diagonal, rounded. -/
def mDz (mk : IVec S512x512 1) (lo up : FVec Ideal S256x256 .bf16) (q k g v : FVec Ideal S512x128 .bf16) (cb fs : FVec Ideal S512x1 .f32) :
    FVec Ideal S512x512 .bf16 :=
  truncf .bf16 (select mk (bDz (mDl mk lo q k g v cb) (bLs (bNT q k)) (bPfx up (mDl mk lo q k g v cb)) fs) b0) bitsLt_bf16_f32

/-! ## What the blocks hold -/

section
variable {lo up : FVec Ideal S256x256 .bf16} {q k g v : FVec Ideal S512x128 .bf16} {cb fs : FVec Ideal S512x1 .f32}
  {Q K G V : ℕ → ℕ → ℝ} {C F : ℕ → ℝ} {mk : IVec S512x512 1} {M : ℕ → ℕ → Bool}

theorem rd_qM {m : IVec S512x128 1} {p : ℕ → ℕ → Bool} {x : FVec Ideal S512x128 .f32} (hm : Md m fun r c => p r c = true) (hx : Rd x Q) :
    Rd (qM m x) (fun r c => if p r c then Q r c else 0) := Rd.truncf (Rd.select hm hx rd_t0) _

theorem rd_tr {x : FVec Ideal S512x128 .f32} (hx : Rd x Q) : Rd (tr x) Q := hx.truncf _

theorem rd_z (hq : Rd q Q) (hk : Rd k K) : Rd (bNT q k) (zT Q K) := rd_bNT hq hk

theorem rd_hA (hlo : Lower lo) (hq : Rd q Q) (hk : Rd k K) (hc : Rd cb fun r _ => C r) :
    Rd (hA lo q k cb) (aT (fun _ _ => true) Q K C) :=
  Rd.congr (x := hA lo q k cb) (rd_bA (rd_bLs (rd_z hq hk)) (rd_bSfx hlo (rd_bLf (rd_z hq hk))) hc) fun r c _ _ => by
    simp only [aT, lfT, if_true]

theorem rd_hDl (hlo : Lower lo) (hq : Rd q Q) (hk : Rd k K) (hg : Rd g G) (hv : Rd v V) (hc : Rd cb fun r _ => C r) :
    Rd (hDl lo q k g v cb) (dlT (fun _ _ => true) Q K G V C) := (rd_z hg hv).mulf (rd_hA hlo hq hk hc)

theorem rd_hDz (hlo : Lower lo) (hup : Upper up) (hq : Rd q Q) (hk : Rd k K) (hg : Rd g G) (hv : Rd v V) (hc : Rd cb fun r _ => C r)
    (hf : Rd fs fun r _ => F r) : Rd (hDz lo up q k g v cb fs) (dzT (fun _ _ => true) Q K G V C F) :=
  Rd.congr (x := hDz lo up q k g v cb fs) (Rd.truncf (rd_bDz (rd_hDl hlo hq hk hg hv hc) (rd_bLs (rd_z hq hk))
    (rd_bPfx hup (rd_hDl hlo hq hk hg hv hc)) hf) _) fun r c _ _ => by simp only [dzT, if_true]

theorem rd_mA (hm : Md mk fun r c => M r c = true) (hlo : Lower lo) (hq : Rd q Q) (hk : Rd k K) (hc : Rd cb fun r _ => C r) :
    Rd (mA mk lo q k cb) (aT M Q K C) :=
  Rd.congr (x := mA mk lo q k cb) (Rd.select hm (rd_bA (rd_bLs (rd_z hq hk))
    (rd_bSfx hlo (Rd.select hm (rd_bLf (rd_z hq hk)) rd_b0)) hc) rd_b0) fun r c _ _ => rfl

theorem rd_mDl (hm : Md mk fun r c => M r c = true) (hlo : Lower lo) (hq : Rd q Q) (hk : Rd k K) (hg : Rd g G) (hv : Rd v V)
    (hc : Rd cb fun r _ => C r) : Rd (mDl mk lo q k g v cb) (dlT M Q K G V C) := (rd_z hg hv).mulf (rd_mA hm hlo hq hk hc)

theorem rd_mDz (hm : Md mk fun r c => M r c = true) (hlo : Lower lo) (hup : Upper up) (hq : Rd q Q) (hk : Rd k K) (hg : Rd g G) (hv : Rd v V)
    (hc : Rd cb fun r _ => C r) (hf : Rd fs fun r _ => F r) : Rd (mDz mk lo up q k g v cb fs) (dzT M Q K G V C F) :=
  Rd.truncf (Rd.select hm (rd_bDz (rd_mDl hm hlo hq hk hg hv hc) (rd_bLs (rd_z hq hk))
    (rd_bPfx hup (rd_mDl hm hlo hq hk hg hv hc)) hf) rd_b0) _

end

end Cert.Sb

end
-- ==== Proof.Rows.lean ====
/- The tables of `Tile`, for one tile of keys among all of them: with the carries of the later and of the earlier keys they
   are the tables of the whole rows. -/
module

public import proofs.«01_k».proof.Proof.Tile

@[expose] public section

noncomputable section

namespace Cert.Sb

open scoped BigOperators

/-! ## The whole rows -/

/-- The weight of key `s` for the query at row `r`, whose position is `t + r`: the log-sigmoid of its own score and the
    log-failures of the keys between. -/
def aG (t : ℕ) (Q K : ℕ → ℕ → ℝ) (r s : ℕ) : ℝ :=
  if s < t + r then Real.exp (lsF (zT Q K r s) + ∑ u ∈ Finset.Ico (s + 1) (t + r), lfF (zT Q K r u)) else 0
/-- The gradient of the log-weight. -/
def dlG (t : ℕ) (Q K G V : ℕ → ℕ → ℝ) (r s : ℕ) : ℝ := zT G V r s * aG t Q K r s
/-- The gradient of the score. -/
def dzG (t : ℕ) (Q K G V : ℕ → ℕ → ℝ) (r s : ℕ) : ℝ :=
  if s < t + r then dlG t Q K G V r s * (1 - Real.exp (lsF (zT Q K r s)))
    - Real.exp (lsF (zT Q K r s)) * ∑ u ∈ Finset.range s, dlG t Q K G V r u else 0
/-- The log-failures of the keys from tile `j + 1` on. -/
def cG (t : ℕ) (Q K : ℕ → ℕ → ℝ) (j r : ℕ) : ℝ := ∑ u ∈ Finset.Ico (512 * (j + 1)) (t + r), lfF (zT Q K r u)
/-- The log-weights' gradients of the keys before tile `j`. -/
def fG (t : ℕ) (Q K G V : ℕ → ℕ → ℝ) (j r : ℕ) : ℝ := ∑ u ∈ Finset.range (512 * j), dlG t Q K G V r u

/-- A sum cut off at `t` inside `[a, b)`, and what lies beyond `b`. -/
theorem sum_cut (f : ℕ → ℝ) (a b t : ℕ) (hab : a ≤ b) (hat : a ≤ t) :
    (∑ s ∈ Finset.Ico a b, if s < t then f s else 0) + ∑ s ∈ Finset.Ico b t, f s = ∑ s ∈ Finset.Ico a t, f s := by
  rcases le_or_gt b t with h | h
  · rw [← Finset.sum_Ico_consecutive f hab h]
    congr 1
    refine Finset.sum_congr rfl fun s hs => ?_
    rw [if_pos (lt_of_lt_of_le (Finset.mem_Ico.1 hs).2 h)]
  · rw [Finset.Ico_eq_empty (not_lt.2 h.le), Finset.sum_empty, add_zero, ← Finset.sum_Ico_consecutive _ hat h.le]
    rw [Finset.sum_eq_zero (s := Finset.Ico t b) fun s hs => if_neg (not_lt.2 (Finset.mem_Ico.1 hs).1), add_zero]
    exact Finset.sum_congr rfl fun s hs => if_pos (Finset.mem_Ico.1 hs).2

variable {t j r : ℕ} {Q K G V : ℕ → ℕ → ℝ} {M : ℕ → ℕ → Bool}

/-- Tile `j` of the keys' table. -/
abbrev til (j : ℕ) (K : ℕ → ℕ → ℝ) : ℕ → ℕ → ℝ := fun c d => K (512 * j + c) d

theorem aT_til (hM : ∀ c, c < 512 → M r c = decide (512 * j + c < t + r)) (c : ℕ) (hc : c < 512) :
    aT M Q (til j K) (cG t Q K j) r c = aG t Q K r (512 * j + c) := by
  unfold aT aG
  rw [hM c hc]
  by_cases h : 512 * j + c < t + r
  · rw [decide_eq_true h, if_pos rfl, if_pos h, add_assoc]
    congr 2
    have e : ∑ u ∈ Finset.Ico (c + 1) 512, lfT M Q (til j K) r u
        = ∑ s ∈ Finset.Ico (512 * j + (c + 1)) (512 * j + 512), if s < t + r then lfF (zT Q K r s) else 0 := by
      rw [← sum_shift (fun s => if s < t + r then lfF (zT Q K r s) else 0) (512 * j) (c + 1) 512]
      refine Finset.sum_congr rfl fun u hu => ?_
      unfold lfT
      rw [hM u (Finset.mem_Ico.1 hu).2]
      simp only [decide_eq_true_iff]
      rfl
    rw [e]
    exact sum_cut (fun s => lfF (zT Q K r s)) (512 * j + (c + 1)) (512 * j + 512) (t + r) (by omega) (by omega)
  · rw [decide_eq_false h, if_neg (by decide), if_neg h]

theorem dlT_til (hM : ∀ c, c < 512 → M r c = decide (512 * j + c < t + r)) (c : ℕ) (hc : c < 512) :
    dlT M Q (til j K) G (til j V) (cG t Q K j) r c = dlG t Q K G V r (512 * j + c) := by
  unfold dlT dlG
  rw [aT_til hM c hc]
  rfl

theorem sum_dlT_til (hM : ∀ c, c < 512 → M r c = decide (512 * j + c < t + r)) (c : ℕ) (hc : c ≤ 512) :
    (∑ u ∈ Finset.range c, dlT M Q (til j K) G (til j V) (cG t Q K j) r u) + fG t Q K G V j r
      = ∑ u ∈ Finset.range (512 * j + c), dlG t Q K G V r u := by
  rw [Finset.sum_congr rfl fun u hu => dlT_til hM u (lt_of_lt_of_le (Finset.mem_range.1 hu) hc), Finset.range_eq_Ico,
    sum_shift (fun s => dlG t Q K G V r s) (512 * j) 0 c, add_comm]
  unfold fG
  rw [Finset.range_eq_Ico, Finset.range_eq_Ico]
  exact Finset.sum_Ico_consecutive _ (by omega) (by omega)

theorem dzT_til (hM : ∀ c, c < 512 → M r c = decide (512 * j + c < t + r)) (c : ℕ) (hc : c < 512) :
    dzT M Q (til j K) G (til j V) (cG t Q K j) (fG t Q K G V j) r c = dzG t Q K G V r (512 * j + c) := by
  unfold dzT dzG
  rw [hM c hc, dlT_til hM c hc, sum_dlT_til hM c hc.le]
  simp only [decide_eq_true_iff]
  rfl

/-- The carry after tile `j`. -/
theorem fG_succ (hM : ∀ c, c < 512 → M r c = decide (512 * j + c < t + r)) :
    fG t Q K G V j r + ∑ u ∈ Finset.range 512, dlT M Q (til j K) G (til j V) (cG t Q K j) r u = fG t Q K G V (j + 1) r := by
  rw [add_comm, sum_dlT_til hM 512 le_rfl]
  rfl

/-- A sum over the first `j + 1` tiles. -/
theorem sum_tiles_succ (f : ℕ → ℝ) (j : ℕ) :
    (∑ s ∈ Finset.range (512 * j), f s) + ∑ c ∈ Finset.range 512, f (512 * j + c) = ∑ s ∈ Finset.range (512 * (j + 1)), f s := by
  rw [Finset.range_eq_Ico, Finset.range_eq_Ico, sum_shift f (512 * j) 0 512, Finset.range_eq_Ico]
  exact Finset.sum_Ico_consecutive _ (by omega) (by omega)

end Cert.Sb

end
-- ==== Proof.Trip1.lean ====
/- The backward kernel's loop over the earlier key tiles: what one trip yields and stores, named by the blocks of `Tile`. -/
module

public import proofs.«01_k».proof.Proof.Tile
public import proofs.«01_k».proof.Proof.Gen.KernelIdeal.Loops
public import Idealize.ShloMosaic.Lib.Tactic

@[expose] public section

noncomputable section

namespace Cert.Sb

open Idealize.ShloMosaic Idealize.ShloMosaic.TcCoe Idealize.ShloMosaic.Tactic Idealize.ShloMosaic.ValueIdx
open Cert.KernelIdeal Cert.KernelIdeal.Gen Idealize.SL Idealize.SL.Sem

/-- The lane numbers of a tile. -/
abbrev lanes : IVec S512x128 32 := iota .tc S512x128 32 [1] iota_S512x128_d1_w32

/-- What the backward kernel's loop works on at one grid point: the windows, and the contents of those it reads. -/
structure A1 (i : grid1.Coords) where
  𝒱 : Variants
  c : Dev nD
  bd : Option 𝒱.V
  arg2 : Memref sig .tc .vmem S512x128 .f32
  harg2 : arg2.IsWhole
  arg3 : Memref sig .tc .vmem S2048x128 .f32
  harg3 : arg3.IsWhole
  arg4 : Memref sig .tc .vmem S2048x128 .f32
  harg4 : arg4.IsWhole
  arg5 : Memref sig .tc .vmem S512x128 .f32
  harg5 : arg5.IsWhole
  arg6 : Memref sig .tc .vmem S2x512x128 .f32
  harg6 : arg6.IsWhole
  arg7 : Memref sig .tc .vmem S512x128 .f32
  harg7 : arg7.IsWhole
  arg8 : Memref sig .tc .vmem S2048x128 .f32
  harg8 : arg8.IsWhole
  arg9 : Memref sig .tc .vmem S2048x128 .f32
  harg9 : arg9.IsWhole
  arg10 : Memref sig .tc .vmem S512x128 .f32
  harg10 : arg10.IsWhole
  q : FVec Ideal S512x128 .f32
  g : Vec Ideal S512x128 .f32
  x3 : BufTy.Contents (Elt Ideal) arg3.view.ty
  x4 : BufTy.Contents (Elt Ideal) arg4.view.ty
  x6 : BufTy.Contents (Elt Ideal) arg6.view.ty

namespace A1

variable {i : grid1.Coords} (A : A1 i)

/-- The tile of keys that trip `k` reads. -/
def kT (k : Fin (k1_t1_loop i).trips) : Vec Ideal S512x128 .f32 :=
  View.readAt (Elt Ideal) A.arg3.view (Rect.unit (s := S2048x128) (k1_off1 i k) S512x128.size (k1_off1_inb i k)).toLoadRect A.x3
/-- The tile of values that trip `k` reads. -/
def vT (k : Fin (k1_t1_loop i).trips) : Vec Ideal S512x128 .f32 :=
  View.readAt (Elt Ideal) A.arg4.view (Rect.unit (s := S2048x128) (k1_off1 i k) S512x128.size (k1_off1_inb i k)).toLoadRect A.x4
/-- The carries' block of the first head. -/
def cb0 : Vec Ideal S1x512x128 .f32 :=
  View.readAt (Elt Ideal) A.arg6.view (Rect.unit (s := S2x512x128) ![0, 0, 0] S1x512x128.size inb_S2x512x128_S1x512x128_0_0_0).toLoadRect A.x6
/-- The carries' block of the second head. -/
def cb1 : Vec Ideal S1x512x128 .f32 :=
  View.readAt (Elt Ideal) A.arg6.view (Rect.unit (s := S2x512x128) ![1, 0, 0] S1x512x128.size inb_S2x512x128_S1x512x128_1_0_0).toLoadRect A.x6
/-- The key tile's number at trip `k`. -/
def jj (k : Fin (k1_t1_loop i).trips) : BitVec 32 := Scf.iv 0#32 1#32 k

/-- The log-weights' gradients of the first head at trip `k`. -/
def dl0 (k : Fin (k1_t1_loop i).trips) : FVec Ideal S512x512 .f32 :=
  hDl (k1_pay98 (F := Ideal)) (qM k1_pay103 A.q) (tr (A.kT k)) (qM k1_pay103 A.g) (tr (A.vT k)) (bPick lanes (jj k) A.cb0)
/-- The log-weights' gradients of the second head at trip `k`. -/
def dl1 (k : Fin (k1_t1_loop i).trips) : FVec Ideal S512x512 .f32 :=
  hDl (k1_pay98 (F := Ideal)) (qM k1_pay104 A.q) (tr (A.kT k)) (qM k1_pay104 A.g) (tr (A.vT k)) (bPick lanes (jj k) A.cb1)
/-- The scores' gradients of the first head at trip `k`. -/
def dz0 (k : Fin (k1_t1_loop i).trips) (fs : FVec Ideal S512x1 .f32) : FVec Ideal S512x512 .bf16 :=
  hDz (k1_pay98 (F := Ideal)) (k1_pay99 (F := Ideal)) (qM k1_pay103 A.q) (tr (A.kT k)) (qM k1_pay103 A.g) (tr (A.vT k)) (bPick lanes (jj k) A.cb0) fs
/-- The scores' gradients of the second head at trip `k`. -/
def dz1 (k : Fin (k1_t1_loop i).trips) (fs : FVec Ideal S512x1 .f32) : FVec Ideal S512x512 .bf16 :=
  hDz (k1_pay98 (F := Ideal)) (k1_pay99 (F := Ideal)) (qM k1_pay104 A.q) (tr (A.kT k)) (qM k1_pay104 A.g) (tr (A.vT k)) (bPick lanes (jj k) A.cb1) fs
/-- The weights of the first head at trip `k`. -/
def a0 (k : Fin (k1_t1_loop i).trips) : FVec Ideal S512x512 .f32 :=
  hA (k1_pay98 (F := Ideal)) (qM k1_pay103 A.q) (tr (A.kT k)) (bPick lanes (jj k) A.cb0)
/-- The weights of the second head at trip `k`. -/
def a1 (k : Fin (k1_t1_loop i).trips) : FVec Ideal S512x512 .f32 :=
  hA (k1_pay98 (F := Ideal)) (qM k1_pay104 A.q) (tr (A.kT k)) (bPick lanes (jj k) A.cb1)

/-- What a trip adds to the queries' gradient. -/
def pq (k : Fin (k1_t1_loop i).trips) (acc : FVec Ideal S512x1 .f32 × FVec Ideal S512x1 .f32) : FVec Ideal S512x128 .f32 :=
  addf (bNN (A.dz0 k acc.1) (qM k1_pay103 (A.kT k))) (bNN (A.dz1 k acc.2) (qM k1_pay104 (A.kT k)))
/-- What a trip adds to the keys' gradient. -/
def pk (k : Fin (k1_t1_loop i).trips) (acc : FVec Ideal S512x1 .f32 × FVec Ideal S512x1 .f32) : FVec Ideal S512x128 .f32 :=
  addf (bTN (A.dz0 k acc.1) (qM k1_pay103 A.q)) (bTN (A.dz1 k acc.2) (qM k1_pay104 A.q))
/-- What a trip adds to the values' gradient. -/
def pv (k : Fin (k1_t1_loop i).trips) : FVec Ideal S512x128 .f32 :=
  addf (bTN (truncf .bf16 (A.a0 k) bitsLt_bf16_f32) (qM k1_pay103 A.g)) (bTN (truncf .bf16 (A.a1 k) bitsLt_bf16_f32) (qM k1_pay104 A.g))

/-- What a trip yields: the carries with the tile's row sums added. -/
def yl (k : Fin (k1_t1_loop i).trips) (acc : FVec Ideal S512x1 .f32 × FVec Ideal S512x1 .f32) : FVec Ideal S512x1 .f32 × FVec Ideal S512x1 .f32 :=
  (addf acc.1 (bTot (A.dl0 k)), addf acc.2 (bTot (A.dl1 k)))

/-- The rows that trip `k` reads and writes. -/
abbrev rows (k : Fin (k1_t1_loop i).trips) : Rect S2048x128 := Rect.unit (s := S2048x128) (k1_off1 i k) S512x128.size (k1_off1_inb i k)
/-- A whole tile. -/
abbrev tile : Rect S512x128 := Rect.unit (s := S512x128) ![0, 0] S512x128.size inb_S512x128_S512x128_0_0
/-- A tile in the shape it has. -/
abbrev sc (x : FVec Ideal S512x128 .f32) : FVec Ideal S512x128 .f32 := shapeCast S512x128 x shapeCasts_S512x128_S512x128

theorem tripR (k : Fin (k1_t1_loop i).trips) (acc : FVec Ideal S512x1 .f32 × FVec Ideal S512x1 .f32)
    (f8 : BufTy.Contents (Elt Ideal) A.arg8.view.ty) (f9 : BufTy.Contents (Elt Ideal) A.arg9.view.ty) (f10 : BufTy.Contents (Elt Ideal) A.arg10.view.ty) :
    tripR_k1_t1 (F := Ideal) A.𝒱 A.c A.bd i A.arg2 A.harg2 A.arg3 A.harg3 A.arg4 A.harg4 A.arg5 A.harg5 A.arg6 A.harg6 A.arg7 A.harg7 A.arg8 A.harg8
      A.arg9 A.harg9 A.arg10 A.harg10 (BitVec.ofNat 32 (i 1).val) lanes k1_pay98 k1_pay99 A.q A.g k1_pay103 k1_pay104 (Scalar.ofBits .f32 0x00000000#32)
      A.x3 A.x4 A.x6 k acc f8 f9 f10 = A.yl k acc := by
  unfold tripR_k1_t1 trip_k1_t1
  dsimp only
  sl_unfold_words
  rfl

theorem tripL (k : Fin (k1_t1_loop i).trips) (acc : FVec Ideal S512x1 .f32 × FVec Ideal S512x1 .f32)
    (f8 : BufTy.Contents (Elt Ideal) A.arg8.view.ty) (f9 : BufTy.Contents (Elt Ideal) A.arg9.view.ty) (f10 : BufTy.Contents (Elt Ideal) A.arg10.view.ty) :
    tripL_k1_t1 (F := Ideal) A.𝒱 A.c A.bd i A.arg2 A.harg2 A.arg3 A.harg3 A.arg4 A.harg4 A.arg5 A.harg5 A.arg6 A.harg6 A.arg7 A.harg7 A.arg8 A.harg8
      A.arg9 A.harg9 A.arg10 A.harg10 (BitVec.ofNat 32 (i 1).val) lanes k1_pay98 k1_pay99 A.q A.g k1_pay103 k1_pay104 (Scalar.ofBits .f32 0x00000000#32)
      A.x3 A.x4 A.x6 k acc f8 f9 f10
      = ([⟨rows k, addf (sc (View.readAt (Elt Ideal) A.arg8.view (rows k).toLoadRect f8)) (A.pk k acc)⟩],
         [⟨rows k, addf (sc (View.readAt (Elt Ideal) A.arg9.view (rows k).toLoadRect f9)) (A.pv k)⟩],
         [⟨tile, sc (addf (View.readAt (Elt Ideal) A.arg10.view tile.toLoadRect f10) (A.pq k acc))⟩]) := by
  unfold tripL_k1_t1 trip_k1_t1
  dsimp only
  sl_unfold_words
  rfl

end A1

end Cert.Sb

end
-- ==== Proof.Masks.lean ====
/- The kernel's masks and triangles as relations on positions, its loops' trip counts, and its row windows as tables. -/
module

public import proofs.«01_k».proof.Proof.Trip1
public import Idealize.ShloMosaic.Lib.VecWindow
public import Idealize.ShloMosaic.Lib.Pipeline.Value

@[expose] public section

noncomputable section

namespace Cert.Sb

open Idealize.ShloMosaic Idealize.ShloMosaic.TcCoe Idealize.ShloMosaic.ValueIdx
open Cert.KernelIdeal Cert.KernelIdeal.Gen Idealize.SL Idealize.SL.Sem

/-! ## Loops and offsets -/

theorem trips1 : ∀ i : grid1.Coords, (k1_t1_loop i).trips = (i 1).val := by decide +kernel
theorem trips1' : ∀ i : grid1.Coords, (k1_t2_loop i).trips = 0 := by decide +kernel
theorem off1_val : ∀ (i : grid1.Coords) (k : Fin (k1_t1_loop i).trips), k1_off1 i k = ![512 * k.val, 0] := by decide +kernel
theorem off3_val : ∀ (i : grid1.Coords), k1_off3 i = ![512 * (i 1).val, 0] := by decide +kernel
theorem jj_val : ∀ (i : grid1.Coords) (k : Fin (k1_t1_loop i).trips), A1.jj k = BitVec.ofNat 32 k.val := by decide +kernel

/-! ## Masks -/

/-- A small number's pattern, read with a sign. -/
theorem toInt_small (n : ℕ) (h : n < 2048) : (BitVec.ofNat 32 n).toInt = (n : ℤ) := by
  rw [BitVec.toInt_eq_toNat_of_lt (by rw [BitVec.toNat_ofNat]; omega), BitVec.toNat_ofNat]
  omega

/-- The signed order on small numbers' patterns. -/
theorem slt_small (a b : ℕ) (ha : a < 2048) (hb : b < 2048) : (BitVec.ofNat 32 a).slt (BitVec.ofNat 32 b) = decide (a < b) := by
  rw [BitVec.slt_eq_decide, toInt_small a ha, toInt_small b hb]
  simp

theorem ofBool_one (b : Bool) : BitVec.ofBool b = 1#1 ↔ b = true := by cases b <;> decide

/-- The lane numbers. -/
theorem lanes_val (r : Fin 512) (c : Fin 128) : lanes (ix2 r c) = BitVec.ofNat 32 c.val := iota_single_apply ..

/-- The first head's lanes. -/
theorem md103 : Md k1_pay103 (fun _ c => decide (c < 64) = true) := fun r c => by
  have h : ∀ c : Fin 128, IntOp.andi (IntOp.cmpi .sge (BitVec.ofNat 32 c.val) (0#32)) (IntOp.cmpi .slt (BitVec.ofNat 32 c.val) 64#32) = 1#1
      ↔ decide (c.val < 64) = true := by decide +kernel
  have e := h c
  rw [← lanes_val r c] at e
  exact e

/-- The second head's lanes. -/
theorem md104 : Md k1_pay104 (fun _ c => decide (64 ≤ c) = true) := fun r c => by
  have h : ∀ c : Fin 128, IntOp.andi (IntOp.cmpi .sge (BitVec.ofNat 32 c.val) (64#32)) (IntOp.cmpi .slt (BitVec.ofNat 32 c.val) 128#32) = 1#1
      ↔ decide (64 ≤ c.val) = true := by decide +kernel
  have e := h c
  rw [← lanes_val r c] at e
  exact e

/-- The diagonal tile's mask: earlier positions. -/
theorem md100 : Md k1_pay100 (fun r c => decide (c < r) = true) := fun r c => by
  show BitVec.ofBool ((iota .tc S512x512 32 [1] iota_S512x512_d1_w32 (ix2 r c)).slt (iota .tc S512x512 32 [0] iota_S512x512_d0_w32 (ix2 r c))) = 1#1 ↔ _
  rw [iota_single_apply, iota_single_apply]
  show BitVec.ofBool ((BitVec.ofNat 32 c.val).slt (BitVec.ofNat 32 r.val)) = 1#1 ↔ _
  rw [ofBool_one, slt_small _ _ (by have := c.isLt; omega) (by have := r.isLt; omega)]

/-- The triangle that sums over later positions. -/
theorem lower98 : Lower (k1_pay98 (F := Ideal)) := by
  have hm : Md (cmpi .sgt (iota .tc S256x256 32 [0] iota_S256x256_d0_w32) (iota .tc S256x256 32 [1] iota_S256x256_d1_w32)) (fun r c => c < r) :=
    fun r c => by
      show BitVec.ofBool ((iota .tc S256x256 32 [1] iota_S256x256_d1_w32 (ix2 r c)).slt (iota .tc S256x256 32 [0] iota_S256x256_d0_w32 (ix2 r c))) = 1#1 ↔ _
      rw [iota_single_apply, iota_single_apply]
      show BitVec.ofBool ((BitVec.ofNat 32 c.val).slt (BitVec.ofNat 32 r.val)) = 1#1 ↔ _
      rw [ofBool_one, slt_small _ _ (by have := c.isLt; omega) (by have := r.isLt; omega), decide_eq_true_iff]
  exact (Rd.select hm Rd.one Rd.zero).truncf _

/-- The triangle that sums over earlier positions. -/
theorem upper99 : Upper (k1_pay99 (F := Ideal)) := by
  have hm : Md (cmpi .slt (iota .tc S256x256 32 [0] iota_S256x256_d0_w32) (iota .tc S256x256 32 [1] iota_S256x256_d1_w32)) (fun r c => r < c) :=
    fun r c => by
      show BitVec.ofBool ((iota .tc S256x256 32 [0] iota_S256x256_d0_w32 (ix2 r c)).slt (iota .tc S256x256 32 [1] iota_S256x256_d1_w32 (ix2 r c))) = 1#1 ↔ _
      rw [iota_single_apply, iota_single_apply]
      show BitVec.ofBool ((BitVec.ofNat 32 r.val).slt (BitVec.ofNat 32 c.val)) = 1#1 ↔ _
      rw [ofBool_one, slt_small _ _ (by have := r.isLt; omega) (by have := c.isLt; omega), decide_eq_true_iff]
  exact (Rd.select hm Rd.one Rd.zero).truncf _

/-! ## Row windows -/

section
variable {sig : RefSig} {κ : Kind} {sp : Space} (v : View sig κ sp S2048x128 .f32) (f : v.ty.Contents (Elt Ideal)) {T U : ℕ → ℕ → ℝ}

/-- The rows from `o` on, loaded. -/
theorem rd_readRows (h : Rd (n := 2048) (m := 128) (φ := .f32) (v.read (Elt Ideal) f) T) {off : Fin 2 → ℕ}
    (inb : ∀ a, off a + S512x128.size a ≤ S2048x128.size a) (o : ℕ) (ho : off = ![o, 0]) :
    Rd (n := 512) (m := 128) (φ := .f32) (View.readAt (Elt Ideal) v (Rect.unit (s := S2048x128) off S512x128.size inb).toLoadRect f)
      (fun r c => T (o + r) c) := by
  subst ho
  intro r c
  have h0 : o + 512 ≤ 2048 := inb 0
  have : o + r.val < 2048 := by have := r.isLt; omega
  refine Eq.trans ?_ (h ⟨o + r.val, this⟩ c)
  have e : (Rect.unit (s := S2048x128) ![o, 0] S512x128.size inb).toLoadRect.idx (ix2 r c) = ix2 (⟨o + r.val, this⟩ : Fin 2048) c := by
    funext a
    refine Fin.ext ?_
    match a with
    | ⟨0, _⟩ => show o + 1 * r.val = o + r.val; omega
    | ⟨1, _⟩ => show 0 + 1 * c.val = c.val; omega
  exact congrArg (v.read (Elt Ideal) f) e

/-- The rows from `o` on, overwritten. -/
theorem rd_writeRows (L : List (View.Piece (Elt Ideal) S2048x128 .f32)) (h : Rd (n := 2048) (m := 128) (φ := .f32) (v.read (Elt Ideal) (v.writes (Elt Ideal) f L)) T)
    {off : Fin 2 → ℕ} (inb : ∀ a, off a + S512x128.size a ≤ S2048x128.size a) (o : ℕ) (ho : off = ![o, 0])
    {w : FVec Ideal S512x128 .f32} (hw : Rd w U) :
    Rd (n := 2048) (m := 128) (φ := .f32) (v.read (Elt Ideal) (v.writes (Elt Ideal) f (⟨Rect.unit (s := S2048x128) off S512x128.size inb, w⟩ :: L)))
      (fun r c => if o ≤ r ∧ r < o + 512 then U (r - o) c else T r c) := by
  subst ho
  intro r c
  beta_reduce
  by_cases hr : o ≤ r.val ∧ r.val < o + 512
  · rw [if_pos hr]
    have hlt : r.val - o < 512 := by omega
    have e := View.read_writes_cons_rows_of_mem (d := ![2048, 128]) (size := S512x128.size) (o := o) v f inb w L (ix2 r c)
      (ix2 (⟨r.val - o, hlt⟩ : Fin 512) c) rfl (show r.val = o + (r.val - o) by omega) rfl
    exact e.trans (hw ⟨r.val - o, hlt⟩ c)
  · rw [if_neg hr]
    have e := View.read_writes_cons_rows_of_not_mem (d := ![2048, 128]) (size := S512x128.size) (o := o) (W := 512) v f inb w L (ix2 r c)
      rfl rfl (show r.val < o ∨ o + 512 ≤ r.val by omega)
    exact e.trans (h r c)

end

/-- A tile cast to its own shape. -/
theorem rd_sc {x : FVec Ideal S512x128 .f32} {f : ℕ → ℕ → ℝ} (h : Rd x f) : Rd (A1.sc x) f := by
  unfold A1.sc
  rw [shapeCast_self]
  exact h

section
variable {sig : RefSig} {κ : Kind} {sp : Space} (v : View sig κ sp S512x128 .f32) (f : v.ty.Contents (Elt Ideal)) {T U : ℕ → ℕ → ℝ}

/-- A whole tile, loaded. -/
theorem rd_readTile (h : Rd (n := 512) (m := 128) (φ := .f32) (v.read (Elt Ideal) f) T) :
    Rd (n := 512) (m := 128) (φ := .f32) (View.readAt (Elt Ideal) v A1.tile.toLoadRect f) T := fun r c => by
  refine Eq.trans ?_ (h r c)
  have e : A1.tile.toLoadRect.idx (ix2 r c) = ix2 r c := by
    funext a
    refine Fin.ext ?_
    match a with
    | ⟨0, _⟩ => show 0 + 1 * r.val = r.val; omega
    | ⟨1, _⟩ => show 0 + 1 * c.val = c.val; omega
  exact congrArg (v.read (Elt Ideal) f) e

/-- A whole tile, overwritten. -/
theorem rd_writeTile (L : List (View.Piece (Elt Ideal) S512x128 .f32)) {w : FVec Ideal S512x128 .f32} (hw : Rd w U) :
    Rd (n := 512) (m := 128) (φ := .f32) (v.read (Elt Ideal) (v.writes (Elt Ideal) f (⟨A1.tile, w⟩ :: L))) U := by
  rw [View.read_writes_full v f inb_S512x128_S512x128_0_0 w L]
  exact hw

end

end Cert.Sb

end
-- ==== Proof.Fwd0.lean ====
/- The forward kernel's loop over the earlier key tiles and its diagonal: the carries, and what is stored of them. -/
module

public import proofs.«01_k».proof.Proof.Rows
public import proofs.«01_k».proof.Proof.Masks
public import proofs.«01_k».proof.Proof.Gen.KernelIdeal.Frame

@[expose] public section

noncomputable section

namespace Cert.Sb

open Idealize.ShloMosaic Idealize.ShloMosaic.TcCoe Idealize.ShloMosaic.Tactic Idealize.ShloMosaic.ValueIdx
open Cert.KernelIdeal Cert.KernelIdeal.Gen Idealize.SL Idealize.SL.Sem

/-- A column put in lane `j` of a carries' block. -/
def bPut (lane : IVec S512x128 32) (j : BitVec 32) (old : FVec Ideal S1x512x128 .f32) (col : FVec Ideal S512x1 .f32) : FVec Ideal S1x512x128 .f32 :=
  shapeCast S1x512x128 (select (cmpi .eq lane (broadcast S512x128 j))
    (broadcastTo S512x128 (shapeCast S512x1 col shapeCasts_S512x1_S512x1) broadcasts_S512x1_S512x128)
    (shapeCast S512x128 old shapeCasts_S1x512x128_S512x128)) shapeCasts_S512x128_S1x512x128

/-- What the forward kernel works on at one grid point: the windows, and the contents of those it reads. -/
structure A0 (i : grid0.Coords) where
  𝒱 : Variants
  c : Dev nD
  bd : Option 𝒱.V
  arg2 : Memref sig .tc .vmem S512x128 .f32
  harg2 : arg2.IsWhole
  arg3 : Memref sig .tc .vmem S2048x128 .f32
  harg3 : arg3.IsWhole
  arg4 : Memref sig .tc .vmem S2048x128 .f32
  harg4 : arg4.IsWhole
  arg5 : Memref sig .tc .vmem S512x128 .bf16
  harg5 : arg5.IsWhole
  arg6 : Memref sig .tc .vmem S2x512x128 .f32
  harg6 : arg6.IsWhole
  arg7 : Memref sig .tc .vmem S512x128 .f32
  harg7 : arg7.IsWhole
  q : Vec Ideal S512x128 .f32
  x3 : BufTy.Contents (Elt Ideal) arg3.view.ty
  x4 : BufTy.Contents (Elt Ideal) arg4.view.ty

namespace A0

/-- The first head's half of the carries. -/
abbrev r0 : Rect S2x512x128 := Rect.unit (s := S2x512x128) ![0, 0, 0] S1x512x128.size inb_S2x512x128_S1x512x128_0_0_0
/-- The second head's half of the carries. -/
abbrev r1 : Rect S2x512x128 := Rect.unit (s := S2x512x128) ![1, 0, 0] S1x512x128.size inb_S2x512x128_S1x512x128_1_0_0
/-- All the carries. -/
abbrev rw : Rect S2x512x128 := Rect.unit (s := S2x512x128) ![0, 0, 0] S2x512x128.size inb_S2x512x128_S2x512x128_0_0_0

variable {i : grid0.Coords} (A : A0 i)

/-- The tile of keys that trip `k` reads. -/
def kT (k : Fin (k0_t1_loop i).trips) : Vec Ideal S512x128 .f32 :=
  View.readAt (Elt Ideal) A.arg3.view (Rect.unit (s := S2048x128) (k0_off2 i k) S512x128.size (k0_off2_inb i k)).toLoadRect A.x3
/-- The tile's own keys. -/
def kD : Vec Ideal S512x128 .f32 :=
  View.readAt (Elt Ideal) A.arg3.view (Rect.unit (s := S2048x128) (k0_off1 i) S512x128.size (k0_off1_inb i)).toLoadRect A.x3
/-- The key tile's number at trip `k`. -/
def jj (k : Fin (k0_t1_loop i).trips) : BitVec 32 := Scalar.subi (Scalar.subi (BitVec.ofNat 32 (i 1).val) 1#32) (Scf.iv 0#32 1#32 k)

/-- The log-failures of the first head at trip `k`. -/
def lf0 (k : Fin (k0_t1_loop i).trips) : FVec Ideal S512x512 .f32 := bLf (bNT (k0_pay66 A.q) (tr (A.kT k)))
/-- The log-failures of the second head at trip `k`. -/
def lf1 (k : Fin (k0_t1_loop i).trips) : FVec Ideal S512x512 .f32 := bLf (bNT (k0_pay67 A.q) (tr (A.kT k)))
/-- The diagonal's log-failures of the first head. -/
def dlf0 : FVec Ideal S512x512 .f32 := select k0_pay60 (bLf (bNT (k0_pay66 A.q) (tr A.kD))) b0
/-- The diagonal's log-failures of the second head. -/
def dlf1 : FVec Ideal S512x512 .f32 := select k0_pay60 (bLf (bNT (k0_pay67 A.q) (tr A.kD))) b0

/-- What a trip yields: the carries with the tile's row sums added. -/
def yl (k : Fin (k0_t1_loop i).trips) (acc : FVec Ideal S512x1 .f32 × FVec Ideal S512x1 .f32) : FVec Ideal S512x1 .f32 × FVec Ideal S512x1 .f32 :=
  (addf acc.1 (bTot (A.lf0 k)), addf acc.2 (bTot (A.lf1 k)))

/-- The two pieces that put the carries in lane `j`, over the contents they find. -/
def put (j : BitVec 32) (f6 : BufTy.Contents (Elt Ideal) A.arg6.view.ty) (acc : FVec Ideal S512x1 .f32 × FVec Ideal S512x1 .f32) : List (View.Piece (Elt Ideal) S2x512x128 .f32) :=
  let p0 : View.Piece (Elt Ideal) S2x512x128 .f32 := ⟨r0, bPut lanes j (View.readAt (Elt Ideal) A.arg6.view r0.toLoadRect f6) acc.1⟩
  [⟨r1, bPut lanes j (View.readAt (Elt Ideal) A.arg6.view r1.toLoadRect (A.arg6.view.writes (Elt Ideal) f6 [p0])) acc.2⟩, p0]

/-- The same pieces in the loop, where both halves are read first. -/
def putT (j : BitVec 32) (f6 : BufTy.Contents (Elt Ideal) A.arg6.view.ty) (acc : FVec Ideal S512x1 .f32 × FVec Ideal S512x1 .f32) : List (View.Piece (Elt Ideal) S2x512x128 .f32) :=
  [⟨r1, bPut lanes j (View.readAt (Elt Ideal) A.arg6.view r1.toLoadRect f6) acc.2⟩,
   ⟨r0, bPut lanes j (View.readAt (Elt Ideal) A.arg6.view r0.toLoadRect f6) acc.1⟩]

theorem tripR (k : Fin (k0_t1_loop i).trips) (acc : FVec Ideal S512x1 .f32 × FVec Ideal S512x1 .f32)
    (f6 : BufTy.Contents (Elt Ideal) A.arg6.view.ty) (f7 : BufTy.Contents (Elt Ideal) A.arg7.view.ty) :
    tripR_k0_t1 (F := Ideal) A.𝒱 A.c A.bd i A.arg2 A.harg2 A.arg3 A.harg3 A.arg4 A.harg4 A.arg5 A.harg5 A.arg6 A.harg6 A.arg7 A.harg7
      (BitVec.ofNat 32 (i 1).val) lanes k0_pay59 k0_pay64 k0_pay65 (k0_pay66 A.q) (k0_pay67 A.q) A.x3 A.x4 k acc f6 f7 = A.yl k acc := by
  unfold tripR_k0_t1 trip_k0_t1
  dsimp only
  sl_unfold_words
  rfl

theorem tripL (k : Fin (k0_t1_loop i).trips) (acc : FVec Ideal S512x1 .f32 × FVec Ideal S512x1 .f32)
    (f6 : BufTy.Contents (Elt Ideal) A.arg6.view.ty) (f7 : BufTy.Contents (Elt Ideal) A.arg7.view.ty) :
    (tripL_k0_t1 (F := Ideal) A.𝒱 A.c A.bd i A.arg2 A.harg2 A.arg3 A.harg3 A.arg4 A.harg4 A.arg5 A.harg5 A.arg6 A.harg6 A.arg7 A.harg7
      (BitVec.ofNat 32 (i 1).val) lanes k0_pay59 k0_pay64 k0_pay65 (k0_pay66 A.q) (k0_pay67 A.q) A.x3 A.x4 k acc f6 f7).1 = A.putT (jj k) f6 acc := by
  unfold tripL_k0_t1 trip_k0_t1
  dsimp only
  sl_unfold_words
  rfl

/-- The loop's state before trip `n`. -/
abbrev st (g6 : BufTy.Contents (Elt Ideal) A.arg6.view.ty) (g7 : BufTy.Contents (Elt Ideal) A.arg7.view.ty) (init : FVec Ideal S512x1 .f32 × FVec Ideal S512x1 .f32) (n : ℕ) :=
  st_k0_t1 (F := Ideal) A.𝒱 A.c A.bd i A.arg2 A.harg2 A.arg3 A.harg3 A.arg4 A.harg4 A.arg5 A.harg5 A.arg6 A.harg6 A.arg7 A.harg7
      (BitVec.ofNat 32 (i 1).val) lanes k0_pay59 k0_pay64 k0_pay65 (k0_pay66 A.q) (k0_pay67 A.q) A.x3 A.x4 g6 g7 init n

theorem st_succ1 (g6 : BufTy.Contents (Elt Ideal) A.arg6.view.ty) (g7 : BufTy.Contents (Elt Ideal) A.arg7.view.ty) (init : FVec Ideal S512x1 .f32 × FVec Ideal S512x1 .f32) (k : Fin (k0_t1_loop i).trips) :
    (A.st g6 g7 init (k.val + 1)).1 = A.yl k (A.st g6 g7 init k.val).1 := by
  refine (congrArg (fun x => x.1) (st_k0_t1_succ (F := Ideal) A.𝒱 A.c A.bd i A.arg2 A.harg2 A.arg3 A.harg3 A.arg4 A.harg4 A.arg5 A.harg5 A.arg6 A.harg6 A.arg7 A.harg7
      (BitVec.ofNat 32 (i 1).val) lanes k0_pay59 k0_pay64 k0_pay65 (k0_pay66 A.q) (k0_pay67 A.q) A.x3 A.x4 g6 g7 init k)).trans ?_
  exact A.tripR k _ _ _

theorem st_succ2 (g6 : BufTy.Contents (Elt Ideal) A.arg6.view.ty) (g7 : BufTy.Contents (Elt Ideal) A.arg7.view.ty) (init : FVec Ideal S512x1 .f32 × FVec Ideal S512x1 .f32) (k : Fin (k0_t1_loop i).trips) :
    (A.st g6 g7 init (k.val + 1)).2.1 =
      A.putT (jj k) (A.arg6.view.writes (Elt Ideal) g6 (A.st g6 g7 init k.val).2.1) (A.st g6 g7 init k.val).1 ++ (A.st g6 g7 init k.val).2.1 := by
  refine (congrArg (fun x => x.2.1) (st_k0_t1_succ (F := Ideal) A.𝒱 A.c A.bd i A.arg2 A.harg2 A.arg3 A.harg3 A.arg4 A.harg4 A.arg5 A.harg5 A.arg6 A.harg6 A.arg7 A.harg7
      (BitVec.ofNat 32 (i 1).val) lanes k0_pay59 k0_pay64 k0_pay65 (k0_pay66 A.q) (k0_pay67 A.q) A.x3 A.x4 g6 g7 init k)).trans ?_
  exact congrArg (fun x => x ++ (A.st g6 g7 init k.val).2.1) (A.tripL k _ _ _)

/-- The second loop's state, which makes no trip. -/
abbrev e2 (g6 : BufTy.Contents (Elt Ideal) A.arg6.view.ty) (g7 : BufTy.Contents (Elt Ideal) A.arg7.view.ty) (init : FVec Ideal S512x1 .f32 × FVec Ideal S512x1 .f32) :=
  st_k0_t2 (F := Ideal) A.𝒱 A.c A.bd i A.arg2 A.harg2 A.arg3 A.harg3 A.arg4 A.harg4 A.arg5 A.harg5 A.arg6 A.harg6 A.arg7 A.harg7
      (BitVec.ofNat 32 (i 1).val) lanes k0_pay59 k0_pay64 k0_pay65 (k0_pay66 A.q) (k0_pay67 A.q) (k0_t2_loop i).lb A.x3 A.x4 g6 g7 init (k0_t2_loop i).trips

theorem trips0 : ∀ i : grid0.Coords, (k0_t1_loop i).trips = (i 1).val := by decide +kernel
theorem trips0' : ∀ i : grid0.Coords, (k0_t2_loop i).trips = 0 := by decide +kernel
theorem off2_val : ∀ (i : grid0.Coords) (k : Fin (k0_t1_loop i).trips), k0_off2 i k = ![512 * ((i 1).val - 1 - k.val), 0] := by decide +kernel
theorem off1_val : ∀ (i : grid0.Coords), k0_off1 i = ![512 * (i 1).val, 0] := by decide +kernel
theorem jj_val : ∀ (i : grid0.Coords) (k : Fin (k0_t1_loop i).trips), A0.jj k = BitVec.ofNat 32 ((i 1).val - 1 - k.val) := by decide +kernel

theorem e2_eq (g6 : BufTy.Contents (Elt Ideal) A.arg6.view.ty) (g7 : BufTy.Contents (Elt Ideal) A.arg7.view.ty) (init : FVec Ideal S512x1 .f32 × FVec Ideal S512x1 .f32) : A.e2 g6 g7 init = (init, [], []) := by
  unfold e2
  rw [trips0']
  rfl

/-- The carries after the diagonal. -/
def ini : FVec Ideal S512x1 .f32 × FVec Ideal S512x1 .f32 := (addf k0_pay68 (bTot A.dlf0), addf k0_pay68 (bTot A.dlf1))

/-- The pieces stored before the loop. -/
def L0 : List (View.Piece (Elt Ideal) S2x512x128 .f32) :=
  A.put (BitVec.ofNat 32 (i 1).val) (A.arg6.view.writes (Elt Ideal) A.arg6.view.junk [⟨rw, k0_pay63 (F := Ideal)⟩]) (k0_pay68, k0_pay68)
    ++ [⟨rw, k0_pay63 (F := Ideal)⟩]

/-- A grid point, from the contents its windows are handed. -/
def of (c : Dev nD) (i : grid0.Coords) (arg2 : Memref sig .tc .vmem S512x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S512x128 .bf16) (harg5 : arg5.IsWhole) (arg6 : Memref sig .tc .vmem S2x512x128 .f32) (harg6 : arg6.IsWhole) (arg7 : Memref sig .tc .vmem S512x128 .f32) (harg7 : arg7.IsWhole)
    (x0 : Vec Ideal S512x128 .f32) (x1 x2 : Vec Ideal S2048x128 .f32) : A0 i where
  𝒱 := Variants.none
  c := c
  bd := none
  arg2 := arg2
  harg2 := harg2
  arg3 := arg3
  harg3 := harg3
  arg4 := arg4
  harg4 := harg4
  arg5 := arg5
  harg5 := harg5
  arg6 := arg6
  harg6 := harg6
  arg7 := arg7
  harg7 := harg7
  q := View.readAt (Elt Ideal) arg2.view A1.tile.toLoadRect (harg2.unread x0)
  x3 := harg3.unread x1
  x4 := harg4.unread x2

/-- The pieces stored in the carries are those before the loop, the first loop's and the second's. -/
theorem run_4 (c : Dev nD) (arg2 : Memref sig .tc .vmem S512x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S512x128 .bf16) (harg5 : arg5.IsWhole) (arg6 : Memref sig .tc .vmem S2x512x128 .f32) (harg6 : arg6.IsWhole) (arg7 : Memref sig .tc .vmem S512x128 .f32) (harg7 : arg7.IsWhole)
    (x0 : Vec Ideal S512x128 .f32) (x1 x2 : Vec Ideal S2048x128 .f32) :
    ∃ g7 g7' : BufTy.Contents (Elt Ideal) arg7.view.ty,
    (kernelRun0_A (F := Ideal) c i arg2 harg2 arg3 harg3 arg4 harg4 arg5 harg5 arg6 harg6 arg7 harg7 x0 x1 x2).2.1
        = let A := A0.of c i arg2 harg2 arg3 harg3 arg4 harg4 arg5 harg5 arg6 harg6 arg7 harg7 x0 x1 x2
          let s1 := A.st (A.arg6.view.writes (Elt Ideal) A.arg6.view.junk A.L0) g7 A.ini (k0_t1_loop i).trips
          (A.e2 (A.arg6.view.writes (Elt Ideal) A.arg6.view.junk (s1.2.1 ++ A.L0)) g7' (s1.1.1, s1.1.2)).2.1 ++ (s1.2.1 ++ A.L0) := by
  unfold kernelRun0_A
  dsimp only
  sl_unfold_words
  exact ⟨_, _, rfl⟩

end A0

end Cert.Sb

end
-- ==== Proof.State1.lean ====
/- The backward kernel's loop, read as tables: after `n` trips the carries, the queries' gradient and the rows of the keys' and
   values' gradients hold the sums over the first `n` tiles of keys. -/
module

public import proofs.«01_k».proof.Proof.Masks
public import proofs.«01_k».proof.Proof.Rows

@[expose] public section

noncomputable section

namespace Cert.Sb

open Idealize.ShloMosaic Idealize.ShloMosaic.TcCoe Idealize.ShloMosaic.ValueIdx
open Cert.KernelIdeal Cert.KernelIdeal.Gen Idealize.SL Idealize.SL.Sem
open scoped BigOperators

/-- A table's lanes of the first head. -/
def h0 (T : ℕ → ℕ → ℝ) (r c : ℕ) : ℝ := if decide (c < 64) = true then T r c else 0
/-- A table's lanes of the second head. -/
def h1 (T : ℕ → ℕ → ℝ) (r c : ℕ) : ℝ := if decide (64 ≤ c) = true then T r c else 0

/-- One head's tables of scores' gradients at query tile `t`, the first head's and the second's. -/
def dz0T (t : ℕ) (Q K G V : ℕ → ℕ → ℝ) : ℕ → ℕ → ℝ := dzG t (h0 Q) K (h0 G) V
def dz1T (t : ℕ) (Q K G V : ℕ → ℕ → ℝ) : ℕ → ℕ → ℝ := dzG t (h1 Q) K (h1 G) V

/-- What key `s` adds to the queries' gradient. -/
def dqT (t : ℕ) (Q K G V : ℕ → ℕ → ℝ) (r d s : ℕ) : ℝ := dz0T t Q K G V r s * h0 K s d + dz1T t Q K G V r s * h1 K s d
/-- What the tile of queries adds to the keys' gradient. -/
def dkT (t : ℕ) (Q K G V : ℕ → ℕ → ℝ) (s d : ℕ) : ℝ :=
  (∑ r ∈ Finset.range 512, dz0T t Q K G V r s * h0 Q r d) + ∑ r ∈ Finset.range 512, dz1T t Q K G V r s * h1 Q r d
/-- What the tile of queries adds to the values' gradient. -/
def dvT (t : ℕ) (Q K G : ℕ → ℕ → ℝ) (s d : ℕ) : ℝ :=
  (∑ r ∈ Finset.range 512, aG t (h0 Q) K r s * h0 G r d) + ∑ r ∈ Finset.range 512, aG t (h1 Q) K r s * h1 G r d

namespace A1

variable {i : grid1.Coords} (A : A1 i)

/-- The windows of a grid point hold these tables: the scaled queries, the keys, the output's gradient, the values, and in
    lane `j` of the carries' block the log-failures of the keys from tile `j + 1` on. -/
structure Ok (t : ℕ) (Q K G V : ℕ → ℕ → ℝ) : Prop where
  q : Rd A.q Q
  g : Rd (φ := .f32) A.g G
  k : Rd (n := 2048) (m := 128) (φ := .f32) (A.arg3.view.read (Elt Ideal) A.x3) K
  v : Rd (n := 2048) (m := 128) (φ := .f32) (A.arg4.view.read (Elt Ideal) A.x4) V
  c0 : ∀ (j : ℕ) (hj : j < 128) (r : Fin 512), j ≤ (i 1).val → (A.cb0 (ix3 (0 : Fin 1) r ⟨j, hj⟩) : EReal) = ((cG t (h0 Q) K j r.val : ℝ) : EReal)
  c1 : ∀ (j : ℕ) (hj : j < 128) (r : Fin 512), j ≤ (i 1).val → (A.cb1 (ix3 (0 : Fin 1) r ⟨j, hj⟩) : EReal) = ((cG t (h1 Q) K j r.val : ℝ) : EReal)
  t : t = 512 * (i 1).val

variable {A} {t : ℕ} {Q K G V : ℕ → ℕ → ℝ}

theorem Ok.lt (_ : A.Ok t Q K G V) (k : Fin (k1_t1_loop i).trips) : k.val < (i 1).val :=
  lt_of_lt_of_eq k.isLt (trips1 i)

theorem i_lt : (i 1).val < 4 := (i 1).isLt

theorem Ok.mask (h : A.Ok t Q K G V) (k : Fin (k1_t1_loop i).trips) (r c : ℕ) (hc : c < 512) :
    (fun _ _ => true : ℕ → ℕ → Bool) r c = decide (512 * k.val + c < t + r) := by
  have := h.lt k
  rw [h.t]
  exact (decide_eq_true (by omega)).symm

theorem Ok.kT (h : A.Ok t Q K G V) (k : Fin (k1_t1_loop i).trips) : Rd (φ := .f32) (A.kT k) (til k.val K) :=
  rd_readRows _ _ h.k _ _ (off1_val i k)
theorem Ok.vT (h : A.Ok t Q K G V) (k : Fin (k1_t1_loop i).trips) : Rd (φ := .f32) (A.vT k) (til k.val V) :=
  rd_readRows _ _ h.v _ _ (off1_val i k)
theorem Ok.pick0 (h : A.Ok t Q K G V) (k : Fin (k1_t1_loop i).trips) : Rd (bPick lanes (jj k) A.cb0) (fun r _ => cG t (h0 Q) K k.val r) := by
  have := h.lt k
  have := i_lt (i := i)
  rw [jj_val i k]
  exact rd_bPick lanes_val k.val (by omega) fun r => h.c0 _ _ r (by omega)
theorem Ok.pick1 (h : A.Ok t Q K G V) (k : Fin (k1_t1_loop i).trips) : Rd (bPick lanes (jj k) A.cb1) (fun r _ => cG t (h1 Q) K k.val r) := by
  have := h.lt k
  have := i_lt (i := i)
  rw [jj_val i k]
  exact rd_bPick lanes_val k.val (by omega) fun r => h.c1 _ _ r (by omega)

theorem Ok.q0 (h : A.Ok t Q K G V) : Rd (qM k1_pay103 A.q) (h0 Q) := rd_qM md103 h.q
theorem Ok.q1 (h : A.Ok t Q K G V) : Rd (qM k1_pay104 A.q) (h1 Q) := rd_qM md104 h.q
theorem Ok.g0 (h : A.Ok t Q K G V) : Rd (qM k1_pay103 A.g) (h0 G) := rd_qM md103 h.g
theorem Ok.g1 (h : A.Ok t Q K G V) : Rd (qM k1_pay104 A.g) (h1 G) := rd_qM md104 h.g

/-- The carries before trip `k`. -/
def Carry (t : ℕ) (Q K G V : ℕ → ℕ → ℝ) (k : ℕ) (acc : FVec Ideal S512x1 .f32 × FVec Ideal S512x1 .f32) : Prop :=
  Rd acc.1 (fun r _ => fG t (h0 Q) K (h0 G) V k r) ∧ Rd acc.2 (fun r _ => fG t (h1 Q) K (h1 G) V k r)

variable {acc : FVec Ideal S512x1 .f32 × FVec Ideal S512x1 .f32}

theorem Ok.a0 (h : A.Ok t Q K G V) (k : Fin (k1_t1_loop i).trips) : Rd (A.a0 k) (fun r c => aG t (h0 Q) K r (512 * k.val + c)) :=
  (rd_hA lower98 h.q0 (rd_tr (h.kT k)) (h.pick0 k)).congr fun r c _ hc => aT_til (h.mask k r) c hc
theorem Ok.a1 (h : A.Ok t Q K G V) (k : Fin (k1_t1_loop i).trips) : Rd (A.a1 k) (fun r c => aG t (h1 Q) K r (512 * k.val + c)) :=
  (rd_hA lower98 h.q1 (rd_tr (h.kT k)) (h.pick1 k)).congr fun r c _ hc => aT_til (h.mask k r) c hc
theorem Ok.dl0 (h : A.Ok t Q K G V) (k : Fin (k1_t1_loop i).trips) :
    Rd (A.dl0 k) (dlT (fun _ _ => true) (h0 Q) (til k.val K) (h0 G) (til k.val V) (cG t (h0 Q) K k.val)) :=
  rd_hDl lower98 h.q0 (rd_tr (h.kT k)) h.g0 (rd_tr (h.vT k)) (h.pick0 k)
theorem Ok.dl1 (h : A.Ok t Q K G V) (k : Fin (k1_t1_loop i).trips) :
    Rd (A.dl1 k) (dlT (fun _ _ => true) (h1 Q) (til k.val K) (h1 G) (til k.val V) (cG t (h1 Q) K k.val)) :=
  rd_hDl lower98 h.q1 (rd_tr (h.kT k)) h.g1 (rd_tr (h.vT k)) (h.pick1 k)
theorem Ok.dz0 (h : A.Ok t Q K G V) (k : Fin (k1_t1_loop i).trips) (ha : Carry t Q K G V k.val acc) :
    Rd (A.dz0 k acc.1) (fun r c => dz0T t Q K G V r (512 * k.val + c)) :=
  (rd_hDz lower98 upper99 h.q0 (rd_tr (h.kT k)) h.g0 (rd_tr (h.vT k)) (h.pick0 k) ha.1).congr fun r c _ hc => dzT_til (h.mask k r) c hc
theorem Ok.dz1 (h : A.Ok t Q K G V) (k : Fin (k1_t1_loop i).trips) (ha : Carry t Q K G V k.val acc) :
    Rd (A.dz1 k acc.2) (fun r c => dz1T t Q K G V r (512 * k.val + c)) :=
  (rd_hDz lower98 upper99 h.q1 (rd_tr (h.kT k)) h.g1 (rd_tr (h.vT k)) (h.pick1 k) ha.2).congr fun r c _ hc => dzT_til (h.mask k r) c hc

theorem Ok.yl (h : A.Ok t Q K G V) (k : Fin (k1_t1_loop i).trips) (ha : Carry t Q K G V k.val acc) : Carry t Q K G V (k.val + 1) (A.yl k acc) :=
  ⟨(ha.1.addf (rd_bTot (h.dl0 k))).congr fun r _ _ _ => fG_succ (h.mask k r), (ha.2.addf (rd_bTot (h.dl1 k))).congr fun r _ _ _ => fG_succ (h.mask k r)⟩

theorem Ok.pq (h : A.Ok t Q K G V) (k : Fin (k1_t1_loop i).trips) (ha : Carry t Q K G V k.val acc) :
    Rd (A.pq k acc) (fun r d => ∑ c ∈ Finset.range 512, dqT t Q K G V r d (512 * k.val + c)) :=
  ((rd_bNN (h.dz0 k ha) (rd_qM md103 (h.kT k))).addf (rd_bNN (h.dz1 k ha) (rd_qM md104 (h.kT k)))).congr fun r d _ _ => by
    rw [← Finset.sum_add_distrib]; rfl
theorem Ok.pk (h : A.Ok t Q K G V) (k : Fin (k1_t1_loop i).trips) (ha : Carry t Q K G V k.val acc) :
    Rd (A.pk k acc) (fun c d => dkT t Q K G V (512 * k.val + c) d) :=
  (rd_bTN (h.dz0 k ha) h.q0).addf (rd_bTN (h.dz1 k ha) h.q1)
theorem Ok.pv (h : A.Ok t Q K G V) (k : Fin (k1_t1_loop i).trips) :
    Rd (A.pv k) (fun c d => dvT t Q K G (512 * k.val + c) d) :=
  (rd_bTN ((h.a0 k).truncf _) h.g0).addf (rd_bTN ((h.a1 k).truncf _) h.g1)

variable (A)

/-- The loop's state before trip `n`. -/
abbrev st (g8 : BufTy.Contents (Elt Ideal) A.arg8.view.ty) (g9 : BufTy.Contents (Elt Ideal) A.arg9.view.ty) (g10 : BufTy.Contents (Elt Ideal) A.arg10.view.ty)
    (init : FVec Ideal S512x1 .f32 × FVec Ideal S512x1 .f32) (n : ℕ) :=
  st_k1_t1 (F := Ideal) A.𝒱 A.c A.bd i A.arg2 A.harg2 A.arg3 A.harg3 A.arg4 A.harg4 A.arg5 A.harg5 A.arg6 A.harg6 A.arg7 A.harg7 A.arg8 A.harg8
      A.arg9 A.harg9 A.arg10 A.harg10 (BitVec.ofNat 32 (i 1).val) lanes k1_pay98 k1_pay99 A.q A.g k1_pay103 k1_pay104 (Scalar.ofBits .f32 0x00000000#32)
      A.x3 A.x4 A.x6 g8 g9 g10 init n

/-- One more trip. -/
theorem st_succ (g8 : BufTy.Contents (Elt Ideal) A.arg8.view.ty) (g9 : BufTy.Contents (Elt Ideal) A.arg9.view.ty) (g10 : BufTy.Contents (Elt Ideal) A.arg10.view.ty)
    (init : FVec Ideal S512x1 .f32 × FVec Ideal S512x1 .f32) (k : Fin (k1_t1_loop i).trips) :
    A.st g8 g9 g10 init (k.val + 1) =
      (A.yl k (A.st g8 g9 g10 init k.val).1,
        ⟨rows k, addf (sc (View.readAt (Elt Ideal) A.arg8.view (rows k).toLoadRect (A.arg8.view.writes (Elt Ideal) g8 (A.st g8 g9 g10 init k.val).2.1)))
          (A.pk k (A.st g8 g9 g10 init k.val).1)⟩ :: (A.st g8 g9 g10 init k.val).2.1,
        ⟨rows k, addf (sc (View.readAt (Elt Ideal) A.arg9.view (rows k).toLoadRect (A.arg9.view.writes (Elt Ideal) g9 (A.st g8 g9 g10 init k.val).2.2.1)))
          (A.pv k)⟩ :: (A.st g8 g9 g10 init k.val).2.2.1,
        ⟨tile, sc (addf (View.readAt (Elt Ideal) A.arg10.view tile.toLoadRect (A.arg10.view.writes (Elt Ideal) g10 (A.st g8 g9 g10 init k.val).2.2.2))
          (A.pq k (A.st g8 g9 g10 init k.val).1))⟩ :: (A.st g8 g9 g10 init k.val).2.2.2) := by
  refine (st_k1_t1_succ (F := Ideal) A.𝒱 A.c A.bd i A.arg2 A.harg2 A.arg3 A.harg3 A.arg4 A.harg4 A.arg5 A.harg5 A.arg6 A.harg6 A.arg7 A.harg7 A.arg8
      A.harg8 A.arg9 A.harg9 A.arg10 A.harg10 (BitVec.ofNat 32 (i 1).val) lanes k1_pay98 k1_pay99 A.q A.g k1_pay103 k1_pay104
      (Scalar.ofBits .f32 0x00000000#32) A.x3 A.x4 A.x6 g8 g9 g10 init k).trans ?_
  rw [A.tripR, A.tripL]
  rfl

/-- What the loop's state holds before trip `n`, from the tables `T8`, `T9`, `T10` its written windows hold at the start. -/
structure Inv (t : ℕ) (Q K G V T8 T9 T10 : ℕ → ℕ → ℝ) (g8 : BufTy.Contents (Elt Ideal) A.arg8.view.ty) (g9 : BufTy.Contents (Elt Ideal) A.arg9.view.ty)
    (g10 : BufTy.Contents (Elt Ideal) A.arg10.view.ty) (init : FVec Ideal S512x1 .f32 × FVec Ideal S512x1 .f32) (n : ℕ) : Prop where
  c : Carry t Q K G V n (A.st g8 g9 g10 init n).1
  k : Rd (n := 2048) (m := 128) (φ := .f32) (A.arg8.view.read (Elt Ideal) (A.arg8.view.writes (Elt Ideal) g8 (A.st g8 g9 g10 init n).2.1))
    (fun s d => T8 s d + if s < 512 * n then dkT t Q K G V s d else 0)
  v : Rd (n := 2048) (m := 128) (φ := .f32) (A.arg9.view.read (Elt Ideal) (A.arg9.view.writes (Elt Ideal) g9 (A.st g8 g9 g10 init n).2.2.1))
    (fun s d => T9 s d + if s < 512 * n then dvT t Q K G s d else 0)
  q : Rd (n := 512) (m := 128) (φ := .f32) (A.arg10.view.read (Elt Ideal) (A.arg10.view.writes (Elt Ideal) g10 (A.st g8 g9 g10 init n).2.2.2))
    (fun r d => T10 r d + ∑ s ∈ Finset.range (512 * n), dqT t Q K G V r d s)

variable {A} {T8 T9 T10 : ℕ → ℕ → ℝ} {g8 : BufTy.Contents (Elt Ideal) A.arg8.view.ty} {g9 : BufTy.Contents (Elt Ideal) A.arg9.view.ty}
    {g10 : BufTy.Contents (Elt Ideal) A.arg10.view.ty} {init : FVec Ideal S512x1 .f32 × FVec Ideal S512x1 .f32}

/-- One more tile's rows written: the sum up to tile `k` becomes the sum up to tile `k + 1`. -/
theorem step_rows (k : ℕ) (T D : ℕ → ℕ → ℝ) (s d : ℕ) :
    (if 512 * k ≤ s ∧ s < 512 * k + 512 then
        (T (512 * k + (s - 512 * k)) d + if 512 * k + (s - 512 * k) < 512 * k then D (512 * k + (s - 512 * k)) d else 0) + D (512 * k + (s - 512 * k)) d
      else T s d + if s < 512 * k then D s d else 0)
      = T s d + if s < 512 * (k + 1) then D s d else 0 := by
  by_cases h : 512 * k ≤ s ∧ s < 512 * k + 512
  · rw [if_pos h, show 512 * k + (s - 512 * k) = s by omega, if_neg (by omega), if_pos (by omega), add_zero]
  · rw [if_neg h]
    by_cases h' : s < 512 * k
    · rw [if_pos h', if_pos (by omega)]
    · rw [if_neg h', if_neg (by omega)]

theorem Ok.inv_succ (h : A.Ok t Q K G V) (k : Fin (k1_t1_loop i).trips) (p : A.Inv t Q K G V T8 T9 T10 g8 g9 g10 init k.val) :
    A.Inv t Q K G V T8 T9 T10 g8 g9 g10 init (k.val + 1) := by
  have e := A.st_succ g8 g9 g10 init k
  have o := off1_val i k
  obtain ⟨pc, pk, pv, pq⟩ := p
  refine ⟨?_, ?_, ?_, ?_⟩
  · rw [e]
    exact h.yl k pc
  · rw [e]
    exact (rd_writeRows _ _ _ pk _ _ o ((rd_sc (rd_readRows _ _ pk _ _ o)).addf (h.pk k pc))).congr fun s d _ _ => step_rows k.val T8 (dkT t Q K G V) s d
  · rw [e]
    exact (rd_writeRows _ _ _ pv _ _ o ((rd_sc (rd_readRows _ _ pv _ _ o)).addf (h.pv k))).congr fun s d _ _ => step_rows k.val T9 (dvT t Q K G) s d
  · rw [e]
    exact (rd_writeTile _ _ _ (rd_sc ((rd_readTile _ _ pq).addf (h.pq k pc)))).congr fun r d _ _ => by
      rw [add_assoc, sum_tiles_succ (dqT t Q K G V r d)]

/-- The state after `n` trips. -/
theorem Ok.inv (h : A.Ok t Q K G V) (hi : Carry t Q K G V 0 init) (h8 : Rd (n := 2048) (m := 128) (φ := .f32) (A.arg8.view.read (Elt Ideal) g8) T8)
    (h9 : Rd (n := 2048) (m := 128) (φ := .f32) (A.arg9.view.read (Elt Ideal) g9) T9)
    (h10 : Rd (n := 512) (m := 128) (φ := .f32) (A.arg10.view.read (Elt Ideal) g10) T10) :
    ∀ n, n ≤ (k1_t1_loop i).trips → A.Inv t Q K G V T8 T9 T10 g8 g9 g10 init n
  | 0, _ => ⟨hi, h8.congr fun s d _ _ => by simp, h9.congr fun s d _ _ => by simp, h10.congr fun s d _ _ => by simp⟩
  | n + 1, hn => h.inv_succ ⟨n, hn⟩ (h.inv hi h8 h9 h10 n (by omega))

end A1

end Cert.Sb

end
-- ==== Proof.Diag1.lean ====
/- The backward kernel's body at one grid point: the diagonal tile after the loop, and what the body leaves in its windows. -/
module

public import proofs.«01_k».proof.Proof.State1
public import proofs.«01_k».proof.Proof.Gen.KernelIdeal.Frame

@[expose] public section

noncomputable section

namespace Cert.Sb

open Idealize.ShloMosaic Idealize.ShloMosaic.TcCoe Idealize.ShloMosaic.Tactic Idealize.ShloMosaic.ValueIdx
open Cert.KernelIdeal Cert.KernelIdeal.Gen Idealize.SL Idealize.SL.Sem

namespace A1

/-- The rows of a grid point's own tile of keys. -/
abbrev rowsD (i : grid1.Coords) : Rect S2048x128 := Rect.unit (s := S2048x128) (k1_off3 i) S512x128.size (k1_off3_inb i)
/-- A whole column. -/
abbrev colW : Rect S2048x128 := Rect.unit (s := S2048x128) ![0, 0] S2048x128.size inb_S2048x128_S2048x128_0_0

/-- A grid point, from the contents its windows are handed. -/
def of (c : Dev nD) (i : grid1.Coords) (arg2 : Memref sig .tc .vmem S512x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S512x128 .f32) (harg5 : arg5.IsWhole) (arg6 : Memref sig .tc .vmem S2x512x128 .f32) (harg6 : arg6.IsWhole) (arg7 : Memref sig .tc .vmem S512x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S512x128 .f32) (harg10 : arg10.IsWhole)
    (x0 : Vec Ideal S512x128 .f32) (x1 x2 : Vec Ideal S2048x128 .f32) (x3 : Vec Ideal S512x128 .f32) (x4 : Vec Ideal S2x512x128 .f32) : A1 i where
  𝒱 := Variants.none
  c := c
  bd := none
  arg2 := arg2
  harg2 := harg2
  arg3 := arg3
  harg3 := harg3
  arg4 := arg4
  harg4 := harg4
  arg5 := arg5
  harg5 := harg5
  arg6 := arg6
  harg6 := harg6
  arg7 := arg7
  harg7 := harg7
  arg8 := arg8
  harg8 := harg8
  arg9 := arg9
  harg9 := harg9
  arg10 := arg10
  harg10 := harg10
  q := k1_pay101 (View.readAt (Elt Ideal) arg2.view tile.toLoadRect (harg2.unread x0))
  g := View.readAt (Elt Ideal) arg5.view tile.toLoadRect (harg5.unread x3)
  x3 := harg3.unread x1
  x4 := harg4.unread x2
  x6 := harg6.unread x4

variable {i : grid1.Coords} (A : A1 i)

/-- The tile's own keys. -/
def kD : Vec Ideal S512x128 .f32 := View.readAt (Elt Ideal) A.arg3.view (rowsD i).toLoadRect A.x3
/-- The tile's own values. -/
def vD : Vec Ideal S512x128 .f32 := View.readAt (Elt Ideal) A.arg4.view (rowsD i).toLoadRect A.x4

/-- The diagonal's weights of the first head. -/
def da0 : FVec Ideal S512x512 .f32 :=
  mA k1_pay100 (k1_pay98 (F := Ideal)) (qM k1_pay103 A.q) (tr A.kD) (bPick lanes (BitVec.ofNat 32 (i 1).val) A.cb0)
/-- The diagonal's weights of the second head. -/
def da1 : FVec Ideal S512x512 .f32 :=
  mA k1_pay100 (k1_pay98 (F := Ideal)) (qM k1_pay104 A.q) (tr A.kD) (bPick lanes (BitVec.ofNat 32 (i 1).val) A.cb1)
/-- The diagonal's scores' gradients of the first head. -/
def ddz0 (fs : FVec Ideal S512x1 .f32) : FVec Ideal S512x512 .bf16 :=
  mDz k1_pay100 (k1_pay98 (F := Ideal)) (k1_pay99 (F := Ideal)) (qM k1_pay103 A.q) (tr A.kD) (qM k1_pay103 A.g) (tr A.vD)
    (bPick lanes (BitVec.ofNat 32 (i 1).val) A.cb0) fs
/-- The diagonal's scores' gradients of the second head. -/
def ddz1 (fs : FVec Ideal S512x1 .f32) : FVec Ideal S512x512 .bf16 :=
  mDz k1_pay100 (k1_pay98 (F := Ideal)) (k1_pay99 (F := Ideal)) (qM k1_pay104 A.q) (tr A.kD) (qM k1_pay104 A.g) (tr A.vD)
    (bPick lanes (BitVec.ofNat 32 (i 1).val) A.cb1) fs

/-- What the diagonal adds to the queries' gradient. -/
def dpq (acc : FVec Ideal S512x1 .f32 × FVec Ideal S512x1 .f32) : FVec Ideal S512x128 .f32 :=
  addf (bNN (A.ddz0 acc.1) (qM k1_pay103 A.kD)) (bNN (A.ddz1 acc.2) (qM k1_pay104 A.kD))
/-- What the diagonal adds to the keys' gradient. -/
def dpk (acc : FVec Ideal S512x1 .f32 × FVec Ideal S512x1 .f32) : FVec Ideal S512x128 .f32 :=
  addf (bTN (A.ddz0 acc.1) (qM k1_pay103 A.q)) (bTN (A.ddz1 acc.2) (qM k1_pay104 A.q))
/-- What the diagonal adds to the values' gradient. -/
def dpv : FVec Ideal S512x128 .f32 :=
  addf (bTN (truncf .bf16 A.da0 bitsLt_bf16_f32) (qM k1_pay103 A.g)) (bTN (truncf .bf16 A.da1 bitsLt_bf16_f32) (qM k1_pay104 A.g))

/-- The first loop's state at its end. -/
abbrev e1 (g8 : BufTy.Contents (Elt Ideal) A.arg8.view.ty) (g9 : BufTy.Contents (Elt Ideal) A.arg9.view.ty) (g10 : BufTy.Contents (Elt Ideal) A.arg10.view.ty) :=
  A.st g8 g9 g10 (k1_pay109, k1_pay109) (k1_t1_loop i).trips
/-- The second loop's state, which makes no trip. -/
abbrev e2 (g8 : BufTy.Contents (Elt Ideal) A.arg8.view.ty) (g9 : BufTy.Contents (Elt Ideal) A.arg9.view.ty) (g10 : BufTy.Contents (Elt Ideal) A.arg10.view.ty)
    (init : FVec Ideal S512x1 .f32 × FVec Ideal S512x1 .f32) :=
  st_k1_t2 (F := Ideal) A.𝒱 A.c A.bd i A.arg2 A.harg2 A.arg3 A.harg3 A.arg4 A.harg4 A.arg5 A.harg5 A.arg6 A.harg6 A.arg7 A.harg7 A.arg8 A.harg8 A.arg9 A.harg9 A.arg10 A.harg10 (BitVec.ofNat 32 (i 1).val) lanes k1_pay98 k1_pay99 A.q A.g k1_pay103 k1_pay104
      (Scalar.ofBits .f32 0x00000000#32) (k1_t2_loop i).lb A.x3 A.x4 A.x6 g8 g9 g10 init (k1_t2_loop i).trips

theorem e2_eq (g8 : BufTy.Contents (Elt Ideal) A.arg8.view.ty) (g9 : BufTy.Contents (Elt Ideal) A.arg9.view.ty) (g10 : BufTy.Contents (Elt Ideal) A.arg10.view.ty)
    (init : FVec Ideal S512x1 .f32 × FVec Ideal S512x1 .f32) : A.e2 g8 g9 g10 init = (init, [], [], []) := by
  unfold e2
  rw [trips1']
  rfl

/-- The carries when the diagonal is reached. -/
abbrev accD (g8 : BufTy.Contents (Elt Ideal) A.arg8.view.ty) (g9 : BufTy.Contents (Elt Ideal) A.arg9.view.ty) (g10 : BufTy.Contents (Elt Ideal) A.arg10.view.ty) :=
  (A.e1 g8 g9 g10).1

/-- The piece the diagonal stores in the keys' gradient, over the contents it finds. -/
def pcK (f8 : BufTy.Contents (Elt Ideal) A.arg8.view.ty) (acc : FVec Ideal S512x1 .f32 × FVec Ideal S512x1 .f32) : View.Piece (Elt Ideal) S2048x128 .f32 :=
  ⟨rowsD i, addf (sc (View.readAt (Elt Ideal) A.arg8.view (rowsD i).toLoadRect f8)) (A.dpk acc)⟩
/-- The piece the diagonal stores in the values' gradient, over the contents it finds. -/
def pcV (f9 : BufTy.Contents (Elt Ideal) A.arg9.view.ty) : View.Piece (Elt Ideal) S2048x128 .f32 :=
  ⟨rowsD i, addf (sc (View.readAt (Elt Ideal) A.arg9.view (rowsD i).toLoadRect f9)) A.dpv⟩
/-- The piece the diagonal stores in the queries' accumulator, over the contents it finds. -/
def pcQ (f10 : BufTy.Contents (Elt Ideal) A.arg10.view.ty) (acc : FVec Ideal S512x1 .f32 × FVec Ideal S512x1 .f32) : View.Piece (Elt Ideal) S512x128 .f32 :=
  ⟨tile, sc (addf (View.readAt (Elt Ideal) A.arg10.view tile.toLoadRect f10) (A.dpq acc))⟩

/-- The accumulator's contents when the loop starts. -/
abbrev g10 : BufTy.Contents (Elt Ideal) A.arg10.view.ty := A.arg10.view.writes (Elt Ideal) A.arg10.view.junk [⟨tile, k1_pay102 (F := Ideal)⟩]

section
variable (b8 : BufTy.Contents (Elt Ideal) A.arg8.view.ty) (Z8 : List (View.Piece (Elt Ideal) S2048x128 .f32))
  (b9 : BufTy.Contents (Elt Ideal) A.arg9.view.ty) (Z9 : List (View.Piece (Elt Ideal) S2048x128 .f32))

/-- The keys' gradient's contents when the loop starts. -/
abbrev g8 := A.arg8.view.writes (Elt Ideal) b8 Z8
/-- The values' gradient's contents when the loop starts. -/
abbrev g9 := A.arg9.view.writes (Elt Ideal) b9 Z9
/-- The first loop's end state on these contents. -/
abbrev s1 := A.e1 (A.g8 b8 Z8) (A.g9 b9 Z9) A.g10
/-- The second loop's end state on these contents. -/
abbrev s2 := A.e2 (A.arg8.view.writes (Elt Ideal) b8 ((A.s1 b8 Z8 b9 Z9).2.1 ++ Z8)) (A.arg9.view.writes (Elt Ideal) b9 ((A.s1 b8 Z8 b9 Z9).2.2.1 ++ Z9))
  (A.arg10.view.writes (Elt Ideal) A.arg10.view.junk ((A.s1 b8 Z8 b9 Z9).2.2.2 ++ [⟨tile, k1_pay102 (F := Ideal)⟩])) ((A.s1 b8 Z8 b9 Z9).1.1, (A.s1 b8 Z8 b9 Z9).1.2)
/-- All pieces of the keys' gradient before the diagonal. -/
abbrev L8 := (A.s2 b8 Z8 b9 Z9).2.1 ++ ((A.s1 b8 Z8 b9 Z9).2.1 ++ Z8)
/-- All pieces of the values' gradient before the diagonal. -/
abbrev L9 := (A.s2 b8 Z8 b9 Z9).2.2.1 ++ ((A.s1 b8 Z8 b9 Z9).2.2.1 ++ Z9)
/-- All pieces of the accumulator before the diagonal. -/
abbrev L10 := (A.s2 b8 Z8 b9 Z9).2.2.2 ++ ((A.s1 b8 Z8 b9 Z9).2.2.2 ++ [⟨tile, k1_pay102 (F := Ideal)⟩])
/-- All pieces of the keys' gradient. -/
abbrev P8 := A.pcK (A.arg8.view.writes (Elt Ideal) b8 (A.L8 b8 Z8 b9 Z9)) (A.s2 b8 Z8 b9 Z9).1 :: A.L8 b8 Z8 b9 Z9
/-- All pieces of the values' gradient. -/
abbrev P9 := A.pcV (A.arg9.view.writes (Elt Ideal) b9 (A.L9 b8 Z8 b9 Z9)) :: A.L9 b8 Z8 b9 Z9
/-- All pieces of the accumulator. -/
abbrev P10 := A.pcQ (A.arg10.view.writes (Elt Ideal) A.arg10.view.junk (A.L10 b8 Z8 b9 Z9)) (A.s2 b8 Z8 b9 Z9).1 :: A.L10 b8 Z8 b9 Z9
/-- The piece stored in the queries' gradient. -/
abbrev P7 : List (View.Piece (Elt Ideal) S512x128 .f32) :=
  [⟨tile, k1_pay3 (View.readAt (Elt Ideal) A.arg10.view tile.toLoadRect (A.arg10.view.writes (Elt Ideal) A.arg10.view.junk (A.P10 b8 Z8 b9 Z9)))⟩]
end

section
variable (c : Dev nD) (arg2 : Memref sig .tc .vmem S512x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S512x128 .f32) (harg5 : arg5.IsWhole) (arg6 : Memref sig .tc .vmem S2x512x128 .f32) (harg6 : arg6.IsWhole) (arg7 : Memref sig .tc .vmem S512x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S512x128 .f32) (harg10 : arg10.IsWhole)
  (x0 : Vec Ideal S512x128 .f32) (x1 x2 : Vec Ideal S2048x128 .f32) (x3 : Vec Ideal S512x128 .f32) (x4 : Vec Ideal S2x512x128 .f32)

theorem run_A5 (hc0 : cond1_0 i) :
    (kernelRun1_A (F := Ideal) c i arg2 harg2 arg3 harg3 arg4 harg4 arg5 harg5 arg6 harg6 arg7 harg7 arg8 harg8 arg9 harg9 arg10 harg10 hc0 x0 x1 x2 x3 x4).1
        = (A1.of c i arg2 harg2 arg3 harg3 arg4 harg4 arg5 harg5 arg6 harg6 arg7 harg7 arg8 harg8 arg9 harg9 arg10 harg10 x0 x1 x2 x3 x4).P7 arg8.view.junk [⟨colW, k1_pay96 (F := Ideal)⟩] arg9.view.junk [⟨colW, k1_pay97 (F := Ideal)⟩] := by
  unfold kernelRun1_A
  dsimp only
  sl_unfold_words
  rfl

theorem run_A6 (hc0 : cond1_0 i) :
    (kernelRun1_A (F := Ideal) c i arg2 harg2 arg3 harg3 arg4 harg4 arg5 harg5 arg6 harg6 arg7 harg7 arg8 harg8 arg9 harg9 arg10 harg10 hc0 x0 x1 x2 x3 x4).2.1
        = (A1.of c i arg2 harg2 arg3 harg3 arg4 harg4 arg5 harg5 arg6 harg6 arg7 harg7 arg8 harg8 arg9 harg9 arg10 harg10 x0 x1 x2 x3 x4).P8 arg8.view.junk [⟨colW, k1_pay96 (F := Ideal)⟩] arg9.view.junk [⟨colW, k1_pay97 (F := Ideal)⟩] := by
  unfold kernelRun1_A
  dsimp only
  sl_unfold_words
  rfl

theorem run_A7 (hc0 : cond1_0 i) :
    (kernelRun1_A (F := Ideal) c i arg2 harg2 arg3 harg3 arg4 harg4 arg5 harg5 arg6 harg6 arg7 harg7 arg8 harg8 arg9 harg9 arg10 harg10 hc0 x0 x1 x2 x3 x4).2.2.1
        = (A1.of c i arg2 harg2 arg3 harg3 arg4 harg4 arg5 harg5 arg6 harg6 arg7 harg7 arg8 harg8 arg9 harg9 arg10 harg10 x0 x1 x2 x3 x4).P9 arg8.view.junk [⟨colW, k1_pay96 (F := Ideal)⟩] arg9.view.junk [⟨colW, k1_pay97 (F := Ideal)⟩] := by
  unfold kernelRun1_A
  dsimp only
  sl_unfold_words
  rfl

variable (hc0 : ¬cond1_0 i) (xo6 xo7 : Vec Ideal S2048x128 .f32)

theorem run_B5 :
    (kernelRun1_B (F := Ideal) c i arg2 harg2 arg3 harg3 arg4 harg4 arg5 harg5 arg6 harg6 arg7 harg7 arg8 harg8 arg9 harg9 arg10 harg10 hc0 x0 x1 x2 x3 x4 xo6 xo7).1
        = (A1.of c i arg2 harg2 arg3 harg3 arg4 harg4 arg5 harg5 arg6 harg6 arg7 harg7 arg8 harg8 arg9 harg9 arg10 harg10 x0 x1 x2 x3 x4).P7 (harg8.unread xo6) [] (harg9.unread xo7) [] := by
  unfold kernelRun1_B
  dsimp only
  sl_unfold_words
  simp only [P7, P8, P9, P10, L8, L9, L10, s1, s2, List.append_nil]
  rfl

theorem run_B6 :
    (kernelRun1_B (F := Ideal) c i arg2 harg2 arg3 harg3 arg4 harg4 arg5 harg5 arg6 harg6 arg7 harg7 arg8 harg8 arg9 harg9 arg10 harg10 hc0 x0 x1 x2 x3 x4 xo6 xo7).2.1
        = (A1.of c i arg2 harg2 arg3 harg3 arg4 harg4 arg5 harg5 arg6 harg6 arg7 harg7 arg8 harg8 arg9 harg9 arg10 harg10 x0 x1 x2 x3 x4).P8 (harg8.unread xo6) [] (harg9.unread xo7) [] := by
  unfold kernelRun1_B
  dsimp only
  sl_unfold_words
  simp only [P7, P8, P9, P10, L8, L9, L10, s1, s2, List.append_nil]
  rfl

theorem run_B7 :
    (kernelRun1_B (F := Ideal) c i arg2 harg2 arg3 harg3 arg4 harg4 arg5 harg5 arg6 harg6 arg7 harg7 arg8 harg8 arg9 harg9 arg10 harg10 hc0 x0 x1 x2 x3 x4 xo6 xo7).2.2.1
        = (A1.of c i arg2 harg2 arg3 harg3 arg4 harg4 arg5 harg5 arg6 harg6 arg7 harg7 arg8 harg8 arg9 harg9 arg10 harg10 x0 x1 x2 x3 x4).P9 (harg8.unread xo6) [] (harg9.unread xo7) [] := by
  unfold kernelRun1_B
  dsimp only
  sl_unfold_words
  simp only [P7, P8, P9, P10, L8, L9, L10, s1, s2, List.append_nil]
  rfl

end

end A1

end Cert.Sb

end
-- ==== Proof.Post1.lean ====
/- The backward kernel's body at one grid point, read as tables: the queries' gradient, and what it adds to the keys' and the
   values' gradients. -/
module

public import proofs.«01_k».proof.Proof.Diag1

@[expose] public section

noncomputable section

namespace Cert.Sb

open Idealize.ShloMosaic Idealize.ShloMosaic.TcCoe Idealize.ShloMosaic.ValueIdx
open Cert.KernelIdeal Cert.KernelIdeal.Gen Idealize.SL Idealize.SL.Sem
open scoped BigOperators

variable {t : ℕ} {Q K G V : ℕ → ℕ → ℝ}

/-- A key that no query of the tile may see has no gradient of its score. -/
theorem dzG_late (r s : ℕ) (h : t + r ≤ s) : dzG t Q K G V r s = 0 := by
  unfold dzG
  rw [if_neg (by omega)]
/-- A key that no query of the tile may see has no weight. -/
theorem aG_late (r s : ℕ) (h : t + r ≤ s) : aG t Q K r s = 0 := by
  unfold aG
  rw [if_neg (by omega)]
theorem dkT_late (s d : ℕ) (h : t + 512 ≤ s) : dkT t Q K G V s d = 0 := by
  unfold dkT dz0T dz1T
  rw [Finset.sum_eq_zero fun r hr => by rw [dzG_late r s (by have := Finset.mem_range.1 hr; omega), zero_mul],
    Finset.sum_eq_zero fun r hr => by rw [dzG_late r s (by have := Finset.mem_range.1 hr; omega), zero_mul], add_zero]
theorem dvT_late (s d : ℕ) (h : t + 512 ≤ s) : dvT t Q K G s d = 0 := by
  unfold dvT
  rw [Finset.sum_eq_zero fun r hr => by rw [aG_late r s (by have := Finset.mem_range.1 hr; omega), zero_mul],
    Finset.sum_eq_zero fun r hr => by rw [aG_late r s (by have := Finset.mem_range.1 hr; omega), zero_mul], add_zero]
theorem dqT_late (r d s : ℕ) (h : t + r ≤ s) : dqT t Q K G V r d s = 0 := by
  unfold dqT dz0T dz1T
  rw [dzG_late r s h, dzG_late r s h, zero_mul, zero_mul, add_zero]

namespace A1

variable {i : grid1.Coords} {A : A1 i}

theorem Ok.maskD (h : A.Ok t Q K G V) (r c : ℕ) (_ : c < 512) :
    (fun r c => decide (c < r) : ℕ → ℕ → Bool) r c = decide (512 * (i 1).val + c < t + r) := by
  rw [h.t]
  exact decide_eq_decide.2 (by omega)

theorem Ok.kD (h : A.Ok t Q K G V) : Rd (φ := .f32) A.kD (til (i 1).val K) := rd_readRows _ _ h.k _ _ (off3_val i)
theorem Ok.vD (h : A.Ok t Q K G V) : Rd (φ := .f32) A.vD (til (i 1).val V) := rd_readRows _ _ h.v _ _ (off3_val i)
theorem Ok.pickD0 (h : A.Ok t Q K G V) : Rd (bPick lanes (BitVec.ofNat 32 (i 1).val) A.cb0) (fun r _ => cG t (h0 Q) K (i 1).val r) := by
  have := i_lt (i := i)
  exact rd_bPick lanes_val (i 1).val (by omega) fun r => h.c0 _ _ r le_rfl
theorem Ok.pickD1 (h : A.Ok t Q K G V) : Rd (bPick lanes (BitVec.ofNat 32 (i 1).val) A.cb1) (fun r _ => cG t (h1 Q) K (i 1).val r) := by
  have := i_lt (i := i)
  exact rd_bPick lanes_val (i 1).val (by omega) fun r => h.c1 _ _ r le_rfl

theorem Ok.da0 (h : A.Ok t Q K G V) : Rd A.da0 (fun r c => aG t (h0 Q) K r (512 * (i 1).val + c)) :=
  (rd_mA md100 lower98 h.q0 (rd_tr h.kD) h.pickD0).congr fun r c _ hc => aT_til (h.maskD r) c hc
theorem Ok.da1 (h : A.Ok t Q K G V) : Rd A.da1 (fun r c => aG t (h1 Q) K r (512 * (i 1).val + c)) :=
  (rd_mA md100 lower98 h.q1 (rd_tr h.kD) h.pickD1).congr fun r c _ hc => aT_til (h.maskD r) c hc

variable {acc : FVec Ideal S512x1 .f32 × FVec Ideal S512x1 .f32}

theorem Ok.ddz0 (h : A.Ok t Q K G V) (ha : Carry t Q K G V (i 1).val acc) :
    Rd (A.ddz0 acc.1) (fun r c => dz0T t Q K G V r (512 * (i 1).val + c)) :=
  (rd_mDz md100 lower98 upper99 h.q0 (rd_tr h.kD) h.g0 (rd_tr h.vD) h.pickD0 ha.1).congr fun r c _ hc => dzT_til (h.maskD r) c hc
theorem Ok.ddz1 (h : A.Ok t Q K G V) (ha : Carry t Q K G V (i 1).val acc) :
    Rd (A.ddz1 acc.2) (fun r c => dz1T t Q K G V r (512 * (i 1).val + c)) :=
  (rd_mDz md100 lower98 upper99 h.q1 (rd_tr h.kD) h.g1 (rd_tr h.vD) h.pickD1 ha.2).congr fun r c _ hc => dzT_til (h.maskD r) c hc

theorem Ok.dpq (h : A.Ok t Q K G V) (ha : Carry t Q K G V (i 1).val acc) :
    Rd (A.dpq acc) (fun r d => ∑ c ∈ Finset.range 512, dqT t Q K G V r d (512 * (i 1).val + c)) :=
  ((rd_bNN (h.ddz0 ha) (rd_qM md103 h.kD)).addf (rd_bNN (h.ddz1 ha) (rd_qM md104 h.kD))).congr fun r d _ _ => by
    rw [← Finset.sum_add_distrib]; rfl
theorem Ok.dpk (h : A.Ok t Q K G V) (ha : Carry t Q K G V (i 1).val acc) :
    Rd (A.dpk acc) (fun c d => dkT t Q K G V (512 * (i 1).val + c) d) :=
  (rd_bTN (h.ddz0 ha) h.q0).addf (rd_bTN (h.ddz1 ha) h.q1)
theorem Ok.dpv (h : A.Ok t Q K G V) :
    Rd A.dpv (fun c d => dvT t Q K G (512 * (i 1).val + c) d) :=
  (rd_bTN (h.da0.truncf _) h.g0).addf (rd_bTN (h.da1.truncf _) h.g1)

/-- The columns the loop starts from are zero. -/
theorem rd_start : Carry t Q K G V 0 (k1_pay109, k1_pay109) :=
  ⟨Rd.congr (x := k1_pay109) Rd.zero fun r _ _ _ => by simp [fG], Rd.congr (x := k1_pay109) Rd.zero fun r _ _ _ => by simp [fG]⟩
/-- The accumulator starts at zero. -/
theorem rd_g10 : Rd (n := 512) (m := 128) (φ := .f32) (A.arg10.view.read (Elt Ideal) A.g10) (fun _ _ => 0) :=
  rd_writeTile _ _ _ (rd_sc Rd.zero)

section
variable {b8 : BufTy.Contents (Elt Ideal) A.arg8.view.ty} {Z8 : List (View.Piece (Elt Ideal) S2048x128 .f32)}
  {b9 : BufTy.Contents (Elt Ideal) A.arg9.view.ty} {Z9 : List (View.Piece (Elt Ideal) S2048x128 .f32)} {T8 T9 : ℕ → ℕ → ℝ}

/-- A table with its own rows and everything before them added holds the whole addition. -/
theorem fill {j : ℕ} (T D : ℕ → ℕ → ℝ) (s d : ℕ) (hD : 512 * j + 512 ≤ s → D s d = 0) :
    (T s d + if s < 512 * (j + 1) then D s d else 0) = T s d + D s d := by
  by_cases h : s < 512 * (j + 1)
  · rw [if_pos h]
  · rw [if_neg h, hD (by omega)]

/-- What the body leaves in its windows. -/
theorem Ok.post (h : A.Ok t Q K G V) (h8 : Rd (n := 2048) (m := 128) (φ := .f32) (A.arg8.view.read (Elt Ideal) (A.g8 b8 Z8)) T8)
    (h9 : Rd (n := 2048) (m := 128) (φ := .f32) (A.arg9.view.read (Elt Ideal) (A.g9 b9 Z9)) T9) :
    Rd (n := 2048) (m := 128) (φ := .f32) (A.arg8.view.read (Elt Ideal) (A.arg8.view.writes (Elt Ideal) b8 (A.P8 b8 Z8 b9 Z9)))
        (fun s d => T8 s d + dkT t Q K G V s d)
      ∧ Rd (n := 2048) (m := 128) (φ := .f32) (A.arg9.view.read (Elt Ideal) (A.arg9.view.writes (Elt Ideal) b9 (A.P9 b8 Z8 b9 Z9)))
        (fun s d => T9 s d + dvT t Q K G s d)
      ∧ Rd (n := 512) (m := 128) (φ := .f32) (A.arg10.view.read (Elt Ideal) (A.arg10.view.writes (Elt Ideal) A.arg10.view.junk (A.P10 b8 Z8 b9 Z9)))
        (fun r d => ∑ s ∈ Finset.range 2048, dqT t Q K G V r d s) := by
  have o := off3_val i
  obtain ⟨pc, pk, pv, pq⟩ := h.inv rd_start h8 h9 rd_g10 (k1_t1_loop i).trips le_rfl
  have e2 := A.e2_eq (A.arg8.view.writes (Elt Ideal) b8 ((A.s1 b8 Z8 b9 Z9).2.1 ++ Z8)) (A.arg9.view.writes (Elt Ideal) b9 ((A.s1 b8 Z8 b9 Z9).2.2.1 ++ Z9))
    (A.arg10.view.writes (Elt Ideal) A.arg10.view.junk ((A.s1 b8 Z8 b9 Z9).2.2.2 ++ [⟨tile, k1_pay102 (F := Ideal)⟩])) ((A.s1 b8 Z8 b9 Z9).1.1, (A.s1 b8 Z8 b9 Z9).1.2)
  have ea : (A.s2 b8 Z8 b9 Z9).1 = (A.s1 b8 Z8 b9 Z9).1 := by rw [s2, e2]
  have e8 : A.L8 b8 Z8 b9 Z9 = (A.s1 b8 Z8 b9 Z9).2.1 ++ Z8 := by rw [L8, s2, e2]; rfl
  have e9 : A.L9 b8 Z8 b9 Z9 = (A.s1 b8 Z8 b9 Z9).2.2.1 ++ Z9 := by rw [L9, s2, e2]; rfl
  have e10 : A.L10 b8 Z8 b9 Z9 = (A.s1 b8 Z8 b9 Z9).2.2.2 ++ [⟨tile, k1_pay102 (F := Ideal)⟩] := by rw [L10, s2, e2]; rfl
  rw [trips1] at pc pk pv pq
  have tt := trips1 i
  have ht := h.t
  have hk : Rd (n := 2048) (m := 128) (φ := .f32) (A.arg8.view.read (Elt Ideal) (A.arg8.view.writes (Elt Ideal) b8 (A.L8 b8 Z8 b9 Z9)))
      (fun s d => T8 s d + if s < 512 * (i 1).val then dkT t Q K G V s d else 0) := by
    rw [e8, View.writes_append, s1, e1, tt]
    exact pk
  have hv : Rd (n := 2048) (m := 128) (φ := .f32) (A.arg9.view.read (Elt Ideal) (A.arg9.view.writes (Elt Ideal) b9 (A.L9 b8 Z8 b9 Z9)))
      (fun s d => T9 s d + if s < 512 * (i 1).val then dvT t Q K G s d else 0) := by
    rw [e9, View.writes_append, s1, e1, tt]
    exact pv
  have hq : Rd (n := 512) (m := 128) (φ := .f32) (A.arg10.view.read (Elt Ideal) (A.arg10.view.writes (Elt Ideal) A.arg10.view.junk (A.L10 b8 Z8 b9 Z9)))
      (fun r d => 0 + ∑ s ∈ Finset.range (512 * (i 1).val), dqT t Q K G V r d s) := by
    rw [e10, View.writes_append, s1, e1, tt]
    exact pq
  have hc : Carry t Q K G V (i 1).val (A.s2 b8 Z8 b9 Z9).1 := by
    rw [ea, s1, e1, tt]
    exact pc
  refine ⟨?_, ?_, ?_⟩
  · exact (rd_writeRows _ _ _ hk _ _ o ((rd_sc (rd_readRows _ _ hk _ _ o)).addf (h.dpk hc))).congr fun s d _ _ =>
      (step_rows (i 1).val T8 (dkT t Q K G V) s d).trans (fill T8 _ s d fun hs => dkT_late s d (by omega))
  · exact (rd_writeRows _ _ _ hv _ _ o ((rd_sc (rd_readRows _ _ hv _ _ o)).addf h.dpv)).congr fun s d _ _ =>
      (step_rows (i 1).val T9 (dvT t Q K G) s d).trans (fill T9 _ s d fun hs => dvT_late s d (by omega))
  · exact (rd_writeTile _ _ _ (rd_sc ((rd_readTile _ _ hq).addf (h.dpq hc)))).congr fun r d hr _ => by
      have := i_lt (i := i)
      rw [zero_add, sum_tiles_succ (dqT t Q K G V r d), Finset.range_eq_Ico, Finset.range_eq_Ico,
        ← Finset.sum_Ico_consecutive _ (show 0 ≤ 512 * ((i 1).val + 1) by omega) (show 512 * ((i 1).val + 1) ≤ 2048 by omega),
        Finset.sum_eq_zero (s := Finset.Ico (512 * ((i 1).val + 1)) 2048) fun s hs => dqT_late r d s (by have := (Finset.mem_Ico.1 hs).1; omega), add_zero]

/-- What the body stores in the queries' gradient, read through any view. -/
theorem Ok.postQ (h : A.Ok t Q K G V) (h8 : Rd (n := 2048) (m := 128) (φ := .f32) (A.arg8.view.read (Elt Ideal) (A.g8 b8 Z8)) T8)
    (h9 : Rd (n := 2048) (m := 128) (φ := .f32) (A.arg9.view.read (Elt Ideal) (A.g9 b9 Z9)) T9)
    {sg : RefSig} {κ : Kind} {sp : Space} (v : View sg κ sp S512x128 .f32) (f : v.ty.Contents (Elt Ideal)) :
    Rd (n := 512) (m := 128) (φ := .f32) (v.read (Elt Ideal) (v.writes (Elt Ideal) f (A.P7 b8 Z8 b9 Z9)))
      (fun r d => (∑ s ∈ Finset.range 2048, dqT t Q K G V r d s) * (1 / 8)) :=
  rd_writeTile v f _ ((rd_readTile _ _ (h.post h8 h9).2.2).mulf Rd.eighth)
end

end A1

end Cert.Sb

end
-- ==== Proof.Outs1.lean ====
/- The backward kernel at one grid point, from the tables its input blocks hold to the tables its output blocks hold. -/
module

public import proofs.«01_k».proof.Proof.Post1

@[expose] public section

noncomputable section

namespace Cert.Sb

open Idealize.ShloMosaic Idealize.ShloMosaic.TcCoe Idealize.ShloMosaic.ValueIdx
open Cert.KernelIdeal Cert.KernelIdeal.Gen Idealize.SL Idealize.SL.Sem
open scoped BigOperators

/-- A whole column, overwritten. -/
theorem rd_writeCol {sig : RefSig} {κ : Kind} {sp : Space} (v : View sig κ sp S2048x128 .f32) (f : v.ty.Contents (Elt Ideal)) {U : ℕ → ℕ → ℝ}
    (L : List (View.Piece (Elt Ideal) S2048x128 .f32)) {w : FVec Ideal S2048x128 .f32} (hw : Rd w U) :
    Rd (n := 2048) (m := 128) (φ := .f32) (v.read (Elt Ideal) (v.writes (Elt Ideal) f (⟨A1.colW, w⟩ :: L))) U := by
  rw [View.read_writes_full v f inb_S2048x128_S2048x128_0_0 w L]
  exact hw

/-- Contents given by what they read as. -/
theorem rd_unread {sig : RefSig} {κ : Kind} {sp : Space} {n m : ℕ} {M : Memref sig κ sp ⟨2, ![n, m]⟩ .f32} (hM : M.IsWhole)
    {x : FVec Ideal ⟨2, ![n, m]⟩ .f32} {U : ℕ → ℕ → ℝ} (hx : Rd x U) : Rd (φ := .f32) (M.view.read (Elt Ideal) (hM.unread (x : Vec Ideal ⟨2, ![n, m]⟩ .f32))) U := by
  rw [hM.read_unread]
  exact hx

namespace A1

section
variable {i : grid1.Coords} {A : A1 i} {t : ℕ} {Q K G V T8 T9 : ℕ → ℕ → ℝ}
/-- The zeros that the first point stores in the keys' gradient, and in the values'. -/
abbrev z8 : List (View.Piece (Elt Ideal) S2048x128 .f32) := [⟨colW, k1_pay96 (F := Ideal)⟩]
abbrev z9 : List (View.Piece (Elt Ideal) S2048x128 .f32) := [⟨colW, k1_pay97 (F := Ideal)⟩]

/-- The body at a first point: the columns start at zero. -/
theorem postA (h : A.Ok t Q K G V) :
    Rd (n := 2048) (m := 128) (φ := .f32) (A.arg8.view.read (Elt Ideal) (A.arg8.view.writes (Elt Ideal) A.arg8.view.junk
        (A.P8 A.arg8.view.junk z8 A.arg9.view.junk z9))) (dkT t Q K G V)
      ∧ Rd (n := 2048) (m := 128) (φ := .f32) (A.arg9.view.read (Elt Ideal) (A.arg9.view.writes (Elt Ideal) A.arg9.view.junk
        (A.P9 A.arg8.view.junk z8 A.arg9.view.junk z9))) (dvT t Q K G) := by
  have p := h.post (b8 := A.arg8.view.junk) (Z8 := z8) (b9 := A.arg9.view.junk) (Z9 := z9) (rd_writeCol _ _ _ Rd.zero) (rd_writeCol _ _ _ Rd.zero)
  exact ⟨p.1.congr fun s d _ _ => zero_add _, p.2.1.congr fun s d _ _ => zero_add _⟩

theorem postQA (h : A.Ok t Q K G V) {sg : RefSig} {κ : Kind} {sp : Space} (v : View sg κ sp S512x128 .f32) (f : v.ty.Contents (Elt Ideal)) :
    Rd (n := 512) (m := 128) (φ := .f32) (v.read (Elt Ideal) (v.writes (Elt Ideal) f (A.P7 A.arg8.view.junk z8 A.arg9.view.junk z9)))
      (fun r d => (∑ s ∈ Finset.range 2048, dqT t Q K G V r d s) * (1 / 8)) :=
  h.postQ (b8 := A.arg8.view.junk) (Z8 := z8) (b9 := A.arg9.view.junk) (Z9 := z9) (rd_writeCol _ _ _ Rd.zero) (rd_writeCol _ _ _ Rd.zero) v f

variable {y6 y7 : Vec Ideal S2048x128 .f32}

/-- The body at a later point: the columns start at what the point before left. -/
theorem postB (h : A.Ok t Q K G V) (h8 : Rd (n := 2048) (m := 128) (φ := .f32) y6 T8) (h9 : Rd (n := 2048) (m := 128) (φ := .f32) y7 T9) :
    Rd (n := 2048) (m := 128) (φ := .f32) (A.arg8.view.read (Elt Ideal) (A.arg8.view.writes (Elt Ideal) (A.harg8.unread y6)
        (A.P8 (A.harg8.unread y6) [] (A.harg9.unread y7) []))) (fun s d => T8 s d + dkT t Q K G V s d)
      ∧ Rd (n := 2048) (m := 128) (φ := .f32) (A.arg9.view.read (Elt Ideal) (A.arg9.view.writes (Elt Ideal) (A.harg9.unread y7)
        (A.P9 (A.harg8.unread y6) [] (A.harg9.unread y7) []))) (fun s d => T9 s d + dvT t Q K G s d) := by
  have p := h.post (b8 := A.harg8.unread y6) (Z8 := []) (b9 := A.harg9.unread y7) (Z9 := []) (rd_unread A.harg8 h8) (rd_unread A.harg9 h9)
  exact ⟨p.1, p.2.1⟩

theorem postQB (h : A.Ok t Q K G V) (h8 : Rd (n := 2048) (m := 128) (φ := .f32) y6 T8) (h9 : Rd (n := 2048) (m := 128) (φ := .f32) y7 T9)
    {sg : RefSig} {κ : Kind} {sp : Space} (v : View sg κ sp S512x128 .f32) (f : v.ty.Contents (Elt Ideal)) :
    Rd (n := 512) (m := 128) (φ := .f32) (v.read (Elt Ideal) (v.writes (Elt Ideal) f (A.P7 (A.harg8.unread y6) [] (A.harg9.unread y7) [])))
      (fun r d => (∑ s ∈ Finset.range 2048, dqT t Q K G V r d s) * (1 / 8)) :=
  h.postQ (b8 := A.harg8.unread y6) (Z8 := []) (b9 := A.harg9.unread y7) (Z9 := []) (rd_unread A.harg8 h8) (rd_unread A.harg9 h9) v f
end

end A1

/-- The queries scaled. -/
def qS (q : ℕ → ℕ → ℝ) (r d : ℕ) : ℝ := q r d * (1 / 8)

/-- The tables that a grid point's input blocks hold. -/
structure In (i : grid1.Coords) (x0 : Vec Ideal S512x128 .f32) (x1 x2 : Vec Ideal S2048x128 .f32) (x3 : Vec Ideal S512x128 .f32)
    (x4 : Vec Ideal S2x512x128 .f32) (q K V G : ℕ → ℕ → ℝ) : Prop where
  hq : Rd (φ := .f32) x0 q
  hk : Rd (φ := .f32) x1 K
  hv : Rd (φ := .f32) x2 V
  hg : Rd (φ := .f32) x3 G
  c0 : ∀ (j : ℕ) (hj : j < 128) (r : Fin 512), j ≤ (i 1).val →
    (x4 (ix3 (0 : Fin 2) r ⟨j, hj⟩) : EReal) = ((cG (512 * (i 1).val) (h0 (qS q)) K j r.val : ℝ) : EReal)
  c1 : ∀ (j : ℕ) (hj : j < 128) (r : Fin 512), j ≤ (i 1).val →
    (x4 (ix3 (1 : Fin 2) r ⟨j, hj⟩) : EReal) = ((cG (512 * (i 1).val) (h1 (qS q)) K j r.val : ℝ) : EReal)

section
variable {c : Dev nD} {i : grid1.Coords} {arg2 : Memref sig .tc .vmem S512x128 .f32} {harg2 : arg2.IsWhole} {arg3 : Memref sig .tc .vmem S2048x128 .f32} {harg3 : arg3.IsWhole} {arg4 : Memref sig .tc .vmem S2048x128 .f32} {harg4 : arg4.IsWhole} {arg5 : Memref sig .tc .vmem S512x128 .f32} {harg5 : arg5.IsWhole} {arg6 : Memref sig .tc .vmem S2x512x128 .f32} {harg6 : arg6.IsWhole} {arg7 : Memref sig .tc .vmem S512x128 .f32} {harg7 : arg7.IsWhole} {arg8 : Memref sig .tc .vmem S2048x128 .f32} {harg8 : arg8.IsWhole} {arg9 : Memref sig .tc .vmem S2048x128 .f32} {harg9 : arg9.IsWhole} {arg10 : Memref sig .tc .vmem S512x128 .f32} {harg10 : arg10.IsWhole}
  {x0 : Vec Ideal S512x128 .f32} {x1 x2 : Vec Ideal S2048x128 .f32} {x3 : Vec Ideal S512x128 .f32} {x4 : Vec Ideal S2x512x128 .f32} {q K V G : ℕ → ℕ → ℝ}

theorem In.ok (h : In i x0 x1 x2 x3 x4 q K V G) :
    (A1.of c i arg2 harg2 arg3 harg3 arg4 harg4 arg5 harg5 arg6 harg6 arg7 harg7 arg8 harg8 arg9 harg9 arg10 harg10 x0 x1 x2 x3 x4).Ok (512 * (i 1).val) (qS q) K G V where
  q := Rd.mulf (rd_readTile _ _ (rd_unread harg2 h.hq)) Rd.eighth
  g := rd_readTile _ _ (rd_unread harg5 h.hg)
  k := rd_unread harg3 h.hk
  v := rd_unread harg4 h.hv
  c0 j hj r hle := by
    refine Eq.trans ?_ (h.c0 j hj r hle)
    have e : (Rect.unit (s := S2x512x128) ![0, 0, 0] S1x512x128.size inb_S2x512x128_S1x512x128_0_0_0).toLoadRect.idx (ix3 (0 : Fin 1) r ⟨j, hj⟩)
        = ix3 (0 : Fin 2) r (⟨j, hj⟩ : Fin 128) := by
      funext a
      refine Fin.ext ?_
      match a with
      | ⟨0, _⟩ => rfl
      | ⟨1, _⟩ => show 0 + 1 * r.val = r.val; omega
      | ⟨2, _⟩ => show 0 + 1 * j = j; omega
    exact (congrFun (harg6.read_unread x4) _).trans (congrArg x4 e)
  c1 j hj r hle := by
    refine Eq.trans ?_ (h.c1 j hj r hle)
    have e : (Rect.unit (s := S2x512x128) ![1, 0, 0] S1x512x128.size inb_S2x512x128_S1x512x128_1_0_0).toLoadRect.idx (ix3 (0 : Fin 1) r ⟨j, hj⟩)
        = ix3 (1 : Fin 2) r (⟨j, hj⟩ : Fin 128) := by
      funext a
      refine Fin.ext ?_
      match a with
      | ⟨0, _⟩ => rfl
      | ⟨1, _⟩ => show 0 + 1 * r.val = r.val; omega
      | ⟨2, _⟩ => show 0 + 1 * j = j; omega
    exact (congrFun (harg6.read_unread x4) _).trans (congrArg x4 e)
  t := rfl

/-- The queries' gradient of a tile of queries. -/
def dqR (t : ℕ) (q K G V : ℕ → ℕ → ℝ) (r d : ℕ) : ℝ := (∑ s ∈ Finset.range 2048, dqT t (qS q) K G V r d s) * (1 / 8)

section
variable (hc0 : cond1_0 i)

theorem In.A5 (h : In i x0 x1 x2 x3 x4 q K V G) :
    Rd (φ := .f32) (out1_A_5 (F := Ideal) c i arg2 harg2 arg3 harg3 arg4 harg4 arg5 harg5 arg6 harg6 arg7 harg7 arg8 harg8 arg9 harg9 arg10 harg10 hc0 x0 x1 x2 x3 x4) (dqR (512 * (i 1).val) q K G V) := by
  unfold out1_A_5
  rw [A1.run_A5]
  exact A1.postQA (A := A1.of c i arg2 harg2 arg3 harg3 arg4 harg4 arg5 harg5 arg6 harg6 arg7 harg7 arg8 harg8 arg9 harg9 arg10 harg10 x0 x1 x2 x3 x4) h.ok _ _

theorem In.A6 (h : In i x0 x1 x2 x3 x4 q K V G) :
    Rd (φ := .f32) (out1_A_6 (F := Ideal) c i arg2 harg2 arg3 harg3 arg4 harg4 arg5 harg5 arg6 harg6 arg7 harg7 arg8 harg8 arg9 harg9 arg10 harg10 hc0 x0 x1 x2 x3 x4) (dkT (512 * (i 1).val) (qS q) K G V) := by
  unfold out1_A_6
  rw [A1.run_A6, View.read_writes_junk_eq_canon, ← View.read_writes_junk_eq_canon arg8.view]
  exact (A1.postA (A := A1.of c i arg2 harg2 arg3 harg3 arg4 harg4 arg5 harg5 arg6 harg6 arg7 harg7 arg8 harg8 arg9 harg9 arg10 harg10 x0 x1 x2 x3 x4) h.ok).1

theorem In.A7 (h : In i x0 x1 x2 x3 x4 q K V G) :
    Rd (φ := .f32) (out1_A_7 (F := Ideal) c i arg2 harg2 arg3 harg3 arg4 harg4 arg5 harg5 arg6 harg6 arg7 harg7 arg8 harg8 arg9 harg9 arg10 harg10 hc0 x0 x1 x2 x3 x4) (dvT (512 * (i 1).val) (qS q) K G) := by
  unfold out1_A_7
  rw [A1.run_A7, View.read_writes_junk_eq_canon, ← View.read_writes_junk_eq_canon arg9.view]
  exact (A1.postA (A := A1.of c i arg2 harg2 arg3 harg3 arg4 harg4 arg5 harg5 arg6 harg6 arg7 harg7 arg8 harg8 arg9 harg9 arg10 harg10 x0 x1 x2 x3 x4) h.ok).2
end

section
variable (hc0 : ¬cond1_0 i) {xo6 xo7 : Vec Ideal S2048x128 .f32} {T8 T9 : ℕ → ℕ → ℝ}

theorem In.B5 (h : In i x0 x1 x2 x3 x4 q K V G) (h8 : Rd (φ := .f32) xo6 T8) (h9 : Rd (φ := .f32) xo7 T9) :
    Rd (φ := .f32) (out1_B_5 (F := Ideal) c i arg2 harg2 arg3 harg3 arg4 harg4 arg5 harg5 arg6 harg6 arg7 harg7 arg8 harg8 arg9 harg9 arg10 harg10 hc0 x0 x1 x2 x3 x4 xo6 xo7) (dqR (512 * (i 1).val) q K G V) := by
  unfold out1_B_5
  rw [A1.run_B5]
  exact A1.postQB (A := A1.of c i arg2 harg2 arg3 harg3 arg4 harg4 arg5 harg5 arg6 harg6 arg7 harg7 arg8 harg8 arg9 harg9 arg10 harg10 x0 x1 x2 x3 x4) h.ok h8 h9 _ _

theorem In.B6 (h : In i x0 x1 x2 x3 x4 q K V G) (h8 : Rd (φ := .f32) xo6 T8) (h9 : Rd (φ := .f32) xo7 T9) :
    Rd (φ := .f32) (out1_B_6 (F := Ideal) c i arg2 harg2 arg3 harg3 arg4 harg4 arg5 harg5 arg6 harg6 arg7 harg7 arg8 harg8 arg9 harg9 arg10 harg10 hc0 x0 x1 x2 x3 x4 xo6 xo7) (fun s d => T8 s d + dkT (512 * (i 1).val) (qS q) K G V s d) := by
  unfold out1_B_6
  rw [A1.run_B6]
  exact (A1.postB (A := A1.of c i arg2 harg2 arg3 harg3 arg4 harg4 arg5 harg5 arg6 harg6 arg7 harg7 arg8 harg8 arg9 harg9 arg10 harg10 x0 x1 x2 x3 x4) h.ok h8 h9).1

theorem In.B7 (h : In i x0 x1 x2 x3 x4 q K V G) (h8 : Rd (φ := .f32) xo6 T8) (h9 : Rd (φ := .f32) xo7 T9) :
    Rd (φ := .f32) (out1_B_7 (F := Ideal) c i arg2 harg2 arg3 harg3 arg4 harg4 arg5 harg5 arg6 harg6 arg7 harg7 arg8 harg8 arg9 harg9 arg10 harg10 hc0 x0 x1 x2 x3 x4 xo6 xo7) (fun s d => T9 s d + dvT (512 * (i 1).val) (qS q) K G s d) := by
  unfold out1_B_7
  rw [A1.run_B7]
  exact (A1.postB (A := A1.of c i arg2 harg2 arg3 harg3 arg4 harg4 arg5 harg5 arg6 harg6 arg7 harg7 arg8 harg8 arg9 harg9 arg10 harg10 x0 x1 x2 x3 x4) h.ok h8 h9).2
end

end

end Cert.Sb

end
-- ==== Proof.Fwd1.lean ====
/- The forward kernel at one grid point: the table of carries that its second output holds. -/
module

public import proofs.«01_k».proof.Proof.Fwd0
public import proofs.«01_k».proof.Proof.Outs1

@[expose] public section

noncomputable section

namespace Cert.Sb

open Idealize.ShloMosaic Idealize.ShloMosaic.TcCoe Idealize.ShloMosaic.ValueIdx
open Cert.KernelIdeal Cert.KernelIdeal.Gen Idealize.SL Idealize.SL.Sem
open scoped BigOperators

/-! ## A lane of the carries -/

/-- The head's half, as the place of its rectangle. -/
def hr : Fin 2 → Rect S2x512x128
  | 0 => A0.r0
  | 1 => A0.r1

/-- A column put in lane `j`: that lane holds the column, the others what they held. -/
theorem bPut_apply (j : ℕ) (hj : j < 128) (old : FVec Ideal S1x512x128 .f32) (col : FVec Ideal S512x1 .f32) (r : Fin 512) (l : Fin 128) :
    bPut lanes (BitVec.ofNat 32 j) old col (ix3 (0 : Fin 1) r l) = if l.val = j then col (ix2 r (0 : Fin 1)) else old (ix3 (0 : Fin 1) r l) := by
  unfold bPut
  rw [shapeCast_ab_1ab_apply, select_apply]
  have hm : cmpi .eq lanes (broadcast S512x128 (BitVec.ofNat 32 j)) (ix2 r l) = BitVec.ofBool (decide (l.val = j)) := by
    show BitVec.ofBool (lanes (ix2 r l) == BitVec.ofNat 32 j) = _
    rw [lanes_val r l]
    congr 1
    have := l.isLt
    rw [Bool.eq_iff_iff]
    simp only [beq_iff_eq, decide_eq_true_eq]
    constructor
    · intro h
      have := congrArg BitVec.toNat h
      simp only [BitVec.toNat_ofNat] at this
      omega
    · intro h; rw [h]
  rw [hm]
  by_cases hl : l.val = j
  · rw [if_pos hl, decide_eq_true hl, shapeCast_self]
    refine broadcastTo_apply col broadcasts_S512x1_S512x128 (ix2 r l) (ix2 r (0 : Fin 1)) fun a => ?_
    match a with
    | ⟨0, _⟩ => exact (if_neg (show ¬ (512 : ℕ) = 1 by decide)).symm
    | ⟨1, _⟩ => rfl
  · rw [if_neg hl, decide_eq_false hl]
    exact shapeCast_1ab_ab_apply ..

section
variable {sig : RefSig} {κ : Kind} {sp : Space} (v : View sig κ sp S2x512x128 .f32) (f : v.ty.Contents (Elt Ideal))
  (L : List (View.Piece (Elt Ideal) S2x512x128 .f32))

/-- The first head's half, loaded. -/
theorem read_r0 (r : Fin 512) (l : Fin 128) :
    View.readAt (Elt Ideal) v A0.r0.toLoadRect f (ix3 (0 : Fin 1) r l) = v.read (Elt Ideal) f (ix3 (0 : Fin 2) r l) := by
  have e : A0.r0.toLoadRect.idx (ix3 (0 : Fin 1) r l) = ix3 (0 : Fin 2) r l := by
    funext a
    refine Fin.ext ?_
    match a with
    | ⟨0, _⟩ => rfl
    | ⟨1, _⟩ => show 0 + 1 * r.val = r.val; omega
    | ⟨2, _⟩ => show 0 + 1 * l.val = l.val; omega
  exact congrArg (v.read (Elt Ideal) f) e

/-- The second head's half, loaded. -/
theorem read_r1 (r : Fin 512) (l : Fin 128) :
    View.readAt (Elt Ideal) v A0.r1.toLoadRect f (ix3 (0 : Fin 1) r l) = v.read (Elt Ideal) f (ix3 (1 : Fin 2) r l) := by
  have e : A0.r1.toLoadRect.idx (ix3 (0 : Fin 1) r l) = ix3 (1 : Fin 2) r l := by
    funext a
    refine Fin.ext ?_
    match a with
    | ⟨0, _⟩ => rfl
    | ⟨1, _⟩ => show 0 + 1 * r.val = r.val; omega
    | ⟨2, _⟩ => show 0 + 1 * l.val = l.val; omega
  exact congrArg (v.read (Elt Ideal) f) e

/-- The second head's half overwritten, read in it. -/
theorem write_r1_hit (w : FVec Ideal S1x512x128 .f32) (r : Fin 512) (l : Fin 128) :
    v.read (Elt Ideal) (v.writes (Elt Ideal) f (⟨A0.r1, w⟩ :: L)) (ix3 (1 : Fin 2) r l) = w (ix3 (0 : Fin 1) r l) :=
  View.read_writes_cons_hit_of_coords v f A0.r1 w L (ix3 (0 : Fin 1) r l) (ix3 (1 : Fin 2) r l) fun a => by
    match a with
    | ⟨0, _⟩ => rfl
    | ⟨1, _⟩ => show r.val = 0 + 1 * r.val; omega
    | ⟨2, _⟩ => show l.val = 0 + 1 * l.val; omega

/-- The second head's half overwritten, read beside it. -/
theorem write_r1_miss (w : FVec Ideal S1x512x128 .f32) (r : Fin 512) (l : Fin 128) :
    v.read (Elt Ideal) (v.writes (Elt Ideal) f (⟨A0.r1, w⟩ :: L)) (ix3 (0 : Fin 2) r l) = v.read (Elt Ideal) (v.writes (Elt Ideal) f L) (ix3 (0 : Fin 2) r l) :=
  View.read_writes_cons_miss_of_axis v f _ L _ (0 : Fin 3) 1 1 rfl rfl rfl (Or.inl (by show (0 : ℕ) < 1; decide))

/-- The first head's half overwritten, read in it. -/
theorem write_r0_hit (w : FVec Ideal S1x512x128 .f32) (r : Fin 512) (l : Fin 128) :
    v.read (Elt Ideal) (v.writes (Elt Ideal) f (⟨A0.r0, w⟩ :: L)) (ix3 (0 : Fin 2) r l) = w (ix3 (0 : Fin 1) r l) :=
  View.read_writes_cons_hit_of_coords v f A0.r0 w L (ix3 (0 : Fin 1) r l) (ix3 (0 : Fin 2) r l) fun a => by
    match a with
    | ⟨0, _⟩ => rfl
    | ⟨1, _⟩ => show r.val = 0 + 1 * r.val; omega
    | ⟨2, _⟩ => show l.val = 0 + 1 * l.val; omega

/-- The first head's half overwritten, read beside it. -/
theorem write_r0_miss (w : FVec Ideal S1x512x128 .f32) (r : Fin 512) (l : Fin 128) :
    v.read (Elt Ideal) (v.writes (Elt Ideal) f (⟨A0.r0, w⟩ :: L)) (ix3 (1 : Fin 2) r l) = v.read (Elt Ideal) (v.writes (Elt Ideal) f L) (ix3 (1 : Fin 2) r l) :=
  View.read_writes_cons_miss_of_axis v f _ L _ (0 : Fin 3) 0 1 rfl rfl rfl (Or.inr (by show 0 + 1 ≤ (1 : ℕ); decide))

end

namespace A0

variable {i : grid0.Coords} (A : A0 i)

/-- Reading after the two pieces, in the first head's half. -/
theorem putT0 (g : BufTy.Contents (Elt Ideal) A.arg6.view.ty) (L : List (View.Piece (Elt Ideal) S2x512x128 .f32)) (j : ℕ) (hj : j < 128)
    (acc : FVec Ideal S512x1 .f32 × FVec Ideal S512x1 .f32) (r : Fin 512) (l : Fin 128) :
    A.arg6.view.read (Elt Ideal) (A.arg6.view.writes (Elt Ideal) g (A.putT (BitVec.ofNat 32 j) (A.arg6.view.writes (Elt Ideal) g L) acc ++ L)) (ix3 (0 : Fin 2) r l)
      = if l.val = j then acc.1 (ix2 r (0 : Fin 1)) else A.arg6.view.read (Elt Ideal) (A.arg6.view.writes (Elt Ideal) g L) (ix3 (0 : Fin 2) r l) := by
  refine (write_r1_miss A.arg6.view g _ _ r l).trans ((write_r0_hit A.arg6.view g _ _ r l).trans ((bPut_apply j hj _ _ r l).trans ?_))
  rw [read_r0]

/-- Reading after the two pieces, in the second head's half. -/
theorem putT1 (g : BufTy.Contents (Elt Ideal) A.arg6.view.ty) (L : List (View.Piece (Elt Ideal) S2x512x128 .f32)) (j : ℕ) (hj : j < 128)
    (acc : FVec Ideal S512x1 .f32 × FVec Ideal S512x1 .f32) (r : Fin 512) (l : Fin 128) :
    A.arg6.view.read (Elt Ideal) (A.arg6.view.writes (Elt Ideal) g (A.putT (BitVec.ofNat 32 j) (A.arg6.view.writes (Elt Ideal) g L) acc ++ L)) (ix3 (1 : Fin 2) r l)
      = if l.val = j then acc.2 (ix2 r (0 : Fin 1)) else A.arg6.view.read (Elt Ideal) (A.arg6.view.writes (Elt Ideal) g L) (ix3 (1 : Fin 2) r l) := by
  refine (write_r1_hit A.arg6.view g _ _ r l).trans ((bPut_apply j hj _ _ r l).trans ?_)
  rw [read_r1]

/-- Reading the first half after the pieces stored before the loop. -/
theorem put0 (j : ℕ) (hj : j < 128) (f : BufTy.Contents (Elt Ideal) A.arg6.view.ty) (L : List (View.Piece (Elt Ideal) S2x512x128 .f32))
    (acc : FVec Ideal S512x1 .f32 × FVec Ideal S512x1 .f32) (r : Fin 512) (l : Fin 128) :
    A.arg6.view.read (Elt Ideal) (A.arg6.view.writes (Elt Ideal) f (A.put (BitVec.ofNat 32 j) (A.arg6.view.writes (Elt Ideal) f L) acc ++ L)) (ix3 (0 : Fin 2) r l)
      = if l.val = j then acc.1 (ix2 r (0 : Fin 1)) else A.arg6.view.read (Elt Ideal) (A.arg6.view.writes (Elt Ideal) f L) (ix3 (0 : Fin 2) r l) := by
  refine (write_r1_miss A.arg6.view f _ _ r l).trans ((write_r0_hit A.arg6.view f _ _ r l).trans ((bPut_apply j hj _ _ r l).trans ?_))
  rw [read_r0]

/-- Reading the second half after the pieces stored before the loop. -/
theorem put1 (j : ℕ) (hj : j < 128) (f : BufTy.Contents (Elt Ideal) A.arg6.view.ty) (L : List (View.Piece (Elt Ideal) S2x512x128 .f32))
    (acc : FVec Ideal S512x1 .f32 × FVec Ideal S512x1 .f32) (r : Fin 512) (l : Fin 128) :
    A.arg6.view.read (Elt Ideal) (A.arg6.view.writes (Elt Ideal) f (A.put (BitVec.ofNat 32 j) (A.arg6.view.writes (Elt Ideal) f L) acc ++ L)) (ix3 (1 : Fin 2) r l)
      = if l.val = j then acc.2 (ix2 r (0 : Fin 1)) else A.arg6.view.read (Elt Ideal) (A.arg6.view.writes (Elt Ideal) f L) (ix3 (1 : Fin 2) r l) := by
  refine (write_r1_hit A.arg6.view f _ _ r l).trans ((bPut_apply j hj _ _ r l).trans ?_)
  rw [read_r1, write_r0_miss A.arg6.view _ _ _ r l]
  rfl

/-! ## The tables -/

/-- The windows of a grid point hold these tables: the queries and the keys. -/
structure Ok (q K : ℕ → ℕ → ℝ) : Prop where
  q : Rd (φ := .f32) A.q q
  k : Rd (n := 2048) (m := 128) (φ := .f32) (A.arg3.view.read (Elt Ideal) A.x3) K

variable {A} {q K : ℕ → ℕ → ℝ}

/-- The log-failures of the keys from position `512 * m` on. -/
def cS (t : ℕ) (Q K : ℕ → ℕ → ℝ) (m r : ℕ) : ℝ := ∑ u ∈ Finset.Ico (512 * m) (t + r), lfF (zT Q K r u)

theorem Ok.q0 (h : A.Ok q K) : Rd (k0_pay66 A.q) (h0 (qS q)) := rd_qM (x := k0_pay61 A.q) md103 (Rd.mulf h.q Rd.eighth)
theorem Ok.q1 (h : A.Ok q K) : Rd (k0_pay67 A.q) (h1 (qS q)) := rd_qM (x := k0_pay61 A.q) md104 (Rd.mulf h.q Rd.eighth)
theorem Ok.kT (h : A.Ok q K) (k : Fin (k0_t1_loop i).trips) : Rd (φ := .f32) (A.kT k) (til ((i 1).val - 1 - k.val) K) :=
  rd_readRows _ _ h.k _ _ (off2_val i k)
theorem Ok.kD (h : A.Ok q K) : Rd (φ := .f32) A.kD (til (i 1).val K) := rd_readRows _ _ h.k _ _ (off1_val i)
theorem lt_trips (k : Fin (k0_t1_loop i).trips) : k.val < (i 1).val := lt_of_lt_of_eq k.isLt (trips0 i)
theorem i_lt : (i 1).val < 4 := (i 1).isLt

theorem Ok.lf0 (h : A.Ok q K) (k : Fin (k0_t1_loop i).trips) :
    Rd (A.lf0 k) (fun r c => lfF (zT (h0 (qS q)) K r (512 * ((i 1).val - 1 - k.val) + c))) := rd_bLf (rd_z h.q0 (rd_tr (h.kT k)))
theorem Ok.lf1 (h : A.Ok q K) (k : Fin (k0_t1_loop i).trips) :
    Rd (A.lf1 k) (fun r c => lfF (zT (h1 (qS q)) K r (512 * ((i 1).val - 1 - k.val) + c))) := rd_bLf (rd_z h.q1 (rd_tr (h.kT k)))
theorem Ok.dlf0 (h : A.Ok q K) : Rd A.dlf0 (fun r c => if decide (c < r) = true then lfF (zT (h0 (qS q)) K r (512 * (i 1).val + c)) else 0) :=
  Rd.select md100 (rd_bLf (rd_z h.q0 (rd_tr h.kD))) rd_b0
theorem Ok.dlf1 (h : A.Ok q K) : Rd A.dlf1 (fun r c => if decide (c < r) = true then lfF (zT (h1 (qS q)) K r (512 * (i 1).val + c)) else 0) :=
  Rd.select md100 (rd_bLf (rd_z h.q1 (rd_tr h.kD))) rd_b0

/-- The carries when the keys from tile `m` on are done. -/
def Carry (t : ℕ) (q K : ℕ → ℕ → ℝ) (m : ℕ) (acc : FVec Ideal S512x1 .f32 × FVec Ideal S512x1 .f32) : Prop :=
  Rd acc.1 (fun r _ => cS t (h0 (qS q)) K m r) ∧ Rd acc.2 (fun r _ => cS t (h1 (qS q)) K m r)

/-- One more tile. -/
theorem cS_step (t : ℕ) (Q K : ℕ → ℕ → ℝ) (m r : ℕ) (hm : 512 * (m + 1) ≤ t) :
    cS t Q K (m + 1) r + ∑ u ∈ Finset.range 512, lfF (zT Q K r (512 * m + u)) = cS t Q K m r := by
  unfold cS
  rw [Finset.range_eq_Ico, sum_shift (fun u => lfF (zT Q K r u)) (512 * m) 0 512, add_comm,
    show 512 * m + 512 = 512 * (m + 1) by omega, add_zero]
  exact Finset.sum_Ico_consecutive _ (by omega) (by omega)

/-- The diagonal's tile. -/
theorem cS_diag (n : ℕ) (Q K : ℕ → ℕ → ℝ) (r : ℕ) (hr : r < 512) :
    (∑ c ∈ Finset.range 512, if decide (c < r) = true then lfF (zT Q K r (512 * n + c)) else 0) = cS (512 * n) Q K n r := by
  unfold cS
  have e := sum_cut (fun c => lfF (zT Q K r (512 * n + c))) 0 512 r (by omega) (by omega)
  rw [Finset.Ico_eq_empty (a := 512) (b := r) (by omega), Finset.sum_empty, add_zero, sum_shift (fun u => lfF (zT Q K r u)) (512 * n) 0 r] at e
  simp only [decide_eq_true_eq, Finset.range_eq_Ico]
  exact e

theorem rd_pay68 : Rd (k0_pay68 (F := Ideal)) (fun _ _ => 0) := Rd.zero

theorem Ok.ini (h : A.Ok q K) : Carry (512 * (i 1).val) q K (i 1).val A.ini :=
  ⟨(rd_pay68.addf (rd_bTot h.dlf0)).congr fun r _ hr _ => by rw [zero_add]; exact cS_diag _ _ _ r hr,
   (rd_pay68.addf (rd_bTot h.dlf1)).congr fun r _ hr _ => by rw [zero_add]; exact cS_diag _ _ _ r hr⟩

theorem Ok.yl (h : A.Ok q K) (k : Fin (k0_t1_loop i).trips) {acc : FVec Ideal S512x1 .f32 × FVec Ideal S512x1 .f32}
    (ha : Carry (512 * (i 1).val) q K ((i 1).val - k.val) acc) : Carry (512 * (i 1).val) q K ((i 1).val - (k.val + 1)) (A.yl k acc) := by
  have hk := lt_trips k
  rw [show (i 1).val - k.val = (i 1).val - 1 - k.val + 1 by omega] at ha
  rw [show (i 1).val - (k.val + 1) = (i 1).val - 1 - k.val by omega]
  exact ⟨(ha.1.addf (rd_bTot (h.lf0 k))).congr fun r _ _ _ => cS_step _ _ _ _ r (by omega),
    (ha.2.addf (rd_bTot (h.lf1 k))).congr fun r _ _ _ => cS_step _ _ _ _ r (by omega)⟩

/-- The lanes from `m` to the diagonal's hold their carries. -/
def Lanes (t : ℕ) (q K : ℕ → ℕ → ℝ) (m n : ℕ) (y : FVec Ideal S2x512x128 .f32) : Prop :=
  (∀ (l : Fin 128) (r : Fin 512), m ≤ l.val → l.val ≤ n → (y (ix3 (0 : Fin 2) r l) : EReal) = ((cG t (h0 (qS q)) K l.val r.val : ℝ) : EReal))
  ∧ ∀ (l : Fin 128) (r : Fin 512), m ≤ l.val → l.val ≤ n → (y (ix3 (1 : Fin 2) r l) : EReal) = ((cG t (h1 (qS q)) K l.val r.val : ℝ) : EReal)

/-- The pieces stored before the loop leave the diagonal's lane. -/
theorem lanes_L0 : Lanes (512 * (i 1).val) q K (i 1).val (i 1).val (A.arg6.view.read (Elt Ideal) (A.arg6.view.writes (Elt Ideal) A.arg6.view.junk A.L0)) := by
  have h4 := i_lt (i := i)
  have hz : ∀ (Q : ℕ → ℕ → ℝ) (r : Fin 512), cG (512 * (i 1).val) Q K (i 1).val r.val = 0 := fun Q r => by
    unfold cG
    rw [Finset.Ico_eq_empty (by have := r.isLt; omega), Finset.sum_empty]
  refine ⟨fun l r h1 h2 => ?_, fun l r h1 h2 => ?_⟩
  · have e : l.val = (i 1).val := by omega
    refine (A.put0 (i 1).val (by omega) _ _ _ r l).trans ?_
    rw [if_pos e, e, hz]
    exact rd_pay68 r 0
  · have e : l.val = (i 1).val := by omega
    refine (A.put1 (i 1).val (by omega) _ _ _ r l).trans ?_
    rw [if_pos e, e, hz]
    exact rd_pay68 r 0

section
variable (g6 : BufTy.Contents (Elt Ideal) A.arg6.view.ty) (g7 : BufTy.Contents (Elt Ideal) A.arg7.view.ty) (init : FVec Ideal S512x1 .f32 × FVec Ideal S512x1 .f32)

/-- The loop's state before trip `n`: the carries, and the lanes stored so far. -/
theorem Ok.inv (h : A.Ok q K) (hi : Carry (512 * (i 1).val) q K (i 1).val init)
    (hl : Lanes (512 * (i 1).val) q K (i 1).val (i 1).val (A.arg6.view.read (Elt Ideal) g6)) :
    ∀ n, n ≤ (k0_t1_loop i).trips → Carry (512 * (i 1).val) q K ((i 1).val - n) (A.st g6 g7 init n).1
      ∧ Lanes (512 * (i 1).val) q K ((i 1).val - n) (i 1).val (A.arg6.view.read (Elt Ideal) (A.arg6.view.writes (Elt Ideal) g6 (A.st g6 g7 init n).2.1))
  | 0, _ => ⟨hi, hl⟩
  | n + 1, hn => by
    obtain ⟨pc, pl⟩ := h.inv hi hl n (by omega)
    have hk := lt_trips (i := i) ⟨n, hn⟩
    have h4 := i_lt (i := i)
    dsimp only at hk
    have e1 := A.st_succ1 g6 g7 init ⟨n, hn⟩
    have e2 := A.st_succ2 g6 g7 init ⟨n, hn⟩
    dsimp only at e1 e2
    have ej := jj_val i ⟨n, hn⟩
    dsimp only at ej
    have eg : ∀ Q (r : Fin 512), cS (512 * (i 1).val) Q K ((i 1).val - n) r.val = cG (512 * (i 1).val) Q K ((i 1).val - 1 - n) r.val := fun Q r => by
      unfold cS cG
      rw [show (i 1).val - n = (i 1).val - 1 - n + 1 by omega]
    refine ⟨?_, ?_, ?_⟩
    · rw [e1]
      exact h.yl ⟨n, hn⟩ pc
    · intro l r h1 h2
      rw [e2, ej]
      refine (A.putT0 g6 _ ((i 1).val - 1 - n) (by omega) _ r l).trans ?_
      by_cases hl : l.val = (i 1).val - 1 - n
      · rw [if_pos hl, hl, ← eg]
        exact pc.1 r 0
      · rw [if_neg hl]
        exact pl.1 l r (by omega) h2
    · intro l r h1 h2
      rw [e2, ej]
      refine (A.putT1 g6 _ ((i 1).val - 1 - n) (by omega) _ r l).trans ?_
      by_cases hl : l.val = (i 1).val - 1 - n
      · rw [if_pos hl, hl, ← eg]
        exact pc.2 r 0
      · rw [if_neg hl]
        exact pl.2 l r (by omega) h2
end

/-- All that is stored in the carries leaves every lane up to the diagonal's. -/
theorem Ok.post (h : A.Ok q K) (g7 g7' : BufTy.Contents (Elt Ideal) A.arg7.view.ty) :
    Lanes (512 * (i 1).val) q K 0 (i 1).val (A.arg6.view.read (Elt Ideal) (A.arg6.view.writes (Elt Ideal) A.arg6.view.junk
      (let s1 := A.st (A.arg6.view.writes (Elt Ideal) A.arg6.view.junk A.L0) g7 A.ini (k0_t1_loop i).trips
       (A.e2 (A.arg6.view.writes (Elt Ideal) A.arg6.view.junk (s1.2.1 ++ A.L0)) g7' (s1.1.1, s1.1.2)).2.1 ++ (s1.2.1 ++ A.L0)))) := by
  dsimp only
  rw [A.e2_eq]
  have e := (h.inv (A.arg6.view.writes (Elt Ideal) A.arg6.view.junk A.L0) g7 A.ini h.ini lanes_L0 _ le_rfl).2
  rw [← View.writes_append] at e
  have t := trips0 i
  rw [show (i 1).val - (k0_t1_loop i).trips = 0 by omega] at e
  exact e

end A0

section
variable {c : Dev nD} {i : grid0.Coords} {arg2 : Memref sig .tc .vmem S512x128 .f32} {harg2 : arg2.IsWhole} {arg3 : Memref sig .tc .vmem S2048x128 .f32} {harg3 : arg3.IsWhole} {arg4 : Memref sig .tc .vmem S2048x128 .f32} {harg4 : arg4.IsWhole} {arg5 : Memref sig .tc .vmem S512x128 .bf16} {harg5 : arg5.IsWhole} {arg6 : Memref sig .tc .vmem S2x512x128 .f32} {harg6 : arg6.IsWhole} {arg7 : Memref sig .tc .vmem S512x128 .f32} {harg7 : arg7.IsWhole}
  {x0 : Vec Ideal S512x128 .f32} {x1 x2 : Vec Ideal S2048x128 .f32} {q K : ℕ → ℕ → ℝ}

/-- The forward kernel's second output at one grid point holds the carries. -/
theorem fwd_lanes (hq : Rd (φ := .f32) x0 q) (hk : Rd (φ := .f32) x1 K) :
    A0.Lanes (512 * (i 1).val) q K 0 (i 1).val (out0_A_4 (F := Ideal) c i arg2 harg2 arg3 harg3 arg4 harg4 arg5 harg5 arg6 harg6 arg7 harg7 x0 x1 x2) := by
  unfold out0_A_4
  obtain ⟨g7, g7', e⟩ := A0.run_4 (i := i) c arg2 harg2 arg3 harg3 arg4 harg4 arg5 harg5 arg6 harg6 arg7 harg7 x0 x1 x2
  rw [e, View.read_writes_junk_eq_canon, ← View.read_writes_junk_eq_canon arg6.view]
  have hok : (A0.of c i arg2 harg2 arg3 harg3 arg4 harg4 arg5 harg5 arg6 harg6 arg7 harg7 x0 x1 x2).Ok q K :=
    ⟨rd_readTile _ _ (rd_unread harg2 hq), rd_unread harg3 hk⟩
  exact hok.post g7 g7'
end

end Cert.Sb

end
-- ==== Proof.Acc1.lean ====
/- The backward kernel over its grid: from the arrays it reads to the arrays it leaves. -/
module

public import proofs.«01_k».proof.Proof.Outs1
public import Idealize.ShloMosaic.Lib.Pipeline.ValueKit

@[expose] public section

set_option maxRecDepth 16384

noncomputable section

namespace Cert.Sb

open Idealize.ShloMosaic hiding ix2 ix3
open Idealize.ShloMosaic.TcCoe Idealize.ShloMosaic.Tactic
open Idealize.ShloMosaic.ValueIdx (ix2 ix3)
open Cert.KernelIdeal Cert.KernelIdeal.Gen Idealize.SL Idealize.SL.Sem
open scoped BigOperators

/-- The block of window 0 at a grid point. -/
theorem ix1_0 : ∀ t : Fin cfg1.N, win1_0.index t = ![t.val % 4, 16 + t.val / 4] := (by decide +kernel : ∀ t : Fin grid1.N, _)
/-- The block of window 1 at a grid point. -/
theorem ix1_1 : ∀ t : Fin cfg1.N, win1_1.index t = ![0, 20 + t.val / 4] := (by decide +kernel : ∀ t : Fin grid1.N, _)
/-- The block of window 2 at a grid point. -/
theorem ix1_2 : ∀ t : Fin cfg1.N, win1_2.index t = ![0, 24 + t.val / 4] := (by decide +kernel : ∀ t : Fin grid1.N, _)
/-- The block of window 3 at a grid point. -/
theorem ix1_3 : ∀ t : Fin cfg1.N, win1_3.index t = ![t.val % 4, t.val / 4] := (by decide +kernel : ∀ t : Fin grid1.N, _)
/-- The block of window 4 at a grid point. -/
theorem ix1_4 : ∀ t : Fin cfg1.N, win1_4.index t = ![t.val / 4, t.val % 4, 0] := (by decide +kernel : ∀ t : Fin grid1.N, _)
/-- The block of window 5 at a grid point. -/
theorem ix1_5 : ∀ t : Fin cfg1.N, win1_5.index t = ![t.val % 4, t.val / 4] := (by decide +kernel : ∀ t : Fin grid1.N, _)
/-- The block of window 6 at a grid point. -/
theorem ix1_6 : ∀ t : Fin cfg1.N, win1_6.index t = ![0, t.val / 4] := (by decide +kernel : ∀ t : Fin grid1.N, _)
/-- The block of window 7 at a grid point. -/
theorem ix1_7 : ∀ t : Fin cfg1.N, win1_7.index t = ![0, t.val / 4] := (by decide +kernel : ∀ t : Fin grid1.N, _)
/-- The query tile of a grid point. -/
theorem co1 : ∀ t : Fin cfg1.N, ((grid1.coords t) 1).val = t.val % 4 := (by decide +kernel : ∀ t : Fin grid1.N, _)

theorem lt16 (t : Fin cfg1.N) : t.val < 16 := lt_of_lt_of_eq t.isLt N_1

/-! ## The tables of one pair of heads -/

/-- The queries of query tile `i`. -/
def tq (P : ℕ → ℕ → ℝ) (hp i : ℕ) (r d : ℕ) : ℝ := P (512 * i + r) (2048 + 128 * hp + d)
/-- The keys. -/
def tk (P : ℕ → ℕ → ℝ) (hp : ℕ) (s d : ℕ) : ℝ := P s (2560 + 128 * hp + d)
/-- The values. -/
def tv (P : ℕ → ℕ → ℝ) (hp : ℕ) (s d : ℕ) : ℝ := P s (3072 + 128 * hp + d)
/-- The output's gradient at query tile `i`. -/
def tg (D : ℕ → ℕ → ℝ) (hp i : ℕ) (r d : ℕ) : ℝ := D (512 * i + r) (128 * hp + d)

variable (V : (c : Dev nD) → (b : Ref sig .tc) → Buf (Elt Ideal) ((c : Thread nD τ).loc b)) (c : Dev nD)

/-- An entry of the block of window 0. -/
theorem blk1_0 (t : Fin cfg1.N) (r : Fin 512) (d : Fin 128) :
    iblk1 (F := Ideal) V c 0 t (ix2 r d) = V c main_arg0 (ix2 (⟨512 * (t.val % 4) + r.val, by have := r.isLt; have := lt16 t; omega⟩ : Fin 2048)
      (⟨2048 + 128 * (t.val / 4) + d.val, by have := d.isLt; have := lt16 t; omega⟩ : Fin 4352)) := by
  blk_ext [iblk1, ix1_0 t]
  all_goals first
    | (show t.val % 4 * 512 + r.val = _; omega)
    | (show (16 + t.val / 4) * 128 + d.val = _; omega)
/-- An entry of the block of window 1. -/
theorem blk1_1 (t : Fin cfg1.N) (r : Fin 2048) (d : Fin 128) :
    iblk1 (F := Ideal) V c 1 t (ix2 r d) = V c main_arg0 (ix2 (⟨r.val, by have := r.isLt; have := lt16 t; omega⟩ : Fin 2048)
      (⟨2560 + 128 * (t.val / 4) + d.val, by have := d.isLt; have := lt16 t; omega⟩ : Fin 4352)) := by
  blk_ext [iblk1, ix1_1 t]
  all_goals first
    | (show t.val % 4 * 512 + r.val = _; omega)
    | (show (20 + t.val / 4) * 128 + d.val = _; omega)
/-- An entry of the block of window 2. -/
theorem blk1_2 (t : Fin cfg1.N) (r : Fin 2048) (d : Fin 128) :
    iblk1 (F := Ideal) V c 2 t (ix2 r d) = V c main_arg0 (ix2 (⟨r.val, by have := r.isLt; have := lt16 t; omega⟩ : Fin 2048)
      (⟨3072 + 128 * (t.val / 4) + d.val, by have := d.isLt; have := lt16 t; omega⟩ : Fin 4352)) := by
  blk_ext [iblk1, ix1_2 t]
  all_goals first
    | (show t.val % 4 * 512 + r.val = _; omega)
    | (show (24 + t.val / 4) * 128 + d.val = _; omega)
/-- An entry of the block of window 3. -/
theorem blk1_3 (t : Fin cfg1.N) (r : Fin 512) (d : Fin 128) :
    iblk1 (F := Ideal) V c 3 t (ix2 r d) = V c main_arg1 (ix2 (⟨512 * (t.val % 4) + r.val, by have := r.isLt; have := lt16 t; omega⟩ : Fin 2048)
      (⟨128 * (t.val / 4) + d.val, by have := d.isLt; have := lt16 t; omega⟩ : Fin 512)) := by
  blk_ext [iblk1, ix1_3 t]
  all_goals first
    | (show t.val % 4 * 512 + r.val = _; omega)
    | (show t.val / 4 * 128 + d.val = _; omega)
/-- An entry of the block of window 4. -/
theorem blk1_4 (t : Fin cfg1.N) (h : Fin 2) (r : Fin 512) (d : Fin 128) :
    iblk1 (F := Ideal) V c 4 t (ix3 h r d) = V c main_v0_1 (ix3 (⟨2 * (t.val / 4) + h.val, by have := h.isLt; have := lt16 t; omega⟩ : Fin 8)
      (⟨512 * (t.val % 4) + r.val, by have := r.isLt; omega⟩ : Fin 2048) d) := by
  blk_ext [iblk1, ix1_4 t]
  all_goals first
    | (show t.val % 4 * 512 + r.val = _; omega)
    | (show t.val / 4 * 2 + h.val = _; omega)

/-- What the arrays the backward kernel reads hold. -/
structure Arr (P D : ℕ → ℕ → ℝ) : Prop where
  hp : ∀ (r : Fin 2048) (d : Fin 4352), 2048 ≤ d.val → d.val < 3584 → (V c main_arg0 (ix2 r d) : EReal) = ((P r.val d.val : ℝ) : EReal)
  hd : Rd (n := 2048) (m := 512) (φ := .f32) (V c main_arg1) D
  hc0 : ∀ (hp i j : ℕ) (hh : hp < 4) (hi : i < 4) (hj : j ≤ i) (r : Fin 512),
    (V c main_v0_1 (ix3 (⟨2 * hp, by omega⟩ : Fin 8) (⟨512 * i + r.val, by have := r.isLt; omega⟩ : Fin 2048) (⟨j, by omega⟩ : Fin 128)) : EReal)
      = ((cG (512 * i) (h0 (qS (tq P hp i))) (tk P hp) j r.val : ℝ) : EReal)
  hc1 : ∀ (hp i j : ℕ) (hh : hp < 4) (hi : i < 4) (hj : j ≤ i) (r : Fin 512),
    (V c main_v0_1 (ix3 (⟨2 * hp + 1, by omega⟩ : Fin 8) (⟨512 * i + r.val, by have := r.isLt; omega⟩ : Fin 2048) (⟨j, by omega⟩ : Fin 128)) : EReal)
      = ((cG (512 * i) (h1 (qS (tq P hp i))) (tk P hp) j r.val : ℝ) : EReal)

variable {V c} {P D : ℕ → ℕ → ℝ}

/-- The blocks of a grid point hold the tables of its pair of heads. -/
theorem Arr.blocks (h : Arr V c P D) (t : Fin cfg1.N) :
    In (grid1.coords t) (iblk1 V c 0 t) (iblk1 V c 1 t) (iblk1 V c 2 t) (iblk1 V c 3 t) (iblk1 V c 4 t)
      (tq P (t.val / 4) (t.val % 4)) (tk P (t.val / 4)) (tv P (t.val / 4)) (tg D (t.val / 4) (t.val % 4)) where
  hq r d := (blk1_0 V c t r d).trans (h.hp _ _ (by show 2048 ≤ 2048 + 128 * (t.val / 4) + d.val; omega) (by show 2048 + 128 * (t.val / 4) + d.val < 3584; have := d.isLt; have := lt16 t; omega))
  hk r d := (blk1_1 V c t r d).trans (h.hp _ _ (by show 2048 ≤ 2560 + 128 * (t.val / 4) + d.val; omega) (by show 2560 + 128 * (t.val / 4) + d.val < 3584; have := d.isLt; have := lt16 t; omega))
  hv r d := (blk1_2 V c t r d).trans (h.hp _ _ (by show 2048 ≤ 3072 + 128 * (t.val / 4) + d.val; omega) (by show 3072 + 128 * (t.val / 4) + d.val < 3584; have := d.isLt; have := lt16 t; omega))
  hg r d := (blk1_3 V c t r d).trans (h.hd _ _)
  c0 j hj r hle := by
    rw [co1 t] at hle ⊢
    exact (blk1_4 V c t 0 r ⟨j, hj⟩).trans (h.hc0 (t.val / 4) (t.val % 4) j (by have := lt16 t; omega) (by omega) hle r)
  c1 j hj r hle := by
    rw [co1 t] at hle ⊢
    exact (blk1_4 V c t 1 r ⟨j, hj⟩).trans (h.hc1 (t.val / 4) (t.val % 4) j (by have := lt16 t; omega) (by omega) hle r)

/-! ## The grid -/

/-- What query tile `i` leaves in the queries' gradient. -/
def dqP (P D : ℕ → ℕ → ℝ) (hp i : ℕ) : ℕ → ℕ → ℝ := dqR (512 * i) (tq P hp i) (tk P hp) (tg D hp i) (tv P hp)
/-- What query tile `i` adds to the keys' gradient. -/
def dkP (P D : ℕ → ℕ → ℝ) (hp i : ℕ) : ℕ → ℕ → ℝ := dkT (512 * i) (qS (tq P hp i)) (tk P hp) (tg D hp i) (tv P hp)
/-- What query tile `i` adds to the values' gradient. -/
def dvP (P D : ℕ → ℕ → ℝ) (hp i : ℕ) : ℕ → ℕ → ℝ := dvT (512 * i) (qS (tq P hp i)) (tk P hp) (tg D hp i)

/-- A table under an equation of blocks. -/
theorem Rd.of_eq {n m : ℕ} {φ : FTy} {x y : FVec Ideal ⟨2, ![n, m]⟩ φ} {f : ℕ → ℕ → ℝ} (e : x = y) (h : Rd y f) : Rd x f := e ▸ h

/-- Output 5 at a grid point that begins a pair of heads. -/
theorem Arr.outA5 (h : Arr V c P D) (t : Fin cfg1.N) (h0 : t.val % 4 = 0) :
    Rd (n := 512) (m := 128) (φ := .f32) (outsAt1 V c t.val t.isLt).1 (dqP P D (t.val / 4) (t.val % 4)) := by
  have hb := (h.blocks t).A5 (c := c) (harg2 := hs1_0 t) (harg3 := hs1_1 t) (harg4 := hs1_2 t) (harg5 := hs1_3 t) (harg6 := hs1_4 t) (harg7 := hs1_5 t) (harg8 := hs1_6 t) (harg9 := hs1_7 t) (harg10 := (Memref.isWhole_whole _ : (scM1_0).IsWhole)) ((hcond1_0 t).mpr h0)
  rw [co1 t] at hb
  unfold dqP
  exact Rd.of_eq (φ := .f32) (congrArg (fun x => x.1) (outsAt1_A V c t h0)) hb

/-- Output 5 at any other grid point, over what the point before left. -/
theorem Arr.outB5 (h : Arr V c P D) (t : Fin cfg1.N) (h0 : ¬t.val % 4 = 0) {T8 T9 : ℕ → ℕ → ℝ}
    (h8 : Rd (n := 2048) (m := 128) (φ := .f32) (outsAt1 V c (t.val - 1) (Nat.lt_of_le_of_lt (Nat.sub_le _ _) t.isLt)).2.1 T8)
    (h9 : Rd (n := 2048) (m := 128) (φ := .f32) (outsAt1 V c (t.val - 1) (Nat.lt_of_le_of_lt (Nat.sub_le _ _) t.isLt)).2.2 T9) :
    Rd (n := 512) (m := 128) (φ := .f32) (outsAt1 V c t.val t.isLt).1 (dqP P D (t.val / 4) (t.val % 4)) := by
  have hb := (h.blocks t).B5 (c := c) (harg2 := hs1_0 t) (harg3 := hs1_1 t) (harg4 := hs1_2 t) (harg5 := hs1_3 t) (harg6 := hs1_4 t) (harg7 := hs1_5 t) (harg8 := hs1_6 t) (harg9 := hs1_7 t) (harg10 := (Memref.isWhole_whole _ : (scM1_0).IsWhole)) (fun h => h0 ((hcond1_0 t).mp h)) h8 h9
  rw [co1 t] at hb
  unfold dqP
  exact Rd.of_eq (φ := .f32) (congrArg (fun x => x.1) (outsAt1_B V c t h0)) hb

/-- Output 6 at a grid point that begins a pair of heads. -/
theorem Arr.outA6 (h : Arr V c P D) (t : Fin cfg1.N) (h0 : t.val % 4 = 0) :
    Rd (n := 2048) (m := 128) (φ := .f32) (outsAt1 V c t.val t.isLt).2.1 (dkP P D (t.val / 4) (t.val % 4)) := by
  have hb := (h.blocks t).A6 (c := c) (harg2 := hs1_0 t) (harg3 := hs1_1 t) (harg4 := hs1_2 t) (harg5 := hs1_3 t) (harg6 := hs1_4 t) (harg7 := hs1_5 t) (harg8 := hs1_6 t) (harg9 := hs1_7 t) (harg10 := (Memref.isWhole_whole _ : (scM1_0).IsWhole)) ((hcond1_0 t).mpr h0)
  rw [co1 t] at hb
  unfold dkP
  exact Rd.of_eq (φ := .f32) (congrArg (fun x => x.2.1) (outsAt1_A V c t h0)) hb

/-- Output 6 at any other grid point, over what the point before left. -/
theorem Arr.outB6 (h : Arr V c P D) (t : Fin cfg1.N) (h0 : ¬t.val % 4 = 0) {T8 T9 : ℕ → ℕ → ℝ}
    (h8 : Rd (n := 2048) (m := 128) (φ := .f32) (outsAt1 V c (t.val - 1) (Nat.lt_of_le_of_lt (Nat.sub_le _ _) t.isLt)).2.1 T8)
    (h9 : Rd (n := 2048) (m := 128) (φ := .f32) (outsAt1 V c (t.val - 1) (Nat.lt_of_le_of_lt (Nat.sub_le _ _) t.isLt)).2.2 T9) :
    Rd (n := 2048) (m := 128) (φ := .f32) (outsAt1 V c t.val t.isLt).2.1 (fun s d => T8 s d + dkP P D (t.val / 4) (t.val % 4) s d) := by
  have hb := (h.blocks t).B6 (c := c) (harg2 := hs1_0 t) (harg3 := hs1_1 t) (harg4 := hs1_2 t) (harg5 := hs1_3 t) (harg6 := hs1_4 t) (harg7 := hs1_5 t) (harg8 := hs1_6 t) (harg9 := hs1_7 t) (harg10 := (Memref.isWhole_whole _ : (scM1_0).IsWhole)) (fun h => h0 ((hcond1_0 t).mp h)) h8 h9
  rw [co1 t] at hb
  unfold dkP
  exact Rd.of_eq (φ := .f32) (congrArg (fun x => x.2.1) (outsAt1_B V c t h0)) hb

/-- Output 7 at a grid point that begins a pair of heads. -/
theorem Arr.outA7 (h : Arr V c P D) (t : Fin cfg1.N) (h0 : t.val % 4 = 0) :
    Rd (n := 2048) (m := 128) (φ := .f32) (outsAt1 V c t.val t.isLt).2.2 (dvP P D (t.val / 4) (t.val % 4)) := by
  have hb := (h.blocks t).A7 (c := c) (harg2 := hs1_0 t) (harg3 := hs1_1 t) (harg4 := hs1_2 t) (harg5 := hs1_3 t) (harg6 := hs1_4 t) (harg7 := hs1_5 t) (harg8 := hs1_6 t) (harg9 := hs1_7 t) (harg10 := (Memref.isWhole_whole _ : (scM1_0).IsWhole)) ((hcond1_0 t).mpr h0)
  rw [co1 t] at hb
  unfold dvP
  exact Rd.of_eq (φ := .f32) (congrArg (fun x => x.2.2) (outsAt1_A V c t h0)) hb

/-- Output 7 at any other grid point, over what the point before left. -/
theorem Arr.outB7 (h : Arr V c P D) (t : Fin cfg1.N) (h0 : ¬t.val % 4 = 0) {T8 T9 : ℕ → ℕ → ℝ}
    (h8 : Rd (n := 2048) (m := 128) (φ := .f32) (outsAt1 V c (t.val - 1) (Nat.lt_of_le_of_lt (Nat.sub_le _ _) t.isLt)).2.1 T8)
    (h9 : Rd (n := 2048) (m := 128) (φ := .f32) (outsAt1 V c (t.val - 1) (Nat.lt_of_le_of_lt (Nat.sub_le _ _) t.isLt)).2.2 T9) :
    Rd (n := 2048) (m := 128) (φ := .f32) (outsAt1 V c t.val t.isLt).2.2 (fun s d => T9 s d + dvP P D (t.val / 4) (t.val % 4) s d) := by
  have hb := (h.blocks t).B7 (c := c) (harg2 := hs1_0 t) (harg3 := hs1_1 t) (harg4 := hs1_2 t) (harg5 := hs1_3 t) (harg6 := hs1_4 t) (harg7 := hs1_5 t) (harg8 := hs1_6 t) (harg9 := hs1_7 t) (harg10 := (Memref.isWhole_whole _ : (scM1_0).IsWhole)) (fun h => h0 ((hcond1_0 t).mp h)) h8 h9
  rw [co1 t] at hb
  unfold dvP
  exact Rd.of_eq (φ := .f32) (congrArg (fun x => x.2.2) (outsAt1_B V c t h0)) hb

/-- The outputs' blocks at every grid point. -/
theorem Arr.outs (h : Arr V c P D) : ∀ (n : ℕ) (hn : n < cfg1.N),
    Rd (n := 512) (m := 128) (φ := .f32) (outsAt1 V c n hn).1 (dqP P D (n / 4) (n % 4))
    ∧ Rd (n := 2048) (m := 128) (φ := .f32) (outsAt1 V c n hn).2.1 (fun s d => ∑ i ∈ Finset.range (n % 4 + 1), dkP P D (n / 4) i s d)
    ∧ Rd (n := 2048) (m := 128) (φ := .f32) (outsAt1 V c n hn).2.2 (fun s d => ∑ i ∈ Finset.range (n % 4 + 1), dvP P D (n / 4) i s d) := by
  intro n
  induction n using Nat.strong_induction_on with
  | _ n ih =>
    intro hn
    by_cases h0 : n % 4 = 0
    · refine ⟨h.outA5 ⟨n, hn⟩ h0, Rd.congr (h.outA6 ⟨n, hn⟩ h0) fun r d _ _ => ?_, Rd.congr (h.outA7 ⟨n, hn⟩ h0) fun r d _ _ => ?_⟩
      · simp only [h0, zero_add, Finset.sum_range_one]
      · simp only [h0, zero_add, Finset.sum_range_one]
    · have hp := ih (n - 1) (by omega) (Nat.lt_of_le_of_lt (Nat.sub_le _ _) hn)
      have e1 : (n - 1) / 4 = n / 4 := by omega
      have e2 : (n - 1) % 4 + 1 = n % 4 := by omega
      rw [e1, e2] at hp
      refine ⟨h.outB5 ⟨n, hn⟩ h0 hp.2.1 hp.2.2, Rd.congr (h.outB6 ⟨n, hn⟩ h0 hp.2.1 hp.2.2) fun r d _ _ => ?_,
        Rd.congr (h.outB7 ⟨n, hn⟩ h0 hp.2.1 hp.2.2) fun r d _ _ => ?_⟩
      · simp only [Finset.sum_range_succ]
      · simp only [Finset.sum_range_succ]

/-! ## The arrays -/

/-- The queries' gradient. -/
theorem Arr.arr5 (h : Arr V c P D) : Rd (n := 2048) (m := 512) (φ := .f32) ((dat1 V c).arrAt 5 cfg1.N) (fun s d => dqP P D (d / 128) (s / 512) (s % 512) (d % 128)) := by
  intro s d
  refine (dat1 V c).arrAt_forall_of_covers 5 (fun y v => (v : EReal) = (((fun s d => dqP P D (d / 128) (s / 512) (s % 512) (d % 128)) (y 0).val (y 1).val : ℝ) : EReal)) (by decide +kernel) (fun t hf y => ?_) (ix2 s d)
  rw [after1_5]
  blk_simp [ix1_5 t]
  have hy0 : (y 0).val < 512 := (y 0).isLt
  have hy1 : (y 1).val < 128 := (y 1).isLt
  have e := (h.outs t.val t.isLt).1 (y 0) (y 1)
  have ey : (y : S512x128.Idx) = ix2 (n0 := 512) (n1 := 128) (y 0) (y 1) := ValueIdx.eq_ix2 y
  have d1 : (t.val / 4 * 128 + (y 1).val) / 128 = t.val / 4 := by omega
  have d2 : (t.val / 4 * 128 + (y 1).val) % 128 = (y 1).val := by omega
  have d3 : (t.val % 4 * 512 + (y 0).val) / 512 = t.val % 4 := by omega
  have d4 : (t.val % 4 * 512 + (y 0).val) % 512 = (y 0).val := by omega
  rw [d1, d2, d3, d4]
  rw [ey]
  exact e

/-- The keys' gradient. -/
theorem Arr.arr6 (h : Arr V c P D) : Rd (n := 2048) (m := 512) (φ := .f32) ((dat1 V c).arrAt 6 cfg1.N) (fun s d => ∑ i ∈ Finset.range 4, dkP P D (d / 128) i s (d % 128)) := by
  intro s d
  refine (dat1 V c).arrAt_forall_of_covers 6 (fun y v => (v : EReal) = (((fun s d => ∑ i ∈ Finset.range 4, dkP P D (d / 128) i s (d % 128)) (y 0).val (y 1).val : ℝ) : EReal)) (by decide +kernel) (fun t hf y => ?_) (ix2 s d)
  rw [after1_6]
  blk_simp [ix1_6 t]
  have hy0 : (y 0).val < 2048 := (y 0).isLt
  have hy1 : (y 1).val < 128 := (y 1).isLt
  have e := (h.outs t.val t.isLt).2.1 (y 0) (y 1)
  have ey : (y : S2048x128.Idx) = ix2 (n0 := 2048) (n1 := 128) (y 0) (y 1) := ValueIdx.eq_ix2 y
  have d1 : (t.val / 4 * 128 + (y 1).val) / 128 = t.val / 4 := by omega
  have d2 : (t.val / 4 * 128 + (y 1).val) % 128 = (y 1).val := by omega
  have h3 : t.val % 4 + 1 = 4 := by have := (flush1_6 t).mp hf; omega
  rw [h3] at e
  rw [d1, d2]
  rw [ey]
  exact e

/-- The values' gradient. -/
theorem Arr.arr7 (h : Arr V c P D) : Rd (n := 2048) (m := 512) (φ := .f32) ((dat1 V c).arrAt 7 cfg1.N) (fun s d => ∑ i ∈ Finset.range 4, dvP P D (d / 128) i s (d % 128)) := by
  intro s d
  refine (dat1 V c).arrAt_forall_of_covers 7 (fun y v => (v : EReal) = (((fun s d => ∑ i ∈ Finset.range 4, dvP P D (d / 128) i s (d % 128)) (y 0).val (y 1).val : ℝ) : EReal)) (by decide +kernel) (fun t hf y => ?_) (ix2 s d)
  rw [after1_7]
  blk_simp [ix1_7 t]
  have hy0 : (y 0).val < 2048 := (y 0).isLt
  have hy1 : (y 1).val < 128 := (y 1).isLt
  have e := (h.outs t.val t.isLt).2.2 (y 0) (y 1)
  have ey : (y : S2048x128.Idx) = ix2 (n0 := 2048) (n1 := 128) (y 0) (y 1) := ValueIdx.eq_ix2 y
  have d1 : (t.val / 4 * 128 + (y 1).val) / 128 = t.val / 4 := by omega
  have d2 : (t.val / 4 * 128 + (y 1).val) % 128 = (y 1).val := by omega
  have h3 : t.val % 4 + 1 = 4 := by have := (flush1_7 t).mp hf; omega
  rw [h3] at e
  rw [d1, d2]
  rw [ey]
  exact e

end Cert.Sb
-- ==== Proof.Acc0.lean ====
/- The forward kernel over its grid: the array of carries it leaves. -/
module

public import proofs.«01_k».proof.Proof.Fwd1
public import proofs.«01_k».proof.Proof.Acc1

@[expose] public section

set_option maxRecDepth 16384

noncomputable section

namespace Cert.Sb

open Idealize.ShloMosaic hiding ix2 ix3
open Idealize.ShloMosaic.TcCoe Idealize.ShloMosaic.Tactic
open Idealize.ShloMosaic.ValueIdx (ix2 ix3)
open Cert.KernelIdeal Cert.KernelIdeal.Gen Idealize.SL Idealize.SL.Sem
open scoped BigOperators

/-- The block of window 0 at a grid point. -/
theorem ix0_0 : ∀ t : Fin cfg0.N, win0_0.index t = ![t.val % 4, 16 + t.val / 4] := (by decide +kernel : ∀ t : Fin grid0.N, _)
/-- The block of window 1 at a grid point. -/
theorem ix0_1 : ∀ t : Fin cfg0.N, win0_1.index t = ![0, 20 + t.val / 4] := (by decide +kernel : ∀ t : Fin grid0.N, _)
/-- The block of window 4 at a grid point. -/
theorem ix0_4 : ∀ t : Fin cfg0.N, win0_4.index t = ![t.val / 4, t.val % 4, 0] := (by decide +kernel : ∀ t : Fin grid0.N, _)
/-- The query tile of a grid point. -/
theorem co0 : ∀ t : Fin cfg0.N, ((grid0.coords t) 1).val = t.val % 4 := (by decide +kernel : ∀ t : Fin grid0.N, _)

theorem lt16' (t : Fin cfg0.N) : t.val < 16 := lt_of_lt_of_eq t.isLt N_0

variable (V : (c : Dev nD) → (b : Ref sig .tc) → Buf (Elt Ideal) ((c : Thread nD τ).loc b)) (c : Dev nD)

/-- An entry of the block of window 0. -/
theorem blk0_0 (t : Fin cfg0.N) (r : Fin 512) (d : Fin 128) :
    iblk0 (F := Ideal) V c 0 t (ix2 r d) = V c main_arg0 (ix2 (⟨512 * (t.val % 4) + r.val, by have := r.isLt; have := lt16' t; omega⟩ : Fin 2048)
      (⟨2048 + 128 * (t.val / 4) + d.val, by have := d.isLt; have := lt16' t; omega⟩ : Fin 4352)) := by
  blk_ext [iblk0, ix0_0 t]
  all_goals first
    | (show t.val % 4 * 512 + r.val = _; omega)
    | (show (16 + t.val / 4) * 128 + d.val = _; omega)
/-- An entry of the block of window 1. -/
theorem blk0_1 (t : Fin cfg0.N) (r : Fin 2048) (d : Fin 128) :
    iblk0 (F := Ideal) V c 1 t (ix2 r d) = V c main_arg0 (ix2 (⟨r.val, by have := r.isLt; have := lt16' t; omega⟩ : Fin 2048)
      (⟨2560 + 128 * (t.val / 4) + d.val, by have := d.isLt; have := lt16' t; omega⟩ : Fin 4352)) := by
  blk_ext [iblk0, ix0_1 t]
  all_goals first
    | (show t.val % 4 * 512 + r.val = _; omega)
    | (show (20 + t.val / 4) * 128 + d.val = _; omega)

variable {V c} {P : ℕ → ℕ → ℝ}

/-- The forward kernel's carries at a grid point. -/
theorem fwd_point (hp : ∀ (r : Fin 2048) (d : Fin 4352), 2048 ≤ d.val → d.val < 3584 → (V c main_arg0 (ix2 r d) : EReal) = ((P r.val d.val : ℝ) : EReal)) (t : Fin cfg0.N) :
    A0.Lanes (512 * (t.val % 4)) (tq P (t.val / 4) (t.val % 4)) (tk P (t.val / 4)) 0 (t.val % 4) (outsAt0 V c t).2 := by
  have hq : Rd (n := 512) (m := 128) (φ := .f32) (iblk0 V c 0 t) (tq P (t.val / 4) (t.val % 4)) := fun r d =>
    (blk0_0 V c t r d).trans (hp _ _ (by show 2048 ≤ 2048 + 128 * (t.val / 4) + d.val; omega) (by show 2048 + 128 * (t.val / 4) + d.val < 3584; have := d.isLt; have := lt16' t; omega))
  have hk : Rd (n := 2048) (m := 128) (φ := .f32) (iblk0 V c 1 t) (tk P (t.val / 4)) := fun r d =>
    (blk0_1 V c t r d).trans (hp _ _ (by show 2048 ≤ 2560 + 128 * (t.val / 4) + d.val; omega) (by show 2560 + 128 * (t.val / 4) + d.val < 3584; have := d.isLt; have := lt16' t; omega))
  have e := fwd_lanes (c := c) (i := grid0.coords t) (harg2 := hs0_0 t) (harg3 := hs0_1 t) (harg4 := hs0_2 t) (harg5 := hs0_3 t) (harg6 := hs0_4 t) (harg7 := (Memref.isWhole_whole _ : (scM0_0).IsWhole)) (x2 := iblk0 V c 2 t) hq hk
  rw [co0 t] at e
  exact e

/-- What an entry of the array of carries holds. -/
def cT (P : ℕ → ℕ → ℝ) (h s j : ℕ) : ℝ :=
  if h % 2 = 0 then cG (512 * (s / 512)) (h0 (qS (tq P (h / 2) (s / 512)))) (tk P (h / 2)) j (s % 512)
  else cG (512 * (s / 512)) (h1 (qS (tq P (h / 2) (s / 512)))) (tk P (h / 2)) j (s % 512)

/-- The array of carries. -/
theorem arr04 (hp : ∀ (r : Fin 2048) (d : Fin 4352), 2048 ≤ d.val → d.val < 3584 → (V c main_arg0 (ix2 r d) : EReal) = ((P r.val d.val : ℝ) : EReal))
    (h : Fin 8) (s : Fin 2048) (j : Fin 128) (hj : j.val ≤ s.val / 512) :
    (((dat0 V c).arrAt 4 cfg0.N) (ix3 h s j) : EReal) = ((cT P h.val s.val j.val : ℝ) : EReal) := by
  refine ((dat0 V c).arrAt_forall_of_covers 4 (fun y v => (y 2).val ≤ (y 1).val / 512 → (v : EReal) = ((cT P (y 0).val (y 1).val (y 2).val : ℝ) : EReal)) (by decide +kernel) (fun t hf y => ?_) (ix3 h s j)) hj
  rw [after0_4]
  have e := fwd_point hp t
  blk_simp [ix0_4 t]
  have key : ∀ (a : Fin 2) (b : Fin 512) (d : Fin 128), d.val ≤ (t.val % 4 * 512 + b.val) / 512 →
      ((outsAt0 V c t).2 (ix3 a b d) : EReal) = ((cT P (t.val / 4 * 2 + a.val) (t.val % 4 * 512 + b.val) d.val : ℝ) : EReal) := fun a b d hle => by
    have ha := a.isLt
    have hb := b.isLt
    have d3 : (t.val % 4 * 512 + b.val) / 512 = t.val % 4 := by omega
    have d4 : (t.val % 4 * 512 + b.val) % 512 = b.val := by omega
    have d1 : (t.val / 4 * 2 + a.val) / 2 = t.val / 4 := by omega
    rw [d3] at hle
    unfold cT
    rw [d3, d4, d1]
    by_cases hh : a = 0
    · subst hh
      rw [if_pos (by show (t.val / 4 * 2 + 0) % 2 = 0; omega)]
      exact e.1 d b (Nat.zero_le _) hle
    · have h1 : a = 1 := Fin.ext (by have : a.val ≠ 0 := fun h => hh (Fin.ext h); show a.val = 1; omega)
      subst h1
      rw [if_neg (by show ¬ (t.val / 4 * 2 + 1) % 2 = 0; omega)]
      exact e.2 d b (Nat.zero_le _) hle
  have ey : (y : S2x512x128.Idx) = ix3 (n0 := 2) (n1 := 512) (n2 := 128) (y 0) (y 1) (y 2) := ValueIdx.eq_ix3 y
  intro hle
  exact (congrArg (fun z : S2x512x128.Idx => ((outsAt0 V c t).2 z : EReal)) ey).trans (key (y 0) (y 1) (y 2) hle)

/-- The backward kernel's arrays, from the arguments and the forward kernel's carries. -/
theorem Arr.of_fwd {V' : (c : Dev nD) → (b : Ref sig .tc) → Buf (Elt Ideal) ((c : Thread nD τ).loc b)} {D : ℕ → ℕ → ℝ}
    (hp : ∀ (r : Fin 2048) (d : Fin 4352), 2048 ≤ d.val → d.val < 3584 → (V c main_arg0 (ix2 r d) : EReal) = ((P r.val d.val : ℝ) : EReal))
    (hd : Rd (n := 2048) (m := 512) (φ := .f32) (V c main_arg1) D)
    (e0 : V' c main_arg0 = V c main_arg0) (e1 : V' c main_arg1 = V c main_arg1) (e2 : V' c main_v0_1 = (dat0 V c).arrAt 4 cfg0.N) : Arr V' c P D where
  hp r d h1 h2 := by rw [e0]; exact hp r d h1 h2
  hd := by rw [e1]; exact hd
  hc0 q i j hh hi hj r := by
    have hr := r.isLt
    rw [e2]
    refine (arr04 hp _ _ _ (by show j ≤ (512 * i + r.val) / 512; omega)).trans ?_
    unfold cT
    dsimp only
    rw [if_pos (by omega), show (512 * i + r.val) / 512 = i by omega, show (512 * i + r.val) % 512 = r.val by omega, show 2 * q / 2 = q by omega]
  hc1 q i j hh hi hj r := by
    have hr := r.isLt
    rw [e2]
    refine (arr04 hp _ _ _ (by show j ≤ (512 * i + r.val) / 512; omega)).trans ?_
    unfold cT
    dsimp only
    rw [if_neg (by omega), show (512 * i + r.val) / 512 = i by omega, show (512 * i + r.val) % 512 = r.val by omega, show (2 * q + 1) / 2 = q by omega]

end Cert.Sb

end
-- ==== Proof.Fwd2.lean ====
/- The forward kernel at one grid point: the output's tile, which its first output holds. -/
module

public import proofs.«01_k».proof.Proof.Fwd1

@[expose] public section

noncomputable section

namespace Cert.Sb

open Idealize.ShloMosaic Idealize.ShloMosaic.TcCoe Idealize.ShloMosaic.Tactic Idealize.ShloMosaic.ValueIdx
open Cert.KernelIdeal Cert.KernelIdeal.Gen Idealize.SL Idealize.SL.Sem
open scoped BigOperators

/-- What key `s` adds to an entry of the output, both heads together. -/
def oT (t : ℕ) (Q K V : ℕ → ℕ → ℝ) (r d s : ℕ) : ℝ := aG t (h0 Q) K r s * h0 V s d + aG t (h1 Q) K r s * h1 V s d

/-- A key that no query of the tile may see adds nothing. -/
theorem oT_late {t : ℕ} {Q K V : ℕ → ℕ → ℝ} (r d s : ℕ) (h : t + r ≤ s) : oT t Q K V r d s = 0 := by
  unfold oT
  rw [aG_late r s h, aG_late r s h, zero_mul, zero_mul, add_zero]

namespace A0

variable {i : grid0.Coords} (A : A0 i)

/-- The tile of values that trip `k` reads. -/
def vT (k : Fin (k0_t1_loop i).trips) : Vec Ideal S512x128 .f32 :=
  View.readAt (Elt Ideal) A.arg4.view (Rect.unit (s := S2048x128) (k0_off2 i k) S512x128.size (k0_off2_inb i k)).toLoadRect A.x4
/-- The tile's own values. -/
def vD : Vec Ideal S512x128 .f32 :=
  View.readAt (Elt Ideal) A.arg4.view (Rect.unit (s := S2048x128) (k0_off1 i) S512x128.size (k0_off1_inb i)).toLoadRect A.x4

/-- The weights of the first head at trip `k`. -/
def a0 (k : Fin (k0_t1_loop i).trips) (cb : FVec Ideal S512x1 .f32) : FVec Ideal S512x512 .f32 := hA (k0_pay59 (F := Ideal)) (k0_pay66 A.q) (tr (A.kT k)) cb
/-- The weights of the second head at trip `k`. -/
def a1 (k : Fin (k0_t1_loop i).trips) (cb : FVec Ideal S512x1 .f32) : FVec Ideal S512x512 .f32 := hA (k0_pay59 (F := Ideal)) (k0_pay67 A.q) (tr (A.kT k)) cb
/-- The diagonal's weights of the first head. -/
def da0 : FVec Ideal S512x512 .f32 := mA k0_pay60 (k0_pay59 (F := Ideal)) (k0_pay66 A.q) (tr A.kD) k0_pay68
/-- The diagonal's weights of the second head. -/
def da1 : FVec Ideal S512x512 .f32 := mA k0_pay60 (k0_pay59 (F := Ideal)) (k0_pay67 A.q) (tr A.kD) k0_pay68

/-- What trip `k` adds to the output. -/
def po (k : Fin (k0_t1_loop i).trips) (acc : FVec Ideal S512x1 .f32 × FVec Ideal S512x1 .f32) : FVec Ideal S512x128 .f32 :=
  addf (bNN (truncf .bf16 (A.a0 k acc.1) bitsLt_bf16_f32) (qM k0_pay64 (A.vT k))) (bNN (truncf .bf16 (A.a1 k acc.2) bitsLt_bf16_f32) (qM k0_pay65 (A.vT k)))
/-- What the diagonal adds to the output. -/
def dpo : FVec Ideal S512x128 .f32 :=
  addf (bNN (truncf .bf16 A.da0 bitsLt_bf16_f32) (qM k0_pay64 A.vD)) (bNN (truncf .bf16 A.da1 bitsLt_bf16_f32) (qM k0_pay65 A.vD))

theorem tripL7 (k : Fin (k0_t1_loop i).trips) (acc : FVec Ideal S512x1 .f32 × FVec Ideal S512x1 .f32)
    (f6 : BufTy.Contents (Elt Ideal) A.arg6.view.ty) (f7 : BufTy.Contents (Elt Ideal) A.arg7.view.ty) :
    (tripL_k0_t1 (F := Ideal) A.𝒱 A.c A.bd i A.arg2 A.harg2 A.arg3 A.harg3 A.arg4 A.harg4 A.arg5 A.harg5 A.arg6 A.harg6 A.arg7 A.harg7
      (BitVec.ofNat 32 (i 1).val) lanes k0_pay59 k0_pay64 k0_pay65 (k0_pay66 A.q) (k0_pay67 A.q) A.x3 A.x4 k acc f6 f7).2
        = [⟨A1.tile, A1.sc (addf (View.readAt (Elt Ideal) A.arg7.view A1.tile.toLoadRect f7) (A.po k acc))⟩] := by
  unfold tripL_k0_t1 trip_k0_t1
  dsimp only
  sl_unfold_words
  rfl

theorem st_succ3 (g6 : BufTy.Contents (Elt Ideal) A.arg6.view.ty) (g7 : BufTy.Contents (Elt Ideal) A.arg7.view.ty) (init : FVec Ideal S512x1 .f32 × FVec Ideal S512x1 .f32) (k : Fin (k0_t1_loop i).trips) :
    (A.st g6 g7 init (k.val + 1)).2.2 =
      ⟨A1.tile, A1.sc (addf (View.readAt (Elt Ideal) A.arg7.view A1.tile.toLoadRect (A.arg7.view.writes (Elt Ideal) g7 (A.st g6 g7 init k.val).2.2))
        (A.po k (A.st g6 g7 init k.val).1))⟩ :: (A.st g6 g7 init k.val).2.2 := by
  refine (congrArg (fun x => x.2.2) (st_k0_t1_succ (F := Ideal) A.𝒱 A.c A.bd i A.arg2 A.harg2 A.arg3 A.harg3 A.arg4 A.harg4 A.arg5 A.harg5 A.arg6 A.harg6 A.arg7 A.harg7
      (BitVec.ofNat 32 (i 1).val) lanes k0_pay59 k0_pay64 k0_pay65 (k0_pay66 A.q) (k0_pay67 A.q) A.x3 A.x4 g6 g7 init k)).trans ?_
  exact congrArg (fun x => x ++ (A.st g6 g7 init k.val).2.2) (A.tripL7 k _ _ _)

/-- The pieces stored in the accumulator before the loop. -/
def L7 : List (View.Piece (Elt Ideal) S512x128 .f32) :=
  [⟨A1.tile, A1.sc (addf (View.readAt (Elt Ideal) A.arg7.view A1.tile.toLoadRect (A.arg7.view.writes (Elt Ideal) A.arg7.view.junk [⟨A1.tile, k0_pay62 (F := Ideal)⟩])) A.dpo)⟩,
    ⟨A1.tile, k0_pay62 (F := Ideal)⟩]

/-- The output's tile is stored once, from the accumulator. -/
theorem run_3 (c : Dev nD) (arg2 : Memref sig .tc .vmem S512x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S512x128 .bf16) (harg5 : arg5.IsWhole) (arg6 : Memref sig .tc .vmem S2x512x128 .f32) (harg6 : arg6.IsWhole) (arg7 : Memref sig .tc .vmem S512x128 .f32) (harg7 : arg7.IsWhole)
    (x0 : Vec Ideal S512x128 .f32) (x1 x2 : Vec Ideal S2048x128 .f32) :
    ∃ g6 g6' : BufTy.Contents (Elt Ideal) arg6.view.ty,
    (kernelRun0_A (F := Ideal) c i arg2 harg2 arg3 harg3 arg4 harg4 arg5 harg5 arg6 harg6 arg7 harg7 x0 x1 x2).1
        = let A := A0.of c i arg2 harg2 arg3 harg3 arg4 harg4 arg5 harg5 arg6 harg6 arg7 harg7 x0 x1 x2
          let s1 := A.st g6 (A.arg7.view.writes (Elt Ideal) A.arg7.view.junk A.L7) A.ini (k0_t1_loop i).trips
          let s2 := A.e2 g6' (A.arg7.view.writes (Elt Ideal) A.arg7.view.junk (s1.2.2 ++ A.L7)) (s1.1.1, s1.1.2)
          [⟨A1.tile, truncf (F := Ideal) .bf16 (View.readAt (Elt Ideal) A.arg7.view A1.tile.toLoadRect
            (A.arg7.view.writes (Elt Ideal) A.arg7.view.junk (s2.2.2 ++ (s1.2.2 ++ A.L7)))) bitsLt_bf16_f32⟩] := by
  unfold kernelRun0_A
  dsimp only
  sl_unfold_words
  exact ⟨_, _, rfl⟩

/-! ## The tables -/

variable {A} {q K V : ℕ → ℕ → ℝ} (hv : Rd (n := 2048) (m := 128) (φ := .f32) (A.arg4.view.read (Elt Ideal) A.x4) V)

include hv in
theorem rd_vT (k : Fin (k0_t1_loop i).trips) : Rd (φ := .f32) (A.vT k) (til ((i 1).val - 1 - k.val) V) := rd_readRows _ _ hv _ _ (off2_val i k)
include hv in
theorem rd_vD : Rd (φ := .f32) A.vD (til (i 1).val V) := rd_readRows _ _ hv _ _ (off1_val i)

/-- Before the diagonal every pair of an earlier tile is kept. -/
theorem mask_lt (k : Fin (k0_t1_loop i).trips) (r c : ℕ) (hc : c < 512) :
    (fun _ _ => true : ℕ → ℕ → Bool) r c = decide (512 * ((i 1).val - 1 - k.val) + c < 512 * (i 1).val + r) := by
  have hk := lt_trips k
  exact (decide_eq_true (by omega)).symm

/-- On the diagonal the keys before the query are kept. -/
theorem mask_diag (r c : ℕ) (_ : c < 512) :
    (fun r c => decide (c < r) : ℕ → ℕ → Bool) r c = decide (512 * (i 1).val + c < 512 * (i 1).val + r) := decide_eq_decide.2 (by omega)

/-- The carry of the tiles from `j + 1` on is what the later tiles have added up to. -/
theorem cS_cG (t : ℕ) (Q K : ℕ → ℕ → ℝ) (j r : ℕ) : cS t Q K (j + 1) r = cG t Q K j r := rfl

theorem cG_diag (Q K : ℕ → ℕ → ℝ) (n r : ℕ) (hr : r < 512) : cG (512 * n) Q K n r = 0 := by
  unfold cG
  rw [Finset.Ico_eq_empty (by omega), Finset.sum_empty]

theorem Ok.a0 (h : A.Ok q K) (k : Fin (k0_t1_loop i).trips) {acc : FVec Ideal S512x1 .f32 × FVec Ideal S512x1 .f32}
    (ha : Carry (512 * (i 1).val) q K ((i 1).val - k.val) acc) :
    Rd (A.a0 k acc.1) (fun r c => aG (512 * (i 1).val) (h0 (qS q)) K r (512 * ((i 1).val - 1 - k.val) + c)) := by
  have hk := lt_trips k
  rw [show (i 1).val - k.val = (i 1).val - 1 - k.val + 1 by omega] at ha
  have hc : Rd acc.1 (fun r _ => cG (512 * (i 1).val) (h0 (qS q)) K ((i 1).val - 1 - k.val) r) := ha.1
  exact (rd_hA lower98 h.q0 (rd_tr (h.kT k)) hc).congr fun r c _ hc => aT_til (mask_lt k r) c hc
theorem Ok.a1 (h : A.Ok q K) (k : Fin (k0_t1_loop i).trips) {acc : FVec Ideal S512x1 .f32 × FVec Ideal S512x1 .f32}
    (ha : Carry (512 * (i 1).val) q K ((i 1).val - k.val) acc) :
    Rd (A.a1 k acc.2) (fun r c => aG (512 * (i 1).val) (h1 (qS q)) K r (512 * ((i 1).val - 1 - k.val) + c)) := by
  have hk := lt_trips k
  rw [show (i 1).val - k.val = (i 1).val - 1 - k.val + 1 by omega] at ha
  have hc : Rd acc.2 (fun r _ => cG (512 * (i 1).val) (h1 (qS q)) K ((i 1).val - 1 - k.val) r) := ha.2
  exact (rd_hA lower98 h.q1 (rd_tr (h.kT k)) hc).congr fun r c _ hc => aT_til (mask_lt k r) c hc
theorem rd_first (Q : ℕ → ℕ → ℝ) : Rd (k0_pay68 (F := Ideal)) (fun r _ => cG (512 * (i 1).val) Q K (i 1).val r) :=
  rd_pay68.congr fun r _ hr _ => (cG_diag Q K (i 1).val r hr).symm
theorem Ok.da0 (h : A.Ok q K) : Rd A.da0 (fun r c => aG (512 * (i 1).val) (h0 (qS q)) K r (512 * (i 1).val + c)) :=
  (rd_mA md100 lower98 h.q0 (rd_tr h.kD) (rd_first (i := i) (K := K) (h0 (qS q)))).congr fun r c _ hc => aT_til (mask_diag r) c hc
theorem Ok.da1 (h : A.Ok q K) : Rd A.da1 (fun r c => aG (512 * (i 1).val) (h1 (qS q)) K r (512 * (i 1).val + c)) :=
  (rd_mA md100 lower98 h.q1 (rd_tr h.kD) (rd_first (i := i) (K := K) (h1 (qS q)))).congr fun r c _ hc => aT_til (mask_diag r) c hc

include hv in
theorem Ok.po (h : A.Ok q K) (k : Fin (k0_t1_loop i).trips) {acc : FVec Ideal S512x1 .f32 × FVec Ideal S512x1 .f32}
    (ha : Carry (512 * (i 1).val) q K ((i 1).val - k.val) acc) :
    Rd (A.po k acc) (fun r d => ∑ c ∈ Finset.range 512, oT (512 * (i 1).val) (qS q) K V r d (512 * ((i 1).val - 1 - k.val) + c)) :=
  ((rd_bNN ((h.a0 k ha).truncf _) (rd_qM md103 (rd_vT hv k))).addf (rd_bNN ((h.a1 k ha).truncf _) (rd_qM md104 (rd_vT hv k)))).congr fun r d _ _ => by
    rw [← Finset.sum_add_distrib]; rfl
include hv in
theorem Ok.dpo (h : A.Ok q K) :
    Rd A.dpo (fun r d => ∑ c ∈ Finset.range 512, oT (512 * (i 1).val) (qS q) K V r d (512 * (i 1).val + c)) :=
  ((rd_bNN (h.da0.truncf _) (rd_qM md103 (rd_vD hv))).addf (rd_bNN (h.da1.truncf _) (rd_qM md104 (rd_vD hv)))).congr fun r d _ _ => by
    rw [← Finset.sum_add_distrib]; rfl

/-- The output's entries, from the keys of tile `m` on. -/
def oS (t : ℕ) (Q K V : ℕ → ℕ → ℝ) (m r d : ℕ) : ℝ := ∑ s ∈ Finset.Ico (512 * m) 2048, oT t Q K V r d s

theorem oS_step (t : ℕ) (Q K V : ℕ → ℕ → ℝ) (m r d : ℕ) (hm : m < 4) :
    oS t Q K V (m + 1) r d + ∑ c ∈ Finset.range 512, oT t Q K V r d (512 * m + c) = oS t Q K V m r d := by
  unfold oS
  rw [Finset.range_eq_Ico, sum_shift (oT t Q K V r d) (512 * m) 0 512, add_comm,
    show 512 * m + 512 = 512 * (m + 1) by omega, add_zero]
  exact Finset.sum_Ico_consecutive _ (by omega) (by omega)

theorem oS_late (n : ℕ) (Q K V : ℕ → ℕ → ℝ) (r d : ℕ) (hr : r < 512) : oS (512 * n) Q K V (n + 1) r d = 0 :=
  Finset.sum_eq_zero fun s hs => oT_late r d s (by have := (Finset.mem_Ico.1 hs).1; omega)

include hv in
/-- The accumulator before the loop. -/
theorem Ok.start (h : A.Ok q K) : Rd (n := 512) (m := 128) (φ := .f32) (A.arg7.view.read (Elt Ideal) (A.arg7.view.writes (Elt Ideal) A.arg7.view.junk A.L7))
    (oS (512 * (i 1).val) (qS q) K V (i 1).val) := by
  have h4 := i_lt (i := i)
  have z : Rd (n := 512) (m := 128) (φ := .f32) (A.arg7.view.read (Elt Ideal) (A.arg7.view.writes (Elt Ideal) A.arg7.view.junk [⟨A1.tile, k0_pay62 (F := Ideal)⟩])) (fun _ _ => 0) :=
    rd_writeTile _ _ _ (rd_sc Rd.zero)
  exact (rd_writeTile A.arg7.view _ _ (rd_sc ((rd_readTile _ _ z).addf (h.dpo hv)))).congr fun r d hr _ => by
    rw [← oS_step _ _ _ _ _ _ _ h4, oS_late _ _ _ _ _ _ hr]

section
variable (g6 : BufTy.Contents (Elt Ideal) A.arg6.view.ty) (g7 : BufTy.Contents (Elt Ideal) A.arg7.view.ty) (init : FVec Ideal S512x1 .f32 × FVec Ideal S512x1 .f32)

include hv in
/-- The loop's state before trip `n`: the carries, and the accumulator. -/
theorem Ok.invO (h : A.Ok q K) (hi : Carry (512 * (i 1).val) q K (i 1).val init)
    (h7 : Rd (n := 512) (m := 128) (φ := .f32) (A.arg7.view.read (Elt Ideal) g7) (oS (512 * (i 1).val) (qS q) K V (i 1).val)) :
    ∀ n, n ≤ (k0_t1_loop i).trips → Carry (512 * (i 1).val) q K ((i 1).val - n) (A.st g6 g7 init n).1
      ∧ Rd (n := 512) (m := 128) (φ := .f32) (A.arg7.view.read (Elt Ideal) (A.arg7.view.writes (Elt Ideal) g7 (A.st g6 g7 init n).2.2))
        (oS (512 * (i 1).val) (qS q) K V ((i 1).val - n))
  | 0, _ => ⟨hi, h7⟩
  | n + 1, hn => by
    obtain ⟨pc, po⟩ := Ok.invO h hi h7 n (by omega)
    have hk := lt_trips (i := i) ⟨n, hn⟩
    have h4 := i_lt (i := i)
    dsimp only at hk
    have e1 := A.st_succ1 g6 g7 init ⟨n, hn⟩
    have e3 := A.st_succ3 g6 g7 init ⟨n, hn⟩
    dsimp only at e1 e3
    refine ⟨?_, ?_⟩
    · rw [e1]
      exact h.yl ⟨n, hn⟩ pc
    · rw [e3]
      exact (rd_writeTile A.arg7.view _ _ (rd_sc ((rd_readTile _ _ po).addf (h.po hv ⟨n, hn⟩ pc)))).congr fun r d _ _ => by
        rw [show (i 1).val - n = (i 1).val - 1 - n + 1 by omega, show (i 1).val - (n + 1) = (i 1).val - 1 - n by omega]
        exact oS_step _ _ _ _ _ _ _ (by omega)
end

include hv in
/-- The accumulator after both loops. -/
theorem Ok.postO (h : A.Ok q K) (g6 g6' : BufTy.Contents (Elt Ideal) A.arg6.view.ty) :
    Rd (n := 512) (m := 128) (φ := .f32) (A.arg7.view.read (Elt Ideal) (A.arg7.view.writes (Elt Ideal) A.arg7.view.junk
      (let s1 := A.st g6 (A.arg7.view.writes (Elt Ideal) A.arg7.view.junk A.L7) A.ini (k0_t1_loop i).trips
       (A.e2 g6' (A.arg7.view.writes (Elt Ideal) A.arg7.view.junk (s1.2.2 ++ A.L7)) (s1.1.1, s1.1.2)).2.2 ++ (s1.2.2 ++ A.L7))))
      (fun r d => ∑ s ∈ Finset.range 2048, oT (512 * (i 1).val) (qS q) K V r d s) := by
  dsimp only
  rw [A.e2_eq]
  have e := (h.invO hv g6 (A.arg7.view.writes (Elt Ideal) A.arg7.view.junk A.L7) A.ini h.ini (h.start hv) _ le_rfl).2
  rw [← View.writes_append] at e
  have t := trips0 i
  rw [show (i 1).val - (k0_t1_loop i).trips = 0 by omega] at e
  exact e.congr fun r d _ _ => by
    unfold oS
    rw [mul_zero, Finset.range_eq_Ico]

end A0

section
variable {c : Dev nD} {i : grid0.Coords} {arg2 : Memref sig .tc .vmem S512x128 .f32} {harg2 : arg2.IsWhole} {arg3 : Memref sig .tc .vmem S2048x128 .f32} {harg3 : arg3.IsWhole} {arg4 : Memref sig .tc .vmem S2048x128 .f32} {harg4 : arg4.IsWhole} {arg5 : Memref sig .tc .vmem S512x128 .bf16} {harg5 : arg5.IsWhole} {arg6 : Memref sig .tc .vmem S2x512x128 .f32} {harg6 : arg6.IsWhole} {arg7 : Memref sig .tc .vmem S512x128 .f32} {harg7 : arg7.IsWhole}
  {x0 : Vec Ideal S512x128 .f32} {x1 x2 : Vec Ideal S2048x128 .f32} {q K V : ℕ → ℕ → ℝ}

/-- The forward kernel's first output at one grid point holds the output's tile. -/
theorem fwd_out (hq : Rd (φ := .f32) x0 q) (hk : Rd (φ := .f32) x1 K) (hv : Rd (φ := .f32) x2 V) :
    Rd (n := 512) (m := 128) (φ := .bf16) (out0_A_3 (F := Ideal) c i arg2 harg2 arg3 harg3 arg4 harg4 arg5 harg5 arg6 harg6 arg7 harg7 x0 x1 x2)
      (fun r d => ∑ s ∈ Finset.range 2048, oT (512 * (i 1).val) (qS q) K V r d s) := by
  unfold out0_A_3
  obtain ⟨g6, g6', e⟩ := A0.run_3 (i := i) c arg2 harg2 arg3 harg3 arg4 harg4 arg5 harg5 arg6 harg6 arg7 harg7 x0 x1 x2
  have hok : (A0.of c i arg2 harg2 arg3 harg3 arg4 harg4 arg5 harg5 arg6 harg6 arg7 harg7 x0 x1 x2).Ok q K :=
    ⟨rd_readTile _ _ (rd_unread harg2 hq), rd_unread harg3 hk⟩
  have p := hok.postO (V := V) (rd_unread harg4 hv) g6 g6'
  rw [e, View.read_writes_junk_eq_canon, ← View.read_writes_junk_eq_canon arg5.view]
  dsimp only
  rw [View.read_writes_full arg5.view _ inb_S512x128_S512x128_0_0]
  exact (rd_readTile _ _ p).truncf _
end

end Cert.Sb

end
-- ==== Proof.Acc2.lean ====
/- The forward kernel over its grid: the array of outputs it leaves. -/
module

public import proofs.«01_k».proof.Proof.Fwd2
public import proofs.«01_k».proof.Proof.Acc0

@[expose] public section

set_option maxRecDepth 16384

noncomputable section

namespace Cert.Sb

open Idealize.ShloMosaic hiding ix2 ix3
open Idealize.ShloMosaic.TcCoe Idealize.ShloMosaic.Tactic
open Idealize.ShloMosaic.ValueIdx (ix2 ix3)
open Cert.KernelIdeal Cert.KernelIdeal.Gen Idealize.SL Idealize.SL.Sem
open scoped BigOperators

/-- The block of window 2 at a grid point. -/
theorem ix0_2 : ∀ t : Fin cfg0.N, win0_2.index t = ![0, 24 + t.val / 4] := (by decide +kernel : ∀ t : Fin grid0.N, _)
/-- The block of window 3 at a grid point. -/
theorem ix0_3 : ∀ t : Fin cfg0.N, win0_3.index t = ![t.val % 4, t.val / 4] := (by decide +kernel : ∀ t : Fin grid0.N, _)

variable (V : (c : Dev nD) → (b : Ref sig .tc) → Buf (Elt Ideal) ((c : Thread nD τ).loc b)) (c : Dev nD)

/-- An entry of the block of window 2. -/
theorem blk0_2 (t : Fin cfg0.N) (r : Fin 2048) (d : Fin 128) :
    iblk0 (F := Ideal) V c 2 t (ix2 r d) = V c main_arg0 (ix2 (⟨r.val, by have := r.isLt; have := lt16' t; omega⟩ : Fin 2048)
      (⟨3072 + 128 * (t.val / 4) + d.val, by have := d.isLt; have := lt16' t; omega⟩ : Fin 4352)) := by
  blk_ext [iblk0, ix0_2 t]
  all_goals first
    | (show t.val % 4 * 512 + r.val = _; omega)
    | (show (24 + t.val / 4) * 128 + d.val = _; omega)

variable {V c} {P : ℕ → ℕ → ℝ}

/-- An entry of the output, from its head pair, its query tile, and its place in them. -/
def oP (P : ℕ → ℕ → ℝ) (hp i r d : ℕ) : ℝ := ∑ s ∈ Finset.range 2048, oT (512 * i) (qS (tq P hp i)) (tk P hp) (tv P hp) r d s

/-- The forward kernel's output at a grid point. -/
theorem fwd_point_out (hp : ∀ (r : Fin 2048) (d : Fin 4352), 2048 ≤ d.val → d.val < 3584 → (V c main_arg0 (ix2 r d) : EReal) = ((P r.val d.val : ℝ) : EReal)) (t : Fin cfg0.N) :
    Rd (n := 512) (m := 128) (φ := .bf16) (outsAt0 V c t).1 (oP P (t.val / 4) (t.val % 4)) := by
  have hq : Rd (n := 512) (m := 128) (φ := .f32) (iblk0 V c 0 t) (tq P (t.val / 4) (t.val % 4)) := fun r d =>
    (blk0_0 V c t r d).trans (hp _ _ (by show 2048 ≤ 2048 + 128 * (t.val / 4) + d.val; omega) (by show 2048 + 128 * (t.val / 4) + d.val < 3584; have := d.isLt; have := lt16' t; omega))
  have hk : Rd (n := 2048) (m := 128) (φ := .f32) (iblk0 V c 1 t) (tk P (t.val / 4)) := fun r d =>
    (blk0_1 V c t r d).trans (hp _ _ (by show 2048 ≤ 2560 + 128 * (t.val / 4) + d.val; omega) (by show 2560 + 128 * (t.val / 4) + d.val < 3584; have := d.isLt; have := lt16' t; omega))
  have hv : Rd (n := 2048) (m := 128) (φ := .f32) (iblk0 V c 2 t) (tv P (t.val / 4)) := fun r d =>
    (blk0_2 V c t r d).trans (hp _ _ (by show 2048 ≤ 3072 + 128 * (t.val / 4) + d.val; omega) (by show 3072 + 128 * (t.val / 4) + d.val < 3584; have := d.isLt; have := lt16' t; omega))
  have e := @fwd_out c (grid0.coords t) (ms0_0 t) (hs0_0 t) (ms0_1 t) (hs0_1 t) (ms0_2 t) (hs0_2 t) (ms0_3 t) (hs0_3 t) (ms0_4 t) (hs0_4 t) scM0_0 (Memref.isWhole_whole _) _ _ _ _ _ _ hq hk hv
  rw [co0 t] at e
  unfold outsAt0
  dsimp only
  unfold oP
  exact e

/-- The array of outputs. -/
theorem arr03 (hp : ∀ (r : Fin 2048) (d : Fin 4352), 2048 ≤ d.val → d.val < 3584 → (V c main_arg0 (ix2 r d) : EReal) = ((P r.val d.val : ℝ) : EReal)) :
    Rd (n := 2048) (m := 512) (φ := .bf16) ((dat0 V c).arrAt 3 cfg0.N) (fun s d => oP P (d / 128) (s / 512) (s % 512) (d % 128)) := by
  intro s d
  refine (dat0 V c).arrAt_forall_of_covers 3 (fun y v => (v : EReal) = (((fun s d => oP P (d / 128) (s / 512) (s % 512) (d % 128)) (y 0).val (y 1).val : ℝ) : EReal)) (by decide +kernel) (fun t hf y => ?_) (ix2 s d)
  rw [after0_3]
  blk_simp [ix0_3 t]
  have hy0 : (y 0).val < 512 := (y 0).isLt
  have hy1 : (y 1).val < 128 := (y 1).isLt
  have e := fwd_point_out hp t (y 0) (y 1)
  have ey : (y : S512x128.Idx) = ix2 (n0 := 512) (n1 := 128) (y 0) (y 1) := ValueIdx.eq_ix2 y
  have d1 : (t.val / 4 * 128 + (y 1).val) / 128 = t.val / 4 := by omega
  have d2 : (t.val / 4 * 128 + (y 1).val) % 128 = (y 1).val := by omega
  have d3 : (t.val % 4 * 512 + (y 0).val) / 512 = t.val % 4 := by omega
  have d4 : (t.val % 4 * 512 + (y 0).val) % 512 = (y 0).val := by omega
  rw [d1, d2, d3, d4]
  rw [ey]
  exact e

end Cert.Sb

end
-- ==== Proof.Launch.lean ====
/- The kernel's run: both kernel calls, and what the four results hold at the end. -/
module

public import proofs.«01_k».proof.Proof.Acc0
public import proofs.«01_k».proof.Proof.Acc2

@[expose] public section

set_option maxRecDepth 16384

noncomputable section

namespace Cert.Sb

open Idealize.SL.RA Idealize.SL.BI Idealize.SL.BI.BIBase Idealize.SL.BI.Laws Idealize.SL.ProofMode
open scoped Idealize.SL.BI
open Idealize.ShloMosaic.Rounds
open Idealize.ShloMosaic hiding ix2 ix3
open Idealize.ShloMosaic.TcCoe Idealize.ShloMosaic.Tactic
open Idealize.ShloMosaic.ValueIdx (ix2 ix3)
open Cert.KernelIdeal Cert.KernelIdeal.Gen Idealize.SL Idealize.SL.Sem
open scoped BigOperators

section
variable {F : FTy → Type} [FloatOps F] (m : (ℓ : Loc nD τ sig) → Buf (Elt F) ℓ) (ρ : Dev nD → PrngReg)

set_option backward.isDefEq.respectTransparency.types false in
/-- Every run of both kernel calls ends with each buffer that lasts as the second call leaves it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ => h)

/-- The run with the results and the arguments by name. -/
theorem run_named : θ_run defs (onTc (τ := τ) (main (F := F))) ⟨m, fun _ => 0, ρ⟩ (fun r => ∀ c : Dev nD,
      r.2.mem ((c.tc : Thread nD τ).loc main_v0_0) = (dat0 (V0 m ρ) c).arrAt 3 cfg0.N
      ∧ r.2.mem ((c.tc : Thread nD τ).loc main_v1_0) = (dat1 (V1 m ρ) c).arrAt 5 cfg1.N
      ∧ r.2.mem ((c.tc : Thread nD τ).loc main_v1_1) = (dat1 (V1 m ρ) c).arrAt 6 cfg1.N
      ∧ r.2.mem ((c.tc : Thread nD τ).loc main_v1_2) = (dat1 (V1 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v0_0 (by decide))).trans ((W2_of_ne m ρ c main_v0_0 (by decide)).trans (W1_arr m ρ c 3)), (h c _ (mem_uc main_v1_0 (by decide))).trans (W2_arr m ρ c 5), (h c _ (mem_uc main_v1_1 (by decide))).trans (W2_arr m ρ c 6),
      (h c _ (mem_uc main_v1_2 (by decide))).trans (W2_arr m ρ c 7), (h c _ (mem_uc main_arg0 (by decide))).trans (W2_main_arg0 m ρ c),
      (h c _ (mem_uc main_arg1 (by decide))).trans (W2_main_arg1 m ρ c)⟩) (run_all m ρ)
end

section
variable {m : (ℓ : Loc nD τ sig) → Buf (Elt Ideal) ℓ} {ρ : Dev nD → PrngReg} {c : Dev nD} {P D : ℕ → ℕ → ℝ}

/-- What the backward kernel reads, from the arguments. -/
theorem arr_of_args
    (hp : ∀ (r : Fin 2048) (d : Fin 4352), 2048 ≤ d.val → d.val < 3584 → (m ((c : Thread nD τ).loc main_arg0) (ix2 r d) : EReal) = ((P r.val d.val : ℝ) : EReal))
    (hd : Rd (n := 2048) (m := 512) (φ := .f32) (m ((c : Thread nD τ).loc main_arg1)) D) : Arr (V1 m ρ) c P D :=
  Arr.of_fwd (V := V0 m ρ) hp hd (W1_args m ρ c main_arg0 (by decide)) (W1_args m ρ c main_arg1 (by decide)) (W1_arr m ρ c 4)

/-- What the forward kernel leaves of the output, from the arguments. -/
theorem arr_out
    (hp : ∀ (r : Fin 2048) (d : Fin 4352), 2048 ≤ d.val → d.val < 3584 → (m ((c : Thread nD τ).loc main_arg0) (ix2 r d) : EReal) = ((P r.val d.val : ℝ) : EReal)) :
    Rd (n := 2048) (m := 512) (φ := .bf16) ((dat0 (V0 m ρ) c).arrAt 3 cfg0.N) (fun s d => oP P (d / 128) (s / 512) (s % 512) (d % 128)) :=
  arr03 (V := V0 m ρ) hp
end

end Cert.Sb

end
-- ==== Proof.Cum.lean ====
/- The host's running sums along the last of three axes, forwards and backwards. -/
module

public import Idealize.ShloMosaic.Lib.ValueIdx
public import Idealize.ShloMosaic.PureOps.Ideal.Laws
public import Idealize.ShloMosaic.Lib.IdealHost

@[expose] public section

noncomputable section

namespace Cert.Sb

open Idealize.ShloMosaic Idealize.ShloMosaic.ValueIdx
open scoped BigOperators

/-- A left fold of sums of reals. -/
theorem foldl_real {ι : Type} (g : EReal → ι → EReal) (f : ι → ℝ) (hg : ∀ (z : EReal) (i : ι), g z i = z + ((f i : ℝ) : EReal)) (l : List ι) (z : ℝ) :
    l.foldl g (z : EReal) = ((z + (l.map f).sum : ℝ) : EReal) := by
  induction l generalizing z with
  | nil => simp
  | cons a l ih =>
    rw [List.foldl_cons, hg, ← EReal.coe_add, ih, List.map_cons, List.sum_cons, add_assoc]

/-- A window along the last axis. -/
abbrev winS (N : ℕ) : Shape := ⟨3, ![1, 1, N]⟩

theorem numel_win (N : ℕ) : (winS N).numel = N := by
  show (∏ a : Fin 3, (![1, 1, N] : Fin 3 → ℕ) a) = N
  rw [Fin.prod_univ_three]
  simp

theorem symm_win {N : ℕ} (n : Fin (winS N).numel) : (winS N).rowMajor.symm n = ix3 (0 : Fin 1) (0 : Fin 1) (n.cast (numel_win N)) :=
  ((winS N).rowMajor.symm_apply_eq).2 (Fin.ext (by
    rw [Shape.rowMajor_val_three]
    show n.val = ((0 * 1 + 0) * N + n.val)
    omega))

/-- A window sum along the last axis, its operand real. -/
theorem window_sum {A B N lo hi : ℕ} (x : (⟨3, ![A, B, N]⟩ : Shape).Idx → EReal) (f : ℕ → ℕ → ℕ → ℝ)
    (hx : ∀ (a : Fin A) (b : Fin B) (c : Fin N), x (ix3 a b c) = ((f a.val b.val c.val : ℝ) : EReal))
    (h : (⟨3, ![A, B, N]⟩ : Shape).ReduceWindows ![1, 1, N] ![1, 1, 1] ![0, 0, lo] ![0, 0, hi] ⟨3, ![A, B, N]⟩)
    (a : Fin A) (b : Fin B) (c : Fin N) :
    Ideal.hostReduceWindowAdd ![1, 1, N] ![1, 1, 1] ![0, 0, lo] ![0, 0, hi] h x 0 (ix3 a b c)
      = ((∑ n ∈ Finset.range N, if lo ≤ c.val + n ∧ c.val + n - lo < N then f a.val b.val (c.val + n - lo) else 0 : ℝ) : EReal) := by
  unfold Ideal.hostReduceWindowAdd Host.reduceWindow
  have ha := a.isLt
  have hb := b.isLt
  refine (foldl_real _ (fun n : Fin (winS N).numel => if lo ≤ c.val + n.val ∧ c.val + n.val - lo < N then f a.val b.val (c.val + n.val - lo) else 0)
    (fun z n => ?_) _ 0).trans ?_
  · have hw0 : ((winS N).rowMajor.symm n 0).val = 0 := by rw [symm_win]; rfl
    have hw1 : ((winS N).rowMajor.symm n 1).val = 0 := by rw [symm_win]; rfl
    have hw2 : ((winS N).rowMajor.symm n 2).val = n.val := by rw [symm_win]; rfl
    dsimp only
    refine congrArg (z + ·) ?_
    split
    · next hin =>
      have h2 := hin 2
      change lo ≤ c.val * 1 + ((winS N).rowMajor.symm n 2).val ∧ c.val * 1 + ((winS N).rowMajor.symm n 2).val - lo < N at h2
      rw [hw2, Nat.mul_one] at h2
      rw [if_pos h2]
      refine (congrArg x (funext fun d => Fin.ext ?_)).trans (hx a b ⟨c.val + n.val - lo, h2.2⟩)
      match d with
      | ⟨0, _⟩ =>
        show a.val * 1 + ((winS N).rowMajor.symm n 0).val - 0 = a.val
        rw [hw0]; omega
      | ⟨1, _⟩ =>
        show b.val * 1 + ((winS N).rowMajor.symm n 1).val - 0 = b.val
        rw [hw1]; omega
      | ⟨2, _⟩ =>
        show c.val * 1 + ((winS N).rowMajor.symm n 2).val - lo = c.val + n.val - lo
        rw [hw2, Nat.mul_one]
    · next hin =>
      rw [if_neg fun hle => hin fun d => by
        match d with
        | ⟨0, _⟩ =>
          show 0 ≤ a.val * 1 + ((winS N).rowMajor.symm n 0).val ∧ a.val * 1 + ((winS N).rowMajor.symm n 0).val - 0 < A
          rw [hw0]; omega
        | ⟨1, _⟩ =>
          show 0 ≤ b.val * 1 + ((winS N).rowMajor.symm n 1).val ∧ b.val * 1 + ((winS N).rowMajor.symm n 1).val - 0 < B
          rw [hw1]; omega
        | ⟨2, _⟩ =>
          show lo ≤ c.val * 1 + ((winS N).rowMajor.symm n 2).val ∧ c.val * 1 + ((winS N).rowMajor.symm n 2).val - lo < N
          rw [hw2, Nat.mul_one]; exact hle]
      rfl
  · rw [zero_add]
    refine congrArg _ ?_
    rw [← List.ofFn_eq_map, List.sum_ofFn, Fin.sum_univ_eq_sum_range (fun n => if lo ≤ c.val + n ∧ c.val + n - lo < N then f a.val b.val (c.val + n - lo) else 0)]
    exact congrArg (fun M => ∑ n ∈ Finset.range M, if lo ≤ c.val + n ∧ c.val + n - lo < N then f a.val b.val (c.val + n - lo) else 0) (numel_win N)

/-- The running sum from the end: what lies at a position and after. -/
theorem sum_after (N c : ℕ) (g : ℕ → ℝ) :
    (∑ n ∈ Finset.range N, if 0 ≤ c + n ∧ c + n - 0 < N then g (c + n - 0) else 0) = ∑ u ∈ Finset.Ico c N, g u := by
  rw [Finset.sum_Ico_eq_sum_range, ← Finset.sum_filter]
  refine Finset.sum_congr ?_ fun n _ => by rw [Nat.sub_zero]
  ext n
  simp only [Finset.mem_filter, Finset.mem_range]
  omega

/-- The running sum from the start: what lies at a position and before. -/
theorem sum_before (N c : ℕ) (hc : c < N) (g : ℕ → ℝ) :
    (∑ n ∈ Finset.range N, if N - 1 ≤ c + n ∧ c + n - (N - 1) < N then g (c + n - (N - 1)) else 0) = ∑ u ∈ Finset.range (c + 1), g u := by
  rw [← Finset.sum_filter]
  refine Finset.sum_bij' (fun n _ => c + n - (N - 1)) (fun u _ => u + (N - 1) - c) ?_ ?_ ?_ ?_ ?_
  · intro n hn
    simp only [Finset.mem_filter, Finset.mem_range] at hn ⊢
    omega
  · intro u hu
    simp only [Finset.mem_filter, Finset.mem_range] at hu ⊢
    omega
  · intro n hn
    simp only [Finset.mem_filter, Finset.mem_range] at hn
    omega
  · intro u hu
    simp only [Finset.mem_range] at hu
    omega
  · intro n _
    rfl

end Cert.Sb

end
-- ==== Proof.Ref.lean ====
/- The reference's arrays as tables of reals, one head at a time: scores, log-weights, weights, their gradients, and the
   three results. -/
module

public import proofs.«01_k».proof.Proof.Cum
public import proofs.«01_k».proof.Proof.Rows
public import proofs.«01_k».proof.Proof.Masks
public import proofs.«01_k».proof.Proof.Gen.ReferenceIdeal.Read

@[expose] public section

noncomputable section

namespace Cert.Sb

open Cert.ReferenceIdeal Cert.ReferenceIdeal.Gen Cert.ReferenceIdeal.Read Idealize.ShloMosaic
open Idealize.ShloMosaic.ValueIdx (ix3 eq_ix3 select_apply select_one select_zero eq_zero_of_ne_one)
open scoped BigOperators

/-! ## Arrays of three axes that hold reals -/

/-- An array of three axes holds the reals of a table. -/
def Rv {A B C : ℕ} (x : (⟨3, ![A, B, C]⟩ : Shape).Idx → EReal) (f : ℕ → ℕ → ℕ → ℝ) : Prop :=
  ∀ i, x i = ((f (i 0).val (i 1).val (i 2).val : ℝ) : EReal)

/-- An array of bits holds a predicate of the two last axes. -/
def Rm {A B C : ℕ} (x : (⟨3, ![A, B, C]⟩ : Shape).Idx → BitVec 1) (p : ℕ → ℕ → Prop) : Prop :=
  ∀ i, x i = 1#1 ↔ p (i 1).val (i 2).val

variable {A B C : ℕ} {f g : ℕ → ℕ → ℕ → ℝ} {x y : FVec Ideal ⟨3, ![A, B, C]⟩ .f32}

/-- A table may be written in another way. -/
theorem Rv.congr (h : Rv x f) (e : ∀ a b c, a < A → b < B → c < C → f a b c = g a b c) : Rv x g := fun i =>
  (h i).trans (congrArg _ (e _ _ _ (i 0).isLt (i 1).isLt (i 2).isLt))

theorem Rv.neg (hx : Rv x f) : Rv (Host.negf x) (fun a b c => -f a b c) := fun i => by
  show -(x i : EReal) = _
  rw [hx i, EReal.coe_neg]

theorem Rv.add (hx : Rv x f) (hy : Rv y g) : Rv (addf x y) (fun a b c => f a b c + g a b c) := fun i => by
  show (x i : EReal) + (y i : EReal) = _
  rw [hx i, hy i, EReal.coe_add]

theorem Rv.sub (hx : Rv x f) (hy : Rv y g) : Rv (subf x y) (fun a b c => f a b c - g a b c) := fun i => by
  show (x i : EReal) - (y i : EReal) = _
  rw [hx i, hy i, EReal.coe_sub]

theorem Rv.mul (hx : Rv x f) (hy : Rv y g) : Rv (mulf x y) (fun a b c => f a b c * g a b c) := fun i => by
  show (x i : EReal) * (y i : EReal) = _
  rw [hx i, hy i, EReal.coe_mul]

theorem Rv.max (hx : Rv x f) (hy : Rv y g) : Rv (maximumf x y) (fun a b c => Max.max (f a b c) (g a b c)) := fun i => by
  show Max.max (x i : EReal) (y i : EReal) = _
  rw [hx i, hy i, coe_max']

theorem Rv.abs (hx : Rv x f) : Rv (Host.absf x) (fun a b c => |f a b c|) := fun i => by
  show Max.max (x i : EReal) (-(x i : EReal)) = _
  rw [hx i, ← EReal.coe_neg, ← coe_max']
  rfl

theorem Rv.exp (hx : Rv x f) : Rv (Host.exp x) (fun a b c => Real.exp (f a b c)) := fun i => by
  show Ideal.exp (x i : EReal) = _
  rw [hx i, Ideal.exp_coe]

theorem Rv.log1p (hx : Rv x f) (hp : ∀ a b c, 0 < 1 + f a b c) : Rv (Host.log1p x) (fun a b c => Real.log (1 + f a b c)) := fun i => by
  show Ideal.log (1 + (x i : EReal)) = _
  rw [hx i, ← EReal.coe_one, ← EReal.coe_add, Ideal.log_coe, if_neg (not_le.2 (hp _ _ _))]

theorem Rv.select {b : (⟨3, ![A, B, C]⟩ : Shape).Idx → BitVec 1} {p : ℕ → ℕ → Prop} [∀ r c, Decidable (p r c)]
    (hb : Rm b p) (hx : Rv x f) (hy : Rv y g) : Rv (select b x y) (fun a r c => if p r c then f a r c else g a r c) := fun i => by
  rw [select_apply]
  beta_reduce
  by_cases h : p (i 1).val (i 2).val
  · rw [(hb i).2 h, select_one, hx i, if_pos h]
  · rw [eq_zero_of_ne_one (fun e => h ((hb i).1 e)), select_zero, hy i, if_neg h]

/-- A choice whose bit is never set. -/
theorem Rv.select_never {b : (⟨3, ![A, B, C]⟩ : Shape).Idx → BitVec 1} (hb : ∀ i, b i = 0#1) (hy : Rv y g) : Rv (Idealize.ShloMosaic.select b x y) g := fun i => by
  rw [select_apply, hb i, select_zero, hy i]

/-- Nothing differs from itself. -/
theorem une_self (x : FVec Ideal ⟨3, ![A, B, C]⟩ .f32) (i) : cmpf .une x x i = 0#1 := by
  show BitVec.ofBool (decide ((x i : EReal) ≠ x i)) = 0#1
  simp

/-- No real is infinite. -/
theorem oeq_top {y : FVec Ideal ⟨3, ![A, B, C]⟩ .f32} (hx : Rv x f) (hy : ∀ i, (y i : EReal) = ⊤) (i) : cmpf .oeq x y i = 0#1 := by
  show BitVec.ofBool (decide ((x i : EReal) = y i)) = 0#1
  rw [hx i, hy i, decide_eq_false (EReal.coe_ne_top _)]
  rfl

/-- The constant zero everywhere. -/
theorem rv_zero (h) : Rv (broadcastInDim S8x2048x2048 ![] h (constant (F := Ideal) S_ .f32 0x00000000#32)) (fun _ _ _ => 0) := fun i => by
  show Ideal.ofBits .f32 0x00000000#32 = _
  rw [Ideal.ofBits_zero_f32]; rfl

/-- One eighth everywhere. -/
theorem rv_eighth (h) : Rv (broadcastInDim S8x2048x2048 ![] h (constant (F := Ideal) S_ .f32 0x3E000000#32)) (fun _ _ _ => 1 / 8) := fun i => by
  show Ideal.ofBits .f32 0x3E000000#32 = _
  rw [ofBits_eighth]

/-- Infinity everywhere. -/
theorem rv_top (h) (i) : (broadcastInDim S8x2048x2048 ![] h (constant (F := Ideal) S_ .f32 0x7F800000#32) i : EReal) = ⊤ := by
  show Ideal.ofBits .f32 0x7F800000#32 = ⊤
  simp [Ideal.ofBits, Ideal.ieee]

/-- The host's softplus. -/
theorem rv_softplus {z b0 b2 b5 : FVec Ideal ⟨3, ![A, B, C]⟩ .f32} (hz : Rv z f) (h0 : Rv b0 (fun _ _ _ => 0)) (h2 : Rv b2 (fun _ _ _ => 0)) :
    Rv (Idealize.ShloMosaic.select (cmpf .une (subf z b2) (subf z b2)) (addf z b5)
      (addf (maximumf z b0) (Host.log1p (Host.exp (Host.negf (Host.absf (subf z b2)))))))
      (fun a b c => Max.max (f a b c) 0 + spF (f a b c)) :=
  Rv.select_never (une_self _) (((hz.max h0).add ((((hz.sub h2).abs.neg.exp).log1p (fun _ _ _ => by positivity)))).congr fun a b c _ _ _ => by
    unfold spF
    rw [sub_zero, zero_sub])

/-- The derivative of the host's softplus. -/
theorem rv_dsoftplus {z s b13 b15 b17 b19 : FVec Ideal ⟨3, ![A, B, C]⟩ .f32} (hz : Rv z f) (hs : Rv s g)
    (h13 : ∀ i, (b13 i : EReal) = ⊤) (h17 : ∀ i, (b17 i : EReal) = ⊤) :
    Rv (Host.exp (subf (Idealize.ShloMosaic.select (cmpf .oeq z b13) b15 z) (Idealize.ShloMosaic.select (cmpf .oeq s b17) b19 s)))
      (fun a b c => Real.exp (f a b c - g a b c)) :=
  ((Rv.select_never (oeq_top hz h13) hz).sub (Rv.select_never (oeq_top hs h17) hs)).exp

/-! ## One identity of the scores -/

theorem max_neg_zero (z : ℝ) : Max.max (-z) 0 = -Min.min z 0 := by
  rcases le_total z 0 with h | h
  · rw [max_eq_left (by linarith), min_eq_left h]
  · rw [max_eq_right (by linarith), min_eq_right h, neg_zero]

theorem spF_neg (z : ℝ) : spF (-z) = spF z := by unfold spF; rw [abs_neg]

/-- The log-failure. -/
theorem sp_lf (z : ℝ) : -(Max.max z 0 + spF z) = lfF z := by unfold lfF; ring
/-- The log-success. -/
theorem sp_ls (z : ℝ) : -(Max.max (-z) 0 + spF (-z)) = lsF z := by
  unfold lsF; rw [spF_neg, max_neg_zero]; ring
/-- The logistic of the score. -/
theorem sp_s (z : ℝ) : z - (Max.max z 0 + spF z) = lsF z := by
  unfold lsF; have := min_add_max z 0; linarith
/-- The logistic of minus the score. -/
theorem sp_f (z : ℝ) : -z - (Max.max (-z) 0 + spF (-z)) = lfF z := by
  unfold lfF; rw [spF_neg, max_neg_zero]; have := min_add_max z 0; linarith

theorem exp_spF (z : ℝ) : Real.exp (spF z) = 1 + Real.exp (0 - |z|) := by
  unfold spF; rw [Real.exp_log (by positivity)]

/-- Failure is what success leaves. -/
theorem exp_lf (z : ℝ) : Real.exp (lfF z) = 1 - Real.exp (lsF z) := by
  have h : Real.exp (lfF z) + Real.exp (lsF z) = 1 := by
    unfold lfF lsF
    rw [Real.exp_sub (0 - max z 0), Real.exp_sub (min z 0), ← add_div, exp_spF, div_eq_one_iff_eq (by positivity)]
    rcases le_total z 0 with h | h
    · rw [max_eq_right h, min_eq_left h, abs_of_nonpos h]; simp
    · rw [max_eq_left h, min_eq_right h, abs_of_nonneg h]; simp [add_comm]
  linarith

/-! ## The reference's tables -/

section tables

variable (P D : ℕ → ℕ → ℝ)

/-- The scores. -/
def zr (h t s : ℕ) : ℝ := (∑ k ∈ Finset.range 64, P t (2048 + (64 * h + k)) * P s (2560 + (64 * h + k))) * (1 / 8)
/-- The weights, before the mask. -/
def ar (h t s : ℕ) : ℝ :=
  Real.exp (lsF (zr P h t s) + ((∑ u ∈ Finset.Ico s 2048, if u < t then lfF (zr P h t u) else 0) - if s < t then lfF (zr P h t s) else 0))
/-- The weights. -/
def wr (h t s : ℕ) : ℝ := if s < t then ar P h t s else 0
/-- The gradient of the weights. -/
def gr (h t s : ℕ) : ℝ := ∑ k ∈ Finset.range 64, D t (64 * h + k) * P s (3072 + (64 * h + k))
/-- The gradient of the log-weights. -/
def dlr (h t s : ℕ) : ℝ := (if s < t then gr P D h t s else 0) * ar P h t s
/-- The gradient of the log-failures. -/
def der (h t s : ℕ) : ℝ := if s < t then -dlr P D h t s + ∑ u ∈ Finset.range (s + 1), dlr P D h t u else 0
/-- The gradient of the scores. -/
def dzr (h t s : ℕ) : ℝ :=
  -(-dlr P D h t s * Real.exp (lfF (zr P h t s))) + - -(-der P D h t s * Real.exp (lsF (zr P h t s)))

end tables

section arrays

variable {P D : ℕ → ℕ → ℝ} {x0 : (⟨S2048x4352, .f32⟩ : BufTy).Contents (Elt Ideal)} {x1 : (⟨S2048x512, .f32⟩ : BufTy).Contents (Elt Ideal)}

/-- The columns of the queries, the keys and the values hold reals. -/
def Cols (x0 : (⟨S2048x4352, .f32⟩ : BufTy).Contents (Elt Ideal)) (P : ℕ → ℕ → ℝ) : Prop :=
  ∀ i : S2048x4352.Idx, 2048 ≤ (i 1).val → (i 1).val < 3584 → (x0 i : EReal) = ((P (i 0).val (i 1).val : ℝ) : EReal)

/-- The gradient of the output holds reals. -/
def Out (x1 : (⟨S2048x512, .f32⟩ : BufTy).Contents (Elt Ideal)) (D : ℕ → ℕ → ℝ) : Prop :=
  ∀ i : S2048x512.Idx, (x1 i : EReal) = ((D (i 0).val (i 1).val : ℝ) : EReal)

/-- Where an entry of a head lies in the flat row. -/
theorem flat_div (a b c : ℕ) (hb : b < 8) (hc : c < 64) : ((a * 8 + b) * 64 + c) / 512 = a := by omega
theorem flat_mod (a b c : ℕ) (hb : b < 8) (hc : c < 64) : ((a * 8 + b) * 64 + c) % 512 = 64 * b + c := by omega

theorem r3 (hp : Cols x0 P) : Rv (val_main_v3 (F := Ideal) x0) (fun t h k => P t (2048 + (64 * h + k))) := fun i => by
  have h1 : (i 1).val < 8 := (i 1).isLt
  have h2 : (i 2).val < 64 := (i 2).isLt
  have e := flat_mod (i 0).val (i 1).val (i 2).val h1 h2
  rw [val_main_v3_apply, val_main_v0_apply]
  refine (hp _ (Nat.le_add_right _ _) ?_).trans ?_
  · show 2048 + (((i 0).val * 8 + (i 1).val) * 64 + (i 2).val) % 512 < 3584
    omega
  · show ((P ((((i 0).val * 8 + (i 1).val) * 64 + (i 2).val) / 512) (2048 + (((i 0).val * 8 + (i 1).val) * 64 + (i 2).val) % 512) : ℝ) : EReal) = _
    rw [flat_div _ _ _ h1 h2, e]

theorem r4 (hp : Cols x0 P) : Rv (val_main_v4 (F := Ideal) x0) (fun t h k => P t (2560 + (64 * h + k))) := fun i => by
  have h1 : (i 1).val < 8 := (i 1).isLt
  have h2 : (i 2).val < 64 := (i 2).isLt
  have e := flat_mod (i 0).val (i 1).val (i 2).val h1 h2
  rw [val_main_v4_apply, val_main_v1_apply]
  refine (hp _ ?_ ?_).trans ?_
  · show 2048 ≤ 2560 + (((i 0).val * 8 + (i 1).val) * 64 + (i 2).val) % 512
    omega
  · show 2560 + (((i 0).val * 8 + (i 1).val) * 64 + (i 2).val) % 512 < 3584
    omega
  · show ((P ((((i 0).val * 8 + (i 1).val) * 64 + (i 2).val) / 512) (2560 + (((i 0).val * 8 + (i 1).val) * 64 + (i 2).val) % 512) : ℝ) : EReal) = _
    rw [flat_div _ _ _ h1 h2, e]

theorem r5 (hp : Cols x0 P) : Rv (val_main_v5 (F := Ideal) x0) (fun t h k => P t (3072 + (64 * h + k))) := fun i => by
  have h1 : (i 1).val < 8 := (i 1).isLt
  have h2 : (i 2).val < 64 := (i 2).isLt
  have e := flat_mod (i 0).val (i 1).val (i 2).val h1 h2
  rw [val_main_v5_apply, val_main_v2_apply]
  refine (hp _ ?_ ?_).trans ?_
  · show 2048 ≤ 3072 + (((i 0).val * 8 + (i 1).val) * 64 + (i 2).val) % 512
    omega
  · show 3072 + (((i 0).val * 8 + (i 1).val) * 64 + (i 2).val) % 512 < 3584
    omega
  · show ((P ((((i 0).val * 8 + (i 1).val) * 64 + (i 2).val) / 512) (3072 + (((i 0).val * 8 + (i 1).val) * 64 + (i 2).val) % 512) : ℝ) : EReal) = _
    rw [flat_div _ _ _ h1 h2, e]

theorem r29 (hd : Out x1 D) : Rv (val_main_v29 (F := Ideal) x1) (fun h k t => D t (64 * h + k)) := fun i => by
  have h1 : (i 0).val < 8 := (i 0).isLt
  have h2 : (i 1).val < 64 := (i 1).isLt
  have e := flat_mod (i 2).val (i 0).val (i 1).val h1 h2
  rw [val_main_v29_apply, val_main_v28_apply]
  refine (hd _).trans ?_
  show ((D ((((i 2).val * 8 + (i 0).val) * 64 + (i 1).val) / 512) ((((i 2).val * 8 + (i 0).val) * 64 + (i 1).val) % 512) : ℝ) : EReal) = _
  rw [flat_div _ _ _ h1 h2, e]

/-- A sum of products of real entries. -/
theorem sum_prod {n : ℕ} {u v : Fin n → EReal} (f g : ℕ → ℝ) (hu : ∀ k, u k = ((f k.val : ℝ) : EReal)) (hv : ∀ k, v k = ((g k.val : ℝ) : EReal)) :
    ∑ k : Fin n, u k * v k = ((∑ k ∈ Finset.range n, f k * g k : ℝ) : EReal) := by
  rw [← sum_fin_coe (fun k => f k * g k)]
  exact Finset.sum_congr rfl fun k _ => by rw [hu, hv, EReal.coe_mul]

theorem r8 (hp : Cols x0 P) : Rv (val_main_v8 (F := Ideal) x0) (zr P) :=
  Rv.mul (fun i => (val_main_v6_apply x0 i).trans (sum_prod (fun k => P (i 1).val (2048 + (64 * (i 0).val + k))) (fun k => P (i 2).val (2560 + (64 * (i 0).val + k)))
    (fun k => r3 hp (lidx_main_v6 i k)) (fun k => r4 hp (ridx_main_v6 i k)))) (rv_eighth _)

theorem rm15 (i : S2048x2048.Idx) : val_main_v15 (F := Ideal) i = 1#1 ↔ (i 1).val < (i 0).val := by
  have h0 : (i 0).val < 2048 := (i 0).isLt
  have h1 : (i 1).val < 2048 := (i 1).isLt
  rw [val_main_v15_apply, val_main_v13_apply, val_main_v14_apply, val_main_v10_apply, val_main_v12_apply, val_main_v9_apply, val_main_v11_apply]
  show BitVec.ofBool ((BitVec.ofNat 32 (i 1).val).slt (BitVec.ofNat 32 (i 0).val)) = 1#1 ↔ _
  rw [ofBool_one, slt_small _ _ h1 h0, decide_eq_true_iff]

theorem rm18 : Rm (val_main_v18_1 (F := Ideal)) (fun t s => s < t) := fun i => by
  rw [val_main_v18_1_apply]; exact rm15 _

theorem rm24 : Rm (val_main_v24_1 (F := Ideal)) (fun t s => s < t) := fun i => by
  rw [val_main_v24_1_apply]; exact rm15 _

theorem rc0 (hp : Cols x0 P) : Rv (val_main_call0_v0 (F := Ideal) x0) (zr P) :=
  (Rv.neg (Rv.neg (r8 hp))).congr fun _ _ _ _ _ _ => neg_neg _

theorem rsp0 (hp : Cols x0 P) : Rv (val_main_call0_v1_0 (F := Ideal) x0) (fun h t s => Max.max (zr P h t s) 0 + spF (zr P h t s)) :=
  rv_softplus (rc0 hp) (rv_zero _) (rv_zero _)

/-- The log-failures. -/
theorem r17 (hp : Cols x0 P) : Rv (val_main_v17_0 (F := Ideal) x0) (fun h t s => lfF (zr P h t s)) :=
  (Rv.neg (rsp0 hp)).congr fun _ _ _ _ _ _ => sp_lf _

/-- The success probabilities. -/
theorem r17_1 (hp : Cols x0 P) : Rv (val_main_v17_1 (F := Ideal) x0) (fun h t s => Real.exp (lsF (zr P h t s))) :=
  (rv_dsoftplus (rc0 hp) (rsp0 hp) (rv_top _) (rv_top _)).congr fun _ _ _ _ _ _ => congrArg Real.exp (sp_s _)

theorem rsp3 (hp : Cols x0 P) : Rv (val_main_call3_v1_0 (F := Ideal) x0) (fun h t s => Max.max (-zr P h t s) 0 + spF (-zr P h t s)) :=
  rv_softplus (Rv.neg (r8 hp)) (rv_zero _) (rv_zero _)

/-- The log-successes. -/
theorem r21 (hp : Cols x0 P) : Rv (val_main_v21_0 (F := Ideal) x0) (fun h t s => lsF (zr P h t s)) :=
  (Rv.neg (rsp3 hp)).congr fun _ _ _ _ _ _ => sp_ls _

/-- The failure probabilities. -/
theorem r21_1 (hp : Cols x0 P) : Rv (val_main_v21_1 (F := Ideal) x0) (fun h t s => Real.exp (lfF (zr P h t s))) :=
  (rv_dsoftplus (Rv.neg (r8 hp)) (rsp3 hp) (rv_top _) (rv_top _)).congr fun _ _ _ _ _ _ => congrArg Real.exp (sp_f _)

theorem r18 (hp : Cols x0 P) : Rv (val_main_v18_0 (F := Ideal) x0) (fun h t s => if s < t then lfF (zr P h t s) else 0) :=
  Rv.select rm18 (r17 hp) (rv_zero _)

/-- The running sums start from zero. -/
theorem init_zero : (broadcastInDim S_ ![] bcast_S_S_ (constant (F := Ideal) S_ .f32 0x00000000#32) (Shape.Idx.first h_S_) : EReal) = 0 := by
  show Ideal.ofBits .f32 0x00000000#32 = _
  rw [Ideal.ofBits_zero_f32]

theorem Rv.at {A B C : ℕ} {x : (⟨3, ![A, B, C]⟩ : Shape).Idx → EReal} {f : ℕ → ℕ → ℕ → ℝ} (h : Rv x f) (a : Fin A) (b : Fin B) (c : Fin C) :
    x (ix3 a b c) = ((f a.val b.val c.val : ℝ) : EReal) := h (ix3 a b c)

/-- A running sum over what lies at a position and after. -/
theorem rv_after {x : FVec Ideal S8x2048x2048 .f32} {f : ℕ → ℕ → ℕ → ℝ} (hx : Rv x f) (o : FVec Ideal S_ .f32) (ho : (o (Shape.Idx.first h_S_) : EReal) = 0)
    (h : S8x2048x2048.ReduceWindows ![1, 1, 2048] ![1, 1, 1] ![0, 0, 0] ![0, 0, 2047] S8x2048x2048) :
    Rv (A := 8) (B := 2048) (C := 2048) (Host.reduceWindowAdd (t := S8x2048x2048) ![1, 1, 2048] ![1, 1, 1] ![0, 0, 0] ![0, 0, 2047] x o h h_S_)
      (fun a b c => ∑ u ∈ Finset.Ico c 2048, f a b u) := fun i => by
  have key : ∀ (a : Fin 8) (b c : Fin 2048), (Host.reduceWindowAdd (t := S8x2048x2048) ![1, 1, 2048] ![1, 1, 1] ![0, 0, 0] ![0, 0, 2047] x o h h_S_ (ix3 a b c) : EReal)
      = ((∑ u ∈ Finset.Ico c.val 2048, f a.val b.val u : ℝ) : EReal) := fun a b c => by
    rw [← sum_after 2048 c.val]
    refine Eq.trans ?_ (window_sum x f hx.at h a b c)
    unfold Host.reduceWindowAdd
    rw [ho]
    rfl
  exact (congrArg _ (eq_ix3 i)).trans (key (i 0) (i 1) (i 2))

/-- A running sum over what lies at a position and before. -/
theorem rv_before {x : FVec Ideal S8x2048x2048 .f32} {f : ℕ → ℕ → ℕ → ℝ} (hx : Rv x f) (o : FVec Ideal S_ .f32) (ho : (o (Shape.Idx.first h_S_) : EReal) = 0)
    (h : S8x2048x2048.ReduceWindows ![1, 1, 2048] ![1, 1, 1] ![0, 0, 2047] ![0, 0, 0] S8x2048x2048) :
    Rv (A := 8) (B := 2048) (C := 2048) (Host.reduceWindowAdd (t := S8x2048x2048) ![1, 1, 2048] ![1, 1, 1] ![0, 0, 2047] ![0, 0, 0] x o h h_S_)
      (fun a b c => ∑ u ∈ Finset.range (c + 1), f a b u) := fun i => by
  have key : ∀ (a : Fin 8) (b c : Fin 2048), (Host.reduceWindowAdd (t := S8x2048x2048) ![1, 1, 2048] ![1, 1, 1] ![0, 0, 2047] ![0, 0, 0] x o h h_S_ (ix3 a b c) : EReal)
      = ((∑ u ∈ Finset.range (c.val + 1), f a.val b.val u : ℝ) : EReal) := fun a b c => by
    rw [← sum_before 2048 c.val c.isLt]
    refine Eq.trans ?_ (window_sum x f hx.at h a b c)
    unfold Host.reduceWindowAdd
    rw [ho]
    rfl
  exact (congrArg _ (eq_ix3 i)).trans (key (i 0) (i 1) (i 2))

theorem r20 (hp : Cols x0 P) : Rv (val_main_v20 (F := Ideal) x0)
    (fun h t s => (∑ u ∈ Finset.Ico s 2048, if u < t then lfF (zr P h t u) else 0) - if s < t then lfF (zr P h t s) else 0) :=
  Rv.sub (rv_after (r18 hp) _ init_zero _) (r18 hp)

theorem r23 (hp : Cols x0 P) : Rv (val_main_v23 (F := Ideal) x0) (ar P) :=
  Rv.exp (Rv.add (r21 hp) (r20 hp))

/-- The weights. -/
theorem r24 (hp : Cols x0 P) : Rv (val_main_v24_0 (F := Ideal) x0) (wr P) :=
  Rv.select rm24 (r23 hp) (rv_zero _)

theorem r30 (hp : Cols x0 P) (hd : Out x1 D) : Rv (val_main_v30 (F := Ideal) x0 x1) (gr P D) := fun i =>
  (val_main_v30_apply x0 x1 i).trans (sum_prod (fun k => D (i 1).val (64 * (i 0).val + k)) (fun k => P (i 2).val (3072 + (64 * (i 0).val + k)))
    (fun k => r29 hd (lidx_main_v30 i k)) (fun k => r5 hp (ridx_main_v30 i k)))

theorem r34 (hp : Cols x0 P) (hd : Out x1 D) : Rv (val_main_v34 (F := Ideal) x0 x1) (dlr P D) :=
  Rv.mul (Rv.select rm24 (r30 hp hd) (rv_zero _)) (r23 hp)

theorem r39 (hp : Cols x0 P) (hd : Out x1 D) : Rv (val_main_v39 (F := Ideal) x0 x1) (der P D) :=
  Rv.select rm18 (Rv.add (Rv.neg (r34 hp hd)) (rv_before (r34 hp hd) _ init_zero _)) (rv_zero _)

theorem r42 (hp : Cols x0 P) (hd : Out x1 D) : Rv (val_main_v42 (F := Ideal) x0 x1) (dzr P D) :=
  Rv.add (Rv.neg (Rv.mul (Rv.neg (r34 hp hd)) (r21_1 hp))) (Rv.neg (Rv.neg (Rv.mul (Rv.neg (r39 hp hd)) (r17_1 hp))))

theorem r44 (hp : Cols x0 P) (hd : Out x1 D) : Rv (val_main_v44 (F := Ideal) x0 x1) (fun h t s => dzr P D h t s * (1 / 8)) :=
  Rv.mul (r42 hp hd) (rv_eighth _)

/-! ## The results -/

/-- The gradient of the queries. -/
theorem r51 (hp : Cols x0 P) (hd : Out x1 D) : Rd (n := 2048) (m := 512) (φ := .f32) (val_main_v51 (F := Ideal) x0 x1)
    (fun t c => ∑ s ∈ Finset.range 2048, dzr P D (c / 64) t s * (1 / 8) * P s (2560 + (64 * (c / 64) + c % 64))) := fun t c => by
  have ht : t.val < 2048 := t.isLt
  have hc : c.val < 512 := c.isLt
  rw [val_main_v51_apply, val_main_v48_apply, val_main_v47_apply]
  have e0 : (t.val * 512 + c.val) / 512 = t.val := by omega
  have e1 : (t.val * 512 + c.val) / 64 % 8 = c.val / 64 := by omega
  have e2 : (t.val * 512 + c.val) % 64 = c.val % 64 := by omega
  refine (sum_prod (fun s => dzr P D ((t.val * 512 + c.val) / 64 % 8) ((t.val * 512 + c.val) / 512) s * (1 / 8))
    (fun s => P s (2560 + (64 * ((t.val * 512 + c.val) / 64 % 8) + (t.val * 512 + c.val) % 64))) (fun k => r44 hp hd _) (fun k => r4 hp _)).trans ?_
  rw [e0, e1, e2]

/-- The gradient of the keys. -/
theorem r50 (hp : Cols x0 P) (hd : Out x1 D) : Rd (n := 2048) (m := 512) (φ := .f32) (val_main_v50 (F := Ideal) x0 x1)
    (fun s c => ∑ t ∈ Finset.range 2048, dzr P D (c / 64) t s * (1 / 8) * P t (2048 + (64 * (c / 64) + c % 64))) := fun t c => by
  have ht : t.val < 2048 := t.isLt
  have hc : c.val < 512 := c.isLt
  rw [val_main_v50_apply, val_main_v46_apply, val_main_v45_apply]
  have e0 : (t.val * 512 + c.val) / 512 = t.val := by omega
  have e1 : (t.val * 512 + c.val) / 64 % 8 = c.val / 64 := by omega
  have e2 : (t.val * 512 + c.val) % 64 = c.val % 64 := by omega
  refine (sum_prod (fun s => dzr P D ((t.val * 512 + c.val) / 64 % 8) s ((t.val * 512 + c.val) / 512) * (1 / 8))
    (fun s => P s (2048 + (64 * ((t.val * 512 + c.val) / 64 % 8) + (t.val * 512 + c.val) % 64))) (fun k => r44 hp hd _) (fun k => r3 hp _)).trans ?_
  rw [e0, e1, e2]

/-- The gradient of the values. -/
theorem r49 (hp : Cols x0 P) (hd : Out x1 D) : Rd (n := 2048) (m := 512) (φ := .f32) (val_main_v49 (F := Ideal) x0 x1)
    (fun s c => ∑ t ∈ Finset.range 2048, D t (64 * (c / 64) + c % 64) * wr P (c / 64) t s) := fun t c => by
  have ht : t.val < 2048 := t.isLt
  have hc : c.val < 512 := c.isLt
  rw [val_main_v49_apply, val_main_v32_apply, val_main_v31_apply]
  have e0 : (t.val * 512 + c.val) / 512 = t.val := by omega
  have e1 : (t.val * 512 + c.val) / 64 % 8 = c.val / 64 := by omega
  have e2 : (t.val * 512 + c.val) % 64 = c.val % 64 := by omega
  refine (sum_prod (fun s => D s (64 * ((t.val * 512 + c.val) / 64 % 8) + (t.val * 512 + c.val) % 64))
    (fun s => wr P ((t.val * 512 + c.val) / 64 % 8) s ((t.val * 512 + c.val) / 512)) (fun k => r29 hd _) (fun k => r24 hp _)).trans ?_
  rw [e0, e1, e2]

/-- The output. -/
theorem r52 (hp : Cols x0 P) : Rd (n := 2048) (m := 512) (φ := .bf16) (val_main_v52 (F := Ideal) x0)
    (fun t c => ∑ s ∈ Finset.range 2048, P s (3072 + (64 * (c / 64) + c % 64)) * wr P (c / 64) t s) := fun t c => by
  have ht : t.val < 2048 := t.isLt
  have hc : c.val < 512 := c.isLt
  refine (?_ : (val_main_v27 (F := Ideal) x0 (ValueIdx.ix2 t c) : EReal) = _)
  rw [val_main_v27_apply, val_main_v26_apply, val_main_v25_apply]
  have e0 : (t.val * 512 + c.val) / 512 = t.val := by omega
  have e1 : (t.val * 512 + c.val) / 64 % 8 = c.val / 64 := by omega
  have e2 : (t.val * 512 + c.val) % 64 = c.val % 64 := by omega
  refine (sum_prod (fun s => P s (3072 + (64 * ((t.val * 512 + c.val) / 64 % 8) + (t.val * 512 + c.val) % 64)))
    (fun s => wr P ((t.val * 512 + c.val) / 64 % 8) ((t.val * 512 + c.val) / 512) s) (fun k => r5 hp _) (fun k => r24 hp _)).trans ?_
  rw [e0, e1, e2]

end arrays

end Cert.Sb

end
-- ==== Proof.Match.lean ====
/- The kernel's tables of the output and of the three gradients are the reference's: two heads share a block of lanes in the kernel and lie
   apart in the reference, and the kernel adds over tiles of queries what the reference adds at once. -/
module

public import proofs.«01_k».proof.Proof.Ref
public import proofs.«01_k».proof.Proof.Acc1
public import proofs.«01_k».proof.Proof.Acc2

@[expose] public section

noncomputable section

namespace Cert.Sb

open scoped BigOperators

/-! ## Lanes and heads -/

/-- A product with the first head's lanes. -/
theorem sum_h0 (T U : ℕ → ℕ → ℝ) (r s : ℕ) : ∑ d ∈ Finset.range 128, h0 T r d * U s d = ∑ k ∈ Finset.range 64, T r k * U s k := by
  rw [show (128 : ℕ) = 64 + 64 from rfl, Finset.sum_range_add]
  rw [Finset.sum_eq_zero (s := Finset.range 64) (f := fun x => h0 T r (64 + x) * U s (64 + x)) fun d _ => by
    unfold h0; rw [if_neg (by simp), zero_mul], add_zero]
  refine Finset.sum_congr rfl fun d hd => ?_
  unfold h0
  rw [if_pos (by simpa using hd)]

/-- A product with the second head's lanes. -/
theorem sum_h1 (T U : ℕ → ℕ → ℝ) (r s : ℕ) : ∑ d ∈ Finset.range 128, h1 T r d * U s d = ∑ k ∈ Finset.range 64, T r (64 + k) * U s (64 + k) := by
  rw [show (128 : ℕ) = 64 + 64 from rfl, Finset.sum_range_add]
  rw [Finset.sum_eq_zero (s := Finset.range 64) (f := fun x => h1 T r x * U s x) fun d hd => by
    unfold h1; rw [if_neg (by simpa using hd), zero_mul], zero_add]
  refine Finset.sum_congr rfl fun d hd => ?_
  unfold h1
  rw [if_pos (by simp)]

variable (P D : ℕ → ℕ → ℝ)

theorem z0 (hp i r s : ℕ) : zT (h0 (qS (tq P hp i))) (tk P hp) r s = zr P (2 * hp) (512 * i + r) s := by
  unfold zT zr
  rw [sum_h0, Finset.sum_mul]
  refine Finset.sum_congr rfl fun k _ => ?_
  unfold qS tq tk
  rw [show 2048 + 128 * hp + k = 2048 + (64 * (2 * hp) + k) by omega, show 2560 + 128 * hp + k = 2560 + (64 * (2 * hp) + k) by omega]
  ring

theorem z1 (hp i r s : ℕ) : zT (h1 (qS (tq P hp i))) (tk P hp) r s = zr P (2 * hp + 1) (512 * i + r) s := by
  unfold zT zr
  rw [sum_h1, Finset.sum_mul]
  refine Finset.sum_congr rfl fun k _ => ?_
  unfold qS tq tk
  rw [show 2048 + 128 * hp + (64 + k) = 2048 + (64 * (2 * hp + 1) + k) by omega, show 2560 + 128 * hp + (64 + k) = 2560 + (64 * (2 * hp + 1) + k) by omega]
  ring

theorem g0 (hp i r s : ℕ) : zT (h0 (tg D hp i)) (tv P hp) r s = gr P D (2 * hp) (512 * i + r) s := by
  unfold zT gr
  rw [sum_h0]
  refine Finset.sum_congr rfl fun k _ => ?_
  unfold tg tv
  rw [show 128 * hp + k = 64 * (2 * hp) + k by omega, show 3072 + 128 * hp + k = 3072 + (64 * (2 * hp) + k) by omega]

theorem g1 (hp i r s : ℕ) : zT (h1 (tg D hp i)) (tv P hp) r s = gr P D (2 * hp + 1) (512 * i + r) s := by
  unfold zT gr
  rw [sum_h1]
  refine Finset.sum_congr rfl fun k _ => ?_
  unfold tg tv
  rw [show 128 * hp + (64 + k) = 64 * (2 * hp + 1) + k by omega, show 3072 + 128 * hp + (64 + k) = 3072 + (64 * (2 * hp + 1) + k) by omega]

/-! ## One row of one head -/

section row

variable {P D} {t r h : ℕ} {Q K G V : ℕ → ℕ → ℝ} (ht : t + r ≤ 2048) (hz : ∀ s, zT Q K r s = zr P h (t + r) s)
  (hg : ∀ s, zT G V r s = gr P D h (t + r) s)

include ht hz

theorem a_row (s : ℕ) : aG t Q K r s = wr P h (t + r) s := by
  unfold aG wr ar
  by_cases hs : s < t + r
  · rw [if_pos hs, if_pos hs, if_pos hs, hz s]
    refine congrArg Real.exp (congrArg _ ?_)
    have e : (∑ u ∈ Finset.Ico s 2048, if u < t + r then lfF (zr P h (t + r) u) else 0) = ∑ u ∈ Finset.Ico s (t + r), lfF (zr P h (t + r) u) := by
      rw [← Finset.sum_filter]
      refine Finset.sum_congr ?_ fun _ _ => rfl
      ext u
      simp only [Finset.mem_filter, Finset.mem_Ico]
      omega
    rw [e, Finset.sum_eq_sum_Ico_succ_bot hs, add_sub_cancel_left]
    exact Finset.sum_congr rfl fun u _ => by rw [hz u]
  · rw [if_neg hs, if_neg hs]

include hg

theorem dl_row (s : ℕ) : dlG t Q K G V r s = dlr P D h (t + r) s := by
  unfold dlG dlr
  rw [a_row ht hz, hg s]
  unfold wr
  by_cases hs : s < t + r
  · rw [if_pos hs, if_pos hs]
  · rw [if_neg hs, if_neg hs, mul_zero, zero_mul]

theorem dz_row (s : ℕ) : dzG t Q K G V r s = dzr P D h (t + r) s := by
  unfold dzG dzr der
  have e : ∀ u, dlG t Q K G V r u = dlr P D h (t + r) u := dl_row ht hz hg
  by_cases hs : s < t + r
  · rw [if_pos hs, if_pos hs, e s, hz s, Finset.sum_congr rfl fun u _ => e u, Finset.sum_range_succ, exp_lf]
    ring
  · rw [if_neg hs, if_neg hs]
    have : dlr P D h (t + r) s = 0 := by unfold dlr; rw [if_neg hs, zero_mul]
    rw [this]
    ring

end row

variable {P D} in
theorem dz0_eq (hp i r s : ℕ) (ht : 512 * i + r ≤ 2048) : dz0T (512 * i) (qS (tq P hp i)) (tk P hp) (tg D hp i) (tv P hp) r s = dzr P D (2 * hp) (512 * i + r) s :=
  dz_row ht (z0 P hp i r) (g0 P D hp i r) s

variable {P D} in
theorem dz1_eq (hp i r s : ℕ) (ht : 512 * i + r ≤ 2048) : dz1T (512 * i) (qS (tq P hp i)) (tk P hp) (tg D hp i) (tv P hp) r s = dzr P D (2 * hp + 1) (512 * i + r) s :=
  dz_row ht (z1 P hp i r) (g1 P D hp i r) s

/-- The queries of the tiles, one after another. -/
theorem sum_tiles (f : ℕ → ℝ) (n : ℕ) : ∑ i ∈ Finset.range n, ∑ r ∈ Finset.range 512, f (512 * i + r) = ∑ t ∈ Finset.range (512 * n), f t := by
  induction n with
  | zero => simp
  | succ n ih => rw [Finset.sum_range_succ, ih, sum_tiles_succ]

theorem h0_lo (T : ℕ → ℕ → ℝ) (r : ℕ) {d : ℕ} (hd : d < 64) : h0 T r d = T r d := by unfold h0; rw [if_pos (by simpa using hd)]
theorem h0_hi (T : ℕ → ℕ → ℝ) (r : ℕ) {d : ℕ} (hd : ¬ d < 64) : h0 T r d = 0 := by unfold h0; rw [if_neg (by simpa using hd)]
theorem h1_hi (T : ℕ → ℕ → ℝ) (r : ℕ) {d : ℕ} (hd : ¬ d < 64) : h1 T r d = T r d := by unfold h1; rw [if_pos (by simpa using hd)]
theorem h1_lo (T : ℕ → ℕ → ℝ) (r : ℕ) {d : ℕ} (hd : d < 64) : h1 T r d = 0 := by unfold h1; rw [if_neg (by simpa using hd)]

/-! ## The output -/

/-- The output. -/
theorem o_eq (t c : ℕ) (ht : t < 2048) : oP P (c / 128) (t / 512) (t % 512) (c % 128)
    = ∑ s ∈ Finset.range 2048, P s (3072 + (64 * (c / 64) + c % 64)) * wr P (c / 64) t s := by
  unfold oP
  refine Finset.sum_congr rfl fun s _ => ?_
  unfold oT
  have h : 512 * (t / 512) + t % 512 = t := by omega
  rw [a_row (show 512 * (t / 512) + t % 512 ≤ 2048 by omega) (z0 P (c / 128) (t / 512) (t % 512)),
    a_row (show 512 * (t / 512) + t % 512 ≤ 2048 by omega) (z1 P (c / 128) (t / 512) (t % 512)), h]
  by_cases hd : c % 128 < 64
  · rw [h0_lo _ _ hd, h1_lo _ _ hd, show c / 64 = 2 * (c / 128) by omega]
    unfold tv
    rw [show 3072 + 128 * (c / 128) + c % 128 = 3072 + (64 * (2 * (c / 128)) + c % 64) by omega]
    ring
  · rw [h0_hi _ _ hd, h1_hi _ _ hd, show c / 64 = 2 * (c / 128) + 1 by omega]
    unfold tv
    rw [show 3072 + 128 * (c / 128) + c % 128 = 3072 + (64 * (2 * (c / 128) + 1) + c % 64) by omega]
    ring

/-! ## The three gradients -/

/-- The queries' gradient. -/
theorem dq_eq (t c : ℕ) (ht : t < 2048) : dqP P D (c / 128) (t / 512) (t % 512) (c % 128)
    = ∑ s ∈ Finset.range 2048, dzr P D (c / 64) t s * (1 / 8) * P s (2560 + (64 * (c / 64) + c % 64)) := by
  unfold dqP dqR
  rw [Finset.sum_mul]
  refine Finset.sum_congr rfl fun s _ => ?_
  unfold dqT
  rw [dz0_eq _ _ _ _ (by omega), dz1_eq _ _ _ _ (by omega), show 512 * (t / 512) + t % 512 = t by omega]
  by_cases hd : c % 128 < 64
  · rw [h0_lo _ _ hd, h1_lo _ _ hd, show c / 64 = 2 * (c / 128) by omega]
    unfold tk
    rw [show 2560 + 128 * (c / 128) + c % 128 = 2560 + (64 * (2 * (c / 128)) + c % 64) by omega]
    ring
  · rw [h0_hi _ _ hd, h1_hi _ _ hd, show c / 64 = 2 * (c / 128) + 1 by omega]
    unfold tk
    rw [show 2560 + 128 * (c / 128) + c % 128 = 2560 + (64 * (2 * (c / 128) + 1) + c % 64) by omega]
    ring

/-- The keys' gradient. -/
theorem dk_eq (s c : ℕ) : (∑ i ∈ Finset.range 4, dkP P D (c / 128) i s (c % 128))
    = ∑ t ∈ Finset.range 2048, dzr P D (c / 64) t s * (1 / 8) * P t (2048 + (64 * (c / 64) + c % 64)) := by
  refine Eq.trans ?_ (sum_tiles (fun t => dzr P D (c / 64) t s * (1 / 8) * P t (2048 + (64 * (c / 64) + c % 64))) 4)
  refine Finset.sum_congr rfl fun i hi => ?_
  have hi : i < 4 := by simpa using hi
  unfold dkP dkT
  rw [← Finset.sum_add_distrib]
  refine Finset.sum_congr rfl fun r hr => ?_
  have hr : r < 512 := by simpa using hr
  rw [dz0_eq _ _ _ _ (by omega), dz1_eq _ _ _ _ (by omega)]
  by_cases hd : c % 128 < 64
  · rw [h0_lo _ _ hd, h1_lo _ _ hd, show c / 64 = 2 * (c / 128) by omega]
    unfold qS tq
    rw [show 2048 + 128 * (c / 128) + c % 128 = 2048 + (64 * (2 * (c / 128)) + c % 64) by omega]
    ring
  · rw [h0_hi _ _ hd, h1_hi _ _ hd, show c / 64 = 2 * (c / 128) + 1 by omega]
    unfold qS tq
    rw [show 2048 + 128 * (c / 128) + c % 128 = 2048 + (64 * (2 * (c / 128) + 1) + c % 64) by omega]
    ring

/-- The values' gradient. -/
theorem dv_eq (s c : ℕ) : (∑ i ∈ Finset.range 4, dvP P D (c / 128) i s (c % 128))
    = ∑ t ∈ Finset.range 2048, D t (64 * (c / 64) + c % 64) * wr P (c / 64) t s := by
  refine Eq.trans ?_ (sum_tiles (fun t => D t (64 * (c / 64) + c % 64) * wr P (c / 64) t s) 4)
  refine Finset.sum_congr rfl fun i hi => ?_
  have hi : i < 4 := by simpa using hi
  unfold dvP dvT
  rw [← Finset.sum_add_distrib]
  refine Finset.sum_congr rfl fun r hr => ?_
  have hr : r < 512 := by simpa using hr
  rw [a_row (show 512 * i + r ≤ 2048 by omega) (z0 P (c / 128) i r), a_row (show 512 * i + r ≤ 2048 by omega) (z1 P (c / 128) i r)]
  by_cases hd : c % 128 < 64
  · rw [h0_lo _ _ hd, h1_lo _ _ hd, show c / 64 = 2 * (c / 128) by omega]
    unfold tg
    rw [show 128 * (c / 128) + c % 128 = 64 * (2 * (c / 128)) + c % 64 by omega]
    ring
  · rw [h0_hi _ _ hd, h1_hi _ _ hd, show c / 64 = 2 * (c / 128) + 1 by omega]
    unfold tg
    rw [show 128 * (c / 128) + c % 128 = 64 * (2 * (c / 128) + 1) + c % 64 by omega]
    ring

end Cert.Sb

end
-- ==== Proof.Pre.lean ====
/- What the precondition says: the entries that the kernel reads are reals. -/
module

public import proofs.«01_k».proof.Pre_finite
public import proofs.«01_k».proof.Proof.Real
public import Idealize.ShloMosaic.Lib.ReduceAll
public import Idealize.ShloMosaic.Lib.Pipeline.Value

@[expose] public section

noncomputable section

namespace Cert.Sb

open Cert.Pre_finite Idealize.ShloMosaic
open Idealize.ShloMosaic.ValueIdx (ix2)

/-- The precondition's side conditions. -/
theorem pre_facts : Cert.Pre_finite.Facts where
  slices_S2048x4352_S2048x1536_0_2048 := by decide
  bcast_S_S2048x1536 := by decide
  reducesTo_S2048x1536_S_d0_1 := by decide
  h_S_ := by decide
  bcast_S_S2048x512 := by decide
  reducesTo_S2048x512_S_d0_1 := by decide

/-- A shape of no axes has one index. -/
instance : Subsingleton S_.Idx := ⟨fun a b => funext fun i => i.elim0⟩

/-- What lies below infinity in size is real. -/
theorem real_of_lt (x y : EReal) (hy : y = ⊤) (h : BitVec.ofBool (decide (max x (-x) < y)) = 1#1) : ((x.toReal : ℝ) : EReal) = x := by
  have h : max x (-x) < ⊤ := by
    by_contra hn
    rw [hy, decide_eq_false hn] at h
    exact absurd h (by decide)
  refine EReal.coe_toReal (fun e => ?_) (fun e => ?_)
  · rw [e] at h; simp at h
  · rw [e] at h; simp at h

/-- The pattern of infinity. -/
theorem ofBits_top : Ideal.ofBits .f32 0x7F800000#32 = ⊤ := by simp [Ideal.ofBits, Ideal.ieee]

/-- Two bits whose conjunction is set. -/
theorem and_one (a b : BitVec 1) (h : a &&& b = 1#1) : a = 1#1 ∧ b = 1#1 := by
  revert a b
  decide

variable [Cert.Pre_finite.Facts] (x0 : FVec Ideal S2048x4352 .f32) (x1 : FVec Ideal S2048x512 .f32)

/-- The two halves of the precondition, an entry at a time. -/
theorem pre_entries (h : Cert.Pre_finite.fn (F := Ideal) x0 x1 = fun _ => 1#1) :
    (∀ i : S2048x1536.Idx, cmpf .olt (Host.absf (extractStridedSlice S2048x1536 ![0, 2048] x0 Facts.slices_S2048x4352_S2048x1536_0_2048)) (broadcastInDim S2048x1536 ![] Facts.bcast_S_S2048x1536 (constant (F := Ideal) S_ .f32 0x7F800000#32)) i = 1#1)
    ∧ ∀ i : S2048x512.Idx, cmpf .olt (Host.absf x1) (broadcastInDim S2048x512 ![] Facts.bcast_S_S2048x512 (constant (F := Ideal) S_ .f32 0x7F800000#32)) i = 1#1 := by
  have e := congrFun h (Shape.Idx.first Facts.h_S_)
  have e := and_one _ _ e
  exact ⟨Host.reduce_andi_all _ _ _ _ _ e.1, Host.reduce_andi_all _ _ _ _ _ e.2⟩

/-- The table of an array's entries. -/
def tab {n m : ℕ} (x : (⟨2, ![n, m]⟩ : Shape).Idx → EReal) (r d : ℕ) : ℝ :=
  if h : r < n ∧ d < m then (x (ix2 ⟨r, h.1⟩ ⟨d, h.2⟩)).toReal else 0

theorem tab_ix {n m : ℕ} (x : (⟨2, ![n, m]⟩ : Shape).Idx → EReal) (r : Fin n) (d : Fin m) : tab x r.val d.val = (x (ix2 r d)).toReal := by
  unfold tab
  rw [dif_pos ⟨r.isLt, d.isLt⟩]

/-- The columns that the kernel reads hold reals. -/
theorem pre_cols (h : Cert.Pre_finite.fn (F := Ideal) x0 x1 = fun _ => 1#1) (r : Fin 2048) (d : Fin 4352) (h0 : 2048 ≤ d.val) (h1 : d.val < 3584) :
    (x0 (ix2 r d) : EReal) = ((tab x0 r.val d.val : ℝ) : EReal) := by
  have e := (pre_entries x0 x1 h).1 (ix2 r ⟨d.val - 2048, by omega⟩)
  have hx : extractStridedSlice S2048x1536 ![0, 2048] x0 Facts.slices_S2048x4352_S2048x1536_0_2048 (ix2 r ⟨d.val - 2048, by omega⟩) = x0 (ix2 r d) :=
    extractStridedSlice_apply ![0, 2048] x0 Facts.slices_S2048x4352_S2048x1536_0_2048 _ _ (fun a => match a with
      | ⟨0, _⟩ => by show r.val = 0 + r.val; omega
      | ⟨1, _⟩ => by show d.val = 2048 + (d.val - 2048); omega)
  rw [tab_ix, ← hx]
  exact (real_of_lt _ _ ofBits_top e).symm

/-- The output's gradient holds reals. -/
theorem pre_out (h : Cert.Pre_finite.fn (F := Ideal) x0 x1 = fun _ => 1#1) (r : Fin 2048) (d : Fin 512) :
    (x1 (ix2 r d) : EReal) = ((tab x1 r.val d.val : ℝ) : EReal) := by
  rw [tab_ix]
  exact (real_of_lt _ _ ofBits_top ((pre_entries x0 x1 h).2 (ix2 r d))).symm

end Cert.Sb

end
-- ==== Proof.Mat.lean ====
/- Matrices of extended reals read as tables: an array's entries as a function of natural numbers, and the products
   of the matrix kernels as sums over those tables. No entry is assumed finite: only the commutativity and the
   associativity of the addition and of the multiplication of the extended reals are used. -/
module

public import proofs.«01_k».proof.Proof.Real
public import Idealize.ShloMosaic.Lib.Pipeline.ValueKit
public import Idealize.ShloMosaic.PureOps.Ideal.Laws

@[expose] public section

noncomputable section

namespace Cert.Mat

open Idealize.ShloMosaic hiding ix2 ix3
open Idealize.ShloMosaic.ValueIdx (ix2 ix3 contrEquiv1 contrEquiv1_symm_val)
open scoped BigOperators

/-- The matrix `x` holds the table `f`. -/
def Tb {n m : ℕ} {φ : FTy} (x : FVec Ideal ⟨2, ![n, m]⟩ φ) (f : ℕ → ℕ → EReal) : Prop :=
  ∀ (r : Fin n) (c : Fin m), (x (ix2 r c) : EReal) = f r.val c.val

/-- The stack of matrices `x` holds the table `f`. -/
def Tb3 {l n m : ℕ} {φ : FTy} (x : FVec Ideal ⟨3, ![l, n, m]⟩ φ) (f : ℕ → ℕ → ℕ → EReal) : Prop :=
  ∀ (h : Fin l) (r : Fin n) (c : Fin m), (x (ix3 h r c) : EReal) = f h.val r.val c.val

/-- The table of a matrix, zero outside its extents. -/
def tab {n m : ℕ} {φ : FTy} (x : FVec Ideal ⟨2, ![n, m]⟩ φ) (r c : ℕ) : EReal :=
  if h : r < n ∧ c < m then x (ix2 ⟨r, h.1⟩ ⟨c, h.2⟩) else 0

variable {n m k : ℕ} {φ ψ : FTy} {f g : ℕ → ℕ → EReal}

theorem tb_tab (x : FVec Ideal ⟨2, ![n, m]⟩ φ) : Tb x (tab x) := fun r c => by
  unfold tab
  rw [dif_pos ⟨r.isLt, c.isLt⟩]

/-- The tables of the two formats, at given extents. -/
abbrev T32 (n m : ℕ) (x : FVec Ideal ⟨2, ![n, m]⟩ .f32) (f : ℕ → ℕ → EReal) : Prop := Tb x f
abbrev T16 (n m : ℕ) (x : FVec Ideal ⟨2, ![n, m]⟩ .bf16) (f : ℕ → ℕ → EReal) : Prop := Tb x f

theorem tb32 (n m : ℕ) (x : FVec Ideal ⟨2, ![n, m]⟩ .f32) : Tb x (tab x) := tb_tab x

theorem Tb.congr {x : FVec Ideal ⟨2, ![n, m]⟩ φ} (h : Tb x f) (e : ∀ r c, r < n → c < m → f r c = g r c) : Tb x g :=
  fun r c => (h r c).trans (e _ _ r.isLt c.isLt)

/-- Two matrices that hold one table are equal. -/
theorem Tb.eq {x y : FVec Ideal ⟨2, ![n, m]⟩ φ} (h : Tb x f) (h' : Tb y f) : x = y :=
  funext fun i => by
    rw [ValueIdx.eq_ix2 i]
    exact (h (i 0) (i 1)).trans (h' (i 0) (i 1)).symm

/-- Two stacks that hold one table are equal. -/
theorem Tb3.eq {l : ℕ} {f : ℕ → ℕ → ℕ → EReal} {x y : FVec Ideal ⟨3, ![l, n, m]⟩ φ} (h : Tb3 x f) (h' : Tb3 y f) : x = y :=
  funext fun i => by
    rw [ValueIdx.eq_ix3 i]
    exact (h (i 0) (i 1) (i 2)).trans (h' (i 0) (i 1) (i 2)).symm

/-- A narrower format holds the same table. -/
theorem Tb.truncf {x : FVec Ideal ⟨2, ![n, m]⟩ φ} (h : Tb x f) (hb : ψ.bits < φ.bits) : Tb (truncf ψ x hb) f :=
  fun r c => h r c

/-- A cast to the shape itself holds the same table. -/
theorem Tb.self {x : FVec Ideal ⟨2, ![n, m]⟩ φ} (h : Tb x f) (hs : (⟨2, ![n, m]⟩ : Shape).ShapeCasts ⟨2, ![n, m]⟩) :
    Tb (shapeCast ⟨2, ![n, m]⟩ x hs : FVec Ideal ⟨2, ![n, m]⟩ φ) f := by
  rw [shapeCast_self]
  exact h

theorem Tb.addf {x y : FVec Ideal ⟨2, ![n, m]⟩ φ} (hx : Tb x f) (hy : Tb y g) : Tb (addf x y) (fun r c => f r c + g r c) :=
  fun r c => congrArg₂ (· + ·) (hx r c) (hy r c)

/-- A matrix with a unit axis put before its axes. -/
theorem Tb.lift {x : FVec Ideal ⟨2, ![n, m]⟩ φ} (h : Tb x f) (hs : (⟨2, ![n, m]⟩ : Shape).ShapeCasts ⟨3, ![1, n, m]⟩) :
    Tb3 (shapeCast ⟨3, ![1, n, m]⟩ x hs : FVec Ideal ⟨3, ![1, n, m]⟩ φ) (fun _ => f) := fun u r c =>
  (ValueIdx.shapeCast_ab_1ab_apply x hs u r c).trans (h r c)

/-- The matrix of a stack of one. -/
theorem Tb3.drop {f : ℕ → ℕ → ℕ → EReal} {x : FVec Ideal ⟨3, ![1, n, m]⟩ φ} (h : Tb3 x f) (hs : (⟨3, ![1, n, m]⟩ : Shape).ShapeCasts ⟨2, ![n, m]⟩) :
    Tb (shapeCast ⟨2, ![n, m]⟩ x hs : FVec Ideal ⟨2, ![n, m]⟩ φ) (f 0) := fun r c =>
  (ValueIdx.shapeCast_1ab_ab_apply x hs r c).trans (h 0 r c)

theorem tb_czero : Tb (constant (F := Ideal) ⟨2, ![n, m]⟩ .f32 0x00000000#32) (fun _ _ => 0) := fun r c => by
  rw [Cert.Sb.Rd.czero r c, EReal.coe_zero]

/-- The product of two matrices, into the zero matrix. -/
theorem Tb.dotNN {x : FVec Ideal ⟨2, ![n, k]⟩ φ} {y : FVec Ideal ⟨2, ![k, m]⟩ ψ} (hx : Tb x f) (hy : Tb y g) :
    Tb (matmul (F := Ideal) (DotDims.plain n k m) none x y (constant ⟨2, ![n, m]⟩ .f32 0x00000000#32))
      (fun r c => ∑ d ∈ Finset.range k, f r d * g d c) := fun r c => by
  show FloatOps.matmul (DotDims.plain n k m) none x y (constant ⟨2, ![n, m]⟩ .f32 0x00000000#32) (ix2 r c) = _
  rw [Ideal.matmul_plain_apply, tb_czero r c, zero_add]
  refine Eq.trans ?_ (Finset.sum_range _).symm
  exact Finset.sum_congr rfl fun d _ => congrArg₂ (· * ·) (hx r d) (hy d c)

/-- The product with the second matrix transposed, into the zero matrix. -/
theorem Tb.dotNT {x : FVec Ideal ⟨2, ![n, k]⟩ φ} {y : FVec Ideal ⟨2, ![m, k]⟩ ψ} (hx : Tb x f) (hy : Tb y g) :
    Tb (matmul (F := Ideal) (DotDims.transposedRhs n k m) none x y (constant ⟨2, ![n, m]⟩ .f32 0x00000000#32))
      (fun r c => ∑ d ∈ Finset.range k, f r d * g c d) := fun r c => by
  show FloatOps.matmul (DotDims.transposedRhs n k m) none x y (constant ⟨2, ![n, m]⟩ .f32 0x00000000#32) (ix2 r c) = _
  rw [Ideal.matmul_transposedRhs_apply, tb_czero r c, zero_add]
  refine Eq.trans ?_ (Finset.sum_range _).symm
  exact Finset.sum_congr rfl fun d _ => congrArg₂ (· * ·) (hx r d) (hy c d)

/-- The product with the first matrix transposed, into the zero matrix. -/
theorem Tb.dotTN {x : FVec Ideal ⟨2, ![k, n]⟩ φ} {y : FVec Ideal ⟨2, ![k, m]⟩ ψ} (hx : Tb x f) (hy : Tb y g)
    (wf : DotDims.WF ⟨2, ![k, n]⟩ ⟨2, ![k, m]⟩ ⟨2, ![n, m]⟩ [0] [0] [1] [1] [] []) :
    Tb (matmul (F := Ideal) (Cert.Sb.dimsTN k n m wf) none x y (constant ⟨2, ![n, m]⟩ .f32 0x00000000#32))
      (fun r c => ∑ d ∈ Finset.range k, f d r * g d c) := fun r c => by
  show FloatOps.matmul (Cert.Sb.dimsTN k n m wf) none x y (constant ⟨2, ![n, m]⟩ .f32 0x00000000#32) (ix2 r c) = _
  have h1 : (Cert.Sb.dimsTN k n m wf).contr.rank = 1 := rfl
  have h2 : (Cert.Sb.dimsTN k n m wf).contr.size ⟨0, by rw [h1]; exact Nat.one_pos⟩ = k := rfl
  rw [Ideal.matmul_apply, tb_czero r c, zero_add, ← Equiv.sum_comp (contrEquiv1 _ k h1 h2).symm]
  refine Eq.trans ?_ (Finset.sum_range _).symm
  refine Finset.sum_congr rfl fun d _ => ?_
  have hd := contrEquiv1_symm_val _ k h1 h2 d
  have el : (Cert.Sb.dimsTN k n m wf).lhsIdx (ix2 r c) ((contrEquiv1 _ k h1 h2).symm d) = ix2 d r := by
    funext a; apply Fin.ext
    match a with
    | ⟨0, _⟩ => exact hd
    | ⟨1, _⟩ => rfl
  have er : (Cert.Sb.dimsTN k n m wf).rhsIdx (ix2 r c) ((contrEquiv1 _ k h1 h2).symm d) = ix2 d c := by
    funext a; apply Fin.ext
    match a with
    | ⟨0, _⟩ => exact hd
    | ⟨1, _⟩ => rfl
  rw [el, er]
  exact congrArg₂ (· * ·) (hx d r) (hy d c)

/-- The blocks of columns of a matrix, stacked, hold the matrix's table by blocks. -/
theorem Tb.cols {x : FVec Ideal ⟨2, ![n, 4096]⟩ φ} (hx : Tb x f) (hs : (⟨2, ![n, 4096]⟩ : Shape).ShapeCasts ⟨3, ![n, 4, 1024]⟩)
    (ht : (⟨3, ![n, 4, 1024]⟩ : Shape).Transposes [1, 0, 2] ⟨3, ![4, n, 1024]⟩) :
    Tb3 (transpose ⟨3, ![4, n, 1024]⟩ [1, 0, 2] (shapeCast ⟨3, ![n, 4, 1024]⟩ x hs) ht : FVec Ideal ⟨3, ![4, n, 1024]⟩ φ)
      (fun h r d => f r (1024 * h + d)) := fun h r d => by
  have hh := h.isLt
  have hd := d.isLt
  refine Eq.trans ?_ (hx r ⟨1024 * h.val + d.val, by omega⟩)
  refine (transpose_apply [1, 0, 2] _ ht (ix3 h r d) (ix3 r h d) (fun b => match b with
    | ⟨0, _⟩ => rfl
    | ⟨1, _⟩ => rfl
    | ⟨2, _⟩ => rfl)).trans ?_
  refine shapeCast_apply x hs (ix3 r h d) (ix2 r (⟨1024 * h.val + d.val, by omega⟩ : Fin 4096)) ?_
  rewrite [Shape.rowMajor_val_two, Shape.rowMajor_val_three]
  show r.val * 4096 + (1024 * h.val + d.val) = (r.val * 4 + h.val) * 1024 + d.val
  omega

/-- The blocks of rows of a matrix, stacked, hold the matrix's table by blocks. -/
theorem Tb.rows {x : FVec Ideal ⟨2, ![4096, m]⟩ φ} (hx : Tb x f) (hs : (⟨2, ![4096, m]⟩ : Shape).ShapeCasts ⟨3, ![4, 1024, m]⟩) :
    Tb3 (shapeCast ⟨3, ![4, 1024, m]⟩ x hs : FVec Ideal ⟨3, ![4, 1024, m]⟩ φ) (fun h r d => f (1024 * h + r) d) := fun h r d => by
  have hh := h.isLt
  have hr := r.isLt
  refine Eq.trans ?_ (hx ⟨1024 * h.val + r.val, by omega⟩ d)
  refine shapeCast_apply x hs (ix3 h r d) (ix2 (⟨1024 * h.val + r.val, by omega⟩ : Fin 4096) d) ?_
  rewrite [Shape.rowMajor_val_two, Shape.rowMajor_val_three]
  show (1024 * h.val + r.val) * m + d.val = (h.val * 1024 + r.val) * m + d.val
  rw [Nat.mul_comm 1024 h.val]

theorem Tb.mulf {x y : FVec Ideal ⟨2, ![n, m]⟩ φ} (hx : Tb x f) (hy : Tb y g) : Tb (mulf x y) (fun r c => f r c * g r c) :=
  fun r c => congrArg₂ (· * ·) (hx r c) (hy r c)

theorem Tb.maxf {x y : FVec Ideal ⟨2, ![n, m]⟩ φ} (hx : Tb x f) (hy : Tb y g) : Tb (maximumf x y) (fun r c => max (f r c) (g r c)) :=
  fun r c => congrArg₂ max (hx r c) (hy r c)

theorem tb_fill (a : Ideal φ) : Tb (φ := φ) (broadcast ⟨2, ![n, m]⟩ a) (fun _ _ => a) := fun _ _ => rfl

/-- The zero and the two the programs name. -/
def c0 : EReal := FloatOps.ofBits (F := Ideal) .f32 0x00000000#32
def c2 : EReal := FloatOps.ofBits (F := Ideal) .f32 0x40000000#32

theorem c0_eq : c0 = 0 := tb_czero (n := 1) (m := 1) 0 0

/-- The derivative of the squared positive part vanishes where the positive part does, so no test of the sign is needed. -/
theorem sel_grad (u a : EReal) : Scalar.select (Ideal.cmp .ogt u c0) (a * (c2 * max u c0)) c0 = a * (c2 * max u c0) := by
  by_cases h : c0 < u
  · have e : Ideal.cmp .ogt u c0 = 1 := by simp [Ideal.cmp, h]
    unfold Scalar.select
    rw [if_pos e]
  · have e : ¬ Ideal.cmp .ogt u c0 = 1 := by simp [Ideal.cmp, h]
    unfold Scalar.select
    rw [if_neg e, max_eq_right (not_lt.mp h), c0_eq, mul_zero, mul_zero]

/-- A sum over a range, one more tile of which is added. -/
theorem sum_tile (h : ℕ → EReal) (a T : ℕ) :
    ∑ d ∈ Finset.range (T * a), h d + ∑ d ∈ Finset.range T, h (T * a + d) = ∑ d ∈ Finset.range (T * (a + 1)), h d := by
  rw [Nat.mul_succ, Finset.sum_range_add]

end Cert.Mat

end
-- ==== Proof.Mlp2.lean ====
/- The first product of the MLP with its activation, and the gradient at the hidden layer: what the two calls leave. -/
module

public import proofs.«01_k».proof.Proof.Mat
public import proofs.«01_k».proof.Proof.Gen.Kernel2Ideal.Frame
public import proofs.«01_k».proof.Proof.Gen.Reference2Ideal.Run
public import proofs.«01_k».proof.Proof.Gen.Reference2Ideal.Read
public import proofs.«01_k».proof.Defs

@[expose] public section

set_option maxRecDepth 16384

noncomputable section

namespace Cert.Mat.K2

open Idealize.SL.RA Idealize.SL.BI Idealize.SL.BI.BIBase Idealize.SL.BI.Laws Idealize.SL.ProofMode
open scoped Idealize.SL.BI
open Idealize.ShloMosaic.Rounds
open Idealize.ShloMosaic hiding ix2 ix3
open Idealize.ShloMosaic.TcCoe Idealize.ShloMosaic.Tactic
open Idealize.ShloMosaic.ValueIdx (ix2 ix3)
open Cert.Kernel2Ideal Cert.Reference2Ideal.Read Cert.Kernel2Ideal.Gen Idealize.SL Idealize.SL.Sem
open scoped BigOperators

/-! ## The run -/

section
variable {F : FTy → Type} [FloatOps F] (m : (ℓ : Loc nD τ sig) → Buf (Elt F) ℓ) (ρ : Dev nD → PrngReg)

set_option backward.isDefEq.respectTransparency.types false in
/-- Every run of both calls ends with each buffer that lasts as the second call leaves it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-- What the second call finds of the first call's outputs. -/
theorem V3_u (c : Dev nD) : V3 m ρ c main_v4_0 = (dat0 (V1 m ρ) c).arrAt 2 cfg0.N :=
  (W3_of m ρ c main_v4_0 (by decide)).trans (W2_arr m ρ c 2)

/-- The run with the results and the arguments by name. -/
theorem run_named : θ_run defs (onTc (τ := τ) (main (F := F))) ⟨m, fun _ => 0, ρ⟩ (fun r => ∀ c : Dev nD,
      r.2.mem ((c.tc : Thread nD τ).loc main_v4_0) = (dat0 (V1 m ρ) c).arrAt 2 cfg0.N
      ∧ r.2.mem ((c.tc : Thread nD τ).loc main_v4_1) = (dat0 (V1 m ρ) c).arrAt 3 cfg0.N
      ∧ r.2.mem ((c.tc : Thread nD τ).loc main_v8) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v4_0 (by decide))).trans ((W4_of m ρ c main_v4_0 (by decide +kernel)).trans (V3_u m ρ c)),
      (h c _ (mem_uc main_v4_1 (by decide))).trans ((W4_of m ρ c main_v4_1 (by decide +kernel)).trans
        ((W3_of m ρ c main_v4_1 (by decide)).trans (W2_arr m ρ c 3))),
      (h c _ (mem_uc main_v8 (by decide))).trans (W4_arr m ρ c 3),
      (h c _ (mem_uc main_arg0 (by decide))).trans (W4_main_arg0 m ρ c), (h c _ (mem_uc main_arg1 (by decide))).trans (W4_main_arg1 m ρ c),
      (h c _ (mem_uc main_arg2 (by decide))).trans (W4_main_arg2 m ρ c), (h c _ (mem_uc main_arg3 (by decide))).trans (W4_main_arg3 m ρ c)⟩)
    (run_all m ρ)
end

/-! ## The first call -/

theorem bx00 : ∀ t : Fin cfg0.N, win0_0.index t = ![t.val / 4, 0] := (by decide +kernel : ∀ t : Fin grid0.N, _)
theorem bx01 : ∀ t : Fin cfg0.N, win0_1.index t = ![t.val % 4, 0, 0] := (by decide +kernel : ∀ t : Fin grid0.N, _)
theorem bx02 : ∀ t : Fin cfg0.N, win0_2.index t = ![t.val / 4, t.val % 4] := (by decide +kernel : ∀ t : Fin grid0.N, _)
theorem bx03 : ∀ t : Fin cfg0.N, win0_3.index t = ![t.val / 4, t.val % 4] := (by decide +kernel : ∀ t : Fin grid0.N, _)
theorem ltN0 (t : Fin cfg0.N) : t.val < 16 := lt_of_lt_of_eq t.isLt N_0

variable {V : (c : Dev nD) → (b : Ref sig .tc) → Buf (Elt Ideal) ((c : Thread nD τ).loc b)} {c : Dev nD} {A B U : ℕ → ℕ → EReal}

/-- The block of the input's rows at a grid point. -/
theorem blk00 (hA : T16 2048 1024 (V c main_v0) A) (t : Fin cfg0.N) :
    T16 512 1024 (iblk0 V c 0 t) (fun r d => A (512 * (t.val / 4) + r) d) := fun r d => by
  have e : iblk0 V c 0 t (ix2 r d) = V c main_v0 (ix2 (⟨512 * (t.val / 4) + r.val, by have := r.isLt; have := ltN0 t; omega⟩ : Fin 2048) d) := by
    unfold iblk0
    generalize V c = W
    blk_ext [bx00 t]
    all_goals (show t.val / 4 * 512 + r.val = _; omega)
  exact e.trans (hA _ _)

/-- The block of the weight's columns at a grid point. -/
theorem blk01 (hB : Tb3 (l := 4) (n := 1024) (m := 1024) (φ := .bf16) (V c main_v3) (fun h r d => B r (1024 * h + d))) (t : Fin cfg0.N) :
    Tb3 (l := 1) (n := 1024) (m := 1024) (φ := .bf16) (iblk0 V c 1 t) (fun _ r d => B r (1024 * (t.val % 4) + d)) := fun u r d => by
  have e : iblk0 V c 1 t (ix3 u r d) = V c main_v3 (ix3 (⟨t.val % 4, by omega⟩ : Fin 4) r d) := by
    unfold iblk0
    generalize V c = W
    blk_ext [bx01 t]
    all_goals (show t.val % 4 * 1 + u.val = _; have := u.isLt; omega)
  exact e.trans (hB _ _ _)

/-- The product of two blocks. -/
theorem pay01 {x : FVec Ideal S512x1024 .bf16} {y : FVec Ideal S1x1024x1024 .bf16} {f : ℕ → ℕ → EReal} {g : ℕ → ℕ → ℕ → EReal} (hx : Tb x f)
    (hy : Tb3 y g) : Tb (k0_pay1 x y) (fun r d => ∑ k ∈ Finset.range 1024, f r k * g 0 k d) :=
  Tb.dotNN (hx.self _) (hy.drop _)

/-- The squared positive part of a number. -/
def act (u : EReal) : EReal := max u c0 * max u c0

/-- The squared positive part of the product of two blocks. -/
theorem pay02 {x : FVec Ideal S512x1024 .bf16} {y : FVec Ideal S1x1024x1024 .bf16} {f : ℕ → ℕ → EReal} {g : ℕ → ℕ → ℕ → EReal} (hx : Tb x f)
    (hy : Tb3 y g) : Tb (k0_pay2 x y) (fun r d => act (∑ k ∈ Finset.range 1024, f r k * g 0 k d)) :=
  (((pay01 hx hy).maxf (tb_fill c0)).mulf ((pay01 hx hy).maxf (tb_fill c0))).truncf _

/-- The table of the hidden layer before the activation. -/
def hid (A B : ℕ → ℕ → EReal) (r d : ℕ) : EReal := ∑ k ∈ Finset.range 1024, A r k * B k d

/-- The hidden layer after the first call. -/
theorem arr02 (hA : T16 2048 1024 (V c main_v0) A)
    (hB : Tb3 (l := 4) (n := 1024) (m := 1024) (φ := .bf16) (V c main_v3) (fun h r d => B r (1024 * h + d))) :
    T32 2048 4096 ((dat0 V c).arrAt 2 cfg0.N) (hid A B) := fun r d =>
  (dat0 V c).arrAt_forall_of_covers 2 (fun y v => (v : EReal) = hid A B (y 0).val (y 1).val) (by decide +kernel) (fun t hf y => by
    have e : T32 512 1024 (out0_2 (iblk0 V c 0 t) (iblk0 V c 1 t))
        (fun r d => hid A B (512 * (t.val / 4) + r) (1024 * (t.val % 4) + d)) := by
      frame_out
      exact pay01 (blk00 hA t) (blk01 hB t)
    rw [after0_2]
    blk_simp [bx02 t]
    have ey : (y : S512x1024.Idx) = ix2 (n0 := 512) (n1 := 1024) (y 0) (y 1) := ValueIdx.eq_ix2 y
    refine (congrArg (fun z : S512x1024.Idx => ((out0_2 (iblk0 V c 0 t) (iblk0 V c 1 t)) z : EReal)) ey).trans ((e (y 0) (y 1)).trans ?_)
    rw [Nat.mul_comm 512, Nat.mul_comm 1024]) (ix2 r d)

/-- The activation after the first call. -/
theorem arr03 (hA : T16 2048 1024 (V c main_v0) A)
    (hB : Tb3 (l := 4) (n := 1024) (m := 1024) (φ := .bf16) (V c main_v3) (fun h r d => B r (1024 * h + d))) :
    T16 2048 4096 ((dat0 V c).arrAt 3 cfg0.N) (fun r d => act (hid A B r d)) := fun r d =>
  (dat0 V c).arrAt_forall_of_covers 3 (fun y v => (v : EReal) = act (hid A B (y 0).val (y 1).val)) (by decide +kernel) (fun t hf y => by
    have e : T16 512 1024 (out0_3 (iblk0 V c 0 t) (iblk0 V c 1 t))
        (fun r d => act (hid A B (512 * (t.val / 4) + r) (1024 * (t.val % 4) + d))) := by
      frame_out
      exact pay02 (blk00 hA t) (blk01 hB t)
    rw [after0_3]
    blk_simp [bx03 t]
    have ey : (y : S512x1024.Idx) = ix2 (n0 := 512) (n1 := 1024) (y 0) (y 1) := ValueIdx.eq_ix2 y
    refine (congrArg (fun z : S512x1024.Idx => ((out0_3 (iblk0 V c 0 t) (iblk0 V c 1 t)) z : EReal)) ey).trans ((e (y 0) (y 1)).trans ?_)
    rw [Nat.mul_comm 512, Nat.mul_comm 1024]) (ix2 r d)

/-! ## The second call -/

theorem bx10 : ∀ t : Fin cfg1.N, win1_0.index t = ![t.val / 4, 0] := (by decide +kernel : ∀ t : Fin grid1.N, _)
theorem bx11 : ∀ t : Fin cfg1.N, win1_1.index t = ![t.val % 4, 0, 0] := (by decide +kernel : ∀ t : Fin grid1.N, _)
theorem bx12 : ∀ t : Fin cfg1.N, win1_2.index t = ![t.val / 4, t.val % 4] := (by decide +kernel : ∀ t : Fin grid1.N, _)
theorem bx13 : ∀ t : Fin cfg1.N, win1_3.index t = ![t.val / 4, t.val % 4] := (by decide +kernel : ∀ t : Fin grid1.N, _)
theorem ltN1 (t : Fin cfg1.N) : t.val < 16 := lt_of_lt_of_eq t.isLt N_1

/-- The block of the cotangent's rows at a grid point. -/
theorem blk10 (hA : T16 2048 1024 (V c main_v5) A) (t : Fin cfg1.N) :
    T16 512 1024 (iblk1 V c 0 t) (fun r d => A (512 * (t.val / 4) + r) d) := fun r d => by
  have e : iblk1 V c 0 t (ix2 r d) = V c main_v5 (ix2 (⟨512 * (t.val / 4) + r.val, by have := r.isLt; have := ltN1 t; omega⟩ : Fin 2048) d) := by
    unfold iblk1
    generalize V c = W
    blk_ext [bx10 t]
    all_goals (show t.val / 4 * 512 + r.val = _; omega)
  exact e.trans (hA _ _)

/-- The block of the second weight's rows at a grid point. -/
theorem blk11 (hB : Tb3 (l := 4) (n := 1024) (m := 1024) (φ := .bf16) (V c main_v7) (fun h r d => B (1024 * h + r) d)) (t : Fin cfg1.N) :
    Tb3 (l := 1) (n := 1024) (m := 1024) (φ := .bf16) (iblk1 V c 1 t) (fun _ r d => B (1024 * (t.val % 4) + r) d) := fun u r d => by
  have e : iblk1 V c 1 t (ix3 u r d) = V c main_v7 (ix3 (⟨t.val % 4, by omega⟩ : Fin 4) r d) := by
    unfold iblk1
    generalize V c = W
    blk_ext [bx11 t]
    all_goals (show t.val % 4 * 1 + u.val = _; have := u.isLt; omega)
  exact e.trans (hB _ _ _)

/-- The block of the hidden layer at a grid point. -/
theorem blk12 (hU : T32 2048 4096 (V c main_v4_0) U) (t : Fin cfg1.N) :
    T32 512 1024 (iblk1 V c 2 t) (fun r d => U (512 * (t.val / 4) + r) (1024 * (t.val % 4) + d)) := fun r d => by
  have e : iblk1 V c 2 t (ix2 r d) = V c main_v4_0 (ix2 (⟨512 * (t.val / 4) + r.val, by have := r.isLt; have := ltN1 t; omega⟩ : Fin 2048)
      (⟨1024 * (t.val % 4) + d.val, by have := d.isLt; omega⟩ : Fin 4096)) := by
    unfold iblk1
    generalize V c = W
    blk_ext [bx12 t]
    all_goals first
      | (show t.val / 4 * 512 + r.val = _; omega)
      | (show t.val % 4 * 1024 + d.val = _; omega)
  exact e.trans (hU _ _)

/-- The gradient at the hidden layer, of one block. -/
theorem pay11 {x : FVec Ideal S512x1024 .bf16} {z : FVec Ideal S512x1024 .f32} {y : FVec Ideal S1x1024x1024 .bf16} {f u : ℕ → ℕ → EReal} {g : ℕ → ℕ → ℕ → EReal} (hx : Tb x f)
    (hy : Tb3 y g) (hz : Tb z u) : Tb (k1_pay1 x y z) (fun r d => (∑ k ∈ Finset.range 1024, f r k * g 0 d k) * (c2 * max (u r d) c0)) :=
  ((Tb.dotNT (hx.self _) (hy.drop _)).mulf ((tb_fill c2).mulf ((hz.self _).maxf (tb_fill c0)))).truncf _

/-- The table of the gradient at the hidden layer. -/
def grd (A B U : ℕ → ℕ → EReal) (r d : ℕ) : EReal := (∑ k ∈ Finset.range 1024, A r k * B d k) * (c2 * max (U r d) c0)

/-- The gradient at the hidden layer after the second call. -/
theorem arr13 (hA : T16 2048 1024 (V c main_v5) A)
    (hB : Tb3 (l := 4) (n := 1024) (m := 1024) (φ := .bf16) (V c main_v7) (fun h r d => B (1024 * h + r) d))
    (hU : T32 2048 4096 (V c main_v4_0) U) :
    T16 2048 4096 ((dat1 V c).arrAt 3 cfg1.N) (grd A B U) := fun r d =>
  (dat1 V c).arrAt_forall_of_covers 3 (fun y v => (v : EReal) = grd A B U (y 0).val (y 1).val) (by decide +kernel) (fun t hf y => by
    have e : T16 512 1024 (out1_3 (iblk1 V c 0 t) (iblk1 V c 1 t) (iblk1 V c 2 t))
        (fun r d => grd A B U (512 * (t.val / 4) + r) (1024 * (t.val % 4) + d)) := by
      frame_out
      exact pay11 (blk10 hA t) (blk11 hB t) (blk12 hU t)
    rw [after1_3]
    blk_simp [bx13 t]
    have ey : (y : S512x1024.Idx) = ix2 (n0 := 512) (n1 := 1024) (y 0) (y 1) := ValueIdx.eq_ix2 y
    refine (congrArg (fun z : S512x1024.Idx => ((out1_3 (iblk1 V c 0 t) (iblk1 V c 1 t) (iblk1 V c 2 t)) z : EReal)) ey).trans ((e (y 0) (y 1)).trans ?_)
    rw [Nat.mul_comm 512, Nat.mul_comm 1024]) (ix2 r d)

/-! ## The operands and the reference -/

section
variable (m : (ℓ : Loc nD τ sig) → Buf (Elt Ideal) ℓ) (ρ : Dev nD → PrngReg) (c : Dev nD)

theorem V1_h : V1 m ρ c main_v0 = (truncf (F := Ideal) .bf16 (m ((c.tc : Thread nD τ).loc main_arg0) : FVec Ideal S2048x1024 .f32) bitsLt_bf16_f32 :
    FVec Ideal S2048x1024 .bf16) := by
  unfold V1 W1
  simp only [hostOps0]
  after_results

theorem V1_w : V1 m ρ c main_v3 = (transpose S4x1024x1024 [1, 0, 2] (shapeCast S1024x4x1024 (truncf (F := Ideal) .bf16
    (m ((c.tc : Thread nD τ).loc main_arg1) : FVec Ideal S1024x4096 .f32) bitsLt_bf16_f32 : FVec Ideal S1024x4096 .bf16) shapeCasts_S1024x4096_S1024x4x1024)
    transposes_S1024x4x1024_S4x1024x1024_1_0_2 : FVec Ideal S4x1024x1024 .bf16) := by
  unfold V1 W1
  simp only [hostOps0]
  after_results
  rfl

theorem V3_y : V3 m ρ c main_v5 = (truncf (F := Ideal) .bf16 (m ((c.tc : Thread nD τ).loc main_arg3) : FVec Ideal S2048x1024 .f32) bitsLt_bf16_f32 :
    FVec Ideal S2048x1024 .bf16) := by
  have e := W2_args m ρ c main_arg3 (by decide)
  unfold V3 W3
  simp only [hostOps1]
  after_results
  rw [e]

theorem V3_w : V3 m ρ c main_v7 = (shapeCast S4x1024x1024 (truncf (F := Ideal) .bf16
    (m ((c.tc : Thread nD τ).loc main_arg2) : FVec Ideal S4096x1024 .f32) bitsLt_bf16_f32 : FVec Ideal S4096x1024 .bf16) shapeCasts_S4096x1024_S4x1024x1024 :
    FVec Ideal S4x1024x1024 .bf16) := by
  have e := W2_args m ρ c main_arg2 (by decide)
  unfold V3 W3
  simp only [hostOps1]
  after_results
  rw [e]
  rfl
end

variable (x0 : FVec Ideal S2048x1024 .f32) (x1 : FVec Ideal S1024x4096 .f32) (x2 : FVec Ideal S4096x1024 .f32) (x3 : FVec Ideal S2048x1024 .f32)

/-- The reference's hidden layer, read as a table. -/
theorem ref_u : T32 2048 4096 (val_main_v0 (F := Ideal) x0 x1) (hid (tab x0) (tab x1)) := fun r d => by
  rw [val_main_v0_apply]
  unfold hid
  refine Eq.trans ?_ (Finset.sum_range _).symm
  refine Finset.sum_congr rfl fun k _ => ?_
  refine congrArg₂ (· * ·) (Eq.trans (congrArg _ ?_) (tb_tab x0 r k)) (Eq.trans (congrArg _ ?_) (tb_tab x1 k d))
  · refine funext fun a => Fin.ext ?_
    match a with
    | ⟨0, _⟩ => rfl
    | ⟨1, _⟩ => rfl
  · refine funext fun a => Fin.ext ?_
    match a with
    | ⟨0, _⟩ => rfl
    | ⟨1, _⟩ => rfl

/-- The reference's positive part. -/
theorem ref_relu : T32 2048 4096 (val_main_v1 (F := Ideal) x0 x1) (fun r d => max (hid (tab x0) (tab x1) r d) c0) :=
  fun r d => by
    rw [val_main_v1_apply, val_main_call0_v0_apply, val_main_call0_cst_apply]
    exact congrArg₂ max (ref_u x0 x1 r d) rfl

/-- The reference's activation. -/
theorem ref_a : T16 2048 4096 (val_main_v10 (F := Ideal) x0 x1) (fun r d => act (hid (tab x0) (tab x1) r d)) :=
  fun r d => by
    rw [val_main_v10_apply, val_main_v5_apply]
    exact congrArg₂ (· * ·) (ref_relu x0 x1 r d) (ref_relu x0 x1 r d)

/-- The reference's gradient of the activation. -/
theorem ref_da : T32 2048 4096 (val_main_v9 (F := Ideal) x2 x3)
    (fun r d => ∑ k ∈ Finset.range 1024, tab x3 r k * tab x2 d k) := fun r d => by
  rw [val_main_v9_apply]
  refine Eq.trans ?_ (Finset.sum_range _).symm
  refine Finset.sum_congr rfl fun k _ => ?_
  refine congrArg₂ (· * ·) (Eq.trans (congrArg _ ?_) (tb_tab x3 r k)) (Eq.trans (congrArg _ ?_) (tb_tab x2 d k))
  · refine funext fun a => Fin.ext ?_
    match a with
    | ⟨0, _⟩ => rfl
    | ⟨1, _⟩ => rfl
  · refine funext fun a => Fin.ext ?_
    match a with
    | ⟨0, _⟩ => rfl
    | ⟨1, _⟩ => rfl

/-- The reference's gradient at the hidden layer. -/
theorem ref_du : T16 2048 4096 (val_main_v14 (F := Ideal) x0 x1 x2 x3)
    (grd (tab x3) (tab x2) (hid (tab x0) (tab x1))) := fun r d => by
  rw [val_main_v14_apply, val_main_v13_apply, val_main_v3_apply,
    val_main_v11_apply, val_main_v12_apply, val_main_cst_2_apply,
    val_main_v2_apply, val_main_cst_apply, val_main_v7_apply,
    val_main_v6_apply, val_main_cst_1_apply]
  have h0 := ref_u x0 x1 r d
  have h1 := ref_relu x0 x1 r d
  have h9 := ref_da x2 x3 r d
  unfold grd
  rw [← sel_grad]
  generalize val_main_v0 (F := Ideal) x0 x1 (ix2 r d) = y0 at h0
  generalize val_main_v1 (F := Ideal) x0 x1 (ix2 r d) = y1 at h1
  generalize val_main_v9 (F := Ideal) x2 x3 (ix2 r d) = y9 at h9
  subst h0 h1 h9
  rfl

/-- The two calls' outputs are the reference's results. -/
theorem value : @Cert.algebraic_Kernel2Ideal_Reference2Ideal Cert.Kernel2Ideal.Gen.facts Cert.Reference2Ideal.Gen.facts := by
  intro m g m' g' _ hag
  refine ⟨_, _, _, run_named m g, (θ_run _ _ _).mono (fun r h c => ?_) (Cert.Reference2Ideal.Value.run (F := Ideal) m' g')⟩
  obtain ⟨e0, e1, e6, e2, e3, e4, e5⟩ := h c
  obtain ⟨a0, a1, a2, a3⟩ := hag c
  have hA : T16 2048 1024 (V1 m g c main_v0) (tab (n := 2048) (m := 1024) (φ := .f32) (m ((c.tc : Thread nD τ).loc main_arg0))) := by
    rw [V1_h]
    exact Tb.truncf (tb32 2048 1024 _) bitsLt_bf16_f32
  have hB : Tb3 (l := 4) (n := 1024) (m := 1024) (φ := .bf16) (V1 m g c main_v3)
      (fun h r d => tab (n := 1024) (m := 4096) (φ := .f32) (m ((c.tc : Thread nD τ).loc main_arg1)) r (1024 * h + d)) := by
    rw [V1_w]
    exact Tb.cols (Tb.truncf (tb32 1024 4096 _) bitsLt_bf16_f32) _ _
  have hD : T16 2048 1024 (V3 m g c main_v5) (tab (n := 2048) (m := 1024) (φ := .f32) (m ((c.tc : Thread nD τ).loc main_arg3))) := by
    rw [V3_y]
    exact Tb.truncf (tb32 2048 1024 _) bitsLt_bf16_f32
  have hW : Tb3 (l := 4) (n := 1024) (m := 1024) (φ := .bf16) (V3 m g c main_v7)
      (fun h r d => tab (n := 4096) (m := 1024) (φ := .f32) (m ((c.tc : Thread nD τ).loc main_arg2)) (1024 * h + r) d) := by
    rw [V3_w]
    exact Tb.rows (Tb.truncf (tb32 4096 1024 _) bitsLt_bf16_f32) _
  have hU : T32 2048 4096 (V3 m g c main_v4_0) (hid (tab (n := 2048) (m := 1024) (φ := .f32) (m ((c.tc : Thread nD τ).loc main_arg0)))
      (tab (n := 1024) (m := 4096) (φ := .f32) (m ((c.tc : Thread nD τ).loc main_arg1)))) := by
    rw [V3_u]
    exact arr02 hA hB
  refine ⟨e0.trans ?_, e1.trans ?_, e6.trans ?_, e2, e3, e4, e5⟩
  · clear e0 e1 e2 e3 e4 e5 e6
    rw [val_main_v0_eq, a0, a1]
    exact (ref_u _ _).eq (arr02 hA hB)
  · clear e0 e1 e2 e3 e4 e5 e6
    rw [val_main_v10_eq, a0, a1]
    exact (ref_a _ _).eq (arr03 hA hB)
  · clear e0 e1 e2 e3 e4 e5 e6
    rw [val_main_v14_eq, a0, a1, a2, a3]
    exact (ref_du _ _ _ _).eq (arr13 hD hW hU)

end Cert.Mat.K2

end
-- ==== Proof.Dw3.lean ====
/- The gradient of the MLP's second weight: what the call leaves in its two outputs. -/
module

public import proofs.«01_k».proof.Proof.Mat
public import Idealize.ShloMosaic.Lib.Pipeline.ReadBack
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Defs

@[expose] public section

set_option maxRecDepth 16384

noncomputable section

namespace Cert.Mat.K3

open Idealize.ShloMosaic hiding ix2 ix3
open Idealize.ShloMosaic.TcCoe Idealize.ShloMosaic.Tactic
open Idealize.ShloMosaic.ValueIdx (ix2 ix3)
open Cert.Kernel3Ideal Cert.Reference3Ideal.Read Cert.Kernel3Ideal.Gen Idealize.SL Idealize.SL.Sem
open scoped BigOperators

theorem bx0 : ∀ t : Fin cfg0.N, win0_0.index t = ![t.val % 2, t.val / 2] := (by decide +kernel : ∀ t : Fin grid0.N, _)
theorem bx1 : ∀ t : Fin cfg0.N, win0_1.index t = ![t.val % 2, 0] := (by decide +kernel : ∀ t : Fin grid0.N, _)
theorem bx2 : ∀ t : Fin cfg0.N, win0_2.index t = ![t.val / 4, t.val / 2 % 2, 0] := (by decide +kernel : ∀ t : Fin grid0.N, _)
theorem bx3 : ∀ t : Fin cfg0.N, win0_3.index t = ![t.val / 4, t.val / 2 % 2, 0] := (by decide +kernel : ∀ t : Fin grid0.N, _)
theorem ltN (t : Fin cfg0.N) : t.val < 16 := lt_of_lt_of_eq t.isLt N_0

variable {m : (ℓ : Loc nD τ sig) → Buf (Elt Ideal) ℓ} {c : Dev nD} {A B : ℕ → ℕ → EReal}

/-- The block of the first operand at a grid point. -/
theorem blk0 (hA : T16 2048 4096 (V m c main_v3) A) (t : Fin cfg0.N) :
    T16 1024 512 (iblk m c 0 t) (fun r d => A (1024 * (t.val % 2) + r) (512 * (t.val / 2) + d)) := fun r d => by
  have e : iblk m c 0 t (ix2 r d) = V m c main_v3 (ix2 (⟨1024 * (t.val % 2) + r.val, by have := r.isLt; have := ltN t; omega⟩ : Fin 2048)
      (⟨512 * (t.val / 2) + d.val, by have := d.isLt; have := ltN t; omega⟩ : Fin 4096)) := by
    unfold iblk
    generalize V m c = W
    blk_ext [bx0 t]
    all_goals first
      | (show t.val % 2 * 1024 + r.val = _; omega)
      | (show t.val / 2 * 512 + d.val = _; omega)
  exact e.trans (hA _ _)

/-- The block of the second operand at a grid point. -/
theorem blk1 (hB : T16 2048 1024 (V m c main_v4) B) (t : Fin cfg0.N) :
    T16 1024 1024 (iblk m c 1 t) (fun r d => B (1024 * (t.val % 2) + r) d) := fun r d => by
  have e : iblk m c 1 t (ix2 r d) = V m c main_v4 (ix2 (⟨1024 * (t.val % 2) + r.val, by have := r.isLt; have := ltN t; omega⟩ : Fin 2048) d) := by
    unfold iblk
    generalize V m c = W
    blk_ext [bx1 t]
    all_goals (show t.val % 2 * 1024 + r.val = _; omega)
  exact e.trans (hB _ _)

/-- The product of the two blocks at a grid point. -/
theorem pay1 {x : FVec Ideal S1024x512 .bf16} {y : FVec Ideal S1024x1024 .bf16} {f g : ℕ → ℕ → EReal} (hx : Tb x f) (hy : Tb y g) :
    Tb (k0_pay1 x y) (fun r d => ∑ k ∈ Finset.range 1024, f k r * g k d) :=
  Tb.dotTN (hx.self _) (hy.self _) _

/-- The table of the product up to a tile. -/
def acc (A B : ℕ → ℕ → EReal) (t r d : ℕ) : EReal :=
  ∑ k ∈ Finset.range (1024 * (t % 2 + 1)), A k (512 * (t / 2) + r) * B k d

/-- The scratch after the first point of a run: the product of its tiles. -/
theorem scrA (hA : T16 2048 4096 (V m c main_v3) A) (hB : T16 2048 1024 (V m c main_v4) B)
    (t : Fin cfg0.N) (h : t.val % 2 = 0) : T32 512 1024 (outsAt0 m c t.val t.isLt).2.2 (acc A B t.val) := by
  rw [outsAt0_A m c t h (by omega) (by omega)]
  frame_out
  refine ((pay1 (blk0 hA t) (blk1 hB t)).self _).congr fun r d _ _ => ?_
  unfold acc
  rw [h]
  exact Finset.sum_congr rfl fun k _ => by rw [Nat.mul_zero, Nat.zero_add]

/-- The scratch after a later point of a run: the product of the point's tiles added. -/
theorem scrB (hA : T16 2048 4096 (V m c main_v3) A) (hB : T16 2048 1024 (V m c main_v4) B)
    (t : Fin cfg0.N) (h : ¬ t.val % 2 = 0)
    (ih : T32 512 1024 (outsAt0 m c (t.val - 1) (Nat.lt_of_le_of_lt (Nat.sub_le _ _) t.isLt)).2.2 (acc A B (t.val - 1))) :
    T32 512 1024 (k0_pay3 (iblk m c 0 t) (iblk m c 1 t) (outsAt0 m c (t.val - 1) (Nat.lt_of_le_of_lt (Nat.sub_le _ _) t.isLt)).2.2)
      (acc A B t.val) := by
  refine ((ih.addf (pay1 (blk0 hA t) (blk1 hB t))).self _).congr fun r d _ _ => ?_
  have e : (t.val - 1) % 2 + 1 = t.val % 2 := by omega
  have e' : (t.val - 1) / 2 = t.val / 2 := by omega
  unfold acc
  rw [e, e']
  exact sum_tile (fun k => A k (512 * (t.val / 2) + r) * B k d) (t.val % 2) 1024

/-- The scratch after any point. -/
theorem scr (hA : T16 2048 4096 (V m c main_v3) A) (hB : T16 2048 1024 (V m c main_v4) B) :
    ∀ (n : ℕ) (hn : n < cfg0.N), T32 512 1024 (outsAt0 m c n hn).2.2 (acc A B n) := by
  intro n
  induction n with
  | zero => exact fun hn => scrA hA hB ⟨0, hn⟩ (Nat.zero_mod _)
  | succ n ih =>
    intro hn
    by_cases h : (n + 1) % 2 = 0
    · exact scrA hA hB ⟨n + 1, hn⟩ h
    · have e := scrB hA hB ⟨n + 1, hn⟩ h (ih _)
      rw [outsAt0_B m c ⟨n + 1, hn⟩ h (show (n + 1) % 2 = 1 by omega) (show (n + 1) % 2 = 1 by omega)]
      frame_out
      rw [Idealize.ShloMosaic.read_unread_whole]
      exact e

/-- The outputs after the last point of a run. -/
theorem outs (hA : T16 2048 4096 (V m c main_v3) A) (hB : T16 2048 1024 (V m c main_v4) B)
    (t : Fin cfg0.N) (h : t.val % 2 = 1) :
    Tb3 (l := 1) (n := 512) (m := 1024) (φ := .f32) (outsAt0 m c t.val t.isLt).1 (fun _ => acc A B t.val)
    ∧ Tb3 (l := 1) (n := 512) (m := 1024) (φ := .bf16) (outsAt0 m c t.val t.isLt).2.1 (fun _ => acc A B t.val) := by
  have e := scrB hA hB t (by omega) (scr hA hB _ _)
  constructor
  · rw [outsAt0_B m c t (by omega) h h]
    frame_out
    rw [Idealize.ShloMosaic.read_unread_whole]
    exact e.lift _
  · rw [outsAt0_B m c t (by omega) h h]
    frame_out
    rw [Idealize.ShloMosaic.read_unread_whole]
    exact (e.truncf _).lift _

/-- The table of the result: the product of the first operand, transposed, and the second, by blocks of 1024 rows. -/
def res (A B : ℕ → ℕ → EReal) (h r d : ℕ) : EReal := ∑ k ∈ Finset.range 2048, A k (1024 * h + r) * B k d

/-- The first output after the call. -/
theorem arr2 (hA : T16 2048 4096 (V m c main_v3) A) (hB : T16 2048 1024 (V m c main_v4) B) :
    Tb3 (l := 4) (n := 1024) (m := 1024) (φ := .f32) ((dats m 0 c).arrAt 2 cfg0.N) (res A B) := fun h r d =>
  (dats m 0 c).arrAt_forall_of_covers 2 (fun y v => (v : EReal) = res A B (y 0).val (y 1).val (y 2).val) (by decide +kernel) (fun t hf y => by
    have ht := (flush0_2 t).mp hf
    have e := (outs hA hB t ht).1
    rw [after0_2]
    blk_simp [bx2 t]
    have ey : (y : S1x512x1024.Idx) = ix3 (n0 := 1) (n1 := 512) (n2 := 1024) (y 0) (y 1) (y 2) := ValueIdx.eq_ix3 y
    refine (congrArg (fun z : S1x512x1024.Idx => ((outsAt0 m c t.val t.isLt).1 z : EReal)) ey).trans ((e (y 0) (y 1) (y 2)).trans ?_)
    have h0 : (y 0).val < 1 := (y 0).isLt
    have h1 : (y 1).val < 512 := (y 1).isLt
    unfold acc res
    rw [ht]
    refine Finset.sum_congr rfl fun k _ => ?_
    congr 2
    · omega
    ) (ix3 h r d)

/-- The second output after the call. -/
theorem arr3 (hA : T16 2048 4096 (V m c main_v3) A) (hB : T16 2048 1024 (V m c main_v4) B) :
    Tb3 (l := 4) (n := 1024) (m := 1024) (φ := .bf16) ((dats m 0 c).arrAt 3 cfg0.N) (res A B) := fun h r d =>
  (dats m 0 c).arrAt_forall_of_covers 3 (fun y v => (v : EReal) = res A B (y 0).val (y 1).val (y 2).val) (by decide +kernel) (fun t hf y => by
    have ht := (flush0_3 t).mp hf
    have e := (outs hA hB t ht).2
    rw [after0_3]
    blk_simp [bx3 t]
    have ey : (y : S1x512x1024.Idx) = ix3 (n0 := 1) (n1 := 512) (n2 := 1024) (y 0) (y 1) (y 2) := ValueIdx.eq_ix3 y
    refine (congrArg (fun z : S1x512x1024.Idx => ((outsAt0 m c t.val t.isLt).2.1 z : EReal)) ey).trans ((e (y 0) (y 1) (y 2)).trans ?_)
    have h0 : (y 0).val < 1 := (y 0).isLt
    have h1 : (y 1).val < 512 := (y 1).isLt
    unfold acc res
    rw [ht]
    refine Finset.sum_congr rfl fun k _ => ?_
    congr 2
    · omega
    ) (ix3 h r d)

/-- The second operand: the host's cast. -/
theorem V_y (m : (ℓ : Loc nD τ sig) → Buf (Elt Ideal) ℓ) (c : Dev nD) : V m c main_v4 = (truncf (F := Ideal) .bf16
    (m ((c.tc : Thread nD τ).loc main_arg2) : FVec Ideal S2048x1024 .f32) bitsLt_bf16_f32 : FVec Ideal S2048x1024 .bf16) := by
  unfold V
  simp only [hostOps0, hostOps0_1, hostOps0_2, List.flatten_cons, List.flatten_nil, List.append_nil, List.cons_append, List.nil_append]
  after_results

/-- The first operand, which the host computes: the squared positive part of the first product. -/
theorem V_v3 (m : (ℓ : Loc nD τ sig) → Buf (Elt Ideal) ℓ) (c : Dev nD) : V m c main_v3 = (truncf (F := Ideal) .bf16
    (val_main_v3 (F := Ideal) (m ((c.tc : Thread nD τ).loc main_arg0)) (m ((c.tc : Thread nD τ).loc main_arg1))) bitsLt_bf16_f32 : FVec Ideal S2048x4096 .bf16) := by
  unfold V
  simp only [hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results
  rfl

/-- The reference's gradient, read as a table. -/
theorem ref (x0 : FVec Ideal S2048x1024 .f32) (x1 : FVec Ideal S1024x4096 .f32) (x2 : FVec Ideal S2048x1024 .f32) :
    Tb3 (l := 4) (n := 1024) (m := 1024) (φ := .f32) (val_main_v7 (F := Ideal) x0 x1 x2)
      (res (tab (n := 2048) (m := 4096) (φ := .f32) (val_main_v3 (F := Ideal) x0 x1)) (tab x2)) := fun h r d => by
  rw [val_main_v7_apply, val_main_v6_apply, val_main_v5_apply]
  unfold res
  refine Eq.trans ?_ (Finset.sum_range _).symm
  refine Finset.sum_congr rfl fun k _ => ?_
  have hh := h.isLt
  have hr := r.isLt
  have hd := d.isLt
  have ea := tb_tab (n := 2048) (m := 4096) (φ := .f32) (val_main_v3 (F := Ideal) x0 x1) k ⟨1024 * h.val + r.val, by omega⟩
  have eb := tb_tab x2 k d
  rw [mul_comm]
  refine congrArg₂ (· * ·) (Eq.trans (congrArg _ ?_) ea) (Eq.trans (congrArg _ ?_) eb)
  · refine funext fun a => Fin.ext ?_
    match a with
    | ⟨0, _⟩ => rfl
    | ⟨1, _⟩ => show ((h.val * 1024 + r.val) * 1024 + d.val) / 1024 = 1024 * h.val + r.val; omega
  · refine funext fun a => Fin.ext ?_
    match a with
    | ⟨0, _⟩ => rfl
    | ⟨1, _⟩ => show ((h.val * 1024 + r.val) * 1024 + d.val) % 1024 = d.val; omega

/-- The kernel's two outputs are the reference's results. -/
theorem value : @Cert.algebraic_Kernel3Ideal_Reference3Ideal Cert.Kernel3Ideal.Gen.facts Cert.Reference3Ideal.Gen.facts := by
  intro m g m' g' _ hag
  refine ⟨_, _, Cert.Kernel3Ideal.Value.run_blocks m g, (θ_run _ _ _).mono (fun r h c => ?_) (Cert.Reference3Ideal.Value.run (F := Ideal) m' g')⟩
  obtain ⟨e0, e1, e2, e3, e4⟩ := h c
  obtain ⟨a0, a1, a2⟩ := hag c
  have hA : T16 2048 4096 (V m c main_v3) (tab (n := 2048) (m := 4096) (φ := .f32)
      (val_main_v3 (F := Ideal) (m ((c.tc : Thread nD τ).loc main_arg0)) (m ((c.tc : Thread nD τ).loc main_arg1)))) := by
    rw [V_v3]
    exact Tb.truncf (tb32 2048 4096 _) bitsLt_bf16_f32
  have hB : T16 2048 1024 (V m c main_v4) (tab (n := 2048) (m := 1024) (φ := .f32) (m ((c.tc : Thread nD τ).loc main_arg2))) := by
    rw [V_y]
    exact Tb.truncf (tb32 2048 1024 _) bitsLt_bf16_f32
  refine ⟨e0.trans ?_, e1.trans ?_, e2, e3, e4⟩
  · clear e0 e1 e2 e3 e4
    rw [val_main_v7_eq, a0, a1, a2]
    exact (ref _ _ _).eq (arr2 hA hB)
  · clear e0 e1 e2 e3 e4
    rw [val_main_v8_eq, a0, a1, a2]
    exact Tb3.eq (φ := .bf16) (fun h r d => ref _ _ _ h r d) (arr3 hA hB)

end Cert.Mat.K3

end
-- ==== Proof.Dx4.lean ====
/- The gradient of the MLP's input: what the call leaves in its output. -/
module

public import proofs.«01_k».proof.Proof.Mat
public import Idealize.ShloMosaic.Lib.Pipeline.ReadBack
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Defs

@[expose] public section

set_option maxRecDepth 16384

noncomputable section

namespace Cert.Mat.K4

open Idealize.ShloMosaic hiding ix2 ix3
open Idealize.ShloMosaic.TcCoe Idealize.ShloMosaic.Tactic
open Idealize.ShloMosaic.ValueIdx (ix2 ix3)
open Cert.Kernel4Ideal Cert.Kernel4Ideal.Gen Idealize.SL Idealize.SL.Sem
open scoped BigOperators

theorem bx0 : ∀ t : Fin cfg0.N, win0_0.index t = ![t.val / 4, t.val % 4] := (by decide +kernel : ∀ t : Fin grid0.N, _)
theorem bx1 : ∀ t : Fin cfg0.N, win0_1.index t = ![t.val % 4, 0, 0] := (by decide +kernel : ∀ t : Fin grid0.N, _)
theorem bx2 : ∀ t : Fin cfg0.N, win0_2.index t = ![t.val / 4, 0] := (by decide +kernel : ∀ t : Fin grid0.N, _)
theorem ltN (t : Fin cfg0.N) : t.val < 16 := lt_of_lt_of_eq t.isLt N_0

variable {m : (ℓ : Loc nD τ sig) → Buf (Elt Ideal) ℓ} {c : Dev nD} {A B : ℕ → ℕ → EReal}

/-- The block of the first operand at a grid point. -/
theorem blk0 (hA : T16 2048 4096 (V m c main_v13) A) (t : Fin cfg0.N) :
    T16 512 1024 (iblk m c 0 t) (fun r d => A (512 * (t.val / 4) + r) (1024 * (t.val % 4) + d)) := fun r d => by
  have e : iblk m c 0 t (ix2 r d) = V m c main_v13 (ix2 (⟨512 * (t.val / 4) + r.val, by have := r.isLt; have := ltN t; omega⟩ : Fin 2048)
      (⟨1024 * (t.val % 4) + d.val, by have := d.isLt; have := ltN t; omega⟩ : Fin 4096)) := by
    unfold iblk
    generalize V m c = W
    blk_ext [bx0 t]
    all_goals first
      | (show t.val / 4 * 512 + r.val = _; omega)
      | (show t.val % 4 * 1024 + d.val = _; omega)
  exact e.trans (hA _ _)

/-- The block of the second operand at a grid point: one matrix of the stack. -/
theorem blk1 (hB : Tb3 (l := 4) (n := 1024) (m := 1024) (φ := .bf16) (V m c main_v16) (fun h r d => B r (1024 * h + d))) (t : Fin cfg0.N) :
    Tb3 (l := 1) (n := 1024) (m := 1024) (φ := .bf16) (iblk m c 1 t) (fun _ r d => B r (1024 * (t.val % 4) + d)) := fun u r d => by
  have e : iblk m c 1 t (ix3 u r d) = V m c main_v16 (ix3 (⟨t.val % 4, by omega⟩ : Fin 4) r d) := by
    unfold iblk
    generalize V m c = W
    blk_ext [bx1 t]
    all_goals (show t.val % 4 * 1 + u.val = _; have := u.isLt; omega)
  exact e.trans (hB _ _ _)

/-- The product of the two blocks at a grid point. -/
theorem pay1 {x : FVec Ideal S512x1024 .bf16} {y : FVec Ideal S1x1024x1024 .bf16} {f : ℕ → ℕ → EReal} {g : ℕ → ℕ → ℕ → EReal} (hx : Tb x f)
    (hy : Tb3 y g) : Tb (k0_pay1 x y) (fun r d => ∑ k ∈ Finset.range 1024, f r k * g 0 d k) :=
  Tb.dotNT (hx.self _) (hy.drop _)

/-- The table of the product up to a tile. -/
def acc (A B : ℕ → ℕ → EReal) (t r d : ℕ) : EReal :=
  ∑ k ∈ Finset.range (1024 * (t % 4 + 1)), A (512 * (t / 4) + r) k * B d k

/-- The scratch after the first point of a run: the product of its tiles. -/
theorem scrA (hA : T16 2048 4096 (V m c main_v13) A) (hB : Tb3 (l := 4) (n := 1024) (m := 1024) (φ := .bf16) (V m c main_v16) (fun h r d => B r (1024 * h + d)))
    (t : Fin cfg0.N) (h : t.val % 4 = 0) : T32 512 1024 (outsAt0 m c t.val t.isLt).2 (acc A B t.val) := by
  rw [outsAt0_A m c t h (by omega) (by omega)]
  frame_out
  refine ((pay1 (blk0 hA t) (blk1 hB t)).self _).congr fun r d _ _ => ?_
  unfold acc
  rw [h]
  exact Finset.sum_congr rfl fun k _ => by rw [Nat.mul_zero, Nat.zero_add]

/-- The scratch after a later point of a run: the product of the point's tiles added. -/
theorem scrB (hA : T16 2048 4096 (V m c main_v13) A) (hB : Tb3 (l := 4) (n := 1024) (m := 1024) (φ := .bf16) (V m c main_v16) (fun h r d => B r (1024 * h + d)))
    (t : Fin cfg0.N) (h : ¬ t.val % 4 = 0)
    (ih : T32 512 1024 (outsAt0 m c (t.val - 1) (Nat.lt_of_le_of_lt (Nat.sub_le _ _) t.isLt)).2 (acc A B (t.val - 1))) :
    T32 512 1024 (k0_pay3 (iblk m c 0 t) (iblk m c 1 t) (outsAt0 m c (t.val - 1) (Nat.lt_of_le_of_lt (Nat.sub_le _ _) t.isLt)).2) (acc A B t.val) := by
  refine ((ih.addf (pay1 (blk0 hA t) (blk1 hB t))).self _).congr fun r d _ _ => ?_
  have e : (t.val - 1) % 4 + 1 = t.val % 4 := by omega
  have e' : (t.val - 1) / 4 = t.val / 4 := by omega
  unfold acc
  rw [e, e']
  exact sum_tile (fun k => A (512 * (t.val / 4) + r) k * B d k) (t.val % 4) 1024

/-- The scratch after any point. -/
theorem scr (hA : T16 2048 4096 (V m c main_v13) A) (hB : Tb3 (l := 4) (n := 1024) (m := 1024) (φ := .bf16) (V m c main_v16) (fun h r d => B r (1024 * h + d))) :
    ∀ (n : ℕ) (hn : n < cfg0.N), T32 512 1024 (outsAt0 m c n hn).2 (acc A B n) := by
  intro n
  induction n with
  | zero => exact fun hn => scrA hA hB ⟨0, hn⟩ (Nat.zero_mod _)
  | succ n ih =>
    intro hn
    by_cases h : (n + 1) % 4 = 0
    · exact scrA hA hB ⟨n + 1, hn⟩ h
    · have e := scrB hA hB ⟨n + 1, hn⟩ h (ih _)
      by_cases h' : (n + 1) % 4 = 3
      · rw [outsAt0_C m c ⟨n + 1, hn⟩ h (show 1 ≤ (n + 1) % 4 by omega) h']
        frame_out
        rw [Idealize.ShloMosaic.read_unread_whole]
        exact e
      · rw [outsAt0_B m c ⟨n + 1, hn⟩ h (show 1 ≤ (n + 1) % 4 by omega) h']
        frame_out
        rw [Idealize.ShloMosaic.read_unread_whole]
        exact e

/-- The output after the last point of a run. -/
theorem outs (hA : T16 2048 4096 (V m c main_v13) A) (hB : Tb3 (l := 4) (n := 1024) (m := 1024) (φ := .bf16) (V m c main_v16) (fun h r d => B r (1024 * h + d)))
    (t : Fin cfg0.N) (h : t.val % 4 = 3) :
    T32 512 1024 (outsAt0 m c t.val t.isLt).1 (acc A B t.val) := by
  have e := scrB hA hB t (by omega) (scr hA hB _ _)
  rw [outsAt0_C m c t (by omega) (by omega) h]
  frame_out
  rw [Idealize.ShloMosaic.read_unread_whole]
  exact e

/-- The table of the result: the product of the first operand and the second, transposed. -/
def res (A B : ℕ → ℕ → EReal) (r d : ℕ) : EReal := ∑ k ∈ Finset.range 4096, A r k * B d k

/-- The output after the call. -/
theorem arr2 (hA : T16 2048 4096 (V m c main_v13) A) (hB : Tb3 (l := 4) (n := 1024) (m := 1024) (φ := .bf16) (V m c main_v16) (fun h r d => B r (1024 * h + d))) :
    T32 2048 1024 ((dats m 0 c).arrAt 2 cfg0.N) (res A B) := fun r d =>
  (dats m 0 c).arrAt_forall_of_covers 2 (fun y v => (v : EReal) = res A B (y 0).val (y 1).val) (by decide +kernel) (fun t hf y => by
    have ht := (flush0_2 t).mp hf
    have e := outs hA hB t ht
    rw [after0_2]
    blk_simp [bx2 t]
    have ey : (y : S512x1024.Idx) = ix2 (n0 := 512) (n1 := 1024) (y 0) (y 1) := ValueIdx.eq_ix2 y
    refine (congrArg (fun z : S512x1024.Idx => ((outsAt0 m c t.val t.isLt).1 z : EReal)) ey).trans ((e (y 0) (y 1)).trans ?_)
    have h0 : (y 0).val < 512 := (y 0).isLt
    unfold acc res
    rw [ht]
    refine Finset.sum_congr rfl fun k _ => ?_
    congr 2
    · omega
    ) (ix2 r d)

/-- The first operand, which the host computes: the gradient at the hidden layer. -/
theorem V_du (m : (ℓ : Loc nD τ sig) → Buf (Elt Ideal) ℓ) (c : Dev nD) : V m c main_v13 = (truncf (F := Ideal) .bf16
    (Cert.Reference4Ideal.Read.val_main_v12 (F := Ideal) (m ((c.tc : Thread nD τ).loc main_arg0)) (m ((c.tc : Thread nD τ).loc main_arg1))
      (m ((c.tc : Thread nD τ).loc main_arg2)) (m ((c.tc : Thread nD τ).loc main_arg3))) bitsLt_bf16_f32 : FVec Ideal S2048x4096 .bf16) := by
  unfold V
  simp only [hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results
  rfl

/-- The second operand: the weight as a stack of blocks of columns. -/
theorem V_w (m : (ℓ : Loc nD τ sig) → Buf (Elt Ideal) ℓ) (c : Dev nD) : V m c main_v16 = (transpose S4x1024x1024 [1, 0, 2] (shapeCast S1024x4x1024 (truncf (F := Ideal) .bf16
    (m ((c.tc : Thread nD τ).loc main_arg1) : FVec Ideal S1024x4096 .f32) bitsLt_bf16_f32 : FVec Ideal S1024x4096 .bf16) shapeCasts_S1024x4096_S1024x4x1024)
    transposes_S1024x4x1024_S4x1024x1024_1_0_2 : FVec Ideal S4x1024x1024 .bf16) := by
  unfold V
  simp only [hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results
  rfl

/-- The reference's gradient, read as a table. -/
theorem ref (x0 : FVec Ideal S2048x1024 .f32) (x1 : FVec Ideal S1024x4096 .f32) (x2 : FVec Ideal S4096x1024 .f32) (x3 : FVec Ideal S2048x1024 .f32) :
    T32 2048 1024 (Cert.Reference4Ideal.Read.val_main_v13 (F := Ideal) x0 x1 x2 x3)
      (res (tab (n := 2048) (m := 4096) (φ := .f32) (Cert.Reference4Ideal.Read.val_main_v12 (F := Ideal) x0 x1 x2 x3)) (tab x1)) := fun r d => by
  rw [Cert.Reference4Ideal.Read.val_main_v13_apply]
  unfold res
  refine Eq.trans ?_ (Finset.sum_range _).symm
  refine Finset.sum_congr rfl fun k _ => ?_
  have ea := tb_tab (n := 2048) (m := 4096) (φ := .f32) (Cert.Reference4Ideal.Read.val_main_v12 (F := Ideal) x0 x1 x2 x3) r k
  have eb := tb_tab x1 d k
  refine congrArg₂ (· * ·) (Eq.trans (congrArg _ ?_) ea) (Eq.trans (congrArg _ ?_) eb)
  · refine funext fun a => Fin.ext ?_
    match a with
    | ⟨0, _⟩ => rfl
    | ⟨1, _⟩ => rfl
  · refine funext fun a => Fin.ext ?_
    match a with
    | ⟨0, _⟩ => rfl
    | ⟨1, _⟩ => rfl

/-- The kernel's output is the reference's result. -/
theorem value : @Cert.algebraic_Kernel4Ideal_Reference4Ideal Cert.Kernel4Ideal.Gen.facts Cert.Reference4Ideal.Gen.facts := by
  intro m g m' g' _ hag
  refine ⟨_, Cert.Kernel4Ideal.Value.run_blocks m g, (θ_run _ _ _).mono (fun r h c => ?_) (Cert.Reference4Ideal.Value.run (F := Ideal) m' g')⟩
  obtain ⟨e0, e2, e3, e4, e5⟩ := h c
  obtain ⟨a0, a1, a2, a3⟩ := hag c
  have hA : T16 2048 4096 (V m c main_v13) (tab (n := 2048) (m := 4096) (φ := .f32)
      (Cert.Reference4Ideal.Read.val_main_v12 (F := Ideal) (m ((c.tc : Thread nD τ).loc main_arg0)) (m ((c.tc : Thread nD τ).loc main_arg1))
      (m ((c.tc : Thread nD τ).loc main_arg2)) (m ((c.tc : Thread nD τ).loc main_arg3)))) := by
    rw [V_du]
    exact Tb.truncf (tb32 2048 4096 _) bitsLt_bf16_f32
  have hB : Tb3 (l := 4) (n := 1024) (m := 1024) (φ := .bf16) (V m c main_v16)
      (fun h r d => tab (n := 1024) (m := 4096) (φ := .f32) (m ((c.tc : Thread nD τ).loc main_arg1)) r (1024 * h + d)) := by
    rw [V_w]
    exact Tb.cols (Tb.truncf (tb32 1024 4096 _) bitsLt_bf16_f32) _ _
  refine ⟨e0.trans ?_, e2, e3, e4, e5⟩
  clear e0 e2 e3 e4 e5
  rw [Cert.Reference4Ideal.Read.val_main_v13_eq, a0, a1, a2, a3]
  exact (ref _ _ _ _).eq (arr2 hA hB)

end Cert.Mat.K4

end
-- ==== Proof.Dw5.lean ====
/- The gradient of the MLP's first weight: what the call leaves in its two outputs. -/
module

public import proofs.«01_k».proof.Proof.Mat
public import Idealize.ShloMosaic.Lib.Pipeline.ReadBack
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Defs

@[expose] public section

set_option maxRecDepth 16384

noncomputable section

namespace Cert.Mat.K5

open Idealize.ShloMosaic hiding ix2 ix3
open Idealize.ShloMosaic.TcCoe Idealize.ShloMosaic.Tactic
open Idealize.ShloMosaic.ValueIdx (ix2 ix3)
open Cert.Kernel5Ideal Cert.Reference5Ideal.Read Cert.Kernel5Ideal.Gen Idealize.SL Idealize.SL.Sem
open scoped BigOperators

theorem bx0 : ∀ t : Fin cfg0.N, win0_0.index t = ![t.val % 2, t.val / 8] := (by decide +kernel : ∀ t : Fin grid0.N, _)
theorem bx1 : ∀ t : Fin cfg0.N, win0_1.index t = ![t.val % 2, t.val / 2 % 4] := (by decide +kernel : ∀ t : Fin grid0.N, _)
theorem bx2 : ∀ t : Fin cfg0.N, win0_2.index t = ![t.val / 2 % 4, t.val / 8, 0] := (by decide +kernel : ∀ t : Fin grid0.N, _)
theorem bx3 : ∀ t : Fin cfg0.N, win0_3.index t = ![t.val / 2 % 4, t.val / 8, 0] := (by decide +kernel : ∀ t : Fin grid0.N, _)
theorem ltN (t : Fin cfg0.N) : t.val < 16 := lt_of_lt_of_eq t.isLt N_0

variable {m : (ℓ : Loc nD τ sig) → Buf (Elt Ideal) ℓ} {c : Dev nD} {A B : ℕ → ℕ → EReal}

/-- The block of the first operand at a grid point. -/
theorem blk0 (hA : T16 2048 1024 (V m c main_v14) A) (t : Fin cfg0.N) :
    T16 1024 512 (iblk m c 0 t) (fun r d => A (1024 * (t.val % 2) + r) (512 * (t.val / 8) + d)) := fun r d => by
  have e : iblk m c 0 t (ix2 r d) = V m c main_v14 (ix2 (⟨1024 * (t.val % 2) + r.val, by have := r.isLt; have := ltN t; omega⟩ : Fin 2048)
      (⟨512 * (t.val / 8) + d.val, by have := d.isLt; have := ltN t; omega⟩ : Fin 1024)) := by
    unfold iblk
    generalize V m c = W
    blk_ext [bx0 t]
    all_goals first
      | (show t.val % 2 * 1024 + r.val = _; omega)
      | (show t.val / 8 * 512 + d.val = _; omega)
  exact e.trans (hA _ _)

/-- The block of the second operand at a grid point. -/
theorem blk1 (hB : T16 2048 4096 (V m c main_v13) B) (t : Fin cfg0.N) :
    T16 1024 1024 (iblk m c 1 t) (fun r d => B (1024 * (t.val % 2) + r) (1024 * (t.val / 2 % 4) + d)) := fun r d => by
  have e : iblk m c 1 t (ix2 r d) = V m c main_v13 (ix2 (⟨1024 * (t.val % 2) + r.val, by have := r.isLt; have := ltN t; omega⟩ : Fin 2048)
      (⟨1024 * (t.val / 2 % 4) + d.val, by have := d.isLt; have := ltN t; omega⟩ : Fin 4096)) := by
    unfold iblk
    generalize V m c = W
    blk_ext [bx1 t]
    all_goals first
      | (show t.val % 2 * 1024 + r.val = _; omega)
      | (show t.val / 2 % 4 * 1024 + d.val = _; omega)
  exact e.trans (hB _ _)

/-- The product of the two blocks at a grid point. -/
theorem pay1 {x : FVec Ideal S1024x512 .bf16} {y : FVec Ideal S1024x1024 .bf16} {f g : ℕ → ℕ → EReal} (hx : Tb x f) (hy : Tb y g) :
    Tb (k0_pay1 x y) (fun r d => ∑ k ∈ Finset.range 1024, f k r * g k d) :=
  Tb.dotTN (hx.self _) (hy.self _) _

/-- The table of the product up to a tile. -/
def acc (A B : ℕ → ℕ → EReal) (t r d : ℕ) : EReal :=
  ∑ k ∈ Finset.range (1024 * (t % 2 + 1)), A k (512 * (t / 8) + r) * B k (1024 * (t / 2 % 4) + d)

/-- The scratch after the first point of a run: the product of its tiles. -/
theorem scrA (hA : T16 2048 1024 (V m c main_v14) A) (hB : T16 2048 4096 (V m c main_v13) B)
    (t : Fin cfg0.N) (h : t.val % 2 = 0) : T32 512 1024 (outsAt0 m c t.val t.isLt).2.2 (acc A B t.val) := by
  rw [outsAt0_A m c t h (by omega) (by omega)]
  frame_out
  refine ((pay1 (blk0 hA t) (blk1 hB t)).self _).congr fun r d _ _ => ?_
  unfold acc
  rw [h]
  exact Finset.sum_congr rfl fun k _ => by rw [Nat.mul_zero, Nat.zero_add]

/-- The scratch after a later point of a run: the product of the point's tiles added. -/
theorem scrB (hA : T16 2048 1024 (V m c main_v14) A) (hB : T16 2048 4096 (V m c main_v13) B)
    (t : Fin cfg0.N) (h : ¬ t.val % 2 = 0)
    (ih : T32 512 1024 (outsAt0 m c (t.val - 1) (Nat.lt_of_le_of_lt (Nat.sub_le _ _) t.isLt)).2.2 (acc A B (t.val - 1))) :
    T32 512 1024 (k0_pay3 (iblk m c 0 t) (iblk m c 1 t) (outsAt0 m c (t.val - 1) (Nat.lt_of_le_of_lt (Nat.sub_le _ _) t.isLt)).2.2)
      (acc A B t.val) := by
  refine ((ih.addf (pay1 (blk0 hA t) (blk1 hB t))).self _).congr fun r d _ _ => ?_
  have e : (t.val - 1) % 2 + 1 = t.val % 2 := by omega
  have e' : (t.val - 1) / 8 = t.val / 8 := by omega
  have e'' : (t.val - 1) / 2 % 4 = t.val / 2 % 4 := by omega
  unfold acc
  rw [e, e', e'']
  exact sum_tile (fun k => A k (512 * (t.val / 8) + r) * B k (1024 * (t.val / 2 % 4) + d)) (t.val % 2) 1024

/-- The scratch after any point. -/
theorem scr (hA : T16 2048 1024 (V m c main_v14) A) (hB : T16 2048 4096 (V m c main_v13) B) :
    ∀ (n : ℕ) (hn : n < cfg0.N), T32 512 1024 (outsAt0 m c n hn).2.2 (acc A B n) := by
  intro n
  induction n with
  | zero => exact fun hn => scrA hA hB ⟨0, hn⟩ (Nat.zero_mod _)
  | succ n ih =>
    intro hn
    by_cases h : (n + 1) % 2 = 0
    · exact scrA hA hB ⟨n + 1, hn⟩ h
    · have e := scrB hA hB ⟨n + 1, hn⟩ h (ih _)
      rw [outsAt0_B m c ⟨n + 1, hn⟩ h (show (n + 1) % 2 = 1 by omega) (show (n + 1) % 2 = 1 by omega)]
      frame_out
      rw [Idealize.ShloMosaic.read_unread_whole]
      exact e

/-- The outputs after the last point of a run. -/
theorem outs (hA : T16 2048 1024 (V m c main_v14) A) (hB : T16 2048 4096 (V m c main_v13) B)
    (t : Fin cfg0.N) (h : t.val % 2 = 1) :
    Tb3 (l := 1) (n := 512) (m := 1024) (φ := .f32) (outsAt0 m c t.val t.isLt).1 (fun _ => acc A B t.val)
    ∧ Tb3 (l := 1) (n := 512) (m := 1024) (φ := .bf16) (outsAt0 m c t.val t.isLt).2.1 (fun _ => acc A B t.val) := by
  have e := scrB hA hB t (by omega) (scr hA hB _ _)
  constructor
  · rw [outsAt0_B m c t (by omega) h h]
    frame_out
    rw [Idealize.ShloMosaic.read_unread_whole]
    exact e.lift _
  · rw [outsAt0_B m c t (by omega) h h]
    frame_out
    rw [Idealize.ShloMosaic.read_unread_whole]
    exact (e.truncf _).lift _

/-- The table of the result: the product of the first operand, transposed, and the second, by blocks of 1024 columns. -/
def res (A B : ℕ → ℕ → EReal) (h r d : ℕ) : EReal := ∑ k ∈ Finset.range 2048, A k r * B k (1024 * h + d)

/-- The first output after the call. -/
theorem arr2 (hA : T16 2048 1024 (V m c main_v14) A) (hB : T16 2048 4096 (V m c main_v13) B) :
    Tb3 (l := 4) (n := 1024) (m := 1024) (φ := .f32) ((dats m 0 c).arrAt 2 cfg0.N) (res A B) := fun h r d =>
  (dats m 0 c).arrAt_forall_of_covers 2 (fun y v => (v : EReal) = res A B (y 0).val (y 1).val (y 2).val) (by decide +kernel) (fun t hf y => by
    have ht := (flush0_2 t).mp hf
    have e := (outs hA hB t ht).1
    rw [after0_2]
    blk_simp [bx2 t]
    have ey : (y : S1x512x1024.Idx) = ix3 (n0 := 1) (n1 := 512) (n2 := 1024) (y 0) (y 1) (y 2) := ValueIdx.eq_ix3 y
    refine (congrArg (fun z : S1x512x1024.Idx => ((outsAt0 m c t.val t.isLt).1 z : EReal)) ey).trans ((e (y 0) (y 1) (y 2)).trans ?_)
    have h0 : (y 0).val < 1 := (y 0).isLt
    have h1 : (y 1).val < 512 := (y 1).isLt
    unfold acc res
    rw [ht]
    refine Finset.sum_congr rfl fun k _ => ?_
    congr 2
    · omega
    ) (ix3 h r d)

/-- The second output after the call. -/
theorem arr3 (hA : T16 2048 1024 (V m c main_v14) A) (hB : T16 2048 4096 (V m c main_v13) B) :
    Tb3 (l := 4) (n := 1024) (m := 1024) (φ := .bf16) ((dats m 0 c).arrAt 3 cfg0.N) (res A B) := fun h r d =>
  (dats m 0 c).arrAt_forall_of_covers 3 (fun y v => (v : EReal) = res A B (y 0).val (y 1).val (y 2).val) (by decide +kernel) (fun t hf y => by
    have ht := (flush0_3 t).mp hf
    have e := (outs hA hB t ht).2
    rw [after0_3]
    blk_simp [bx3 t]
    have ey : (y : S1x512x1024.Idx) = ix3 (n0 := 1) (n1 := 512) (n2 := 1024) (y 0) (y 1) (y 2) := ValueIdx.eq_ix3 y
    refine (congrArg (fun z : S1x512x1024.Idx => ((outsAt0 m c t.val t.isLt).2.1 z : EReal)) ey).trans ((e (y 0) (y 1) (y 2)).trans ?_)
    have h0 : (y 0).val < 1 := (y 0).isLt
    have h1 : (y 1).val < 512 := (y 1).isLt
    unfold acc res
    rw [ht]
    refine Finset.sum_congr rfl fun k _ => ?_
    congr 2
    · omega
    ) (ix3 h r d)

/-- The second operand, which the host computes: the gradient at the hidden layer. -/
theorem V_du (m : (ℓ : Loc nD τ sig) → Buf (Elt Ideal) ℓ) (c : Dev nD) : V m c main_v13 = (truncf (F := Ideal) .bf16
    (val_main_v12 (F := Ideal) (m ((c.tc : Thread nD τ).loc main_arg0)) (m ((c.tc : Thread nD τ).loc main_arg1))
      (m ((c.tc : Thread nD τ).loc main_arg2)) (m ((c.tc : Thread nD τ).loc main_arg3))) bitsLt_bf16_f32 : FVec Ideal S2048x4096 .bf16) := by
  unfold V
  simp only [hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results
  rfl

/-- The first operand: the input in the narrower format. -/
theorem V_h (m : (ℓ : Loc nD τ sig) → Buf (Elt Ideal) ℓ) (c : Dev nD) : V m c main_v14 = (truncf (F := Ideal) .bf16
    (m ((c.tc : Thread nD τ).loc main_arg0) : FVec Ideal S2048x1024 .f32) bitsLt_bf16_f32 : FVec Ideal S2048x1024 .bf16) := by
  unfold V
  simp only [hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results

/-- The reference's gradient, read as a table. -/
theorem ref (x0 : FVec Ideal S2048x1024 .f32) (x1 : FVec Ideal S1024x4096 .f32) (x2 : FVec Ideal S4096x1024 .f32) (x3 : FVec Ideal S2048x1024 .f32) :
    Tb3 (l := 4) (n := 1024) (m := 1024) (φ := .f32) (val_main_v16 (F := Ideal) x0 x1 x2 x3)
      (res (tab x0) (tab (n := 2048) (m := 4096) (φ := .f32) (val_main_v12 (F := Ideal) x0 x1 x2 x3))) := fun h r d => by
  rw [val_main_v16_apply, val_main_v15_apply, val_main_v14_apply,
    val_main_v13_apply]
  unfold res
  refine Eq.trans ?_ (Finset.sum_range _).symm
  refine Finset.sum_congr rfl fun k _ => ?_
  have hh := h.isLt
  have hr := r.isLt
  have hd := d.isLt
  have ea := tb_tab x0 k r
  have eb := tb_tab (n := 2048) (m := 4096) (φ := .f32) (val_main_v12 (F := Ideal) x0 x1 x2 x3) k ⟨1024 * h.val + d.val, by omega⟩
  rw [mul_comm]
  refine congrArg₂ (· * ·) (Eq.trans (congrArg _ ?_) ea) (Eq.trans (congrArg _ ?_) eb)
  · refine funext fun a => Fin.ext ?_
    match a with
    | ⟨0, _⟩ => rfl
    | ⟨1, _⟩ => show ((r.val * 4 + h.val) * 1024 + d.val) / 4096 = r.val; omega
  · refine funext fun a => Fin.ext ?_
    match a with
    | ⟨0, _⟩ => rfl
    | ⟨1, _⟩ => show ((r.val * 4 + h.val) * 1024 + d.val) % 4096 = 1024 * h.val + d.val; omega

/-- The kernel's two outputs are the reference's results. -/
theorem value : @Cert.algebraic_Kernel5Ideal_Reference5Ideal Cert.Kernel5Ideal.Gen.facts Cert.Reference5Ideal.Gen.facts := by
  intro m g m' g' _ hag
  refine ⟨_, _, Cert.Kernel5Ideal.Value.run_blocks m g, (θ_run _ _ _).mono (fun r h c => ?_) (Cert.Reference5Ideal.Value.run (F := Ideal) m' g')⟩
  obtain ⟨e0, e1, e2, e3, e4, e5⟩ := h c
  obtain ⟨a0, a1, a2, a3⟩ := hag c
  have hA : T16 2048 1024 (V m c main_v14) (tab (n := 2048) (m := 1024) (φ := .f32) (m ((c.tc : Thread nD τ).loc main_arg0))) := by
    rw [V_h]
    exact Tb.truncf (tb32 2048 1024 _) bitsLt_bf16_f32
  have hB : T16 2048 4096 (V m c main_v13) (tab (n := 2048) (m := 4096) (φ := .f32)
      (val_main_v12 (F := Ideal) (m ((c.tc : Thread nD τ).loc main_arg0)) (m ((c.tc : Thread nD τ).loc main_arg1))
        (m ((c.tc : Thread nD τ).loc main_arg2)) (m ((c.tc : Thread nD τ).loc main_arg3)))) := by
    rw [V_du]
    exact Tb.truncf (tb32 2048 4096 _) bitsLt_bf16_f32
  refine ⟨e0.trans ?_, e1.trans ?_, e2, e3, e4, e5⟩
  · clear e0 e1 e2 e3 e4 e5
    rw [val_main_v16_eq, a0, a1, a2, a3]
    exact (ref _ _ _ _).eq (arr2 hA hB)
  · clear e0 e1 e2 e3 e4 e5
    rw [val_main_v17_eq, a0, a1, a2, a3]
    exact Tb3.eq (φ := .bf16) (fun h r d => ref _ _ _ _ h r d) (arr3 hA hB)

end Cert.Mat.K5

end
-- ==== Proof.Pad.lean ====
/- The columns of the input projection's weight in the order the calls take them: the reordering with zero columns between, its inverse, and the
   sum over them. -/
module

public import proofs.«01_k».proof.Proof.Mat

@[expose] public section

noncomputable section

namespace Cert.Mat

open Idealize.ShloMosaic hiding ix2 ix3
open Idealize.ShloMosaic.ValueIdx (ix2 ix3)
open scoped BigOperators

variable {n M w w' : ℕ} {φ : FTy} {f : ℕ → ℕ → EReal}

/-- A slice of columns. -/
theorem Tb.slice {x : FVec Ideal ⟨2, ![n, M]⟩ φ} (hx : Tb x f) (o : ℕ) (h : (⟨2, ![n, M]⟩ : Shape).Slices ![0, o] ⟨2, ![n, w]⟩) :
    Tb (n := n) (m := w) (φ := φ) (extractStridedSlice ⟨2, ![n, w]⟩ ![0, o] x h) (fun r c => f r (o + c)) := fun r c => by
  have hb : o + w ≤ M := h.2 1
  refine (extractStridedSlice_apply ![0, o] x h (ix2 r c) (ix2 r (⟨o + c.val, by have := c.isLt; omega⟩ : Fin M)) fun a => ?_).trans (hx _ _)
  match a with
  | ⟨0, _⟩ => exact (Nat.zero_add _).symm
  | ⟨1, _⟩ => rfl

/-- Pieces side by side, read in the piece that holds the column. -/
theorem cat_at (xs : List ((s : Shape) × (s.Idx → Ideal φ))) (h : Shape.Concatenates (xs.map (·.1)) ⟨2, ![n, M]⟩ 1) (k : ℕ)
    {x : FVec Ideal ⟨2, ![n, w]⟩ φ} (hxk : xs[k]? = some ⟨⟨2, ![n, w]⟩, x⟩) (pre : ℕ)
    (hpre : (((xs.take k).map (·.1)).map fun s => if h : s.rank = 2 then s.size ((1 : Fin 2).cast h.symm) else 0).sum = pre)
    (hx : Tb x f) (r : Fin n) (c : Fin M) (lo : pre ≤ c.val) (hi : c.val < pre + w) :
    (concatenate ⟨2, ![n, M]⟩ 1 xs h (ix2 r c) : EReal) = f r.val (c.val - pre) := by
  obtain ⟨hk, hxk⟩ := List.getElem?_eq_some_iff.mp hxk
  refine (concatenate_apply_piece (t := ⟨2, ![n, M]⟩) 1 xs h (ix2 r c) k hk ⟨2, ![n, w]⟩ x hxk rfl pre hpre (ix2 r (⟨c.val - pre, by omega⟩ : Fin w))
    (fun b hb => ?_) ?_).trans (hx _ _)
  · match b with
    | ⟨0, _⟩ => rfl
    | ⟨1, _⟩ => exact absurd rfl hb
  · show pre + (c.val - pre) = c.val
    omega

/-- The zero columns in single precision. -/
theorem tb_zf (h : (⟨0, ![]⟩ : Shape).BroadcastsInDim ⟨2, ![n, M]⟩ ![]) :
    Tb (n := n) (m := M) (φ := .f32) (broadcastInDim ⟨2, ![n, M]⟩ ![] h (constant (F := Ideal) ⟨0, ![]⟩ .f32 0x00000000#32)) (fun _ _ => 0) :=
  fun _ _ => tb_czero (n := 1) (m := 1) 0 0

/-- The zero columns in half precision. -/
theorem tb_zb (h : (⟨0, ![]⟩ : Shape).BroadcastsInDim ⟨2, ![n, M]⟩ ![]) :
    Tb (n := n) (m := M) (φ := .bf16) (broadcastInDim ⟨2, ![n, M]⟩ ![] h (constant (F := Ideal) ⟨0, ![]⟩ .bf16 0x0000#16)) (fun _ _ => 0) :=
  fun _ _ => show Ideal.ofBits .bf16 0x0000#16 = 0 by simp [Ideal.ofBits, Ideal.ieee]

/-- A row in the order of the calls. -/
def padg (g : ℕ → EReal) (c : ℕ) : EReal :=
  if c < 1024 then g (2208 + c) else if c < 2048 then g (3232 + (c - 1024)) else if c < 3584 then g (0 + (c - 2048))
  else if c < 3840 then g (1920 + (c - 3584)) else if c < 4224 then g (1536 + (c - 3840)) else if c < 4288 then 0
  else if c < 4320 then g (2176 + (c - 4288)) else 0

/-- The place of a column in the order of the calls. -/
def unp (d : ℕ) : ℕ :=
  if d < 1536 then 2048 + d else if d < 1920 then 3840 + (d - 1536) else if d < 2176 then 3584 + (d - 1920)
  else if d < 2208 then 4288 + (d - 2176) else 0 + (d - 2208)

/-- The two are inverse. -/
theorem padg_unp (g : ℕ → EReal) {d : ℕ} (hd : d < 4256) : padg g (unp d) = g d := by
  unfold unp
  split
  · unfold padg
    rw [if_neg (by omega), if_neg (by omega), if_pos (by omega)]
    exact congrArg g (by omega)
  split
  · unfold padg
    rw [if_neg (by omega), if_neg (by omega), if_neg (by omega), if_neg (by omega), if_pos (by omega)]
    exact congrArg g (by omega)
  split
  · unfold padg
    rw [if_neg (by omega), if_neg (by omega), if_neg (by omega), if_pos (by omega)]
    exact congrArg g (by omega)
  split
  · unfold padg
    rw [if_neg (by omega), if_neg (by omega), if_neg (by omega), if_neg (by omega), if_neg (by omega), if_neg (by omega), if_pos (by omega)]
    exact congrArg g (by omega)
  by_cases h : d < 3232
  · unfold padg
    rw [if_pos (by omega)]
    exact congrArg g (by omega)
  · unfold padg
    rw [if_neg (by omega), if_pos (by omega)]
    exact congrArg g (by omega)

/-- A product in the order of the calls. -/
theorem padg_mul (g h : ℕ → EReal) (c : ℕ) : padg g c * padg h c = padg (fun k => g k * h k) c := by
  unfold padg
  repeat' split
  all_goals first
    | rfl
    | exact mul_zero _

/-- The sum in the order of the calls is the sum. -/
theorem sum_padg (g : ℕ → EReal) : ∑ c ∈ Finset.range 4352, padg g c = ∑ k ∈ Finset.range 4256, g k := by
  have e0 : ∑ c ∈ Finset.range 1024, padg g c = ∑ c ∈ Finset.range 1024, g (1536 + 384 + 256 + 32 + c) :=
    Finset.sum_congr rfl fun c hc => by
      have := Finset.mem_range.mp hc
      unfold padg
      rw [if_pos (by omega)]
  have e1 : ∑ c ∈ Finset.range 1024, padg g (1024 + c) = ∑ c ∈ Finset.range 1024, g (1536 + 384 + 256 + 32 + 1024 + c) :=
    Finset.sum_congr rfl fun c hc => by
      have := Finset.mem_range.mp hc
      unfold padg
      rw [if_neg (by omega), if_pos (by omega)]
      exact congrArg g (by omega)
  have e2 : ∑ c ∈ Finset.range 1536, padg g (1024 + 1024 + c) = ∑ c ∈ Finset.range 1536, g c :=
    Finset.sum_congr rfl fun c hc => by
      have := Finset.mem_range.mp hc
      unfold padg
      rw [if_neg (by omega), if_neg (by omega), if_pos (by omega)]
      exact congrArg g (by omega)
  have e3 : ∑ c ∈ Finset.range 256, padg g (1024 + 1024 + 1536 + c) = ∑ c ∈ Finset.range 256, g (1536 + 384 + c) :=
    Finset.sum_congr rfl fun c hc => by
      have := Finset.mem_range.mp hc
      unfold padg
      rw [if_neg (by omega), if_neg (by omega), if_neg (by omega), if_pos (by omega)]
      exact congrArg g (by omega)
  have e4 : ∑ c ∈ Finset.range 384, padg g (1024 + 1024 + 1536 + 256 + c) = ∑ c ∈ Finset.range 384, g (1536 + c) :=
    Finset.sum_congr rfl fun c hc => by
      have := Finset.mem_range.mp hc
      unfold padg
      rw [if_neg (by omega), if_neg (by omega), if_neg (by omega), if_neg (by omega), if_pos (by omega)]
      exact congrArg g (by omega)
  have e5 : ∑ c ∈ Finset.range 64, padg g (1024 + 1024 + 1536 + 256 + 384 + c) = 0 :=
    Finset.sum_eq_zero fun c hc => by
      have := Finset.mem_range.mp hc
      unfold padg
      rw [if_neg (by omega), if_neg (by omega), if_neg (by omega), if_neg (by omega), if_neg (by omega), if_pos (by omega)]
  have e6 : ∑ c ∈ Finset.range 32, padg g (1024 + 1024 + 1536 + 256 + 384 + 64 + c) = ∑ c ∈ Finset.range 32, g (1536 + 384 + 256 + c) :=
    Finset.sum_congr rfl fun c hc => by
      have := Finset.mem_range.mp hc
      unfold padg
      rw [if_neg (by omega), if_neg (by omega), if_neg (by omega), if_neg (by omega), if_neg (by omega), if_neg (by omega), if_pos (by omega)]
      exact congrArg g (by omega)
  have e7 : ∑ c ∈ Finset.range 32, padg g (1024 + 1024 + 1536 + 256 + 384 + 64 + 32 + c) = 0 :=
    Finset.sum_eq_zero fun c hc => by
      unfold padg
      rw [if_neg (by omega), if_neg (by omega), if_neg (by omega), if_neg (by omega), if_neg (by omega), if_neg (by omega), if_neg (by omega)]
  rw [show (4352 : ℕ) = 1024 + 1024 + 1536 + 256 + 384 + 64 + 32 + 32 from rfl, show (4256 : ℕ) = 1536 + 384 + 256 + 32 + 1024 + 1024 from rfl]
  rw [Finset.sum_range_add _ (1024 + 1024 + 1536 + 256 + 384 + 64 + 32), Finset.sum_range_add _ (1024 + 1024 + 1536 + 256 + 384 + 64),
    Finset.sum_range_add _ (1024 + 1024 + 1536 + 256 + 384), Finset.sum_range_add _ (1024 + 1024 + 1536 + 256), Finset.sum_range_add _ (1024 + 1024 + 1536),
    Finset.sum_range_add _ (1024 + 1024), Finset.sum_range_add _ 1024, e0, e1, e2, e3, e4, e5, e6, e7,
    Finset.sum_range_add _ (1536 + 384 + 256 + 32 + 1024), Finset.sum_range_add _ (1536 + 384 + 256 + 32), Finset.sum_range_add _ (1536 + 384 + 256),
    Finset.sum_range_add _ (1536 + 384), Finset.sum_range_add _ 1536]
  abel

/-- The reordered columns, with zeros between, as the host makes them. -/
theorem Tb.pad {x : FVec Ideal ⟨2, ![n, 4256]⟩ φ} (hx : Tb x f) {z : FVec Ideal ⟨2, ![n, 64]⟩ φ} {z' : FVec Ideal ⟨2, ![n, 32]⟩ φ}
    (hz : Tb z fun _ _ => 0) (hz' : Tb z' fun _ _ => 0)
    (h0 : (⟨2, ![n, 4256]⟩ : Shape).Slices ![0, 2208] ⟨2, ![n, 1024]⟩) (h1 : (⟨2, ![n, 4256]⟩ : Shape).Slices ![0, 3232] ⟨2, ![n, 1024]⟩)
    (h2 : (⟨2, ![n, 4256]⟩ : Shape).Slices ![0, 0] ⟨2, ![n, 1536]⟩) (h3 : (⟨2, ![n, 4256]⟩ : Shape).Slices ![0, 1920] ⟨2, ![n, 256]⟩)
    (h4 : (⟨2, ![n, 4256]⟩ : Shape).Slices ![0, 1536] ⟨2, ![n, 384]⟩) (h6 : (⟨2, ![n, 4256]⟩ : Shape).Slices ![0, 2176] ⟨2, ![n, 32]⟩)
    (hc : Shape.Concatenates [⟨2, ![n, 1024]⟩, ⟨2, ![n, 1024]⟩, ⟨2, ![n, 1536]⟩, ⟨2, ![n, 256]⟩, ⟨2, ![n, 384]⟩, ⟨2, ![n, 64]⟩, ⟨2, ![n, 32]⟩, ⟨2, ![n, 32]⟩]
      ⟨2, ![n, 4352]⟩ 1) :
    Tb (n := n) (m := 4352) (φ := φ) (concatenate ⟨2, ![n, 4352]⟩ 1 [⟨⟨2, ![n, 1024]⟩, extractStridedSlice ⟨2, ![n, 1024]⟩ ![0, 2208] x h0⟩,
      ⟨⟨2, ![n, 1024]⟩, extractStridedSlice ⟨2, ![n, 1024]⟩ ![0, 3232] x h1⟩, ⟨⟨2, ![n, 1536]⟩, extractStridedSlice ⟨2, ![n, 1536]⟩ ![0, 0] x h2⟩,
      ⟨⟨2, ![n, 256]⟩, extractStridedSlice ⟨2, ![n, 256]⟩ ![0, 1920] x h3⟩, ⟨⟨2, ![n, 384]⟩, extractStridedSlice ⟨2, ![n, 384]⟩ ![0, 1536] x h4⟩,
      ⟨⟨2, ![n, 64]⟩, z⟩, ⟨⟨2, ![n, 32]⟩, extractStridedSlice ⟨2, ![n, 32]⟩ ![0, 2176] x h6⟩, ⟨⟨2, ![n, 32]⟩, z'⟩] hc) (fun r => padg (f r)) := fun r c => by
  have hlt := c.isLt
  unfold padg
  dsimp only
  split
  · refine cat_at _ _ 0 ?_ 0 ?_ (hx.slice 2208 h0) r c ?_ ?_ <;> first | rfl | omega
  split
  · refine cat_at _ _ 1 ?_ 1024 ?_ (hx.slice 3232 h1) r c ?_ ?_ <;> first | rfl | omega
  split
  · refine cat_at _ _ 2 ?_ 2048 ?_ (hx.slice 0 h2) r c ?_ ?_ <;> first | rfl | omega
  split
  · refine cat_at _ _ 3 ?_ 3584 ?_ (hx.slice 1920 h3) r c ?_ ?_ <;> first | rfl | omega
  split
  · refine cat_at _ _ 4 ?_ 3840 ?_ (hx.slice 1536 h4) r c ?_ ?_ <;> first | rfl | omega
  split
  · refine cat_at _ _ 5 ?_ 4224 ?_ hz r c ?_ ?_ <;> first | rfl | omega
  split
  · refine cat_at _ _ 6 ?_ 4288 ?_ (hx.slice 2176 h6) r c ?_ ?_ <;> first | rfl | omega
  · refine cat_at _ _ 7 ?_ 4320 ?_ hz' r c ?_ ?_ <;> first | rfl | omega

/-- The columns back in their own order, as the host makes them. -/
theorem Tb.unpad {x : FVec Ideal ⟨2, ![n, 4352]⟩ φ} (hx : Tb x f)
    (h0 : (⟨2, ![n, 4352]⟩ : Shape).Slices ![0, 2048] ⟨2, ![n, 1536]⟩) (h1 : (⟨2, ![n, 4352]⟩ : Shape).Slices ![0, 3840] ⟨2, ![n, 384]⟩)
    (h2 : (⟨2, ![n, 4352]⟩ : Shape).Slices ![0, 3584] ⟨2, ![n, 256]⟩) (h3 : (⟨2, ![n, 4352]⟩ : Shape).Slices ![0, 4288] ⟨2, ![n, 32]⟩)
    (h4 : (⟨2, ![n, 4352]⟩ : Shape).Slices ![0, 0] ⟨2, ![n, 2048]⟩)
    (hc : Shape.Concatenates [⟨2, ![n, 1536]⟩, ⟨2, ![n, 384]⟩, ⟨2, ![n, 256]⟩, ⟨2, ![n, 32]⟩, ⟨2, ![n, 2048]⟩] ⟨2, ![n, 4256]⟩ 1) :
    Tb (n := n) (m := 4256) (φ := φ) (concatenate ⟨2, ![n, 4256]⟩ 1 [⟨⟨2, ![n, 1536]⟩, extractStridedSlice ⟨2, ![n, 1536]⟩ ![0, 2048] x h0⟩,
      ⟨⟨2, ![n, 384]⟩, extractStridedSlice ⟨2, ![n, 384]⟩ ![0, 3840] x h1⟩, ⟨⟨2, ![n, 256]⟩, extractStridedSlice ⟨2, ![n, 256]⟩ ![0, 3584] x h2⟩,
      ⟨⟨2, ![n, 32]⟩, extractStridedSlice ⟨2, ![n, 32]⟩ ![0, 4288] x h3⟩, ⟨⟨2, ![n, 2048]⟩, extractStridedSlice ⟨2, ![n, 2048]⟩ ![0, 0] x h4⟩] hc)
      (fun r d => f r (unp d)) := fun r c => by
  have hlt := c.isLt
  unfold unp
  dsimp only
  split
  · refine cat_at _ _ 0 ?_ 0 ?_ (hx.slice 2048 h0) r c ?_ ?_ <;> first | rfl | omega
  split
  · refine cat_at _ _ 1 ?_ 1536 ?_ (hx.slice 3840 h1) r c ?_ ?_ <;> first | rfl | omega
  split
  · refine cat_at _ _ 2 ?_ 1920 ?_ (hx.slice 3584 h2) r c ?_ ?_ <;> first | rfl | omega
  split
  · refine cat_at _ _ 3 ?_ 2176 ?_ (hx.slice 4288 h3) r c ?_ ?_ <;> first | rfl | omega
  · refine cat_at _ _ 4 ?_ 2208 ?_ (hx.slice 0 h4) r c ?_ ?_ <;> first | rfl | omega

end Cert.Mat

end
-- ==== Proof.Dx6.lean ====
/- The gradient of the input of the input projection: what the call leaves in its output. -/
module

public import proofs.«01_k».proof.Proof.Pad
public import Idealize.ShloMosaic.Lib.Pipeline.ReadBack
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Defs

@[expose] public section

set_option maxRecDepth 16384

noncomputable section

namespace Cert.Mat.K6

open Idealize.ShloMosaic hiding ix2 ix3
open Idealize.ShloMosaic.TcCoe Idealize.ShloMosaic.Tactic
open Idealize.ShloMosaic.ValueIdx (ix2 ix3)
open Cert.Kernel6Ideal Cert.Kernel6Ideal.Gen Idealize.SL Idealize.SL.Sem
open scoped BigOperators

theorem bx0 : ∀ t : Fin cfg0.N, win0_0.index t = ![t.val / 2, t.val % 2] := (by decide +kernel : ∀ t : Fin grid0.N, _)
theorem bx1 : ∀ t : Fin cfg0.N, win0_1.index t = ![0, t.val % 2] := (by decide +kernel : ∀ t : Fin grid0.N, _)
theorem bx2 : ∀ t : Fin cfg0.N, win0_2.index t = ![t.val / 2, 0] := (by decide +kernel : ∀ t : Fin grid0.N, _)
theorem ltN (t : Fin cfg0.N) : t.val < 8 := lt_of_lt_of_eq t.isLt N_0

variable {m : (ℓ : Loc nD τ sig) → Buf (Elt Ideal) ℓ} {c : Dev nD} {A B : ℕ → ℕ → EReal}

/-- The block of the first operand at a grid point. -/
theorem blk0 (hA : T32 2048 4352 (V m c main_v8) A) (t : Fin cfg0.N) :
    T32 512 2176 (iblk m c 0 t) (fun r d => A (512 * (t.val / 2) + r) (2176 * (t.val % 2) + d)) := fun r d => by
  have e : iblk m c 0 t (ix2 r d) = V m c main_v8 (ix2 (⟨512 * (t.val / 2) + r.val, by have := r.isLt; have := ltN t; omega⟩ : Fin 2048)
      (⟨2176 * (t.val % 2) + d.val, by have := d.isLt; have := ltN t; omega⟩ : Fin 4352)) := by
    unfold iblk
    generalize V m c = W
    blk_ext [bx0 t]
    all_goals first
      | (show t.val / 2 * 512 + r.val = _; omega)
      | (show t.val % 2 * 2176 + d.val = _; omega)
  exact e.trans (hA _ _)

/-- The block of the second operand at a grid point. -/
theorem blk1 (hB : T16 1024 4352 (V m c main_v18) B) (t : Fin cfg0.N) :
    T16 1024 2176 (iblk m c 1 t) (fun r d => B r (2176 * (t.val % 2) + d)) := fun r d => by
  have e : iblk m c 1 t (ix2 r d) = V m c main_v18 (ix2 r (⟨2176 * (t.val % 2) + d.val, by have := d.isLt; have := ltN t; omega⟩ : Fin 4352)) := by
    unfold iblk
    generalize V m c = W
    blk_ext [bx1 t]
    all_goals (show t.val % 2 * 2176 + d.val = _; omega)
  exact e.trans (hB _ _)

/-- The product of the two blocks at a grid point. -/
theorem pay1 {x : FVec Ideal S512x2176 .f32} {y : FVec Ideal S1024x2176 .bf16} {f g : ℕ → ℕ → EReal} (hx : Tb x f) (hy : Tb y g) :
    Tb (k0_pay1 x y) (fun r d => ∑ k ∈ Finset.range 2176, f r k * g d k) :=
  Tb.dotNT ((hx.self _).truncf _) (hy.self _)

/-- The table of the product up to a tile. -/
def acc (A B : ℕ → ℕ → EReal) (t r d : ℕ) : EReal :=
  ∑ k ∈ Finset.range (2176 * (t % 2 + 1)), A (512 * (t / 2) + r) k * B d k

/-- The scratch after the first point of a run: the product of its tiles. -/
theorem scrA (hA : T32 2048 4352 (V m c main_v8) A) (hB : T16 1024 4352 (V m c main_v18) B)
    (t : Fin cfg0.N) (h : t.val % 2 = 0) : T32 512 1024 (outsAt0 m c t.val t.isLt).2 (acc A B t.val) := by
  rw [outsAt0_A m c t h (by omega) (by omega)]
  frame_out
  refine ((pay1 (blk0 hA t) (blk1 hB t)).self _).congr fun r d _ _ => ?_
  unfold acc
  rw [h]
  exact Finset.sum_congr rfl fun k _ => by rw [Nat.mul_zero, Nat.zero_add]

/-- The scratch after a later point of a run: the product of the point's tiles added. -/
theorem scrB (hA : T32 2048 4352 (V m c main_v8) A) (hB : T16 1024 4352 (V m c main_v18) B)
    (t : Fin cfg0.N) (h : ¬ t.val % 2 = 0)
    (ih : T32 512 1024 (outsAt0 m c (t.val - 1) (Nat.lt_of_le_of_lt (Nat.sub_le _ _) t.isLt)).2 (acc A B (t.val - 1))) :
    T32 512 1024 (k0_pay3 (iblk m c 0 t) (iblk m c 1 t) (outsAt0 m c (t.val - 1) (Nat.lt_of_le_of_lt (Nat.sub_le _ _) t.isLt)).2)
      (acc A B t.val) := by
  refine ((ih.addf (pay1 (blk0 hA t) (blk1 hB t))).self _).congr fun r d _ _ => ?_
  have e : (t.val - 1) % 2 + 1 = t.val % 2 := by omega
  have e' : (t.val - 1) / 2 = t.val / 2 := by omega
  unfold acc
  rw [e, e']
  exact sum_tile (fun k => A (512 * (t.val / 2) + r) k * B d k) (t.val % 2) 2176

/-- The scratch after any point. -/
theorem scr (hA : T32 2048 4352 (V m c main_v8) A) (hB : T16 1024 4352 (V m c main_v18) B) :
    ∀ (n : ℕ) (hn : n < cfg0.N), T32 512 1024 (outsAt0 m c n hn).2 (acc A B n) := by
  intro n
  induction n with
  | zero => exact fun hn => scrA hA hB ⟨0, hn⟩ (Nat.zero_mod _)
  | succ n ih =>
    intro hn
    by_cases h : (n + 1) % 2 = 0
    · exact scrA hA hB ⟨n + 1, hn⟩ h
    · have e := scrB hA hB ⟨n + 1, hn⟩ h (ih _)
      rw [outsAt0_B m c ⟨n + 1, hn⟩ h (show (n + 1) % 2 = 1 by omega) (show (n + 1) % 2 = 1 by omega)]
      frame_out
      rw [Idealize.ShloMosaic.read_unread_whole]
      exact e

/-- The output after the last point of a run. -/
theorem outs (hA : T32 2048 4352 (V m c main_v8) A) (hB : T16 1024 4352 (V m c main_v18) B)
    (t : Fin cfg0.N) (h : t.val % 2 = 1) : T32 512 1024 (outsAt0 m c t.val t.isLt).1 (acc A B t.val) := by
  have e := scrB hA hB t (by omega) (scr hA hB _ _)
  rw [outsAt0_B m c t (by omega) h h]
  frame_out
  rw [Idealize.ShloMosaic.read_unread_whole]
  exact e

/-- The table of the result: the product of the first operand and the second, transposed. -/
def res (A B : ℕ → ℕ → EReal) (r d : ℕ) : EReal := ∑ k ∈ Finset.range 4352, A r k * B d k

/-- The output after the call. -/
theorem arr2 (hA : T32 2048 4352 (V m c main_v8) A) (hB : T16 1024 4352 (V m c main_v18) B) :
    T32 2048 1024 ((dats m 0 c).arrAt 2 cfg0.N) (res A B) := fun r d =>
  (dats m 0 c).arrAt_forall_of_covers 2 (fun y v => (v : EReal) = res A B (y 0).val (y 1).val) (by decide +kernel) (fun t hf y => by
    have ht := (flush0_2 t).mp hf
    have e := outs hA hB t ht
    rw [after0_2]
    blk_simp [bx2 t]
    have ey : (y : S512x1024.Idx) = ix2 (n0 := 512) (n1 := 1024) (y 0) (y 1) := ValueIdx.eq_ix2 y
    refine (congrArg (fun z : S512x1024.Idx => ((outsAt0 m c t.val t.isLt).1 z : EReal)) ey).trans ((e (y 0) (y 1)).trans ?_)
    have h0 : (y 0).val < 512 := (y 0).isLt
    unfold acc res
    rw [ht]
    refine Finset.sum_congr rfl fun k _ => ?_
    congr 2
    · omega
    ) (ix2 r d)

/-- The first operand: the cotangent's columns in the order of the call. -/
theorem V_x (m : (ℓ : Loc nD τ sig) → Buf (Elt Ideal) ℓ) (c : Dev nD) : V m c main_v8 = (concatenate S2048x4352 1 [⟨S2048x1024, extractStridedSlice S2048x1024 ![0, 2208] ((m ((c.tc : Thread nD τ).loc main_arg1) : FVec Ideal S2048x4256 .f32)) slices_S2048x4256_S2048x1024_0_2208⟩,
      ⟨S2048x1024, extractStridedSlice S2048x1024 ![0, 3232] ((m ((c.tc : Thread nD τ).loc main_arg1) : FVec Ideal S2048x4256 .f32)) slices_S2048x4256_S2048x1024_0_3232⟩,
      ⟨S2048x1536, extractStridedSlice S2048x1536 ![0, 0] ((m ((c.tc : Thread nD τ).loc main_arg1) : FVec Ideal S2048x4256 .f32)) slices_S2048x4256_S2048x1536_0_0⟩,
      ⟨S2048x256, extractStridedSlice S2048x256 ![0, 1920] ((m ((c.tc : Thread nD τ).loc main_arg1) : FVec Ideal S2048x4256 .f32)) slices_S2048x4256_S2048x256_0_1920⟩,
      ⟨S2048x384, extractStridedSlice S2048x384 ![0, 1536] ((m ((c.tc : Thread nD τ).loc main_arg1) : FVec Ideal S2048x4256 .f32)) slices_S2048x4256_S2048x384_0_1536⟩,
      ⟨S2048x64, broadcastInDim S2048x64 ![] bcast_S_S2048x64 (constant S_ .f32 0x00000000#32)⟩,
      ⟨S2048x32, extractStridedSlice S2048x32 ![0, 2176] ((m ((c.tc : Thread nD τ).loc main_arg1) : FVec Ideal S2048x4256 .f32)) slices_S2048x4256_S2048x32_0_2176⟩, ⟨S2048x32, broadcastInDim S2048x32 ![] bcast_S_S2048x32 (constant S_ .f32 0x00000000#32)⟩]
      concatenates_S2048x1024_S2048x1024_S2048x1536_S2048x256_S2048x384_S2048x64_S2048x32_S2048x32_S2048x4352_d1 : FVec Ideal S2048x4352 .f32) := by
  unfold V
  simp only [hostOps0, List.flatten_cons, List.flatten_nil, List.append_nil]
  after_results
  rfl

/-- The second operand: the weight's columns in the order of the call. -/
theorem V_w (m : (ℓ : Loc nD τ sig) → Buf (Elt Ideal) ℓ) (c : Dev nD) : V m c main_v18 = (concatenate S1024x4352 1 [⟨S1024x1024, extractStridedSlice S1024x1024 ![0, 2208] ((truncf (F := Ideal) .bf16 (m ((c.tc : Thread nD τ).loc main_arg0) : FVec Ideal S1024x4256 .f32) bitsLt_bf16_f32 : FVec Ideal S1024x4256 .bf16)) slices_S1024x4256_S1024x1024_0_2208⟩,
      ⟨S1024x1024, extractStridedSlice S1024x1024 ![0, 3232] ((truncf (F := Ideal) .bf16 (m ((c.tc : Thread nD τ).loc main_arg0) : FVec Ideal S1024x4256 .f32) bitsLt_bf16_f32 : FVec Ideal S1024x4256 .bf16)) slices_S1024x4256_S1024x1024_0_3232⟩,
      ⟨S1024x1536, extractStridedSlice S1024x1536 ![0, 0] ((truncf (F := Ideal) .bf16 (m ((c.tc : Thread nD τ).loc main_arg0) : FVec Ideal S1024x4256 .f32) bitsLt_bf16_f32 : FVec Ideal S1024x4256 .bf16)) slices_S1024x4256_S1024x1536_0_0⟩,
      ⟨S1024x256, extractStridedSlice S1024x256 ![0, 1920] ((truncf (F := Ideal) .bf16 (m ((c.tc : Thread nD τ).loc main_arg0) : FVec Ideal S1024x4256 .f32) bitsLt_bf16_f32 : FVec Ideal S1024x4256 .bf16)) slices_S1024x4256_S1024x256_0_1920⟩,
      ⟨S1024x384, extractStridedSlice S1024x384 ![0, 1536] ((truncf (F := Ideal) .bf16 (m ((c.tc : Thread nD τ).loc main_arg0) : FVec Ideal S1024x4256 .f32) bitsLt_bf16_f32 : FVec Ideal S1024x4256 .bf16)) slices_S1024x4256_S1024x384_0_1536⟩,
      ⟨S1024x64, broadcastInDim S1024x64 ![] bcast_S_S1024x64 (constant S_ .bf16 0x0000#16)⟩,
      ⟨S1024x32, extractStridedSlice S1024x32 ![0, 2176] ((truncf (F := Ideal) .bf16 (m ((c.tc : Thread nD τ).loc main_arg0) : FVec Ideal S1024x4256 .f32) bitsLt_bf16_f32 : FVec Ideal S1024x4256 .bf16)) slices_S1024x4256_S1024x32_0_2176⟩, ⟨S1024x32, broadcastInDim S1024x32 ![] bcast_S_S1024x32 (constant S_ .bf16 0x0000#16)⟩]
      concatenates_S1024x1024_S1024x1024_S1024x1536_S1024x256_S1024x384_S1024x64_S1024x32_S1024x32_S1024x4352_d1 : FVec Ideal S1024x4352 .bf16) := by
  unfold V
  simp only [hostOps0, List.flatten_cons, List.flatten_nil, List.append_nil]
  after_results
  rfl

/-- The reference's gradient, read as a table. -/
theorem ref (x0 : FVec Ideal S1024x4256 .f32) (x1 : FVec Ideal S2048x4256 .f32) :
    T32 2048 1024 (Cert.Reference6Ideal.Read.val_main_v2 (F := Ideal) x0 x1)
      (res (fun r => padg (tab x1 r)) (fun r => padg (tab x0 r))) := fun r d => by
  rw [Cert.Reference6Ideal.Read.val_main_v2_apply]
  unfold res
  refine Eq.trans ?_ (Finset.sum_congr rfl fun k _ => (padg_mul (tab x1 r.val) (tab x0 d.val) k).symm)
  refine Eq.trans ?_ (sum_padg _).symm
  refine Eq.trans ?_ (Finset.sum_range _).symm
  refine Finset.sum_congr rfl fun k _ => ?_
  have ea := tb_tab x1 r k
  have eb := tb_tab x0 d k
  refine congrArg₂ (· * ·) (Eq.trans (congrArg _ ?_) ea) (Eq.trans (congrArg _ ?_) eb)
  · refine funext fun a => Fin.ext ?_
    match a with
    | ⟨0, _⟩ => rfl
    | ⟨1, _⟩ => rfl
  · refine funext fun a => Fin.ext ?_
    match a with
    | ⟨0, _⟩ => rfl
    | ⟨1, _⟩ => rfl

/-- The kernel's output is the reference's result. -/
theorem value : @Cert.algebraic_Kernel6Ideal_Reference6Ideal Cert.Kernel6Ideal.Gen.facts Cert.Reference6Ideal.Gen.facts := by
  intro m g m' g' _ hag
  refine ⟨_, Cert.Kernel6Ideal.Value.run_blocks m g, (θ_run _ _ _).mono (fun r h c => ?_) (Cert.Reference6Ideal.Value.run (F := Ideal) m' g')⟩
  obtain ⟨e0, e2, e3⟩ := h c
  obtain ⟨a0, a1⟩ := hag c
  have hA : T32 2048 4352 (V m c main_v8)
      (fun r => padg (tab (n := 2048) (m := 4256) (φ := .f32) (m ((c.tc : Thread nD τ).loc main_arg1)) r)) := by
    rw [V_x]
    exact Tb.pad (tb32 2048 4256 _) (tb_zf _) (tb_zf _) _ _ _ _ _ _ _
  have hB : T16 1024 4352 (V m c main_v18)
      (fun r => padg (tab (n := 1024) (m := 4256) (φ := .f32) (m ((c.tc : Thread nD τ).loc main_arg0)) r)) := by
    rw [V_w]
    exact Tb.pad (Tb.truncf (tb32 1024 4256 _) bitsLt_bf16_f32) (tb_zb _) (tb_zb _) _ _ _ _ _ _ _
  refine ⟨e0.trans ?_, e2, e3⟩
  clear e0 e2 e3
  rw [Cert.Reference6Ideal.Read.val_main_v2_eq, a0, a1]
  exact (ref _ _).eq (arr2 hA hB)

end Cert.Mat.K6

end
-- ==== Proof.Dw7.lean ====
/- The gradient of the weight of the input projection: what the call leaves in its output. -/
module

public import proofs.«01_k».proof.Proof.Pad
public import Idealize.ShloMosaic.Lib.Pipeline.ReadBack
public import proofs.«01_k».proof.Proof.Gen.Kernel7Ideal.Frame
public import proofs.«01_k».proof.Proof.Gen.Reference7Ideal.Run
public import proofs.«01_k».proof.Proof.Gen.Reference7Ideal.Read
public import proofs.«01_k».proof.Defs

@[expose] public section

set_option maxRecDepth 16384

noncomputable section

namespace Cert.Mat.K7

open Idealize.ShloMosaic hiding ix2 ix3
open Idealize.ShloMosaic.TcCoe Idealize.ShloMosaic.Tactic
open Idealize.ShloMosaic.ValueIdx (ix2 ix3)
open Cert.Kernel7Ideal Cert.Kernel7Ideal.Gen Idealize.SL Idealize.SL.Sem
open scoped BigOperators

theorem bx0 : ∀ t : Fin cfg0.N, win0_0.index t = ![t.val % 2, t.val / 4] := (by decide +kernel : ∀ t : Fin grid0.N, _)
theorem bx1 : ∀ t : Fin cfg0.N, win0_1.index t = ![t.val % 2, t.val / 2 % 2] := (by decide +kernel : ∀ t : Fin grid0.N, _)
theorem bx2 : ∀ t : Fin cfg0.N, win0_2.index t = ![t.val / 4, t.val / 2 % 2] := (by decide +kernel : ∀ t : Fin grid0.N, _)
theorem ltN (t : Fin cfg0.N) : t.val < 8 := lt_of_lt_of_eq t.isLt N_0

variable {m : (ℓ : Loc nD τ sig) → Buf (Elt Ideal) ℓ} {c : Dev nD} {A B : ℕ → ℕ → EReal}

/-- The block of the first operand at a grid point. -/
theorem blk0 (hA : T16 2048 1024 (V m c main_v0) A) (t : Fin cfg0.N) :
    T16 1024 512 (iblk m c 0 t) (fun r d => A (1024 * (t.val % 2) + r) (512 * (t.val / 4) + d)) := fun r d => by
  have e : iblk m c 0 t (ix2 r d) = V m c main_v0 (ix2 (⟨1024 * (t.val % 2) + r.val, by have := r.isLt; have := ltN t; omega⟩ : Fin 2048)
      (⟨512 * (t.val / 4) + d.val, by have := d.isLt; have := ltN t; omega⟩ : Fin 1024)) := by
    unfold iblk
    generalize V m c = W
    blk_ext [bx0 t]
    all_goals first
      | (show t.val % 2 * 1024 + r.val = _; omega)
      | (show t.val / 4 * 512 + d.val = _; omega)
  exact e.trans (hA _ _)

/-- The block of the second operand at a grid point. -/
theorem blk1 (hB : T32 2048 4352 (V m c main_v9) B) (t : Fin cfg0.N) :
    T32 1024 2176 (iblk m c 1 t) (fun r d => B (1024 * (t.val % 2) + r) (2176 * (t.val / 2 % 2) + d)) := fun r d => by
  have e : iblk m c 1 t (ix2 r d) = V m c main_v9 (ix2 (⟨1024 * (t.val % 2) + r.val, by have := r.isLt; have := ltN t; omega⟩ : Fin 2048)
      (⟨2176 * (t.val / 2 % 2) + d.val, by have := d.isLt; have := ltN t; omega⟩ : Fin 4352)) := by
    unfold iblk
    generalize V m c = W
    blk_ext [bx1 t]
    all_goals first
      | (show t.val % 2 * 1024 + r.val = _; omega)
      | (show t.val / 2 % 2 * 2176 + d.val = _; omega)
  exact e.trans (hB _ _)

/-- The product of the two blocks at a grid point. -/
theorem pay1 {x : FVec Ideal S1024x512 .bf16} {y : FVec Ideal S1024x2176 .f32} {f g : ℕ → ℕ → EReal} (hx : Tb x f) (hy : Tb y g) :
    Tb (k0_pay1 x y) (fun r d => ∑ k ∈ Finset.range 1024, f k r * g k d) :=
  Tb.dotTN (hx.self _) ((hy.self _).truncf _) _

/-- The table of the product up to a tile. -/
def acc (A B : ℕ → ℕ → EReal) (t r d : ℕ) : EReal :=
  ∑ k ∈ Finset.range (1024 * (t % 2 + 1)), A k (512 * (t / 4) + r) * B k (2176 * (t / 2 % 2) + d)

/-- The scratch after the first point of a run: the product of its tiles. -/
theorem scrA (hA : T16 2048 1024 (V m c main_v0) A) (hB : T32 2048 4352 (V m c main_v9) B)
    (t : Fin cfg0.N) (h : t.val % 2 = 0) : T32 512 2176 (outsAt0 m c t.val t.isLt).2 (acc A B t.val) := by
  rw [outsAt0_A m c t h (by omega) (by omega)]
  frame_out
  refine ((pay1 (blk0 hA t) (blk1 hB t)).self _).congr fun r d _ _ => ?_
  unfold acc
  rw [h]
  exact Finset.sum_congr rfl fun k _ => by rw [Nat.mul_zero, Nat.zero_add]

/-- The scratch after a later point of a run: the product of the point's tiles added. -/
theorem scrB (hA : T16 2048 1024 (V m c main_v0) A) (hB : T32 2048 4352 (V m c main_v9) B)
    (t : Fin cfg0.N) (h : ¬ t.val % 2 = 0)
    (ih : T32 512 2176 (outsAt0 m c (t.val - 1) (Nat.lt_of_le_of_lt (Nat.sub_le _ _) t.isLt)).2 (acc A B (t.val - 1))) :
    T32 512 2176 (k0_pay3 (iblk m c 0 t) (iblk m c 1 t) (outsAt0 m c (t.val - 1) (Nat.lt_of_le_of_lt (Nat.sub_le _ _) t.isLt)).2)
      (acc A B t.val) := by
  refine ((ih.addf (pay1 (blk0 hA t) (blk1 hB t))).self _).congr fun r d _ _ => ?_
  have e : (t.val - 1) % 2 + 1 = t.val % 2 := by omega
  have e' : (t.val - 1) / 4 = t.val / 4 := by omega
  have e2 : (t.val - 1) / 2 = t.val / 2 := by omega
  unfold acc
  rw [e, e', e2]
  exact sum_tile (fun k => A k (512 * (t.val / 4) + r) * B k (2176 * (t.val / 2 % 2) + d)) (t.val % 2) 1024

/-- The scratch after any point. -/
theorem scr (hA : T16 2048 1024 (V m c main_v0) A) (hB : T32 2048 4352 (V m c main_v9) B) :
    ∀ (n : ℕ) (hn : n < cfg0.N), T32 512 2176 (outsAt0 m c n hn).2 (acc A B n) := by
  intro n
  induction n with
  | zero => exact fun hn => scrA hA hB ⟨0, hn⟩ (Nat.zero_mod _)
  | succ n ih =>
    intro hn
    by_cases h : (n + 1) % 2 = 0
    · exact scrA hA hB ⟨n + 1, hn⟩ h
    · have e := scrB hA hB ⟨n + 1, hn⟩ h (ih _)
      rw [outsAt0_B m c ⟨n + 1, hn⟩ h (show (n + 1) % 2 = 1 by omega) (show (n + 1) % 2 = 1 by omega)]
      frame_out
      rw [Idealize.ShloMosaic.read_unread_whole]
      exact e

/-- The output after the last point of a run. -/
theorem outs (hA : T16 2048 1024 (V m c main_v0) A) (hB : T32 2048 4352 (V m c main_v9) B)
    (t : Fin cfg0.N) (h : t.val % 2 = 1) : T32 512 2176 (outsAt0 m c t.val t.isLt).1 (acc A B t.val) := by
  have e := scrB hA hB t (by omega) (scr hA hB _ _)
  rw [outsAt0_B m c t (by omega) h h]
  frame_out
  rw [Idealize.ShloMosaic.read_unread_whole]
  exact e

/-- The table of the result: the product of the first operand, transposed, and the second. -/
def res (A B : ℕ → ℕ → EReal) (r d : ℕ) : EReal := ∑ k ∈ Finset.range 2048, A k r * B k d

/-- The output after the call. -/
theorem arr2 (hA : T16 2048 1024 (V m c main_v0) A) (hB : T32 2048 4352 (V m c main_v9) B) :
    T32 1024 4352 ((dats m 0 c).arrAt 2 cfg0.N) (res A B) := fun r d =>
  (dats m 0 c).arrAt_forall_of_covers 2 (fun y v => (v : EReal) = res A B (y 0).val (y 1).val) (by decide +kernel) (fun t hf y => by
    have ht := (flush0_2 t).mp hf
    have e := outs hA hB t ht
    rw [after0_2]
    blk_simp [bx2 t]
    have ey : (y : S512x2176.Idx) = ix2 (n0 := 512) (n1 := 2176) (y 0) (y 1) := ValueIdx.eq_ix2 y
    refine (congrArg (fun z : S512x2176.Idx => ((outsAt0 m c t.val t.isLt).1 z : EReal)) ey).trans ((e (y 0) (y 1)).trans ?_)
    have h0 : (y 0).val < 512 := (y 0).isLt
    unfold acc res
    rw [ht]
    rw [Nat.mul_comm 512, Nat.mul_comm 2176]) (ix2 r d)

/-- The first operand: the host's cast. -/
theorem V_v0 (m : (ℓ : Loc nD τ sig) → Buf (Elt Ideal) ℓ) (c : Dev nD) : V m c main_v0 = (truncf (F := Ideal) .bf16
    (m ((c.tc : Thread nD τ).loc main_arg0) : FVec Ideal S2048x1024 .f32) bitsLt_bf16_f32 : FVec Ideal S2048x1024 .bf16) := by
  unfold V V0
  simp only [hostOps0, List.flatten_cons, List.flatten_nil, List.append_nil]
  after_results

/-- The second operand: the cotangent's columns in the order of the call. -/
theorem V_x (m : (ℓ : Loc nD τ sig) → Buf (Elt Ideal) ℓ) (c : Dev nD) : V m c main_v9 = (concatenate S2048x4352 1 [⟨S2048x1024, extractStridedSlice S2048x1024 ![0, 2208] ((m ((c.tc : Thread nD τ).loc main_arg1) : FVec Ideal S2048x4256 .f32)) slices_S2048x4256_S2048x1024_0_2208⟩,
      ⟨S2048x1024, extractStridedSlice S2048x1024 ![0, 3232] ((m ((c.tc : Thread nD τ).loc main_arg1) : FVec Ideal S2048x4256 .f32)) slices_S2048x4256_S2048x1024_0_3232⟩,
      ⟨S2048x1536, extractStridedSlice S2048x1536 ![0, 0] ((m ((c.tc : Thread nD τ).loc main_arg1) : FVec Ideal S2048x4256 .f32)) slices_S2048x4256_S2048x1536_0_0⟩,
      ⟨S2048x256, extractStridedSlice S2048x256 ![0, 1920] ((m ((c.tc : Thread nD τ).loc main_arg1) : FVec Ideal S2048x4256 .f32)) slices_S2048x4256_S2048x256_0_1920⟩,
      ⟨S2048x384, extractStridedSlice S2048x384 ![0, 1536] ((m ((c.tc : Thread nD τ).loc main_arg1) : FVec Ideal S2048x4256 .f32)) slices_S2048x4256_S2048x384_0_1536⟩,
      ⟨S2048x64, broadcastInDim S2048x64 ![] bcast_S_S2048x64 (constant S_ .f32 0x00000000#32)⟩,
      ⟨S2048x32, extractStridedSlice S2048x32 ![0, 2176] ((m ((c.tc : Thread nD τ).loc main_arg1) : FVec Ideal S2048x4256 .f32)) slices_S2048x4256_S2048x32_0_2176⟩, ⟨S2048x32, broadcastInDim S2048x32 ![] bcast_S_S2048x32 (constant S_ .f32 0x00000000#32)⟩]
      concatenates_S2048x1024_S2048x1024_S2048x1536_S2048x256_S2048x384_S2048x64_S2048x32_S2048x32_S2048x4352_d1 : FVec Ideal S2048x4352 .f32) := by
  unfold V V0
  simp only [hostOps0, List.flatten_cons, List.flatten_nil, List.append_nil]
  after_results
  rfl

/-- The result: the call's output with its columns back in their own order. -/
theorem out_eq (m : (ℓ : Loc nD τ sig) → Buf (Elt Ideal) ℓ) (c : Dev nD) :
    Pipeline.afterTail₀ cfgs (dats m) 0 (V0 m) [hostOps1] c main_v16 = (concatenate S1024x4256 1 [⟨S1024x1536, extractStridedSlice S1024x1536 ![0, 2048] (((dats m 0 c).arrAt 2 cfg0.N : FVec Ideal S1024x4352 .f32)) slices_S1024x4352_S1024x1536_0_2048⟩,
      ⟨S1024x384, extractStridedSlice S1024x384 ![0, 3840] (((dats m 0 c).arrAt 2 cfg0.N : FVec Ideal S1024x4352 .f32)) slices_S1024x4352_S1024x384_0_3840⟩,
      ⟨S1024x256, extractStridedSlice S1024x256 ![0, 3584] (((dats m 0 c).arrAt 2 cfg0.N : FVec Ideal S1024x4352 .f32)) slices_S1024x4352_S1024x256_0_3584⟩,
      ⟨S1024x32, extractStridedSlice S1024x32 ![0, 4288] (((dats m 0 c).arrAt 2 cfg0.N : FVec Ideal S1024x4352 .f32)) slices_S1024x4352_S1024x32_0_4288⟩,
      ⟨S1024x2048, extractStridedSlice S1024x2048 ![0, 0] (((dats m 0 c).arrAt 2 cfg0.N : FVec Ideal S1024x4352 .f32)) slices_S1024x4352_S1024x2048_0_0⟩]
      concatenates_S1024x1536_S1024x384_S1024x256_S1024x32_S1024x2048_S1024x4256_d1 : FVec Ideal S1024x4256 .f32) := by
  have e := Pipeline.withArrays_arr spec0 launch0.win.arr_inj c (V0 m c) (fun w => (dats m 0 c).arrAt w cfg0.N) 2
  unfold Pipeline.afterTail₀
  simp only [hostOps1, List.flatten_cons, List.flatten_nil, List.append_nil]
  after_results
  exact congrArg (fun x : FVec Ideal S1024x4352 .f32 => (concatenate S1024x4256 1 [⟨S1024x1536, extractStridedSlice S1024x1536 ![0, 2048] (x) slices_S1024x4352_S1024x1536_0_2048⟩,
      ⟨S1024x384, extractStridedSlice S1024x384 ![0, 3840] (x) slices_S1024x4352_S1024x384_0_3840⟩,
      ⟨S1024x256, extractStridedSlice S1024x256 ![0, 3584] (x) slices_S1024x4352_S1024x256_0_3584⟩,
      ⟨S1024x32, extractStridedSlice S1024x32 ![0, 4288] (x) slices_S1024x4352_S1024x32_0_4288⟩,
      ⟨S1024x2048, extractStridedSlice S1024x2048 ![0, 0] (x) slices_S1024x4352_S1024x2048_0_0⟩]
      concatenates_S1024x1536_S1024x384_S1024x256_S1024x32_S1024x2048_S1024x4256_d1 : FVec Ideal S1024x4256 .f32)) e

/-- The run with the result and the arguments by name. -/
theorem run_named (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v16) = Pipeline.afterTail₀ cfgs (dats m) 0 (V0 m) [hostOps1] c main_v16
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c).2 main_v16 (Pipeline.mem_restRefs_of main_v16 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩) (run_main m ρ)

/-- The reference's gradient, read as a table. -/
theorem ref (x0 : FVec Ideal S2048x1024 .f32) (x1 : FVec Ideal S2048x4256 .f32) :
    T32 1024 4256 (Cert.Reference7Ideal.Read.val_main_v3 (F := Ideal) x0 x1) (res (tab x0) (tab x1)) := fun r d => by
  rw [Cert.Reference7Ideal.Read.val_main_v3_apply, Cert.Reference7Ideal.Read.val_main_v2_apply]
  unfold res
  refine Eq.trans ?_ (Finset.sum_range _).symm
  refine Finset.sum_congr rfl fun k _ => ?_
  have ea := tb_tab x0 k r
  have eb := tb_tab x1 k d
  rw [mul_comm]
  refine congrArg₂ (· * ·) (Eq.trans (congrArg _ ?_) ea) (Eq.trans (congrArg _ ?_) eb)
  · refine funext fun a => Fin.ext ?_
    match a with
    | ⟨0, _⟩ => rfl
    | ⟨1, _⟩ => rfl
  · refine funext fun a => Fin.ext ?_
    match a with
    | ⟨0, _⟩ => rfl
    | ⟨1, _⟩ => rfl

/-- The kernel's output is the reference's result. -/
theorem value : @Cert.algebraic_Kernel7Ideal_Reference7Ideal Cert.Kernel7Ideal.Gen.facts Cert.Reference7Ideal.Gen.facts := by
  intro m g m' g' _ hag
  refine ⟨_, run_named m g, (θ_run _ _ _).mono (fun r h c => ?_) (Cert.Reference7Ideal.Value.run (F := Ideal) m' g')⟩
  obtain ⟨e0, e2, e3⟩ := h c
  obtain ⟨a0, a1⟩ := hag c
  have hA : T16 2048 1024 (V m c main_v0) (tab (n := 2048) (m := 1024) (φ := .f32) (m ((c.tc : Thread nD τ).loc main_arg0))) := by
    rw [V_v0]
    exact Tb.truncf (tb32 2048 1024 _) bitsLt_bf16_f32
  have hB : T32 2048 4352 (V m c main_v9)
      (fun r => padg (tab (n := 2048) (m := 4256) (φ := .f32) (m ((c.tc : Thread nD τ).loc main_arg1)) r)) := by
    rw [V_x]
    exact Tb.pad (tb32 2048 4256 _) (tb_zf _) (tb_zf _) _ _ _ _ _ _ _
  refine ⟨e0.trans ?_, e2, e3⟩
  clear e0 e2 e3
  rw [Cert.Reference7Ideal.Read.val_main_v3_eq, a0, a1, out_eq]
  exact (ref _ _).eq ((Tb.unpad (arr2 hA hB) _ _ _ _ _ _).congr fun r d _ hd => Finset.sum_congr rfl fun k _ => congrArg (_ * ·) (padg_unp _ hd))

end Cert.Mat.K7

end
-- ==== Proof.Dn8.lean ====
/- The MLP's second product: what the call leaves in its output. -/
module

public import proofs.«01_k».proof.Proof.Mat
public import Idealize.ShloMosaic.Lib.Pipeline.ReadBack
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Defs

@[expose] public section

set_option maxRecDepth 16384

noncomputable section

namespace Cert.Mat.K8

open Idealize.ShloMosaic hiding ix2 ix3
open Idealize.ShloMosaic.TcCoe Idealize.ShloMosaic.Tactic
open Idealize.ShloMosaic.ValueIdx (ix2 ix3)
open Cert.Kernel8Ideal Cert.Kernel8Ideal.Gen Idealize.SL Idealize.SL.Sem
open scoped BigOperators

theorem bx0 : ∀ t : Fin cfg0.N, win0_0.index t = ![t.val / 4, t.val % 4] := (by decide +kernel : ∀ t : Fin grid0.N, _)
theorem bx1 : ∀ t : Fin cfg0.N, win0_1.index t = ![t.val % 4, 0, 0] := (by decide +kernel : ∀ t : Fin grid0.N, _)
theorem bx2 : ∀ t : Fin cfg0.N, win0_2.index t = ![t.val / 4, 0] := (by decide +kernel : ∀ t : Fin grid0.N, _)
theorem ltN (t : Fin cfg0.N) : t.val < 16 := lt_of_lt_of_eq t.isLt N_0

variable {m : (ℓ : Loc nD τ sig) → Buf (Elt Ideal) ℓ} {c : Dev nD} {A B : ℕ → ℕ → EReal}

/-- The block of the first operand at a grid point. -/
theorem blk0 (hA : T16 2048 4096 (V m c main_v3) A) (t : Fin cfg0.N) :
    T16 512 1024 (iblk m c 0 t) (fun r d => A (512 * (t.val / 4) + r) (1024 * (t.val % 4) + d)) := fun r d => by
  have e : iblk m c 0 t (ix2 r d) = V m c main_v3 (ix2 (⟨512 * (t.val / 4) + r.val, by have := r.isLt; have := ltN t; omega⟩ : Fin 2048)
      (⟨1024 * (t.val % 4) + d.val, by have := d.isLt; have := ltN t; omega⟩ : Fin 4096)) := by
    unfold iblk
    generalize V m c = W
    blk_ext [bx0 t]
    all_goals first
      | (show t.val / 4 * 512 + r.val = _; omega)
      | (show t.val % 4 * 1024 + d.val = _; omega)
  exact e.trans (hA _ _)

/-- The block of the second operand at a grid point: one matrix of the stack. -/
theorem blk1 (hB : Tb3 (l := 4) (n := 1024) (m := 1024) (φ := .bf16) (V m c main_v5) (fun h r d => B (1024 * h + r) d)) (t : Fin cfg0.N) :
    Tb3 (l := 1) (n := 1024) (m := 1024) (φ := .bf16) (iblk m c 1 t) (fun _ r d => B (1024 * (t.val % 4) + r) d) := fun u r d => by
  have e : iblk m c 1 t (ix3 u r d) = V m c main_v5 (ix3 (⟨t.val % 4, by omega⟩ : Fin 4) r d) := by
    unfold iblk
    generalize V m c = W
    blk_ext [bx1 t]
    all_goals (show t.val % 4 * 1 + u.val = _; have := u.isLt; omega)
  exact e.trans (hB _ _ _)

/-- The product of the two blocks at a grid point. -/
theorem pay1 {x : FVec Ideal S512x1024 .bf16} {y : FVec Ideal S1x1024x1024 .bf16} {f : ℕ → ℕ → EReal} {g : ℕ → ℕ → ℕ → EReal} (hx : Tb x f)
    (hy : Tb3 y g) : Tb (k0_pay1 x y) (fun r d => ∑ k ∈ Finset.range 1024, f r k * g 0 k d) :=
  Tb.dotNN (hx.self _) (hy.drop _)

/-- The table of the product up to a tile. -/
def acc (A B : ℕ → ℕ → EReal) (t r d : ℕ) : EReal :=
  ∑ k ∈ Finset.range (1024 * (t % 4 + 1)), A (512 * (t / 4) + r) k * B k d

/-- The scratch after the first point of a run: the product of its tiles. -/
theorem scrA (hA : T16 2048 4096 (V m c main_v3) A) (hB : Tb3 (l := 4) (n := 1024) (m := 1024) (φ := .bf16) (V m c main_v5) (fun h r d => B (1024 * h + r) d))
    (t : Fin cfg0.N) (h : t.val % 4 = 0) : T32 512 1024 (outsAt0 m c t.val t.isLt).2 (acc A B t.val) := by
  rw [outsAt0_A m c t h (by omega) (by omega)]
  frame_out
  refine ((pay1 (blk0 hA t) (blk1 hB t)).self _).congr fun r d _ _ => ?_
  unfold acc
  rw [h]
  exact Finset.sum_congr rfl fun k _ => by rw [Nat.mul_zero, Nat.zero_add]

/-- The scratch after a later point of a run: the product of the point's tiles added. -/
theorem scrB (hA : T16 2048 4096 (V m c main_v3) A) (hB : Tb3 (l := 4) (n := 1024) (m := 1024) (φ := .bf16) (V m c main_v5) (fun h r d => B (1024 * h + r) d))
    (t : Fin cfg0.N) (h : ¬ t.val % 4 = 0)
    (ih : T32 512 1024 (outsAt0 m c (t.val - 1) (Nat.lt_of_le_of_lt (Nat.sub_le _ _) t.isLt)).2 (acc A B (t.val - 1))) :
    T32 512 1024 (k0_pay3 (iblk m c 0 t) (iblk m c 1 t) (outsAt0 m c (t.val - 1) (Nat.lt_of_le_of_lt (Nat.sub_le _ _) t.isLt)).2) (acc A B t.val) := by
  refine ((ih.addf (pay1 (blk0 hA t) (blk1 hB t))).self _).congr fun r d _ _ => ?_
  have e : (t.val - 1) % 4 + 1 = t.val % 4 := by omega
  have e' : (t.val - 1) / 4 = t.val / 4 := by omega
  unfold acc
  rw [e, e']
  exact sum_tile (fun k => A (512 * (t.val / 4) + r) k * B k d) (t.val % 4) 1024

/-- The scratch after any point. -/
theorem scr (hA : T16 2048 4096 (V m c main_v3) A) (hB : Tb3 (l := 4) (n := 1024) (m := 1024) (φ := .bf16) (V m c main_v5) (fun h r d => B (1024 * h + r) d)) :
    ∀ (n : ℕ) (hn : n < cfg0.N), T32 512 1024 (outsAt0 m c n hn).2 (acc A B n) := by
  intro n
  induction n with
  | zero => exact fun hn => scrA hA hB ⟨0, hn⟩ (Nat.zero_mod _)
  | succ n ih =>
    intro hn
    by_cases h : (n + 1) % 4 = 0
    · exact scrA hA hB ⟨n + 1, hn⟩ h
    · have e := scrB hA hB ⟨n + 1, hn⟩ h (ih _)
      by_cases h' : (n + 1) % 4 = 3
      · rw [outsAt0_C m c ⟨n + 1, hn⟩ h (show 1 ≤ (n + 1) % 4 by omega) h']
        frame_out
        rw [Idealize.ShloMosaic.read_unread_whole]
        exact e
      · rw [outsAt0_B m c ⟨n + 1, hn⟩ h (show 1 ≤ (n + 1) % 4 by omega) h']
        frame_out
        rw [Idealize.ShloMosaic.read_unread_whole]
        exact e

/-- The output after the last point of a run. -/
theorem outs (hA : T16 2048 4096 (V m c main_v3) A) (hB : Tb3 (l := 4) (n := 1024) (m := 1024) (φ := .bf16) (V m c main_v5) (fun h r d => B (1024 * h + r) d))
    (t : Fin cfg0.N) (h : t.val % 4 = 3) :
    T32 512 1024 (outsAt0 m c t.val t.isLt).1 (acc A B t.val) := by
  have e := scrB hA hB t (by omega) (scr hA hB _ _)
  rw [outsAt0_C m c t (by omega) (by omega) h]
  frame_out
  rw [Idealize.ShloMosaic.read_unread_whole]
  exact e

/-- The table of the result: the product of the two operands. -/
def res (A B : ℕ → ℕ → EReal) (r d : ℕ) : EReal := ∑ k ∈ Finset.range 4096, A r k * B k d

/-- The output after the call. -/
theorem arr2 (hA : T16 2048 4096 (V m c main_v3) A) (hB : Tb3 (l := 4) (n := 1024) (m := 1024) (φ := .bf16) (V m c main_v5) (fun h r d => B (1024 * h + r) d)) :
    T32 2048 1024 ((dats m 0 c).arrAt 2 cfg0.N) (res A B) := fun r d =>
  (dats m 0 c).arrAt_forall_of_covers 2 (fun y v => (v : EReal) = res A B (y 0).val (y 1).val) (by decide +kernel) (fun t hf y => by
    have ht := (flush0_2 t).mp hf
    have e := outs hA hB t ht
    rw [after0_2]
    blk_simp [bx2 t]
    have ey : (y : S512x1024.Idx) = ix2 (n0 := 512) (n1 := 1024) (y 0) (y 1) := ValueIdx.eq_ix2 y
    refine (congrArg (fun z : S512x1024.Idx => ((outsAt0 m c t.val t.isLt).1 z : EReal)) ey).trans ((e (y 0) (y 1)).trans ?_)
    have h0 : (y 0).val < 512 := (y 0).isLt
    unfold acc res
    rw [ht]
    refine Finset.sum_congr rfl fun k _ => ?_
    congr 2
    · omega
    ) (ix2 r d)

/-- The first operand, which the host computes: the squared positive part of the first product. -/
theorem V_a (m : (ℓ : Loc nD τ sig) → Buf (Elt Ideal) ℓ) (c : Dev nD) : V m c main_v3 = (truncf (F := Ideal) .bf16
    (Cert.Reference8Ideal.Read.val_main_v2 (F := Ideal) (m ((c.tc : Thread nD τ).loc main_arg0)) (m ((c.tc : Thread nD τ).loc main_arg1))) bitsLt_bf16_f32 : FVec Ideal S2048x4096 .bf16) := by
  unfold V
  simp only [hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results
  rfl

/-- The second operand: the weight as a stack of blocks of rows. -/
theorem V_w (m : (ℓ : Loc nD τ sig) → Buf (Elt Ideal) ℓ) (c : Dev nD) : V m c main_v5 = (shapeCast S4x1024x1024 (truncf (F := Ideal) .bf16
    (m ((c.tc : Thread nD τ).loc main_arg2) : FVec Ideal S4096x1024 .f32) bitsLt_bf16_f32 : FVec Ideal S4096x1024 .bf16) shapeCasts_S4096x1024_S4x1024x1024 :
    FVec Ideal S4x1024x1024 .bf16) := by
  unfold V
  simp only [hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results
  rfl

/-- The reference's result, read as a table. -/
theorem ref (x0 : FVec Ideal S2048x1024 .f32) (x1 : FVec Ideal S1024x4096 .f32) (x2 : FVec Ideal S4096x1024 .f32) :
    T32 2048 1024 (Cert.Reference8Ideal.Read.val_main_v3 (F := Ideal) x0 x1 x2)
      (res (tab (n := 2048) (m := 4096) (φ := .f32) (Cert.Reference8Ideal.Read.val_main_v2 (F := Ideal) x0 x1)) (tab x2)) := fun r d => by
  rw [Cert.Reference8Ideal.Read.val_main_v3_apply]
  unfold res
  refine Eq.trans ?_ (Finset.sum_range _).symm
  refine Finset.sum_congr rfl fun k _ => ?_
  have ea := tb_tab (n := 2048) (m := 4096) (φ := .f32) (Cert.Reference8Ideal.Read.val_main_v2 (F := Ideal) x0 x1) r k
  have eb := tb_tab x2 k d
  refine congrArg₂ (· * ·) (Eq.trans (congrArg _ ?_) ea) (Eq.trans (congrArg _ ?_) eb)
  · refine funext fun a => Fin.ext ?_
    match a with
    | ⟨0, _⟩ => rfl
    | ⟨1, _⟩ => rfl
  · refine funext fun a => Fin.ext ?_
    match a with
    | ⟨0, _⟩ => rfl
    | ⟨1, _⟩ => rfl

/-- The kernel's output is the reference's result. -/
theorem value : @Cert.algebraic_Kernel8Ideal_Reference8Ideal Cert.Kernel8Ideal.Gen.facts Cert.Reference8Ideal.Gen.facts := by
  intro m g m' g' _ hag
  refine ⟨_, Cert.Kernel8Ideal.Value.run_blocks m g, (θ_run _ _ _).mono (fun r h c => ?_) (Cert.Reference8Ideal.Value.run (F := Ideal) m' g')⟩
  obtain ⟨e0, e2, e3, e4⟩ := h c
  obtain ⟨a0, a1, a2⟩ := hag c
  have hA : T16 2048 4096 (V m c main_v3) (tab (n := 2048) (m := 4096) (φ := .f32)
      (Cert.Reference8Ideal.Read.val_main_v2 (F := Ideal) (m ((c.tc : Thread nD τ).loc main_arg0)) (m ((c.tc : Thread nD τ).loc main_arg1)))) := by
    rw [V_a]
    exact Tb.truncf (tb32 2048 4096 _) bitsLt_bf16_f32
  have hB : Tb3 (l := 4) (n := 1024) (m := 1024) (φ := .bf16) (V m c main_v5)
      (fun h r d => tab (n := 4096) (m := 1024) (φ := .f32) (m ((c.tc : Thread nD τ).loc main_arg2)) (1024 * h + r) d) := by
    rw [V_w]
    exact Tb.rows (Tb.truncf (tb32 4096 1024 _) bitsLt_bf16_f32) _
  refine ⟨e0.trans ?_, e2, e3, e4⟩
  clear e0 e2 e3 e4
  rw [Cert.Reference8Ideal.Read.val_main_v3_eq, a0, a1, a2]
  exact (ref _ _ _).eq (arr2 hA hB)

end Cert.Mat.K8

end
-- ==== Proof.In9.lean ====
/- The input projection: what the call leaves in its output. -/
module

public import proofs.«01_k».proof.Proof.Pad
public import Idealize.ShloMosaic.Lib.Pipeline.ReadBack
public import proofs.«01_k».proof.Proof.Gen.Kernel9Ideal.Frame
public import proofs.«01_k».proof.Proof.Gen.Reference9Ideal.Run
public import proofs.«01_k».proof.Proof.Gen.Reference9Ideal.Read
public import proofs.«01_k».proof.Defs

@[expose] public section

set_option maxRecDepth 16384

noncomputable section

namespace Cert.Mat.K9

open Idealize.ShloMosaic hiding ix2 ix3
open Idealize.ShloMosaic.TcCoe Idealize.ShloMosaic.Tactic
open Idealize.ShloMosaic.ValueIdx (ix2 ix3)
open Cert.Kernel9Ideal Cert.Kernel9Ideal.Gen Idealize.SL Idealize.SL.Sem
open scoped BigOperators

theorem bx0 : ∀ t : Fin cfg0.N, win0_0.index t = ![t.val / 2, 0] := (by decide +kernel : ∀ t : Fin grid0.N, _)
theorem bx1 : ∀ t : Fin cfg0.N, win0_1.index t = ![0, t.val % 2] := (by decide +kernel : ∀ t : Fin grid0.N, _)
theorem bx2 : ∀ t : Fin cfg0.N, win0_2.index t = ![t.val / 2, t.val % 2] := (by decide +kernel : ∀ t : Fin grid0.N, _)
theorem ltN (t : Fin cfg0.N) : t.val < 8 := lt_of_lt_of_eq t.isLt N_0

variable {m : (ℓ : Loc nD τ sig) → Buf (Elt Ideal) ℓ} {c : Dev nD} {A B : ℕ → ℕ → EReal}

/-- The block of the first operand at a grid point. -/
theorem blk0 (hA : T16 2048 1024 (V m c main_v0) A) (t : Fin cfg0.N) :
    T16 512 1024 (iblk m c 0 t) (fun r d => A (512 * (t.val / 2) + r) d) := fun r d => by
  have e : iblk m c 0 t (ix2 r d) = V m c main_v0 (ix2 (⟨512 * (t.val / 2) + r.val, by have := r.isLt; have := ltN t; omega⟩ : Fin 2048) d) := by
    unfold iblk
    generalize V m c = W
    blk_ext [bx0 t]
    all_goals (show t.val / 2 * 512 + r.val = _; omega)
  exact e.trans (hA _ _)

/-- The block of the second operand at a grid point. -/
theorem blk1 (hB : T16 1024 4352 (V m c main_v10) B) (t : Fin cfg0.N) :
    T16 1024 2176 (iblk m c 1 t) (fun r d => B r (2176 * (t.val % 2) + d)) := fun r d => by
  have e : iblk m c 1 t (ix2 r d) = V m c main_v10 (ix2 r (⟨2176 * (t.val % 2) + d.val, by have := d.isLt; have := ltN t; omega⟩ : Fin 4352)) := by
    unfold iblk
    generalize V m c = W
    blk_ext [bx1 t]
    all_goals (show t.val % 2 * 2176 + d.val = _; omega)
  exact e.trans (hB _ _)

/-- The table of a product. -/
def res (A B : ℕ → ℕ → EReal) (r d : ℕ) : EReal := ∑ k ∈ Finset.range 1024, A r k * B k d

/-- The product of the two blocks at a grid point. -/
theorem pay1 {x : FVec Ideal S512x1024 .bf16} {y : FVec Ideal S1024x2176 .bf16} {f g : ℕ → ℕ → EReal} (hx : Tb x f) (hy : Tb y g) :
    Tb (k0_pay1 x y) (res f g) :=
  Tb.dotNN (hx.self _) (hy.self _)

/-- The output after the call. -/
theorem arr2 (hA : T16 2048 1024 (V m c main_v0) A) (hB : T16 1024 4352 (V m c main_v10) B) :
    T32 2048 4352 ((dats m 0 c).arrAt 2 cfg0.N) (res A B) := fun r d =>
  (dats m 0 c).arrAt_forall_of_covers 2 (fun y v => (v : EReal) = res A B (y 0).val (y 1).val) (by decide +kernel) (fun t hf y => by
    have e : T32 512 2176 (out0_2 (iblk m c 0 t) (iblk m c 1 t))
        (fun r d => res A B (512 * (t.val / 2) + r) (2176 * (t.val % 2) + d)) := by
      frame_out
      exact pay1 (blk0 hA t) (blk1 hB t)
    rw [after0_2]
    blk_simp [bx2 t]
    have ey : (y : S512x2176.Idx) = ix2 (n0 := 512) (n1 := 2176) (y 0) (y 1) := ValueIdx.eq_ix2 y
    refine (congrArg (fun z : S512x2176.Idx => ((out0_2 (iblk m c 0 t) (iblk m c 1 t)) z : EReal)) ey).trans ((e (y 0) (y 1)).trans ?_)
    rw [Nat.mul_comm 512, Nat.mul_comm 2176]) (ix2 r d)

/-- The first operand: the host's cast. -/
theorem V_v0 (m : (ℓ : Loc nD τ sig) → Buf (Elt Ideal) ℓ) (c : Dev nD) : V m c main_v0 = (truncf (F := Ideal) .bf16
    (m ((c.tc : Thread nD τ).loc main_arg0) : FVec Ideal S2048x1024 .f32) bitsLt_bf16_f32 : FVec Ideal S2048x1024 .bf16) := by
  unfold V V0
  simp only [hostOps0, List.flatten_cons, List.flatten_nil, List.append_nil]
  after_results

/-- The second operand: the weight's columns in the order of the call. -/
theorem V_w (m : (ℓ : Loc nD τ sig) → Buf (Elt Ideal) ℓ) (c : Dev nD) : V m c main_v10 = (concatenate S1024x4352 1 [⟨S1024x1024, extractStridedSlice S1024x1024 ![0, 2208] ((truncf (F := Ideal) .bf16 (m ((c.tc : Thread nD τ).loc main_arg1) : FVec Ideal S1024x4256 .f32) bitsLt_bf16_f32 : FVec Ideal S1024x4256 .bf16)) slices_S1024x4256_S1024x1024_0_2208⟩,
      ⟨S1024x1024, extractStridedSlice S1024x1024 ![0, 3232] ((truncf (F := Ideal) .bf16 (m ((c.tc : Thread nD τ).loc main_arg1) : FVec Ideal S1024x4256 .f32) bitsLt_bf16_f32 : FVec Ideal S1024x4256 .bf16)) slices_S1024x4256_S1024x1024_0_3232⟩,
      ⟨S1024x1536, extractStridedSlice S1024x1536 ![0, 0] ((truncf (F := Ideal) .bf16 (m ((c.tc : Thread nD τ).loc main_arg1) : FVec Ideal S1024x4256 .f32) bitsLt_bf16_f32 : FVec Ideal S1024x4256 .bf16)) slices_S1024x4256_S1024x1536_0_0⟩,
      ⟨S1024x256, extractStridedSlice S1024x256 ![0, 1920] ((truncf (F := Ideal) .bf16 (m ((c.tc : Thread nD τ).loc main_arg1) : FVec Ideal S1024x4256 .f32) bitsLt_bf16_f32 : FVec Ideal S1024x4256 .bf16)) slices_S1024x4256_S1024x256_0_1920⟩,
      ⟨S1024x384, extractStridedSlice S1024x384 ![0, 1536] ((truncf (F := Ideal) .bf16 (m ((c.tc : Thread nD τ).loc main_arg1) : FVec Ideal S1024x4256 .f32) bitsLt_bf16_f32 : FVec Ideal S1024x4256 .bf16)) slices_S1024x4256_S1024x384_0_1536⟩,
      ⟨S1024x64, broadcastInDim S1024x64 ![] bcast_S_S1024x64 (constant S_ .bf16 0x0000#16)⟩,
      ⟨S1024x32, extractStridedSlice S1024x32 ![0, 2176] ((truncf (F := Ideal) .bf16 (m ((c.tc : Thread nD τ).loc main_arg1) : FVec Ideal S1024x4256 .f32) bitsLt_bf16_f32 : FVec Ideal S1024x4256 .bf16)) slices_S1024x4256_S1024x32_0_2176⟩, ⟨S1024x32, broadcastInDim S1024x32 ![] bcast_S_S1024x32 (constant S_ .bf16 0x0000#16)⟩]
      concatenates_S1024x1024_S1024x1024_S1024x1536_S1024x256_S1024x384_S1024x64_S1024x32_S1024x32_S1024x4352_d1 : FVec Ideal S1024x4352 .bf16) := by
  unfold V V0
  simp only [hostOps0, List.flatten_cons, List.flatten_nil, List.append_nil]
  after_results
  rfl

/-- The result: the call's output with its columns back in their own order. -/
theorem out_eq (m : (ℓ : Loc nD τ sig) → Buf (Elt Ideal) ℓ) (c : Dev nD) :
    Pipeline.afterTail₀ cfgs (dats m) 0 (V0 m) [hostOps1] c main_v17 = (concatenate S2048x4256 1 [⟨S2048x1536, extractStridedSlice S2048x1536 ![0, 2048] (((dats m 0 c).arrAt 2 cfg0.N : FVec Ideal S2048x4352 .f32)) slices_S2048x4352_S2048x1536_0_2048⟩,
      ⟨S2048x384, extractStridedSlice S2048x384 ![0, 3840] (((dats m 0 c).arrAt 2 cfg0.N : FVec Ideal S2048x4352 .f32)) slices_S2048x4352_S2048x384_0_3840⟩,
      ⟨S2048x256, extractStridedSlice S2048x256 ![0, 3584] (((dats m 0 c).arrAt 2 cfg0.N : FVec Ideal S2048x4352 .f32)) slices_S2048x4352_S2048x256_0_3584⟩,
      ⟨S2048x32, extractStridedSlice S2048x32 ![0, 4288] (((dats m 0 c).arrAt 2 cfg0.N : FVec Ideal S2048x4352 .f32)) slices_S2048x4352_S2048x32_0_4288⟩,
      ⟨S2048x2048, extractStridedSlice S2048x2048 ![0, 0] (((dats m 0 c).arrAt 2 cfg0.N : FVec Ideal S2048x4352 .f32)) slices_S2048x4352_S2048x2048_0_0⟩]
      concatenates_S2048x1536_S2048x384_S2048x256_S2048x32_S2048x2048_S2048x4256_d1 : FVec Ideal S2048x4256 .f32) := by
  have e := Pipeline.withArrays_arr spec0 launch0.win.arr_inj c (V0 m c) (fun w => (dats m 0 c).arrAt w cfg0.N) 2
  unfold Pipeline.afterTail₀
  simp only [hostOps1, List.flatten_cons, List.flatten_nil, List.append_nil]
  after_results
  exact congrArg (fun x : FVec Ideal S2048x4352 .f32 => (concatenate S2048x4256 1 [⟨S2048x1536, extractStridedSlice S2048x1536 ![0, 2048] (x) slices_S2048x4352_S2048x1536_0_2048⟩,
      ⟨S2048x384, extractStridedSlice S2048x384 ![0, 3840] (x) slices_S2048x4352_S2048x384_0_3840⟩,
      ⟨S2048x256, extractStridedSlice S2048x256 ![0, 3584] (x) slices_S2048x4352_S2048x256_0_3584⟩,
      ⟨S2048x32, extractStridedSlice S2048x32 ![0, 4288] (x) slices_S2048x4352_S2048x32_0_4288⟩,
      ⟨S2048x2048, extractStridedSlice S2048x2048 ![0, 0] (x) slices_S2048x4352_S2048x2048_0_0⟩]
      concatenates_S2048x1536_S2048x384_S2048x256_S2048x32_S2048x2048_S2048x4256_d1 : FVec Ideal S2048x4256 .f32)) e

/-- The run with the result and the arguments by name. -/
theorem run_named (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v17) = Pipeline.afterTail₀ cfgs (dats m) 0 (V0 m) [hostOps1] c main_v17
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c).2 main_v17 (Pipeline.mem_restRefs_of main_v17 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩) (run_main m ρ)

/-- The reference's projection, read as a table. -/
theorem ref (x0 : FVec Ideal S2048x1024 .f32) (x1 : FVec Ideal S1024x4256 .f32) :
    T32 2048 4256 (Cert.Reference9Ideal.Read.val_main_v0 (F := Ideal) x0 x1) (res (tab x0) (tab x1)) := fun r d => by
  rw [Cert.Reference9Ideal.Read.val_main_v0_apply]
  unfold res
  refine Eq.trans ?_ (Finset.sum_range _).symm
  refine Finset.sum_congr rfl fun k _ => ?_
  have ea := tb_tab x0 r k
  have eb := tb_tab x1 k d
  refine congrArg₂ (· * ·) (Eq.trans (congrArg _ ?_) ea) (Eq.trans (congrArg _ ?_) eb)
  · refine funext fun a => Fin.ext ?_
    match a with
    | ⟨0, _⟩ => rfl
    | ⟨1, _⟩ => rfl
  · refine funext fun a => Fin.ext ?_
    match a with
    | ⟨0, _⟩ => rfl
    | ⟨1, _⟩ => rfl

/-- The kernel's output is the reference's result. -/
theorem value : @Cert.algebraic_Kernel9Ideal_Reference9Ideal Cert.Kernel9Ideal.Gen.facts Cert.Reference9Ideal.Gen.facts := by
  intro m g m' g' _ hag
  refine ⟨_, run_named m g, (θ_run _ _ _).mono (fun r h c => ?_) (Cert.Reference9Ideal.Value.run (F := Ideal) m' g')⟩
  obtain ⟨e0, e2, e3⟩ := h c
  obtain ⟨a0, a1⟩ := hag c
  have hA : T16 2048 1024 (V m c main_v0) (tab (n := 2048) (m := 1024) (φ := .f32) (m ((c.tc : Thread nD τ).loc main_arg0))) := by
    rw [V_v0]
    exact Tb.truncf (tb32 2048 1024 _) bitsLt_bf16_f32
  have hB : T16 1024 4352 (V m c main_v10)
      (fun r => padg (tab (n := 1024) (m := 4256) (φ := .f32) (m ((c.tc : Thread nD τ).loc main_arg1)) r)) := by
    rw [V_w]
    exact Tb.pad (Tb.truncf (tb32 1024 4256 _) bitsLt_bf16_f32) (tb_zb _) (tb_zb _) _ _ _ _ _ _ _
  refine ⟨e0.trans ?_, e2, e3⟩
  clear e0 e2 e3
  rw [Cert.Reference9Ideal.Read.val_main_v0_eq, a0, a1, out_eq]
  exact (ref _ _).eq ((Tb.unpad (arr2 hA hB) _ _ _ _ _ _).congr fun r d _ hd => Finset.sum_congr rfl fun k _ => congrArg (_ * ·) (padg_unp _ hd))

end Cert.Mat.K9

end
-- ==== Proof.Mix10.lean ====
/- The output projection and the gradient of its input: what the two calls leave. -/
module

public import proofs.«01_k».proof.Proof.Mat
public import proofs.«01_k».proof.Proof.Gen.Kernel10Ideal.Frame
public import proofs.«01_k».proof.Proof.Gen.Reference10Ideal.Run
public import proofs.«01_k».proof.Proof.Gen.Reference10Ideal.Read
public import proofs.«01_k».proof.Defs

@[expose] public section

set_option maxRecDepth 16384

noncomputable section

namespace Cert.Mat.K10

open Idealize.SL.RA Idealize.SL.BI Idealize.SL.BI.BIBase Idealize.SL.BI.Laws Idealize.SL.ProofMode
open scoped Idealize.SL.BI
open Idealize.ShloMosaic.Rounds
open Idealize.ShloMosaic hiding ix2 ix3
open Idealize.ShloMosaic.TcCoe Idealize.ShloMosaic.Tactic
open Idealize.ShloMosaic.ValueIdx (ix2 ix3)
open Cert.Kernel10Ideal Cert.Kernel10Ideal.Gen Idealize.SL Idealize.SL.Sem
open scoped BigOperators

/-! ## The run -/

section
variable {F : FTy → Type} [FloatOps F] (m : (ℓ : Loc nD τ sig) → Buf (Elt F) ℓ) (ρ : Dev nD → PrngReg)

set_option backward.isDefEq.respectTransparency.types false in
/-- Every run of both calls ends with each buffer that lasts as the second call leaves it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-- The run with the results and the arguments by name. -/
theorem run_named : θ_run defs (onTc (τ := τ) (main (F := F))) ⟨m, fun _ => 0, ρ⟩ (fun r => ∀ c : Dev nD,
      r.2.mem ((c.tc : Thread nD τ).loc main_v2) = (dat0 (V1 m ρ) c).arrAt 2 cfg0.N
      ∧ r.2.mem ((c.tc : Thread nD τ).loc main_v4) = (dat1 (V3 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v2 (by decide))).trans ((W4_of m ρ c main_v2 (by decide +kernel)).trans ((W3_of m ρ c main_v2 (by decide)).trans (W2_arr m ρ c 2))),
      (h c _ (mem_uc main_v4 (by decide))).trans (W4_arr m ρ c 2),
      (h c _ (mem_uc main_arg0 (by decide))).trans (W4_main_arg0 m ρ c), (h c _ (mem_uc main_arg1 (by decide))).trans (W4_main_arg1 m ρ c),
      (h c _ (mem_uc main_arg2 (by decide))).trans (W4_main_arg2 m ρ c)⟩)
    (run_all m ρ)
end

/-! ## The two calls -/

theorem bx00 : ∀ t : Fin cfg0.N, win0_0.index t = ![t.val, 0] := (by decide +kernel : ∀ t : Fin grid0.N, _)
theorem bx01 : ∀ t : Fin cfg0.N, win0_1.index t = ![0, 0] := (by decide +kernel : ∀ t : Fin grid0.N, _)
theorem bx02 : ∀ t : Fin cfg0.N, win0_2.index t = ![t.val, 0] := (by decide +kernel : ∀ t : Fin grid0.N, _)
theorem bx10 : ∀ t : Fin cfg1.N, win1_0.index t = ![t.val, 0] := (by decide +kernel : ∀ t : Fin grid1.N, _)
theorem bx11 : ∀ t : Fin cfg1.N, win1_1.index t = ![0, 0] := (by decide +kernel : ∀ t : Fin grid1.N, _)
theorem bx12 : ∀ t : Fin cfg1.N, win1_2.index t = ![t.val, 0] := (by decide +kernel : ∀ t : Fin grid1.N, _)
theorem ltN0 (t : Fin cfg0.N) : t.val < 4 := lt_of_lt_of_eq t.isLt N_0
theorem ltN1 (t : Fin cfg1.N) : t.val < 4 := lt_of_lt_of_eq t.isLt N_1

variable {V : (c : Dev nD) → (b : Ref sig .tc) → Buf (Elt Ideal) ((c : Thread nD τ).loc b)} {c : Dev nD} {A B : ℕ → ℕ → EReal}

/-- The first call's block of rows at a grid point. -/
theorem blk00 (hA : T16 2048 1024 (V c main_v1) A) (t : Fin cfg0.N) :
    T16 512 1024 (iblk0 V c 0 t) (fun r d => A (512 * t.val + r) d) := fun r d => by
  have e : iblk0 V c 0 t (ix2 r d) = V c main_v1 (ix2 (⟨512 * t.val + r.val, by have := r.isLt; have := ltN0 t; omega⟩ : Fin 2048) d) := by
    unfold iblk0
    generalize V c = W
    blk_ext [bx00 t]
    all_goals (show t.val * 512 + r.val = _; omega)
  exact e.trans (hA _ _)

/-- The first call's weight, whole at every grid point. -/
theorem blk01 (hB : T16 1024 1024 (V c main_v0) B) (t : Fin cfg0.N) :
    T16 1024 1024 (iblk0 V c 1 t) B := fun r d => by
  have e : iblk0 V c 1 t (ix2 r d) = V c main_v0 (ix2 r d) := by
    unfold iblk0
    generalize V c = W
    blk_ext [bx01 t]
  exact e.trans (hB _ _)

/-- The second call's block of rows at a grid point. -/
theorem blk10 (hA : T16 2048 1024 (V c main_v3) A) (t : Fin cfg1.N) :
    T16 512 1024 (iblk1 V c 0 t) (fun r d => A (512 * t.val + r) d) := fun r d => by
  have e : iblk1 V c 0 t (ix2 r d) = V c main_v3 (ix2 (⟨512 * t.val + r.val, by have := r.isLt; have := ltN1 t; omega⟩ : Fin 2048) d) := by
    unfold iblk1
    generalize V c = W
    blk_ext [bx10 t]
    all_goals (show t.val * 512 + r.val = _; omega)
  exact e.trans (hA _ _)

/-- The second call's weight, whole at every grid point. -/
theorem blk11 (hB : T16 1024 1024 (V c main_v0) B) (t : Fin cfg1.N) :
    T16 1024 1024 (iblk1 V c 1 t) B := fun r d => by
  have e : iblk1 V c 1 t (ix2 r d) = V c main_v0 (ix2 r d) := by
    unfold iblk1
    generalize V c = W
    blk_ext [bx11 t]
  exact e.trans (hB _ _)

/-- The table of a product. -/
def fwd (A B : ℕ → ℕ → EReal) (r d : ℕ) : EReal := ∑ k ∈ Finset.range 1024, A r k * B k d

/-- The table of a product with the second operand transposed. -/
def bwd (A B : ℕ → ℕ → EReal) (r d : ℕ) : EReal := ∑ k ∈ Finset.range 1024, A r k * B d k

/-- The first call's product of two blocks. -/
theorem pay0 {x : FVec Ideal S512x1024 .bf16} {y : FVec Ideal S1024x1024 .bf16} {f g : ℕ → ℕ → EReal} (hx : Tb x f)
    (hy : Tb y g) : Tb (k0_pay1 x y) (fwd f g) :=
  Tb.dotNN (hx.self _) (hy.self _)

/-- The second call's product of two blocks. -/
theorem pay1 {x : FVec Ideal S512x1024 .bf16} {y : FVec Ideal S1024x1024 .bf16} {f g : ℕ → ℕ → EReal} (hx : Tb x f)
    (hy : Tb y g) : Tb (k1_pay1 x y) (bwd f g) :=
  Tb.dotNT (hx.self _) (hy.self _)

/-- The projection after the first call. -/
theorem arr0 (hA : T16 2048 1024 (V c main_v1) A) (hB : T16 1024 1024 (V c main_v0) B) :
    T32 2048 1024 ((dat0 V c).arrAt 2 cfg0.N) (fwd A B) := fun r d =>
  (dat0 V c).arrAt_forall_of_covers 2 (fun y v => (v : EReal) = fwd A B (y 0).val (y 1).val) (by decide +kernel) (fun t hf y => by
    have e : T32 512 1024 (out0_2 (iblk0 V c 0 t) (iblk0 V c 1 t)) (fun r d => fwd A B (512 * t.val + r) d) := by
      frame_out
      exact pay0 (blk00 hA t) (blk01 hB t)
    rw [after0_2]
    blk_simp [bx02 t]
    have ey : (y : S512x1024.Idx) = ix2 (n0 := 512) (n1 := 1024) (y 0) (y 1) := ValueIdx.eq_ix2 y
    refine (congrArg (fun z : S512x1024.Idx => ((out0_2 (iblk0 V c 0 t) (iblk0 V c 1 t)) z : EReal)) ey).trans ((e (y 0) (y 1)).trans ?_)
    rw [Nat.mul_comm 512]) (ix2 r d)

/-- The gradient of the projection's input after the second call. -/
theorem arr1 (hA : T16 2048 1024 (V c main_v3) A) (hB : T16 1024 1024 (V c main_v0) B) :
    T32 2048 1024 ((dat1 V c).arrAt 2 cfg1.N) (bwd A B) := fun r d =>
  (dat1 V c).arrAt_forall_of_covers 2 (fun y v => (v : EReal) = bwd A B (y 0).val (y 1).val) (by decide +kernel) (fun t hf y => by
    have e : T32 512 1024 (out1_2 (iblk1 V c 0 t) (iblk1 V c 1 t)) (fun r d => bwd A B (512 * t.val + r) d) := by
      frame_out
      exact pay1 (blk10 hA t) (blk11 hB t)
    rw [after1_2]
    blk_simp [bx12 t]
    have ey : (y : S512x1024.Idx) = ix2 (n0 := 512) (n1 := 1024) (y 0) (y 1) := ValueIdx.eq_ix2 y
    refine (congrArg (fun z : S512x1024.Idx => ((out1_2 (iblk1 V c 0 t) (iblk1 V c 1 t)) z : EReal)) ey).trans ((e (y 0) (y 1)).trans ?_)
    rw [Nat.mul_comm 512]) (ix2 r d)

/-! ## The operands and the reference -/

section
variable (m : (ℓ : Loc nD τ sig) → Buf (Elt Ideal) ℓ) (ρ : Dev nD → PrngReg) (c : Dev nD)

theorem V1_x : V1 m ρ c main_v1 = (truncf (F := Ideal) .bf16 (m ((c.tc : Thread nD τ).loc main_arg0) : FVec Ideal S2048x1024 .f32) bitsLt_bf16_f32 :
    FVec Ideal S2048x1024 .bf16) := by
  unfold V1 W1
  simp only [hostOps0]
  after_results

theorem V1_w : V1 m ρ c main_v0 = (truncf (F := Ideal) .bf16 (m ((c.tc : Thread nD τ).loc main_arg1) : FVec Ideal S1024x1024 .f32) bitsLt_bf16_f32 :
    FVec Ideal S1024x1024 .bf16) := by
  unfold V1 W1
  simp only [hostOps0]
  after_results

theorem V3_w : V3 m ρ c main_v0 = V1 m ρ c main_v0 :=
  (W3_of m ρ c main_v0 (by decide)).trans (W2_of m ρ c main_v0 (by decide +kernel))

theorem V3_y : V3 m ρ c main_v3 = (truncf (F := Ideal) .bf16 (m ((c.tc : Thread nD τ).loc main_arg2) : FVec Ideal S2048x1024 .f32) bitsLt_bf16_f32 :
    FVec Ideal S2048x1024 .bf16) := by
  have e := W2_args m ρ c main_arg2 (by decide)
  unfold V3 W3
  simp only [hostOps1]
  after_results
  rw [e]
end

variable (x0 : FVec Ideal S2048x1024 .f32) (x1 : FVec Ideal S1024x1024 .f32) (x2 : FVec Ideal S2048x1024 .f32)

/-- The reference's projection, read as a table. -/
theorem ref_y : T32 2048 1024 (Cert.Reference10Ideal.Read.val_main_v0 (F := Ideal) x0 x1) (fwd (tab x0) (tab x1)) := fun r d => by
  rw [Cert.Reference10Ideal.Read.val_main_v0_apply]
  unfold fwd
  refine Eq.trans ?_ (Finset.sum_range _).symm
  refine Finset.sum_congr rfl fun k _ => ?_
  refine congrArg₂ (· * ·) (Eq.trans (congrArg _ ?_) (tb_tab x0 r k)) (Eq.trans (congrArg _ ?_) (tb_tab x1 k d))
  · refine funext fun a => Fin.ext ?_
    match a with
    | ⟨0, _⟩ => rfl
    | ⟨1, _⟩ => rfl
  · refine funext fun a => Fin.ext ?_
    match a with
    | ⟨0, _⟩ => rfl
    | ⟨1, _⟩ => rfl

/-- The reference's gradient of the projection's input. -/
theorem ref_dx : T32 2048 1024 (Cert.Reference10Ideal.Read.val_main_v1 (F := Ideal) x1 x2) (bwd (tab x2) (tab x1)) := fun r d => by
  rw [Cert.Reference10Ideal.Read.val_main_v1_apply]
  unfold bwd
  refine Eq.trans ?_ (Finset.sum_range _).symm
  refine Finset.sum_congr rfl fun k _ => ?_
  refine congrArg₂ (· * ·) (Eq.trans (congrArg _ ?_) (tb_tab x2 r k)) (Eq.trans (congrArg _ ?_) (tb_tab x1 d k))
  · refine funext fun a => Fin.ext ?_
    match a with
    | ⟨0, _⟩ => rfl
    | ⟨1, _⟩ => rfl
  · refine funext fun a => Fin.ext ?_
    match a with
    | ⟨0, _⟩ => rfl
    | ⟨1, _⟩ => rfl

/-- The two calls' outputs are the reference's results. -/
theorem value : @Cert.algebraic_Kernel10Ideal_Reference10Ideal Cert.Kernel10Ideal.Gen.facts Cert.Reference10Ideal.Gen.facts := by
  intro m g m' g' _ hag
  refine ⟨_, _, run_named m g, (θ_run _ _ _).mono (fun r h c => ?_) (Cert.Reference10Ideal.Value.run (F := Ideal) m' g')⟩
  obtain ⟨e0, e1, e2, e3, e4⟩ := h c
  obtain ⟨a0, a1, a2⟩ := hag c
  have hA : T16 2048 1024 (V1 m g c main_v1) (tab (n := 2048) (m := 1024) (φ := .f32) (m ((c.tc : Thread nD τ).loc main_arg0))) := by
    rw [V1_x]
    exact Tb.truncf (tb32 2048 1024 _) bitsLt_bf16_f32
  have hB : T16 1024 1024 (V1 m g c main_v0) (tab (n := 1024) (m := 1024) (φ := .f32) (m ((c.tc : Thread nD τ).loc main_arg1))) := by
    rw [V1_w]
    exact Tb.truncf (tb32 1024 1024 _) bitsLt_bf16_f32
  have hB2 : T16 1024 1024 (V3 m g c main_v0) (tab (n := 1024) (m := 1024) (φ := .f32) (m ((c.tc : Thread nD τ).loc main_arg1))) := by
    rw [V3_w]
    exact hB
  have hD : T16 2048 1024 (V3 m g c main_v3) (tab (n := 2048) (m := 1024) (φ := .f32) (m ((c.tc : Thread nD τ).loc main_arg2))) := by
    rw [V3_y]
    exact Tb.truncf (tb32 2048 1024 _) bitsLt_bf16_f32
  refine ⟨e0.trans ?_, e1.trans ?_, e2, e3, e4⟩
  · clear e0 e1 e2 e3 e4
    rw [Cert.Reference10Ideal.Read.val_main_v0_eq, a0, a1]
    exact (ref_y _ _).eq (arr0 hA hB)
  · clear e0 e1 e2 e3 e4
    rw [Cert.Reference10Ideal.Read.val_main_v1_eq, a1, a2]
    exact (ref_dx _ _).eq (arr1 hD hB2)

end Cert.Mat.K10

end
-- ==== Proof.Dw11.lean ====
/- The gradient of the weight of the output projection: what the call leaves in its output. -/
module

public import proofs.«01_k».proof.Proof.Mat
public import Idealize.ShloMosaic.Lib.Pipeline.ReadBack
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Defs

@[expose] public section

set_option maxRecDepth 16384

noncomputable section

namespace Cert.Mat.K11

open Idealize.ShloMosaic hiding ix2 ix3
open Idealize.ShloMosaic.TcCoe Idealize.ShloMosaic.Tactic
open Idealize.ShloMosaic.ValueIdx (ix2 ix3)
open Cert.Kernel11Ideal Cert.Kernel11Ideal.Gen Idealize.SL Idealize.SL.Sem
open scoped BigOperators

theorem bx0 : ∀ t : Fin cfg0.N, win0_0.index t = ![t.val % 2, t.val / 2] := (by decide +kernel : ∀ t : Fin grid0.N, _)
theorem bx1 : ∀ t : Fin cfg0.N, win0_1.index t = ![t.val % 2, 0] := (by decide +kernel : ∀ t : Fin grid0.N, _)
theorem bx2 : ∀ t : Fin cfg0.N, win0_2.index t = ![t.val / 2, 0] := (by decide +kernel : ∀ t : Fin grid0.N, _)
theorem ltN (t : Fin cfg0.N) : t.val < 4 := lt_of_lt_of_eq t.isLt N_0

variable {m : (ℓ : Loc nD τ sig) → Buf (Elt Ideal) ℓ} {c : Dev nD} {A B : ℕ → ℕ → EReal}

/-- The block of the first operand at a grid point. -/
theorem blk0 (hA : T16 2048 1024 (V m c main_v0) A) (t : Fin cfg0.N) :
    T16 1024 512 (iblk m c 0 t) (fun r d => A (1024 * (t.val % 2) + r) (512 * (t.val / 2) + d)) := fun r d => by
  have e : iblk m c 0 t (ix2 r d) = V m c main_v0 (ix2 (⟨1024 * (t.val % 2) + r.val, by have := r.isLt; have := ltN t; omega⟩ : Fin 2048)
      (⟨512 * (t.val / 2) + d.val, by have := d.isLt; have := ltN t; omega⟩ : Fin 1024)) := by
    unfold iblk
    generalize V m c = W
    blk_ext [bx0 t]
    all_goals first
      | (show t.val % 2 * 1024 + r.val = _; omega)
      | (show t.val / 2 * 512 + d.val = _; omega)
  exact e.trans (hA _ _)

/-- The block of the second operand at a grid point. -/
theorem blk1 (hB : T16 2048 1024 (V m c main_v1) B) (t : Fin cfg0.N) :
    T16 1024 1024 (iblk m c 1 t) (fun r d => B (1024 * (t.val % 2) + r) d) := fun r d => by
  have e : iblk m c 1 t (ix2 r d) = V m c main_v1 (ix2 (⟨1024 * (t.val % 2) + r.val, by have := r.isLt; have := ltN t; omega⟩ : Fin 2048) d) := by
    unfold iblk
    generalize V m c = W
    blk_ext [bx1 t]
    all_goals (show t.val % 2 * 1024 + r.val = _; omega)
  exact e.trans (hB _ _)

/-- The product of the two blocks at a grid point. -/
theorem pay1 {x : FVec Ideal S1024x512 .bf16} {y : FVec Ideal S1024x1024 .bf16} {f g : ℕ → ℕ → EReal} (hx : Tb x f) (hy : Tb y g) :
    Tb (k0_pay1 x y) (fun r d => ∑ k ∈ Finset.range 1024, f k r * g k d) :=
  Tb.dotTN (hx.self _) (hy.self _) _

/-- The table of the product up to a tile. -/
def acc (A B : ℕ → ℕ → EReal) (t r d : ℕ) : EReal :=
  ∑ k ∈ Finset.range (1024 * (t % 2 + 1)), A k (512 * (t / 2) + r) * B k d

/-- The scratch after the first point of a run: the product of its tiles. -/
theorem scrA (hA : T16 2048 1024 (V m c main_v0) A) (hB : T16 2048 1024 (V m c main_v1) B)
    (t : Fin cfg0.N) (h : t.val % 2 = 0) : T32 512 1024 (outsAt0 m c t.val t.isLt).2 (acc A B t.val) := by
  rw [outsAt0_A m c t h (by omega) (by omega)]
  frame_out
  refine ((pay1 (blk0 hA t) (blk1 hB t)).self _).congr fun r d _ _ => ?_
  unfold acc
  rw [h]
  exact Finset.sum_congr rfl fun k _ => by rw [Nat.mul_zero, Nat.zero_add]

/-- The scratch after a later point of a run: the product of the point's tiles added. -/
theorem scrB (hA : T16 2048 1024 (V m c main_v0) A) (hB : T16 2048 1024 (V m c main_v1) B)
    (t : Fin cfg0.N) (h : ¬ t.val % 2 = 0)
    (ih : T32 512 1024 (outsAt0 m c (t.val - 1) (Nat.lt_of_le_of_lt (Nat.sub_le _ _) t.isLt)).2 (acc A B (t.val - 1))) :
    T32 512 1024 (k0_pay3 (iblk m c 0 t) (iblk m c 1 t) (outsAt0 m c (t.val - 1) (Nat.lt_of_le_of_lt (Nat.sub_le _ _) t.isLt)).2)
      (acc A B t.val) := by
  refine ((ih.addf (pay1 (blk0 hA t) (blk1 hB t))).self _).congr fun r d _ _ => ?_
  have e : (t.val - 1) % 2 + 1 = t.val % 2 := by omega
  have e' : (t.val - 1) / 2 = t.val / 2 := by omega
  unfold acc
  rw [e, e']
  exact sum_tile (fun k => A k (512 * (t.val / 2) + r) * B k d) (t.val % 2) 1024

/-- The scratch after any point. -/
theorem scr (hA : T16 2048 1024 (V m c main_v0) A) (hB : T16 2048 1024 (V m c main_v1) B) :
    ∀ (n : ℕ) (hn : n < cfg0.N), T32 512 1024 (outsAt0 m c n hn).2 (acc A B n) := by
  intro n
  induction n with
  | zero => exact fun hn => scrA hA hB ⟨0, hn⟩ (Nat.zero_mod _)
  | succ n ih =>
    intro hn
    by_cases h : (n + 1) % 2 = 0
    · exact scrA hA hB ⟨n + 1, hn⟩ h
    · have e := scrB hA hB ⟨n + 1, hn⟩ h (ih _)
      rw [outsAt0_B m c ⟨n + 1, hn⟩ h (show (n + 1) % 2 = 1 by omega) (show (n + 1) % 2 = 1 by omega)]
      frame_out
      rw [Idealize.ShloMosaic.read_unread_whole]
      exact e

/-- The output after the last point of a run. -/
theorem outs (hA : T16 2048 1024 (V m c main_v0) A) (hB : T16 2048 1024 (V m c main_v1) B)
    (t : Fin cfg0.N) (h : t.val % 2 = 1) : T32 512 1024 (outsAt0 m c t.val t.isLt).1 (acc A B t.val) := by
  have e := scrB hA hB t (by omega) (scr hA hB _ _)
  rw [outsAt0_B m c t (by omega) h h]
  frame_out
  rw [Idealize.ShloMosaic.read_unread_whole]
  exact e

/-- The table of the result: the product of the first operand, transposed, and the second. -/
def res (A B : ℕ → ℕ → EReal) (r d : ℕ) : EReal := ∑ k ∈ Finset.range 2048, A k r * B k d

/-- The output after the call. -/
theorem arr2 (hA : T16 2048 1024 (V m c main_v0) A) (hB : T16 2048 1024 (V m c main_v1) B) :
    T32 1024 1024 ((dats m 0 c).arrAt 2 cfg0.N) (res A B) := fun r d =>
  (dats m 0 c).arrAt_forall_of_covers 2 (fun y v => (v : EReal) = res A B (y 0).val (y 1).val) (by decide +kernel) (fun t hf y => by
    have ht := (flush0_2 t).mp hf
    have e := outs hA hB t ht
    rw [after0_2]
    blk_simp [bx2 t]
    have ey : (y : S512x1024.Idx) = ix2 (n0 := 512) (n1 := 1024) (y 0) (y 1) := ValueIdx.eq_ix2 y
    refine (congrArg (fun z : S512x1024.Idx => ((outsAt0 m c t.val t.isLt).1 z : EReal)) ey).trans ((e (y 0) (y 1)).trans ?_)
    have h0 : (y 0).val < 512 := (y 0).isLt
    unfold acc res
    rw [ht]
    refine Finset.sum_congr rfl fun k _ => ?_
    congr 2
    · omega
    ) (ix2 r d)

/-- The second operand: the host's cast. -/
theorem V_y (m : (ℓ : Loc nD τ sig) → Buf (Elt Ideal) ℓ) (c : Dev nD) : V m c main_v1 = (truncf (F := Ideal) .bf16
    (m ((c.tc : Thread nD τ).loc main_arg1) : FVec Ideal S2048x1024 .f32) bitsLt_bf16_f32 : FVec Ideal S2048x1024 .bf16) := by
  unfold V
  simp only [hostOps0, List.flatten_cons, List.flatten_nil, List.append_nil]
  after_results

/-- The first operand: the host's cast. -/
theorem V_v0 (m : (ℓ : Loc nD τ sig) → Buf (Elt Ideal) ℓ) (c : Dev nD) : V m c main_v0 = (truncf (F := Ideal) .bf16
    (m ((c.tc : Thread nD τ).loc main_arg0) : FVec Ideal S2048x1024 .f32) bitsLt_bf16_f32 : FVec Ideal S2048x1024 .bf16) := by
  unfold V
  simp only [hostOps0, List.flatten_cons, List.flatten_nil, List.append_nil]
  after_results

/-- The reference's gradient, read as a table. -/
theorem ref (x0 x1 : FVec Ideal S2048x1024 .f32) :
    T32 1024 1024 (Cert.Reference11Ideal.Read.val_main_v3 (F := Ideal) x0 x1) (res (tab x0) (tab x1)) := fun r d => by
  rw [Cert.Reference11Ideal.Read.val_main_v3_apply, Cert.Reference11Ideal.Read.val_main_v2_apply]
  unfold res
  refine Eq.trans ?_ (Finset.sum_range _).symm
  refine Finset.sum_congr rfl fun k _ => ?_
  have ea := tb_tab x0 k r
  have eb := tb_tab x1 k d
  rw [mul_comm]
  refine congrArg₂ (· * ·) (Eq.trans (congrArg _ ?_) ea) (Eq.trans (congrArg _ ?_) eb)
  · refine funext fun a => Fin.ext ?_
    match a with
    | ⟨0, _⟩ => rfl
    | ⟨1, _⟩ => rfl
  · refine funext fun a => Fin.ext ?_
    match a with
    | ⟨0, _⟩ => rfl
    | ⟨1, _⟩ => rfl

/-- The kernel's output is the reference's result. -/
theorem value : @Cert.algebraic_Kernel11Ideal_Reference11Ideal Cert.Kernel11Ideal.Gen.facts Cert.Reference11Ideal.Gen.facts := by
  intro m g m' g' _ hag
  refine ⟨_, Cert.Kernel11Ideal.Value.run_blocks m g, (θ_run _ _ _).mono (fun r h c => ?_) (Cert.Reference11Ideal.Value.run (F := Ideal) m' g')⟩
  obtain ⟨e0, e2, e3⟩ := h c
  obtain ⟨a0, a1⟩ := hag c
  have hA : T16 2048 1024 (V m c main_v0) (tab (n := 2048) (m := 1024) (φ := .f32) (m ((c.tc : Thread nD τ).loc main_arg0))) := by
    rw [V_v0]
    exact Tb.truncf (tb32 2048 1024 _) bitsLt_bf16_f32
  have hB : T16 2048 1024 (V m c main_v1) (tab (n := 2048) (m := 1024) (φ := .f32) (m ((c.tc : Thread nD τ).loc main_arg1))) := by
    rw [V_y]
    exact Tb.truncf (tb32 2048 1024 _) bitsLt_bf16_f32
  refine ⟨e0.trans ?_, e2, e3⟩
  clear e0 e2 e3
  rw [Cert.Reference11Ideal.Read.val_main_v3_eq, a0, a1]
  exact (ref _ _).eq (arr2 hA hB)

end Cert.Mat.K11

end
-- ==== Proof.Sbo12.lean ====
/- The output projection of the stick-breaking attention and the gradient of its input: what the two calls leave. -/
module

public import proofs.«01_k».proof.Proof.Mat
public import proofs.«01_k».proof.Proof.Gen.Kernel12Ideal.Frame
public import proofs.«01_k».proof.Proof.Gen.Reference12Ideal.Run
public import proofs.«01_k».proof.Proof.Gen.Reference12Ideal.Read
public import proofs.«01_k».proof.Defs

@[expose] public section

set_option maxRecDepth 16384

noncomputable section

namespace Cert.Mat.K12

open Idealize.SL.RA Idealize.SL.BI Idealize.SL.BI.BIBase Idealize.SL.BI.Laws Idealize.SL.ProofMode
open scoped Idealize.SL.BI
open Idealize.ShloMosaic.Rounds
open Idealize.ShloMosaic hiding ix2 ix3
open Idealize.ShloMosaic.TcCoe Idealize.ShloMosaic.Tactic
open Idealize.ShloMosaic.ValueIdx (ix2 ix3)
open Cert.Kernel12Ideal Cert.Kernel12Ideal.Gen Idealize.SL Idealize.SL.Sem
open scoped BigOperators

/-! ## The run -/

section
variable {F : FTy → Type} [FloatOps F] (m : (ℓ : Loc nD τ sig) → Buf (Elt F) ℓ) (ρ : Dev nD → PrngReg)

set_option backward.isDefEq.respectTransparency.types false in
/-- Every run of both calls ends with each buffer that lasts as the second call leaves it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-- The run with the results and the arguments by name. -/
theorem run_named : θ_run defs (onTc (τ := τ) (main (F := F))) ⟨m, fun _ => 0, ρ⟩ (fun r => ∀ c : Dev nD,
      r.2.mem ((c.tc : Thread nD τ).loc main_v2) = (dat0 (V1 m ρ) c).arrAt 2 cfg0.N
      ∧ r.2.mem ((c.tc : Thread nD τ).loc main_v4) = (dat1 (V3 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v2 (by decide))).trans ((W4_of m ρ c main_v2 (by decide +kernel)).trans ((W3_of m ρ c main_v2 (by decide)).trans (W2_arr m ρ c 2))),
      (h c _ (mem_uc main_v4 (by decide))).trans (W4_arr m ρ c 2),
      (h c _ (mem_uc main_arg0 (by decide))).trans (W4_main_arg0 m ρ c), (h c _ (mem_uc main_arg1 (by decide))).trans (W4_main_arg1 m ρ c),
      (h c _ (mem_uc main_arg2 (by decide))).trans (W4_main_arg2 m ρ c)⟩)
    (run_all m ρ)
end

/-! ## The two calls -/

theorem bx00 : ∀ t : Fin cfg0.N, win0_0.index t = ![t.val, 0] := (by decide +kernel : ∀ t : Fin grid0.N, _)
theorem bx01 : ∀ t : Fin cfg0.N, win0_1.index t = ![0, 0] := (by decide +kernel : ∀ t : Fin grid0.N, _)
theorem bx02 : ∀ t : Fin cfg0.N, win0_2.index t = ![t.val, 0] := (by decide +kernel : ∀ t : Fin grid0.N, _)
theorem bx10 : ∀ t : Fin cfg1.N, win1_0.index t = ![t.val, 0] := (by decide +kernel : ∀ t : Fin grid1.N, _)
theorem bx11 : ∀ t : Fin cfg1.N, win1_1.index t = ![0, 0] := (by decide +kernel : ∀ t : Fin grid1.N, _)
theorem bx12 : ∀ t : Fin cfg1.N, win1_2.index t = ![t.val, 0] := (by decide +kernel : ∀ t : Fin grid1.N, _)
theorem ltN0 (t : Fin cfg0.N) : t.val < 4 := lt_of_lt_of_eq t.isLt N_0
theorem ltN1 (t : Fin cfg1.N) : t.val < 4 := lt_of_lt_of_eq t.isLt N_1

variable {V : (c : Dev nD) → (b : Ref sig .tc) → Buf (Elt Ideal) ((c : Thread nD τ).loc b)} {c : Dev nD} {A B : ℕ → ℕ → EReal}

/-- The first call's block of rows at a grid point. -/
theorem blk00 (hA : T16 2048 512 (V c main_v1) A) (t : Fin cfg0.N) :
    T16 512 512 (iblk0 V c 0 t) (fun r d => A (512 * t.val + r) d) := fun r d => by
  have e : iblk0 V c 0 t (ix2 r d) = V c main_v1 (ix2 (⟨512 * t.val + r.val, by have := r.isLt; have := ltN0 t; omega⟩ : Fin 2048) d) := by
    unfold iblk0
    generalize V c = W
    blk_ext [bx00 t]
    all_goals (show t.val * 512 + r.val = _; omega)
  exact e.trans (hA _ _)

/-- The first call's weight, whole at every grid point. -/
theorem blk01 (hB : T16 512 1024 (V c main_v0) B) (t : Fin cfg0.N) :
    T16 512 1024 (iblk0 V c 1 t) B := fun r d => by
  have e : iblk0 V c 1 t (ix2 r d) = V c main_v0 (ix2 r d) := by
    unfold iblk0
    generalize V c = W
    blk_ext [bx01 t]
  exact e.trans (hB _ _)

/-- The second call's block of rows at a grid point. -/
theorem blk10 (hA : T16 2048 1024 (V c main_v3) A) (t : Fin cfg1.N) :
    T16 512 1024 (iblk1 V c 0 t) (fun r d => A (512 * t.val + r) d) := fun r d => by
  have e : iblk1 V c 0 t (ix2 r d) = V c main_v3 (ix2 (⟨512 * t.val + r.val, by have := r.isLt; have := ltN1 t; omega⟩ : Fin 2048) d) := by
    unfold iblk1
    generalize V c = W
    blk_ext [bx10 t]
    all_goals (show t.val * 512 + r.val = _; omega)
  exact e.trans (hA _ _)

/-- The second call's weight, whole at every grid point. -/
theorem blk11 (hB : T16 512 1024 (V c main_v0) B) (t : Fin cfg1.N) :
    T16 512 1024 (iblk1 V c 1 t) B := fun r d => by
  have e : iblk1 V c 1 t (ix2 r d) = V c main_v0 (ix2 r d) := by
    unfold iblk1
    generalize V c = W
    blk_ext [bx11 t]
  exact e.trans (hB _ _)

/-- The table of a product. -/
def fwd (A B : ℕ → ℕ → EReal) (r d : ℕ) : EReal := ∑ k ∈ Finset.range 512, A r k * B k d

/-- The table of a product with the second operand transposed. -/
def bwd (A B : ℕ → ℕ → EReal) (r d : ℕ) : EReal := ∑ k ∈ Finset.range 1024, A r k * B d k

/-- The first call's product of two blocks. -/
theorem pay0 {x : FVec Ideal S512x512 .bf16} {y : FVec Ideal S512x1024 .bf16} {f g : ℕ → ℕ → EReal} (hx : Tb x f)
    (hy : Tb y g) : Tb (k0_pay1 x y) (fwd f g) :=
  Tb.dotNN (hx.self _) (hy.self _)

/-- The second call's product of two blocks. -/
theorem pay1 {x : FVec Ideal S512x1024 .bf16} {y : FVec Ideal S512x1024 .bf16} {f g : ℕ → ℕ → EReal} (hx : Tb x f)
    (hy : Tb y g) : Tb (k1_pay1 x y) (bwd f g) :=
  Tb.dotNT (hx.self _) (hy.self _)

/-- The projection after the first call. -/
theorem arr0 (hA : T16 2048 512 (V c main_v1) A) (hB : T16 512 1024 (V c main_v0) B) :
    T32 2048 1024 ((dat0 V c).arrAt 2 cfg0.N) (fwd A B) := fun r d =>
  (dat0 V c).arrAt_forall_of_covers 2 (fun y v => (v : EReal) = fwd A B (y 0).val (y 1).val) (by decide +kernel) (fun t hf y => by
    have e : T32 512 1024 (out0_2 (iblk0 V c 0 t) (iblk0 V c 1 t)) (fun r d => fwd A B (512 * t.val + r) d) := by
      frame_out
      exact pay0 (blk00 hA t) (blk01 hB t)
    rw [after0_2]
    blk_simp [bx02 t]
    have ey : (y : S512x1024.Idx) = ix2 (n0 := 512) (n1 := 1024) (y 0) (y 1) := ValueIdx.eq_ix2 y
    refine (congrArg (fun z : S512x1024.Idx => ((out0_2 (iblk0 V c 0 t) (iblk0 V c 1 t)) z : EReal)) ey).trans ((e (y 0) (y 1)).trans ?_)
    rw [Nat.mul_comm 512]) (ix2 r d)

/-- The gradient of the projection's input after the second call. -/
theorem arr1 (hA : T16 2048 1024 (V c main_v3) A) (hB : T16 512 1024 (V c main_v0) B) :
    T32 2048 512 ((dat1 V c).arrAt 2 cfg1.N) (bwd A B) := fun r d =>
  (dat1 V c).arrAt_forall_of_covers 2 (fun y v => (v : EReal) = bwd A B (y 0).val (y 1).val) (by decide +kernel) (fun t hf y => by
    have e : T32 512 512 (out1_2 (iblk1 V c 0 t) (iblk1 V c 1 t)) (fun r d => bwd A B (512 * t.val + r) d) := by
      frame_out
      exact pay1 (blk10 hA t) (blk11 hB t)
    rw [after1_2]
    blk_simp [bx12 t]
    have ey : (y : S512x512.Idx) = ix2 (n0 := 512) (n1 := 512) (y 0) (y 1) := ValueIdx.eq_ix2 y
    refine (congrArg (fun z : S512x512.Idx => ((out1_2 (iblk1 V c 0 t) (iblk1 V c 1 t)) z : EReal)) ey).trans ((e (y 0) (y 1)).trans ?_)
    rw [Nat.mul_comm 512]) (ix2 r d)

/-! ## The operands and the reference -/

section
variable (m : (ℓ : Loc nD τ sig) → Buf (Elt Ideal) ℓ) (ρ : Dev nD → PrngReg) (c : Dev nD)

theorem V1_x : V1 m ρ c main_v1 = (truncf (F := Ideal) .bf16 (m ((c.tc : Thread nD τ).loc main_arg0) : FVec Ideal S2048x512 .f32) bitsLt_bf16_f32 :
    FVec Ideal S2048x512 .bf16) := by
  unfold V1 W1
  simp only [hostOps0]
  after_results

theorem V1_w : V1 m ρ c main_v0 = (truncf (F := Ideal) .bf16 (m ((c.tc : Thread nD τ).loc main_arg1) : FVec Ideal S512x1024 .f32) bitsLt_bf16_f32 :
    FVec Ideal S512x1024 .bf16) := by
  unfold V1 W1
  simp only [hostOps0]
  after_results

theorem V3_w : V3 m ρ c main_v0 = V1 m ρ c main_v0 :=
  (W3_of m ρ c main_v0 (by decide)).trans (W2_of m ρ c main_v0 (by decide +kernel))

theorem V3_y : V3 m ρ c main_v3 = (truncf (F := Ideal) .bf16 (m ((c.tc : Thread nD τ).loc main_arg2) : FVec Ideal S2048x1024 .f32) bitsLt_bf16_f32 :
    FVec Ideal S2048x1024 .bf16) := by
  have e := W2_args m ρ c main_arg2 (by decide)
  unfold V3 W3
  simp only [hostOps1]
  after_results
  rw [e]
end

variable (x0 : FVec Ideal S2048x512 .f32) (x1 : FVec Ideal S512x1024 .f32) (x2 : FVec Ideal S2048x1024 .f32)

/-- The reference's projection, read as a table. -/
theorem ref_y : T32 2048 1024 (Cert.Reference12Ideal.Read.val_main_v0 (F := Ideal) x0 x1) (fwd (tab x0) (tab x1)) := fun r d => by
  rw [Cert.Reference12Ideal.Read.val_main_v0_apply]
  unfold fwd
  refine Eq.trans ?_ (Finset.sum_range _).symm
  refine Finset.sum_congr rfl fun k _ => ?_
  refine congrArg₂ (· * ·) (Eq.trans (congrArg _ ?_) (tb_tab x0 r k)) (Eq.trans (congrArg _ ?_) (tb_tab x1 k d))
  · refine funext fun a => Fin.ext ?_
    match a with
    | ⟨0, _⟩ => rfl
    | ⟨1, _⟩ => rfl
  · refine funext fun a => Fin.ext ?_
    match a with
    | ⟨0, _⟩ => rfl
    | ⟨1, _⟩ => rfl

/-- The reference's gradient of the projection's input. -/
theorem ref_dx : T32 2048 512 (Cert.Reference12Ideal.Read.val_main_v1 (F := Ideal) x1 x2) (bwd (tab x2) (tab x1)) := fun r d => by
  rw [Cert.Reference12Ideal.Read.val_main_v1_apply]
  unfold bwd
  refine Eq.trans ?_ (Finset.sum_range _).symm
  refine Finset.sum_congr rfl fun k _ => ?_
  refine congrArg₂ (· * ·) (Eq.trans (congrArg _ ?_) (tb_tab x2 r k)) (Eq.trans (congrArg _ ?_) (tb_tab x1 d k))
  · refine funext fun a => Fin.ext ?_
    match a with
    | ⟨0, _⟩ => rfl
    | ⟨1, _⟩ => rfl
  · refine funext fun a => Fin.ext ?_
    match a with
    | ⟨0, _⟩ => rfl
    | ⟨1, _⟩ => rfl

/-- The two calls' outputs are the reference's results. -/
theorem value : @Cert.algebraic_Kernel12Ideal_Reference12Ideal Cert.Kernel12Ideal.Gen.facts Cert.Reference12Ideal.Gen.facts := by
  intro m g m' g' _ hag
  refine ⟨_, _, run_named m g, (θ_run _ _ _).mono (fun r h c => ?_) (Cert.Reference12Ideal.Value.run (F := Ideal) m' g')⟩
  obtain ⟨e0, e1, e2, e3, e4⟩ := h c
  obtain ⟨a0, a1, a2⟩ := hag c
  have hA : T16 2048 512 (V1 m g c main_v1) (tab (n := 2048) (m := 512) (φ := .f32) (m ((c.tc : Thread nD τ).loc main_arg0))) := by
    rw [V1_x]
    exact Tb.truncf (tb32 2048 512 _) bitsLt_bf16_f32
  have hB : T16 512 1024 (V1 m g c main_v0) (tab (n := 512) (m := 1024) (φ := .f32) (m ((c.tc : Thread nD τ).loc main_arg1))) := by
    rw [V1_w]
    exact Tb.truncf (tb32 512 1024 _) bitsLt_bf16_f32
  have hB2 : T16 512 1024 (V3 m g c main_v0) (tab (n := 512) (m := 1024) (φ := .f32) (m ((c.tc : Thread nD τ).loc main_arg1))) := by
    rw [V3_w]
    exact hB
  have hD : T16 2048 1024 (V3 m g c main_v3) (tab (n := 2048) (m := 1024) (φ := .f32) (m ((c.tc : Thread nD τ).loc main_arg2))) := by
    rw [V3_y]
    exact Tb.truncf (tb32 2048 1024 _) bitsLt_bf16_f32
  refine ⟨e0.trans ?_, e1.trans ?_, e2, e3, e4⟩
  · clear e0 e1 e2 e3 e4
    rw [Cert.Reference12Ideal.Read.val_main_v0_eq, a0, a1]
    exact (ref_y _ _).eq (arr0 hA hB)
  · clear e0 e1 e2 e3 e4
    rw [Cert.Reference12Ideal.Read.val_main_v1_eq, a1, a2]
    exact (ref_dx _ _).eq (arr1 hD hB2)

end Cert.Mat.K12

end
-- ==== Proof.Dw13.lean ====
/- The gradient of the weight of the output projection of the stick-breaking attention: what the call leaves in its output. -/
module

public import proofs.«01_k».proof.Proof.Mat
public import Idealize.ShloMosaic.Lib.Pipeline.ReadBack
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Defs

@[expose] public section

set_option maxRecDepth 16384

noncomputable section

namespace Cert.Mat.K13

open Idealize.ShloMosaic hiding ix2 ix3
open Idealize.ShloMosaic.TcCoe Idealize.ShloMosaic.Tactic
open Idealize.ShloMosaic.ValueIdx (ix2 ix3)
open Cert.Kernel13Ideal Cert.Kernel13Ideal.Gen Idealize.SL Idealize.SL.Sem
open scoped BigOperators

theorem bx0 : ∀ t : Fin cfg0.N, win0_0.index t = ![t.val % 2, t.val / 2] := (by decide +kernel : ∀ t : Fin grid0.N, _)
theorem bx1 : ∀ t : Fin cfg0.N, win0_1.index t = ![t.val % 2, 0] := (by decide +kernel : ∀ t : Fin grid0.N, _)
theorem bx2 : ∀ t : Fin cfg0.N, win0_2.index t = ![t.val / 2, 0] := (by decide +kernel : ∀ t : Fin grid0.N, _)
theorem ltN (t : Fin cfg0.N) : t.val < 2 := lt_of_lt_of_eq t.isLt N_0

variable {m : (ℓ : Loc nD τ sig) → Buf (Elt Ideal) ℓ} {c : Dev nD} {A B : ℕ → ℕ → EReal}

/-- The block of the first operand at a grid point. -/
theorem blk0 (hA : T16 2048 512 (V m c main_v0) A) (t : Fin cfg0.N) :
    T16 1024 512 (iblk m c 0 t) (fun r d => A (1024 * (t.val % 2) + r) (512 * (t.val / 2) + d)) := fun r d => by
  have e : iblk m c 0 t (ix2 r d) = V m c main_v0 (ix2 (⟨1024 * (t.val % 2) + r.val, by have := r.isLt; have := ltN t; omega⟩ : Fin 2048)
      (⟨512 * (t.val / 2) + d.val, by have := d.isLt; have := ltN t; omega⟩ : Fin 512)) := by
    unfold iblk
    generalize V m c = W
    blk_ext [bx0 t]
    all_goals first
      | (show t.val % 2 * 1024 + r.val = _; omega)
      | (show t.val / 2 * 512 + d.val = _; omega)
  exact e.trans (hA _ _)

/-- The block of the second operand at a grid point. -/
theorem blk1 (hB : T16 2048 1024 (V m c main_v1) B) (t : Fin cfg0.N) :
    T16 1024 1024 (iblk m c 1 t) (fun r d => B (1024 * (t.val % 2) + r) d) := fun r d => by
  have e : iblk m c 1 t (ix2 r d) = V m c main_v1 (ix2 (⟨1024 * (t.val % 2) + r.val, by have := r.isLt; have := ltN t; omega⟩ : Fin 2048) d) := by
    unfold iblk
    generalize V m c = W
    blk_ext [bx1 t]
    all_goals (show t.val % 2 * 1024 + r.val = _; omega)
  exact e.trans (hB _ _)

/-- The product of the two blocks at a grid point. -/
theorem pay1 {x : FVec Ideal S1024x512 .bf16} {y : FVec Ideal S1024x1024 .bf16} {f g : ℕ → ℕ → EReal} (hx : Tb x f) (hy : Tb y g) :
    Tb (k0_pay1 x y) (fun r d => ∑ k ∈ Finset.range 1024, f k r * g k d) :=
  Tb.dotTN (hx.self _) (hy.self _) _

/-- The table of the product up to a tile. -/
def acc (A B : ℕ → ℕ → EReal) (t r d : ℕ) : EReal :=
  ∑ k ∈ Finset.range (1024 * (t % 2 + 1)), A k (512 * (t / 2) + r) * B k d

/-- The scratch after the first point of a run: the product of its tiles. -/
theorem scrA (hA : T16 2048 512 (V m c main_v0) A) (hB : T16 2048 1024 (V m c main_v1) B)
    (t : Fin cfg0.N) (h : t.val % 2 = 0) : T32 512 1024 (outsAt0 m c t.val t.isLt).2 (acc A B t.val) := by
  rw [outsAt0_A m c t h (by omega) (by omega)]
  frame_out
  refine ((pay1 (blk0 hA t) (blk1 hB t)).self _).congr fun r d _ _ => ?_
  unfold acc
  rw [h]
  exact Finset.sum_congr rfl fun k _ => by rw [Nat.mul_zero, Nat.zero_add]

/-- The scratch after a later point of a run: the product of the point's tiles added. -/
theorem scrB (hA : T16 2048 512 (V m c main_v0) A) (hB : T16 2048 1024 (V m c main_v1) B)
    (t : Fin cfg0.N) (h : ¬ t.val % 2 = 0)
    (ih : T32 512 1024 (outsAt0 m c (t.val - 1) (Nat.lt_of_le_of_lt (Nat.sub_le _ _) t.isLt)).2 (acc A B (t.val - 1))) :
    T32 512 1024 (k0_pay3 (iblk m c 0 t) (iblk m c 1 t) (outsAt0 m c (t.val - 1) (Nat.lt_of_le_of_lt (Nat.sub_le _ _) t.isLt)).2)
      (acc A B t.val) := by
  refine ((ih.addf (pay1 (blk0 hA t) (blk1 hB t))).self _).congr fun r d _ _ => ?_
  have e : (t.val - 1) % 2 + 1 = t.val % 2 := by omega
  have e' : (t.val - 1) / 2 = t.val / 2 := by omega
  unfold acc
  rw [e, e']
  exact sum_tile (fun k => A k (512 * (t.val / 2) + r) * B k d) (t.val % 2) 1024

/-- The scratch after any point. -/
theorem scr (hA : T16 2048 512 (V m c main_v0) A) (hB : T16 2048 1024 (V m c main_v1) B) :
    ∀ (n : ℕ) (hn : n < cfg0.N), T32 512 1024 (outsAt0 m c n hn).2 (acc A B n) := by
  intro n
  induction n with
  | zero => exact fun hn => scrA hA hB ⟨0, hn⟩ (Nat.zero_mod _)
  | succ n ih =>
    intro hn
    by_cases h : (n + 1) % 2 = 0
    · exact scrA hA hB ⟨n + 1, hn⟩ h
    · have e := scrB hA hB ⟨n + 1, hn⟩ h (ih _)
      rw [outsAt0_B m c ⟨n + 1, hn⟩ h (show (n + 1) % 2 = 1 by omega) (show (n + 1) % 2 = 1 by omega)]
      frame_out
      rw [Idealize.ShloMosaic.read_unread_whole]
      exact e

/-- The output after the last point of a run. -/
theorem outs (hA : T16 2048 512 (V m c main_v0) A) (hB : T16 2048 1024 (V m c main_v1) B)
    (t : Fin cfg0.N) (h : t.val % 2 = 1) : T32 512 1024 (outsAt0 m c t.val t.isLt).1 (acc A B t.val) := by
  have e := scrB hA hB t (by omega) (scr hA hB _ _)
  rw [outsAt0_B m c t (by omega) h h]
  frame_out
  rw [Idealize.ShloMosaic.read_unread_whole]
  exact e

/-- The table of the result: the product of the first operand, transposed, and the second. -/
def res (A B : ℕ → ℕ → EReal) (r d : ℕ) : EReal := ∑ k ∈ Finset.range 2048, A k r * B k d

/-- The output after the call. -/
theorem arr2 (hA : T16 2048 512 (V m c main_v0) A) (hB : T16 2048 1024 (V m c main_v1) B) :
    T32 512 1024 ((dats m 0 c).arrAt 2 cfg0.N) (res A B) := fun r d =>
  (dats m 0 c).arrAt_forall_of_covers 2 (fun y v => (v : EReal) = res A B (y 0).val (y 1).val) (by decide +kernel) (fun t hf y => by
    have ht := (flush0_2 t).mp hf
    have e := outs hA hB t ht
    rw [after0_2]
    blk_simp [bx2 t]
    have ey : (y : S512x1024.Idx) = ix2 (n0 := 512) (n1 := 1024) (y 0) (y 1) := ValueIdx.eq_ix2 y
    refine (congrArg (fun z : S512x1024.Idx => ((outsAt0 m c t.val t.isLt).1 z : EReal)) ey).trans ((e (y 0) (y 1)).trans ?_)
    have h0 : (y 0).val < 512 := (y 0).isLt
    unfold acc res
    rw [ht]
    refine Finset.sum_congr rfl fun k _ => ?_
    congr 2
    · omega
    ) (ix2 r d)

/-- The second operand: the host's cast. -/
theorem V_y (m : (ℓ : Loc nD τ sig) → Buf (Elt Ideal) ℓ) (c : Dev nD) : V m c main_v1 = (truncf (F := Ideal) .bf16
    (m ((c.tc : Thread nD τ).loc main_arg1) : FVec Ideal S2048x1024 .f32) bitsLt_bf16_f32 : FVec Ideal S2048x1024 .bf16) := by
  unfold V
  simp only [hostOps0, List.flatten_cons, List.flatten_nil, List.append_nil]
  after_results

/-- The first operand: the host's cast. -/
theorem V_v0 (m : (ℓ : Loc nD τ sig) → Buf (Elt Ideal) ℓ) (c : Dev nD) : V m c main_v0 = (truncf (F := Ideal) .bf16
    (m ((c.tc : Thread nD τ).loc main_arg0) : FVec Ideal S2048x512 .f32) bitsLt_bf16_f32 : FVec Ideal S2048x512 .bf16) := by
  unfold V
  simp only [hostOps0, List.flatten_cons, List.flatten_nil, List.append_nil]
  after_results

/-- The reference's gradient, read as a table. -/
theorem ref (x0 : FVec Ideal S2048x512 .f32) (x1 : FVec Ideal S2048x1024 .f32) :
    T32 512 1024 (Cert.Reference13Ideal.Read.val_main_v3 (F := Ideal) x0 x1) (res (tab x0) (tab x1)) := fun r d => by
  rw [Cert.Reference13Ideal.Read.val_main_v3_apply, Cert.Reference13Ideal.Read.val_main_v2_apply]
  unfold res
  refine Eq.trans ?_ (Finset.sum_range _).symm
  refine Finset.sum_congr rfl fun k _ => ?_
  have ea := tb_tab x0 k r
  have eb := tb_tab x1 k d
  rw [mul_comm]
  refine congrArg₂ (· * ·) (Eq.trans (congrArg _ ?_) ea) (Eq.trans (congrArg _ ?_) eb)
  · refine funext fun a => Fin.ext ?_
    match a with
    | ⟨0, _⟩ => rfl
    | ⟨1, _⟩ => rfl
  · refine funext fun a => Fin.ext ?_
    match a with
    | ⟨0, _⟩ => rfl
    | ⟨1, _⟩ => rfl

/-- The kernel's output is the reference's result. -/
theorem value : @Cert.algebraic_Kernel13Ideal_Reference13Ideal Cert.Kernel13Ideal.Gen.facts Cert.Reference13Ideal.Gen.facts := by
  intro m g m' g' _ hag
  refine ⟨_, Cert.Kernel13Ideal.Value.run_blocks m g, (θ_run _ _ _).mono (fun r h c => ?_) (Cert.Reference13Ideal.Value.run (F := Ideal) m' g')⟩
  obtain ⟨e0, e2, e3⟩ := h c
  obtain ⟨a0, a1⟩ := hag c
  have hA : T16 2048 512 (V m c main_v0) (tab (n := 2048) (m := 512) (φ := .f32) (m ((c.tc : Thread nD τ).loc main_arg0))) := by
    rw [V_v0]
    exact Tb.truncf (tb32 2048 512 _) bitsLt_bf16_f32
  have hB : T16 2048 1024 (V m c main_v1) (tab (n := 2048) (m := 1024) (φ := .f32) (m ((c.tc : Thread nD τ).loc main_arg1))) := by
    rw [V_y]
    exact Tb.truncf (tb32 2048 1024 _) bitsLt_bf16_f32
  refine ⟨e0.trans ?_, e2, e3⟩
  clear e0 e2 e3
  rw [Cert.Reference13Ideal.Read.val_main_v3_eq, a0, a1]
  exact (ref _ _).eq (arr2 hA hB)

end Cert.Mat.K13

end
-- ==== Proof.Heads.lean ====
/- Zero lanes beside the columns or rows of every head: the padded order, its inverse and the sums over it. -/
module

public import proofs.«01_k».proof.Proof.Mat
public import Idealize.ShloMosaic.Lib.KernelVsHost

@[expose] public section

set_option maxRecDepth 16384

noncomputable section

namespace Cert.Mat

open Idealize.ShloMosaic hiding ix2 ix3
open Idealize.ShloMosaic.ValueIdx (ix2 ix3)
open scoped BigOperators

variable {n m M : ℕ} {φ : FTy} {f : ℕ → ℕ → EReal}

/-- A row of eight heads of `b` entries, each put at lane `a` of 128 lanes. -/
def padh (a b : ℕ) (g : ℕ → EReal) (c : ℕ) : EReal :=
  if a ≤ c % 128 ∧ c % 128 < a + b then g (b * (c / 128) + (c % 128 - a)) else 0

/-- The place of an entry in the padded row. -/
def unh (a b d : ℕ) : ℕ := 128 * (d / b) + (a + d % b)

/-- The two are inverse. -/
theorem padh_unh (a b : ℕ) (hb : 0 < b) (hab : a + b ≤ 128) (g : ℕ → EReal) (d : ℕ) : padh a b g (unh a b d) = g d := by
  have hm := Nat.mod_lt d hb
  have e1 : unh a b d % 128 = a + d % b := by unfold unh; omega
  have e2 : unh a b d / 128 = d / b := by unfold unh; omega
  unfold padh
  rw [e1, e2, if_pos ⟨by omega, by omega⟩, Nat.add_sub_cancel_left, Nat.div_add_mod]

/-- A product in the padded order. -/
theorem padh_mul (a b : ℕ) (g h : ℕ → EReal) (c : ℕ) : padh a b g c * padh a b h c = padh a b (fun k => g k * h k) c := by
  unfold padh
  split
  · rfl
  · exact mul_zero _

/-- The sum over one head's lanes. -/
theorem sum_head (a b e : ℕ) (he : a + b + e = 128) (g : ℕ → EReal) (h : ℕ) :
    ∑ j ∈ Finset.range 128, padh a b g (128 * h + j) = ∑ j ∈ Finset.range b, g (b * h + j) := by
  have hl : ∑ j ∈ Finset.range a, padh a b g (128 * h + j) = 0 := Finset.sum_eq_zero fun j hj => by
    have := Finset.mem_range.mp hj
    unfold padh
    exact if_neg (by omega)
  have hm : ∑ j ∈ Finset.range b, padh a b g (128 * h + (a + j)) = ∑ j ∈ Finset.range b, g (b * h + j) := Finset.sum_congr rfl fun j hj => by
    have := Finset.mem_range.mp hj
    have e1 : (128 * h + (a + j)) % 128 = a + j := by omega
    have e2 : (128 * h + (a + j)) / 128 = h := by omega
    unfold padh
    rw [e1, e2, if_pos ⟨by omega, by omega⟩, Nat.add_sub_cancel_left]
  have hr : ∑ j ∈ Finset.range e, padh a b g (128 * h + (a + b + j)) = 0 := Finset.sum_eq_zero fun j hj => by
    have := Finset.mem_range.mp hj
    unfold padh
    exact if_neg (by omega)
  have h1 := Finset.sum_range_add (fun j => padh a b g (128 * h + j)) (a + b) e
  have h2 := Finset.sum_range_add (fun j => padh a b g (128 * h + j)) a b
  rw [he] at h1
  rw [h1, h2, hl, hm, hr, zero_add, add_zero]

/-- The sum over the lanes of some heads is the sum over their entries. -/
theorem sum_heads (a b e : ℕ) (he : a + b + e = 128) (g : ℕ → EReal) (h : ℕ) :
    ∑ c ∈ Finset.range (128 * h), padh a b g c = ∑ k ∈ Finset.range (b * h), g k := by
  induction h with
  | zero => rfl
  | succ h ih =>
    have h1 := Finset.sum_range_add (padh a b g) (128 * h) 128
    have h2 := Finset.sum_range_add g (b * h) b
    rw [Nat.mul_succ, Nat.mul_succ, h1, h2, ih, sum_head a b e he g h]

/-- The padding's value is zero. -/
theorem pad_val (hu : 0 < (⟨0, ![]⟩ : Shape).numel) :
    (sitofp (F := Ideal) .bf16 (constantI ⟨0, ![]⟩ 32 0#32) (Shape.Idx.first hu) : EReal) = 0 := by
  show (((0#32 : BitVec 32).toInt : ℝ) : EReal) = 0
  simp

section
variable (a b e : ℕ) {u : Shape} {v : u.Idx → Ideal φ} {hu : 0 < u.numel}

/-- The columns of a matrix by heads, each head's padded. -/
theorem Tb.padCols {x : FVec Ideal ⟨2, ![n, M]⟩ φ} (hx : Tb x f) (hM : M = b * 8) (hv : (v (Shape.Idx.first hu) : EReal) = 0)
    (hs : (⟨2, ![n, M]⟩ : Shape).ShapeCasts ⟨3, ![n, 8, b]⟩)
    (hp : (⟨3, ![n, 8, b]⟩ : Shape).Pads (![0, 0, a] : Fin 3 → ℕ) ![0, 0, e] ![0, 0, 0] ⟨3, ![n, 8, 128]⟩)
    (ht : (⟨3, ![n, 8, 128]⟩ : Shape).ShapeCasts ⟨2, ![n, 1024]⟩) :
    Tb (shapeCast ⟨2, ![n, 1024]⟩ (pad ⟨3, ![n, 8, 128]⟩ ![0, 0, a] ![0, 0, e] ![0, 0, 0] (shapeCast ⟨3, ![n, 8, b]⟩ x hs) v hp hu) ht :
      FVec Ideal ⟨2, ![n, 1024]⟩ φ) (fun r c => padh a b (f r) c) := fun r c => by
  have hc := c.isLt
  refine (shapeCast_apply _ ht (ix2 r c) (ix3 r (⟨c.val / 128, by omega⟩ : Fin 8) (⟨c.val % 128, by omega⟩ : Fin 128)) ?_).trans ?_
  · rewrite [Shape.rowMajor_val_two, Shape.rowMajor_val_three]
    show (r.val * 8 + c.val / 128) * 128 + c.val % 128 = r.val * 1024 + c.val
    omega
  unfold padh
  dsimp only
  split
  · rename_i h
    refine (pad_apply_of_inside _ _ _ _ _ hp hu _ (ix3 r (⟨c.val / 128, by omega⟩ : Fin 8) (⟨c.val % 128 - a, by omega⟩ : Fin b)) (fun k => match k with
      | ⟨0, _⟩ => (by show r.val = 0 + r.val * (0 + 1); omega)
      | ⟨1, _⟩ => (by show c.val / 128 = 0 + c.val / 128 * (0 + 1); omega)
      | ⟨2, _⟩ => (by show c.val % 128 = a + (c.val % 128 - a) * (0 + 1); omega))).trans ?_
    have hlt : b * (c.val / 128) + (c.val % 128 - a) < M := by
      have h8 : c.val / 128 + 1 ≤ 8 := by omega
      have := Nat.mul_le_mul_left b h8
      rw [Nat.mul_add] at this
      omega
    refine Eq.trans ?_ (hx r ⟨b * (c.val / 128) + (c.val % 128 - a), hlt⟩)
    refine shapeCast_apply x hs _ (ix2 r (⟨b * (c.val / 128) + (c.val % 128 - a), hlt⟩ : Fin M)) ?_
    rewrite [Shape.rowMajor_val_two, Shape.rowMajor_val_three]
    show r.val * M + (b * (c.val / 128) + (c.val % 128 - a)) = (r.val * 8 + c.val / 128) * b + (c.val % 128 - a)
    rw [hM]
    ring
  · rename_i h
    refine (pad_apply_of_not_inside _ _ _ _ _ hp hu _ 2 (fun hh => h ?_)).trans hv
    obtain ⟨h1, -, h3⟩ := hh
    have h1 : a ≤ c.val % 128 := h1
    have h3 : (c.val % 128 - a) / (0 + 1) < b := h3
    rw [Nat.zero_add, Nat.div_one] at h3
    exact ⟨h1, by omega⟩

/-- The rows of a matrix by heads, each head's padded. -/
theorem Tb.padRows {x : FVec Ideal ⟨2, ![M, m]⟩ φ} (hx : Tb x f) (hM : M = b * 8) (hv : (v (Shape.Idx.first hu) : EReal) = 0)
    (hs : (⟨2, ![M, m]⟩ : Shape).ShapeCasts ⟨3, ![8, b, m]⟩)
    (hp : (⟨3, ![8, b, m]⟩ : Shape).Pads (![0, a, 0] : Fin 3 → ℕ) ![0, e, 0] ![0, 0, 0] ⟨3, ![8, 128, m]⟩)
    (ht : (⟨3, ![8, 128, m]⟩ : Shape).ShapeCasts ⟨2, ![1024, m]⟩) :
    Tb (shapeCast ⟨2, ![1024, m]⟩ (pad ⟨3, ![8, 128, m]⟩ ![0, a, 0] ![0, e, 0] ![0, 0, 0] (shapeCast ⟨3, ![8, b, m]⟩ x hs) v hp hu) ht :
      FVec Ideal ⟨2, ![1024, m]⟩ φ) (fun r c => padh a b (fun k => f k c) r) := fun r c => by
  have hr := r.isLt
  refine (shapeCast_apply _ ht (ix2 r c) (ix3 (⟨r.val / 128, by omega⟩ : Fin 8) (⟨r.val % 128, by omega⟩ : Fin 128) c) ?_).trans ?_
  · rewrite [Shape.rowMajor_val_two, Shape.rowMajor_val_three]
    show (r.val / 128 * 128 + r.val % 128) * m + c.val = r.val * m + c.val
    rw [show r.val / 128 * 128 + r.val % 128 = r.val by omega]
  unfold padh
  dsimp only
  split
  · rename_i h
    refine (pad_apply_of_inside _ _ _ _ _ hp hu _ (ix3 (⟨r.val / 128, by omega⟩ : Fin 8) (⟨r.val % 128 - a, by omega⟩ : Fin b) c) (fun k => match k with
      | ⟨0, _⟩ => (by show r.val / 128 = 0 + r.val / 128 * (0 + 1); omega)
      | ⟨1, _⟩ => (by show r.val % 128 = a + (r.val % 128 - a) * (0 + 1); omega)
      | ⟨2, _⟩ => (by show c.val = 0 + c.val * (0 + 1); omega))).trans ?_
    have hlt : b * (r.val / 128) + (r.val % 128 - a) < M := by
      have h8 : r.val / 128 + 1 ≤ 8 := by omega
      have := Nat.mul_le_mul_left b h8
      rw [Nat.mul_add] at this
      omega
    refine Eq.trans ?_ (hx ⟨b * (r.val / 128) + (r.val % 128 - a), hlt⟩ c)
    refine shapeCast_apply x hs _ (ix2 (⟨b * (r.val / 128) + (r.val % 128 - a), hlt⟩ : Fin M) c) ?_
    rewrite [Shape.rowMajor_val_two, Shape.rowMajor_val_three]
    show (b * (r.val / 128) + (r.val % 128 - a)) * m + c.val = (r.val / 128 * b + (r.val % 128 - a)) * m + c.val
    rw [Nat.mul_comm b]
  · rename_i h
    refine (pad_apply_of_not_inside _ _ _ _ _ hp hu _ 1 (fun hh => h ?_)).trans hv
    obtain ⟨h1, -, h3⟩ := hh
    have h1 : a ≤ r.val % 128 := h1
    have h3 : (r.val % 128 - a) / (0 + 1) < b := h3
    rw [Nat.zero_add, Nat.div_one] at h3
    exact ⟨h1, by omega⟩

/-- The columns of a padded matrix without the zero lanes. -/
theorem Tb.unpadCols {x : FVec Ideal ⟨2, ![n, 1024]⟩ φ} (hx : Tb x f) (hM : M = b * 8) (hb : 0 < b) (hab : a + b ≤ 128)
    (hs : (⟨2, ![n, 1024]⟩ : Shape).ShapeCasts ⟨3, ![n, 8, 128]⟩)
    (hp : (⟨3, ![n, 8, 128]⟩ : Shape).Slices (![0, 0, a] : Fin 3 → ℕ) ⟨3, ![n, 8, b]⟩)
    (ht : (⟨3, ![n, 8, b]⟩ : Shape).ShapeCasts ⟨2, ![n, M]⟩) :
    Tb (shapeCast ⟨2, ![n, M]⟩ (extractStridedSlice ⟨3, ![n, 8, b]⟩ ![0, 0, a] (shapeCast ⟨3, ![n, 8, 128]⟩ x hs) hp) ht :
      FVec Ideal ⟨2, ![n, M]⟩ φ) (fun r c => f r (unh a b c)) := fun r c => by
  have hc : c.val / b < 8 := Nat.div_lt_of_lt_mul (by have := c.isLt; omega)
  have hm := Nat.mod_lt c.val hb
  have hu : unh a b c.val < 1024 := by unfold unh; omega
  refine (shapeCast_apply _ ht (ix2 r c) (ix3 r (⟨c.val / b, hc⟩ : Fin 8) (⟨c.val % b, hm⟩ : Fin b)) ?_).trans ?_
  · rewrite [Shape.rowMajor_val_two, Shape.rowMajor_val_three]
    show (r.val * 8 + c.val / b) * b + c.val % b = r.val * M + c.val
    have e := Nat.div_add_mod c.val b
    rw [Nat.mul_comm] at e
    have e2 : r.val * M = r.val * 8 * b := by rw [hM, Nat.mul_assoc, Nat.mul_comm 8]
    rw [Nat.add_mul, Nat.add_assoc, e, e2]
  refine (extractStridedSlice_apply _ _ hp _ (ix3 r (⟨c.val / b, hc⟩ : Fin 8) (⟨a + c.val % b, by omega⟩ : Fin 128)) (fun k => match k with
    | ⟨0, _⟩ => (Nat.zero_add _).symm
    | ⟨1, _⟩ => (Nat.zero_add _).symm
    | ⟨2, _⟩ => rfl)).trans ?_
  refine Eq.trans ?_ (hx r ⟨unh a b c.val, hu⟩)
  refine shapeCast_apply x hs _ (ix2 r (⟨unh a b c.val, hu⟩ : Fin 1024)) ?_
  rewrite [Shape.rowMajor_val_two, Shape.rowMajor_val_three]
  show r.val * 1024 + (128 * (c.val / b) + (a + c.val % b)) = (r.val * 8 + c.val / b) * 128 + (a + c.val % b)
  omega

/-- The rows of a padded matrix without the zero lanes. -/
theorem Tb.unpadRows {x : FVec Ideal ⟨2, ![1024, m]⟩ φ} (hx : Tb x f) (hM : M = b * 8) (hb : 0 < b) (hab : a + b ≤ 128)
    (hs : (⟨2, ![1024, m]⟩ : Shape).ShapeCasts ⟨3, ![8, 128, m]⟩)
    (hp : (⟨3, ![8, 128, m]⟩ : Shape).Slices (![0, a, 0] : Fin 3 → ℕ) ⟨3, ![8, b, m]⟩)
    (ht : (⟨3, ![8, b, m]⟩ : Shape).ShapeCasts ⟨2, ![M, m]⟩) :
    Tb (shapeCast ⟨2, ![M, m]⟩ (extractStridedSlice ⟨3, ![8, b, m]⟩ ![0, a, 0] (shapeCast ⟨3, ![8, 128, m]⟩ x hs) hp) ht :
      FVec Ideal ⟨2, ![M, m]⟩ φ) (fun r c => f (unh a b r) c) := fun r c => by
  have hc : r.val / b < 8 := Nat.div_lt_of_lt_mul (by have := r.isLt; omega)
  have hm := Nat.mod_lt r.val hb
  have hu : unh a b r.val < 1024 := by unfold unh; omega
  refine (shapeCast_apply _ ht (ix2 r c) (ix3 (⟨r.val / b, hc⟩ : Fin 8) (⟨r.val % b, hm⟩ : Fin b) c) ?_).trans ?_
  · rewrite [Shape.rowMajor_val_two, Shape.rowMajor_val_three]
    show (r.val / b * b + r.val % b) * m + c.val = r.val * m + c.val
    rw [Nat.div_add_mod']
  refine (extractStridedSlice_apply _ _ hp _ (ix3 (⟨r.val / b, hc⟩ : Fin 8) (⟨a + r.val % b, by omega⟩ : Fin 128) c) (fun k => match k with
    | ⟨0, _⟩ => (Nat.zero_add _).symm
    | ⟨1, _⟩ => rfl
    | ⟨2, _⟩ => (Nat.zero_add _).symm)).trans ?_
  refine Eq.trans ?_ (hx ⟨unh a b r.val, hu⟩ c)
  refine shapeCast_apply x hs _ (ix2 (⟨unh a b r.val, hu⟩ : Fin 1024) c) ?_
  rewrite [Shape.rowMajor_val_two, Shape.rowMajor_val_three]
  show (128 * (r.val / b) + (a + r.val % b)) * m + c.val = (r.val / b * 128 + (a + r.val % b)) * m + c.val
  rw [Nat.mul_comm 128]

end

end Cert.Mat

end
-- ==== Proof.Mlo14.lean ====
/- The output projection of the latent attention and the gradient of its input: what the two calls leave. -/
module

public import proofs.«01_k».proof.Proof.Heads
public import proofs.«01_k».proof.Proof.Gen.Kernel14Ideal.Frame
public import proofs.«01_k».proof.Proof.Gen.Reference14Ideal.Run
public import proofs.«01_k».proof.Proof.Gen.Reference14Ideal.Read
public import proofs.«01_k».proof.Defs

@[expose] public section

set_option maxRecDepth 16384

noncomputable section

namespace Cert.Mat.K14

open Idealize.SL.RA Idealize.SL.BI Idealize.SL.BI.BIBase Idealize.SL.BI.Laws Idealize.SL.ProofMode
open scoped Idealize.SL.BI
open Idealize.ShloMosaic.Rounds
open Idealize.ShloMosaic hiding ix2 ix3
open Idealize.ShloMosaic.TcCoe Idealize.ShloMosaic.Tactic
open Idealize.ShloMosaic.ValueIdx (ix2 ix3)
open Cert.Kernel14Ideal Cert.Kernel14Ideal.Gen Idealize.SL Idealize.SL.Sem
open scoped BigOperators

/-! ## The run -/

section
variable {F : FTy → Type} [FloatOps F] (m : (ℓ : Loc nD τ sig) → Buf (Elt F) ℓ) (ρ : Dev nD → PrngReg)

set_option backward.isDefEq.respectTransparency.types false in
/-- Every run of both calls ends with each buffer that lasts as the second call leaves it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ => h)

/-- The run with the results and the arguments by name. -/
theorem run_named : θ_run defs (onTc (τ := τ) (main (F := F))) ⟨m, fun _ => 0, ρ⟩ (fun r => ∀ c : Dev nD,
      r.2.mem ((c.tc : Thread nD τ).loc main_v8) = (dat0 (V5 m ρ) c).arrAt 2 cfg0.N
      ∧ r.2.mem ((c.tc : Thread nD τ).loc main_v13) = W9 m ρ c main_v13
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v8 (by decide))).trans ((W9_of m ρ c main_v8 (by decide)).trans ((W8_of m ρ c main_v8 (by decide +kernel)).trans ((W7_of m ρ c main_v8 (by decide)).trans (W6_arr m ρ c 2)))),
      h c _ (mem_uc main_v13 (by decide)),
      (h c _ (mem_uc main_arg0 (by decide))).trans (W9_main_arg0 m ρ c), (h c _ (mem_uc main_arg1 (by decide))).trans (W9_main_arg1 m ρ c),
      (h c _ (mem_uc main_arg2 (by decide))).trans (W9_main_arg2 m ρ c)⟩)
    (run_all m ρ)
end

/-! ## The two calls -/

theorem bx00 : ∀ t : Fin cfg0.N, win0_0.index t = ![t.val, 0] := (by decide +kernel : ∀ t : Fin grid0.N, _)
theorem bx01 : ∀ t : Fin cfg0.N, win0_1.index t = ![0, 0] := (by decide +kernel : ∀ t : Fin grid0.N, _)
theorem bx02 : ∀ t : Fin cfg0.N, win0_2.index t = ![t.val, 0] := (by decide +kernel : ∀ t : Fin grid0.N, _)
theorem bx10 : ∀ t : Fin cfg1.N, win1_0.index t = ![t.val, 0] := (by decide +kernel : ∀ t : Fin grid1.N, _)
theorem bx11 : ∀ t : Fin cfg1.N, win1_1.index t = ![0, 0] := (by decide +kernel : ∀ t : Fin grid1.N, _)
theorem bx12 : ∀ t : Fin cfg1.N, win1_2.index t = ![t.val, 0] := (by decide +kernel : ∀ t : Fin grid1.N, _)
theorem ltN0 (t : Fin cfg0.N) : t.val < 4 := lt_of_lt_of_eq t.isLt N_0
theorem ltN1 (t : Fin cfg1.N) : t.val < 4 := lt_of_lt_of_eq t.isLt N_1

variable {V : (c : Dev nD) → (b : Ref sig .tc) → Buf (Elt Ideal) ((c : Thread nD τ).loc b)} {c : Dev nD} {A B : ℕ → ℕ → EReal}

/-- The first call's block of rows at a grid point. -/
theorem blk00 (hA : T16 2048 1024 (V c main_v7) A) (t : Fin cfg0.N) :
    T16 512 1024 (iblk0 V c 0 t) (fun r d => A (512 * t.val + r) d) := fun r d => by
  have e : iblk0 V c 0 t (ix2 r d) = V c main_v7 (ix2 (⟨512 * t.val + r.val, by have := r.isLt; have := ltN0 t; omega⟩ : Fin 2048) d) := by
    unfold iblk0
    generalize V c = W
    blk_ext [bx00 t]
    all_goals (show t.val * 512 + r.val = _; omega)
  exact e.trans (hA _ _)

/-- The first call's weight, whole at every grid point. -/
theorem blk01 (hB : T16 1024 1024 (V c main_v3) B) (t : Fin cfg0.N) :
    T16 1024 1024 (iblk0 V c 1 t) B := fun r d => by
  have e : iblk0 V c 1 t (ix2 r d) = V c main_v3 (ix2 r d) := by
    unfold iblk0
    generalize V c = W
    blk_ext [bx01 t]
  exact e.trans (hB _ _)

/-- The second call's block of rows at a grid point. -/
theorem blk10 (hA : T16 2048 1024 (V c main_v9) A) (t : Fin cfg1.N) :
    T16 512 1024 (iblk1 V c 0 t) (fun r d => A (512 * t.val + r) d) := fun r d => by
  have e : iblk1 V c 0 t (ix2 r d) = V c main_v9 (ix2 (⟨512 * t.val + r.val, by have := r.isLt; have := ltN1 t; omega⟩ : Fin 2048) d) := by
    unfold iblk1
    generalize V c = W
    blk_ext [bx10 t]
    all_goals (show t.val * 512 + r.val = _; omega)
  exact e.trans (hA _ _)

/-- The second call's weight, whole at every grid point. -/
theorem blk11 (hB : T16 1024 1024 (V c main_v3) B) (t : Fin cfg1.N) :
    T16 1024 1024 (iblk1 V c 1 t) B := fun r d => by
  have e : iblk1 V c 1 t (ix2 r d) = V c main_v3 (ix2 r d) := by
    unfold iblk1
    generalize V c = W
    blk_ext [bx11 t]
  exact e.trans (hB _ _)

/-- The table of a product. -/
def fwd (A B : ℕ → ℕ → EReal) (r d : ℕ) : EReal := ∑ k ∈ Finset.range 1024, A r k * B k d

/-- The table of a product with the second operand transposed. -/
def bwd (A B : ℕ → ℕ → EReal) (r d : ℕ) : EReal := ∑ k ∈ Finset.range 1024, A r k * B d k

/-- The first call's product of two blocks. -/
theorem pay0 {x : FVec Ideal S512x1024 .bf16} {y : FVec Ideal S1024x1024 .bf16} {f g : ℕ → ℕ → EReal} (hx : Tb x f)
    (hy : Tb y g) : Tb (k0_pay1 x y) (fwd f g) :=
  Tb.dotNN (hx.self _) (hy.self _)

/-- The second call's product of two blocks. -/
theorem pay1 {x : FVec Ideal S512x1024 .bf16} {y : FVec Ideal S1024x1024 .bf16} {f g : ℕ → ℕ → EReal} (hx : Tb x f)
    (hy : Tb y g) : Tb (k1_pay1 x y) (bwd f g) :=
  Tb.dotNT (hx.self _) (hy.self _)

/-- The projection after the first call. -/
theorem arr0 (hA : T16 2048 1024 (V c main_v7) A) (hB : T16 1024 1024 (V c main_v3) B) :
    T32 2048 1024 ((dat0 V c).arrAt 2 cfg0.N) (fwd A B) := fun r d =>
  (dat0 V c).arrAt_forall_of_covers 2 (fun y v => (v : EReal) = fwd A B (y 0).val (y 1).val) (by decide +kernel) (fun t hf y => by
    have e : T32 512 1024 (out0_2 (iblk0 V c 0 t) (iblk0 V c 1 t)) (fun r d => fwd A B (512 * t.val + r) d) := by
      frame_out
      exact pay0 (blk00 hA t) (blk01 hB t)
    rw [after0_2]
    blk_simp [bx02 t]
    have ey : (y : S512x1024.Idx) = ix2 (n0 := 512) (n1 := 1024) (y 0) (y 1) := ValueIdx.eq_ix2 y
    refine (congrArg (fun z : S512x1024.Idx => ((out0_2 (iblk0 V c 0 t) (iblk0 V c 1 t)) z : EReal)) ey).trans ((e (y 0) (y 1)).trans ?_)
    rw [Nat.mul_comm 512]) (ix2 r d)

/-- The gradient of the projection's input after the second call. -/
theorem arr1 (hA : T16 2048 1024 (V c main_v9) A) (hB : T16 1024 1024 (V c main_v3) B) :
    T32 2048 1024 ((dat1 V c).arrAt 2 cfg1.N) (bwd A B) := fun r d =>
  (dat1 V c).arrAt_forall_of_covers 2 (fun y v => (v : EReal) = bwd A B (y 0).val (y 1).val) (by decide +kernel) (fun t hf y => by
    have e : T32 512 1024 (out1_2 (iblk1 V c 0 t) (iblk1 V c 1 t)) (fun r d => bwd A B (512 * t.val + r) d) := by
      frame_out
      exact pay1 (blk10 hA t) (blk11 hB t)
    rw [after1_2]
    blk_simp [bx12 t]
    have ey : (y : S512x1024.Idx) = ix2 (n0 := 512) (n1 := 1024) (y 0) (y 1) := ValueIdx.eq_ix2 y
    refine (congrArg (fun z : S512x1024.Idx => ((out1_2 (iblk1 V c 0 t) (iblk1 V c 1 t)) z : EReal)) ey).trans ((e (y 0) (y 1)).trans ?_)
    rw [Nat.mul_comm 512]) (ix2 r d)

/-! ## The operands and the reference -/

section
variable (m : (ℓ : Loc nD τ sig) → Buf (Elt Ideal) ℓ) (ρ : Dev nD → PrngReg) (c : Dev nD)

/-- The first operand of the first call: the host's cast, with zero lanes. -/
theorem V5_x : V5 m ρ c main_v7 = (shapeCast S2048x1024 (pad S2048x8x128 ![0, 0, 64] ![0, 0, 0] ![0, 0, 0] (shapeCast S2048x8x64 (truncf (F := Ideal) .bf16 (m ((c.tc : Thread nD τ).loc main_arg0) : FVec Ideal S2048x512 .f32) bitsLt_bf16_f32) shapeCasts_S2048x512_S2048x8x64)
    (sitofp (F := Ideal) .bf16 (constantI S_ 32 0#32)) pads_S2048x8x64_S2048x8x128_000_000_6400 h_S_) shapeCasts_S2048x8x128_S2048x1024 : FVec Ideal S2048x1024 .bf16) := by
  unfold V5 W5 W4 W3
  simp only [hostOps0_4, hostOps0_3, hostOps0_2, StableHlo.TRef.binary, StableHlo.TRef.nullary, StableHlo.TRef.unary, StableHlo.TRef.toBuf, StableHlo.TRef.ofBuf, cast_eq]
  after_results
  rfl

/-- The weight: the host's cast, with zero rows. -/
theorem V5_w : V5 m ρ c main_v3 = (shapeCast S1024x1024 (pad S8x128x1024 ![0, 64, 0] ![0, 0, 0] ![0, 0, 0] (shapeCast S8x64x1024 (truncf (F := Ideal) .bf16 (m ((c.tc : Thread nD τ).loc main_arg1) : FVec Ideal S512x1024 .f32) bitsLt_bf16_f32) shapeCasts_S512x1024_S8x64x1024)
    (sitofp (F := Ideal) .bf16 (constantI S_ 32 0#32)) pads_S8x64x1024_S8x128x1024_000_6400_000 h_S_) shapeCasts_S8x128x1024_S1024x1024 : FVec Ideal S1024x1024 .bf16) := by
  refine (W5_of m ρ c main_v3 (by decide)).trans ((W4_of m ρ c main_v3 (by decide)).trans ?_)
  unfold W3 W2 W1
  simp only [hostOps0_2, hostOps0_1, hostOps0, StableHlo.TRef.binary, StableHlo.TRef.nullary, StableHlo.TRef.unary, StableHlo.TRef.toBuf, StableHlo.TRef.ofBuf, cast_eq]
  after_results
  rfl

theorem V7_w : V7 m ρ c main_v3 = V5 m ρ c main_v3 :=
  (W7_of m ρ c main_v3 (by decide)).trans (W6_of m ρ c main_v3 (by decide +kernel))

theorem V7_y : V7 m ρ c main_v9 = ((truncf (F := Ideal) .bf16 (m ((c.tc : Thread nD τ).loc main_arg2) : FVec Ideal S2048x1024 .f32) bitsLt_bf16_f32) : FVec Ideal S2048x1024 .bf16) := by
  have e := W6_args m ρ c main_arg2 (by decide)
  unfold V7 W7
  simp only [hostOps1]
  after_results
  rw [e]

/-- The second result: the second call's output without the zero lanes. -/
theorem out_eq : W9 m ρ c main_v13 = (shapeCast S2048x512 (extractStridedSlice S2048x8x64 ![0, 0, 64] (shapeCast S2048x8x128
    ((dat1 (V7 m ρ) c).arrAt 2 cfg1.N : FVec Ideal S2048x1024 .f32) shapeCasts_S2048x1024_S2048x8x128) slices_S2048x8x128_S2048x8x64_0_0_64) shapeCasts_S2048x8x64_S2048x512 : FVec Ideal S2048x512 .f32) := by
  have e : W8 m ρ c (Proc.devRef .tc main_v10) = (dat1 (V7 m ρ) c).arrAt 2 cfg1.N := W8_arr m ρ c 2
  unfold W9
  simp only [hostOps2]
  after_results
  rw [e]
  rfl

end

section
variable (x0 : FVec Ideal S2048x512 .f32) (x1 : FVec Ideal S512x1024 .f32) (x2 : FVec Ideal S2048x1024 .f32)

/-- The reference's projection. -/
theorem ref_y : T32 2048 1024 (Cert.Reference14Ideal.Read.val_main_v0 (F := Ideal) x0 x1)
    (fun r d => ∑ k ∈ Finset.range 512, tab x0 r k * tab x1 k d) := fun r d => by
  rw [Cert.Reference14Ideal.Read.val_main_v0_apply]
  dsimp only
  refine Eq.trans ?_ (Finset.sum_range _).symm
  refine Finset.sum_congr rfl fun k _ => ?_
  refine congrArg₂ (· * ·) (Eq.trans (congrArg _ ?_) (tb_tab x0 r k)) (Eq.trans (congrArg _ ?_) (tb_tab x1 k d))
  all_goals
    refine funext fun a => Fin.ext ?_
    match a with
    | ⟨0, _⟩ => rfl
    | ⟨1, _⟩ => rfl

/-- The reference's gradient of the projection's input. -/
theorem ref_dx : T32 2048 512 (Cert.Reference14Ideal.Read.val_main_v1 (F := Ideal) x1 x2)
    (fun r d => ∑ k ∈ Finset.range 1024, tab x2 r k * tab x1 d k) := fun r d => by
  rw [Cert.Reference14Ideal.Read.val_main_v1_apply]
  dsimp only
  refine Eq.trans ?_ (Finset.sum_range _).symm
  refine Finset.sum_congr rfl fun k _ => ?_
  refine congrArg₂ (· * ·) (Eq.trans (congrArg _ ?_) (tb_tab x2 r k)) (Eq.trans (congrArg _ ?_) (tb_tab x1 d k))
  all_goals
    refine funext fun a => Fin.ext ?_
    match a with
    | ⟨0, _⟩ => rfl
    | ⟨1, _⟩ => rfl

end

/-- The kernel's results are the reference's. -/
theorem value : @Cert.algebraic_Kernel14Ideal_Reference14Ideal Cert.Kernel14Ideal.Gen.facts Cert.Reference14Ideal.Gen.facts := by
  intro m g m' g' _ hag
  refine ⟨_, _, run_named m g, (θ_run _ _ _).mono (fun r h c => ?_) (Cert.Reference14Ideal.Value.run (F := Ideal) m' g')⟩
  obtain ⟨e0, e1, e2, e3, e4⟩ := h c
  obtain ⟨a0, a1, a2⟩ := hag c
  have hA : T16 2048 1024 (V5 m g c main_v7) (fun r => padh 64 64 (tab (n := 2048) (m := 512) (φ := .f32) (m ((c.tc : Thread nD τ).loc main_arg0)) r)) := by
    rw [V5_x]
    exact Tb.padCols 64 64 0 (Tb.truncf (tb32 2048 512 _) bitsLt_bf16_f32) rfl (pad_val _) _ _ _
  have hB : T16 1024 1024 (V5 m g c main_v3)
      (fun r d => padh 64 64 (fun k => tab (n := 512) (m := 1024) (φ := .f32) (m ((c.tc : Thread nD τ).loc main_arg1)) k d) r) := by
    rw [V5_w]
    exact Tb.padRows 64 64 0 (Tb.truncf (tb32 512 1024 _) bitsLt_bf16_f32) rfl (pad_val _) _ _ _
  have hB2 := hB
  rw [← V7_w m g c] at hB2
  have hD : T16 2048 1024 (V7 m g c main_v9) (tab (n := 2048) (m := 1024) (φ := .f32) (m ((c.tc : Thread nD τ).loc main_arg2))) := by
    rw [V7_y]
    exact Tb.truncf (tb32 2048 1024 _) bitsLt_bf16_f32
  refine ⟨e0.trans ?_, e1.trans ?_, e2, e3, e4⟩
  · clear e0 e1 e2 e3 e4
    rw [Cert.Reference14Ideal.Read.val_main_v0_eq, a0, a1]
    refine (ref_y _ _).eq ((arr0 hA hB).congr fun r d _ _ => ?_)
    unfold fwd
    rw [Finset.sum_congr rfl fun k _ => padh_mul 64 64 _ _ k]
    exact sum_heads 64 64 0 rfl _ 8
  · clear e0 e1 e2 e3 e4
    rw [Cert.Reference14Ideal.Read.val_main_v1_eq, a1, a2, out_eq]
    refine (ref_dx _ _).eq ((Tb.unpadCols 64 64 (arr1 hD hB2) rfl (by decide) (by decide) _ _ _).congr fun r d _ _ => ?_)
    exact Finset.sum_congr rfl fun k _ => congrArg (_ * ·) (padh_unh 64 64 (by decide) (by decide) _ d)

end Cert.Mat.K14

end
-- ==== Proof.Dw15.lean ====
/- The gradient of the weight of the latent attention's output projection: what the call leaves in its output. -/
module

public import proofs.«01_k».proof.Proof.Heads
public import Idealize.ShloMosaic.Lib.Pipeline.ReadBack
public import proofs.«01_k».proof.Proof.Gen.Kernel15Ideal.Frame
public import proofs.«01_k».proof.Proof.Gen.Reference15Ideal.Run
public import proofs.«01_k».proof.Proof.Gen.Reference15Ideal.Read
public import proofs.«01_k».proof.Defs

@[expose] public section

set_option maxRecDepth 16384

noncomputable section

namespace Cert.Mat.K15

open Idealize.ShloMosaic hiding ix2 ix3
open Idealize.ShloMosaic.TcCoe Idealize.ShloMosaic.Tactic
open Idealize.ShloMosaic.ValueIdx (ix2 ix3)
open Cert.Kernel15Ideal Cert.Kernel15Ideal.Gen Idealize.SL Idealize.SL.Sem
open scoped BigOperators

theorem bx0 : ∀ t : Fin cfg0.N, win0_0.index t = ![t.val % 2, t.val / 2] := (by decide +kernel : ∀ t : Fin grid0.N, _)
theorem bx1 : ∀ t : Fin cfg0.N, win0_1.index t = ![t.val % 2, 0] := (by decide +kernel : ∀ t : Fin grid0.N, _)
theorem bx2 : ∀ t : Fin cfg0.N, win0_2.index t = ![t.val / 2, 0] := (by decide +kernel : ∀ t : Fin grid0.N, _)
theorem ltN (t : Fin cfg0.N) : t.val < 4 := lt_of_lt_of_eq t.isLt N_0

variable {m : (ℓ : Loc nD τ sig) → Buf (Elt Ideal) ℓ} {c : Dev nD} {A B : ℕ → ℕ → EReal}

/-- The block of the first operand at a grid point. -/
theorem blk0 (hA : T16 2048 1024 (V m c main_v3) A) (t : Fin cfg0.N) :
    T16 1024 512 (iblk m c 0 t) (fun r d => A (1024 * (t.val % 2) + r) (512 * (t.val / 2) + d)) := fun r d => by
  have e : iblk m c 0 t (ix2 r d) = V m c main_v3 (ix2 (⟨1024 * (t.val % 2) + r.val, by have := r.isLt; have := ltN t; omega⟩ : Fin 2048)
      (⟨512 * (t.val / 2) + d.val, by have := d.isLt; have := ltN t; omega⟩ : Fin 1024)) := by
    unfold iblk
    generalize V m c = W
    blk_ext [bx0 t]
    all_goals first
      | (show t.val % 2 * 1024 + r.val = _; omega)
      | (show t.val / 2 * 512 + d.val = _; omega)
  exact e.trans (hA _ _)

/-- The block of the second operand at a grid point. -/
theorem blk1 (hB : T16 2048 1024 (V m c main_v4) B) (t : Fin cfg0.N) :
    T16 1024 1024 (iblk m c 1 t) (fun r d => B (1024 * (t.val % 2) + r) d) := fun r d => by
  have e : iblk m c 1 t (ix2 r d) = V m c main_v4 (ix2 (⟨1024 * (t.val % 2) + r.val, by have := r.isLt; have := ltN t; omega⟩ : Fin 2048) d) := by
    unfold iblk
    generalize V m c = W
    blk_ext [bx1 t]
    all_goals (show t.val % 2 * 1024 + r.val = _; omega)
  exact e.trans (hB _ _)

/-- The product of the two blocks at a grid point. -/
theorem pay1 {x : FVec Ideal S1024x512 .bf16} {y : FVec Ideal S1024x1024 .bf16} {f g : ℕ → ℕ → EReal} (hx : Tb x f) (hy : Tb y g) :
    Tb (k0_pay1 x y) (fun r d => ∑ k ∈ Finset.range 1024, f k r * g k d) :=
  Tb.dotTN (hx.self _) (hy.self _) _

/-- The table of the product up to a tile. -/
def acc (A B : ℕ → ℕ → EReal) (t r d : ℕ) : EReal :=
  ∑ k ∈ Finset.range (1024 * (t % 2 + 1)), A k (512 * (t / 2) + r) * B k d

/-- The scratch after the first point of a run: the product of its tiles. -/
theorem scrA (hA : T16 2048 1024 (V m c main_v3) A) (hB : T16 2048 1024 (V m c main_v4) B)
    (t : Fin cfg0.N) (h : t.val % 2 = 0) : T32 512 1024 (outsAt0 m c t.val t.isLt).2 (acc A B t.val) := by
  rw [outsAt0_A m c t h (by omega) (by omega)]
  frame_out
  refine ((pay1 (blk0 hA t) (blk1 hB t)).self _).congr fun r d _ _ => ?_
  unfold acc
  rw [h]
  exact Finset.sum_congr rfl fun k _ => by rw [Nat.mul_zero, Nat.zero_add]

/-- The scratch after a later point of a run: the product of the point's tiles added. -/
theorem scrB (hA : T16 2048 1024 (V m c main_v3) A) (hB : T16 2048 1024 (V m c main_v4) B)
    (t : Fin cfg0.N) (h : ¬ t.val % 2 = 0)
    (ih : T32 512 1024 (outsAt0 m c (t.val - 1) (Nat.lt_of_le_of_lt (Nat.sub_le _ _) t.isLt)).2 (acc A B (t.val - 1))) :
    T32 512 1024 (k0_pay3 (iblk m c 0 t) (iblk m c 1 t) (outsAt0 m c (t.val - 1) (Nat.lt_of_le_of_lt (Nat.sub_le _ _) t.isLt)).2)
      (acc A B t.val) := by
  refine ((ih.addf (pay1 (blk0 hA t) (blk1 hB t))).self _).congr fun r d _ _ => ?_
  have e : (t.val - 1) % 2 + 1 = t.val % 2 := by omega
  have e' : (t.val - 1) / 2 = t.val / 2 := by omega
  unfold acc
  rw [e, e']
  exact sum_tile (fun k => A k (512 * (t.val / 2) + r) * B k d) (t.val % 2) 1024

/-- The scratch after any point. -/
theorem scr (hA : T16 2048 1024 (V m c main_v3) A) (hB : T16 2048 1024 (V m c main_v4) B) :
    ∀ (n : ℕ) (hn : n < cfg0.N), T32 512 1024 (outsAt0 m c n hn).2 (acc A B n) := by
  intro n
  induction n with
  | zero => exact fun hn => scrA hA hB ⟨0, hn⟩ (Nat.zero_mod _)
  | succ n ih =>
    intro hn
    by_cases h : (n + 1) % 2 = 0
    · exact scrA hA hB ⟨n + 1, hn⟩ h
    · have e := scrB hA hB ⟨n + 1, hn⟩ h (ih _)
      rw [outsAt0_B m c ⟨n + 1, hn⟩ h (show (n + 1) % 2 = 1 by omega) (show (n + 1) % 2 = 1 by omega)]
      frame_out
      rw [Idealize.ShloMosaic.read_unread_whole]
      exact e

/-- The output after the last point of a run. -/
theorem outs (hA : T16 2048 1024 (V m c main_v3) A) (hB : T16 2048 1024 (V m c main_v4) B)
    (t : Fin cfg0.N) (h : t.val % 2 = 1) : T32 512 1024 (outsAt0 m c t.val t.isLt).1 (acc A B t.val) := by
  have e := scrB hA hB t (by omega) (scr hA hB _ _)
  rw [outsAt0_B m c t (by omega) h h]
  frame_out
  rw [Idealize.ShloMosaic.read_unread_whole]
  exact e

/-- The table of the result: the product of the first operand, transposed, and the second. -/
def res (A B : ℕ → ℕ → EReal) (r d : ℕ) : EReal := ∑ k ∈ Finset.range 2048, A k r * B k d

/-- The output after the call. -/
theorem arr2 (hA : T16 2048 1024 (V m c main_v3) A) (hB : T16 2048 1024 (V m c main_v4) B) :
    T32 1024 1024 ((dats m 0 c).arrAt 2 cfg0.N) (res A B) := fun r d =>
  (dats m 0 c).arrAt_forall_of_covers 2 (fun y v => (v : EReal) = res A B (y 0).val (y 1).val) (by decide +kernel) (fun t hf y => by
    have ht := (flush0_2 t).mp hf
    have e := outs hA hB t ht
    rw [after0_2]
    blk_simp [bx2 t]
    have ey : (y : S512x1024.Idx) = ix2 (n0 := 512) (n1 := 1024) (y 0) (y 1) := ValueIdx.eq_ix2 y
    refine (congrArg (fun z : S512x1024.Idx => ((outsAt0 m c t.val t.isLt).1 z : EReal)) ey).trans ((e (y 0) (y 1)).trans ?_)
    have h0 : (y 0).val < 512 := (y 0).isLt
    unfold acc res
    rw [ht]
    refine Finset.sum_congr rfl fun k _ => ?_
    congr 2
    · omega
    ) (ix2 r d)

/-- The first operand: the host's cast, with zero lanes. -/
theorem V_x (m : (ℓ : Loc nD τ sig) → Buf (Elt Ideal) ℓ) (c : Dev nD) : V m c main_v3 = (shapeCast S2048x1024 (pad S2048x8x128 ![0, 0, 64] ![0, 0, 0] ![0, 0, 0] (shapeCast S2048x8x64 (truncf (F := Ideal) .bf16 (m ((c.tc : Thread nD τ).loc main_arg0) : FVec Ideal S2048x512 .f32) bitsLt_bf16_f32) shapeCasts_S2048x512_S2048x8x64)
    (sitofp (F := Ideal) .bf16 (constantI S_ 32 0#32)) pads_S2048x8x64_S2048x8x128_000_000_6400 h_S_) shapeCasts_S2048x8x128_S2048x1024 : FVec Ideal S2048x1024 .bf16) := by
  unfold V V0
  simp only [hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results
  rfl

/-- The second operand: the host's cast. -/
theorem V_y (m : (ℓ : Loc nD τ sig) → Buf (Elt Ideal) ℓ) (c : Dev nD) : V m c main_v4 = ((truncf (F := Ideal) .bf16 (m ((c.tc : Thread nD τ).loc main_arg1) : FVec Ideal S2048x1024 .f32) bitsLt_bf16_f32) : FVec Ideal S2048x1024 .bf16) := by
  unfold V V0
  simp only [hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results

/-- The result: the call's output without the zero lanes. -/
theorem out_eq (m : (ℓ : Loc nD τ sig) → Buf (Elt Ideal) ℓ) (c : Dev nD) :
    Pipeline.afterTail₀ cfgs (dats m) 0 (V0 m) [hostOps1] c main_v8 = (shapeCast S512x1024 (extractStridedSlice S8x64x1024 ![0, 64, 0] (shapeCast S8x128x1024 ((dats m 0 c).arrAt 2 cfg0.N : FVec Ideal S1024x1024 .f32) shapeCasts_S1024x1024_S8x128x1024) slices_S8x128x1024_S8x64x1024_0_64_0) shapeCasts_S8x64x1024_S512x1024 : FVec Ideal S512x1024 .f32) := by
  have e : Pipeline.withArrays spec0 c (V0 m c) (fun w => (dats m 0 c).arrAt w cfg0.N) (Proc.devRef .tc main_v5) = (dats m 0 c).arrAt 2 cfg0.N := Pipeline.withArrays_arr spec0 launch0.win.arr_inj c (V0 m c) (fun w => (dats m 0 c).arrAt w cfg0.N) 2
  unfold Pipeline.afterTail₀
  simp only [hostOps1, List.flatten_cons, List.flatten_nil, List.append_nil]
  after_results
  rw [e]
  rfl

/-- The run with the result and the arguments by name. -/
theorem run_named (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v8) = Pipeline.afterTail₀ cfgs (dats m) 0 (V0 m) [hostOps1] c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c).2 main_v8 (Pipeline.mem_restRefs_of main_v8 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩) (run_main m ρ)

/-- The reference's gradient, read as a table. -/
theorem ref (x0 : FVec Ideal S2048x512 .f32) (x1 : FVec Ideal S2048x1024 .f32) :
    T32 512 1024 (Cert.Reference15Ideal.Read.val_main_v3 (F := Ideal) x0 x1) (res (tab x0) (tab x1)) := fun r d => by
  rw [Cert.Reference15Ideal.Read.val_main_v3_apply, Cert.Reference15Ideal.Read.val_main_v2_apply]
  unfold res
  refine Eq.trans ?_ (Finset.sum_range _).symm
  refine Finset.sum_congr rfl fun k _ => ?_
  have ea := tb_tab x0 k r
  have eb := tb_tab x1 k d
  rw [mul_comm]
  refine congrArg₂ (· * ·) (Eq.trans (congrArg _ ?_) ea) (Eq.trans (congrArg _ ?_) eb)
  all_goals
    refine funext fun a => Fin.ext ?_
    match a with
    | ⟨0, _⟩ => rfl
    | ⟨1, _⟩ => rfl

/-- The kernel's output is the reference's result. -/
theorem value : @Cert.algebraic_Kernel15Ideal_Reference15Ideal Cert.Kernel15Ideal.Gen.facts Cert.Reference15Ideal.Gen.facts := by
  intro m g m' g' _ hag
  refine ⟨_, run_named m g, (θ_run _ _ _).mono (fun r h c => ?_) (Cert.Reference15Ideal.Value.run (F := Ideal) m' g')⟩
  obtain ⟨e0, e2, e3⟩ := h c
  obtain ⟨a0, a1⟩ := hag c
  have hA : T16 2048 1024 (V m c main_v3) (fun r => padh 64 64 (tab (n := 2048) (m := 512) (φ := .f32) (m ((c.tc : Thread nD τ).loc main_arg0)) r)) := by
    rw [V_x]
    exact Tb.padCols 64 64 0 (Tb.truncf (tb32 2048 512 _) bitsLt_bf16_f32) rfl (pad_val _) _ _ _
  have hB : T16 2048 1024 (V m c main_v4) (tab (n := 2048) (m := 1024) (φ := .f32) (m ((c.tc : Thread nD τ).loc main_arg1))) := by
    rw [V_y]
    exact Tb.truncf (tb32 2048 1024 _) bitsLt_bf16_f32
  refine ⟨e0.trans ?_, e2, e3⟩
  clear e0 e2 e3
  rw [Cert.Reference15Ideal.Read.val_main_v3_eq, a0, a1, out_eq]
  exact (ref _ _).eq ((Tb.unpadRows 64 64 (arr2 hA hB) rfl (by decide) (by decide) _ _ _).congr fun r d _ _ => Finset.sum_congr rfl fun k _ => congrArg (· * _) (padh_unh 64 64 (by decide) (by decide) _ r))

end Cert.Mat.K15

end
-- ==== Proof.Qup16.lean ====
/- The projection to the latent attention's queries and the gradient of its input: what the two calls leave. -/
module

public import proofs.«01_k».proof.Proof.Heads
public import proofs.«01_k».proof.Proof.Gen.Kernel16Ideal.Frame
public import proofs.«01_k».proof.Proof.Gen.Reference16Ideal.Run
public import proofs.«01_k».proof.Proof.Gen.Reference16Ideal.Read
public import proofs.«01_k».proof.Defs

@[expose] public section

set_option maxRecDepth 16384

noncomputable section

namespace Cert.Mat.K16

open Idealize.SL.RA Idealize.SL.BI Idealize.SL.BI.BIBase Idealize.SL.BI.Laws Idealize.SL.ProofMode
open scoped Idealize.SL.BI
open Idealize.ShloMosaic.Rounds
open Idealize.ShloMosaic hiding ix2 ix3
open Idealize.ShloMosaic.TcCoe Idealize.ShloMosaic.Tactic
open Idealize.ShloMosaic.ValueIdx (ix2 ix3)
open Cert.Kernel16Ideal Cert.Kernel16Ideal.Gen Idealize.SL Idealize.SL.Sem
open scoped BigOperators

/-! ## The run -/

section
variable {F : FTy → Type} [FloatOps F] (m : (ℓ : Loc nD τ sig) → Buf (Elt F) ℓ) (ρ : Dev nD → PrngReg)

set_option backward.isDefEq.respectTransparency.types false in
/-- Every run of both calls ends with each buffer that lasts as the second call leaves it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ => h)

/-- The run with the results and the arguments by name. -/
theorem run_named : θ_run defs (onTc (τ := τ) (main (F := F))) ⟨m, fun _ => 0, ρ⟩ (fun r => ∀ c : Dev nD,
      r.2.mem ((c.tc : Thread nD τ).loc main_v13) = W9 m ρ c main_v13
      ∧ r.2.mem ((c.tc : Thread nD τ).loc main_v10) = (dat1 (V7 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨h c _ (mem_uc main_v13 (by decide)),
      (h c _ (mem_uc main_v10 (by decide))).trans ((W9_of m ρ c main_v10 (by decide)).trans (W8_arr m ρ c 2)),
      (h c _ (mem_uc main_arg0 (by decide))).trans (W9_main_arg0 m ρ c), (h c _ (mem_uc main_arg1 (by decide))).trans (W9_main_arg1 m ρ c),
      (h c _ (mem_uc main_arg2 (by decide))).trans (W9_main_arg2 m ρ c)⟩)
    (run_all m ρ)
end

/-! ## The two calls -/

theorem bx00 : ∀ t : Fin cfg0.N, win0_0.index t = ![t.val, 0] := (by decide +kernel : ∀ t : Fin grid0.N, _)
theorem bx01 : ∀ t : Fin cfg0.N, win0_1.index t = ![0, 0] := (by decide +kernel : ∀ t : Fin grid0.N, _)
theorem bx02 : ∀ t : Fin cfg0.N, win0_2.index t = ![t.val, 0] := (by decide +kernel : ∀ t : Fin grid0.N, _)
theorem bx10 : ∀ t : Fin cfg1.N, win1_0.index t = ![t.val, 0] := (by decide +kernel : ∀ t : Fin grid1.N, _)
theorem bx11 : ∀ t : Fin cfg1.N, win1_1.index t = ![0, 0] := (by decide +kernel : ∀ t : Fin grid1.N, _)
theorem bx12 : ∀ t : Fin cfg1.N, win1_2.index t = ![t.val, 0] := (by decide +kernel : ∀ t : Fin grid1.N, _)
theorem ltN0 (t : Fin cfg0.N) : t.val < 4 := lt_of_lt_of_eq t.isLt N_0
theorem ltN1 (t : Fin cfg1.N) : t.val < 4 := lt_of_lt_of_eq t.isLt N_1

variable {V : (c : Dev nD) → (b : Ref sig .tc) → Buf (Elt Ideal) ((c : Thread nD τ).loc b)} {c : Dev nD} {A B : ℕ → ℕ → EReal}

/-- The first call's block of rows at a grid point. -/
theorem blk00 (hA : T16 2048 384 (V c main_v4) A) (t : Fin cfg0.N) :
    T16 512 384 (iblk0 V c 0 t) (fun r d => A (512 * t.val + r) d) := fun r d => by
  have e : iblk0 V c 0 t (ix2 r d) = V c main_v4 (ix2 (⟨512 * t.val + r.val, by have := r.isLt; have := ltN0 t; omega⟩ : Fin 2048) d) := by
    unfold iblk0
    generalize V c = W
    blk_ext [bx00 t]
    all_goals (show t.val * 512 + r.val = _; omega)
  exact e.trans (hA _ _)

/-- The first call's weight, whole at every grid point. -/
theorem blk01 (hB : T16 384 1024 (V c main_v3) B) (t : Fin cfg0.N) :
    T16 384 1024 (iblk0 V c 1 t) B := fun r d => by
  have e : iblk0 V c 1 t (ix2 r d) = V c main_v3 (ix2 r d) := by
    unfold iblk0
    generalize V c = W
    blk_ext [bx01 t]
  exact e.trans (hB _ _)

/-- The second call's block of rows at a grid point. -/
theorem blk10 (hA : T16 2048 1024 (V c main_v9) A) (t : Fin cfg1.N) :
    T16 512 1024 (iblk1 V c 0 t) (fun r d => A (512 * t.val + r) d) := fun r d => by
  have e : iblk1 V c 0 t (ix2 r d) = V c main_v9 (ix2 (⟨512 * t.val + r.val, by have := r.isLt; have := ltN1 t; omega⟩ : Fin 2048) d) := by
    unfold iblk1
    generalize V c = W
    blk_ext [bx10 t]
    all_goals (show t.val * 512 + r.val = _; omega)
  exact e.trans (hA _ _)

/-- The second call's weight, whole at every grid point. -/
theorem blk11 (hB : T16 384 1024 (V c main_v3) B) (t : Fin cfg1.N) :
    T16 384 1024 (iblk1 V c 1 t) B := fun r d => by
  have e : iblk1 V c 1 t (ix2 r d) = V c main_v3 (ix2 r d) := by
    unfold iblk1
    generalize V c = W
    blk_ext [bx11 t]
  exact e.trans (hB _ _)

/-- The table of a product. -/
def fwd (A B : ℕ → ℕ → EReal) (r d : ℕ) : EReal := ∑ k ∈ Finset.range 384, A r k * B k d

/-- The table of a product with the second operand transposed. -/
def bwd (A B : ℕ → ℕ → EReal) (r d : ℕ) : EReal := ∑ k ∈ Finset.range 1024, A r k * B d k

/-- The first call's product of two blocks. -/
theorem pay0 {x : FVec Ideal S512x384 .bf16} {y : FVec Ideal S384x1024 .bf16} {f g : ℕ → ℕ → EReal} (hx : Tb x f)
    (hy : Tb y g) : Tb (k0_pay1 x y) (fwd f g) :=
  Tb.dotNN (hx.self _) (hy.self _)

/-- The second call's product of two blocks. -/
theorem pay1 {x : FVec Ideal S512x1024 .bf16} {y : FVec Ideal S384x1024 .bf16} {f g : ℕ → ℕ → EReal} (hx : Tb x f)
    (hy : Tb y g) : Tb (k1_pay1 x y) (bwd f g) :=
  Tb.dotNT (hx.self _) (hy.self _)

/-- The projection after the first call. -/
theorem arr0 (hA : T16 2048 384 (V c main_v4) A) (hB : T16 384 1024 (V c main_v3) B) :
    T32 2048 1024 ((dat0 V c).arrAt 2 cfg0.N) (fwd A B) := fun r d =>
  (dat0 V c).arrAt_forall_of_covers 2 (fun y v => (v : EReal) = fwd A B (y 0).val (y 1).val) (by decide +kernel) (fun t hf y => by
    have e : T32 512 1024 (out0_2 (iblk0 V c 0 t) (iblk0 V c 1 t)) (fun r d => fwd A B (512 * t.val + r) d) := by
      frame_out
      exact pay0 (blk00 hA t) (blk01 hB t)
    rw [after0_2]
    blk_simp [bx02 t]
    have ey : (y : S512x1024.Idx) = ix2 (n0 := 512) (n1 := 1024) (y 0) (y 1) := ValueIdx.eq_ix2 y
    refine (congrArg (fun z : S512x1024.Idx => ((out0_2 (iblk0 V c 0 t) (iblk0 V c 1 t)) z : EReal)) ey).trans ((e (y 0) (y 1)).trans ?_)
    rw [Nat.mul_comm 512]) (ix2 r d)

/-- The gradient of the projection's input after the second call. -/
theorem arr1 (hA : T16 2048 1024 (V c main_v9) A) (hB : T16 384 1024 (V c main_v3) B) :
    T32 2048 384 ((dat1 V c).arrAt 2 cfg1.N) (bwd A B) := fun r d =>
  (dat1 V c).arrAt_forall_of_covers 2 (fun y v => (v : EReal) = bwd A B (y 0).val (y 1).val) (by decide +kernel) (fun t hf y => by
    have e : T32 512 384 (out1_2 (iblk1 V c 0 t) (iblk1 V c 1 t)) (fun r d => bwd A B (512 * t.val + r) d) := by
      frame_out
      exact pay1 (blk10 hA t) (blk11 hB t)
    rw [after1_2]
    blk_simp [bx12 t]
    have ey : (y : S512x384.Idx) = ix2 (n0 := 512) (n1 := 384) (y 0) (y 1) := ValueIdx.eq_ix2 y
    refine (congrArg (fun z : S512x384.Idx => ((out1_2 (iblk1 V c 0 t) (iblk1 V c 1 t)) z : EReal)) ey).trans ((e (y 0) (y 1)).trans ?_)
    rw [Nat.mul_comm 512]) (ix2 r d)

/-! ## The operands and the reference -/

section
variable (m : (ℓ : Loc nD τ sig) → Buf (Elt Ideal) ℓ) (ρ : Dev nD → PrngReg) (c : Dev nD)

/-- The first operand of the first call: the host's cast. -/
theorem V3_x : V3 m ρ c main_v4 = ((truncf (F := Ideal) .bf16 (m ((c.tc : Thread nD τ).loc main_arg0) : FVec Ideal S2048x384 .f32) bitsLt_bf16_f32) : FVec Ideal S2048x384 .bf16) := by
  unfold V3 W3
  simp only [hostOps0_2]
  after_results

/-- The weight: the host's cast, with zero columns. -/
theorem V3_w : V3 m ρ c main_v3 = (shapeCast S384x1024 (pad S384x8x128 ![0, 0, 0] ![0, 0, 32] ![0, 0, 0] (shapeCast S384x8x96 (truncf (F := Ideal) .bf16 (m ((c.tc : Thread nD τ).loc main_arg1) : FVec Ideal S384x768 .f32) bitsLt_bf16_f32) shapeCasts_S384x768_S384x8x96)
    (sitofp (F := Ideal) .bf16 (constantI S_ 32 0#32)) pads_S384x8x96_S384x8x128_000_000_0320 h_S_) shapeCasts_S384x8x128_S384x1024 : FVec Ideal S384x1024 .bf16) := by
  unfold V3 W3 W2 W1
  simp only [hostOps0_2, hostOps0_1, hostOps0, StableHlo.TRef.binary, StableHlo.TRef.nullary, StableHlo.TRef.unary, StableHlo.TRef.toBuf, StableHlo.TRef.ofBuf, cast_eq]
  after_results
  rfl

theorem V7_w : V7 m ρ c main_v3 = V3 m ρ c main_v3 :=
  (W7_of m ρ c main_v3 (by decide)).trans ((W6_of m ρ c main_v3 (by decide)).trans ((W5_of m ρ c main_v3 (by decide)).trans (W4_of m ρ c main_v3 (by decide +kernel))))

/-- The first operand of the second call: the host's cast, with zero lanes. -/
theorem V7_y : V7 m ρ c main_v9 = (shapeCast S2048x1024 (pad S2048x8x128 ![0, 0, 0] ![0, 0, 32] ![0, 0, 0] (shapeCast S2048x8x96 (truncf (F := Ideal) .bf16 (m ((c.tc : Thread nD τ).loc main_arg2) : FVec Ideal S2048x768 .f32) bitsLt_bf16_f32) shapeCasts_S2048x768_S2048x8x96)
    (sitofp (F := Ideal) .bf16 (constantI S_ 32 0#32)) pads_S2048x8x96_S2048x8x128_000_000_0320 h_S_) shapeCasts_S2048x8x128_S2048x1024 : FVec Ideal S2048x1024 .bf16) := by
  have e := W4_args m ρ c main_arg2 (by decide)
  unfold V7 W7 W6 W5
  simp only [hostOps1_2, hostOps1_1, hostOps1, StableHlo.TRef.binary, StableHlo.TRef.nullary, StableHlo.TRef.unary, StableHlo.TRef.toBuf, StableHlo.TRef.ofBuf, cast_eq]
  after_results
  rw [e]
  rfl

/-- The first result: the first call's output without the zero lanes. -/
theorem out_eq : W9 m ρ c main_v13 = (shapeCast S2048x768 (extractStridedSlice S2048x8x96 ![0, 0, 0] (shapeCast S2048x8x128
    ((dat0 (V3 m ρ) c).arrAt 2 cfg0.N : FVec Ideal S2048x1024 .f32) shapeCasts_S2048x1024_S2048x8x128) slices_S2048x8x128_S2048x8x96_0_0_0) shapeCasts_S2048x8x96_S2048x768 : FVec Ideal S2048x768 .f32) := by
  have e : W8 m ρ c (Proc.devRef .tc main_v5) = (dat0 (V3 m ρ) c).arrAt 2 cfg0.N := (W8_of m ρ c main_v5 (by decide +kernel)).trans ((W7_of m ρ c main_v5 (by decide)).trans ((W6_of m ρ c main_v5 (by decide)).trans
    ((W5_of m ρ c main_v5 (by decide)).trans (W4_arr m ρ c 2))))
  unfold W9
  simp only [hostOps2]
  after_results
  rw [e]
  rfl

end

section
variable (x0 : FVec Ideal S2048x384 .f32) (x1 : FVec Ideal S384x768 .f32) (x2 : FVec Ideal S2048x768 .f32)

/-- The reference's projection. -/
theorem ref_y : T32 2048 768 (Cert.Reference16Ideal.Read.val_main_v0 (F := Ideal) x0 x1)
    (fun r d => ∑ k ∈ Finset.range 384, tab x0 r k * tab x1 k d) := fun r d => by
  rw [Cert.Reference16Ideal.Read.val_main_v0_apply]
  dsimp only
  refine Eq.trans ?_ (Finset.sum_range _).symm
  refine Finset.sum_congr rfl fun k _ => ?_
  refine congrArg₂ (· * ·) (Eq.trans (congrArg _ ?_) (tb_tab x0 r k)) (Eq.trans (congrArg _ ?_) (tb_tab x1 k d))
  all_goals
    refine funext fun a => Fin.ext ?_
    match a with
    | ⟨0, _⟩ => rfl
    | ⟨1, _⟩ => rfl

/-- The reference's gradient of the projection's input. -/
theorem ref_dx : T32 2048 384 (Cert.Reference16Ideal.Read.val_main_v1 (F := Ideal) x1 x2)
    (fun r d => ∑ k ∈ Finset.range 768, tab x2 r k * tab x1 d k) := fun r d => by
  rw [Cert.Reference16Ideal.Read.val_main_v1_apply]
  dsimp only
  refine Eq.trans ?_ (Finset.sum_range _).symm
  refine Finset.sum_congr rfl fun k _ => ?_
  refine congrArg₂ (· * ·) (Eq.trans (congrArg _ ?_) (tb_tab x2 r k)) (Eq.trans (congrArg _ ?_) (tb_tab x1 d k))
  all_goals
    refine funext fun a => Fin.ext ?_
    match a with
    | ⟨0, _⟩ => rfl
    | ⟨1, _⟩ => rfl

end

/-- The kernel's results are the reference's. -/
theorem value : @Cert.algebraic_Kernel16Ideal_Reference16Ideal Cert.Kernel16Ideal.Gen.facts Cert.Reference16Ideal.Gen.facts := by
  intro m g m' g' _ hag
  refine ⟨_, _, run_named m g, (θ_run _ _ _).mono (fun r h c => ?_) (Cert.Reference16Ideal.Value.run (F := Ideal) m' g')⟩
  obtain ⟨e0, e1, e2, e3, e4⟩ := h c
  obtain ⟨a0, a1, a2⟩ := hag c
  have hA : T16 2048 384 (V3 m g c main_v4) (tab (n := 2048) (m := 384) (φ := .f32) (m ((c.tc : Thread nD τ).loc main_arg0))) := by
    rw [V3_x]
    exact Tb.truncf (tb32 2048 384 _) bitsLt_bf16_f32
  have hB : T16 384 1024 (V3 m g c main_v3) (fun r => padh 0 96 (tab (n := 384) (m := 768) (φ := .f32) (m ((c.tc : Thread nD τ).loc main_arg1)) r)) := by
    rw [V3_w]
    exact Tb.padCols 0 96 32 (Tb.truncf (tb32 384 768 _) bitsLt_bf16_f32) rfl (pad_val _) _ _ _
  have hB2 := hB
  rw [← V7_w m g c] at hB2
  have hD : T16 2048 1024 (V7 m g c main_v9) (fun r => padh 0 96 (tab (n := 2048) (m := 768) (φ := .f32) (m ((c.tc : Thread nD τ).loc main_arg2)) r)) := by
    rw [V7_y]
    exact Tb.padCols 0 96 32 (Tb.truncf (tb32 2048 768 _) bitsLt_bf16_f32) rfl (pad_val _) _ _ _
  refine ⟨e0.trans ?_, e1.trans ?_, e2, e3, e4⟩
  · clear e0 e1 e2 e3 e4
    rw [Cert.Reference16Ideal.Read.val_main_v0_eq, a0, a1, out_eq]
    refine (ref_y _ _).eq ((Tb.unpadCols 0 96 (arr0 hA hB) rfl (by decide) (by decide) _ _ _).congr fun r d _ _ => ?_)
    exact Finset.sum_congr rfl fun k _ => congrArg (_ * ·) (padh_unh 0 96 (by decide) (by decide) _ d)
  · clear e0 e1 e2 e3 e4
    rw [Cert.Reference16Ideal.Read.val_main_v1_eq, a1, a2]
    refine (ref_dx _ _).eq ((arr1 hD hB2).congr fun r d _ _ => ?_)
    unfold bwd
    rw [Finset.sum_congr rfl fun k _ => padh_mul 0 96 _ _ k]
    exact sum_heads 0 96 32 rfl _ 8

end Cert.Mat.K16

end
-- ==== Proof.Dw17.lean ====
/- The gradient of the weight of the projection to the latent attention's queries: what the call leaves in its output. -/
module

public import proofs.«01_k».proof.Proof.Heads
public import Idealize.ShloMosaic.Lib.Pipeline.ReadBack
public import proofs.«01_k».proof.Proof.Gen.Kernel17Ideal.Frame
public import proofs.«01_k».proof.Proof.Gen.Reference17Ideal.Run
public import proofs.«01_k».proof.Proof.Gen.Reference17Ideal.Read
public import proofs.«01_k».proof.Defs

@[expose] public section

set_option maxRecDepth 16384

noncomputable section

namespace Cert.Mat.K17

open Idealize.ShloMosaic hiding ix2 ix3
open Idealize.ShloMosaic.TcCoe Idealize.ShloMosaic.Tactic
open Idealize.ShloMosaic.ValueIdx (ix2 ix3)
open Cert.Kernel17Ideal Cert.Kernel17Ideal.Gen Idealize.SL Idealize.SL.Sem
open scoped BigOperators

theorem bx0 : ∀ t : Fin cfg0.N, win0_0.index t = ![t.val % 2, t.val / 2] := (by decide +kernel : ∀ t : Fin grid0.N, _)
theorem bx1 : ∀ t : Fin cfg0.N, win0_1.index t = ![t.val % 2, 0] := (by decide +kernel : ∀ t : Fin grid0.N, _)
theorem bx2 : ∀ t : Fin cfg0.N, win0_2.index t = ![t.val / 2, 0] := (by decide +kernel : ∀ t : Fin grid0.N, _)
theorem ltN (t : Fin cfg0.N) : t.val < 2 := lt_of_lt_of_eq t.isLt N_0

variable {m : (ℓ : Loc nD τ sig) → Buf (Elt Ideal) ℓ} {c : Dev nD} {A B : ℕ → ℕ → EReal}

/-- The block of the first operand at a grid point. -/
theorem blk0 (hA : T16 2048 384 (V m c main_v0) A) (t : Fin cfg0.N) :
    T16 1024 384 (iblk m c 0 t) (fun r d => A (1024 * (t.val % 2) + r) (384 * (t.val / 2) + d)) := fun r d => by
  have e : iblk m c 0 t (ix2 r d) = V m c main_v0 (ix2 (⟨1024 * (t.val % 2) + r.val, by have := r.isLt; have := ltN t; omega⟩ : Fin 2048)
      (⟨384 * (t.val / 2) + d.val, by have := d.isLt; have := ltN t; omega⟩ : Fin 384)) := by
    unfold iblk
    generalize V m c = W
    blk_ext [bx0 t]
    all_goals first
      | (show t.val % 2 * 1024 + r.val = _; omega)
      | (show t.val / 2 * 384 + d.val = _; omega)
  exact e.trans (hA _ _)

/-- The block of the second operand at a grid point. -/
theorem blk1 (hB : T16 2048 1024 (V m c main_v4) B) (t : Fin cfg0.N) :
    T16 1024 1024 (iblk m c 1 t) (fun r d => B (1024 * (t.val % 2) + r) d) := fun r d => by
  have e : iblk m c 1 t (ix2 r d) = V m c main_v4 (ix2 (⟨1024 * (t.val % 2) + r.val, by have := r.isLt; have := ltN t; omega⟩ : Fin 2048) d) := by
    unfold iblk
    generalize V m c = W
    blk_ext [bx1 t]
    all_goals (show t.val % 2 * 1024 + r.val = _; omega)
  exact e.trans (hB _ _)

/-- The product of the two blocks at a grid point. -/
theorem pay1 {x : FVec Ideal S1024x384 .bf16} {y : FVec Ideal S1024x1024 .bf16} {f g : ℕ → ℕ → EReal} (hx : Tb x f) (hy : Tb y g) :
    Tb (k0_pay1 x y) (fun r d => ∑ k ∈ Finset.range 1024, f k r * g k d) :=
  Tb.dotTN (hx.self _) (hy.self _) _

/-- The table of the product up to a tile. -/
def acc (A B : ℕ → ℕ → EReal) (t r d : ℕ) : EReal :=
  ∑ k ∈ Finset.range (1024 * (t % 2 + 1)), A k (384 * (t / 2) + r) * B k d

/-- The scratch after the first point of a run: the product of its tiles. -/
theorem scrA (hA : T16 2048 384 (V m c main_v0) A) (hB : T16 2048 1024 (V m c main_v4) B)
    (t : Fin cfg0.N) (h : t.val % 2 = 0) : T32 384 1024 (outsAt0 m c t.val t.isLt).2 (acc A B t.val) := by
  rw [outsAt0_A m c t h (by omega) (by omega)]
  frame_out
  refine ((pay1 (blk0 hA t) (blk1 hB t)).self _).congr fun r d _ _ => ?_
  unfold acc
  rw [h]
  exact Finset.sum_congr rfl fun k _ => by rw [Nat.mul_zero, Nat.zero_add]

/-- The scratch after a later point of a run: the product of the point's tiles added. -/
theorem scrB (hA : T16 2048 384 (V m c main_v0) A) (hB : T16 2048 1024 (V m c main_v4) B)
    (t : Fin cfg0.N) (h : ¬ t.val % 2 = 0)
    (ih : T32 384 1024 (outsAt0 m c (t.val - 1) (Nat.lt_of_le_of_lt (Nat.sub_le _ _) t.isLt)).2 (acc A B (t.val - 1))) :
    T32 384 1024 (k0_pay3 (iblk m c 0 t) (iblk m c 1 t) (outsAt0 m c (t.val - 1) (Nat.lt_of_le_of_lt (Nat.sub_le _ _) t.isLt)).2)
      (acc A B t.val) := by
  refine ((ih.addf (pay1 (blk0 hA t) (blk1 hB t))).self _).congr fun r d _ _ => ?_
  have e : (t.val - 1) % 2 + 1 = t.val % 2 := by omega
  have e' : (t.val - 1) / 2 = t.val / 2 := by omega
  unfold acc
  rw [e, e']
  exact sum_tile (fun k => A k (384 * (t.val / 2) + r) * B k d) (t.val % 2) 1024

/-- The scratch after any point. -/
theorem scr (hA : T16 2048 384 (V m c main_v0) A) (hB : T16 2048 1024 (V m c main_v4) B) :
    ∀ (n : ℕ) (hn : n < cfg0.N), T32 384 1024 (outsAt0 m c n hn).2 (acc A B n) := by
  intro n
  induction n with
  | zero => exact fun hn => scrA hA hB ⟨0, hn⟩ (Nat.zero_mod _)
  | succ n ih =>
    intro hn
    by_cases h : (n + 1) % 2 = 0
    · exact scrA hA hB ⟨n + 1, hn⟩ h
    · have e := scrB hA hB ⟨n + 1, hn⟩ h (ih _)
      rw [outsAt0_B m c ⟨n + 1, hn⟩ h (show (n + 1) % 2 = 1 by omega) (show (n + 1) % 2 = 1 by omega)]
      frame_out
      rw [Idealize.ShloMosaic.read_unread_whole]
      exact e

/-- The output after the last point of a run. -/
theorem outs (hA : T16 2048 384 (V m c main_v0) A) (hB : T16 2048 1024 (V m c main_v4) B)
    (t : Fin cfg0.N) (h : t.val % 2 = 1) : T32 384 1024 (outsAt0 m c t.val t.isLt).1 (acc A B t.val) := by
  have e := scrB hA hB t (by omega) (scr hA hB _ _)
  rw [outsAt0_B m c t (by omega) h h]
  frame_out
  rw [Idealize.ShloMosaic.read_unread_whole]
  exact e

/-- The table of the result: the product of the first operand, transposed, and the second. -/
def res (A B : ℕ → ℕ → EReal) (r d : ℕ) : EReal := ∑ k ∈ Finset.range 2048, A k r * B k d

/-- The output after the call. -/
theorem arr2 (hA : T16 2048 384 (V m c main_v0) A) (hB : T16 2048 1024 (V m c main_v4) B) :
    T32 384 1024 ((dats m 0 c).arrAt 2 cfg0.N) (res A B) := fun r d =>
  (dats m 0 c).arrAt_forall_of_covers 2 (fun y v => (v : EReal) = res A B (y 0).val (y 1).val) (by decide +kernel) (fun t hf y => by
    have ht := (flush0_2 t).mp hf
    have e := outs hA hB t ht
    rw [after0_2]
    blk_simp [bx2 t]
    have ey : (y : S384x1024.Idx) = ix2 (n0 := 384) (n1 := 1024) (y 0) (y 1) := ValueIdx.eq_ix2 y
    refine (congrArg (fun z : S384x1024.Idx => ((outsAt0 m c t.val t.isLt).1 z : EReal)) ey).trans ((e (y 0) (y 1)).trans ?_)
    have h0 : (y 0).val < 384 := (y 0).isLt
    unfold acc res
    rw [ht]
    refine Finset.sum_congr rfl fun k _ => ?_
    congr 2
    · omega
    ) (ix2 r d)

/-- The first operand: the host's cast. -/
theorem V_x (m : (ℓ : Loc nD τ sig) → Buf (Elt Ideal) ℓ) (c : Dev nD) : V m c main_v0 = ((truncf (F := Ideal) .bf16 (m ((c.tc : Thread nD τ).loc main_arg0) : FVec Ideal S2048x384 .f32) bitsLt_bf16_f32) : FVec Ideal S2048x384 .bf16) := by
  unfold V V0
  simp only [hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results

/-- The second operand: the host's cast, with zero lanes. -/
theorem V_y (m : (ℓ : Loc nD τ sig) → Buf (Elt Ideal) ℓ) (c : Dev nD) : V m c main_v4 = (shapeCast S2048x1024 (pad S2048x8x128 ![0, 0, 0] ![0, 0, 32] ![0, 0, 0] (shapeCast S2048x8x96 (truncf (F := Ideal) .bf16 (m ((c.tc : Thread nD τ).loc main_arg1) : FVec Ideal S2048x768 .f32) bitsLt_bf16_f32) shapeCasts_S2048x768_S2048x8x96)
    (sitofp (F := Ideal) .bf16 (constantI S_ 32 0#32)) pads_S2048x8x96_S2048x8x128_000_000_0320 h_S_) shapeCasts_S2048x8x128_S2048x1024 : FVec Ideal S2048x1024 .bf16) := by
  unfold V V0
  simp only [hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results
  rfl

/-- The result: the call's output without the zero lanes. -/
theorem out_eq (m : (ℓ : Loc nD τ sig) → Buf (Elt Ideal) ℓ) (c : Dev nD) :
    Pipeline.afterTail₀ cfgs (dats m) 0 (V0 m) [hostOps1] c main_v8 = (shapeCast S384x768 (extractStridedSlice S384x8x96 ![0, 0, 0] (shapeCast S384x8x128 ((dats m 0 c).arrAt 2 cfg0.N : FVec Ideal S384x1024 .f32) shapeCasts_S384x1024_S384x8x128) slices_S384x8x128_S384x8x96_0_0_0) shapeCasts_S384x8x96_S384x768 : FVec Ideal S384x768 .f32) := by
  have e : Pipeline.withArrays spec0 c (V0 m c) (fun w => (dats m 0 c).arrAt w cfg0.N) (Proc.devRef .tc main_v5) = (dats m 0 c).arrAt 2 cfg0.N := Pipeline.withArrays_arr spec0 launch0.win.arr_inj c (V0 m c) (fun w => (dats m 0 c).arrAt w cfg0.N) 2
  unfold Pipeline.afterTail₀
  simp only [hostOps1, List.flatten_cons, List.flatten_nil, List.append_nil]
  after_results
  rw [e]
  rfl

/-- The run with the result and the arguments by name. -/
theorem run_named (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v8) = Pipeline.afterTail₀ cfgs (dats m) 0 (V0 m) [hostOps1] c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c).2 main_v8 (Pipeline.mem_restRefs_of main_v8 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩) (run_main m ρ)

/-- The reference's gradient, read as a table. -/
theorem ref (x0 : FVec Ideal S2048x384 .f32) (x1 : FVec Ideal S2048x768 .f32) :
    T32 384 768 (Cert.Reference17Ideal.Read.val_main_v3 (F := Ideal) x0 x1) (res (tab x0) (tab x1)) := fun r d => by
  rw [Cert.Reference17Ideal.Read.val_main_v3_apply, Cert.Reference17Ideal.Read.val_main_v2_apply]
  unfold res
  refine Eq.trans ?_ (Finset.sum_range _).symm
  refine Finset.sum_congr rfl fun k _ => ?_
  have ea := tb_tab x0 k r
  have eb := tb_tab x1 k d
  rw [mul_comm]
  refine congrArg₂ (· * ·) (Eq.trans (congrArg _ ?_) ea) (Eq.trans (congrArg _ ?_) eb)
  all_goals
    refine funext fun a => Fin.ext ?_
    match a with
    | ⟨0, _⟩ => rfl
    | ⟨1, _⟩ => rfl

/-- The kernel's output is the reference's result. -/
theorem value : @Cert.algebraic_Kernel17Ideal_Reference17Ideal Cert.Kernel17Ideal.Gen.facts Cert.Reference17Ideal.Gen.facts := by
  intro m g m' g' _ hag
  refine ⟨_, run_named m g, (θ_run _ _ _).mono (fun r h c => ?_) (Cert.Reference17Ideal.Value.run (F := Ideal) m' g')⟩
  obtain ⟨e0, e2, e3⟩ := h c
  obtain ⟨a0, a1⟩ := hag c
  have hA : T16 2048 384 (V m c main_v0) (tab (n := 2048) (m := 384) (φ := .f32) (m ((c.tc : Thread nD τ).loc main_arg0))) := by
    rw [V_x]
    exact Tb.truncf (tb32 2048 384 _) bitsLt_bf16_f32
  have hB : T16 2048 1024 (V m c main_v4) (fun r => padh 0 96 (tab (n := 2048) (m := 768) (φ := .f32) (m ((c.tc : Thread nD τ).loc main_arg1)) r)) := by
    rw [V_y]
    exact Tb.padCols 0 96 32 (Tb.truncf (tb32 2048 768 _) bitsLt_bf16_f32) rfl (pad_val _) _ _ _
  refine ⟨e0.trans ?_, e2, e3⟩
  clear e0 e2 e3
  rw [Cert.Reference17Ideal.Read.val_main_v3_eq, a0, a1, out_eq]
  exact (ref _ _).eq ((Tb.unpadCols 0 96 (arr2 hA hB) rfl (by decide) (by decide) _ _ _).congr fun r d _ _ => Finset.sum_congr rfl fun k _ => congrArg (_ * ·) (padh_unh 0 96 (by decide) (by decide) _ d))

end Cert.Mat.K17

end
-- ==== Proof.Kv18.lean ====
/- The projection to keys and values and the gradient of its input: what the two calls leave. -/
module

public import proofs.«01_k».proof.Proof.Mat
public import proofs.«01_k».proof.Proof.Gen.Kernel18Ideal.Frame
public import proofs.«01_k».proof.Proof.Gen.Reference18Ideal.Run
public import proofs.«01_k».proof.Proof.Gen.Reference18Ideal.Read
public import proofs.«01_k».proof.Defs

@[expose] public section

set_option maxRecDepth 16384

noncomputable section

namespace Cert.Mat.K18

open Idealize.SL.RA Idealize.SL.BI Idealize.SL.BI.BIBase Idealize.SL.BI.Laws Idealize.SL.ProofMode
open scoped Idealize.SL.BI
open Idealize.ShloMosaic.Rounds
open Idealize.ShloMosaic hiding ix2 ix3
open Idealize.ShloMosaic.TcCoe Idealize.ShloMosaic.Tactic
open Idealize.ShloMosaic.ValueIdx (ix2 ix3)
open Cert.Kernel18Ideal Cert.Kernel18Ideal.Gen Idealize.SL Idealize.SL.Sem
open scoped BigOperators

/-! ## The run -/

section
variable {F : FTy → Type} [FloatOps F] (m : (ℓ : Loc nD τ sig) → Buf (Elt F) ℓ) (ρ : Dev nD → PrngReg)

set_option backward.isDefEq.respectTransparency.types false in
/-- Every run of both calls ends with each buffer that lasts as the second call leaves it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

/-- The run with the results and the arguments by name. -/
theorem run_named : θ_run defs (onTc (τ := τ) (main (F := F))) ⟨m, fun _ => 0, ρ⟩ (fun r => ∀ c : Dev nD,
      r.2.mem ((c.tc : Thread nD τ).loc main_v2) = (dat0 (V1 m ρ) c).arrAt 2 cfg0.N
      ∧ r.2.mem ((c.tc : Thread nD τ).loc main_v3) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v2 (by decide))).trans ((W3_of m ρ c main_v2 (by decide +kernel)).trans (W2_arr m ρ c 2)),
      (h c _ (mem_uc main_v3 (by decide))).trans (W3_arr m ρ c 2),
      (h c _ (mem_uc main_arg0 (by decide))).trans (W3_main_arg0 m ρ c), (h c _ (mem_uc main_arg1 (by decide))).trans (W3_main_arg1 m ρ c),
      (h c _ (mem_uc main_arg2 (by decide))).trans (W3_main_arg2 m ρ c)⟩)
    (run_all m ρ)
end

/-! ## The two calls -/

theorem bx00 : ∀ t : Fin cfg0.N, win0_0.index t = ![t.val, 0] := (by decide +kernel : ∀ t : Fin grid0.N, _)
theorem bx01 : ∀ t : Fin cfg0.N, win0_1.index t = ![0, 0] := (by decide +kernel : ∀ t : Fin grid0.N, _)
theorem bx02 : ∀ t : Fin cfg0.N, win0_2.index t = ![t.val, 0] := (by decide +kernel : ∀ t : Fin grid0.N, _)
theorem bx10 : ∀ t : Fin cfg1.N, win1_0.index t = ![t.val, 0] := (by decide +kernel : ∀ t : Fin grid1.N, _)
theorem bx11 : ∀ t : Fin cfg1.N, win1_1.index t = ![0, 0] := (by decide +kernel : ∀ t : Fin grid1.N, _)
theorem bx12 : ∀ t : Fin cfg1.N, win1_2.index t = ![t.val, 0] := (by decide +kernel : ∀ t : Fin grid1.N, _)
theorem ltN0 (t : Fin cfg0.N) : t.val < 4 := lt_of_lt_of_eq t.isLt N_0
theorem ltN1 (t : Fin cfg1.N) : t.val < 4 := lt_of_lt_of_eq t.isLt N_1

variable {V : (c : Dev nD) → (b : Ref sig .tc) → Buf (Elt Ideal) ((c : Thread nD τ).loc b)} {c : Dev nD} {A B : ℕ → ℕ → EReal}

/-- The first call's block of rows at a grid point. -/
theorem blk00 (hA : T16 2048 256 (V c main_v1) A) (t : Fin cfg0.N) :
    T16 512 256 (iblk0 V c 0 t) (fun r d => A (512 * t.val + r) d) := fun r d => by
  have e : iblk0 V c 0 t (ix2 r d) = V c main_v1 (ix2 (⟨512 * t.val + r.val, by have := r.isLt; have := ltN0 t; omega⟩ : Fin 2048) d) := by
    unfold iblk0
    generalize V c = W
    blk_ext [bx00 t]
    all_goals (show t.val * 512 + r.val = _; omega)
  exact e.trans (hA _ _)

/-- The first call's weight, whole at every grid point. -/
theorem blk01 (hB : T16 256 1024 (V c main_v0) B) (t : Fin cfg0.N) :
    T16 256 1024 (iblk0 V c 1 t) B := fun r d => by
  have e : iblk0 V c 1 t (ix2 r d) = V c main_v0 (ix2 r d) := by
    unfold iblk0
    generalize V c = W
    blk_ext [bx01 t]
  exact e.trans (hB _ _)

/-- The second call's block of rows at a grid point. -/
theorem blk10 (hA : T32 2048 1024 (V c main_arg2) A) (t : Fin cfg1.N) :
    T32 512 1024 (iblk1 V c 0 t) (fun r d => A (512 * t.val + r) d) := fun r d => by
  have e : iblk1 V c 0 t (ix2 r d) = V c main_arg2 (ix2 (⟨512 * t.val + r.val, by have := r.isLt; have := ltN1 t; omega⟩ : Fin 2048) d) := by
    unfold iblk1
    generalize V c = W
    blk_ext [bx10 t]
    all_goals (show t.val * 512 + r.val = _; omega)
  exact e.trans (hA _ _)

/-- The second call's weight, whole at every grid point. -/
theorem blk11 (hB : T16 256 1024 (V c main_v0) B) (t : Fin cfg1.N) :
    T16 256 1024 (iblk1 V c 1 t) B := fun r d => by
  have e : iblk1 V c 1 t (ix2 r d) = V c main_v0 (ix2 r d) := by
    unfold iblk1
    generalize V c = W
    blk_ext [bx11 t]
  exact e.trans (hB _ _)

/-- The table of a product. -/
def fwd (A B : ℕ → ℕ → EReal) (r d : ℕ) : EReal := ∑ k ∈ Finset.range 256, A r k * B k d

/-- The table of a product with the second operand transposed. -/
def bwd (A B : ℕ → ℕ → EReal) (r d : ℕ) : EReal := ∑ k ∈ Finset.range 1024, A r k * B d k

/-- The first call's product of two blocks. -/
theorem pay0 {x : FVec Ideal S512x256 .bf16} {y : FVec Ideal S256x1024 .bf16} {f g : ℕ → ℕ → EReal} (hx : Tb x f)
    (hy : Tb y g) : Tb (k0_pay1 x y) (fwd f g) :=
  (Tb.dotNN (hx.self _) (hy.self _)).truncf _

/-- The second call's product of two blocks. -/
theorem pay1 {x : FVec Ideal S512x1024 .f32} {y : FVec Ideal S256x1024 .bf16} {f g : ℕ → ℕ → EReal} (hx : Tb x f)
    (hy : Tb y g) : Tb (k1_pay1 x y) (bwd f g) :=
  Tb.dotNT (hx.truncf _) (hy.self _)

/-- The projection after the first call. -/
theorem arr0 (hA : T16 2048 256 (V c main_v1) A) (hB : T16 256 1024 (V c main_v0) B) :
    T16 2048 1024 ((dat0 V c).arrAt 2 cfg0.N) (fwd A B) := fun r d =>
  (dat0 V c).arrAt_forall_of_covers 2 (fun y v => (v : EReal) = fwd A B (y 0).val (y 1).val) (by decide +kernel) (fun t hf y => by
    have e : T16 512 1024 (out0_2 (iblk0 V c 0 t) (iblk0 V c 1 t)) (fun r d => fwd A B (512 * t.val + r) d) := by
      frame_out
      exact pay0 (blk00 hA t) (blk01 hB t)
    rw [after0_2]
    blk_simp [bx02 t]
    have ey : (y : S512x1024.Idx) = ix2 (n0 := 512) (n1 := 1024) (y 0) (y 1) := ValueIdx.eq_ix2 y
    refine (congrArg (fun z : S512x1024.Idx => ((out0_2 (iblk0 V c 0 t) (iblk0 V c 1 t)) z : EReal)) ey).trans ((e (y 0) (y 1)).trans ?_)
    rw [Nat.mul_comm 512]) (ix2 r d)

/-- The gradient of the projection's input after the second call. -/
theorem arr1 (hA : T32 2048 1024 (V c main_arg2) A) (hB : T16 256 1024 (V c main_v0) B) :
    T32 2048 256 ((dat1 V c).arrAt 2 cfg1.N) (bwd A B) := fun r d =>
  (dat1 V c).arrAt_forall_of_covers 2 (fun y v => (v : EReal) = bwd A B (y 0).val (y 1).val) (by decide +kernel) (fun t hf y => by
    have e : T32 512 256 (out1_2 (iblk1 V c 0 t) (iblk1 V c 1 t)) (fun r d => bwd A B (512 * t.val + r) d) := by
      frame_out
      exact pay1 (blk10 hA t) (blk11 hB t)
    rw [after1_2]
    blk_simp [bx12 t]
    have ey : (y : S512x256.Idx) = ix2 (n0 := 512) (n1 := 256) (y 0) (y 1) := ValueIdx.eq_ix2 y
    refine (congrArg (fun z : S512x256.Idx => ((out1_2 (iblk1 V c 0 t) (iblk1 V c 1 t)) z : EReal)) ey).trans ((e (y 0) (y 1)).trans ?_)
    rw [Nat.mul_comm 512]) (ix2 r d)

/-! ## The operands and the reference -/

section
variable (m : (ℓ : Loc nD τ sig) → Buf (Elt Ideal) ℓ) (ρ : Dev nD → PrngReg) (c : Dev nD)

theorem V1_x : V1 m ρ c main_v1 = (truncf (F := Ideal) .bf16 (m ((c.tc : Thread nD τ).loc main_arg0) : FVec Ideal S2048x256 .f32) bitsLt_bf16_f32 :
    FVec Ideal S2048x256 .bf16) := by
  unfold V1 W1
  simp only [hostOps0]
  after_results

theorem V1_w : V1 m ρ c main_v0 = (truncf (F := Ideal) .bf16 (m ((c.tc : Thread nD τ).loc main_arg1) : FVec Ideal S256x1024 .f32) bitsLt_bf16_f32 :
    FVec Ideal S256x1024 .bf16) := by
  unfold V1 W1
  simp only [hostOps0]
  after_results

theorem V2_w : V2 m ρ c main_v0 = V1 m ρ c main_v0 := W2_of m ρ c main_v0 (by decide +kernel)
end

variable (x0 : FVec Ideal S2048x256 .f32) (x1 : FVec Ideal S256x1024 .f32) (x2 : FVec Ideal S2048x1024 .f32)

/-- The reference's projection, read as a table. -/
theorem ref_y : T32 2048 1024 (Cert.Reference18Ideal.Read.val_main_v0 (F := Ideal) x0 x1) (fwd (tab x0) (tab x1)) := fun r d => by
  rw [Cert.Reference18Ideal.Read.val_main_v0_apply]
  unfold fwd
  refine Eq.trans ?_ (Finset.sum_range _).symm
  refine Finset.sum_congr rfl fun k _ => ?_
  refine congrArg₂ (· * ·) (Eq.trans (congrArg _ ?_) (tb_tab x0 r k)) (Eq.trans (congrArg _ ?_) (tb_tab x1 k d))
  · refine funext fun a => Fin.ext ?_
    match a with
    | ⟨0, _⟩ => rfl
    | ⟨1, _⟩ => rfl
  · refine funext fun a => Fin.ext ?_
    match a with
    | ⟨0, _⟩ => rfl
    | ⟨1, _⟩ => rfl

/-- The reference's gradient of the projection's input. -/
theorem ref_dx : T32 2048 256 (Cert.Reference18Ideal.Read.val_main_v2 (F := Ideal) x1 x2) (bwd (tab x2) (tab x1)) := fun r d => by
  rw [Cert.Reference18Ideal.Read.val_main_v2_apply]
  unfold bwd
  refine Eq.trans ?_ (Finset.sum_range _).symm
  refine Finset.sum_congr rfl fun k _ => ?_
  refine congrArg₂ (· * ·) (Eq.trans (congrArg _ ?_) (tb_tab x2 r k)) (Eq.trans (congrArg _ ?_) (tb_tab x1 d k))
  · refine funext fun a => Fin.ext ?_
    match a with
    | ⟨0, _⟩ => rfl
    | ⟨1, _⟩ => rfl
  · refine funext fun a => Fin.ext ?_
    match a with
    | ⟨0, _⟩ => rfl
    | ⟨1, _⟩ => rfl

/-- The two calls' outputs are the reference's results. -/
theorem value : @Cert.algebraic_Kernel18Ideal_Reference18Ideal Cert.Kernel18Ideal.Gen.facts Cert.Reference18Ideal.Gen.facts := by
  intro m g m' g' _ hag
  refine ⟨_, _, run_named m g, (θ_run _ _ _).mono (fun r h c => ?_) (Cert.Reference18Ideal.Value.run (F := Ideal) m' g')⟩
  obtain ⟨e0, e1, e2, e3, e4⟩ := h c
  obtain ⟨a0, a1, a2⟩ := hag c
  have hA : T16 2048 256 (V1 m g c main_v1) (tab (n := 2048) (m := 256) (φ := .f32) (m ((c.tc : Thread nD τ).loc main_arg0))) := by
    rw [V1_x]
    exact Tb.truncf (tb32 2048 256 _) bitsLt_bf16_f32
  have hB : T16 256 1024 (V1 m g c main_v0) (tab (n := 256) (m := 1024) (φ := .f32) (m ((c.tc : Thread nD τ).loc main_arg1))) := by
    rw [V1_w]
    exact Tb.truncf (tb32 256 1024 _) bitsLt_bf16_f32
  have hB2 : T16 256 1024 (V2 m g c main_v0) (tab (n := 256) (m := 1024) (φ := .f32) (m ((c.tc : Thread nD τ).loc main_arg1))) := by
    rw [V2_w]
    exact hB
  have hD : T32 2048 1024 (V2 m g c main_arg2) (tab (n := 2048) (m := 1024) (φ := .f32) (m ((c.tc : Thread nD τ).loc main_arg2))) := by
    rw [show V2 m g c main_arg2 = m ((c.tc : Thread nD τ).loc main_arg2) from W2_args m g c main_arg2 (by decide)]
    exact tb32 2048 1024 _
  refine ⟨e0.trans ?_, e1.trans ?_, e2, e3, e4⟩
  · clear e0 e1 e2 e3 e4
    rw [Cert.Reference18Ideal.Read.val_main_v1_eq, a0, a1]
    exact ((ref_y _ _).truncf _).eq (arr0 hA hB)
  · clear e0 e1 e2 e3 e4
    rw [Cert.Reference18Ideal.Read.val_main_v2_eq, a1, a2]
    exact (ref_dx _ _).eq (arr1 hD hB2)

end Cert.Mat.K18

end
-- ==== Proof.Dw19.lean ====
/- The gradient of the weight of the projection to keys and values: what the call leaves in its output. -/
module

public import proofs.«01_k».proof.Proof.Mat
public import Idealize.ShloMosaic.Lib.Pipeline.ReadBack
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Reference19Ideal.Read
public import proofs.«01_k».proof.Defs

@[expose] public section

set_option maxRecDepth 16384

noncomputable section

namespace Cert.Mat.K19

open Idealize.ShloMosaic hiding ix2 ix3
open Idealize.ShloMosaic.TcCoe Idealize.ShloMosaic.Tactic
open Idealize.ShloMosaic.ValueIdx (ix2 ix3)
open Cert.Kernel19Ideal Cert.Kernel19Ideal.Gen Idealize.SL Idealize.SL.Sem
open scoped BigOperators

theorem bx0 : ∀ t : Fin cfg0.N, win0_0.index t = ![t.val % 2, t.val / 2] := (by decide +kernel : ∀ t : Fin grid0.N, _)
theorem bx1 : ∀ t : Fin cfg0.N, win0_1.index t = ![t.val % 2, 0] := (by decide +kernel : ∀ t : Fin grid0.N, _)
theorem bx2 : ∀ t : Fin cfg0.N, win0_2.index t = ![t.val / 2, 0] := (by decide +kernel : ∀ t : Fin grid0.N, _)
theorem ltN (t : Fin cfg0.N) : t.val < 2 := lt_of_lt_of_eq t.isLt N_0

variable {m : (ℓ : Loc nD τ sig) → Buf (Elt Ideal) ℓ} {c : Dev nD} {A B : ℕ → ℕ → EReal}

/-- The block of the first operand at a grid point. -/
theorem blk0 (hA : T16 2048 256 (V m c main_v0) A) (t : Fin cfg0.N) :
    T16 1024 256 (iblk m c 0 t) (fun r d => A (1024 * (t.val % 2) + r) (256 * (t.val / 2) + d)) := fun r d => by
  have e : iblk m c 0 t (ix2 r d) = V m c main_v0 (ix2 (⟨1024 * (t.val % 2) + r.val, by have := r.isLt; have := ltN t; omega⟩ : Fin 2048)
      (⟨256 * (t.val / 2) + d.val, by have := d.isLt; have := ltN t; omega⟩ : Fin 256)) := by
    unfold iblk
    generalize V m c = W
    blk_ext [bx0 t]
    all_goals first
      | (show t.val % 2 * 1024 + r.val = _; omega)
      | (show t.val / 2 * 256 + d.val = _; omega)
  exact e.trans (hA _ _)

/-- The block of the second operand at a grid point. -/
theorem blk1 (hB : T32 2048 1024 (V m c main_arg1) B) (t : Fin cfg0.N) :
    T32 1024 1024 (iblk m c 1 t) (fun r d => B (1024 * (t.val % 2) + r) d) := fun r d => by
  have e : iblk m c 1 t (ix2 r d) = V m c main_arg1 (ix2 (⟨1024 * (t.val % 2) + r.val, by have := r.isLt; have := ltN t; omega⟩ : Fin 2048) d) := by
    unfold iblk
    generalize V m c = W
    blk_ext [bx1 t]
    all_goals (show t.val % 2 * 1024 + r.val = _; omega)
  exact e.trans (hB _ _)

/-- The product of the two blocks at a grid point. -/
theorem pay1 {x : FVec Ideal S1024x256 .bf16} {y : FVec Ideal S1024x1024 .f32} {f g : ℕ → ℕ → EReal} (hx : Tb x f) (hy : Tb y g) :
    Tb (k0_pay1 x y) (fun r d => ∑ k ∈ Finset.range 1024, f k r * g k d) :=
  Tb.dotTN (hx.self _) (hy.truncf _) _

/-- The table of the product up to a tile. -/
def acc (A B : ℕ → ℕ → EReal) (t r d : ℕ) : EReal :=
  ∑ k ∈ Finset.range (1024 * (t % 2 + 1)), A k (256 * (t / 2) + r) * B k d

/-- The scratch after the first point of a run: the product of its tiles. -/
theorem scrA (hA : T16 2048 256 (V m c main_v0) A) (hB : T32 2048 1024 (V m c main_arg1) B)
    (t : Fin cfg0.N) (h : t.val % 2 = 0) : T32 256 1024 (outsAt0 m c t.val t.isLt).2 (acc A B t.val) := by
  rw [outsAt0_A m c t h (by omega) (by omega)]
  frame_out
  refine ((pay1 (blk0 hA t) (blk1 hB t)).self _).congr fun r d _ _ => ?_
  unfold acc
  rw [h]
  exact Finset.sum_congr rfl fun k _ => by rw [Nat.mul_zero, Nat.zero_add]

/-- The scratch after a later point of a run: the product of the point's tiles added. -/
theorem scrB (hA : T16 2048 256 (V m c main_v0) A) (hB : T32 2048 1024 (V m c main_arg1) B)
    (t : Fin cfg0.N) (h : ¬ t.val % 2 = 0)
    (ih : T32 256 1024 (outsAt0 m c (t.val - 1) (Nat.lt_of_le_of_lt (Nat.sub_le _ _) t.isLt)).2 (acc A B (t.val - 1))) :
    T32 256 1024 (k0_pay3 (iblk m c 0 t) (iblk m c 1 t) (outsAt0 m c (t.val - 1) (Nat.lt_of_le_of_lt (Nat.sub_le _ _) t.isLt)).2)
      (acc A B t.val) := by
  refine ((ih.addf (pay1 (blk0 hA t) (blk1 hB t))).self _).congr fun r d _ _ => ?_
  have e : (t.val - 1) % 2 + 1 = t.val % 2 := by omega
  have e' : (t.val - 1) / 2 = t.val / 2 := by omega
  unfold acc
  rw [e, e']
  exact sum_tile (fun k => A k (256 * (t.val / 2) + r) * B k d) (t.val % 2) 1024

/-- The scratch after any point. -/
theorem scr (hA : T16 2048 256 (V m c main_v0) A) (hB : T32 2048 1024 (V m c main_arg1) B) :
    ∀ (n : ℕ) (hn : n < cfg0.N), T32 256 1024 (outsAt0 m c n hn).2 (acc A B n) := by
  intro n
  induction n with
  | zero => exact fun hn => scrA hA hB ⟨0, hn⟩ (Nat.zero_mod _)
  | succ n ih =>
    intro hn
    by_cases h : (n + 1) % 2 = 0
    · exact scrA hA hB ⟨n + 1, hn⟩ h
    · have e := scrB hA hB ⟨n + 1, hn⟩ h (ih _)
      rw [outsAt0_B m c ⟨n + 1, hn⟩ h (show (n + 1) % 2 = 1 by omega) (show (n + 1) % 2 = 1 by omega)]
      frame_out
      rw [Idealize.ShloMosaic.read_unread_whole]
      exact e

/-- The output after the last point of a run. -/
theorem outs (hA : T16 2048 256 (V m c main_v0) A) (hB : T32 2048 1024 (V m c main_arg1) B)
    (t : Fin cfg0.N) (h : t.val % 2 = 1) : T32 256 1024 (outsAt0 m c t.val t.isLt).1 (acc A B t.val) := by
  have e := scrB hA hB t (by omega) (scr hA hB _ _)
  rw [outsAt0_B m c t (by omega) h h]
  frame_out
  rw [Idealize.ShloMosaic.read_unread_whole]
  exact e

/-- The table of the result: the product of the first operand, transposed, and the second. -/
def res (A B : ℕ → ℕ → EReal) (r d : ℕ) : EReal := ∑ k ∈ Finset.range 2048, A k r * B k d

/-- The output after the call. -/
theorem arr2 (hA : T16 2048 256 (V m c main_v0) A) (hB : T32 2048 1024 (V m c main_arg1) B) :
    T32 256 1024 ((dats m 0 c).arrAt 2 cfg0.N) (res A B) := fun r d =>
  (dats m 0 c).arrAt_forall_of_covers 2 (fun y v => (v : EReal) = res A B (y 0).val (y 1).val) (by decide +kernel) (fun t hf y => by
    have ht := (flush0_2 t).mp hf
    have e := outs hA hB t ht
    rw [after0_2]
    blk_simp [bx2 t]
    have ey : (y : S256x1024.Idx) = ix2 (n0 := 256) (n1 := 1024) (y 0) (y 1) := ValueIdx.eq_ix2 y
    refine (congrArg (fun z : S256x1024.Idx => ((outsAt0 m c t.val t.isLt).1 z : EReal)) ey).trans ((e (y 0) (y 1)).trans ?_)
    have h0 : (y 0).val < 256 := (y 0).isLt
    unfold acc res
    rw [ht]
    refine Finset.sum_congr rfl fun k _ => ?_
    congr 2
    · omega
    ) (ix2 r d)

/-- The first operand: the host's cast. -/
theorem V_v0 (m : (ℓ : Loc nD τ sig) → Buf (Elt Ideal) ℓ) (c : Dev nD) : V m c main_v0 = (truncf (F := Ideal) .bf16
    (m ((c.tc : Thread nD τ).loc main_arg0) : FVec Ideal S2048x256 .f32) bitsLt_bf16_f32 : FVec Ideal S2048x256 .bf16) := by
  unfold V
  simp only [hostOps0, List.flatten_cons, List.flatten_nil, List.append_nil]
  after_results

/-- The reference's gradient, read as a table. -/
theorem ref (x0 : FVec Ideal S2048x256 .f32) (x1 : FVec Ideal S2048x1024 .f32) :
    T32 256 1024 (Cert.Reference19Ideal.Read.val_main_v3 (F := Ideal) x0 x1) (res (tab x0) (tab x1)) := fun r d => by
  rw [Cert.Reference19Ideal.Read.val_main_v3_apply, Cert.Reference19Ideal.Read.val_main_v2_apply]
  unfold res
  refine Eq.trans ?_ (Finset.sum_range _).symm
  refine Finset.sum_congr rfl fun k _ => ?_
  have ea := tb_tab x0 k r
  have eb := tb_tab x1 k d
  rw [mul_comm]
  refine congrArg₂ (· * ·) (Eq.trans (congrArg _ ?_) ea) (Eq.trans (congrArg _ ?_) eb)
  · refine funext fun a => Fin.ext ?_
    match a with
    | ⟨0, _⟩ => rfl
    | ⟨1, _⟩ => rfl
  · refine funext fun a => Fin.ext ?_
    match a with
    | ⟨0, _⟩ => rfl
    | ⟨1, _⟩ => rfl

/-- The kernel's output is the reference's result. -/
theorem value : @Cert.algebraic_Kernel19Ideal_Reference19Ideal Cert.Kernel19Ideal.Gen.facts Cert.Reference19Ideal.Gen.facts := by
  intro m g m' g' _ hag
  refine ⟨_, Cert.Kernel19Ideal.Value.run_blocks m g, (θ_run _ _ _).mono (fun r h c => ?_) (Cert.Reference19Ideal.Value.run (F := Ideal) m' g')⟩
  obtain ⟨e0, e2, e3⟩ := h c
  obtain ⟨a0, a1⟩ := hag c
  have hA : T16 2048 256 (V m c main_v0) (tab (n := 2048) (m := 256) (φ := .f32) (m ((c.tc : Thread nD τ).loc main_arg0))) := by
    rw [V_v0]
    exact Tb.truncf (tb32 2048 256 _) bitsLt_bf16_f32
  have hB : T32 2048 1024 (V m c main_arg1) (tab (n := 2048) (m := 1024) (φ := .f32) (m ((c.tc : Thread nD τ).loc main_arg1))) := by
    rw [V_main_arg1]
    exact tb32 2048 1024 _
  refine ⟨e0.trans ?_, e2, e3⟩
  clear e0 e2 e3
  rw [Cert.Reference19Ideal.Read.val_main_v3_eq, a0, a1]
  exact (ref _ _).eq (arr2 hA hB)

end Cert.Mat.K19

end
-- ==== Proof.Gate.lean ====
/- The logistic gate, read as tables. -/
module

public import proofs.«01_k».proof.Proof.Mat
public import Idealize.ShloMosaic.Lib.IdealHost

@[expose] public section

noncomputable section

namespace Cert.Mat

open Idealize.ShloMosaic hiding ix1 ix2 ix3
open Idealize.ShloMosaic.ValueIdx (ix1 ix2 ix3)

variable {n m : ℕ} {φ : FTy} {f g : ℕ → ℕ → EReal}

/-- The logistic function. -/
def lg (x : EReal) : EReal := Ideal.logistic x

/-- The one the programs name. -/
def c1 : EReal := FloatOps.ofBits (F := Ideal) .f32 0x3F800000#32

/-- The host's quotient of one and one more than the exponential of the opposite is the logistic function. -/
theorem lg_eq (x : Ideal .f32) : FloatOps.hostDivf (F := Ideal) (φ := .f32) (FloatOps.ofBits .f32 0x3F800000#32)
    (FloatOps.addf (FloatOps.ofBits .f32 0x3F800000#32) (FloatOps.hostUnary .exp (FloatOps.hostNegf x))) = lg x := by
  show Ideal.div (Ideal.ofBits .f32 0x3F800000#32) (Ideal.ofBits .f32 0x3F800000#32 + Ideal.exp (-x)) = lg x
  rw [Ideal.ofBits_one_f32]
  rfl

theorem Tb.logistic {x : FVec Ideal ⟨2, ![n, m]⟩ φ} (hx : Tb x f) : Tb (logistic x) (fun r c => lg (f r c)) :=
  fun r c => congrArg lg (hx r c)

theorem Tb.subf {x y : FVec Ideal ⟨2, ![n, m]⟩ φ} (hx : Tb x f) (hy : Tb y g) : Tb (subf x y) (fun r c => f r c - g r c) :=
  fun r c => congrArg₂ (· - ·) (hx r c) (hy r c)

end Cert.Mat

end
-- ==== Proof.Mrg20.lean ====
/- The gradients of the gated sum: what the call leaves in its outputs. -/
module

public import proofs.«01_k».proof.Proof.Gate
public import Idealize.ShloMosaic.Lib.Pipeline.ReadBack
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Reference20Ideal.Read
public import proofs.«01_k».proof.Defs

@[expose] public section

set_option maxRecDepth 16384

noncomputable section

namespace Cert.Mat.K20

open Idealize.ShloMosaic hiding ix2 ix3
open Idealize.ShloMosaic.TcCoe Idealize.ShloMosaic.Tactic
open Idealize.ShloMosaic.ValueIdx (ix2 ix3)
open Cert.Kernel20Ideal Cert.Kernel20Ideal.Gen Cert.Reference20Ideal.Read Idealize.SL Idealize.SL.Sem
open scoped BigOperators

theorem bx0 : ∀ t : Fin cfg0.N, win0_0.index t = ![t.val, 0] := (by decide +kernel : ∀ t : Fin grid0.N, _)
theorem bx1 : ∀ t : Fin cfg0.N, win0_1.index t = ![t.val, 1] := (by decide +kernel : ∀ t : Fin grid0.N, _)
theorem bx2 : ∀ t : Fin cfg0.N, win0_2.index t = ![t.val, 0] := (by decide +kernel : ∀ t : Fin grid0.N, _)
theorem bx3 : ∀ t : Fin cfg0.N, win0_3.index t = ![t.val, 0] := (by decide +kernel : ∀ t : Fin grid0.N, _)
theorem bx4 : ∀ t : Fin cfg0.N, win0_4.index t = ![t.val, 0] := (by decide +kernel : ∀ t : Fin grid0.N, _)
theorem bx5 : ∀ t : Fin cfg0.N, win0_5.index t = ![t.val, 0] := (by decide +kernel : ∀ t : Fin grid0.N, _)
theorem bx6 : ∀ t : Fin cfg0.N, win0_6.index t = ![t.val, 0] := (by decide +kernel : ∀ t : Fin grid0.N, _)
theorem bx7 : ∀ t : Fin cfg0.N, win0_7.index t = ![t.val, 0] := (by decide +kernel : ∀ t : Fin grid0.N, _)
theorem bx8 : ∀ t : Fin cfg0.N, win0_8.index t = ![t.val, 0] := (by decide +kernel : ∀ t : Fin grid0.N, _)
theorem ltN (t : Fin cfg0.N) : t.val < 4 := lt_of_lt_of_eq t.isLt N_0

variable {m : (ℓ : Loc nD τ sig) → Buf (Elt Ideal) ℓ} {c : Dev nD} {P A B D : ℕ → ℕ → EReal}

/-- The block of the first gate at a grid point. -/
theorem blk0 (hP : T32 2048 4352 (V m c main_arg0) P) (t : Fin cfg0.N) :
    T32 512 1024 (X0_0 m c t) (fun r d => P (512 * t.val + r) d) := fun r d => by
  have e : X0_0 m c t (ix2 r d) = V m c main_arg0 (ix2 (⟨512 * t.val + r.val, by have := r.isLt; have := ltN t; omega⟩ : Fin 2048)
      (⟨d.val, by have := d.isLt; omega⟩ : Fin 4352)) := by
    unfold X0_0 Pipeline.Window.fill
    rw [dif_pos (moved0_0 t _)]
    unfold iblk
    generalize V m c = W
    blk_ext [bx0 t]
    all_goals first
      | (show t.val * 512 + r.val = _; omega)
      | (show 1 * 1024 + d.val = _; omega)
  exact e.trans (hP _ _)

/-- The block of the second gate at a grid point. -/
theorem blk1 (hP : T32 2048 4352 (V m c main_arg0) P) (t : Fin cfg0.N) :
    T32 512 1024 (X0_1 m c t) (fun r d => P (512 * t.val + r) (1024 + d)) := fun r d => by
  have e : X0_1 m c t (ix2 r d) = V m c main_arg0 (ix2 (⟨512 * t.val + r.val, by have := r.isLt; have := ltN t; omega⟩ : Fin 2048)
      (⟨1024 + d.val, by have := d.isLt; omega⟩ : Fin 4352)) := by
    unfold X0_1 Pipeline.Window.fill
    rw [dif_pos (moved0_1 t _)]
    unfold iblk
    generalize V m c = W
    blk_ext [bx1 t]
    all_goals first
      | (show t.val * 512 + r.val = _; omega)
      | (show 1 * 1024 + d.val = _; omega)
  exact e.trans (hP _ _)

/-- The block of the first branch at a grid point. -/
theorem blk2 (hA : T32 2048 1024 (V m c main_arg1) A) (t : Fin cfg0.N) :
    T32 512 1024 (iblk m c 2 t) (fun r d => A (512 * t.val + r) d) := fun r d => by
  have e : iblk m c 2 t (ix2 r d) = V m c main_arg1 (ix2 (⟨512 * t.val + r.val, by have := r.isLt; have := ltN t; omega⟩ : Fin 2048) d) := by
    unfold iblk
    generalize V m c = W
    blk_ext [bx2 t]
    all_goals (show t.val * 512 + r.val = _; omega)
  exact e.trans (hA _ _)

/-- The block of the second branch at a grid point. -/
theorem blk3 (hB : T32 2048 1024 (V m c main_arg2) B) (t : Fin cfg0.N) :
    T32 512 1024 (iblk m c 3 t) (fun r d => B (512 * t.val + r) d) := fun r d => by
  have e : iblk m c 3 t (ix2 r d) = V m c main_arg2 (ix2 (⟨512 * t.val + r.val, by have := r.isLt; have := ltN t; omega⟩ : Fin 2048) d) := by
    unfold iblk
    generalize V m c = W
    blk_ext [bx3 t]
    all_goals (show t.val * 512 + r.val = _; omega)
  exact e.trans (hB _ _)

/-- The block of the incoming gradient at a grid point. -/
theorem blk4 (hD : T32 2048 1024 (V m c main_arg3) D) (t : Fin cfg0.N) :
    T32 512 1024 (iblk m c 4 t) (fun r d => D (512 * t.val + r) d) := fun r d => by
  have e : iblk m c 4 t (ix2 r d) = V m c main_arg3 (ix2 (⟨512 * t.val + r.val, by have := r.isLt; have := ltN t; omega⟩ : Fin 2048) d) := by
    unfold iblk
    generalize V m c = W
    blk_ext [bx4 t]
    all_goals (show t.val * 512 + r.val = _; omega)
  exact e.trans (hD _ _)

/-- The tables of the gradients of the two branches and of the two gates. -/
def dA (P D : ℕ → ℕ → EReal) (r d : ℕ) : EReal := D r d * lg (P r d)
def dB (P D : ℕ → ℕ → EReal) (r d : ℕ) : EReal := D r d * lg (P r (1024 + d))
def dG (P A D : ℕ → ℕ → EReal) (r d : ℕ) : EReal := D r d * A r d * lg (P r d) * (c1 - lg (P r d))
def dH (P B D : ℕ → ℕ → EReal) (r d : ℕ) : EReal := D r d * B r d * lg (P r (1024 + d)) * (c1 - lg (P r (1024 + d)))

/-- The values stored at a grid point. -/
theorem pay3 {z u : FVec Ideal S512x1024 .f32} {h f : ℕ → ℕ → EReal} (hz : Tb z h) (hu : Tb u f) :
    Tb (k0_pay3 z u) (fun r d => h r d * lg (f r d)) := (hz.mulf hu.logistic).truncf bitsLt_bf16_f32
theorem pay4 {z u : FVec Ideal S512x1024 .f32} {h f : ℕ → ℕ → EReal} (hz : Tb z h) (hu : Tb u f) :
    Tb (k0_pay4 z u) (fun r d => h r d * lg (f r d)) := (hz.mulf hu.logistic).truncf bitsLt_bf16_f32
theorem pay5 {z u x : FVec Ideal S512x1024 .f32} {h f g : ℕ → ℕ → EReal} (hz : Tb z h) (hu : Tb u f) (hx : Tb x g) :
    Tb (k0_pay5 z u x) (fun r d => h r d * g r d * lg (f r d) * (c1 - lg (f r d))) :=
  ((hz.mulf hx).mulf hu.logistic).mulf (Tb.subf (f := fun _ _ => c1) (tb_fill _) hu.logistic)
theorem pay6 {z u x : FVec Ideal S512x1024 .f32} {h f g : ℕ → ℕ → EReal} (hz : Tb z h) (hu : Tb u f) (hx : Tb x g) :
    Tb (k0_pay6 z u x) (fun r d => h r d * g r d * lg (f r d) * (c1 - lg (f r d))) :=
  ((hz.mulf hx).mulf hu.logistic).mulf (Tb.subf (f := fun _ _ => c1) (tb_fill _) hu.logistic)

/-- Output 0 after the call. -/
theorem arr5 (hP : T32 2048 4352 (V m c main_arg0) P) (hD : T32 2048 1024 (V m c main_arg3) D) :
    T16 2048 1024 ((dats m 0 c).arrAt 5 cfg0.N) (dA P D) := fun r d =>
  (dats m 0 c).arrAt_forall_of_covers 5 (fun y v => (v : EReal) = dA P D (y 0).val (y 1).val) (by decide +kernel) (fun t hf y => by
    have e := pay3 (blk4 hD t) (blk0 hP t)
    rw [after0_5]
    unfold outsAt0
    blk_simp [bx5 t]
    frame_out
    have ey : (y : S512x1024.Idx) = ix2 (n0 := 512) (n1 := 1024) (y 0) (y 1) := ValueIdx.eq_ix2 y
    refine (congrArg (fun z : S512x1024.Idx => (k0_pay3 (iblk m c 4 t) (X0_0 m c t) z : EReal)) ey).trans ((e (y 0) (y 1)).trans ?_)
    unfold dA
    have e0 : t.val * 512 + (y 0).val = 512 * t.val + (y 0).val := by omega
    simp only [e0]) (ix2 r d)

/-- Output 1 after the call. -/
theorem arr6 (hP : T32 2048 4352 (V m c main_arg0) P) (hD : T32 2048 1024 (V m c main_arg3) D) :
    T16 2048 1024 ((dats m 0 c).arrAt 6 cfg0.N) (dB P D) := fun r d =>
  (dats m 0 c).arrAt_forall_of_covers 6 (fun y v => (v : EReal) = dB P D (y 0).val (y 1).val) (by decide +kernel) (fun t hf y => by
    have e := pay4 (blk4 hD t) (blk1 hP t)
    rw [after0_6]
    unfold outsAt0
    blk_simp [bx6 t]
    frame_out
    have ey : (y : S512x1024.Idx) = ix2 (n0 := 512) (n1 := 1024) (y 0) (y 1) := ValueIdx.eq_ix2 y
    refine (congrArg (fun z : S512x1024.Idx => (k0_pay4 (iblk m c 4 t) (X0_1 m c t) z : EReal)) ey).trans ((e (y 0) (y 1)).trans ?_)
    unfold dB
    have e0 : t.val * 512 + (y 0).val = 512 * t.val + (y 0).val := by omega
    simp only [e0]) (ix2 r d)

/-- Output 2 after the call. -/
theorem arr7 (hP : T32 2048 4352 (V m c main_arg0) P) (hA : T32 2048 1024 (V m c main_arg1) A) (hD : T32 2048 1024 (V m c main_arg3) D) :
    T32 2048 1024 ((dats m 0 c).arrAt 7 cfg0.N) (dG P A D) := fun r d =>
  (dats m 0 c).arrAt_forall_of_covers 7 (fun y v => (v : EReal) = dG P A D (y 0).val (y 1).val) (by decide +kernel) (fun t hf y => by
    have e := pay5 (blk4 hD t) (blk0 hP t) (blk2 hA t)
    rw [after0_7]
    unfold outsAt0
    blk_simp [bx7 t]
    frame_out
    have ey : (y : S512x1024.Idx) = ix2 (n0 := 512) (n1 := 1024) (y 0) (y 1) := ValueIdx.eq_ix2 y
    refine (congrArg (fun z : S512x1024.Idx => (k0_pay5 (iblk m c 4 t) (X0_0 m c t) (iblk m c 2 t) z : EReal)) ey).trans ((e (y 0) (y 1)).trans ?_)
    unfold dG
    have e0 : t.val * 512 + (y 0).val = 512 * t.val + (y 0).val := by omega
    simp only [e0]) (ix2 r d)

/-- Output 3 after the call. -/
theorem arr8 (hP : T32 2048 4352 (V m c main_arg0) P) (hB : T32 2048 1024 (V m c main_arg2) B) (hD : T32 2048 1024 (V m c main_arg3) D) :
    T32 2048 1024 ((dats m 0 c).arrAt 8 cfg0.N) (dH P B D) := fun r d =>
  (dats m 0 c).arrAt_forall_of_covers 8 (fun y v => (v : EReal) = dH P B D (y 0).val (y 1).val) (by decide +kernel) (fun t hf y => by
    have e := pay6 (blk4 hD t) (blk1 hP t) (blk3 hB t)
    rw [after0_8]
    unfold outsAt0
    blk_simp [bx8 t]
    frame_out
    have ey : (y : S512x1024.Idx) = ix2 (n0 := 512) (n1 := 1024) (y 0) (y 1) := ValueIdx.eq_ix2 y
    refine (congrArg (fun z : S512x1024.Idx => (k0_pay6 (iblk m c 4 t) (X0_1 m c t) (iblk m c 3 t) z : EReal)) ey).trans ((e (y 0) (y 1)).trans ?_)
    unfold dH
    have e0 : t.val * 512 + (y 0).val = 512 * t.val + (y 0).val := by omega
    simp only [e0]) (ix2 r d)

/-- The reference's first gate, read as a table. -/
theorem gate0 (x0 : FVec Ideal S2048x4352 .f32) :
    T32 2048 1024 (val_main_v7 (F := Ideal) x0) (fun r d => lg (tab x0 r d)) := fun r d => by
  rw [val_main_v7_apply, val_main_v6_apply, val_main_cst_0_apply, val_main_v5_apply, val_main_v4_apply, val_main_cst_apply, val_main_v3_apply, val_main_v2_apply, val_main_v0_apply]
  refine (lg_eq _).trans (congrArg lg (Eq.trans (congrArg _ ?_) (tb_tab x0 r (⟨d.val, by have := d.isLt; omega⟩ : Fin 4352))))
  refine funext fun a => Fin.ext ?_
  match a with
  | ⟨0, _⟩ => rfl
  | ⟨1, _⟩ => rfl

/-- The reference's second gate, read as a table. -/
theorem gate1 (x0 : FVec Ideal S2048x4352 .f32) :
    T32 2048 1024 (val_main_v17 (F := Ideal) x0) (fun r d => lg (tab x0 r (1024 + d))) := fun r d => by
  rw [val_main_v17_apply, val_main_v16_apply, val_main_cst_3_apply, val_main_v15_apply, val_main_v14_apply, val_main_cst_2_apply, val_main_v13_apply, val_main_v12_apply, val_main_v1_apply]
  refine (lg_eq _).trans (congrArg lg (Eq.trans (congrArg _ ?_) (tb_tab x0 r (⟨1024 + d.val, by have := d.isLt; omega⟩ : Fin 4352))))
  refine funext fun a => Fin.ext ?_
  match a with
  | ⟨0, _⟩ => rfl
  | ⟨1, _⟩ => rfl

/-- The ones the reference subtracts from. -/
theorem one0 : T32 2048 1024 (val_main_v8 (F := Ideal)) (fun _ _ => c1) := fun r d => by
  rw [val_main_v8_apply, val_main_cst_1_apply]
  rfl
theorem one1 : T32 2048 1024 (val_main_v18 (F := Ideal)) (fun _ _ => c1) := fun r d => by
  rw [val_main_v18_apply, val_main_cst_4_apply]
  rfl

/-- The reference's results, read as tables. -/
theorem refA (x0 : FVec Ideal S2048x4352 .f32) (x3 : FVec Ideal S2048x1024 .f32) :
    T16 2048 1024 (val_main_v31 (F := Ideal) x0 x3) (dA (tab x0) (tab x3)) :=
  (((gate0 x0).mulf ((tb_tab x3).self _)).truncf bitsLt_bf16_f32).congr fun _ _ _ _ => mul_comm _ _
theorem refB (x0 : FVec Ideal S2048x4352 .f32) (x3 : FVec Ideal S2048x1024 .f32) :
    T16 2048 1024 (val_main_v32 (F := Ideal) x0 x3) (dB (tab x0) (tab x3)) :=
  (((gate1 x0).mulf ((tb_tab x3).self _)).truncf bitsLt_bf16_f32).congr fun _ _ _ _ => mul_comm _ _
theorem refG (x0 : FVec Ideal S2048x4352 .f32) (x1 x3 : FVec Ideal S2048x1024 .f32) :
    T32 2048 1024 (val_main_v30 (F := Ideal) x0 x1 x3) (dG (tab x0) (tab x1) (tab x3)) :=
  ((((tb_tab x3).self _).mulf (tb_tab x1)).mulf ((gate0 x0).mulf (one0.subf (gate0 x0)))).congr fun _ _ _ _ => (mul_assoc _ _ _).symm
theorem refH (x0 : FVec Ideal S2048x4352 .f32) (x2 x3 : FVec Ideal S2048x1024 .f32) :
    T32 2048 1024 (val_main_v27 (F := Ideal) x0 x2 x3) (dH (tab x0) (tab x2) (tab x3)) :=
  ((((tb_tab x3).self _).mulf (tb_tab x2)).mulf ((gate1 x0).mulf (one1.subf (gate1 x0)))).congr fun _ _ _ _ => (mul_assoc _ _ _).symm

/-- The kernel's outputs are the reference's results. -/
theorem value : @Cert.algebraic_Kernel20Ideal_Reference20Ideal Cert.Kernel20Ideal.Gen.facts Cert.Reference20Ideal.Gen.facts := by
  intro m g m' g' _ hag
  refine ⟨_, _, _, _, Cert.Kernel20Ideal.Value.run_blocks m g, (θ_run _ _ _).mono (fun r h c => ?_) (Cert.Reference20Ideal.Value.run (F := Ideal) m' g')⟩
  obtain ⟨e0, e1, e2, e3, k⟩ := h c
  obtain ⟨a0, a1, a2, a3⟩ := hag c
  have hP : T32 2048 4352 (V m c main_arg0) (tab (n := 2048) (m := 4352) (φ := .f32) (m ((c.tc : Thread nD τ).loc main_arg0))) := by
    rw [V_main_arg0]
    exact tb32 2048 4352 _
  have hA : T32 2048 1024 (V m c main_arg1) (tab (n := 2048) (m := 1024) (φ := .f32) (m ((c.tc : Thread nD τ).loc main_arg1))) := by
    rw [V_main_arg1]
    exact tb32 2048 1024 _
  have hB : T32 2048 1024 (V m c main_arg2) (tab (n := 2048) (m := 1024) (φ := .f32) (m ((c.tc : Thread nD τ).loc main_arg2))) := by
    rw [V_main_arg2]
    exact tb32 2048 1024 _
  have hD : T32 2048 1024 (V m c main_arg3) (tab (n := 2048) (m := 1024) (φ := .f32) (m ((c.tc : Thread nD τ).loc main_arg3))) := by
    rw [V_main_arg3]
    exact tb32 2048 1024 _
  refine ⟨e0.trans ?_, e1.trans ?_, e2.trans ?_, e3.trans ?_, k⟩
  · clear e0 e1 e2 e3 k
    rw [val_main_v31_eq, a0, a3]
    exact (refA _ _).eq (arr5 hP hD)
  · clear e0 e1 e2 e3 k
    rw [val_main_v32_eq, a0, a3]
    exact (refB _ _).eq (arr6 hP hD)
  · clear e0 e1 e2 e3 k
    rw [val_main_v30_eq, a0, a1, a3]
    exact (refG _ _ _).eq (arr7 hP hA hD)
  · clear e0 e1 e2 e3 k
    rw [val_main_v27_eq, a0, a2, a3]
    exact (refH _ _ _).eq (arr8 hP hB hD)

end Cert.Mat.K20

end
-- ==== Proof.Mrg21.lean ====
/- The gated sum of the two branches: what the call leaves in its output. -/
module

public import proofs.«01_k».proof.Proof.Gate
public import Idealize.ShloMosaic.Lib.Pipeline.ReadBack
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Reference21Ideal.Read
public import proofs.«01_k».proof.Defs

@[expose] public section

set_option maxRecDepth 16384

noncomputable section

namespace Cert.Mat.K21

open Idealize.ShloMosaic hiding ix2 ix3
open Idealize.ShloMosaic.TcCoe Idealize.ShloMosaic.Tactic
open Idealize.ShloMosaic.ValueIdx (ix2 ix3)
open Cert.Kernel21Ideal Cert.Kernel21Ideal.Gen Cert.Reference21Ideal.Read Idealize.SL Idealize.SL.Sem
open scoped BigOperators

theorem bx0 : ∀ t : Fin cfg0.N, win0_0.index t = ![t.val, 0] := (by decide +kernel : ∀ t : Fin grid0.N, _)
theorem bx1 : ∀ t : Fin cfg0.N, win0_1.index t = ![t.val, 1] := (by decide +kernel : ∀ t : Fin grid0.N, _)
theorem bx2 : ∀ t : Fin cfg0.N, win0_2.index t = ![t.val, 0] := (by decide +kernel : ∀ t : Fin grid0.N, _)
theorem bx3 : ∀ t : Fin cfg0.N, win0_3.index t = ![t.val, 0] := (by decide +kernel : ∀ t : Fin grid0.N, _)
theorem bx4 : ∀ t : Fin cfg0.N, win0_4.index t = ![t.val, 0] := (by decide +kernel : ∀ t : Fin grid0.N, _)
theorem ltN (t : Fin cfg0.N) : t.val < 4 := lt_of_lt_of_eq t.isLt N_0

variable {m : (ℓ : Loc nD τ sig) → Buf (Elt Ideal) ℓ} {c : Dev nD} {P A B D : ℕ → ℕ → EReal}

/-- The block of the first gate at a grid point. -/
theorem blk0 (hP : T32 2048 4352 (V m c main_arg0) P) (t : Fin cfg0.N) :
    T32 512 1024 (X0_0 m c t) (fun r d => P (512 * t.val + r) d) := fun r d => by
  have e : X0_0 m c t (ix2 r d) = V m c main_arg0 (ix2 (⟨512 * t.val + r.val, by have := r.isLt; have := ltN t; omega⟩ : Fin 2048)
      (⟨d.val, by have := d.isLt; omega⟩ : Fin 4352)) := by
    unfold X0_0 Pipeline.Window.fill
    rw [dif_pos (moved0_0 t _)]
    unfold iblk
    generalize V m c = W
    blk_ext [bx0 t]
    all_goals first
      | (show t.val * 512 + r.val = _; omega)
      | (show 1 * 1024 + d.val = _; omega)
  exact e.trans (hP _ _)

/-- The block of the second gate at a grid point. -/
theorem blk1 (hP : T32 2048 4352 (V m c main_arg0) P) (t : Fin cfg0.N) :
    T32 512 1024 (X0_1 m c t) (fun r d => P (512 * t.val + r) (1024 + d)) := fun r d => by
  have e : X0_1 m c t (ix2 r d) = V m c main_arg0 (ix2 (⟨512 * t.val + r.val, by have := r.isLt; have := ltN t; omega⟩ : Fin 2048)
      (⟨1024 + d.val, by have := d.isLt; omega⟩ : Fin 4352)) := by
    unfold X0_1 Pipeline.Window.fill
    rw [dif_pos (moved0_1 t _)]
    unfold iblk
    generalize V m c = W
    blk_ext [bx1 t]
    all_goals first
      | (show t.val * 512 + r.val = _; omega)
      | (show 1 * 1024 + d.val = _; omega)
  exact e.trans (hP _ _)

/-- The block of the first branch at a grid point. -/
theorem blk2 (hA : T32 2048 1024 (V m c main_arg1) A) (t : Fin cfg0.N) :
    T32 512 1024 (iblk m c 2 t) (fun r d => A (512 * t.val + r) d) := fun r d => by
  have e : iblk m c 2 t (ix2 r d) = V m c main_arg1 (ix2 (⟨512 * t.val + r.val, by have := r.isLt; have := ltN t; omega⟩ : Fin 2048) d) := by
    unfold iblk
    generalize V m c = W
    blk_ext [bx2 t]
    all_goals (show t.val * 512 + r.val = _; omega)
  exact e.trans (hA _ _)

/-- The block of the second branch at a grid point. -/
theorem blk3 (hB : T32 2048 1024 (V m c main_arg2) B) (t : Fin cfg0.N) :
    T32 512 1024 (iblk m c 3 t) (fun r d => B (512 * t.val + r) d) := fun r d => by
  have e : iblk m c 3 t (ix2 r d) = V m c main_arg2 (ix2 (⟨512 * t.val + r.val, by have := r.isLt; have := ltN t; omega⟩ : Fin 2048) d) := by
    unfold iblk
    generalize V m c = W
    blk_ext [bx3 t]
    all_goals (show t.val * 512 + r.val = _; omega)
  exact e.trans (hB _ _)

/-- The table of the result: the gated branches added. -/
def res (P A B : ℕ → ℕ → EReal) (r d : ℕ) : EReal := lg (P r d) * A r d + lg (P r (1024 + d)) * B r d

/-- The value stored at a grid point. -/
theorem pay {u x v y : FVec Ideal S512x1024 .f32} {fu f fv g : ℕ → ℕ → EReal} (hu : Tb u fu) (hx : Tb x f) (hv : Tb v fv) (hy : Tb y g) :
    Tb (k0_pay1 u x v y) (fun r d => lg (fu r d) * f r d + lg (fv r d) * g r d) :=
  ((hu.logistic.mulf hx).addf (hv.logistic.mulf hy)).truncf bitsLt_bf16_f32

/-- Output 0 after the call. -/
theorem arr4 (hP : T32 2048 4352 (V m c main_arg0) P) (hA : T32 2048 1024 (V m c main_arg1) A) (hB : T32 2048 1024 (V m c main_arg2) B) :
    T16 2048 1024 ((dats m 0 c).arrAt 4 cfg0.N) (res P A B) := fun r d =>
  (dats m 0 c).arrAt_forall_of_covers 4 (fun y v => (v : EReal) = res P A B (y 0).val (y 1).val) (by decide +kernel) (fun t hf y => by
    have e := pay (blk0 hP t) (blk2 hA t) (blk1 hP t) (blk3 hB t)
    rw [after0_4]
    unfold outsAt0
    blk_simp [bx4 t]
    frame_out
    have ey : (y : S512x1024.Idx) = ix2 (n0 := 512) (n1 := 1024) (y 0) (y 1) := ValueIdx.eq_ix2 y
    refine (congrArg (fun z : S512x1024.Idx => (k0_pay1 (X0_0 m c t) (iblk m c 2 t) (X0_1 m c t) (iblk m c 3 t) z : EReal)) ey).trans ((e (y 0) (y 1)).trans ?_)
    unfold res
    have e0 : t.val * 512 + (y 0).val = 512 * t.val + (y 0).val := by omega
    simp only [e0]) (ix2 r d)

/-- The reference's first gate, read as a table. -/
theorem gate0 (x0 : FVec Ideal S2048x4352 .f32) :
    T32 2048 1024 (val_main_v7 (F := Ideal) x0) (fun r d => lg (tab x0 r d)) := fun r d => by
  rw [val_main_v7_apply, val_main_v6_apply, val_main_cst_0_apply, val_main_v5_apply, val_main_v4_apply, val_main_cst_apply, val_main_v3_apply, val_main_v2_apply, val_main_v0_apply]
  refine (lg_eq _).trans (congrArg lg (Eq.trans (congrArg _ ?_) (tb_tab x0 r (⟨d.val, by have := d.isLt; omega⟩ : Fin 4352))))
  refine funext fun a => Fin.ext ?_
  match a with
  | ⟨0, _⟩ => rfl
  | ⟨1, _⟩ => rfl

/-- The reference's second gate, read as a table. -/
theorem gate1 (x0 : FVec Ideal S2048x4352 .f32) :
    T32 2048 1024 (val_main_v14 (F := Ideal) x0) (fun r d => lg (tab x0 r (1024 + d))) := fun r d => by
  rw [val_main_v14_apply, val_main_v13_apply, val_main_cst_2_apply, val_main_v12_apply, val_main_v11_apply, val_main_cst_1_apply, val_main_v10_apply, val_main_v9_apply, val_main_v1_apply]
  refine (lg_eq _).trans (congrArg lg (Eq.trans (congrArg _ ?_) (tb_tab x0 r (⟨1024 + d.val, by have := d.isLt; omega⟩ : Fin 4352))))
  refine funext fun a => Fin.ext ?_
  match a with
  | ⟨0, _⟩ => rfl
  | ⟨1, _⟩ => rfl

/-- The reference's result, read as a table. -/
theorem ref (x0 : FVec Ideal S2048x4352 .f32) (x1 x2 : FVec Ideal S2048x1024 .f32) :
    T16 2048 1024 (val_main_v17 (F := Ideal) x0 x1 x2) (res (tab x0) (tab x1) (tab x2)) :=
  (((gate0 x0).mulf (tb_tab x1)).addf ((gate1 x0).mulf (tb_tab x2))).truncf bitsLt_bf16_f32

/-- The kernel's output is the reference's result. -/
theorem value : @Cert.algebraic_Kernel21Ideal_Reference21Ideal Cert.Kernel21Ideal.Gen.facts Cert.Reference21Ideal.Gen.facts := by
  intro m g m' g' _ hag
  refine ⟨_, Cert.Kernel21Ideal.Value.run_blocks m g, (θ_run _ _ _).mono (fun r h c => ?_) (Cert.Reference21Ideal.Value.run (F := Ideal) m' g')⟩
  obtain ⟨e0, k⟩ := h c
  obtain ⟨a0, a1, a2⟩ := hag c
  have hP : T32 2048 4352 (V m c main_arg0) (tab (n := 2048) (m := 4352) (φ := .f32) (m ((c.tc : Thread nD τ).loc main_arg0))) := by
    rw [V_main_arg0]
    exact tb32 2048 4352 _
  have hA : T32 2048 1024 (V m c main_arg1) (tab (n := 2048) (m := 1024) (φ := .f32) (m ((c.tc : Thread nD τ).loc main_arg1))) := by
    rw [V_main_arg1]
    exact tb32 2048 1024 _
  have hB : T32 2048 1024 (V m c main_arg2) (tab (n := 2048) (m := 1024) (φ := .f32) (m ((c.tc : Thread nD τ).loc main_arg2))) := by
    rw [V_main_arg2]
    exact tb32 2048 1024 _
  refine ⟨e0.trans ?_, k⟩
  clear e0 k
  rw [val_main_v17_eq, a0, a1, a2]
  exact (ref _ _ _).eq (arr4 hP hA hB)

end Cert.Mat.K21

end
-- ==== Proof.Row.lean ====
/- Rows spread over a matrix, and the sums of its columns, as tables. -/
module

public import proofs.«01_k».proof.Proof.Mat

@[expose] public section

noncomputable section

namespace Cert.Mat

open Idealize.ShloMosaic hiding ix1 ix2 ix3
open Idealize.ShloMosaic.ValueIdx (ix1 ix2 ix3)
open scoped BigOperators

variable {n m : ℕ} {φ : FTy} {f : ℕ → ℕ → EReal}

/-- A row spread over the rows of a taller matrix. -/
theorem Tb.brow {x : FVec Ideal ⟨2, ![1, m]⟩ φ} (hx : Tb x f) (h : (⟨2, ![1, m]⟩ : Shape).Broadcasts ⟨2, ![n, m]⟩) (hm : m ≠ 1) :
    Tb (φ := φ) (broadcastTo ⟨2, ![n, m]⟩ x h) (fun _ c => f 0 c) := fun r c => by
  refine Eq.trans ?_ (hx 0 c)
  refine broadcastTo_apply x h (ix2 r c) (ix2 0 c) fun a => ?_
  match a with
  | ⟨0, _⟩ => rfl
  | ⟨1, _⟩ => exact (if_neg hm).symm

/-- The column sums of a matrix, as a row. -/
theorem Tb.colSum {x : FVec Ideal ⟨2, ![n, m]⟩ .f32} (hx : Tb x f) (h : (⟨2, ![n, m]⟩ : Shape).Reduces [0] ⟨1, ![m]⟩)
    (hφ : FKind.Formats .f32) (hacc : 0x00000000#32 = FKind.add.neutral .f32 hφ) (h' : (⟨1, ![m]⟩ : Shape).ShapeCasts ⟨2, ![1, m]⟩) :
    Tb (shapeCast ⟨2, ![1, m]⟩ (multiReduction .add [0] ⟨1, ![m]⟩ x 0x00000000#32 h hφ hacc) h')
      (fun _ c => ∑ u ∈ Finset.range n, f u c) := fun r c => by
  have hr : r = 0 := Subsingleton.elim _ _
  subst hr
  rw [shapeCast_apply _ h' (ix2 0 c) (ix1 c) (by
    rw [Shape.rowMajor_val_one, Shape.rowMajor_val_two]
    show c.val = 0 * m + c.val
    omega)]
  rw [Ideal.multiReduction_add_single]
  refine Eq.trans ?_ (Finset.sum_range _).symm
  refine Finset.sum_congr rfl fun u _ => ?_
  have e : h.lift (ix1 c) u = ix2 u c := by
    funext a
    apply Fin.ext
    match a with
    | ⟨0, _⟩ => rfl
    | ⟨1, _⟩ => rfl
  rw [e]
  exact hx u c

end Cert.Mat

end
-- ==== Proof.Res22.lean ====
/- The gradients of the gated branch: what the call leaves in its outputs. -/
module

public import proofs.«01_k».proof.Proof.Row
public import Idealize.ShloMosaic.Lib.Pipeline.ReadBack
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Reference22Ideal.Read
public import proofs.«01_k».proof.Defs

@[expose] public section

set_option maxRecDepth 16384

noncomputable section

namespace Cert.Mat.K22

open Idealize.ShloMosaic hiding ix2 ix3
open Idealize.ShloMosaic.TcCoe Idealize.ShloMosaic.Tactic
open Idealize.ShloMosaic.ValueIdx (ix2 ix3)
open Cert.Kernel22Ideal Cert.Kernel22Ideal.Gen Cert.Reference22Ideal.Read Idealize.SL Idealize.SL.Sem
open scoped BigOperators

theorem bx0 : ∀ t : Fin cfg0.N, win0_0.index t = ![t.val, 0] := (by decide +kernel : ∀ t : Fin grid0.N, _)
theorem bx1 : ∀ t : Fin cfg0.N, win0_1.index t = ![t.val, 0] := (by decide +kernel : ∀ t : Fin grid0.N, _)
theorem bx2 : ∀ t : Fin cfg0.N, win0_2.index t = ![0, 0] := (by decide +kernel : ∀ t : Fin grid0.N, _)
theorem bx3 : ∀ t : Fin cfg0.N, win0_3.index t = ![t.val, 0] := (by decide +kernel : ∀ t : Fin grid0.N, _)
theorem bx4 : ∀ t : Fin cfg0.N, win0_4.index t = ![0, 0] := (by decide +kernel : ∀ t : Fin grid0.N, _)
theorem ltN (t : Fin cfg0.N) : t.val < 4 := lt_of_lt_of_eq t.isLt N_0

variable {m : (ℓ : Loc nD τ sig) → Buf (Elt Ideal) ℓ} {c : Dev nD} {A B G : ℕ → ℕ → EReal}

/-- The block of the incoming gradient at a grid point. -/
theorem blk0 (hA : T32 2048 1024 (V m c main_arg0) A) (t : Fin cfg0.N) :
    T32 512 1024 (iblk m c 0 t) (fun r d => A (512 * t.val + r) d) := fun r d => by
  have e : iblk m c 0 t (ix2 r d) = V m c main_arg0 (ix2 (⟨512 * t.val + r.val, by have := r.isLt; have := ltN t; omega⟩ : Fin 2048) d) := by
    unfold iblk
    generalize V m c = W
    blk_ext [bx0 t]
    all_goals (show t.val * 512 + r.val = _; omega)
  exact e.trans (hA _ _)

/-- The block of the branch at a grid point. -/
theorem blk1 (hB : T32 2048 1024 (V m c main_arg1) B) (t : Fin cfg0.N) :
    T32 512 1024 (iblk m c 1 t) (fun r d => B (512 * t.val + r) d) := fun r d => by
  have e : iblk m c 1 t (ix2 r d) = V m c main_arg1 (ix2 (⟨512 * t.val + r.val, by have := r.isLt; have := ltN t; omega⟩ : Fin 2048) d) := by
    unfold iblk
    generalize V m c = W
    blk_ext [bx1 t]
    all_goals (show t.val * 512 + r.val = _; omega)
  exact e.trans (hB _ _)

/-- The block of the gate at a grid point: the whole row. -/
theorem blk2 (hG : T32 1 1024 (V m c main_arg2) G) (t : Fin cfg0.N) :
    T32 1 1024 (iblk m c 2 t) G := fun r d => by
  have e : iblk m c 2 t (ix2 r d) = V m c main_arg2 (ix2 r d) := by
    unfold iblk
    generalize V m c = W
    blk_ext [bx2 t]
  exact e.trans (hG _ _)

/-- The table of the branch's gradient: the incoming gradient, gated. -/
def res (A G : ℕ → ℕ → EReal) (r d : ℕ) : EReal := G 0 d * A r d

/-- The table of the gate's gradient up to a tile. -/
def acc (A B : ℕ → ℕ → EReal) (t d : ℕ) : EReal := ∑ k ∈ Finset.range (512 * (t + 1)), A k d * B k d

/-- The table of the gate's gradient: the column sums of the products. -/
def sums (A B : ℕ → ℕ → EReal) (d : ℕ) : EReal := ∑ k ∈ Finset.range 2048, A k d * B k d

/-- The gated gradient stored at a grid point. -/
theorem pay2 {x : FVec Ideal S512x1024 .f32} {z : FVec Ideal S1x1024 .f32} {f h : ℕ → ℕ → EReal} (hx : Tb x f) (hz : Tb z h) :
    Tb (k0_pay2 x z) (res f h) :=
  ((hz.brow broadcasts_S1x1024_S512x1024 (by decide)).mulf hx).truncf bitsLt_bf16_f32

/-- The column sums of a tile's products added to a row. -/
theorem pay3 {x y : FVec Ideal S512x1024 .f32} {z : FVec Ideal S1x1024 .f32} {f g h : ℕ → ℕ → EReal} (hx : Tb x f) (hy : Tb y g) (hz : Tb z h) :
    Tb (k0_pay3 x z y) (fun r d => h r d + ∑ k ∈ Finset.range 512, f k d * g k d) :=
  (hz.self _).addf ((hx.mulf hy).colSum reduces_S512x1024_S1024 (.inl rfl) rfl shapeCasts_S1024_S1x1024)

/-- The row of zeros the first point stores. -/
theorem pay1 : Tb (k0_pay1 (F := Ideal)) (fun _ _ => 0) := fun _ _ => c0_eq

/-- The gated gradient after any point. -/
theorem outs3 (hA : T32 2048 1024 (V m c main_arg0) A) (hG : T32 1 1024 (V m c main_arg2) G)
    (t : Fin cfg0.N) : T16 512 1024 (outsAt0 m c t.val t.isLt).1 (res (fun r d => A (512 * t.val + r) d) G) := by
  have e := pay2 (blk0 hA t) (blk2 hG t)
  by_cases h : t.val % 4 = 0
  · rw [outsAt0_A m c t h]
    frame_out
    exact e
  · rw [outsAt0_B m c t h]
    frame_out
    exact e

/-- The row of sums after the first point. -/
theorem sumA (hA : T32 2048 1024 (V m c main_arg0) A) (hB : T32 2048 1024 (V m c main_arg1) B)
    (t : Fin cfg0.N) (h : t.val % 4 = 0) : T32 1 1024 (outsAt0 m c t.val t.isLt).2 (fun _ d => acc A B t.val d) := by
  have e := pay3 (blk0 hA t) (blk1 hB t) pay1
  rw [outsAt0_A m c t h]
  frame_out
  refine e.congr fun r d _ _ => ?_
  have h0 : t.val = 0 := by have := ltN t; omega
  unfold acc
  rw [h0]
  refine (zero_add _).trans (Finset.sum_congr rfl fun k _ => by rw [Nat.mul_zero, Nat.zero_add])

/-- The row of sums after a later point. -/
theorem sumB (hA : T32 2048 1024 (V m c main_arg0) A) (hB : T32 2048 1024 (V m c main_arg1) B)
    (t : Fin cfg0.N) (h : ¬ t.val % 4 = 0)
    (ih : T32 1 1024 (outsAt0 m c (t.val - 1) (Nat.lt_of_le_of_lt (Nat.sub_le _ _) t.isLt)).2 (fun _ d => acc A B (t.val - 1) d)) :
    T32 1 1024 (outsAt0 m c t.val t.isLt).2 (fun _ d => acc A B t.val d) := by
  have e := pay3 (blk0 hA t) (blk1 hB t) ih
  rw [outsAt0_B m c t h]
  frame_out
  refine e.congr fun r d _ _ => ?_
  have h1 : t.val - 1 + 1 = t.val := by omega
  unfold acc
  rw [h1]
  exact sum_tile (fun k => A k d * B k d) t.val 512

/-- The row of sums after any point. -/
theorem sum (hA : T32 2048 1024 (V m c main_arg0) A) (hB : T32 2048 1024 (V m c main_arg1) B) :
    ∀ (n : ℕ) (hn : n < cfg0.N), T32 1 1024 (outsAt0 m c n hn).2 (fun _ d => acc A B n d) := by
  intro n
  induction n with
  | zero => exact fun hn => sumA hA hB ⟨0, hn⟩ (Nat.zero_mod _)
  | succ n ih =>
    intro hn
    by_cases h : (n + 1) % 4 = 0
    · exact sumA hA hB ⟨n + 1, hn⟩ h
    · exact sumB hA hB ⟨n + 1, hn⟩ h (ih _)

/-- The branch's gradient after the call. -/
theorem arr3 (hA : T32 2048 1024 (V m c main_arg0) A) (hG : T32 1 1024 (V m c main_arg2) G) :
    T16 2048 1024 ((dats m 0 c).arrAt 3 cfg0.N) (res A G) := fun r d =>
  (dats m 0 c).arrAt_forall_of_covers 3 (fun y v => (v : EReal) = res A G (y 0).val (y 1).val) (by decide +kernel) (fun t hf y => by
    have e := outs3 hA hG t
    rw [after0_3]
    blk_simp [bx3 t]
    have ey : (y : S512x1024.Idx) = ix2 (n0 := 512) (n1 := 1024) (y 0) (y 1) := ValueIdx.eq_ix2 y
    refine (congrArg (fun z : S512x1024.Idx => ((outsAt0 m c t.val t.isLt).1 z : EReal)) ey).trans ((e (y 0) (y 1)).trans ?_)
    unfold res
    have e0 : t.val * 512 + (y 0).val = 512 * t.val + (y 0).val := by omega
    simp only [e0]) (ix2 r d)

/-- The gate's gradient after the call. -/
theorem arr4 (hA : T32 2048 1024 (V m c main_arg0) A) (hB : T32 2048 1024 (V m c main_arg1) B) :
    T32 1 1024 ((dats m 0 c).arrAt 4 cfg0.N) (fun _ d => sums A B d) := fun r d =>
  (dats m 0 c).arrAt_forall_of_covers 4 (fun y v => (v : EReal) = sums A B (y 1).val) (by decide +kernel) (fun t hf y => by
    have ht := (flush0_4 t).mp hf
    have e := sum hA hB t.val t.isLt
    rw [after0_4]
    blk_simp [bx4 t]
    have ey : (y : S1x1024.Idx) = ix2 (n0 := 1) (n1 := 1024) (y 0) (y 1) := ValueIdx.eq_ix2 y
    refine (congrArg (fun z : S1x1024.Idx => ((outsAt0 m c t.val t.isLt).2 z : EReal)) ey).trans ((e (y 0) (y 1)).trans ?_)
    have h3 : t.val = 3 := by have := ltN t; omega
    unfold acc sums
    rw [h3]) (ix2 r d)

/-- The reference's gradient of the branch, read as a table. -/
theorem ref3 (x0 : FVec Ideal S2048x1024 .f32) (x2 : FVec Ideal S1x1024 .f32) :
    T16 2048 1024 (val_main_v7 (F := Ideal) x0 x2) (res (tab x0) (tab x2)) := fun r d => by
  rw [val_main_v7_apply, val_main_v3_apply, val_main_v2_apply]
  unfold res
  refine congrArg₂ (· * ·) (Eq.trans (congrArg _ ?_) (tb_tab x2 0 d)) (tb_tab x0 r d)
  refine funext fun a => Fin.ext ?_
  match a with
  | ⟨0, _⟩ => rfl
  | ⟨1, _⟩ => rfl

/-- The reference's gradient of the gate, read as a table. -/
theorem ref4 (x0 x1 : FVec Ideal S2048x1024 .f32) :
    T32 1 1024 (val_main_v6 (F := Ideal) x0 x1) (fun _ d => sums (tab x0) (tab x1) d) := fun r d => by
  have hr : r = 0 := Subsingleton.elim _ _
  subst hr
  rw [val_main_v6_apply, val_main_v5_apply, val_main_cst_apply]
  refine (congrArg (· + _) c0_eq).trans ((zero_add _).trans ?_)
  unfold sums
  refine Eq.trans ?_ (Finset.sum_range _).symm
  refine Finset.sum_congr rfl fun k _ => ?_
  rw [val_main_v4_apply]
  have e : idx_main_v5 (idx_main_v6 (ix2 0 d)) k = ix2 k d := funext fun a => Fin.ext (by
    match a with
    | ⟨0, _⟩ => rfl
    | ⟨1, _⟩ => exact (show 0 * 1024 + d.val = d.val by omega))
  rw [e]
  exact congrArg₂ (· * ·) (tb_tab x0 k d) (tb_tab x1 k d)

/-- The kernel's outputs are the reference's results. -/
theorem value : @Cert.algebraic_Kernel22Ideal_Reference22Ideal Cert.Kernel22Ideal.Gen.facts Cert.Reference22Ideal.Gen.facts := by
  intro m g m' g' _ hag
  refine ⟨_, _, Cert.Kernel22Ideal.Value.run_blocks m g, (θ_run _ _ _).mono (fun r h c => ?_) (Cert.Reference22Ideal.Value.run (F := Ideal) m' g')⟩
  obtain ⟨e0, e1, k⟩ := h c
  obtain ⟨a0, a1, a2⟩ := hag c
  have hA : T32 2048 1024 (V m c main_arg0) (tab (n := 2048) (m := 1024) (φ := .f32) (m ((c.tc : Thread nD τ).loc main_arg0))) := by
    rw [V_main_arg0]
    exact tb32 2048 1024 _
  have hB : T32 2048 1024 (V m c main_arg1) (tab (n := 2048) (m := 1024) (φ := .f32) (m ((c.tc : Thread nD τ).loc main_arg1))) := by
    rw [V_main_arg1]
    exact tb32 2048 1024 _
  have hG : T32 1 1024 (V m c main_arg2) (tab (n := 1) (m := 1024) (φ := .f32) (m ((c.tc : Thread nD τ).loc main_arg2))) := by
    rw [V_main_arg2]
    exact tb32 1 1024 _
  refine ⟨e0.trans ?_, e1.trans ?_, k⟩
  · clear e0 e1 k
    rw [val_main_v7_eq, a0, a2]
    exact (ref3 _ _).eq (arr3 hA hG)
  · clear e0 e1 k
    rw [val_main_v6_eq, a0, a1]
    exact (ref4 _ _).eq (arr4 hA hB)

end Cert.Mat.K22

end
-- ==== Proof.Res23.lean ====
/- The residual sum around the block: what the call leaves in its output. -/
module

public import proofs.«01_k».proof.Proof.Row
public import Idealize.ShloMosaic.Lib.Pipeline.ReadBack
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Gen.Reference23Ideal.Read
public import proofs.«01_k».proof.Defs

@[expose] public section

set_option maxRecDepth 16384

noncomputable section

namespace Cert.Mat.K23

open Idealize.ShloMosaic hiding ix2 ix3
open Idealize.ShloMosaic.TcCoe Idealize.ShloMosaic.Tactic
open Idealize.ShloMosaic.ValueIdx (ix2 ix3)
open Cert.Kernel23Ideal Cert.Kernel23Ideal.Gen Cert.Reference23Ideal.Read Idealize.SL Idealize.SL.Sem
open scoped BigOperators

theorem bx0 : ∀ t : Fin cfg0.N, win0_0.index t = ![t.val, 0] := (by decide +kernel : ∀ t : Fin grid0.N, _)
theorem bx1 : ∀ t : Fin cfg0.N, win0_1.index t = ![t.val, 0] := (by decide +kernel : ∀ t : Fin grid0.N, _)
theorem bx2 : ∀ t : Fin cfg0.N, win0_2.index t = ![0, 0] := (by decide +kernel : ∀ t : Fin grid0.N, _)
theorem bx3 : ∀ t : Fin cfg0.N, win0_3.index t = ![t.val, 0] := (by decide +kernel : ∀ t : Fin grid0.N, _)
theorem ltN (t : Fin cfg0.N) : t.val < 4 := lt_of_lt_of_eq t.isLt N_0

variable {m : (ℓ : Loc nD τ sig) → Buf (Elt Ideal) ℓ} {c : Dev nD} {A B G : ℕ → ℕ → EReal}

/-- The block of the residual at a grid point. -/
theorem blk0 (hA : T32 2048 1024 (V m c main_arg0) A) (t : Fin cfg0.N) :
    T32 512 1024 (iblk m c 0 t) (fun r d => A (512 * t.val + r) d) := fun r d => by
  have e : iblk m c 0 t (ix2 r d) = V m c main_arg0 (ix2 (⟨512 * t.val + r.val, by have := r.isLt; have := ltN t; omega⟩ : Fin 2048) d) := by
    unfold iblk
    generalize V m c = W
    blk_ext [bx0 t]
    all_goals (show t.val * 512 + r.val = _; omega)
  exact e.trans (hA _ _)

/-- The block of the branch at a grid point. -/
theorem blk1 (hB : T32 2048 1024 (V m c main_arg1) B) (t : Fin cfg0.N) :
    T32 512 1024 (iblk m c 1 t) (fun r d => B (512 * t.val + r) d) := fun r d => by
  have e : iblk m c 1 t (ix2 r d) = V m c main_arg1 (ix2 (⟨512 * t.val + r.val, by have := r.isLt; have := ltN t; omega⟩ : Fin 2048) d) := by
    unfold iblk
    generalize V m c = W
    blk_ext [bx1 t]
    all_goals (show t.val * 512 + r.val = _; omega)
  exact e.trans (hB _ _)

/-- The block of the gate at a grid point: the whole row. -/
theorem blk2 (hG : T32 1 1024 (V m c main_arg2) G) (t : Fin cfg0.N) :
    T32 1 1024 (iblk m c 2 t) G := fun r d => by
  have e : iblk m c 2 t (ix2 r d) = V m c main_arg2 (ix2 r d) := by
    unfold iblk
    generalize V m c = W
    blk_ext [bx2 t]
  exact e.trans (hG _ _)

/-- The table of the result: the residual and the gated branch added. -/
def res (A B G : ℕ → ℕ → EReal) (r d : ℕ) : EReal := A r d + G 0 d * B r d

/-- The value stored at a grid point. -/
theorem pay {x y : FVec Ideal S512x1024 .f32} {z : FVec Ideal S1x1024 .f32} {f g h : ℕ → ℕ → EReal} (hx : Tb x f) (hy : Tb y g) (hz : Tb z h) :
    Tb (k0_pay1 x z y) (res f g h) :=
  hx.addf ((hz.brow broadcasts_S1x1024_S512x1024 (by decide)).mulf hy)

/-- The output after the call. -/
theorem arr3 (hA : T32 2048 1024 (V m c main_arg0) A) (hB : T32 2048 1024 (V m c main_arg1) B)
    (hG : T32 1 1024 (V m c main_arg2) G) :
    T32 2048 1024 ((dats m 0 c).arrAt 3 cfg0.N) (res A B G) := fun r d =>
  (dats m 0 c).arrAt_forall_of_covers 3 (fun y v => (v : EReal) = res A B G (y 0).val (y 1).val) (by decide +kernel) (fun t hf y => by
    have e := pay (blk0 hA t) (blk1 hB t) (blk2 hG t)
    rw [after0_3]
    blk_simp [bx3 t]
    frame_out
    have ey : (y : S512x1024.Idx) = ix2 (n0 := 512) (n1 := 1024) (y 0) (y 1) := ValueIdx.eq_ix2 y
    refine (congrArg (fun z : S512x1024.Idx => (k0_pay1 (iblk m c 0 t) (iblk m c 2 t) (iblk m c 1 t) z : EReal)) ey).trans ((e (y 0) (y 1)).trans ?_)
    unfold res
    have e0 : t.val * 512 + (y 0).val = 512 * t.val + (y 0).val := by omega
    simp only [e0]) (ix2 r d)

/-- The reference's result, read as a table. -/
theorem ref (x0 x1 : FVec Ideal S2048x1024 .f32) (x2 : FVec Ideal S1x1024 .f32) :
    T32 2048 1024 (val_main_v2 (F := Ideal) x0 x1 x2) (res (tab x0) (tab x1) (tab x2)) := fun r d => by
  rw [val_main_v2_apply, val_main_v1_apply, val_main_v0_apply]
  unfold res
  refine congrArg₂ (· + ·) (tb_tab x0 r d) (congrArg₂ (· * ·) (Eq.trans (congrArg _ ?_) (tb_tab x2 0 d)) (tb_tab x1 r d))
  refine funext fun a => Fin.ext ?_
  match a with
  | ⟨0, _⟩ => rfl
  | ⟨1, _⟩ => rfl

/-- The kernel's output is the reference's result. -/
theorem value : @Cert.algebraic_Kernel23Ideal_Reference23Ideal Cert.Kernel23Ideal.Gen.facts Cert.Reference23Ideal.Gen.facts := by
  intro m g m' g' _ hag
  refine ⟨_, Cert.Kernel23Ideal.Value.run_blocks m g, (θ_run _ _ _).mono (fun r h c => ?_) (Cert.Reference23Ideal.Value.run (F := Ideal) m' g')⟩
  obtain ⟨e0, k⟩ := h c
  obtain ⟨a0, a1, a2⟩ := hag c
  have hA : T32 2048 1024 (V m c main_arg0) (tab (n := 2048) (m := 1024) (φ := .f32) (m ((c.tc : Thread nD τ).loc main_arg0))) := by
    rw [V_main_arg0]
    exact tb32 2048 1024 _
  have hB : T32 2048 1024 (V m c main_arg1) (tab (n := 2048) (m := 1024) (φ := .f32) (m ((c.tc : Thread nD τ).loc main_arg1))) := by
    rw [V_main_arg1]
    exact tb32 2048 1024 _
  have hG : T32 1 1024 (V m c main_arg2) (tab (n := 1) (m := 1024) (φ := .f32) (m ((c.tc : Thread nD τ).loc main_arg2))) := by
    rw [V_main_arg2]
    exact tb32 1 1024 _
  refine ⟨e0.trans ?_, k⟩
  clear e0 k
  rw [val_main_v2_eq, a0, a1, a2]
  exact (ref _ _ _).eq (arr3 hA hB hG)

end Cert.Mat.K23

end
-- ==== Proof.Opt.lean ====
/- The update of every weight: what the calls leave in their outputs. -/
module

public import proofs.«01_k».proof.Proof.Gen.Kernel24Ideal.Value
public import proofs.«01_k».proof.Proof.Gen.Reference24Ideal.Read
public import proofs.«01_k».proof.Proof.Gen.Kernel25Ideal.Value
public import proofs.«01_k».proof.Proof.Gen.Reference25Ideal.Read
public import proofs.«01_k».proof.Proof.Gen.Kernel26Ideal.Value
public import proofs.«01_k».proof.Proof.Gen.Reference26Ideal.Read
public import proofs.«01_k».proof.Proof.Gen.Kernel27Ideal.Value
public import proofs.«01_k».proof.Proof.Gen.Reference27Ideal.Read
public import proofs.«01_k».proof.Proof.Gen.Kernel28Ideal.Value
public import proofs.«01_k».proof.Proof.Gen.Reference28Ideal.Read
public import proofs.«01_k».proof.Proof.Gen.Kernel29Ideal.Value
public import proofs.«01_k».proof.Proof.Gen.Reference29Ideal.Read
public import proofs.«01_k».proof.Proof.Gen.Kernel30Ideal.Value
public import proofs.«01_k».proof.Proof.Gen.Reference30Ideal.Read
public import proofs.«01_k».proof.Proof.Gen.Kernel31Ideal.Value
public import proofs.«01_k».proof.Proof.Gen.Reference31Ideal.Read
public import proofs.«01_k».proof.Proof.Gen.Kernel32Ideal.Value
public import proofs.«01_k».proof.Proof.Gen.Reference32Ideal.Read
public import proofs.«01_k».proof.Proof.Gen.Kernel33Ideal.Value
public import proofs.«01_k».proof.Proof.Gen.Reference33Ideal.Read
public import proofs.«01_k».proof.Proof.Gen.Kernel34Ideal.Value
public import proofs.«01_k».proof.Proof.Gen.Reference34Ideal.Read
public import proofs.«01_k».proof.Proof.Gen.Kernel35Ideal.Value
public import proofs.«01_k».proof.Proof.Gen.Reference35Ideal.Read
public import proofs.«01_k».proof.Defs

@[expose] public section

set_option maxRecDepth 16384

noncomputable section

open Idealize.ShloMosaic Idealize.ShloMosaic.TcCoe Idealize.SL Idealize.SL.Sem

namespace Cert.Opt.K24

open Cert.Kernel24Ideal Cert.Kernel24Ideal.Gen Cert.Kernel24Ideal.Value Cert.Reference24Ideal.Read

/-- The step: the kernel's function of an entry is the reference's. -/
theorem step (w g μ ν : FVec Ideal S4096x1024 .f32) :
    G4 (F := Ideal) g μ ν w = val_main_v23 (F := Ideal) w g μ ν :=
  funext fun _ => rfl

/-- The first moment. -/
theorem mean (g μ : FVec Ideal S4096x1024 .f32) :
    G5 (F := Ideal) g μ = val_main_v4 (F := Ideal) g μ :=
  funext fun _ => rfl

/-- The second moment. -/
theorem square (g ν : FVec Ideal S4096x1024 .f32) :
    G6 (F := Ideal) g ν = val_main_v10 (F := Ideal) g ν :=
  funext fun _ => rfl

/-- The kernel's outputs are the reference's results. -/
theorem value : @Cert.algebraic_Kernel24Ideal_Reference24Ideal Cert.Kernel24Ideal.Gen.facts Cert.Reference24Ideal.Gen.facts := by
  intro m g m' g' _ hag
  refine ⟨_, _, _, Cert.Kernel24Ideal.Value.run m g, (θ_run _ _ _).mono (fun r h c => ?_) (Cert.Reference24Ideal.Value.run (F := Ideal) m' g')⟩
  obtain ⟨e0, e1, e2, k⟩ := h c
  obtain ⟨a0, a1, a2, a3⟩ := hag c
  refine ⟨e0.trans ?_, e1.trans ?_, e2.trans ?_, k⟩
  · rw [val_main_v23_eq, a0, a1, a2, a3]
    exact (step _ _ _ _).symm
  · rw [val_main_v4_eq, a1, a2]
    exact (mean _ _).symm
  · rw [val_main_v10_eq, a1, a3]
    exact (square _ _).symm

end Cert.Opt.K24

namespace Cert.Opt.K25

open Cert.Kernel25Ideal Cert.Kernel25Ideal.Gen Cert.Kernel25Ideal.Value Cert.Reference25Ideal.Read

/-- The step: the kernel's function of an entry is the reference's. -/
theorem step (w g μ ν : FVec Ideal S4096x1536 .f32) :
    G4 (F := Ideal) g μ ν w = val_main_v23 (F := Ideal) w g μ ν :=
  funext fun _ => rfl

/-- The first moment. -/
theorem mean (g μ : FVec Ideal S4096x1536 .f32) :
    G5 (F := Ideal) g μ = val_main_v4 (F := Ideal) g μ :=
  funext fun _ => rfl

/-- The second moment. -/
theorem square (g ν : FVec Ideal S4096x1536 .f32) :
    G6 (F := Ideal) g ν = val_main_v10 (F := Ideal) g ν :=
  funext fun _ => rfl

/-- The kernel's outputs are the reference's results. -/
theorem value : @Cert.algebraic_Kernel25Ideal_Reference25Ideal Cert.Kernel25Ideal.Gen.facts Cert.Reference25Ideal.Gen.facts := by
  intro m g m' g' _ hag
  refine ⟨_, _, _, Cert.Kernel25Ideal.Value.run m g, (θ_run _ _ _).mono (fun r h c => ?_) (Cert.Reference25Ideal.Value.run (F := Ideal) m' g')⟩
  obtain ⟨e0, e1, e2, k⟩ := h c
  obtain ⟨a0, a1, a2, a3⟩ := hag c
  refine ⟨e0.trans ?_, e1.trans ?_, e2.trans ?_, k⟩
  · rw [val_main_v23_eq, a0, a1, a2, a3]
    exact (step _ _ _ _).symm
  · rw [val_main_v4_eq, a1, a2]
    exact (mean _ _).symm
  · rw [val_main_v10_eq, a1, a3]
    exact (square _ _).symm

end Cert.Opt.K25

namespace Cert.Opt.K26

open Cert.Kernel26Ideal Cert.Kernel26Ideal.Gen Cert.Kernel26Ideal.Value Cert.Reference26Ideal.Read

/-- The step: the kernel's function of an entry is the reference's. -/
theorem step (w g μ ν : FVec Ideal S4x6144 .f32) :
    G4 (F := Ideal) g μ ν w = val_main_v23 (F := Ideal) w g μ ν :=
  funext fun _ => rfl

/-- The first moment. -/
theorem mean (g μ : FVec Ideal S4x6144 .f32) :
    G5 (F := Ideal) g μ = val_main_v4 (F := Ideal) g μ :=
  funext fun _ => rfl

/-- The second moment. -/
theorem square (g ν : FVec Ideal S4x6144 .f32) :
    G6 (F := Ideal) g ν = val_main_v10 (F := Ideal) g ν :=
  funext fun _ => rfl

/-- The kernel's outputs are the reference's results. -/
theorem value : @Cert.algebraic_Kernel26Ideal_Reference26Ideal Cert.Kernel26Ideal.Gen.facts Cert.Reference26Ideal.Gen.facts := by
  intro m g m' g' _ hag
  refine ⟨_, _, _, Cert.Kernel26Ideal.Value.run m g, (θ_run _ _ _).mono (fun r h c => ?_) (Cert.Reference26Ideal.Value.run (F := Ideal) m' g')⟩
  obtain ⟨e0, e1, e2, k⟩ := h c
  obtain ⟨a0, a1, a2, a3⟩ := hag c
  refine ⟨e0.trans ?_, e1.trans ?_, e2.trans ?_, k⟩
  · rw [val_main_v23_eq, a0, a1, a2, a3]
    exact (step _ _ _ _).symm
  · rw [val_main_v4_eq, a1, a2]
    exact (mean _ _).symm
  · rw [val_main_v10_eq, a1, a3]
    exact (square _ _).symm

end Cert.Opt.K26

namespace Cert.Opt.K27

open Cert.Kernel27Ideal Cert.Kernel27Ideal.Gen Cert.Kernel27Ideal.Value Cert.Reference27Ideal.Read

/-- The step: the kernel's function of an entry is the reference's. -/
theorem step (w g μ ν : FVec Ideal S4x1024 .f32) :
    G4 (F := Ideal) g μ ν w = val_main_v23 (F := Ideal) w g μ ν :=
  funext fun _ => rfl

/-- The first moment. -/
theorem mean (g μ : FVec Ideal S4x1024 .f32) :
    G5 (F := Ideal) g μ = val_main_v4 (F := Ideal) g μ :=
  funext fun _ => rfl

/-- The second moment. -/
theorem square (g ν : FVec Ideal S4x1024 .f32) :
    G6 (F := Ideal) g ν = val_main_v10 (F := Ideal) g ν :=
  funext fun _ => rfl

/-- The kernel's outputs are the reference's results. -/
theorem value : @Cert.algebraic_Kernel27Ideal_Reference27Ideal Cert.Kernel27Ideal.Gen.facts Cert.Reference27Ideal.Gen.facts := by
  intro m g m' g' _ hag
  refine ⟨_, _, _, Cert.Kernel27Ideal.Value.run m g, (θ_run _ _ _).mono (fun r h c => ?_) (Cert.Reference27Ideal.Value.run (F := Ideal) m' g')⟩
  obtain ⟨e0, e1, e2, k⟩ := h c
  obtain ⟨a0, a1, a2, a3⟩ := hag c
  refine ⟨e0.trans ?_, e1.trans ?_, e2.trans ?_, k⟩
  · rw [val_main_v23_eq, a0, a1, a2, a3]
    exact (step _ _ _ _).symm
  · rw [val_main_v4_eq, a1, a2]
    exact (mean _ _).symm
  · rw [val_main_v10_eq, a1, a3]
    exact (square _ _).symm

end Cert.Opt.K27

namespace Cert.Opt.K28

open Cert.Kernel28Ideal Cert.Kernel28Ideal.Gen Cert.Kernel28Ideal.Value Cert.Reference28Ideal.Read

/-- The step: the kernel's function of an entry is the reference's. -/
theorem step (w g μ ν : FVec Ideal S4096x1064 .f32) :
    G4 (F := Ideal) g μ ν w = val_main_v23 (F := Ideal) w g μ ν :=
  funext fun _ => rfl

/-- The first moment. -/
theorem mean (g μ : FVec Ideal S4096x1064 .f32) :
    G5 (F := Ideal) g μ = val_main_v4 (F := Ideal) g μ :=
  funext fun _ => rfl

/-- The second moment. -/
theorem square (g ν : FVec Ideal S4096x1064 .f32) :
    G6 (F := Ideal) g ν = val_main_v10 (F := Ideal) g ν :=
  funext fun _ => rfl

/-- The kernel's outputs are the reference's results. -/
theorem value : @Cert.algebraic_Kernel28Ideal_Reference28Ideal Cert.Kernel28Ideal.Gen.facts Cert.Reference28Ideal.Gen.facts := by
  intro m g m' g' _ hag
  refine ⟨_, _, _, Cert.Kernel28Ideal.Value.run m g, (θ_run _ _ _).mono (fun r h c => ?_) (Cert.Reference28Ideal.Value.run (F := Ideal) m' g')⟩
  obtain ⟨e0, e1, e2, k⟩ := h c
  obtain ⟨a0, a1, a2, a3⟩ := hag c
  refine ⟨e0.trans ?_, e1.trans ?_, e2.trans ?_, k⟩
  · rw [val_main_v23_eq, a0, a1, a2, a3]
    exact (step _ _ _ _).symm
  · rw [val_main_v4_eq, a1, a2]
    exact (mean _ _).symm
  · rw [val_main_v10_eq, a1, a3]
    exact (square _ _).symm

end Cert.Opt.K28

namespace Cert.Opt.K29

open Cert.Kernel29Ideal Cert.Kernel29Ideal.Gen Cert.Kernel29Ideal.Value Cert.Reference29Ideal.Read

/-- The step: the kernel's function of an entry is the reference's. -/
theorem step (w g μ ν : FVec Ideal S4x384 .f32) :
    G4 (F := Ideal) g μ ν w = val_main_v23 (F := Ideal) w g μ ν :=
  funext fun _ => rfl

/-- The first moment. -/
theorem mean (g μ : FVec Ideal S4x384 .f32) :
    G5 (F := Ideal) g μ = val_main_v4 (F := Ideal) g μ :=
  funext fun _ => rfl

/-- The second moment. -/
theorem square (g ν : FVec Ideal S4x384 .f32) :
    G6 (F := Ideal) g ν = val_main_v10 (F := Ideal) g ν :=
  funext fun _ => rfl

/-- The kernel's outputs are the reference's results. -/
theorem value : @Cert.algebraic_Kernel29Ideal_Reference29Ideal Cert.Kernel29Ideal.Gen.facts Cert.Reference29Ideal.Gen.facts := by
  intro m g m' g' _ hag
  refine ⟨_, _, _, Cert.Kernel29Ideal.Value.run m g, (θ_run _ _ _).mono (fun r h c => ?_) (Cert.Reference29Ideal.Value.run (F := Ideal) m' g')⟩
  obtain ⟨e0, e1, e2, k⟩ := h c
  obtain ⟨a0, a1, a2, a3⟩ := hag c
  refine ⟨e0.trans ?_, e1.trans ?_, e2.trans ?_, k⟩
  · rw [val_main_v23_eq, a0, a1, a2, a3]
    exact (step _ _ _ _).symm
  · rw [val_main_v4_eq, a1, a2]
    exact (mean _ _).symm
  · rw [val_main_v10_eq, a1, a3]
    exact (square _ _).symm

end Cert.Opt.K29

namespace Cert.Opt.K30

open Cert.Kernel30Ideal Cert.Kernel30Ideal.Gen Cert.Kernel30Ideal.Value Cert.Reference30Ideal.Read

/-- The step: the kernel's function of an entry is the reference's. -/
theorem step (w g μ ν : FVec Ideal S1536x192 .f32) :
    G4 (F := Ideal) g μ ν w = val_main_v23 (F := Ideal) w g μ ν :=
  funext fun _ => rfl

/-- The first moment. -/
theorem mean (g μ : FVec Ideal S1536x192 .f32) :
    G5 (F := Ideal) g μ = val_main_v4 (F := Ideal) g μ :=
  funext fun _ => rfl

/-- The second moment. -/
theorem square (g ν : FVec Ideal S1536x192 .f32) :
    G6 (F := Ideal) g ν = val_main_v10 (F := Ideal) g ν :=
  funext fun _ => rfl

/-- The kernel's outputs are the reference's results. -/
theorem value : @Cert.algebraic_Kernel30Ideal_Reference30Ideal Cert.Kernel30Ideal.Gen.facts Cert.Reference30Ideal.Gen.facts := by
  intro m g m' g' _ hag
  refine ⟨_, _, _, Cert.Kernel30Ideal.Value.run m g, (θ_run _ _ _).mono (fun r h c => ?_) (Cert.Reference30Ideal.Value.run (F := Ideal) m' g')⟩
  obtain ⟨e0, e1, e2, k⟩ := h c
  obtain ⟨a0, a1, a2, a3⟩ := hag c
  refine ⟨e0.trans ?_, e1.trans ?_, e2.trans ?_, k⟩
  · rw [val_main_v23_eq, a0, a1, a2, a3]
    exact (step _ _ _ _).symm
  · rw [val_main_v4_eq, a1, a2]
    exact (mean _ _).symm
  · rw [val_main_v10_eq, a1, a3]
    exact (square _ _).symm

end Cert.Opt.K30

namespace Cert.Opt.K31

open Cert.Kernel31Ideal Cert.Kernel31Ideal.Gen Cert.Kernel31Ideal.Value Cert.Reference31Ideal.Read

/-- The step: the kernel's function of an entry is the reference's. -/
theorem step (w g μ ν : FVec Ideal S4x256 .f32) :
    G4 (F := Ideal) g μ ν w = val_main_v23 (F := Ideal) w g μ ν :=
  funext fun _ => rfl

/-- The first moment. -/
theorem mean (g μ : FVec Ideal S4x256 .f32) :
    G5 (F := Ideal) g μ = val_main_v4 (F := Ideal) g μ :=
  funext fun _ => rfl

/-- The second moment. -/
theorem square (g ν : FVec Ideal S4x256 .f32) :
    G6 (F := Ideal) g ν = val_main_v10 (F := Ideal) g ν :=
  funext fun _ => rfl

/-- The kernel's outputs are the reference's results. -/
theorem value : @Cert.algebraic_Kernel31Ideal_Reference31Ideal Cert.Kernel31Ideal.Gen.facts Cert.Reference31Ideal.Gen.facts := by
  intro m g m' g' _ hag
  refine ⟨_, _, _, Cert.Kernel31Ideal.Value.run m g, (θ_run _ _ _).mono (fun r h c => ?_) (Cert.Reference31Ideal.Value.run (F := Ideal) m' g')⟩
  obtain ⟨e0, e1, e2, k⟩ := h c
  obtain ⟨a0, a1, a2, a3⟩ := hag c
  refine ⟨e0.trans ?_, e1.trans ?_, e2.trans ?_, k⟩
  · rw [val_main_v23_eq, a0, a1, a2, a3]
    exact (step _ _ _ _).symm
  · rw [val_main_v4_eq, a1, a2]
    exact (mean _ _).symm
  · rw [val_main_v10_eq, a1, a3]
    exact (square _ _).symm

end Cert.Opt.K31

namespace Cert.Opt.K32

open Cert.Kernel32Ideal Cert.Kernel32Ideal.Gen Cert.Kernel32Ideal.Value Cert.Reference32Ideal.Read

/-- The step: the kernel's function of an entry is the reference's. -/
theorem step (w g μ ν : FVec Ideal S1024x256 .f32) :
    G4 (F := Ideal) g μ ν w = val_main_v23 (F := Ideal) w g μ ν :=
  funext fun _ => rfl

/-- The first moment. -/
theorem mean (g μ : FVec Ideal S1024x256 .f32) :
    G5 (F := Ideal) g μ = val_main_v4 (F := Ideal) g μ :=
  funext fun _ => rfl

/-- The second moment. -/
theorem square (g ν : FVec Ideal S1024x256 .f32) :
    G6 (F := Ideal) g ν = val_main_v10 (F := Ideal) g ν :=
  funext fun _ => rfl

/-- The kernel's outputs are the reference's results. -/
theorem value : @Cert.algebraic_Kernel32Ideal_Reference32Ideal Cert.Kernel32Ideal.Gen.facts Cert.Reference32Ideal.Gen.facts := by
  intro m g m' g' _ hag
  refine ⟨_, _, _, Cert.Kernel32Ideal.Value.run m g, (θ_run _ _ _).mono (fun r h c => ?_) (Cert.Reference32Ideal.Value.run (F := Ideal) m' g')⟩
  obtain ⟨e0, e1, e2, k⟩ := h c
  obtain ⟨a0, a1, a2, a3⟩ := hag c
  refine ⟨e0.trans ?_, e1.trans ?_, e2.trans ?_, k⟩
  · rw [val_main_v23_eq, a0, a1, a2, a3]
    exact (step _ _ _ _).symm
  · rw [val_main_v4_eq, a1, a2]
    exact (mean _ _).symm
  · rw [val_main_v10_eq, a1, a3]
    exact (square _ _).symm

end Cert.Opt.K32

namespace Cert.Opt.K33

open Cert.Kernel33Ideal Cert.Kernel33Ideal.Gen Cert.Kernel33Ideal.Value Cert.Reference33Ideal.Read

/-- The step: the kernel's function of an entry is the reference's. -/
theorem step (w g μ ν : FVec Ideal S2048x256 .f32) :
    G4 (F := Ideal) g μ ν w = val_main_v23 (F := Ideal) w g μ ν :=
  funext fun _ => rfl

/-- The first moment. -/
theorem mean (g μ : FVec Ideal S2048x256 .f32) :
    G5 (F := Ideal) g μ = val_main_v4 (F := Ideal) g μ :=
  funext fun _ => rfl

/-- The second moment. -/
theorem square (g ν : FVec Ideal S2048x256 .f32) :
    G6 (F := Ideal) g ν = val_main_v10 (F := Ideal) g ν :=
  funext fun _ => rfl

/-- The kernel's outputs are the reference's results. -/
theorem value : @Cert.algebraic_Kernel33Ideal_Reference33Ideal Cert.Kernel33Ideal.Gen.facts Cert.Reference33Ideal.Gen.facts := by
  intro m g m' g' _ hag
  refine ⟨_, _, _, Cert.Kernel33Ideal.Value.run m g, (θ_run _ _ _).mono (fun r h c => ?_) (Cert.Reference33Ideal.Value.run (F := Ideal) m' g')⟩
  obtain ⟨e0, e1, e2, k⟩ := h c
  obtain ⟨a0, a1, a2, a3⟩ := hag c
  refine ⟨e0.trans ?_, e1.trans ?_, e2.trans ?_, k⟩
  · rw [val_main_v23_eq, a0, a1, a2, a3]
    exact (step _ _ _ _).symm
  · rw [val_main_v4_eq, a1, a2]
    exact (mean _ _).symm
  · rw [val_main_v10_eq, a1, a3]
    exact (square _ _).symm

end Cert.Opt.K33

namespace Cert.Opt.K34

open Cert.Kernel34Ideal Cert.Kernel34Ideal.Gen Cert.Kernel34Ideal.Value Cert.Reference34Ideal.Read

/-- The step: the kernel's function of an entry is the reference's. -/
theorem step (w g μ ν : FVec Ideal S1024x1024 .f32) :
    G4 (F := Ideal) g μ ν w = val_main_v23 (F := Ideal) w g μ ν :=
  funext fun _ => rfl

/-- The first moment. -/
theorem mean (g μ : FVec Ideal S1024x1024 .f32) :
    G5 (F := Ideal) g μ = val_main_v4 (F := Ideal) g μ :=
  funext fun _ => rfl

/-- The second moment. -/
theorem square (g ν : FVec Ideal S1024x1024 .f32) :
    G6 (F := Ideal) g ν = val_main_v10 (F := Ideal) g ν :=
  funext fun _ => rfl

/-- The kernel's outputs are the reference's results. -/
theorem value : @Cert.algebraic_Kernel34Ideal_Reference34Ideal Cert.Kernel34Ideal.Gen.facts Cert.Reference34Ideal.Gen.facts := by
  intro m g m' g' _ hag
  refine ⟨_, _, _, Cert.Kernel34Ideal.Value.run m g, (θ_run _ _ _).mono (fun r h c => ?_) (Cert.Reference34Ideal.Value.run (F := Ideal) m' g')⟩
  obtain ⟨e0, e1, e2, k⟩ := h c
  obtain ⟨a0, a1, a2, a3⟩ := hag c
  refine ⟨e0.trans ?_, e1.trans ?_, e2.trans ?_, k⟩
  · rw [val_main_v23_eq, a0, a1, a2, a3]
    exact (step _ _ _ _).symm
  · rw [val_main_v4_eq, a1, a2]
    exact (mean _ _).symm
  · rw [val_main_v10_eq, a1, a3]
    exact (square _ _).symm

end Cert.Opt.K34

namespace Cert.Opt.K35

open Cert.Kernel35Ideal Cert.Kernel35Ideal.Gen Cert.Kernel35Ideal.Value Cert.Reference35Ideal.Read

/-- The step: the kernel's function of an entry is the reference's. -/
theorem step (w g μ ν : FVec Ideal S1x1024 .f32) :
    G4 (F := Ideal) g μ ν w = val_main_v23 (F := Ideal) w g μ ν :=
  funext fun _ => rfl

/-- The first moment. -/
theorem mean (g μ : FVec Ideal S1x1024 .f32) :
    G5 (F := Ideal) g μ = val_main_v4 (F := Ideal) g μ :=
  funext fun _ => rfl

/-- The second moment. -/
theorem square (g ν : FVec Ideal S1x1024 .f32) :
    G6 (F := Ideal) g ν = val_main_v10 (F := Ideal) g ν :=
  funext fun _ => rfl

/-- The kernel's outputs are the reference's results. -/
theorem value : @Cert.algebraic_Kernel35Ideal_Reference35Ideal Cert.Kernel35Ideal.Gen.facts Cert.Reference35Ideal.Gen.facts := by
  intro m g m' g' _ hag
  refine ⟨_, _, _, Cert.Kernel35Ideal.Value.run m g, (θ_run _ _ _).mono (fun r h c => ?_) (Cert.Reference35Ideal.Value.run (F := Ideal) m' g')⟩
  obtain ⟨e0, e1, e2, k⟩ := h c
  obtain ⟨a0, a1, a2, a3⟩ := hag c
  refine ⟨e0.trans ?_, e1.trans ?_, e2.trans ?_, k⟩
  · rw [val_main_v23_eq, a0, a1, a2, a3]
    exact (step _ _ _ _).symm
  · rw [val_main_v4_eq, a1, a2]
    exact (mean _ _).symm
  · rw [val_main_v10_eq, a1, a3]
    exact (square _ _).symm

end Cert.Opt.K35

end
-- ==== Proof.Nrm.lean ====
/- The root-mean-square norms and the modulation: what the calls leave in their outputs. -/
module

public import proofs.«01_k».proof.Proof.Row
public import proofs.«01_k».proof.Proof.Gate
public import Idealize.ShloMosaic.Lib.Pipeline.ReadBack
public import proofs.«01_k».proof.Proof.Gen.Kernel36Ideal.Frame
public import proofs.«01_k».proof.Proof.Gen.Kernel36Ideal.Value
public import proofs.«01_k».proof.Proof.Gen.Reference36Ideal.Run
public import proofs.«01_k».proof.Proof.Gen.Reference36Ideal.Read
public import proofs.«01_k».proof.Proof.Gen.Kernel37Ideal.Frame
public import proofs.«01_k».proof.Proof.Gen.Kernel37Ideal.Value
public import proofs.«01_k».proof.Proof.Gen.Reference37Ideal.Run
public import proofs.«01_k».proof.Proof.Gen.Reference37Ideal.Read
public import proofs.«01_k».proof.Proof.Gen.Kernel38Ideal.Frame
public import proofs.«01_k».proof.Proof.Gen.Kernel38Ideal.Value
public import proofs.«01_k».proof.Proof.Gen.Reference38Ideal.Run
public import proofs.«01_k».proof.Proof.Gen.Reference38Ideal.Read
public import proofs.«01_k».proof.Defs

@[expose] public section

set_option maxRecDepth 16384

noncomputable section

namespace Cert.Mat

open Idealize.ShloMosaic hiding ix1 ix2 ix3
open Idealize.ShloMosaic.ValueIdx (ix1 ix2 ix3)
open scoped BigOperators

variable {n m : ℕ} {φ : FTy} {f : ℕ → ℕ → EReal}

/-- The reciprocal of the root of the mean square of a row, `w` being the row's length. -/
def inv (w : Ideal .f32) (m : ℕ) (f : ℕ → ℕ → EReal) (r : ℕ) : EReal :=
  FloatOps.hostUnary (F := Ideal) (φ := .f32) .rsqrt (FloatOps.addf (FloatOps.hostDivf (∑ u ∈ Finset.range m, f r u * f r u : EReal) w)
    (FloatOps.ofBits (F := Ideal) .f32 0x358637BD#32))

/-- The row sums of a matrix, as a column. -/
theorem Tb.rowSum {x : FVec Ideal ⟨2, ![n, m]⟩ .f32} (hx : Tb x f) (h : (⟨2, ![n, m]⟩ : Shape).Reduces [1] ⟨1, ![n]⟩)
    (hφ : FKind.Formats .f32) (hacc : 0x00000000#32 = FKind.add.neutral .f32 hφ) (h' : (⟨1, ![n]⟩ : Shape).ShapeCasts ⟨2, ![n, 1]⟩) :
    Tb (shapeCast ⟨2, ![n, 1]⟩ (multiReduction .add [1] ⟨1, ![n]⟩ x 0x00000000#32 h hφ hacc) h')
      (fun r _ => ∑ u ∈ Finset.range m, f r u) := fun r c => by
  have hc : c = 0 := Subsingleton.elim _ _
  subst hc
  rw [shapeCast_apply _ h' (ix2 r 0) (ix1 r) (by
    rw [Shape.rowMajor_val_one, Shape.rowMajor_val_two]
    show r.val = r.val * 1 + 0
    omega)]
  rw [Ideal.multiReduction_add_single]
  refine Eq.trans ?_ (Finset.sum_range _).symm
  refine Finset.sum_congr rfl fun u _ => ?_
  have e : h.lift (ix1 r) u = ix2 r u := by
    funext a
    apply Fin.ext
    match a with
    | ⟨0, _⟩ => rfl
    | ⟨1, _⟩ => rfl
  rw [e]
  exact hx r u

/-- A column spread over the columns of a wider matrix. -/
theorem Tb.bcol {x : FVec Ideal ⟨2, ![n, 1]⟩ φ} (hx : Tb x f) (h : (⟨2, ![n, 1]⟩ : Shape).Broadcasts ⟨2, ![n, m]⟩) (hn : n ≠ 1) :
    Tb (φ := φ) (broadcastTo ⟨2, ![n, m]⟩ x h) (fun r _ => f r 0) := fun r c => by
  refine Eq.trans ?_ (hx r 0)
  refine broadcastTo_apply x h (ix2 r c) (ix2 r 0) fun a => ?_
  match a with
  | ⟨0, _⟩ => exact (if_neg hn).symm
  | ⟨1, _⟩ => rfl

/-- The norm of the rows, before its gain. -/
theorem nrm_tb {x : FVec Ideal ⟨2, ![n, m]⟩ .f32} (hx : Tb x f) (h : (⟨2, ![n, m]⟩ : Shape).Reduces [1] ⟨1, ![n]⟩)
    (hφ : FKind.Formats .f32) (hacc : 0x00000000#32 = FKind.add.neutral .f32 hφ) (h' : (⟨1, ![n]⟩ : Shape).ShapeCasts ⟨2, ![n, 1]⟩)
    (hb : (⟨2, ![n, 1]⟩ : Shape).Broadcasts ⟨2, ![n, m]⟩) (hn : n ≠ 1) (w : Ideal .f32) :
    Tb (mulf x (broadcastTo ⟨2, ![n, m]⟩ (rsqrt (addf (divf (shapeCast ⟨2, ![n, 1]⟩ (multiReduction .add [1] ⟨1, ![n]⟩ (mulf x x) 0x00000000#32 h hφ hacc) h')
      (broadcast ⟨2, ![n, 1]⟩ w)) (broadcast ⟨2, ![n, 1]⟩ (Scalar.ofBits (F := Ideal) .f32 0x358637BD#32)))) hb)) (fun r c => f r c * inv w m f r) :=
  hx.mulf (Tb.bcol (f := fun r _ => inv w m f r) (fun r c => congrArg (fun z : EReal => FloatOps.hostUnary (F := Ideal) (φ := .f32) .rsqrt (FloatOps.addf (FloatOps.hostDivf z w)
    (FloatOps.ofBits (F := Ideal) .f32 0x358637BD#32))) ((hx.mulf hx).rowSum h hφ hacc h' r c)) hb hn)

/-- A matrix read at any index. -/
theorem at2 (x : FVec Ideal ⟨2, ![n, m]⟩ φ) (i : (⟨2, ![n, m]⟩ : Shape).Idx) : (x i : EReal) = tab x (i 0).val (i 1).val :=
  (congrArg x (ValueIdx.eq_ix2 i)).trans (tb_tab x (i 0) (i 1))

/-- The host's sum of squares. -/
theorem hsum {p : Fin m → EReal} {g : ℕ → EReal} (h : ∀ k, p k = g k.val) : c0 + ∑ k, p k * p k = ∑ u ∈ Finset.range m, g u * g u := by
  rw [c0_eq, zero_add, Finset.sum_range]
  exact Finset.sum_congr rfl fun k _ => by rw [h k]

end Cert.Mat

namespace Cert.Mat.K36

open Idealize.ShloMosaic hiding ix2 ix3
open Idealize.ShloMosaic.TcCoe Idealize.ShloMosaic.Tactic
open Idealize.ShloMosaic.ValueIdx (ix2 ix3)
open Cert.Kernel36Ideal Cert.Kernel36Ideal.Gen Cert.Reference36Ideal.Read Idealize.SL Idealize.SL.Sem
open scoped BigOperators

theorem bx0 : ∀ t : Fin cfg0.N, win0_0.index t = ![t.val, 0] := (by decide +kernel : ∀ t : Fin grid0.N, _)
theorem bx1 : ∀ t : Fin cfg0.N, win0_1.index t = ![0, 0] := (by decide +kernel : ∀ t : Fin grid0.N, _)
theorem bx2 : ∀ t : Fin cfg0.N, win0_2.index t = ![0, 0] := (by decide +kernel : ∀ t : Fin grid0.N, _)
theorem bx3 : ∀ t : Fin cfg0.N, win0_3.index t = ![0, 0] := (by decide +kernel : ∀ t : Fin grid0.N, _)
theorem bx4 : ∀ t : Fin cfg0.N, win0_4.index t = ![t.val, 0] := (by decide +kernel : ∀ t : Fin grid0.N, _)
theorem ltN (t : Fin cfg0.N) : t.val < 4 := lt_of_lt_of_eq t.isLt N_0

variable {m : (ℓ : Loc nD τ sig) → Buf (Elt Ideal) ℓ} {c : Dev nD} {A G S H : ℕ → ℕ → EReal}

/-- The block of the rows at a grid point. -/
theorem blk0 (hA : T32 2048 1024 (V m c main_arg0) A) (t : Fin cfg0.N) :
    T32 512 1024 (iblk m c 0 t) (fun r d => A (512 * t.val + r) d) := fun r d => by
  have e : iblk m c 0 t (ix2 r d) = V m c main_arg0 (ix2 (⟨512 * t.val + r.val, by have := r.isLt; have := ltN t; omega⟩ : Fin 2048) d) := by
    unfold iblk
    generalize V m c = W
    blk_ext [bx0 t]
    all_goals first
      | (show t.val * 512 + r.val = _; omega)
  exact e.trans (hA _ _)

theorem blk1 (h : T32 1 1024 (V m c main_arg1) G) (t : Fin cfg0.N) : T32 1 1024 (iblk m c 1 t) G := fun r d => by
  have e : iblk m c 1 t (ix2 r d) = V m c main_arg1 (ix2 r d) := by
    unfold iblk
    generalize V m c = W
    blk_ext [bx1 t]
  exact e.trans (h _ _)

theorem blk2 (h : T32 1 1024 (V m c main_arg2) S) (t : Fin cfg0.N) : T32 1 1024 (iblk m c 2 t) S := fun r d => by
  have e : iblk m c 2 t (ix2 r d) = V m c main_arg2 (ix2 r d) := by
    unfold iblk
    generalize V m c = W
    blk_ext [bx2 t]
  exact e.trans (h _ _)

theorem blk3 (h : T32 1 1024 (V m c main_arg3) H) (t : Fin cfg0.N) : T32 1 1024 (iblk m c 3 t) H := fun r d => by
  have e : iblk m c 3 t (ix2 r d) = V m c main_arg3 (ix2 r d) := by
    unfold iblk
    generalize V m c = W
    blk_ext [bx3 t]
  exact e.trans (h _ _)

/-- The table of the result. -/
def res (A G S H : ℕ → ℕ → EReal) (r d : ℕ) : EReal := A r d * inv (FloatOps.ofBits (F := Ideal) .f32 0x44800000#32) 1024 A r * G 0 d * (c1 + S 0 d) + H 0 d

/-- The value stored at a grid point. -/
theorem pay {x : FVec Ideal S512x1024 .f32} {g s h : FVec Ideal S1x1024 .f32} (hx : Tb x A) (hg : Tb g G) (hs : Tb s S) (hh : Tb h H) :
    Tb (k0_pay1 x g s h) (res A G S H) :=
  Tb.truncf ((((nrm_tb hx reduces_S512x1024_S512 (.inl rfl) rfl shapeCasts_S512_S512x1 broadcasts_S512x1_S512x1024 (by decide) _).mulf (hg.brow broadcasts_S1x1024_S512x1024 (by decide))).mulf (((tb_fill (n := 1) (φ := .f32) c1).addf hs).brow broadcasts_S1x1024_S512x1024 (by decide))).addf (hh.brow broadcasts_S1x1024_S512x1024 (by decide))) bitsLt_bf16_f32

/-- The output after the call. -/
theorem arr (hA : T32 2048 1024 (V m c main_arg0) A) (hG : T32 1 1024 (V m c main_arg1) G) (hS : T32 1 1024 (V m c main_arg2) S) (hH : T32 1 1024 (V m c main_arg3) H) :
    T16 2048 1024 ((dats m 0 c).arrAt 4 cfg0.N) (res A G S H) := fun r d =>
  (dats m 0 c).arrAt_forall_of_covers 4 (fun y v => (v : EReal) = res A G S H (y 0).val (y 1).val) (by decide +kernel) (fun t hf y => by
    have e := pay (blk0 hA t) (blk1 hG t) (blk2 hS t) (blk3 hH t)
    rw [after0_4]
    blk_simp [bx4 t]
    frame_out
    have ey : (y : S512x1024.Idx) = ix2 (n0 := 512) (n1 := 1024) (y 0) (y 1) := ValueIdx.eq_ix2 y
    refine (congrArg (fun z : S512x1024.Idx => (k0_pay1 (iblk m c 0 t) (iblk m c 1 t) (iblk m c 2 t) (iblk m c 3 t) z : EReal)) ey).trans ((e (y 0) (y 1)).trans ?_)
    unfold res inv
    have e0 : t.val * 512 + (y 0).val = 512 * t.val + (y 0).val := by omega
    simp only [e0]) (ix2 r d)

/-- The reference's result, read as a table. -/
theorem ref (x0 : FVec Ideal S2048x1024 .f32) (x1 x2 x3 : FVec Ideal S1x1024 .f32) :
    T16 2048 1024 (val_main_v18 (F := Ideal) x0 x1 x2 x3) (res (tab x0) (tab x1) (tab x2) (tab x3)) := fun r d => by
  rw [val_main_v18_apply, val_main_v17_apply, val_main_v15_apply, val_main_v11_apply, val_main_v9_apply, val_main_v8_apply, val_main_v7_apply, val_main_v6_apply, val_main_v4_apply, val_main_v2_apply, val_main_v1_apply, val_main_v3_apply, val_main_cst_0_apply, val_main_v5_apply, val_main_cst_1_apply, val_main_v10_apply, val_main_v14_apply, val_main_v13_apply, val_main_v12_apply, val_main_cst_2_apply, val_main_v16_apply]
  exact congrArg₂ (· + ·) (congrArg₂ (· * ·) (congrArg₂ (· * ·) (congrArg₂ (· * ·) (at2 x0 _) (congrArg (fun z : EReal => FloatOps.hostUnary (F := Ideal) (φ := .f32) .rsqrt (FloatOps.addf (FloatOps.hostDivf z (FloatOps.ofBits (F := Ideal) .f32 0x44800000#32))
    (FloatOps.ofBits (F := Ideal) .f32 0x358637BD#32))) (hsum (g := fun u => (tab x0) r.val u) fun k => at2 x0 _))) (at2 x1 _)) (congrArg (c1 + ·) (at2 x2 _))) (at2 x3 _)

/-- The kernel's output is the reference's result. -/
theorem value : @Cert.algebraic_Kernel36Ideal_Reference36Ideal Cert.Kernel36Ideal.Gen.facts Cert.Reference36Ideal.Gen.facts := by
  intro m g m' g' _ hag
  refine ⟨_, Cert.Kernel36Ideal.Value.run_blocks m g, (θ_run _ _ _).mono (fun r h c => ?_) (Cert.Reference36Ideal.Value.run (F := Ideal) m' g')⟩
  obtain ⟨e0, k⟩ := h c
  obtain ⟨a0, a1, a2, a3⟩ := hag c
  refine ⟨e0.trans ?_, k⟩
  clear e0 k
  rw [val_main_v18_eq, a0, a1, a2, a3]
  exact (ref _ _ _ _).eq (arr (A := tab (n := 2048) (m := 1024) (φ := .f32) (m ((c.tc : Thread nD τ).loc main_arg0)))
    (by rw [V_main_arg0]; exact tb32 2048 1024 _)
    (by rw [V_main_arg1]; exact tb32 1 1024 _)
    (by rw [V_main_arg2]; exact tb32 1 1024 _)
    (by rw [V_main_arg3]; exact tb32 1 1024 _))

end Cert.Mat.K36

namespace Cert.Mat.K37

open Idealize.ShloMosaic hiding ix2 ix3
open Idealize.ShloMosaic.TcCoe Idealize.ShloMosaic.Tactic
open Idealize.ShloMosaic.ValueIdx (ix2 ix3)
open Cert.Kernel37Ideal Cert.Kernel37Ideal.Gen Cert.Reference37Ideal.Read Idealize.SL Idealize.SL.Sem
open scoped BigOperators

theorem bx0 : ∀ t : Fin cfg0.N, win0_0.index t = ![t.val, 10] := (by decide +kernel : ∀ t : Fin grid0.N, _)
theorem bx1 : ∀ t : Fin cfg0.N, win0_1.index t = ![0, 0] := (by decide +kernel : ∀ t : Fin grid0.N, _)
theorem bx2 : ∀ t : Fin cfg0.N, win0_2.index t = ![t.val, 0] := (by decide +kernel : ∀ t : Fin grid0.N, _)
theorem ltN (t : Fin cfg0.N) : t.val < 4 := lt_of_lt_of_eq t.isLt N_0

variable {m : (ℓ : Loc nD τ sig) → Buf (Elt Ideal) ℓ} {c : Dev nD} {A G : ℕ → ℕ → EReal}

/-- The block of the rows at a grid point. -/
theorem blk0 (hA : T32 2048 4352 (V m c main_arg0) A) (t : Fin cfg0.N) :
    T32 512 384 (X0_0 m c t) (fun r d => (fun r d => A r (3840 + d)) (512 * t.val + r) d) := fun r d => by
  have e : X0_0 m c t (ix2 r d) = V m c main_arg0 (ix2 (⟨512 * t.val + r.val, by have := r.isLt; have := ltN t; omega⟩ : Fin 2048) (⟨3840 + d.val, by have := d.isLt; omega⟩ : Fin 4352)) := by
    unfold X0_0 Pipeline.Window.fill
    rw [dif_pos (moved0_0 t _)]
    unfold iblk
    generalize V m c = W
    blk_ext [bx0 t]
    all_goals first
      | (show t.val * 512 + r.val = _; omega)
      | (show 10 * 384 + d.val = _; omega)
  exact e.trans (hA _ _)

theorem blk1 (h : T32 1 384 (V m c main_arg1) G) (t : Fin cfg0.N) : T32 1 384 (iblk m c 1 t) G := fun r d => by
  have e : iblk m c 1 t (ix2 r d) = V m c main_arg1 (ix2 r d) := by
    unfold iblk
    generalize V m c = W
    blk_ext [bx1 t]
  exact e.trans (h _ _)

/-- The table of the result. -/
def res (A G : ℕ → ℕ → EReal) (r d : ℕ) : EReal := A r d * inv (FloatOps.ofBits (F := Ideal) .f32 0x43C00000#32) 384 A r * G 0 d

/-- The value stored at a grid point. -/
theorem pay {x : FVec Ideal S512x384 .f32} {g : FVec Ideal S1x384 .f32} (hx : Tb x A) (hg : Tb g G) :
    Tb (k0_pay1 x g) (res A G) :=
  Tb.truncf ((nrm_tb hx reduces_S512x384_S512 (.inl rfl) rfl shapeCasts_S512_S512x1 broadcasts_S512x1_S512x384 (by decide) _).mulf (hg.brow broadcasts_S1x384_S512x384 (by decide))) bitsLt_bf16_f32

/-- The output after the call. -/
theorem arr (hA : T32 2048 4352 (V m c main_arg0) A) (hG : T32 1 384 (V m c main_arg1) G) :
    T16 2048 384 ((dats m 0 c).arrAt 2 cfg0.N) (res (fun r d => A r (3840 + d)) G) := fun r d =>
  (dats m 0 c).arrAt_forall_of_covers 2 (fun y v => (v : EReal) = res (fun r d => A r (3840 + d)) G (y 0).val (y 1).val) (by decide +kernel) (fun t hf y => by
    have e := pay (blk0 hA t) (blk1 hG t)
    rw [after0_2]
    unfold outsAt0
    blk_simp [bx2 t]
    frame_out
    have ey : (y : S512x384.Idx) = ix2 (n0 := 512) (n1 := 384) (y 0) (y 1) := ValueIdx.eq_ix2 y
    refine (congrArg (fun z : S512x384.Idx => (k0_pay1 (X0_0 m c t) (iblk m c 1 t) z : EReal)) ey).trans ((e (y 0) (y 1)).trans ?_)
    unfold res inv
    have e0 : t.val * 512 + (y 0).val = 512 * t.val + (y 0).val := by omega
    simp only [e0]) (ix2 r d)

/-- The reference's result, read as a table. -/
theorem ref (x0 : FVec Ideal S2048x4352 .f32) (x1 : FVec Ideal S1x384 .f32) :
    T16 2048 384 (val_main_v13 (F := Ideal) x0 x1) (res (fun r d => tab x0 r (3840 + d)) (tab x1)) := fun r d => by
  rw [val_main_v13_apply, val_main_v12_apply, val_main_v10_apply, val_main_v0_apply, val_main_v9_apply, val_main_v8_apply, val_main_v7_apply, val_main_v5_apply, val_main_v3_apply, val_main_v2_apply, val_main_v4_apply, val_main_cst_0_apply, val_main_v6_apply, val_main_cst_1_apply, val_main_v11_apply]
  exact congrArg₂ (· * ·) (congrArg₂ (· * ·) (at2 x0 _) (congrArg (fun z : EReal => FloatOps.hostUnary (F := Ideal) (φ := .f32) .rsqrt (FloatOps.addf (FloatOps.hostDivf z (FloatOps.ofBits (F := Ideal) .f32 0x43C00000#32))
    (FloatOps.ofBits (F := Ideal) .f32 0x358637BD#32))) (hsum (g := fun u => (fun r d => tab x0 r (3840 + d)) r.val u) fun k => (val_main_v0_apply _ _).trans (at2 x0 _)))) (at2 x1 _)

/-- The kernel's output is the reference's result. -/
theorem value : @Cert.algebraic_Kernel37Ideal_Reference37Ideal Cert.Kernel37Ideal.Gen.facts Cert.Reference37Ideal.Gen.facts := by
  intro m g m' g' _ hag
  refine ⟨_, Cert.Kernel37Ideal.Value.run_blocks m g, (θ_run _ _ _).mono (fun r h c => ?_) (Cert.Reference37Ideal.Value.run (F := Ideal) m' g')⟩
  obtain ⟨e0, k⟩ := h c
  obtain ⟨a0, a1⟩ := hag c
  refine ⟨e0.trans ?_, k⟩
  clear e0 k
  rw [val_main_v13_eq, a0, a1]
  exact (ref _ _).eq (arr (A := tab (n := 2048) (m := 4352) (φ := .f32) (m ((c.tc : Thread nD τ).loc main_arg0)))
    (by rw [V_main_arg0]; exact tb32 2048 4352 _)
    (by rw [V_main_arg1]; exact tb32 1 384 _))

end Cert.Mat.K37

namespace Cert.Mat.K38

open Idealize.ShloMosaic hiding ix2 ix3
open Idealize.ShloMosaic.TcCoe Idealize.ShloMosaic.Tactic
open Idealize.ShloMosaic.ValueIdx (ix2 ix3)
open Cert.Kernel38Ideal Cert.Kernel38Ideal.Gen Cert.Reference38Ideal.Read Idealize.SL Idealize.SL.Sem
open scoped BigOperators

theorem bx0 : ∀ t : Fin cfg0.N, win0_0.index t = ![t.val, 14] := (by decide +kernel : ∀ t : Fin grid0.N, _)
theorem bx1 : ∀ t : Fin cfg0.N, win0_1.index t = ![0, 0] := (by decide +kernel : ∀ t : Fin grid0.N, _)
theorem bx2 : ∀ t : Fin cfg0.N, win0_2.index t = ![t.val, 0] := (by decide +kernel : ∀ t : Fin grid0.N, _)
theorem ltN (t : Fin cfg0.N) : t.val < 4 := lt_of_lt_of_eq t.isLt N_0

variable {m : (ℓ : Loc nD τ sig) → Buf (Elt Ideal) ℓ} {c : Dev nD} {A G : ℕ → ℕ → EReal}

/-- The block of the rows at a grid point. -/
theorem blk0 (hA : T32 2048 4352 (V m c main_arg0) A) (t : Fin cfg0.N) :
    T32 512 256 (iblk m c 0 t) (fun r d => (fun r d => A r (3584 + d)) (512 * t.val + r) d) := fun r d => by
  have e : iblk m c 0 t (ix2 r d) = V m c main_arg0 (ix2 (⟨512 * t.val + r.val, by have := r.isLt; have := ltN t; omega⟩ : Fin 2048) (⟨3584 + d.val, by have := d.isLt; omega⟩ : Fin 4352)) := by
    unfold iblk
    generalize V m c = W
    blk_ext [bx0 t]
    all_goals first
      | (show t.val * 512 + r.val = _; omega)
      | (show 14 * 256 + d.val = _; omega)
  exact e.trans (hA _ _)

theorem blk1 (h : T32 1 256 (V m c main_arg1) G) (t : Fin cfg0.N) : T32 1 256 (iblk m c 1 t) G := fun r d => by
  have e : iblk m c 1 t (ix2 r d) = V m c main_arg1 (ix2 r d) := by
    unfold iblk
    generalize V m c = W
    blk_ext [bx1 t]
  exact e.trans (h _ _)

/-- The table of the result. -/
def res (A G : ℕ → ℕ → EReal) (r d : ℕ) : EReal := A r d * inv (FloatOps.ofBits (F := Ideal) .f32 0x43800000#32) 256 A r * G 0 d

/-- The value stored at a grid point. -/
theorem pay {x : FVec Ideal S512x256 .f32} {g : FVec Ideal S1x256 .f32} (hx : Tb x A) (hg : Tb g G) :
    Tb (k0_pay1 x g) (res A G) :=
  Tb.truncf ((nrm_tb hx reduces_S512x256_S512 (.inl rfl) rfl shapeCasts_S512_S512x1 broadcasts_S512x1_S512x256 (by decide) _).mulf (hg.brow broadcasts_S1x256_S512x256 (by decide))) bitsLt_bf16_f32

/-- The output after the call. -/
theorem arr (hA : T32 2048 4352 (V m c main_arg0) A) (hG : T32 1 256 (V m c main_arg1) G) :
    T16 2048 256 ((dats m 0 c).arrAt 2 cfg0.N) (res (fun r d => A r (3584 + d)) G) := fun r d =>
  (dats m 0 c).arrAt_forall_of_covers 2 (fun y v => (v : EReal) = res (fun r d => A r (3584 + d)) G (y 0).val (y 1).val) (by decide +kernel) (fun t hf y => by
    have e := pay (blk0 hA t) (blk1 hG t)
    rw [after0_2]
    blk_simp [bx2 t]
    frame_out
    have ey : (y : S512x256.Idx) = ix2 (n0 := 512) (n1 := 256) (y 0) (y 1) := ValueIdx.eq_ix2 y
    refine (congrArg (fun z : S512x256.Idx => (k0_pay1 (iblk m c 0 t) (iblk m c 1 t) z : EReal)) ey).trans ((e (y 0) (y 1)).trans ?_)
    unfold res inv
    have e0 : t.val * 512 + (y 0).val = 512 * t.val + (y 0).val := by omega
    simp only [e0]) (ix2 r d)

/-- The reference's result, read as a table. -/
theorem ref (x0 : FVec Ideal S2048x4352 .f32) (x1 : FVec Ideal S1x256 .f32) :
    T16 2048 256 (val_main_v13 (F := Ideal) x0 x1) (res (fun r d => tab x0 r (3584 + d)) (tab x1)) := fun r d => by
  rw [val_main_v13_apply, val_main_v12_apply, val_main_v10_apply, val_main_v0_apply, val_main_v9_apply, val_main_v8_apply, val_main_v7_apply, val_main_v5_apply, val_main_v3_apply, val_main_v2_apply, val_main_v4_apply, val_main_cst_0_apply, val_main_v6_apply, val_main_cst_1_apply, val_main_v11_apply]
  exact congrArg₂ (· * ·) (congrArg₂ (· * ·) (at2 x0 _) (congrArg (fun z : EReal => FloatOps.hostUnary (F := Ideal) (φ := .f32) .rsqrt (FloatOps.addf (FloatOps.hostDivf z (FloatOps.ofBits (F := Ideal) .f32 0x43800000#32))
    (FloatOps.ofBits (F := Ideal) .f32 0x358637BD#32))) (hsum (g := fun u => (fun r d => tab x0 r (3584 + d)) r.val u) fun k => (val_main_v0_apply _ _).trans (at2 x0 _)))) (at2 x1 _)

/-- The kernel's output is the reference's result. -/
theorem value : @Cert.algebraic_Kernel38Ideal_Reference38Ideal Cert.Kernel38Ideal.Gen.facts Cert.Reference38Ideal.Gen.facts := by
  intro m g m' g' _ hag
  refine ⟨_, Cert.Kernel38Ideal.Value.run_blocks m g, (θ_run _ _ _).mono (fun r h c => ?_) (Cert.Reference38Ideal.Value.run (F := Ideal) m' g')⟩
  obtain ⟨e0, k⟩ := h c
  obtain ⟨a0, a1⟩ := hag c
  refine ⟨e0.trans ?_, k⟩
  clear e0 k
  rw [val_main_v13_eq, a0, a1]
  exact (ref _ _).eq (arr (A := tab (n := 2048) (m := 4352) (φ := .f32) (m ((c.tc : Thread nD τ).loc main_arg0)))
    (by rw [V_main_arg0]; exact tb32 2048 4352 _)
    (by rw [V_main_arg1]; exact tb32 1 256 _))

end Cert.Mat.K38

end
-- ==== Proof.Sum39.lean ====
/- The sum of the devices' vector gradients: what the call leaves in its output. -/
module

public import proofs.«01_k».proof.Proof.Mat
public import proofs.«01_k».proof.Proof.Gen.Kernel39Ideal.Value
public import proofs.«01_k».proof.Proof.Gen.Reference39Ideal.Read
public import proofs.«01_k».proof.Defs

@[expose] public section

set_option maxRecDepth 16384

noncomputable section

namespace Cert.Mat.K39

open Idealize.ShloMosaic Idealize.ShloMosaic.TcCoe Idealize.SL Idealize.SL.Sem
open Cert.Kernel39Ideal Cert.Kernel39Ideal.Gen Cert.Kernel39Ideal.Value Cert.Reference39Ideal.Read

/-- The terms added one after the other are the reference's sum. -/
theorem sum (x : FVec Ideal S8x48x1024 .f32) : G1 (F := Ideal) x = val_main_v0 (F := Ideal) x := by
  funext i
  refine (piece1_0 (F := Ideal) _ _ _ _ _ _ _ _ i).trans ?_
  rw [val_main_v0_apply, Fin.sum_univ_eight]
  refine Eq.trans ?_ ((congrArg (· + _) c0_eq).trans (zero_add _)).symm
  have e : ∀ (y z : S8x48x1024.Idx), (∀ a, (y a).val = (z a).val) → x y = x z := fun y z h => congrArg x (funext fun a => Fin.ext (h a))
  refine congrArg₂ (· + ·) (congrArg₂ (· + ·) (congrArg₂ (· + ·) (congrArg₂ (· + ·) (congrArg₂ (· + ·) (congrArg₂ (· + ·)
    (congrArg₂ (· + ·) (e _ _ ?_) (e _ _ ?_)) (e _ _ ?_)) (e _ _ ?_)) (e _ _ ?_)) (e _ _ ?_)) (e _ _ ?_)) (e _ _ ?_)
  all_goals
    intro a
    match a with
    | ⟨0, _⟩ => rfl
    | ⟨1, _⟩ => show 0 + 1 * (0 + 1 * (i 0).val) = (i 0).val; omega
    | ⟨2, _⟩ => show 0 + 1 * (0 + 1 * (i 1).val) = (i 1).val; omega

/-- The kernel's output is the reference's result. -/
theorem value : @Cert.algebraic_Kernel39Ideal_Reference39Ideal Cert.Kernel39Ideal.Gen.facts Cert.Reference39Ideal.Gen.facts := by
  intro m g m' g' _ hag
  refine ⟨_, Cert.Kernel39Ideal.Value.run m g, (θ_run _ _ _).mono (fun r h c => ?_) (Cert.Reference39Ideal.Value.run (F := Ideal) m' g')⟩
  obtain ⟨e0, k⟩ := h c
  refine ⟨e0.trans ?_, k⟩
  rw [val_main_v0_eq, hag c]
  exact (sum _).symm

end Cert.Mat.K39

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel7Ideal.Frame
public import proofs.«01_k».proof.Proof.Gen.Kernel8.Frame
public import proofs.«01_k».proof.Proof.Gen.Kernel9.Frame
public import proofs.«01_k».proof.Proof.Gen.Kernel9Ideal.Frame
public import proofs.«01_k».proof.Proof.Gen.Kernel10.Frame
public import proofs.«01_k».proof.Proof.Gen.Kernel10Ideal.Frame
public import proofs.«01_k».proof.Proof.Gen.Kernel11.Frame
public import proofs.«01_k».proof.Proof.Gen.Kernel12.Frame
public import proofs.«01_k».proof.Proof.Gen.Kernel12Ideal.Frame
public import proofs.«01_k».proof.Proof.Gen.Kernel13.Frame
public import proofs.«01_k».proof.Proof.Gen.Kernel14.Frame
public import proofs.«01_k».proof.Proof.Gen.Kernel14Ideal.Frame
public import proofs.«01_k».proof.Proof.Gen.Kernel15.Frame
public import proofs.«01_k».proof.Proof.Gen.Kernel15Ideal.Frame
public import proofs.«01_k».proof.Proof.Gen.Kernel16.Frame
public import proofs.«01_k».proof.Proof.Gen.Kernel16Ideal.Frame
public import proofs.«01_k».proof.Proof.Gen.Kernel17.Frame
public import proofs.«01_k».proof.Proof.Gen.Kernel17Ideal.Frame
public import proofs.«01_k».proof.Proof.Gen.Kernel18.Frame
public import proofs.«01_k».proof.Proof.Gen.Kernel18Ideal.Frame
public import proofs.«01_k».proof.Proof.Gen.Kernel19.Frame
public import proofs.«01_k».proof.Proof.Gen.Pre_finite
public import Idealize.ShloMosaic.Adequacy
public import Idealize.ShloMosaic.Init
public import proofs.«01_k».proof.Proof.Gen.Reference12Ideal.Read
public import proofs.«01_k».proof.Proof.Gen.Reference13Ideal.Read
public import proofs.«01_k».proof.Proof.Gen.Reference14Ideal.Read
public import proofs.«01_k».proof.Proof.Gen.Reference15Ideal.Read
public import proofs.«01_k».proof.Proof.Gen.Reference16Ideal.Read
public import proofs.«01_k».proof.Proof.Gen.Reference17Ideal.Read
public import proofs.«01_k».proof.Proof.Gen.Reference18Ideal.Read
public import proofs.«01_k».proof.Proof.Gen.Reference19Ideal.Read
public import proofs.«01_k».proof.Proof.Gen.Kernel13Ideal.Value
public import proofs.«01_k».proof.Proof.Gen.Kernel19Ideal.Value
public import proofs.«01_k».proof.Proof.Gen.ReferenceIdeal.Run
public import proofs.«01_k».proof.Proof.Gen.ReferenceIdeal.Read
public import proofs.«01_k».proof.Proof.Gen.Reference2Ideal.Read
public import proofs.«01_k».proof.Proof.Gen.Reference3Ideal.Read
public import proofs.«01_k».proof.Proof.Gen.Reference4Ideal.Read
public import proofs.«01_k».proof.Proof.Gen.Reference5Ideal.Read
public import proofs.«01_k».proof.Proof.Gen.Reference6Ideal.Read
public import proofs.«01_k».proof.Proof.Gen.Reference7Ideal.Read
public import proofs.«01_k».proof.Proof.Gen.Reference8Ideal.Read
public import proofs.«01_k».proof.Proof.Gen.Reference9Ideal.Read
public import proofs.«01_k».proof.Proof.Gen.Reference10Ideal.Read
public import proofs.«01_k».proof.Proof.Gen.Reference11Ideal.Read
public import proofs.«01_k».proof.Proof.Gen.Kernel3Ideal.Value
public import proofs.«01_k».proof.Proof.Gen.Kernel4Ideal.Value
public import proofs.«01_k».proof.Proof.Gen.Kernel5Ideal.Value
public import proofs.«01_k».proof.Proof.Gen.Kernel6Ideal.Value
public import proofs.«01_k».proof.Proof.Launch
public import proofs.«01_k».proof.Proof.Match
public import proofs.«01_k».proof.Proof.Pre
public import proofs.«01_k».proof.Proof.Mlp2
public import proofs.«01_k».proof.Proof.Dw3
public import proofs.«01_k».proof.Proof.Dx4
public import proofs.«01_k».proof.Proof.Dw5
public import proofs.«01_k».proof.Proof.Dx6
public import proofs.«01_k».proof.Proof.Dw7
public import proofs.«01_k».proof.Proof.Dn8
public import proofs.«01_k».proof.Proof.In9
public import proofs.«01_k».proof.Proof.Mix10
public import proofs.«01_k».proof.Proof.Dw11
public import proofs.«01_k».proof.Proof.Sbo12
public import proofs.«01_k».proof.Proof.Dw13
public import proofs.«01_k».proof.Proof.Mlo14
public import proofs.«01_k».proof.Proof.Dw15
public import proofs.«01_k».proof.Proof.Qup16
public import proofs.«01_k».proof.Proof.Dw17
public import proofs.«01_k».proof.Proof.Kv18
public import proofs.«01_k».proof.Proof.Dw19
public import proofs.«01_k».proof.Proof.Gen.Kernel8Ideal.Value
public import proofs.«01_k».proof.Proof.Gen.Kernel11Ideal.Value
public import Idealize.ShloMosaic.Lib.Quiescent
public import proofs.«01_k».proof.Proof.Gen.Kernel20.Frame
public import proofs.«01_k».proof.Proof.Gen.Reference20Ideal.Read
public import proofs.«01_k».proof.Proof.Gen.Kernel20Ideal.Value
public import proofs.«01_k».proof.Proof.Gen.Kernel21.Frame
public import proofs.«01_k».proof.Proof.Gen.Reference21Ideal.Read
public import proofs.«01_k».proof.Proof.Gen.Kernel21Ideal.Value
public import proofs.«01_k».proof.Proof.Gen.Kernel22.Frame
public import proofs.«01_k».proof.Proof.Gen.Reference22Ideal.Read
public import proofs.«01_k».proof.Proof.Gen.Kernel22Ideal.Value
public import proofs.«01_k».proof.Proof.Gen.Kernel23.Frame
public import proofs.«01_k».proof.Proof.Gen.Reference23Ideal.Read
public import proofs.«01_k».proof.Proof.Gen.Kernel23Ideal.Value
public import proofs.«01_k».proof.Proof.Gen.Kernel24.Frame
public import proofs.«01_k».proof.Proof.Gen.Reference24Ideal.Read
public import proofs.«01_k».proof.Proof.Gen.Kernel24Ideal.Value
public import proofs.«01_k».proof.Proof.Gen.Kernel25.Frame
public import proofs.«01_k».proof.Proof.Gen.Reference25Ideal.Read
public import proofs.«01_k».proof.Proof.Gen.Kernel25Ideal.Value
public import proofs.«01_k».proof.Proof.Gen.Kernel26.Frame
public import proofs.«01_k».proof.Proof.Gen.Reference26Ideal.Read
public import proofs.«01_k».proof.Proof.Gen.Kernel26Ideal.Value
public import proofs.«01_k».proof.Proof.Gen.Kernel27.Frame
public import proofs.«01_k».proof.Proof.Gen.Reference27Ideal.Read
public import proofs.«01_k».proof.Proof.Gen.Kernel27Ideal.Value
public import proofs.«01_k».proof.Proof.Gen.Kernel28.Frame
public import proofs.«01_k».proof.Proof.Gen.Reference28Ideal.Read
public import proofs.«01_k».proof.Proof.Gen.Kernel28Ideal.Value
public import proofs.«01_k».proof.Proof.Gen.Kernel29.Frame
public import proofs.«01_k».proof.Proof.Gen.Reference29Ideal.Read
public import proofs.«01_k».proof.Proof.Gen.Kernel29Ideal.Value
public import proofs.«01_k».proof.Proof.Gen.Kernel30.Frame
public import proofs.«01_k».proof.Proof.Gen.Reference30Ideal.Read
public import proofs.«01_k».proof.Proof.Gen.Kernel30Ideal.Value
public import proofs.«01_k».proof.Proof.Gen.Kernel31.Frame
public import proofs.«01_k».proof.Proof.Gen.Reference31Ideal.Read
public import proofs.«01_k».proof.Proof.Gen.Kernel31Ideal.Value
public import proofs.«01_k».proof.Proof.Gen.Kernel32.Frame
public import proofs.«01_k».proof.Proof.Gen.Reference32Ideal.Read
public import proofs.«01_k».proof.Proof.Gen.Kernel32Ideal.Value
public import proofs.«01_k».proof.Proof.Gen.Kernel33.Frame
public import proofs.«01_k».proof.Proof.Gen.Reference33Ideal.Read
public import proofs.«01_k».proof.Proof.Gen.Kernel33Ideal.Value
public import proofs.«01_k».proof.Proof.Gen.Kernel34.Frame
public import proofs.«01_k».proof.Proof.Gen.Reference34Ideal.Read
public import proofs.«01_k».proof.Proof.Gen.Kernel34Ideal.Value
public import proofs.«01_k».proof.Proof.Gen.Kernel35.Frame
public import proofs.«01_k».proof.Proof.Gen.Reference35Ideal.Read
public import proofs.«01_k».proof.Proof.Gen.Kernel35Ideal.Value
public import proofs.«01_k».proof.Proof.Gen.Kernel36.Frame
public import proofs.«01_k».proof.Proof.Gen.Reference36Ideal.Read
public import proofs.«01_k».proof.Proof.Gen.Kernel36Ideal.Value
public import proofs.«01_k».proof.Proof.Gen.Kernel37.Frame
public import proofs.«01_k».proof.Proof.Gen.Reference37Ideal.Read
public import proofs.«01_k».proof.Proof.Gen.Kernel37Ideal.Value
public import proofs.«01_k».proof.Proof.Gen.Kernel38.Frame
public import proofs.«01_k».proof.Proof.Gen.Reference38Ideal.Read
public import proofs.«01_k».proof.Proof.Gen.Kernel38Ideal.Value
public import proofs.«01_k».proof.Proof.Gen.Kernel39.Frame
public import proofs.«01_k».proof.Proof.Gen.Reference39Ideal.Read
public import proofs.«01_k».proof.Proof.Gen.Kernel39Ideal.Value
public import proofs.«01_k».proof.Proof.Mrg20
public import proofs.«01_k».proof.Proof.Mrg21
public import proofs.«01_k».proof.Proof.Res22
public import proofs.«01_k».proof.Proof.Res23
public import proofs.«01_k».proof.Proof.Opt
public import proofs.«01_k».proof.Proof.Nrm
public import proofs.«01_k».proof.Proof.Sum39

@[expose] public section

noncomputable section

namespace Cert.Proof

open Idealize.ShloMosaic Idealize.SL.Sem Cert.Kernel

/-- The reference runs to its end, leaves its arguments unchanged and has no semaphore to leave counted. -/
theorem reference_frame : Cert.quiescent_ReferenceIdeal := fun m ρ _ =>
  (θ_run _ _ _).mono (fun r h =>
    ⟨fun c => ⟨(h c).2.2.2.2.1, (h c).2.2.2.2.2⟩, sem_eq_zero_of_no_sems (by decide) r.2⟩)
    (Cert.ReferenceIdeal.Value.run m ρ)

/-- The kernel's program and the reference's, from equal arguments of which the precondition holds, end with equal results:
    both hold the same tables of reals. -/
theorem value : @Cert.algebraic_KernelIdeal_ReferenceIdeal_pre_finite Cert.KernelIdeal.Gen.facts Cert.ReferenceIdeal.Gen.facts Cert.Sb.pre_facts := by
  letI := Cert.Sb.pre_facts
  intro m g m' g' hpre hag
  have run := Cert.Sb.run_named (F := Ideal) m g
  have ref := Cert.ReferenceIdeal.Value.run (F := Ideal) m' g'
  refine ⟨_, _, _, _, run, (θ_run _ _ _).mono (fun r h c => ?_) ref⟩
  obtain ⟨e52, e51, e50, e49, ea0, ea1⟩ := h c
  have a := Cert.Sb.arr_of_args (m := m) (ρ := g) (c := c) (Cert.Sb.pre_cols _ _ (hpre c)) (Cert.Sb.pre_out _ _ (hpre c))
  have hp : Cert.Sb.Cols (m' ((c.tc : Thread Cert.ReferenceIdeal.nD Cert.ReferenceIdeal.τ).loc Cert.ReferenceIdeal.main_arg0)) _ := fun i h0 h1 => by
    rw [(hag c).1, ValueIdx.eq_ix2 i]
    exact Cert.Sb.pre_cols _ _ (hpre c) (i 0) (i 1) h0 h1
  have hd : Cert.Sb.Out (m' ((c.tc : Thread Cert.ReferenceIdeal.nD Cert.ReferenceIdeal.τ).loc Cert.ReferenceIdeal.main_arg1)) _ := fun i => by
    rw [(hag c).2, ValueIdx.eq_ix2 i]
    exact Cert.Sb.pre_out _ _ (hpre c) (i 0) (i 1)
  refine ⟨e52.trans ?_, e51.trans ?_, e50.trans ?_, e49.trans ?_, ea0, ea1⟩
  · rw [Cert.ReferenceIdeal.Read.val_main_v52_eq]
    exact (Cert.Sb.r52 hp).eq ((Cert.Sb.arr_out (m := m) (ρ := g) (c := c) (Cert.Sb.pre_cols _ _ (hpre c))).congr fun t d ht _ => Cert.Sb.o_eq _ t d ht)
  · rw [Cert.ReferenceIdeal.Read.val_main_v51_eq]
    exact (Cert.Sb.r51 hp hd).eq (a.arr5.congr fun t d ht _ => Cert.Sb.dq_eq _ _ t d ht)
  · rw [Cert.ReferenceIdeal.Read.val_main_v50_eq]
    exact (Cert.Sb.r50 hp hd).eq (a.arr6.congr fun t d _ _ => Cert.Sb.dk_eq _ _ t d)
  · rw [Cert.ReferenceIdeal.Read.val_main_v49_eq]
    exact (Cert.Sb.r49 hp hd).eq (a.arr7.congr fun t d _ _ => Cert.Sb.dv_eq _ _ t d)

theorem reference_frame2 : Cert.quiescent_Reference2Ideal := fun m ρ _ =>
  (θ_run _ _ _).mono (fun r h => ⟨fun c => (h c).2.2.2, sem_eq_zero_of_no_sems (by decide) r.2⟩) (Cert.Reference2Ideal.Value.run m ρ)

theorem reference_frame3 : Cert.quiescent_Reference3Ideal := fun m ρ _ =>
  (θ_run _ _ _).mono (fun r h => ⟨fun c => (h c).2.2, sem_eq_zero_of_no_sems (by decide) r.2⟩) (Cert.Reference3Ideal.Value.run m ρ)

theorem reference_frame4 : Cert.quiescent_Reference4Ideal := fun m ρ _ =>
  (θ_run _ _ _).mono (fun r h => ⟨fun c => (h c).2, sem_eq_zero_of_no_sems (by decide) r.2⟩) (Cert.Reference4Ideal.Value.run m ρ)

theorem reference_frame5 : Cert.quiescent_Reference5Ideal := fun m ρ _ =>
  (θ_run _ _ _).mono (fun r h => ⟨fun c => (h c).2.2, sem_eq_zero_of_no_sems (by decide) r.2⟩) (Cert.Reference5Ideal.Value.run m ρ)

theorem reference_frame6 : Cert.quiescent_Reference6Ideal := fun m ρ _ =>
  (θ_run _ _ _).mono (fun r h => ⟨fun c => (h c).2, sem_eq_zero_of_no_sems (by decide) r.2⟩) (Cert.Reference6Ideal.Value.run m ρ)

theorem reference_frame7 : Cert.quiescent_Reference7Ideal := fun m ρ _ =>
  (θ_run _ _ _).mono (fun r h => ⟨fun c => (h c).2, sem_eq_zero_of_no_sems (by decide) r.2⟩) (Cert.Reference7Ideal.Value.run m ρ)

theorem reference_frame8 : Cert.quiescent_Reference8Ideal := fun m ρ _ =>
  (θ_run _ _ _).mono (fun r h => ⟨fun c => (h c).2, sem_eq_zero_of_no_sems (by decide) r.2⟩) (Cert.Reference8Ideal.Value.run m ρ)

theorem reference_frame9 : Cert.quiescent_Reference9Ideal := fun m ρ _ =>
  (θ_run _ _ _).mono (fun r h => ⟨fun c => (h c).2, sem_eq_zero_of_no_sems (by decide) r.2⟩) (Cert.Reference9Ideal.Value.run m ρ)

theorem reference_frame10 : Cert.quiescent_Reference10Ideal := fun m ρ _ =>
  (θ_run _ _ _).mono (fun r h => ⟨fun c => (h c).2.2, sem_eq_zero_of_no_sems (by decide) r.2⟩) (Cert.Reference10Ideal.Value.run m ρ)

theorem reference_frame11 : Cert.quiescent_Reference11Ideal := fun m ρ _ =>
  (θ_run _ _ _).mono (fun r h => ⟨fun c => (h c).2, sem_eq_zero_of_no_sems (by decide) r.2⟩) (Cert.Reference11Ideal.Value.run m ρ)

theorem reference_frame12 : Cert.quiescent_Reference12Ideal := fun m ρ _ =>
  (θ_run _ _ _).mono (fun r h => ⟨fun c => (h c).2.2, sem_eq_zero_of_no_sems (by decide) r.2⟩) (Cert.Reference12Ideal.Value.run m ρ)

theorem reference_frame13 : Cert.quiescent_Reference13Ideal := fun m ρ _ =>
  (θ_run _ _ _).mono (fun r h => ⟨fun c => (h c).2, sem_eq_zero_of_no_sems (by decide) r.2⟩) (Cert.Reference13Ideal.Value.run m ρ)

theorem reference_frame14 : Cert.quiescent_Reference14Ideal := fun m ρ _ =>
  (θ_run _ _ _).mono (fun r h => ⟨fun c => (h c).2.2, sem_eq_zero_of_no_sems (by decide) r.2⟩) (Cert.Reference14Ideal.Value.run m ρ)

theorem reference_frame15 : Cert.quiescent_Reference15Ideal := fun m ρ _ =>
  (θ_run _ _ _).mono (fun r h => ⟨fun c => (h c).2, sem_eq_zero_of_no_sems (by decide) r.2⟩) (Cert.Reference15Ideal.Value.run m ρ)

theorem reference_frame16 : Cert.quiescent_Reference16Ideal := fun m ρ _ =>
  (θ_run _ _ _).mono (fun r h => ⟨fun c => (h c).2.2, sem_eq_zero_of_no_sems (by decide) r.2⟩) (Cert.Reference16Ideal.Value.run m ρ)

theorem reference_frame17 : Cert.quiescent_Reference17Ideal := fun m ρ _ =>
  (θ_run _ _ _).mono (fun r h => ⟨fun c => (h c).2, sem_eq_zero_of_no_sems (by decide) r.2⟩) (Cert.Reference17Ideal.Value.run m ρ)

theorem reference_frame18 : Cert.quiescent_Reference18Ideal := fun m ρ _ =>
  (θ_run _ _ _).mono (fun r h => ⟨fun c => (h c).2.2, sem_eq_zero_of_no_sems (by decide) r.2⟩) (Cert.Reference18Ideal.Value.run m ρ)

theorem reference_frame19 : Cert.quiescent_Reference19Ideal := fun m ρ _ =>
  (θ_run _ _ _).mono (fun r h => ⟨fun c => (h c).2, sem_eq_zero_of_no_sems (by decide) r.2⟩) (Cert.Reference19Ideal.Value.run m ρ)

theorem reference_frame20 : Cert.quiescent_Reference20Ideal := fun m ρ _ =>
  (θ_run _ _ _).mono (fun r h => ⟨fun c => (h c).2.2.2.2, sem_eq_zero_of_no_sems (by decide) r.2⟩) (Cert.Reference20Ideal.Value.run m ρ)

theorem reference_frame21 : Cert.quiescent_Reference21Ideal := fun m ρ _ =>
  (θ_run _ _ _).mono (fun r h => ⟨fun c => (h c).2, sem_eq_zero_of_no_sems (by decide) r.2⟩) (Cert.Reference21Ideal.Value.run m ρ)

theorem reference_frame22 : Cert.quiescent_Reference22Ideal := fun m ρ _ =>
  (θ_run _ _ _).mono (fun r h => ⟨fun c => (h c).2.2, sem_eq_zero_of_no_sems (by decide) r.2⟩) (Cert.Reference22Ideal.Value.run m ρ)

theorem reference_frame23 : Cert.quiescent_Reference23Ideal := fun m ρ _ =>
  (θ_run _ _ _).mono (fun r h => ⟨fun c => (h c).2, sem_eq_zero_of_no_sems (by decide) r.2⟩) (Cert.Reference23Ideal.Value.run m ρ)

theorem reference_frame24 : Cert.quiescent_Reference24Ideal := fun m ρ _ =>
  (θ_run _ _ _).mono (fun r h => ⟨fun c => (h c).2.2.2, sem_eq_zero_of_no_sems (by decide) r.2⟩) (Cert.Reference24Ideal.Value.run m ρ)

theorem reference_frame25 : Cert.quiescent_Reference25Ideal := fun m ρ _ =>
  (θ_run _ _ _).mono (fun r h => ⟨fun c => (h c).2.2.2, sem_eq_zero_of_no_sems (by decide) r.2⟩) (Cert.Reference25Ideal.Value.run m ρ)

theorem reference_frame26 : Cert.quiescent_Reference26Ideal := fun m ρ _ =>
  (θ_run _ _ _).mono (fun r h => ⟨fun c => (h c).2.2.2, sem_eq_zero_of_no_sems (by decide) r.2⟩) (Cert.Reference26Ideal.Value.run m ρ)

theorem reference_frame27 : Cert.quiescent_Reference27Ideal := fun m ρ _ =>
  (θ_run _ _ _).mono (fun r h => ⟨fun c => (h c).2.2.2, sem_eq_zero_of_no_sems (by decide) r.2⟩) (Cert.Reference27Ideal.Value.run m ρ)

theorem reference_frame28 : Cert.quiescent_Reference28Ideal := fun m ρ _ =>
  (θ_run _ _ _).mono (fun r h => ⟨fun c => (h c).2.2.2, sem_eq_zero_of_no_sems (by decide) r.2⟩) (Cert.Reference28Ideal.Value.run m ρ)

theorem reference_frame29 : Cert.quiescent_Reference29Ideal := fun m ρ _ =>
  (θ_run _ _ _).mono (fun r h => ⟨fun c => (h c).2.2.2, sem_eq_zero_of_no_sems (by decide) r.2⟩) (Cert.Reference29Ideal.Value.run m ρ)

theorem reference_frame30 : Cert.quiescent_Reference30Ideal := fun m ρ _ =>
  (θ_run _ _ _).mono (fun r h => ⟨fun c => (h c).2.2.2, sem_eq_zero_of_no_sems (by decide) r.2⟩) (Cert.Reference30Ideal.Value.run m ρ)

theorem reference_frame31 : Cert.quiescent_Reference31Ideal := fun m ρ _ =>
  (θ_run _ _ _).mono (fun r h => ⟨fun c => (h c).2.2.2, sem_eq_zero_of_no_sems (by decide) r.2⟩) (Cert.Reference31Ideal.Value.run m ρ)

theorem reference_frame32 : Cert.quiescent_Reference32Ideal := fun m ρ _ =>
  (θ_run _ _ _).mono (fun r h => ⟨fun c => (h c).2.2.2, sem_eq_zero_of_no_sems (by decide) r.2⟩) (Cert.Reference32Ideal.Value.run m ρ)

theorem reference_frame33 : Cert.quiescent_Reference33Ideal := fun m ρ _ =>
  (θ_run _ _ _).mono (fun r h => ⟨fun c => (h c).2.2.2, sem_eq_zero_of_no_sems (by decide) r.2⟩) (Cert.Reference33Ideal.Value.run m ρ)

theorem reference_frame34 : Cert.quiescent_Reference34Ideal := fun m ρ _ =>
  (θ_run _ _ _).mono (fun r h => ⟨fun c => (h c).2.2.2, sem_eq_zero_of_no_sems (by decide) r.2⟩) (Cert.Reference34Ideal.Value.run m ρ)

theorem reference_frame35 : Cert.quiescent_Reference35Ideal := fun m ρ _ =>
  (θ_run _ _ _).mono (fun r h => ⟨fun c => (h c).2.2.2, sem_eq_zero_of_no_sems (by decide) r.2⟩) (Cert.Reference35Ideal.Value.run m ρ)

theorem reference_frame36 : Cert.quiescent_Reference36Ideal := fun m ρ _ =>
  (θ_run _ _ _).mono (fun r h => ⟨fun c => (h c).2, sem_eq_zero_of_no_sems (by decide) r.2⟩) (Cert.Reference36Ideal.Value.run m ρ)

theorem reference_frame37 : Cert.quiescent_Reference37Ideal := fun m ρ _ =>
  (θ_run _ _ _).mono (fun r h => ⟨fun c => (h c).2, sem_eq_zero_of_no_sems (by decide) r.2⟩) (Cert.Reference37Ideal.Value.run m ρ)

theorem reference_frame38 : Cert.quiescent_Reference38Ideal := fun m ρ _ =>
  (θ_run _ _ _).mono (fun r h => ⟨fun c => (h c).2, sem_eq_zero_of_no_sems (by decide) r.2⟩) (Cert.Reference38Ideal.Value.run m ρ)

theorem reference_frame39 : Cert.quiescent_Reference39Ideal := fun m ρ _ =>
  (θ_run _ _ _).mono (fun r h => ⟨fun c => (h c).2, sem_eq_zero_of_no_sems (by decide) r.2⟩) (Cert.Reference39Ideal.Value.run m ρ)

/-- Every claim, under the facts that the generated modules prove. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Kernel33.Gen.facts, Cert.Kernel33Ideal.Gen.facts, Cert.Reference33Ideal.Gen.facts,
    Cert.Kernel34.Gen.facts, Cert.Kernel34Ideal.Gen.facts, Cert.Reference34Ideal.Gen.facts,
    Cert.Kernel35.Gen.facts, Cert.Kernel35Ideal.Gen.facts, Cert.Reference35Ideal.Gen.facts,
    Cert.Kernel36.Gen.facts, Cert.Kernel36Ideal.Gen.facts, Cert.Reference36Ideal.Gen.facts,
    Cert.Kernel37.Gen.facts, Cert.Kernel37Ideal.Gen.facts, Cert.Reference37Ideal.Gen.facts,
    Cert.Kernel38.Gen.facts, Cert.Kernel38Ideal.Gen.facts, Cert.Reference38Ideal.Gen.facts,
    Cert.Kernel39.Gen.facts, Cert.Kernel39Ideal.Gen.facts, Cert.Reference39Ideal.Gen.facts,
    Cert.Sb.pre_facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial,
    fun m ρ _ => Cert.Kernel2.Gen.frame m ρ, fun m ρ _ => Cert.Kernel2Ideal.Gen.frame m ρ, reference_frame2,
    fun m ρ _ => Cert.Kernel3.Gen.frame m ρ, fun m ρ _ => Cert.Kernel3Ideal.Gen.frame m ρ, reference_frame3,
    fun m ρ _ => Cert.Kernel4.Gen.frame m ρ, fun m ρ _ => Cert.Kernel4Ideal.Gen.frame m ρ, reference_frame4,
    fun m ρ _ => Cert.Kernel5.Gen.frame m ρ, fun m ρ _ => Cert.Kernel5Ideal.Gen.frame m ρ, reference_frame5,
    fun m ρ _ => Cert.Kernel6.Gen.frame m ρ, fun m ρ _ => Cert.Kernel6Ideal.Gen.frame m ρ, reference_frame6,
    fun m ρ _ => Cert.Kernel7.Gen.frame m ρ, fun m ρ _ => Cert.Kernel7Ideal.Gen.frame m ρ, reference_frame7,
    fun m ρ _ => Cert.Kernel8.Gen.frame m ρ, fun m ρ _ => Cert.Kernel8Ideal.Gen.frame m ρ, reference_frame8,
    fun m ρ _ => Cert.Kernel9.Gen.frame m ρ, fun m ρ _ => Cert.Kernel9Ideal.Gen.frame m ρ, reference_frame9,
    fun m ρ _ => Cert.Kernel10.Gen.frame m ρ, fun m ρ _ => Cert.Kernel10Ideal.Gen.frame m ρ, reference_frame10,
    fun m ρ _ => Cert.Kernel11.Gen.frame m ρ, fun m ρ _ => Cert.Kernel11Ideal.Gen.frame m ρ, reference_frame11,
    fun m ρ _ => Cert.Kernel12.Gen.frame m ρ, fun m ρ _ => Cert.Kernel12Ideal.Gen.frame m ρ, reference_frame12,
    fun m ρ _ => Cert.Kernel13.Gen.frame m ρ, fun m ρ _ => Cert.Kernel13Ideal.Gen.frame m ρ, reference_frame13,
    fun m ρ _ => Cert.Kernel14.Gen.frame m ρ, fun m ρ _ => Cert.Kernel14Ideal.Gen.frame m ρ, reference_frame14,
    fun m ρ _ => Cert.Kernel15.Gen.frame m ρ, fun m ρ _ => Cert.Kernel15Ideal.Gen.frame m ρ, reference_frame15,
    fun m ρ _ => Cert.Kernel16.Gen.frame m ρ, fun m ρ _ => Cert.Kernel16Ideal.Gen.frame m ρ, reference_frame16,
    fun m ρ _ => Cert.Kernel17.Gen.frame m ρ, fun m ρ _ => Cert.Kernel17Ideal.Gen.frame m ρ, reference_frame17,
    fun m ρ _ => Cert.Kernel18.Gen.frame m ρ, fun m ρ _ => Cert.Kernel18Ideal.Gen.frame m ρ, reference_frame18,
    fun m ρ _ => Cert.Kernel19.Gen.frame m ρ, fun m ρ _ => Cert.Kernel19Ideal.Gen.frame m ρ, reference_frame19,
    fun m ρ _ => Cert.Kernel20.Gen.frame m ρ, fun m ρ _ => Cert.Kernel20Ideal.Gen.frame m ρ, reference_frame20,
    fun m ρ _ => Cert.Kernel21.Gen.frame m ρ, fun m ρ _ => Cert.Kernel21Ideal.Gen.frame m ρ, reference_frame21,
    fun m ρ _ => Cert.Kernel22.Gen.frame m ρ, fun m ρ _ => Cert.Kernel22Ideal.Gen.frame m ρ, reference_frame22,
    fun m ρ _ => Cert.Kernel23.Gen.frame m ρ, fun m ρ _ => Cert.Kernel23Ideal.Gen.frame m ρ, reference_frame23,
    fun m ρ _ => Cert.Kernel24.Gen.frame m ρ, fun m ρ _ => Cert.Kernel24Ideal.Gen.frame m ρ, reference_frame24,
    fun m ρ _ => Cert.Kernel25.Gen.frame m ρ, fun m ρ _ => Cert.Kernel25Ideal.Gen.frame m ρ, reference_frame25,
    fun m ρ _ => Cert.Kernel26.Gen.frame m ρ, fun m ρ _ => Cert.Kernel26Ideal.Gen.frame m ρ, reference_frame26,
    fun m ρ _ => Cert.Kernel27.Gen.frame m ρ, fun m ρ _ => Cert.Kernel27Ideal.Gen.frame m ρ, reference_frame27,
    fun m ρ _ => Cert.Kernel28.Gen.frame m ρ, fun m ρ _ => Cert.Kernel28Ideal.Gen.frame m ρ, reference_frame28,
    fun m ρ _ => Cert.Kernel29.Gen.frame m ρ, fun m ρ _ => Cert.Kernel29Ideal.Gen.frame m ρ, reference_frame29,
    fun m ρ _ => Cert.Kernel30.Gen.frame m ρ, fun m ρ _ => Cert.Kernel30Ideal.Gen.frame m ρ, reference_frame30,
    fun m ρ _ => Cert.Kernel31.Gen.frame m ρ, fun m ρ _ => Cert.Kernel31Ideal.Gen.frame m ρ, reference_frame31,
    fun m ρ _ => Cert.Kernel32.Gen.frame m ρ, fun m ρ _ => Cert.Kernel32Ideal.Gen.frame m ρ, reference_frame32,
    fun m ρ _ => Cert.Kernel33.Gen.frame m ρ, fun m ρ _ => Cert.Kernel33Ideal.Gen.frame m ρ, reference_frame33,
    fun m ρ _ => Cert.Kernel34.Gen.frame m ρ, fun m ρ _ => Cert.Kernel34Ideal.Gen.frame m ρ, reference_frame34,
    fun m ρ _ => Cert.Kernel35.Gen.frame m ρ, fun m ρ _ => Cert.Kernel35Ideal.Gen.frame m ρ, reference_frame35,
    fun m ρ _ => Cert.Kernel36.Gen.frame m ρ, fun m ρ _ => Cert.Kernel36Ideal.Gen.frame m ρ, reference_frame36,
    fun m ρ _ => Cert.Kernel37.Gen.frame m ρ, fun m ρ _ => Cert.Kernel37Ideal.Gen.frame m ρ, reference_frame37,
    fun m ρ _ => Cert.Kernel38.Gen.frame m ρ, fun m ρ _ => Cert.Kernel38Ideal.Gen.frame m ρ, reference_frame38,
    fun m ρ _ => Cert.Kernel39.Gen.frame m ρ, fun m ρ _ => Cert.Kernel39Ideal.Gen.frame m ρ, reference_frame39,
    trivial, value,
    trivial, Cert.Mat.K2.value,
    trivial, Cert.Mat.K3.value,
    trivial, Cert.Mat.K4.value,
    trivial, Cert.Mat.K5.value,
    trivial, Cert.Mat.K6.value,
    trivial, Cert.Mat.K7.value,
    trivial, Cert.Mat.K8.value,
    trivial, Cert.Mat.K9.value,
    trivial, Cert.Mat.K10.value,
    trivial, Cert.Mat.K11.value,
    trivial, Cert.Mat.K12.value,
    trivial, Cert.Mat.K13.value,
    trivial, Cert.Mat.K14.value,
    trivial, Cert.Mat.K15.value,
    trivial, Cert.Mat.K16.value,
    trivial, Cert.Mat.K17.value,
    trivial, Cert.Mat.K18.value,
    trivial, Cert.Mat.K19.value,
    trivial, Cert.Mat.K20.value,
    trivial, Cert.Mat.K21.value,
    trivial, Cert.Mat.K22.value,
    trivial, Cert.Mat.K23.value,
    trivial, Cert.Opt.K24.value,
    trivial, Cert.Opt.K25.value,
    trivial, Cert.Opt.K26.value,
    trivial, Cert.Opt.K27.value,
    trivial, Cert.Opt.K28.value,
    trivial, Cert.Opt.K29.value,
    trivial, Cert.Opt.K30.value,
    trivial, Cert.Opt.K31.value,
    trivial, Cert.Opt.K32.value,
    trivial, Cert.Opt.K33.value,
    trivial, Cert.Opt.K34.value,
    trivial, Cert.Opt.K35.value,
    trivial, Cert.Mat.K36.value,
    trivial, Cert.Mat.K37.value,
    trivial, Cert.Mat.K38.value,
    trivial, Cert.Mat.K39.value⟩

end Cert.Proof

end
